-- ==== Defs.lean ====
def Pre_Kernel [hPre_inputs_ok : Cert.Pre_inputs_ok.Facts] (m : (ℓ : Loc Cert.Kernel.nD Cert.Kernel.τ Cert.Kernel.sig) → Buf (Elt Bits) ℓ) : Prop :=
  ∀ c : Dev Cert.Kernel.nD,
    (Cert.Pre_inputs_ok.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_inputs_ok : Cert.Pre_inputs_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel) (hPre_inputs_ok := hPre_inputs_ok)
    ∧ quiescent_KernelIdeal (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal (hKernelIdeal := hKernelIdeal) (hReferenceIdeal := hReferenceIdeal) (hPre_inputs_ok := hPre_inputs_ok)
-- ==== Pre_inputs_ok.lean ====
abbrev S16x8x6x32x32 : Shape := ⟨5, ![16, 8, 6, 32, 32]⟩
abbrev S32000 : Shape := ⟨1, ![32000]⟩
abbrev S_ : Shape := ⟨0, ![]⟩
abbrev S32 : Shape := ⟨1, ![32]⟩

class Facts : Prop where
  bcast_S_S16x8x6x32x32 : S_.BroadcastsInDim S16x8x6x32x32 (![] : Fin 0 → Fin S16x8x6x32x32.rank)
  reducesTo_S16x8x6x32x32_S_d0_1_2_3_4 : S16x8x6x32x32.ReducesTo [0, 1, 2, 3, 4] S_
  h_S_ : 0 < S_.numel
  slices_S32000_S32_0 : S32000.Slices ![0] S32
  bcast_S_S32 : S_.BroadcastsInDim S32 (![] : Fin 0 → Fin S32.rank)
  reducesTo_S32_S_d0 : S32.ReducesTo [0] S_

variable [Facts]

def fn {F : FTy → Type} [FloatOps F] (main_arg0 : IVec S16x8x6x32x32 32) (main_arg1 : IVec S32000 32) : IVec S_ 1 :=
  let main_c : IVec S_ 32 := constantI S_ 32 0#32
  let main_v0 : IVec S16x8x6x32x32 32 := broadcastInDim S16x8x6x32x32 ![] bcast_S_S16x8x6x32x32 main_c
  let main_v1 : IVec S16x8x6x32x32 1 := cmpi .sge main_arg0 main_v0
  let main_c_0 : IVec S_ 32 := constantI S_ 32 1000#32
  let main_v2 : IVec S16x8x6x32x32 32 := broadcastInDim S16x8x6x32x32 ![] bcast_S_S16x8x6x32x32 main_c_0
  let main_v3 : IVec S16x8x6x32x32 1 := cmpi .slt main_arg0 main_v2
  let main_v4 : IVec S16x8x6x32x32 1 := andi main_v1 main_v3
  let main_c_1 : IVec S_ 1 := constantI S_ 1 1#1
  let main_v5 : IVec S_ 1 := (fun x v => Host.reduce IntOp.andi x v reducesTo_S16x8x6x32x32_S_d0_1_2_3_4 h_S_) main_v4 main_c_1
  let main_v6 : IVec S32 32 := (extractStridedSlice S32 ![0] · slices_S32000_S32_0) main_arg1
  let main_c_2 : IVec S_ 32 := constantI S_ 32 0#32
  let main_v7 : IVec S32 32 := broadcastInDim S32 ![] bcast_S_S32 main_c_2
  let main_v8 : IVec S32 1 := cmpi .eq main_v6 main_v7
  let main_c_3 : IVec S_ 1 := constantI S_ 1 1#1
  let main_v9 : IVec S_ 1 := (fun x v => Host.reduce IntOp.andi x v reducesTo_S32_S_d0 h_S_) main_v8 main_c_3
  let main_v10 : IVec S_ 1 := andi main_v5 main_v9
  main_v10
-- ==== Kernel.lean ====
abbrev S16x8x6x32x32 : Shape := ⟨5, ![16, 8, 6, 32, 32]⟩
abbrev S32000 : Shape := ⟨1, ![32000]⟩
abbrev S128x6x1024 : Shape := ⟨3, ![128, 6, 1024]⟩
abbrev S128x64x1024 : Shape := ⟨3, ![128, 64, 1024]⟩
abbrev S6x512 : Shape := ⟨2, ![6, 512]⟩
abbrev S64x512 : Shape := ⟨2, ![64, 512]⟩
abbrev S_ : Shape := ⟨0, ![]⟩
abbrev S1x6x512 : Shape := ⟨3, ![1, 6, 512]⟩
abbrev S16 : Shape := ⟨1, ![16]⟩
abbrev S1x16 : Shape := ⟨2, ![1, 16]⟩
abbrev S1x64x512 : Shape := ⟨3, ![1, 64, 512]⟩

abbrev nBuf : Table → Nat
  | .hbm => 4
  | .local .scVector .vmem => 5
  | _ => 0

abbrev bufTy : (tb : Table) → Fin (nBuf tb) → BufTy
  | .hbm, ⟨0, _⟩ => ⟨S16x8x6x32x32, .i32⟩
  | .hbm, ⟨1, _⟩ => ⟨S32000, .i32⟩
  | .hbm, ⟨2, _⟩ => ⟨S128x6x1024, .i32⟩
  | .hbm, ⟨3, _⟩ => ⟨S128x64x1024, .f32⟩
  | .local .scVector .vmem, ⟨0, _⟩ => ⟨S32000, .i32⟩
  | .local .scVector .vmem, ⟨1, _⟩ => ⟨S6x512, .i32⟩
  | .local .scVector .vmem, ⟨2, _⟩ => ⟨S6x512, .i32⟩
  | .local .scVector .vmem, ⟨3, _⟩ => ⟨S64x512, .f32⟩
  | .local .scVector .vmem, ⟨4, _⟩ => ⟨S64x512, .f32⟩
  | _, _ => ⟨S16x8x6x32x32, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v3 : BitVec 32 := Scalar.addi v2 c0_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c2_i32_0 : BitVec 32 := 2#32
  let c0_i32_3 : BitVec 32 := 0#32
  let v10 : BitVec 1 := Scalar.cmpi .sgt c2_i32_0 c0_i32_3
  let v11 : BitVec 32 := Scalar.extui v10
  let c0_i32_4 : BitVec 32 := 0#32
  let v12 : BitVec 1 := Scalar.cmpi .slt c2_i32_0 c0_i32_4
  let v13 : BitVec 32 := Scalar.extui v12
  let v14 : BitVec 32 := Scalar.subi v11 v13
  let v15 : BitVec 1 := Scalar.cmpi .ne v9 v14
  let v16 : BitVec 32 := Scalar.remsi v3 c2_i32_0
  let c0_i32_5 : BitVec 32 := 0#32
  let v17 : BitVec 1 := Scalar.cmpi .ne v16 c0_i32_5
  let v18 : BitVec 1 := Scalar.andi v15 v17
  let v4 : BitVec 32 := Scalar.divsi v3 c2_i32_0
  let c1_i32 : BitVec 32 := 1#32
  let v19 : BitVec 32 := Scalar.subi v4 c1_i32
  let v20 : BitVec 32 := Scalar.select v18 v19 v4
  let c0_i32_12 : BitVec 32 := 0#32
  let c2_i32_6 : BitVec 32 := 2#32
  let c0_i32_7 : BitVec 32 := 0#32
  let v21 : BitVec 1 := Scalar.cmpi .eq c2_i32_6 c0_i32_7
  let c1_i32_8 : BitVec 32 := 1#32
  let v22 : BitVec 32 := Scalar.select v21 c1_i32_8 c2_i32_6
  let v23 : BitVec 32 := Scalar.remsi v3 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c512_i32 : BitVec 32 := 512#32
  let v31 : BitVec 32 := Scalar.muli v30 c512_i32
  ![v20.toNat, 0, v31.toNat]
@[reducible] def k0_t1_loop : Scf.Loop 32 :=
  let c0_i32_35 : BitVec 32 := 0#32
  let c32_i32 : BitVec 32 := 32#32
  let v75 : BitVec 32 := Scalar.addi c0_i32_35 c32_i32
  let c1_i32_36 : BitVec 32 := 1#32
  ⟨c0_i32_35, v75, c1_i32_36⟩
def k0_off2 (k0_t1 : Fin k0_t1_loop.trips) : Fin 2 → Nat :=
  let c0_i32_350 : BitVec 32 := 0#32
  let v627 : Index := Scalar.indexCast c0_i32_350
  let c0_i32_35 : BitVec 32 := 0#32
  let c1_i32_36 : BitVec 32 := 1#32
  let arg14 : BitVec 32 := Scf.iv c0_i32_35 c1_i32_36 k0_t1
  let c16_i32 : BitVec 32 := 16#32
  let v626 : BitVec 32 := Scalar.muli arg14 c16_i32
  let v628 : Index := Scalar.indexCast v626
  ![0, v628.toNat]
def k0_off3 (k0_t1 : Fin k0_t1_loop.trips) : Fin 2 → Nat :=
  let c1_i32_353 : BitVec 32 := 1#32
  let v633 : Index := Scalar.indexCast c1_i32_353
  let c0_i32_35 : BitVec 32 := 0#32
  let c1_i32_36 : BitVec 32 := 1#32
  let arg14 : BitVec 32 := Scf.iv c0_i32_35 c1_i32_36 k0_t1
  let c16_i32_352 : BitVec 32 := 16#32
  let v632 : BitVec 32 := Scalar.muli arg14 c16_i32_352
  let v634 : Index := Scalar.indexCast v632
  ![1, v634.toNat]
def k0_off4 (k0_t1 : Fin k0_t1_loop.trips) : Fin 2 → Nat :=
  let c2_i32_356 : BitVec 32 := 2#32
  let v639 : Index := Scalar.indexCast c2_i32_356
  let c0_i32_35 : BitVec 32 := 0#32
  let c1_i32_36 : BitVec 32 := 1#32
  let arg14 : BitVec 32 := Scf.iv c0_i32_35 c1_i32_36 k0_t1
  let c16_i32_355 : BitVec 32 := 16#32
  let v638 : BitVec 32 := Scalar.muli arg14 c16_i32_355
  let v640 : Index := Scalar.indexCast v638
  ![2, v640.toNat]
def k0_off5 (k0_t1 : Fin k0_t1_loop.trips) : Fin 2 → Nat :=
  let c3_i32_359 : BitVec 32 := 3#32
  let v645 : Index := Scalar.indexCast c3_i32_359
  let c0_i32_35 : BitVec 32 := 0#32
  let c1_i32_36 : BitVec 32 := 1#32
  let arg14 : BitVec 32 := Scf.iv c0_i32_35 c1_i32_36 k0_t1
  let c16_i32_358 : BitVec 32 := 16#32
  let v644 : BitVec 32 := Scalar.muli arg14 c16_i32_358
  let v646 : Index := Scalar.indexCast v644
  ![3, v646.toNat]
def k0_off6 (k0_t1 : Fin k0_t1_loop.trips) : Fin 2 → Nat :=
  let c4_i32_362 : BitVec 32 := 4#32
  let v651 : Index := Scalar.indexCast c4_i32_362
  let c0_i32_35 : BitVec 32 := 0#32
  let c1_i32_36 : BitVec 32 := 1#32
  let arg14 : BitVec 32 := Scf.iv c0_i32_35 c1_i32_36 k0_t1
  let c16_i32_361 : BitVec 32 := 16#32
  let v650 : BitVec 32 := Scalar.muli arg14 c16_i32_361
  let v652 : Index := Scalar.indexCast v650
  ![4, v652.toNat]
def k0_off7 (k0_t1 : Fin k0_t1_loop.trips) : Fin 2 → Nat :=
  let c5_i32_365 : BitVec 32 := 5#32
  let v657 : Index := Scalar.indexCast c5_i32_365
  let c0_i32_35 : BitVec 32 := 0#32
  let c1_i32_36 : BitVec 32 := 1#32
  let arg14 : BitVec 32 := Scf.iv c0_i32_35 c1_i32_36 k0_t1
  let c16_i32_364 : BitVec 32 := 16#32
  let v656 : BitVec 32 := Scalar.muli arg14 c16_i32_364
  let v658 : Index := Scalar.indexCast v656
  ![5, v658.toNat]

def k0_chk1 (v671 : IVec S16 32) : Prop :=
  (∀ a x, ((![v671] : Fin 1 → IVec S16 32) a x).toNat < S32000.size a)
theorem k0_idx1_inb : ∀ (v671 : IVec S16 32) (k0_hw1 : k0_chk1 v671), ∀ a x, ((![v671] : Fin 1 → IVec S16 32) a x).toNat < S32000.size a := fun v671 k0_hw1 => k0_hw1

def k0_chk2 (v673 : IVec S16 32) : Prop :=
  (∀ a x, ((![v673] : Fin 1 → IVec S16 32) a x).toNat < S32000.size a)
theorem k0_idx2_inb : ∀ (v673 : IVec S16 32) (k0_hw2 : k0_chk2 v673), ∀ a x, ((![v673] : Fin 1 → IVec S16 32) a x).toNat < S32000.size a := fun v673 k0_hw2 => k0_hw2

def k0_chk3 (v675 : IVec S16 32) : Prop :=
  (∀ a x, ((![v675] : Fin 1 → IVec S16 32) a x).toNat < S32000.size a)
theorem k0_idx3_inb : ∀ (v675 : IVec S16 32) (k0_hw3 : k0_chk3 v675), ∀ a x, ((![v675] : Fin 1 → IVec S16 32) a x).toNat < S32000.size a := fun v675 k0_hw3 => k0_hw3

def k0_chk4 (v677 : IVec S16 32) : Prop :=
  (∀ a x, ((![v677] : Fin 1 → IVec S16 32) a x).toNat < S32000.size a)
theorem k0_idx4_inb : ∀ (v677 : IVec S16 32) (k0_hw4 : k0_chk4 v677), ∀ a x, ((![v677] : Fin 1 → IVec S16 32) a x).toNat < S32000.size a := fun v677 k0_hw4 => k0_hw4

def k0_chk5 (v679 : IVec S16 32) : Prop :=
  (∀ a x, ((![v679] : Fin 1 → IVec S16 32) a x).toNat < S32000.size a)
theorem k0_idx5_inb : ∀ (v679 : IVec S16 32) (k0_hw5 : k0_chk5 v679), ∀ a x, ((![v679] : Fin 1 → IVec S16 32) a x).toNat < S32000.size a := fun v679 k0_hw5 => k0_hw5

def k0_chk6 (v681 : IVec S16 32) : Prop :=
  (∀ a x, ((![v681] : Fin 1 → IVec S16 32) a x).toNat < S32000.size a)
theorem k0_idx6_inb : ∀ (v681 : IVec S16 32) (k0_hw6 : k0_chk6 v681), ∀ a x, ((![v681] : Fin 1 → IVec S16 32) a x).toNat < S32000.size a := fun v681 k0_hw6 => k0_hw6

def k0_chk7 (v689 : IVec S16 32) : Prop :=
  (∀ a x, ((![v689] : Fin 1 → IVec S16 32) a x).toNat < S32000.size a)
theorem k0_idx7_inb : ∀ (v689 : IVec S16 32) (k0_hw7 : k0_chk7 v689), ∀ a x, ((![v689] : Fin 1 → IVec S16 32) a x).toNat < S32000.size a := fun v689 k0_hw7 => k0_hw7

def k0_chk8 (v691 : IVec S16 32) : Prop :=
  (∀ a x, ((![v691] : Fin 1 → IVec S16 32) a x).toNat < S32000.size a)
theorem k0_idx8_inb : ∀ (v691 : IVec S16 32) (k0_hw8 : k0_chk8 v691), ∀ a x, ((![v691] : Fin 1 → IVec S16 32) a x).toNat < S32000.size a := fun v691 k0_hw8 => k0_hw8

def k0_chk9 (v693 : IVec S16 32) : Prop :=
  (∀ a x, ((![v693] : Fin 1 → IVec S16 32) a x).toNat < S32000.size a)
theorem k0_idx9_inb : ∀ (v693 : IVec S16 32) (k0_hw9 : k0_chk9 v693), ∀ a x, ((![v693] : Fin 1 → IVec S16 32) a x).toNat < S32000.size a := fun v693 k0_hw9 => k0_hw9

def k0_chk10 (v695 : IVec S16 32) : Prop :=
  (∀ a x, ((![v695] : Fin 1 → IVec S16 32) a x).toNat < S32000.size a)
theorem k0_idx10_inb : ∀ (v695 : IVec S16 32) (k0_hw10 : k0_chk10 v695), ∀ a x, ((![v695] : Fin 1 → IVec S16 32) a x).toNat < S32000.size a := fun v695 k0_hw10 => k0_hw10

def k0_chk11 (v697 : IVec S16 32) : Prop :=
  (∀ a x, ((![v697] : Fin 1 → IVec S16 32) a x).toNat < S32000.size a)
theorem k0_idx11_inb : ∀ (v697 : IVec S16 32) (k0_hw11 : k0_chk11 v697), ∀ a x, ((![v697] : Fin 1 → IVec S16 32) a x).toNat < S32000.size a := fun v697 k0_hw11 => k0_hw11

def k0_chk12 (v699 : IVec S16 32) : Prop :=
  (∀ a x, ((![v699] : Fin 1 → IVec S16 32) a x).toNat < S32000.size a)
theorem k0_idx12_inb : ∀ (v699 : IVec S16 32) (k0_hw12 : k0_chk12 v699), ∀ a x, ((![v699] : Fin 1 → IVec S16 32) a x).toNat < S32000.size a := fun v699 k0_hw12 => k0_hw12

def k0_chk13 (v664 : IVec S16 32) (v750 : IVec S16 32) : Prop :=
  (∀ a x, ((![v750, v664] : Fin 2 → IVec S16 32) a x).toNat < S64x512.size a)
theorem k0_idx13_inb : ∀ (v664 : IVec S16 32) (v750 : IVec S16 32) (k0_hw13 : k0_chk13 v664 v750), ∀ a x, ((![v750, v664] : Fin 2 → IVec S16 32) a x).toNat < S64x512.size a := fun v664 v750 k0_hw13 => k0_hw13

def k0_chk14 (v664 : IVec S16 32) (v752 : IVec S16 32) : Prop :=
  (∀ a x, ((![v752, v664] : Fin 2 → IVec S16 32) a x).toNat < S64x512.size a)
theorem k0_idx14_inb : ∀ (v664 : IVec S16 32) (v752 : IVec S16 32) (k0_hw14 : k0_chk14 v664 v752), ∀ a x, ((![v752, v664] : Fin 2 → IVec S16 32) a x).toNat < S64x512.size a := fun v664 v752 k0_hw14 => k0_hw14

def k0_chk15 (v759 : IVec S16 32) : Prop :=
  (∀ a x, ((![v759] : Fin 1 → IVec S16 32) a x).toNat < S32000.size a)
theorem k0_idx15_inb : ∀ (v759 : IVec S16 32) (k0_hw15 : k0_chk15 v759), ∀ a x, ((![v759] : Fin 1 → IVec S16 32) a x).toNat < S32000.size a := fun v759 k0_hw15 => k0_hw15

def k0_chk16 (v761 : IVec S16 32) : Prop :=
  (∀ a x, ((![v761] : Fin 1 → IVec S16 32) a x).toNat < S32000.size a)
theorem k0_idx16_inb : ∀ (v761 : IVec S16 32) (k0_hw16 : k0_chk16 v761), ∀ a x, ((![v761] : Fin 1 → IVec S16 32) a x).toNat < S32000.size a := fun v761 k0_hw16 => k0_hw16

def k0_chk17 (v763 : IVec S16 32) : Prop :=
  (∀ a x, ((![v763] : Fin 1 → IVec S16 32) a x).toNat < S32000.size a)
theorem k0_idx17_inb : ∀ (v763 : IVec S16 32) (k0_hw17 : k0_chk17 v763), ∀ a x, ((![v763] : Fin 1 → IVec S16 32) a x).toNat < S32000.size a := fun v763 k0_hw17 => k0_hw17

def k0_chk18 (v765 : IVec S16 32) : Prop :=
  (∀ a x, ((![v765] : Fin 1 → IVec S16 32) a x).toNat < S32000.size a)
theorem k0_idx18_inb : ∀ (v765 : IVec S16 32) (k0_hw18 : k0_chk18 v765), ∀ a x, ((![v765] : Fin 1 → IVec S16 32) a x).toNat < S32000.size a := fun v765 k0_hw18 => k0_hw18

def k0_chk19 (v767 : IVec S16 32) : Prop :=
  (∀ a x, ((![v767] : Fin 1 → IVec S16 32) a x).toNat < S32000.size a)
theorem k0_idx19_inb : ∀ (v767 : IVec S16 32) (k0_hw19 : k0_chk19 v767), ∀ a x, ((![v767] : Fin 1 → IVec S16 32) a x).toNat < S32000.size a := fun v767 k0_hw19 => k0_hw19

def k0_chk20 (v769 : IVec S16 32) : Prop :=
  (∀ a x, ((![v769] : Fin 1 → IVec S16 32) a x).toNat < S32000.size a)
theorem k0_idx20_inb : ∀ (v769 : IVec S16 32) (k0_hw20 : k0_chk20 v769), ∀ a x, ((![v769] : Fin 1 → IVec S16 32) a x).toNat < S32000.size a := fun v769 k0_hw20 => k0_hw20

def k0_chk21 (v664 : IVec S16 32) (v820 : IVec S16 32) : Prop :=
  (∀ a x, ((![v820, v664] : Fin 2 → IVec S16 32) a x).toNat < S64x512.size a)
theorem k0_idx21_inb : ∀ (v664 : IVec S16 32) (v820 : IVec S16 32) (k0_hw21 : k0_chk21 v664 v820), ∀ a x, ((![v820, v664] : Fin 2 → IVec S16 32) a x).toNat < S64x512.size a := fun v664 v820 k0_hw21 => k0_hw21

def k0_chk22 (v664 : IVec S16 32) (v822 : IVec S16 32) : Prop :=
  (∀ a x, ((![v822, v664] : Fin 2 → IVec S16 32) a x).toNat < S64x512.size a)
theorem k0_idx22_inb : ∀ (v664 : IVec S16 32) (v822 : IVec S16 32) (k0_hw22 : k0_chk22 v664 v822), ∀ a x, ((![v822, v664] : Fin 2 → IVec S16 32) a x).toNat < S64x512.size a := fun v664 v822 k0_hw22 => k0_hw22

def k0_chk23 (v829 : IVec S16 32) : Prop :=
  (∀ a x, ((![v829] : Fin 1 → IVec S16 32) a x).toNat < S32000.size a)
theorem k0_idx23_inb : ∀ (v829 : IVec S16 32) (k0_hw23 : k0_chk23 v829), ∀ a x, ((![v829] : Fin 1 → IVec S16 32) a x).toNat < S32000.size a := fun v829 k0_hw23 => k0_hw23

def k0_chk24 (v831 : IVec S16 32) : Prop :=
  (∀ a x, ((![v831] : Fin 1 → IVec S16 32) a x).toNat < S32000.size a)
theorem k0_idx24_inb : ∀ (v831 : IVec S16 32) (k0_hw24 : k0_chk24 v831), ∀ a x, ((![v831] : Fin 1 → IVec S16 32) a x).toNat < S32000.size a := fun v831 k0_hw24 => k0_hw24

def k0_chk25 (v833 : IVec S16 32) : Prop :=
  (∀ a x, ((![v833] : Fin 1 → IVec S16 32) a x).toNat < S32000.size a)
theorem k0_idx25_inb : ∀ (v833 : IVec S16 32) (k0_hw25 : k0_chk25 v833), ∀ a x, ((![v833] : Fin 1 → IVec S16 32) a x).toNat < S32000.size a := fun v833 k0_hw25 => k0_hw25

def k0_chk26 (v835 : IVec S16 32) : Prop :=
  (∀ a x, ((![v835] : Fin 1 → IVec S16 32) a x).toNat < S32000.size a)
theorem k0_idx26_inb : ∀ (v835 : IVec S16 32) (k0_hw26 : k0_chk26 v835), ∀ a x, ((![v835] : Fin 1 → IVec S16 32) a x).toNat < S32000.size a := fun v835 k0_hw26 => k0_hw26

def k0_chk27 (v837 : IVec S16 32) : Prop :=
  (∀ a x, ((![v837] : Fin 1 → IVec S16 32) a x).toNat < S32000.size a)
theorem k0_idx27_inb : ∀ (v837 : IVec S16 32) (k0_hw27 : k0_chk27 v837), ∀ a x, ((![v837] : Fin 1 → IVec S16 32) a x).toNat < S32000.size a := fun v837 k0_hw27 => k0_hw27

def k0_chk28 (v839 : IVec S16 32) : Prop :=
  (∀ a x, ((![v839] : Fin 1 → IVec S16 32) a x).toNat < S32000.size a)
theorem k0_idx28_inb : ∀ (v839 : IVec S16 32) (k0_hw28 : k0_chk28 v839), ∀ a x, ((![v839] : Fin 1 → IVec S16 32) a x).toNat < S32000.size a := fun v839 k0_hw28 => k0_hw28

def k0_chk29 (v664 : IVec S16 32) (v890 : IVec S16 32) : Prop :=
  (∀ a x, ((![v890, v664] : Fin 2 → IVec S16 32) a x).toNat < S64x512.size a)
theorem k0_idx29_inb : ∀ (v664 : IVec S16 32) (v890 : IVec S16 32) (k0_hw29 : k0_chk29 v664 v890), ∀ a x, ((![v890, v664] : Fin 2 → IVec S16 32) a x).toNat < S64x512.size a := fun v664 v890 k0_hw29 => k0_hw29

def k0_chk30 (v664 : IVec S16 32) (v892 : IVec S16 32) : Prop :=
  (∀ a x, ((![v892, v664] : Fin 2 → IVec S16 32) a x).toNat < S64x512.size a)
theorem k0_idx30_inb : ∀ (v664 : IVec S16 32) (v892 : IVec S16 32) (k0_hw30 : k0_chk30 v664 v892), ∀ a x, ((![v892, v664] : Fin 2 → IVec S16 32) a x).toNat < S64x512.size a := fun v664 v892 k0_hw30 => k0_hw30

def k0_chk31 (v899 : IVec S16 32) : Prop :=
  (∀ a x, ((![v899] : Fin 1 → IVec S16 32) a x).toNat < S32000.size a)
theorem k0_idx31_inb : ∀ (v899 : IVec S16 32) (k0_hw31 : k0_chk31 v899), ∀ a x, ((![v899] : Fin 1 → IVec S16 32) a x).toNat < S32000.size a := fun v899 k0_hw31 => k0_hw31

def k0_chk32 (v901 : IVec S16 32) : Prop :=
  (∀ a x, ((![v901] : Fin 1 → IVec S16 32) a x).toNat < S32000.size a)
theorem k0_idx32_inb : ∀ (v901 : IVec S16 32) (k0_hw32 : k0_chk32 v901), ∀ a x, ((![v901] : Fin 1 → IVec S16 32) a x).toNat < S32000.size a := fun v901 k0_hw32 => k0_hw32

def k0_chk33 (v903 : IVec S16 32) : Prop :=
  (∀ a x, ((![v903] : Fin 1 → IVec S16 32) a x).toNat < S32000.size a)
theorem k0_idx33_inb : ∀ (v903 : IVec S16 32) (k0_hw33 : k0_chk33 v903), ∀ a x, ((![v903] : Fin 1 → IVec S16 32) a x).toNat < S32000.size a := fun v903 k0_hw33 => k0_hw33

def k0_chk34 (v905 : IVec S16 32) : Prop :=
  (∀ a x, ((![v905] : Fin 1 → IVec S16 32) a x).toNat < S32000.size a)
theorem k0_idx34_inb : ∀ (v905 : IVec S16 32) (k0_hw34 : k0_chk34 v905), ∀ a x, ((![v905] : Fin 1 → IVec S16 32) a x).toNat < S32000.size a := fun v905 k0_hw34 => k0_hw34

def k0_chk35 (v907 : IVec S16 32) : Prop :=
  (∀ a x, ((![v907] : Fin 1 → IVec S16 32) a x).toNat < S32000.size a)
theorem k0_idx35_inb : ∀ (v907 : IVec S16 32) (k0_hw35 : k0_chk35 v907), ∀ a x, ((![v907] : Fin 1 → IVec S16 32) a x).toNat < S32000.size a := fun v907 k0_hw35 => k0_hw35

def k0_chk36 (v909 : IVec S16 32) : Prop :=
  (∀ a x, ((![v909] : Fin 1 → IVec S16 32) a x).toNat < S32000.size a)
theorem k0_idx36_inb : ∀ (v909 : IVec S16 32) (k0_hw36 : k0_chk36 v909), ∀ a x, ((![v909] : Fin 1 → IVec S16 32) a x).toNat < S32000.size a := fun v909 k0_hw36 => k0_hw36

def k0_chk37 (v664 : IVec S16 32) (v960 : IVec S16 32) : Prop :=
  (∀ a x, ((![v960, v664] : Fin 2 → IVec S16 32) a x).toNat < S64x512.size a)
theorem k0_idx37_inb : ∀ (v664 : IVec S16 32) (v960 : IVec S16 32) (k0_hw37 : k0_chk37 v664 v960), ∀ a x, ((![v960, v664] : Fin 2 → IVec S16 32) a x).toNat < S64x512.size a := fun v664 v960 k0_hw37 => k0_hw37

def k0_chk38 (v664 : IVec S16 32) (v962 : IVec S16 32) : Prop :=
  (∀ a x, ((![v962, v664] : Fin 2 → IVec S16 32) a x).toNat < S64x512.size a)
theorem k0_idx38_inb : ∀ (v664 : IVec S16 32) (v962 : IVec S16 32) (k0_hw38 : k0_chk38 v664 v962), ∀ a x, ((![v962, v664] : Fin 2 → IVec S16 32) a x).toNat < S64x512.size a := fun v664 v962 k0_hw38 => k0_hw38

def k0_chk39 (v969 : IVec S16 32) : Prop :=
  (∀ a x, ((![v969] : Fin 1 → IVec S16 32) a x).toNat < S32000.size a)
theorem k0_idx39_inb : ∀ (v969 : IVec S16 32) (k0_hw39 : k0_chk39 v969), ∀ a x, ((![v969] : Fin 1 → IVec S16 32) a x).toNat < S32000.size a := fun v969 k0_hw39 => k0_hw39

def k0_chk40 (v971 : IVec S16 32) : Prop :=
  (∀ a x, ((![v971] : Fin 1 → IVec S16 32) a x).toNat < S32000.size a)
theorem k0_idx40_inb : ∀ (v971 : IVec S16 32) (k0_hw40 : k0_chk40 v971), ∀ a x, ((![v971] : Fin 1 → IVec S16 32) a x).toNat < S32000.size a := fun v971 k0_hw40 => k0_hw40

def k0_chk41 (v973 : IVec S16 32) : Prop :=
  (∀ a x, ((![v973] : Fin 1 → IVec S16 32) a x).toNat < S32000.size a)
theorem k0_idx41_inb : ∀ (v973 : IVec S16 32) (k0_hw41 : k0_chk41 v973), ∀ a x, ((![v973] : Fin 1 → IVec S16 32) a x).toNat < S32000.size a := fun v973 k0_hw41 => k0_hw41

def k0_chk42 (v975 : IVec S16 32) : Prop :=
  (∀ a x, ((![v975] : Fin 1 → IVec S16 32) a x).toNat < S32000.size a)
theorem k0_idx42_inb : ∀ (v975 : IVec S16 32) (k0_hw42 : k0_chk42 v975), ∀ a x, ((![v975] : Fin 1 → IVec S16 32) a x).toNat < S32000.size a := fun v975 k0_hw42 => k0_hw42

def k0_chk43 (v977 : IVec S16 32) : Prop :=
  (∀ a x, ((![v977] : Fin 1 → IVec S16 32) a x).toNat < S32000.size a)
theorem k0_idx43_inb : ∀ (v977 : IVec S16 32) (k0_hw43 : k0_chk43 v977), ∀ a x, ((![v977] : Fin 1 → IVec S16 32) a x).toNat < S32000.size a := fun v977 k0_hw43 => k0_hw43

def k0_chk44 (v979 : IVec S16 32) : Prop :=
  (∀ a x, ((![v979] : Fin 1 → IVec S16 32) a x).toNat < S32000.size a)
theorem k0_idx44_inb : ∀ (v979 : IVec S16 32) (k0_hw44 : k0_chk44 v979), ∀ a x, ((![v979] : Fin 1 → IVec S16 32) a x).toNat < S32000.size a := fun v979 k0_hw44 => k0_hw44

def k0_chk45 (v664 : IVec S16 32) (v1030 : IVec S16 32) : Prop :=
  (∀ a x, ((![v1030, v664] : Fin 2 → IVec S16 32) a x).toNat < S64x512.size a)
theorem k0_idx45_inb : ∀ (v664 : IVec S16 32) (v1030 : IVec S16 32) (k0_hw45 : k0_chk45 v664 v1030), ∀ a x, ((![v1030, v664] : Fin 2 → IVec S16 32) a x).toNat < S64x512.size a := fun v664 v1030 k0_hw45 => k0_hw45

def k0_chk46 (v664 : IVec S16 32) (v1032 : IVec S16 32) : Prop :=
  (∀ a x, ((![v1032, v664] : Fin 2 → IVec S16 32) a x).toNat < S64x512.size a)
theorem k0_idx46_inb : ∀ (v664 : IVec S16 32) (v1032 : IVec S16 32) (k0_hw46 : k0_chk46 v664 v1032), ∀ a x, ((![v1032, v664] : Fin 2 → IVec S16 32) a x).toNat < S64x512.size a := fun v664 v1032 k0_hw46 => k0_hw46

def k0_chk47 (v1039 : IVec S16 32) : Prop :=
  (∀ a x, ((![v1039] : Fin 1 → IVec S16 32) a x).toNat < S32000.size a)
theorem k0_idx47_inb : ∀ (v1039 : IVec S16 32) (k0_hw47 : k0_chk47 v1039), ∀ a x, ((![v1039] : Fin 1 → IVec S16 32) a x).toNat < S32000.size a := fun v1039 k0_hw47 => k0_hw47

def k0_chk48 (v1041 : IVec S16 32) : Prop :=
  (∀ a x, ((![v1041] : Fin 1 → IVec S16 32) a x).toNat < S32000.size a)
theorem k0_idx48_inb : ∀ (v1041 : IVec S16 32) (k0_hw48 : k0_chk48 v1041), ∀ a x, ((![v1041] : Fin 1 → IVec S16 32) a x).toNat < S32000.size a := fun v1041 k0_hw48 => k0_hw48

def k0_chk49 (v1043 : IVec S16 32) : Prop :=
  (∀ a x, ((![v1043] : Fin 1 → IVec S16 32) a x).toNat < S32000.size a)
theorem k0_idx49_inb : ∀ (v1043 : IVec S16 32) (k0_hw49 : k0_chk49 v1043), ∀ a x, ((![v1043] : Fin 1 → IVec S16 32) a x).toNat < S32000.size a := fun v1043 k0_hw49 => k0_hw49

def k0_chk50 (v1045 : IVec S16 32) : Prop :=
  (∀ a x, ((![v1045] : Fin 1 → IVec S16 32) a x).toNat < S32000.size a)
theorem k0_idx50_inb : ∀ (v1045 : IVec S16 32) (k0_hw50 : k0_chk50 v1045), ∀ a x, ((![v1045] : Fin 1 → IVec S16 32) a x).toNat < S32000.size a := fun v1045 k0_hw50 => k0_hw50

def k0_chk51 (v1047 : IVec S16 32) : Prop :=
  (∀ a x, ((![v1047] : Fin 1 → IVec S16 32) a x).toNat < S32000.size a)
theorem k0_idx51_inb : ∀ (v1047 : IVec S16 32) (k0_hw51 : k0_chk51 v1047), ∀ a x, ((![v1047] : Fin 1 → IVec S16 32) a x).toNat < S32000.size a := fun v1047 k0_hw51 => k0_hw51

def k0_chk52 (v1049 : IVec S16 32) : Prop :=
  (∀ a x, ((![v1049] : Fin 1 → IVec S16 32) a x).toNat < S32000.size a)
theorem k0_idx52_inb : ∀ (v1049 : IVec S16 32) (k0_hw52 : k0_chk52 v1049), ∀ a x, ((![v1049] : Fin 1 → IVec S16 32) a x).toNat < S32000.size a := fun v1049 k0_hw52 => k0_hw52

def k0_chk53 (v664 : IVec S16 32) (v1100 : IVec S16 32) : Prop :=
  (∀ a x, ((![v1100, v664] : Fin 2 → IVec S16 32) a x).toNat < S64x512.size a)
theorem k0_idx53_inb : ∀ (v664 : IVec S16 32) (v1100 : IVec S16 32) (k0_hw53 : k0_chk53 v664 v1100), ∀ a x, ((![v1100, v664] : Fin 2 → IVec S16 32) a x).toNat < S64x512.size a := fun v664 v1100 k0_hw53 => k0_hw53

def k0_chk54 (v664 : IVec S16 32) (v1102 : IVec S16 32) : Prop :=
  (∀ a x, ((![v1102, v664] : Fin 2 → IVec S16 32) a x).toNat < S64x512.size a)
theorem k0_idx54_inb : ∀ (v664 : IVec S16 32) (v1102 : IVec S16 32) (k0_hw54 : k0_chk54 v664 v1102), ∀ a x, ((![v1102, v664] : Fin 2 → IVec S16 32) a x).toNat < S64x512.size a := fun v664 v1102 k0_hw54 => k0_hw54

def k0_chk55 (v1109 : IVec S16 32) : Prop :=
  (∀ a x, ((![v1109] : Fin 1 → IVec S16 32) a x).toNat < S32000.size a)
theorem k0_idx55_inb : ∀ (v1109 : IVec S16 32) (k0_hw55 : k0_chk55 v1109), ∀ a x, ((![v1109] : Fin 1 → IVec S16 32) a x).toNat < S32000.size a := fun v1109 k0_hw55 => k0_hw55

def k0_chk56 (v1111 : IVec S16 32) : Prop :=
  (∀ a x, ((![v1111] : Fin 1 → IVec S16 32) a x).toNat < S32000.size a)
theorem k0_idx56_inb : ∀ (v1111 : IVec S16 32) (k0_hw56 : k0_chk56 v1111), ∀ a x, ((![v1111] : Fin 1 → IVec S16 32) a x).toNat < S32000.size a := fun v1111 k0_hw56 => k0_hw56

def k0_chk57 (v1113 : IVec S16 32) : Prop :=
  (∀ a x, ((![v1113] : Fin 1 → IVec S16 32) a x).toNat < S32000.size a)
theorem k0_idx57_inb : ∀ (v1113 : IVec S16 32) (k0_hw57 : k0_chk57 v1113), ∀ a x, ((![v1113] : Fin 1 → IVec S16 32) a x).toNat < S32000.size a := fun v1113 k0_hw57 => k0_hw57

def k0_chk58 (v1115 : IVec S16 32) : Prop :=
  (∀ a x, ((![v1115] : Fin 1 → IVec S16 32) a x).toNat < S32000.size a)
theorem k0_idx58_inb : ∀ (v1115 : IVec S16 32) (k0_hw58 : k0_chk58 v1115), ∀ a x, ((![v1115] : Fin 1 → IVec S16 32) a x).toNat < S32000.size a := fun v1115 k0_hw58 => k0_hw58

def k0_chk59 (v1117 : IVec S16 32) : Prop :=
  (∀ a x, ((![v1117] : Fin 1 → IVec S16 32) a x).toNat < S32000.size a)
theorem k0_idx59_inb : ∀ (v1117 : IVec S16 32) (k0_hw59 : k0_chk59 v1117), ∀ a x, ((![v1117] : Fin 1 → IVec S16 32) a x).toNat < S32000.size a := fun v1117 k0_hw59 => k0_hw59

def k0_chk60 (v1119 : IVec S16 32) : Prop :=
  (∀ a x, ((![v1119] : Fin 1 → IVec S16 32) a x).toNat < S32000.size a)
theorem k0_idx60_inb : ∀ (v1119 : IVec S16 32) (k0_hw60 : k0_chk60 v1119), ∀ a x, ((![v1119] : Fin 1 → IVec S16 32) a x).toNat < S32000.size a := fun v1119 k0_hw60 => k0_hw60

def k0_chk61 (v664 : IVec S16 32) (v1170 : IVec S16 32) : Prop :=
  (∀ a x, ((![v1170, v664] : Fin 2 → IVec S16 32) a x).toNat < S64x512.size a)
theorem k0_idx61_inb : ∀ (v664 : IVec S16 32) (v1170 : IVec S16 32) (k0_hw61 : k0_chk61 v664 v1170), ∀ a x, ((![v1170, v664] : Fin 2 → IVec S16 32) a x).toNat < S64x512.size a := fun v664 v1170 k0_hw61 => k0_hw61

def k0_chk62 (v664 : IVec S16 32) (v1172 : IVec S16 32) : Prop :=
  (∀ a x, ((![v1172, v664] : Fin 2 → IVec S16 32) a x).toNat < S64x512.size a)
theorem k0_idx62_inb : ∀ (v664 : IVec S16 32) (v1172 : IVec S16 32) (k0_hw62 : k0_chk62 v664 v1172), ∀ a x, ((![v1172, v664] : Fin 2 → IVec S16 32) a x).toNat < S64x512.size a := fun v664 v1172 k0_hw62 => k0_hw62

def k0_chk63 (v1179 : IVec S16 32) : Prop :=
  (∀ a x, ((![v1179] : Fin 1 → IVec S16 32) a x).toNat < S32000.size a)
theorem k0_idx63_inb : ∀ (v1179 : IVec S16 32) (k0_hw63 : k0_chk63 v1179), ∀ a x, ((![v1179] : Fin 1 → IVec S16 32) a x).toNat < S32000.size a := fun v1179 k0_hw63 => k0_hw63

def k0_chk64 (v1181 : IVec S16 32) : Prop :=
  (∀ a x, ((![v1181] : Fin 1 → IVec S16 32) a x).toNat < S32000.size a)
theorem k0_idx64_inb : ∀ (v1181 : IVec S16 32) (k0_hw64 : k0_chk64 v1181), ∀ a x, ((![v1181] : Fin 1 → IVec S16 32) a x).toNat < S32000.size a := fun v1181 k0_hw64 => k0_hw64

def k0_chk65 (v1183 : IVec S16 32) : Prop :=
  (∀ a x, ((![v1183] : Fin 1 → IVec S16 32) a x).toNat < S32000.size a)
theorem k0_idx65_inb : ∀ (v1183 : IVec S16 32) (k0_hw65 : k0_chk65 v1183), ∀ a x, ((![v1183] : Fin 1 → IVec S16 32) a x).toNat < S32000.size a := fun v1183 k0_hw65 => k0_hw65

def k0_chk66 (v1185 : IVec S16 32) : Prop :=
  (∀ a x, ((![v1185] : Fin 1 → IVec S16 32) a x).toNat < S32000.size a)
theorem k0_idx66_inb : ∀ (v1185 : IVec S16 32) (k0_hw66 : k0_chk66 v1185), ∀ a x, ((![v1185] : Fin 1 → IVec S16 32) a x).toNat < S32000.size a := fun v1185 k0_hw66 => k0_hw66

def k0_chk67 (v1187 : IVec S16 32) : Prop :=
  (∀ a x, ((![v1187] : Fin 1 → IVec S16 32) a x).toNat < S32000.size a)
theorem k0_idx67_inb : ∀ (v1187 : IVec S16 32) (k0_hw67 : k0_chk67 v1187), ∀ a x, ((![v1187] : Fin 1 → IVec S16 32) a x).toNat < S32000.size a := fun v1187 k0_hw67 => k0_hw67

def k0_chk68 (v1189 : IVec S16 32) : Prop :=
  (∀ a x, ((![v1189] : Fin 1 → IVec S16 32) a x).toNat < S32000.size a)
theorem k0_idx68_inb : ∀ (v1189 : IVec S16 32) (k0_hw68 : k0_chk68 v1189), ∀ a x, ((![v1189] : Fin 1 → IVec S16 32) a x).toNat < S32000.size a := fun v1189 k0_hw68 => k0_hw68

def k0_chk69 (v664 : IVec S16 32) (v1240 : IVec S16 32) : Prop :=
  (∀ a x, ((![v1240, v664] : Fin 2 → IVec S16 32) a x).toNat < S64x512.size a)
theorem k0_idx69_inb : ∀ (v664 : IVec S16 32) (v1240 : IVec S16 32) (k0_hw69 : k0_chk69 v664 v1240), ∀ a x, ((![v1240, v664] : Fin 2 → IVec S16 32) a x).toNat < S64x512.size a := fun v664 v1240 k0_hw69 => k0_hw69

def k0_chk70 (v664 : IVec S16 32) (v1242 : IVec S16 32) : Prop :=
  (∀ a x, ((![v1242, v664] : Fin 2 → IVec S16 32) a x).toNat < S64x512.size a)
theorem k0_idx70_inb : ∀ (v664 : IVec S16 32) (v1242 : IVec S16 32) (k0_hw70 : k0_chk70 v664 v1242), ∀ a x, ((![v1242, v664] : Fin 2 → IVec S16 32) a x).toNat < S64x512.size a := fun v664 v1242 k0_hw70 => k0_hw70

def k0_chk71 (v1249 : IVec S16 32) : Prop :=
  (∀ a x, ((![v1249] : Fin 1 → IVec S16 32) a x).toNat < S32000.size a)
theorem k0_idx71_inb : ∀ (v1249 : IVec S16 32) (k0_hw71 : k0_chk71 v1249), ∀ a x, ((![v1249] : Fin 1 → IVec S16 32) a x).toNat < S32000.size a := fun v1249 k0_hw71 => k0_hw71

def k0_chk72 (v1251 : IVec S16 32) : Prop :=
  (∀ a x, ((![v1251] : Fin 1 → IVec S16 32) a x).toNat < S32000.size a)
theorem k0_idx72_inb : ∀ (v1251 : IVec S16 32) (k0_hw72 : k0_chk72 v1251), ∀ a x, ((![v1251] : Fin 1 → IVec S16 32) a x).toNat < S32000.size a := fun v1251 k0_hw72 => k0_hw72

def k0_chk73 (v1253 : IVec S16 32) : Prop :=
  (∀ a x, ((![v1253] : Fin 1 → IVec S16 32) a x).toNat < S32000.size a)
theorem k0_idx73_inb : ∀ (v1253 : IVec S16 32) (k0_hw73 : k0_chk73 v1253), ∀ a x, ((![v1253] : Fin 1 → IVec S16 32) a x).toNat < S32000.size a := fun v1253 k0_hw73 => k0_hw73

def k0_chk74 (v1255 : IVec S16 32) : Prop :=
  (∀ a x, ((![v1255] : Fin 1 → IVec S16 32) a x).toNat < S32000.size a)
theorem k0_idx74_inb : ∀ (v1255 : IVec S16 32) (k0_hw74 : k0_chk74 v1255), ∀ a x, ((![v1255] : Fin 1 → IVec S16 32) a x).toNat < S32000.size a := fun v1255 k0_hw74 => k0_hw74

def k0_chk75 (v1257 : IVec S16 32) : Prop :=
  (∀ a x, ((![v1257] : Fin 1 → IVec S16 32) a x).toNat < S32000.size a)
theorem k0_idx75_inb : ∀ (v1257 : IVec S16 32) (k0_hw75 : k0_chk75 v1257), ∀ a x, ((![v1257] : Fin 1 → IVec S16 32) a x).toNat < S32000.size a := fun v1257 k0_hw75 => k0_hw75

def k0_chk76 (v1259 : IVec S16 32) : Prop :=
  (∀ a x, ((![v1259] : Fin 1 → IVec S16 32) a x).toNat < S32000.size a)
theorem k0_idx76_inb : ∀ (v1259 : IVec S16 32) (k0_hw76 : k0_chk76 v1259), ∀ a x, ((![v1259] : Fin 1 → IVec S16 32) a x).toNat < S32000.size a := fun v1259 k0_hw76 => k0_hw76

def k0_chk77 (v664 : IVec S16 32) (v1310 : IVec S16 32) : Prop :=
  (∀ a x, ((![v1310, v664] : Fin 2 → IVec S16 32) a x).toNat < S64x512.size a)
theorem k0_idx77_inb : ∀ (v664 : IVec S16 32) (v1310 : IVec S16 32) (k0_hw77 : k0_chk77 v664 v1310), ∀ a x, ((![v1310, v664] : Fin 2 → IVec S16 32) a x).toNat < S64x512.size a := fun v664 v1310 k0_hw77 => k0_hw77

def k0_chk78 (v664 : IVec S16 32) (v1312 : IVec S16 32) : Prop :=
  (∀ a x, ((![v1312, v664] : Fin 2 → IVec S16 32) a x).toNat < S64x512.size a)
theorem k0_idx78_inb : ∀ (v664 : IVec S16 32) (v1312 : IVec S16 32) (k0_hw78 : k0_chk78 v664 v1312), ∀ a x, ((![v1312, v664] : Fin 2 → IVec S16 32) a x).toNat < S64x512.size a := fun v664 v1312 k0_hw78 => k0_hw78

def k0_chk79 (v1319 : IVec S16 32) : Prop :=
  (∀ a x, ((![v1319] : Fin 1 → IVec S16 32) a x).toNat < S32000.size a)
theorem k0_idx79_inb : ∀ (v1319 : IVec S16 32) (k0_hw79 : k0_chk79 v1319), ∀ a x, ((![v1319] : Fin 1 → IVec S16 32) a x).toNat < S32000.size a := fun v1319 k0_hw79 => k0_hw79

def k0_chk80 (v1321 : IVec S16 32) : Prop :=
  (∀ a x, ((![v1321] : Fin 1 → IVec S16 32) a x).toNat < S32000.size a)
theorem k0_idx80_inb : ∀ (v1321 : IVec S16 32) (k0_hw80 : k0_chk80 v1321), ∀ a x, ((![v1321] : Fin 1 → IVec S16 32) a x).toNat < S32000.size a := fun v1321 k0_hw80 => k0_hw80

def k0_chk81 (v1323 : IVec S16 32) : Prop :=
  (∀ a x, ((![v1323] : Fin 1 → IVec S16 32) a x).toNat < S32000.size a)
theorem k0_idx81_inb : ∀ (v1323 : IVec S16 32) (k0_hw81 : k0_chk81 v1323), ∀ a x, ((![v1323] : Fin 1 → IVec S16 32) a x).toNat < S32000.size a := fun v1323 k0_hw81 => k0_hw81

def k0_chk82 (v1325 : IVec S16 32) : Prop :=
  (∀ a x, ((![v1325] : Fin 1 → IVec S16 32) a x).toNat < S32000.size a)
theorem k0_idx82_inb : ∀ (v1325 : IVec S16 32) (k0_hw82 : k0_chk82 v1325), ∀ a x, ((![v1325] : Fin 1 → IVec S16 32) a x).toNat < S32000.size a := fun v1325 k0_hw82 => k0_hw82

def k0_chk83 (v1327 : IVec S16 32) : Prop :=
  (∀ a x, ((![v1327] : Fin 1 → IVec S16 32) a x).toNat < S32000.size a)
theorem k0_idx83_inb : ∀ (v1327 : IVec S16 32) (k0_hw83 : k0_chk83 v1327), ∀ a x, ((![v1327] : Fin 1 → IVec S16 32) a x).toNat < S32000.size a := fun v1327 k0_hw83 => k0_hw83

def k0_chk84 (v1329 : IVec S16 32) : Prop :=
  (∀ a x, ((![v1329] : Fin 1 → IVec S16 32) a x).toNat < S32000.size a)
theorem k0_idx84_inb : ∀ (v1329 : IVec S16 32) (k0_hw84 : k0_chk84 v1329), ∀ a x, ((![v1329] : Fin 1 → IVec S16 32) a x).toNat < S32000.size a := fun v1329 k0_hw84 => k0_hw84

def k0_chk85 (v664 : IVec S16 32) (v1380 : IVec S16 32) : Prop :=
  (∀ a x, ((![v1380, v664] : Fin 2 → IVec S16 32) a x).toNat < S64x512.size a)
theorem k0_idx85_inb : ∀ (v664 : IVec S16 32) (v1380 : IVec S16 32) (k0_hw85 : k0_chk85 v664 v1380), ∀ a x, ((![v1380, v664] : Fin 2 → IVec S16 32) a x).toNat < S64x512.size a := fun v664 v1380 k0_hw85 => k0_hw85

def k0_chk86 (v664 : IVec S16 32) (v1382 : IVec S16 32) : Prop :=
  (∀ a x, ((![v1382, v664] : Fin 2 → IVec S16 32) a x).toNat < S64x512.size a)
theorem k0_idx86_inb : ∀ (v664 : IVec S16 32) (v1382 : IVec S16 32) (k0_hw86 : k0_chk86 v664 v1382), ∀ a x, ((![v1382, v664] : Fin 2 → IVec S16 32) a x).toNat < S64x512.size a := fun v664 v1382 k0_hw86 => k0_hw86

def k0_chk87 (v1389 : IVec S16 32) : Prop :=
  (∀ a x, ((![v1389] : Fin 1 → IVec S16 32) a x).toNat < S32000.size a)
theorem k0_idx87_inb : ∀ (v1389 : IVec S16 32) (k0_hw87 : k0_chk87 v1389), ∀ a x, ((![v1389] : Fin 1 → IVec S16 32) a x).toNat < S32000.size a := fun v1389 k0_hw87 => k0_hw87

def k0_chk88 (v1391 : IVec S16 32) : Prop :=
  (∀ a x, ((![v1391] : Fin 1 → IVec S16 32) a x).toNat < S32000.size a)
theorem k0_idx88_inb : ∀ (v1391 : IVec S16 32) (k0_hw88 : k0_chk88 v1391), ∀ a x, ((![v1391] : Fin 1 → IVec S16 32) a x).toNat < S32000.size a := fun v1391 k0_hw88 => k0_hw88

def k0_chk89 (v1393 : IVec S16 32) : Prop :=
  (∀ a x, ((![v1393] : Fin 1 → IVec S16 32) a x).toNat < S32000.size a)
theorem k0_idx89_inb : ∀ (v1393 : IVec S16 32) (k0_hw89 : k0_chk89 v1393), ∀ a x, ((![v1393] : Fin 1 → IVec S16 32) a x).toNat < S32000.size a := fun v1393 k0_hw89 => k0_hw89

def k0_chk90 (v1395 : IVec S16 32) : Prop :=
  (∀ a x, ((![v1395] : Fin 1 → IVec S16 32) a x).toNat < S32000.size a)
theorem k0_idx90_inb : ∀ (v1395 : IVec S16 32) (k0_hw90 : k0_chk90 v1395), ∀ a x, ((![v1395] : Fin 1 → IVec S16 32) a x).toNat < S32000.size a := fun v1395 k0_hw90 => k0_hw90

def k0_chk91 (v1397 : IVec S16 32) : Prop :=
  (∀ a x, ((![v1397] : Fin 1 → IVec S16 32) a x).toNat < S32000.size a)
theorem k0_idx91_inb : ∀ (v1397 : IVec S16 32) (k0_hw91 : k0_chk91 v1397), ∀ a x, ((![v1397] : Fin 1 → IVec S16 32) a x).toNat < S32000.size a := fun v1397 k0_hw91 => k0_hw91

def k0_chk92 (v1399 : IVec S16 32) : Prop :=
  (∀ a x, ((![v1399] : Fin 1 → IVec S16 32) a x).toNat < S32000.size a)
theorem k0_idx92_inb : ∀ (v1399 : IVec S16 32) (k0_hw92 : k0_chk92 v1399), ∀ a x, ((![v1399] : Fin 1 → IVec S16 32) a x).toNat < S32000.size a := fun v1399 k0_hw92 => k0_hw92

def k0_chk93 (v664 : IVec S16 32) (v1450 : IVec S16 32) : Prop :=
  (∀ a x, ((![v1450, v664] : Fin 2 → IVec S16 32) a x).toNat < S64x512.size a)
theorem k0_idx93_inb : ∀ (v664 : IVec S16 32) (v1450 : IVec S16 32) (k0_hw93 : k0_chk93 v664 v1450), ∀ a x, ((![v1450, v664] : Fin 2 → IVec S16 32) a x).toNat < S64x512.size a := fun v664 v1450 k0_hw93 => k0_hw93

def k0_chk94 (v664 : IVec S16 32) (v1452 : IVec S16 32) : Prop :=
  (∀ a x, ((![v1452, v664] : Fin 2 → IVec S16 32) a x).toNat < S64x512.size a)
theorem k0_idx94_inb : ∀ (v664 : IVec S16 32) (v1452 : IVec S16 32) (k0_hw94 : k0_chk94 v664 v1452), ∀ a x, ((![v1452, v664] : Fin 2 → IVec S16 32) a x).toNat < S64x512.size a := fun v664 v1452 k0_hw94 => k0_hw94

def k0_chk95 (v1459 : IVec S16 32) : Prop :=
  (∀ a x, ((![v1459] : Fin 1 → IVec S16 32) a x).toNat < S32000.size a)
theorem k0_idx95_inb : ∀ (v1459 : IVec S16 32) (k0_hw95 : k0_chk95 v1459), ∀ a x, ((![v1459] : Fin 1 → IVec S16 32) a x).toNat < S32000.size a := fun v1459 k0_hw95 => k0_hw95

def k0_chk96 (v1461 : IVec S16 32) : Prop :=
  (∀ a x, ((![v1461] : Fin 1 → IVec S16 32) a x).toNat < S32000.size a)
theorem k0_idx96_inb : ∀ (v1461 : IVec S16 32) (k0_hw96 : k0_chk96 v1461), ∀ a x, ((![v1461] : Fin 1 → IVec S16 32) a x).toNat < S32000.size a := fun v1461 k0_hw96 => k0_hw96

def k0_chk97 (v1463 : IVec S16 32) : Prop :=
  (∀ a x, ((![v1463] : Fin 1 → IVec S16 32) a x).toNat < S32000.size a)
theorem k0_idx97_inb : ∀ (v1463 : IVec S16 32) (k0_hw97 : k0_chk97 v1463), ∀ a x, ((![v1463] : Fin 1 → IVec S16 32) a x).toNat < S32000.size a := fun v1463 k0_hw97 => k0_hw97

def k0_chk98 (v1465 : IVec S16 32) : Prop :=
  (∀ a x, ((![v1465] : Fin 1 → IVec S16 32) a x).toNat < S32000.size a)
theorem k0_idx98_inb : ∀ (v1465 : IVec S16 32) (k0_hw98 : k0_chk98 v1465), ∀ a x, ((![v1465] : Fin 1 → IVec S16 32) a x).toNat < S32000.size a := fun v1465 k0_hw98 => k0_hw98

def k0_chk99 (v1467 : IVec S16 32) : Prop :=
  (∀ a x, ((![v1467] : Fin 1 → IVec S16 32) a x).toNat < S32000.size a)
theorem k0_idx99_inb : ∀ (v1467 : IVec S16 32) (k0_hw99 : k0_chk99 v1467), ∀ a x, ((![v1467] : Fin 1 → IVec S16 32) a x).toNat < S32000.size a := fun v1467 k0_hw99 => k0_hw99

def k0_chk100 (v1469 : IVec S16 32) : Prop :=
  (∀ a x, ((![v1469] : Fin 1 → IVec S16 32) a x).toNat < S32000.size a)
theorem k0_idx100_inb : ∀ (v1469 : IVec S16 32) (k0_hw100 : k0_chk100 v1469), ∀ a x, ((![v1469] : Fin 1 → IVec S16 32) a x).toNat < S32000.size a := fun v1469 k0_hw100 => k0_hw100

def k0_chk101 (v664 : IVec S16 32) (v1520 : IVec S16 32) : Prop :=
  (∀ a x, ((![v1520, v664] : Fin 2 → IVec S16 32) a x).toNat < S64x512.size a)
theorem k0_idx101_inb : ∀ (v664 : IVec S16 32) (v1520 : IVec S16 32) (k0_hw101 : k0_chk101 v664 v1520), ∀ a x, ((![v1520, v664] : Fin 2 → IVec S16 32) a x).toNat < S64x512.size a := fun v664 v1520 k0_hw101 => k0_hw101

def k0_chk102 (v664 : IVec S16 32) (v1522 : IVec S16 32) : Prop :=
  (∀ a x, ((![v1522, v664] : Fin 2 → IVec S16 32) a x).toNat < S64x512.size a)
theorem k0_idx102_inb : ∀ (v664 : IVec S16 32) (v1522 : IVec S16 32) (k0_hw102 : k0_chk102 v664 v1522), ∀ a x, ((![v1522, v664] : Fin 2 → IVec S16 32) a x).toNat < S64x512.size a := fun v664 v1522 k0_hw102 => k0_hw102

def k0_chk103 (v1529 : IVec S16 32) : Prop :=
  (∀ a x, ((![v1529] : Fin 1 → IVec S16 32) a x).toNat < S32000.size a)
theorem k0_idx103_inb : ∀ (v1529 : IVec S16 32) (k0_hw103 : k0_chk103 v1529), ∀ a x, ((![v1529] : Fin 1 → IVec S16 32) a x).toNat < S32000.size a := fun v1529 k0_hw103 => k0_hw103

def k0_chk104 (v1531 : IVec S16 32) : Prop :=
  (∀ a x, ((![v1531] : Fin 1 → IVec S16 32) a x).toNat < S32000.size a)
theorem k0_idx104_inb : ∀ (v1531 : IVec S16 32) (k0_hw104 : k0_chk104 v1531), ∀ a x, ((![v1531] : Fin 1 → IVec S16 32) a x).toNat < S32000.size a := fun v1531 k0_hw104 => k0_hw104

def k0_chk105 (v1533 : IVec S16 32) : Prop :=
  (∀ a x, ((![v1533] : Fin 1 → IVec S16 32) a x).toNat < S32000.size a)
theorem k0_idx105_inb : ∀ (v1533 : IVec S16 32) (k0_hw105 : k0_chk105 v1533), ∀ a x, ((![v1533] : Fin 1 → IVec S16 32) a x).toNat < S32000.size a := fun v1533 k0_hw105 => k0_hw105

def k0_chk106 (v1535 : IVec S16 32) : Prop :=
  (∀ a x, ((![v1535] : Fin 1 → IVec S16 32) a x).toNat < S32000.size a)
theorem k0_idx106_inb : ∀ (v1535 : IVec S16 32) (k0_hw106 : k0_chk106 v1535), ∀ a x, ((![v1535] : Fin 1 → IVec S16 32) a x).toNat < S32000.size a := fun v1535 k0_hw106 => k0_hw106

def k0_chk107 (v1537 : IVec S16 32) : Prop :=
  (∀ a x, ((![v1537] : Fin 1 → IVec S16 32) a x).toNat < S32000.size a)
theorem k0_idx107_inb : ∀ (v1537 : IVec S16 32) (k0_hw107 : k0_chk107 v1537), ∀ a x, ((![v1537] : Fin 1 → IVec S16 32) a x).toNat < S32000.size a := fun v1537 k0_hw107 => k0_hw107

def k0_chk108 (v1539 : IVec S16 32) : Prop :=
  (∀ a x, ((![v1539] : Fin 1 → IVec S16 32) a x).toNat < S32000.size a)
theorem k0_idx108_inb : ∀ (v1539 : IVec S16 32) (k0_hw108 : k0_chk108 v1539), ∀ a x, ((![v1539] : Fin 1 → IVec S16 32) a x).toNat < S32000.size a := fun v1539 k0_hw108 => k0_hw108

def k0_chk109 (v664 : IVec S16 32) (v1590 : IVec S16 32) : Prop :=
  (∀ a x, ((![v1590, v664] : Fin 2 → IVec S16 32) a x).toNat < S64x512.size a)
theorem k0_idx109_inb : ∀ (v664 : IVec S16 32) (v1590 : IVec S16 32) (k0_hw109 : k0_chk109 v664 v1590), ∀ a x, ((![v1590, v664] : Fin 2 → IVec S16 32) a x).toNat < S64x512.size a := fun v664 v1590 k0_hw109 => k0_hw109

def k0_chk110 (v664 : IVec S16 32) (v1592 : IVec S16 32) : Prop :=
  (∀ a x, ((![v1592, v664] : Fin 2 → IVec S16 32) a x).toNat < S64x512.size a)
theorem k0_idx110_inb : ∀ (v664 : IVec S16 32) (v1592 : IVec S16 32) (k0_hw110 : k0_chk110 v664 v1592), ∀ a x, ((![v1592, v664] : Fin 2 → IVec S16 32) a x).toNat < S64x512.size a := fun v664 v1592 k0_hw110 => k0_hw110

def k0_chk111 (v1599 : IVec S16 32) : Prop :=
  (∀ a x, ((![v1599] : Fin 1 → IVec S16 32) a x).toNat < S32000.size a)
theorem k0_idx111_inb : ∀ (v1599 : IVec S16 32) (k0_hw111 : k0_chk111 v1599), ∀ a x, ((![v1599] : Fin 1 → IVec S16 32) a x).toNat < S32000.size a := fun v1599 k0_hw111 => k0_hw111

def k0_chk112 (v1601 : IVec S16 32) : Prop :=
  (∀ a x, ((![v1601] : Fin 1 → IVec S16 32) a x).toNat < S32000.size a)
theorem k0_idx112_inb : ∀ (v1601 : IVec S16 32) (k0_hw112 : k0_chk112 v1601), ∀ a x, ((![v1601] : Fin 1 → IVec S16 32) a x).toNat < S32000.size a := fun v1601 k0_hw112 => k0_hw112

def k0_chk113 (v1603 : IVec S16 32) : Prop :=
  (∀ a x, ((![v1603] : Fin 1 → IVec S16 32) a x).toNat < S32000.size a)
theorem k0_idx113_inb : ∀ (v1603 : IVec S16 32) (k0_hw113 : k0_chk113 v1603), ∀ a x, ((![v1603] : Fin 1 → IVec S16 32) a x).toNat < S32000.size a := fun v1603 k0_hw113 => k0_hw113

def k0_chk114 (v1605 : IVec S16 32) : Prop :=
  (∀ a x, ((![v1605] : Fin 1 → IVec S16 32) a x).toNat < S32000.size a)
theorem k0_idx114_inb : ∀ (v1605 : IVec S16 32) (k0_hw114 : k0_chk114 v1605), ∀ a x, ((![v1605] : Fin 1 → IVec S16 32) a x).toNat < S32000.size a := fun v1605 k0_hw114 => k0_hw114

def k0_chk115 (v1607 : IVec S16 32) : Prop :=
  (∀ a x, ((![v1607] : Fin 1 → IVec S16 32) a x).toNat < S32000.size a)
theorem k0_idx115_inb : ∀ (v1607 : IVec S16 32) (k0_hw115 : k0_chk115 v1607), ∀ a x, ((![v1607] : Fin 1 → IVec S16 32) a x).toNat < S32000.size a := fun v1607 k0_hw115 => k0_hw115

def k0_chk116 (v1609 : IVec S16 32) : Prop :=
  (∀ a x, ((![v1609] : Fin 1 → IVec S16 32) a x).toNat < S32000.size a)
theorem k0_idx116_inb : ∀ (v1609 : IVec S16 32) (k0_hw116 : k0_chk116 v1609), ∀ a x, ((![v1609] : Fin 1 → IVec S16 32) a x).toNat < S32000.size a := fun v1609 k0_hw116 => k0_hw116

def k0_chk117 (v664 : IVec S16 32) (v1660 : IVec S16 32) : Prop :=
  (∀ a x, ((![v1660, v664] : Fin 2 → IVec S16 32) a x).toNat < S64x512.size a)
theorem k0_idx117_inb : ∀ (v664 : IVec S16 32) (v1660 : IVec S16 32) (k0_hw117 : k0_chk117 v664 v1660), ∀ a x, ((![v1660, v664] : Fin 2 → IVec S16 32) a x).toNat < S64x512.size a := fun v664 v1660 k0_hw117 => k0_hw117

def k0_chk118 (v664 : IVec S16 32) (v1662 : IVec S16 32) : Prop :=
  (∀ a x, ((![v1662, v664] : Fin 2 → IVec S16 32) a x).toNat < S64x512.size a)
theorem k0_idx118_inb : ∀ (v664 : IVec S16 32) (v1662 : IVec S16 32) (k0_hw118 : k0_chk118 v664 v1662), ∀ a x, ((![v1662, v664] : Fin 2 → IVec S16 32) a x).toNat < S64x512.size a := fun v664 v1662 k0_hw118 => k0_hw118

def k0_chk119 (v1669 : IVec S16 32) : Prop :=
  (∀ a x, ((![v1669] : Fin 1 → IVec S16 32) a x).toNat < S32000.size a)
theorem k0_idx119_inb : ∀ (v1669 : IVec S16 32) (k0_hw119 : k0_chk119 v1669), ∀ a x, ((![v1669] : Fin 1 → IVec S16 32) a x).toNat < S32000.size a := fun v1669 k0_hw119 => k0_hw119

def k0_chk120 (v1671 : IVec S16 32) : Prop :=
  (∀ a x, ((![v1671] : Fin 1 → IVec S16 32) a x).toNat < S32000.size a)
theorem k0_idx120_inb : ∀ (v1671 : IVec S16 32) (k0_hw120 : k0_chk120 v1671), ∀ a x, ((![v1671] : Fin 1 → IVec S16 32) a x).toNat < S32000.size a := fun v1671 k0_hw120 => k0_hw120

def k0_chk121 (v1673 : IVec S16 32) : Prop :=
  (∀ a x, ((![v1673] : Fin 1 → IVec S16 32) a x).toNat < S32000.size a)
theorem k0_idx121_inb : ∀ (v1673 : IVec S16 32) (k0_hw121 : k0_chk121 v1673), ∀ a x, ((![v1673] : Fin 1 → IVec S16 32) a x).toNat < S32000.size a := fun v1673 k0_hw121 => k0_hw121

def k0_chk122 (v1675 : IVec S16 32) : Prop :=
  (∀ a x, ((![v1675] : Fin 1 → IVec S16 32) a x).toNat < S32000.size a)
theorem k0_idx122_inb : ∀ (v1675 : IVec S16 32) (k0_hw122 : k0_chk122 v1675), ∀ a x, ((![v1675] : Fin 1 → IVec S16 32) a x).toNat < S32000.size a := fun v1675 k0_hw122 => k0_hw122

def k0_chk123 (v1677 : IVec S16 32) : Prop :=
  (∀ a x, ((![v1677] : Fin 1 → IVec S16 32) a x).toNat < S32000.size a)
theorem k0_idx123_inb : ∀ (v1677 : IVec S16 32) (k0_hw123 : k0_chk123 v1677), ∀ a x, ((![v1677] : Fin 1 → IVec S16 32) a x).toNat < S32000.size a := fun v1677 k0_hw123 => k0_hw123

def k0_chk124 (v1679 : IVec S16 32) : Prop :=
  (∀ a x, ((![v1679] : Fin 1 → IVec S16 32) a x).toNat < S32000.size a)
theorem k0_idx124_inb : ∀ (v1679 : IVec S16 32) (k0_hw124 : k0_chk124 v1679), ∀ a x, ((![v1679] : Fin 1 → IVec S16 32) a x).toNat < S32000.size a := fun v1679 k0_hw124 => k0_hw124

def k0_chk125 (v664 : IVec S16 32) (v1730 : IVec S16 32) : Prop :=
  (∀ a x, ((![v1730, v664] : Fin 2 → IVec S16 32) a x).toNat < S64x512.size a)
theorem k0_idx125_inb : ∀ (v664 : IVec S16 32) (v1730 : IVec S16 32) (k0_hw125 : k0_chk125 v664 v1730), ∀ a x, ((![v1730, v664] : Fin 2 → IVec S16 32) a x).toNat < S64x512.size a := fun v664 v1730 k0_hw125 => k0_hw125

def k0_chk126 (v664 : IVec S16 32) (v1732 : IVec S16 32) : Prop :=
  (∀ a x, ((![v1732, v664] : Fin 2 → IVec S16 32) a x).toNat < S64x512.size a)
theorem k0_idx126_inb : ∀ (v664 : IVec S16 32) (v1732 : IVec S16 32) (k0_hw126 : k0_chk126 v664 v1732), ∀ a x, ((![v1732, v664] : Fin 2 → IVec S16 32) a x).toNat < S64x512.size a := fun v664 v1732 k0_hw126 => k0_hw126

def k0_chk127 (v1739 : IVec S16 32) : Prop :=
  (∀ a x, ((![v1739] : Fin 1 → IVec S16 32) a x).toNat < S32000.size a)
theorem k0_idx127_inb : ∀ (v1739 : IVec S16 32) (k0_hw127 : k0_chk127 v1739), ∀ a x, ((![v1739] : Fin 1 → IVec S16 32) a x).toNat < S32000.size a := fun v1739 k0_hw127 => k0_hw127

def k0_chk128 (v1741 : IVec S16 32) : Prop :=
  (∀ a x, ((![v1741] : Fin 1 → IVec S16 32) a x).toNat < S32000.size a)
theorem k0_idx128_inb : ∀ (v1741 : IVec S16 32) (k0_hw128 : k0_chk128 v1741), ∀ a x, ((![v1741] : Fin 1 → IVec S16 32) a x).toNat < S32000.size a := fun v1741 k0_hw128 => k0_hw128

def k0_chk129 (v1743 : IVec S16 32) : Prop :=
  (∀ a x, ((![v1743] : Fin 1 → IVec S16 32) a x).toNat < S32000.size a)
theorem k0_idx129_inb : ∀ (v1743 : IVec S16 32) (k0_hw129 : k0_chk129 v1743), ∀ a x, ((![v1743] : Fin 1 → IVec S16 32) a x).toNat < S32000.size a := fun v1743 k0_hw129 => k0_hw129

def k0_chk130 (v1745 : IVec S16 32) : Prop :=
  (∀ a x, ((![v1745] : Fin 1 → IVec S16 32) a x).toNat < S32000.size a)
theorem k0_idx130_inb : ∀ (v1745 : IVec S16 32) (k0_hw130 : k0_chk130 v1745), ∀ a x, ((![v1745] : Fin 1 → IVec S16 32) a x).toNat < S32000.size a := fun v1745 k0_hw130 => k0_hw130

def k0_chk131 (v1747 : IVec S16 32) : Prop :=
  (∀ a x, ((![v1747] : Fin 1 → IVec S16 32) a x).toNat < S32000.size a)
theorem k0_idx131_inb : ∀ (v1747 : IVec S16 32) (k0_hw131 : k0_chk131 v1747), ∀ a x, ((![v1747] : Fin 1 → IVec S16 32) a x).toNat < S32000.size a := fun v1747 k0_hw131 => k0_hw131

def k0_chk132 (v1749 : IVec S16 32) : Prop :=
  (∀ a x, ((![v1749] : Fin 1 → IVec S16 32) a x).toNat < S32000.size a)
theorem k0_idx132_inb : ∀ (v1749 : IVec S16 32) (k0_hw132 : k0_chk132 v1749), ∀ a x, ((![v1749] : Fin 1 → IVec S16 32) a x).toNat < S32000.size a := fun v1749 k0_hw132 => k0_hw132

def k0_chk133 (v664 : IVec S16 32) (v1800 : IVec S16 32) : Prop :=
  (∀ a x, ((![v1800, v664] : Fin 2 → IVec S16 32) a x).toNat < S64x512.size a)
theorem k0_idx133_inb : ∀ (v664 : IVec S16 32) (v1800 : IVec S16 32) (k0_hw133 : k0_chk133 v664 v1800), ∀ a x, ((![v1800, v664] : Fin 2 → IVec S16 32) a x).toNat < S64x512.size a := fun v664 v1800 k0_hw133 => k0_hw133

def k0_chk134 (v664 : IVec S16 32) (v1802 : IVec S16 32) : Prop :=
  (∀ a x, ((![v1802, v664] : Fin 2 → IVec S16 32) a x).toNat < S64x512.size a)
theorem k0_idx134_inb : ∀ (v664 : IVec S16 32) (v1802 : IVec S16 32) (k0_hw134 : k0_chk134 v664 v1802), ∀ a x, ((![v1802, v664] : Fin 2 → IVec S16 32) a x).toNat < S64x512.size a := fun v664 v1802 k0_hw134 => k0_hw134

def k0_chk135 (v1809 : IVec S16 32) : Prop :=
  (∀ a x, ((![v1809] : Fin 1 → IVec S16 32) a x).toNat < S32000.size a)
theorem k0_idx135_inb : ∀ (v1809 : IVec S16 32) (k0_hw135 : k0_chk135 v1809), ∀ a x, ((![v1809] : Fin 1 → IVec S16 32) a x).toNat < S32000.size a := fun v1809 k0_hw135 => k0_hw135

def k0_chk136 (v1811 : IVec S16 32) : Prop :=
  (∀ a x, ((![v1811] : Fin 1 → IVec S16 32) a x).toNat < S32000.size a)
theorem k0_idx136_inb : ∀ (v1811 : IVec S16 32) (k0_hw136 : k0_chk136 v1811), ∀ a x, ((![v1811] : Fin 1 → IVec S16 32) a x).toNat < S32000.size a := fun v1811 k0_hw136 => k0_hw136

def k0_chk137 (v1813 : IVec S16 32) : Prop :=
  (∀ a x, ((![v1813] : Fin 1 → IVec S16 32) a x).toNat < S32000.size a)
theorem k0_idx137_inb : ∀ (v1813 : IVec S16 32) (k0_hw137 : k0_chk137 v1813), ∀ a x, ((![v1813] : Fin 1 → IVec S16 32) a x).toNat < S32000.size a := fun v1813 k0_hw137 => k0_hw137

def k0_chk138 (v1815 : IVec S16 32) : Prop :=
  (∀ a x, ((![v1815] : Fin 1 → IVec S16 32) a x).toNat < S32000.size a)
theorem k0_idx138_inb : ∀ (v1815 : IVec S16 32) (k0_hw138 : k0_chk138 v1815), ∀ a x, ((![v1815] : Fin 1 → IVec S16 32) a x).toNat < S32000.size a := fun v1815 k0_hw138 => k0_hw138

def k0_chk139 (v1817 : IVec S16 32) : Prop :=
  (∀ a x, ((![v1817] : Fin 1 → IVec S16 32) a x).toNat < S32000.size a)
theorem k0_idx139_inb : ∀ (v1817 : IVec S16 32) (k0_hw139 : k0_chk139 v1817), ∀ a x, ((![v1817] : Fin 1 → IVec S16 32) a x).toNat < S32000.size a := fun v1817 k0_hw139 => k0_hw139

def k0_chk140 (v1819 : IVec S16 32) : Prop :=
  (∀ a x, ((![v1819] : Fin 1 → IVec S16 32) a x).toNat < S32000.size a)
theorem k0_idx140_inb : ∀ (v1819 : IVec S16 32) (k0_hw140 : k0_chk140 v1819), ∀ a x, ((![v1819] : Fin 1 → IVec S16 32) a x).toNat < S32000.size a := fun v1819 k0_hw140 => k0_hw140

def k0_chk141 (v664 : IVec S16 32) (v1870 : IVec S16 32) : Prop :=
  (∀ a x, ((![v1870, v664] : Fin 2 → IVec S16 32) a x).toNat < S64x512.size a)
theorem k0_idx141_inb : ∀ (v664 : IVec S16 32) (v1870 : IVec S16 32) (k0_hw141 : k0_chk141 v664 v1870), ∀ a x, ((![v1870, v664] : Fin 2 → IVec S16 32) a x).toNat < S64x512.size a := fun v664 v1870 k0_hw141 => k0_hw141

def k0_chk142 (v664 : IVec S16 32) (v1872 : IVec S16 32) : Prop :=
  (∀ a x, ((![v1872, v664] : Fin 2 → IVec S16 32) a x).toNat < S64x512.size a)
theorem k0_idx142_inb : ∀ (v664 : IVec S16 32) (v1872 : IVec S16 32) (k0_hw142 : k0_chk142 v664 v1872), ∀ a x, ((![v1872, v664] : Fin 2 → IVec S16 32) a x).toNat < S64x512.size a := fun v664 v1872 k0_hw142 => k0_hw142

def k0_chk143 (v1879 : IVec S16 32) : Prop :=
  (∀ a x, ((![v1879] : Fin 1 → IVec S16 32) a x).toNat < S32000.size a)
theorem k0_idx143_inb : ∀ (v1879 : IVec S16 32) (k0_hw143 : k0_chk143 v1879), ∀ a x, ((![v1879] : Fin 1 → IVec S16 32) a x).toNat < S32000.size a := fun v1879 k0_hw143 => k0_hw143

def k0_chk144 (v1881 : IVec S16 32) : Prop :=
  (∀ a x, ((![v1881] : Fin 1 → IVec S16 32) a x).toNat < S32000.size a)
theorem k0_idx144_inb : ∀ (v1881 : IVec S16 32) (k0_hw144 : k0_chk144 v1881), ∀ a x, ((![v1881] : Fin 1 → IVec S16 32) a x).toNat < S32000.size a := fun v1881 k0_hw144 => k0_hw144

def k0_chk145 (v1883 : IVec S16 32) : Prop :=
  (∀ a x, ((![v1883] : Fin 1 → IVec S16 32) a x).toNat < S32000.size a)
theorem k0_idx145_inb : ∀ (v1883 : IVec S16 32) (k0_hw145 : k0_chk145 v1883), ∀ a x, ((![v1883] : Fin 1 → IVec S16 32) a x).toNat < S32000.size a := fun v1883 k0_hw145 => k0_hw145

def k0_chk146 (v1885 : IVec S16 32) : Prop :=
  (∀ a x, ((![v1885] : Fin 1 → IVec S16 32) a x).toNat < S32000.size a)
theorem k0_idx146_inb : ∀ (v1885 : IVec S16 32) (k0_hw146 : k0_chk146 v1885), ∀ a x, ((![v1885] : Fin 1 → IVec S16 32) a x).toNat < S32000.size a := fun v1885 k0_hw146 => k0_hw146

def k0_chk147 (v1887 : IVec S16 32) : Prop :=
  (∀ a x, ((![v1887] : Fin 1 → IVec S16 32) a x).toNat < S32000.size a)
theorem k0_idx147_inb : ∀ (v1887 : IVec S16 32) (k0_hw147 : k0_chk147 v1887), ∀ a x, ((![v1887] : Fin 1 → IVec S16 32) a x).toNat < S32000.size a := fun v1887 k0_hw147 => k0_hw147

def k0_chk148 (v1889 : IVec S16 32) : Prop :=
  (∀ a x, ((![v1889] : Fin 1 → IVec S16 32) a x).toNat < S32000.size a)
theorem k0_idx148_inb : ∀ (v1889 : IVec S16 32) (k0_hw148 : k0_chk148 v1889), ∀ a x, ((![v1889] : Fin 1 → IVec S16 32) a x).toNat < S32000.size a := fun v1889 k0_hw148 => k0_hw148

def k0_chk149 (v664 : IVec S16 32) (v1940 : IVec S16 32) : Prop :=
  (∀ a x, ((![v1940, v664] : Fin 2 → IVec S16 32) a x).toNat < S64x512.size a)
theorem k0_idx149_inb : ∀ (v664 : IVec S16 32) (v1940 : IVec S16 32) (k0_hw149 : k0_chk149 v664 v1940), ∀ a x, ((![v1940, v664] : Fin 2 → IVec S16 32) a x).toNat < S64x512.size a := fun v664 v1940 k0_hw149 => k0_hw149

def k0_chk150 (v664 : IVec S16 32) (v1942 : IVec S16 32) : Prop :=
  (∀ a x, ((![v1942, v664] : Fin 2 → IVec S16 32) a x).toNat < S64x512.size a)
theorem k0_idx150_inb : ∀ (v664 : IVec S16 32) (v1942 : IVec S16 32) (k0_hw150 : k0_chk150 v664 v1942), ∀ a x, ((![v1942, v664] : Fin 2 → IVec S16 32) a x).toNat < S64x512.size a := fun v664 v1942 k0_hw150 => k0_hw150

def k0_chk151 (v1949 : IVec S16 32) : Prop :=
  (∀ a x, ((![v1949] : Fin 1 → IVec S16 32) a x).toNat < S32000.size a)
theorem k0_idx151_inb : ∀ (v1949 : IVec S16 32) (k0_hw151 : k0_chk151 v1949), ∀ a x, ((![v1949] : Fin 1 → IVec S16 32) a x).toNat < S32000.size a := fun v1949 k0_hw151 => k0_hw151

def k0_chk152 (v1951 : IVec S16 32) : Prop :=
  (∀ a x, ((![v1951] : Fin 1 → IVec S16 32) a x).toNat < S32000.size a)
theorem k0_idx152_inb : ∀ (v1951 : IVec S16 32) (k0_hw152 : k0_chk152 v1951), ∀ a x, ((![v1951] : Fin 1 → IVec S16 32) a x).toNat < S32000.size a := fun v1951 k0_hw152 => k0_hw152

def k0_chk153 (v1953 : IVec S16 32) : Prop :=
  (∀ a x, ((![v1953] : Fin 1 → IVec S16 32) a x).toNat < S32000.size a)
theorem k0_idx153_inb : ∀ (v1953 : IVec S16 32) (k0_hw153 : k0_chk153 v1953), ∀ a x, ((![v1953] : Fin 1 → IVec S16 32) a x).toNat < S32000.size a := fun v1953 k0_hw153 => k0_hw153

def k0_chk154 (v1955 : IVec S16 32) : Prop :=
  (∀ a x, ((![v1955] : Fin 1 → IVec S16 32) a x).toNat < S32000.size a)
theorem k0_idx154_inb : ∀ (v1955 : IVec S16 32) (k0_hw154 : k0_chk154 v1955), ∀ a x, ((![v1955] : Fin 1 → IVec S16 32) a x).toNat < S32000.size a := fun v1955 k0_hw154 => k0_hw154

def k0_chk155 (v1957 : IVec S16 32) : Prop :=
  (∀ a x, ((![v1957] : Fin 1 → IVec S16 32) a x).toNat < S32000.size a)
theorem k0_idx155_inb : ∀ (v1957 : IVec S16 32) (k0_hw155 : k0_chk155 v1957), ∀ a x, ((![v1957] : Fin 1 → IVec S16 32) a x).toNat < S32000.size a := fun v1957 k0_hw155 => k0_hw155

def k0_chk156 (v1959 : IVec S16 32) : Prop :=
  (∀ a x, ((![v1959] : Fin 1 → IVec S16 32) a x).toNat < S32000.size a)
theorem k0_idx156_inb : ∀ (v1959 : IVec S16 32) (k0_hw156 : k0_chk156 v1959), ∀ a x, ((![v1959] : Fin 1 → IVec S16 32) a x).toNat < S32000.size a := fun v1959 k0_hw156 => k0_hw156

def k0_chk157 (v664 : IVec S16 32) (v2010 : IVec S16 32) : Prop :=
  (∀ a x, ((![v2010, v664] : Fin 2 → IVec S16 32) a x).toNat < S64x512.size a)
theorem k0_idx157_inb : ∀ (v664 : IVec S16 32) (v2010 : IVec S16 32) (k0_hw157 : k0_chk157 v664 v2010), ∀ a x, ((![v2010, v664] : Fin 2 → IVec S16 32) a x).toNat < S64x512.size a := fun v664 v2010 k0_hw157 => k0_hw157

def k0_chk158 (v664 : IVec S16 32) (v2012 : IVec S16 32) : Prop :=
  (∀ a x, ((![v2012, v664] : Fin 2 → IVec S16 32) a x).toNat < S64x512.size a)
theorem k0_idx158_inb : ∀ (v664 : IVec S16 32) (v2012 : IVec S16 32) (k0_hw158 : k0_chk158 v664 v2012), ∀ a x, ((![v2012, v664] : Fin 2 → IVec S16 32) a x).toNat < S64x512.size a := fun v664 v2012 k0_hw158 => k0_hw158

def k0_chk159 (v2019 : IVec S16 32) : Prop :=
  (∀ a x, ((![v2019] : Fin 1 → IVec S16 32) a x).toNat < S32000.size a)
theorem k0_idx159_inb : ∀ (v2019 : IVec S16 32) (k0_hw159 : k0_chk159 v2019), ∀ a x, ((![v2019] : Fin 1 → IVec S16 32) a x).toNat < S32000.size a := fun v2019 k0_hw159 => k0_hw159

def k0_chk160 (v2021 : IVec S16 32) : Prop :=
  (∀ a x, ((![v2021] : Fin 1 → IVec S16 32) a x).toNat < S32000.size a)
theorem k0_idx160_inb : ∀ (v2021 : IVec S16 32) (k0_hw160 : k0_chk160 v2021), ∀ a x, ((![v2021] : Fin 1 → IVec S16 32) a x).toNat < S32000.size a := fun v2021 k0_hw160 => k0_hw160

def k0_chk161 (v2023 : IVec S16 32) : Prop :=
  (∀ a x, ((![v2023] : Fin 1 → IVec S16 32) a x).toNat < S32000.size a)
theorem k0_idx161_inb : ∀ (v2023 : IVec S16 32) (k0_hw161 : k0_chk161 v2023), ∀ a x, ((![v2023] : Fin 1 → IVec S16 32) a x).toNat < S32000.size a := fun v2023 k0_hw161 => k0_hw161

def k0_chk162 (v2025 : IVec S16 32) : Prop :=
  (∀ a x, ((![v2025] : Fin 1 → IVec S16 32) a x).toNat < S32000.size a)
theorem k0_idx162_inb : ∀ (v2025 : IVec S16 32) (k0_hw162 : k0_chk162 v2025), ∀ a x, ((![v2025] : Fin 1 → IVec S16 32) a x).toNat < S32000.size a := fun v2025 k0_hw162 => k0_hw162

def k0_chk163 (v2027 : IVec S16 32) : Prop :=
  (∀ a x, ((![v2027] : Fin 1 → IVec S16 32) a x).toNat < S32000.size a)
theorem k0_idx163_inb : ∀ (v2027 : IVec S16 32) (k0_hw163 : k0_chk163 v2027), ∀ a x, ((![v2027] : Fin 1 → IVec S16 32) a x).toNat < S32000.size a := fun v2027 k0_hw163 => k0_hw163

def k0_chk164 (v2029 : IVec S16 32) : Prop :=
  (∀ a x, ((![v2029] : Fin 1 → IVec S16 32) a x).toNat < S32000.size a)
theorem k0_idx164_inb : ∀ (v2029 : IVec S16 32) (k0_hw164 : k0_chk164 v2029), ∀ a x, ((![v2029] : Fin 1 → IVec S16 32) a x).toNat < S32000.size a := fun v2029 k0_hw164 => k0_hw164

def k0_chk165 (v664 : IVec S16 32) (v2080 : IVec S16 32) : Prop :=
  (∀ a x, ((![v2080, v664] : Fin 2 → IVec S16 32) a x).toNat < S64x512.size a)
theorem k0_idx165_inb : ∀ (v664 : IVec S16 32) (v2080 : IVec S16 32) (k0_hw165 : k0_chk165 v664 v2080), ∀ a x, ((![v2080, v664] : Fin 2 → IVec S16 32) a x).toNat < S64x512.size a := fun v664 v2080 k0_hw165 => k0_hw165

def k0_chk166 (v664 : IVec S16 32) (v2082 : IVec S16 32) : Prop :=
  (∀ a x, ((![v2082, v664] : Fin 2 → IVec S16 32) a x).toNat < S64x512.size a)
theorem k0_idx166_inb : ∀ (v664 : IVec S16 32) (v2082 : IVec S16 32) (k0_hw166 : k0_chk166 v664 v2082), ∀ a x, ((![v2082, v664] : Fin 2 → IVec S16 32) a x).toNat < S64x512.size a := fun v664 v2082 k0_hw166 => k0_hw166

def k0_chk167 (v2089 : IVec S16 32) : Prop :=
  (∀ a x, ((![v2089] : Fin 1 → IVec S16 32) a x).toNat < S32000.size a)
theorem k0_idx167_inb : ∀ (v2089 : IVec S16 32) (k0_hw167 : k0_chk167 v2089), ∀ a x, ((![v2089] : Fin 1 → IVec S16 32) a x).toNat < S32000.size a := fun v2089 k0_hw167 => k0_hw167

def k0_chk168 (v2091 : IVec S16 32) : Prop :=
  (∀ a x, ((![v2091] : Fin 1 → IVec S16 32) a x).toNat < S32000.size a)
theorem k0_idx168_inb : ∀ (v2091 : IVec S16 32) (k0_hw168 : k0_chk168 v2091), ∀ a x, ((![v2091] : Fin 1 → IVec S16 32) a x).toNat < S32000.size a := fun v2091 k0_hw168 => k0_hw168

def k0_chk169 (v2093 : IVec S16 32) : Prop :=
  (∀ a x, ((![v2093] : Fin 1 → IVec S16 32) a x).toNat < S32000.size a)
theorem k0_idx169_inb : ∀ (v2093 : IVec S16 32) (k0_hw169 : k0_chk169 v2093), ∀ a x, ((![v2093] : Fin 1 → IVec S16 32) a x).toNat < S32000.size a := fun v2093 k0_hw169 => k0_hw169

def k0_chk170 (v2095 : IVec S16 32) : Prop :=
  (∀ a x, ((![v2095] : Fin 1 → IVec S16 32) a x).toNat < S32000.size a)
theorem k0_idx170_inb : ∀ (v2095 : IVec S16 32) (k0_hw170 : k0_chk170 v2095), ∀ a x, ((![v2095] : Fin 1 → IVec S16 32) a x).toNat < S32000.size a := fun v2095 k0_hw170 => k0_hw170

def k0_chk171 (v2097 : IVec S16 32) : Prop :=
  (∀ a x, ((![v2097] : Fin 1 → IVec S16 32) a x).toNat < S32000.size a)
theorem k0_idx171_inb : ∀ (v2097 : IVec S16 32) (k0_hw171 : k0_chk171 v2097), ∀ a x, ((![v2097] : Fin 1 → IVec S16 32) a x).toNat < S32000.size a := fun v2097 k0_hw171 => k0_hw171

def k0_chk172 (v2099 : IVec S16 32) : Prop :=
  (∀ a x, ((![v2099] : Fin 1 → IVec S16 32) a x).toNat < S32000.size a)
theorem k0_idx172_inb : ∀ (v2099 : IVec S16 32) (k0_hw172 : k0_chk172 v2099), ∀ a x, ((![v2099] : Fin 1 → IVec S16 32) a x).toNat < S32000.size a := fun v2099 k0_hw172 => k0_hw172

def k0_chk173 (v664 : IVec S16 32) (v2150 : IVec S16 32) : Prop :=
  (∀ a x, ((![v2150, v664] : Fin 2 → IVec S16 32) a x).toNat < S64x512.size a)
theorem k0_idx173_inb : ∀ (v664 : IVec S16 32) (v2150 : IVec S16 32) (k0_hw173 : k0_chk173 v664 v2150), ∀ a x, ((![v2150, v664] : Fin 2 → IVec S16 32) a x).toNat < S64x512.size a := fun v664 v2150 k0_hw173 => k0_hw173

def k0_chk174 (v664 : IVec S16 32) (v2152 : IVec S16 32) : Prop :=
  (∀ a x, ((![v2152, v664] : Fin 2 → IVec S16 32) a x).toNat < S64x512.size a)
theorem k0_idx174_inb : ∀ (v664 : IVec S16 32) (v2152 : IVec S16 32) (k0_hw174 : k0_chk174 v664 v2152), ∀ a x, ((![v2152, v664] : Fin 2 → IVec S16 32) a x).toNat < S64x512.size a := fun v664 v2152 k0_hw174 => k0_hw174

def k0_chk175 (v2159 : IVec S16 32) : Prop :=
  (∀ a x, ((![v2159] : Fin 1 → IVec S16 32) a x).toNat < S32000.size a)
theorem k0_idx175_inb : ∀ (v2159 : IVec S16 32) (k0_hw175 : k0_chk175 v2159), ∀ a x, ((![v2159] : Fin 1 → IVec S16 32) a x).toNat < S32000.size a := fun v2159 k0_hw175 => k0_hw175

def k0_chk176 (v2161 : IVec S16 32) : Prop :=
  (∀ a x, ((![v2161] : Fin 1 → IVec S16 32) a x).toNat < S32000.size a)
theorem k0_idx176_inb : ∀ (v2161 : IVec S16 32) (k0_hw176 : k0_chk176 v2161), ∀ a x, ((![v2161] : Fin 1 → IVec S16 32) a x).toNat < S32000.size a := fun v2161 k0_hw176 => k0_hw176

def k0_chk177 (v2163 : IVec S16 32) : Prop :=
  (∀ a x, ((![v2163] : Fin 1 → IVec S16 32) a x).toNat < S32000.size a)
theorem k0_idx177_inb : ∀ (v2163 : IVec S16 32) (k0_hw177 : k0_chk177 v2163), ∀ a x, ((![v2163] : Fin 1 → IVec S16 32) a x).toNat < S32000.size a := fun v2163 k0_hw177 => k0_hw177

def k0_chk178 (v2165 : IVec S16 32) : Prop :=
  (∀ a x, ((![v2165] : Fin 1 → IVec S16 32) a x).toNat < S32000.size a)
theorem k0_idx178_inb : ∀ (v2165 : IVec S16 32) (k0_hw178 : k0_chk178 v2165), ∀ a x, ((![v2165] : Fin 1 → IVec S16 32) a x).toNat < S32000.size a := fun v2165 k0_hw178 => k0_hw178

def k0_chk179 (v2167 : IVec S16 32) : Prop :=
  (∀ a x, ((![v2167] : Fin 1 → IVec S16 32) a x).toNat < S32000.size a)
theorem k0_idx179_inb : ∀ (v2167 : IVec S16 32) (k0_hw179 : k0_chk179 v2167), ∀ a x, ((![v2167] : Fin 1 → IVec S16 32) a x).toNat < S32000.size a := fun v2167 k0_hw179 => k0_hw179

def k0_chk180 (v2169 : IVec S16 32) : Prop :=
  (∀ a x, ((![v2169] : Fin 1 → IVec S16 32) a x).toNat < S32000.size a)
theorem k0_idx180_inb : ∀ (v2169 : IVec S16 32) (k0_hw180 : k0_chk180 v2169), ∀ a x, ((![v2169] : Fin 1 → IVec S16 32) a x).toNat < S32000.size a := fun v2169 k0_hw180 => k0_hw180

def k0_chk181 (v664 : IVec S16 32) (v2220 : IVec S16 32) : Prop :=
  (∀ a x, ((![v2220, v664] : Fin 2 → IVec S16 32) a x).toNat < S64x512.size a)
theorem k0_idx181_inb : ∀ (v664 : IVec S16 32) (v2220 : IVec S16 32) (k0_hw181 : k0_chk181 v664 v2220), ∀ a x, ((![v2220, v664] : Fin 2 → IVec S16 32) a x).toNat < S64x512.size a := fun v664 v2220 k0_hw181 => k0_hw181

def k0_chk182 (v664 : IVec S16 32) (v2222 : IVec S16 32) : Prop :=
  (∀ a x, ((![v2222, v664] : Fin 2 → IVec S16 32) a x).toNat < S64x512.size a)
theorem k0_idx182_inb : ∀ (v664 : IVec S16 32) (v2222 : IVec S16 32) (k0_hw182 : k0_chk182 v664 v2222), ∀ a x, ((![v2222, v664] : Fin 2 → IVec S16 32) a x).toNat < S64x512.size a := fun v664 v2222 k0_hw182 => k0_hw182

def k0_chk183 (v2229 : IVec S16 32) : Prop :=
  (∀ a x, ((![v2229] : Fin 1 → IVec S16 32) a x).toNat < S32000.size a)
theorem k0_idx183_inb : ∀ (v2229 : IVec S16 32) (k0_hw183 : k0_chk183 v2229), ∀ a x, ((![v2229] : Fin 1 → IVec S16 32) a x).toNat < S32000.size a := fun v2229 k0_hw183 => k0_hw183

def k0_chk184 (v2231 : IVec S16 32) : Prop :=
  (∀ a x, ((![v2231] : Fin 1 → IVec S16 32) a x).toNat < S32000.size a)
theorem k0_idx184_inb : ∀ (v2231 : IVec S16 32) (k0_hw184 : k0_chk184 v2231), ∀ a x, ((![v2231] : Fin 1 → IVec S16 32) a x).toNat < S32000.size a := fun v2231 k0_hw184 => k0_hw184

def k0_chk185 (v2233 : IVec S16 32) : Prop :=
  (∀ a x, ((![v2233] : Fin 1 → IVec S16 32) a x).toNat < S32000.size a)
theorem k0_idx185_inb : ∀ (v2233 : IVec S16 32) (k0_hw185 : k0_chk185 v2233), ∀ a x, ((![v2233] : Fin 1 → IVec S16 32) a x).toNat < S32000.size a := fun v2233 k0_hw185 => k0_hw185

def k0_chk186 (v2235 : IVec S16 32) : Prop :=
  (∀ a x, ((![v2235] : Fin 1 → IVec S16 32) a x).toNat < S32000.size a)
theorem k0_idx186_inb : ∀ (v2235 : IVec S16 32) (k0_hw186 : k0_chk186 v2235), ∀ a x, ((![v2235] : Fin 1 → IVec S16 32) a x).toNat < S32000.size a := fun v2235 k0_hw186 => k0_hw186

def k0_chk187 (v2237 : IVec S16 32) : Prop :=
  (∀ a x, ((![v2237] : Fin 1 → IVec S16 32) a x).toNat < S32000.size a)
theorem k0_idx187_inb : ∀ (v2237 : IVec S16 32) (k0_hw187 : k0_chk187 v2237), ∀ a x, ((![v2237] : Fin 1 → IVec S16 32) a x).toNat < S32000.size a := fun v2237 k0_hw187 => k0_hw187

def k0_chk188 (v2239 : IVec S16 32) : Prop :=
  (∀ a x, ((![v2239] : Fin 1 → IVec S16 32) a x).toNat < S32000.size a)
theorem k0_idx188_inb : ∀ (v2239 : IVec S16 32) (k0_hw188 : k0_chk188 v2239), ∀ a x, ((![v2239] : Fin 1 → IVec S16 32) a x).toNat < S32000.size a := fun v2239 k0_hw188 => k0_hw188

def k0_chk189 (v664 : IVec S16 32) (v2290 : IVec S16 32) : Prop :=
  (∀ a x, ((![v2290, v664] : Fin 2 → IVec S16 32) a x).toNat < S64x512.size a)
theorem k0_idx189_inb : ∀ (v664 : IVec S16 32) (v2290 : IVec S16 32) (k0_hw189 : k0_chk189 v664 v2290), ∀ a x, ((![v2290, v664] : Fin 2 → IVec S16 32) a x).toNat < S64x512.size a := fun v664 v2290 k0_hw189 => k0_hw189

def k0_chk190 (v664 : IVec S16 32) (v2292 : IVec S16 32) : Prop :=
  (∀ a x, ((![v2292, v664] : Fin 2 → IVec S16 32) a x).toNat < S64x512.size a)
theorem k0_idx190_inb : ∀ (v664 : IVec S16 32) (v2292 : IVec S16 32) (k0_hw190 : k0_chk190 v664 v2292), ∀ a x, ((![v2292, v664] : Fin 2 → IVec S16 32) a x).toNat < S64x512.size a := fun v664 v2292 k0_hw190 => k0_hw190

def k0_chk191 (v2299 : IVec S16 32) : Prop :=
  (∀ a x, ((![v2299] : Fin 1 → IVec S16 32) a x).toNat < S32000.size a)
theorem k0_idx191_inb : ∀ (v2299 : IVec S16 32) (k0_hw191 : k0_chk191 v2299), ∀ a x, ((![v2299] : Fin 1 → IVec S16 32) a x).toNat < S32000.size a := fun v2299 k0_hw191 => k0_hw191

def k0_chk192 (v2301 : IVec S16 32) : Prop :=
  (∀ a x, ((![v2301] : Fin 1 → IVec S16 32) a x).toNat < S32000.size a)
theorem k0_idx192_inb : ∀ (v2301 : IVec S16 32) (k0_hw192 : k0_chk192 v2301), ∀ a x, ((![v2301] : Fin 1 → IVec S16 32) a x).toNat < S32000.size a := fun v2301 k0_hw192 => k0_hw192

def k0_chk193 (v2303 : IVec S16 32) : Prop :=
  (∀ a x, ((![v2303] : Fin 1 → IVec S16 32) a x).toNat < S32000.size a)
theorem k0_idx193_inb : ∀ (v2303 : IVec S16 32) (k0_hw193 : k0_chk193 v2303), ∀ a x, ((![v2303] : Fin 1 → IVec S16 32) a x).toNat < S32000.size a := fun v2303 k0_hw193 => k0_hw193

def k0_chk194 (v2305 : IVec S16 32) : Prop :=
  (∀ a x, ((![v2305] : Fin 1 → IVec S16 32) a x).toNat < S32000.size a)
theorem k0_idx194_inb : ∀ (v2305 : IVec S16 32) (k0_hw194 : k0_chk194 v2305), ∀ a x, ((![v2305] : Fin 1 → IVec S16 32) a x).toNat < S32000.size a := fun v2305 k0_hw194 => k0_hw194

def k0_chk195 (v2307 : IVec S16 32) : Prop :=
  (∀ a x, ((![v2307] : Fin 1 → IVec S16 32) a x).toNat < S32000.size a)
theorem k0_idx195_inb : ∀ (v2307 : IVec S16 32) (k0_hw195 : k0_chk195 v2307), ∀ a x, ((![v2307] : Fin 1 → IVec S16 32) a x).toNat < S32000.size a := fun v2307 k0_hw195 => k0_hw195

def k0_chk196 (v2309 : IVec S16 32) : Prop :=
  (∀ a x, ((![v2309] : Fin 1 → IVec S16 32) a x).toNat < S32000.size a)
theorem k0_idx196_inb : ∀ (v2309 : IVec S16 32) (k0_hw196 : k0_chk196 v2309), ∀ a x, ((![v2309] : Fin 1 → IVec S16 32) a x).toNat < S32000.size a := fun v2309 k0_hw196 => k0_hw196

def k0_chk197 (v664 : IVec S16 32) (v2360 : IVec S16 32) : Prop :=
  (∀ a x, ((![v2360, v664] : Fin 2 → IVec S16 32) a x).toNat < S64x512.size a)
theorem k0_idx197_inb : ∀ (v664 : IVec S16 32) (v2360 : IVec S16 32) (k0_hw197 : k0_chk197 v664 v2360), ∀ a x, ((![v2360, v664] : Fin 2 → IVec S16 32) a x).toNat < S64x512.size a := fun v664 v2360 k0_hw197 => k0_hw197

def k0_chk198 (v664 : IVec S16 32) (v2362 : IVec S16 32) : Prop :=
  (∀ a x, ((![v2362, v664] : Fin 2 → IVec S16 32) a x).toNat < S64x512.size a)
theorem k0_idx198_inb : ∀ (v664 : IVec S16 32) (v2362 : IVec S16 32) (k0_hw198 : k0_chk198 v664 v2362), ∀ a x, ((![v2362, v664] : Fin 2 → IVec S16 32) a x).toNat < S64x512.size a := fun v664 v2362 k0_hw198 => k0_hw198

def k0_chk199 (v2369 : IVec S16 32) : Prop :=
  (∀ a x, ((![v2369] : Fin 1 → IVec S16 32) a x).toNat < S32000.size a)
theorem k0_idx199_inb : ∀ (v2369 : IVec S16 32) (k0_hw199 : k0_chk199 v2369), ∀ a x, ((![v2369] : Fin 1 → IVec S16 32) a x).toNat < S32000.size a := fun v2369 k0_hw199 => k0_hw199

def k0_chk200 (v2371 : IVec S16 32) : Prop :=
  (∀ a x, ((![v2371] : Fin 1 → IVec S16 32) a x).toNat < S32000.size a)
theorem k0_idx200_inb : ∀ (v2371 : IVec S16 32) (k0_hw200 : k0_chk200 v2371), ∀ a x, ((![v2371] : Fin 1 → IVec S16 32) a x).toNat < S32000.size a := fun v2371 k0_hw200 => k0_hw200

def k0_chk201 (v2373 : IVec S16 32) : Prop :=
  (∀ a x, ((![v2373] : Fin 1 → IVec S16 32) a x).toNat < S32000.size a)
theorem k0_idx201_inb : ∀ (v2373 : IVec S16 32) (k0_hw201 : k0_chk201 v2373), ∀ a x, ((![v2373] : Fin 1 → IVec S16 32) a x).toNat < S32000.size a := fun v2373 k0_hw201 => k0_hw201

def k0_chk202 (v2375 : IVec S16 32) : Prop :=
  (∀ a x, ((![v2375] : Fin 1 → IVec S16 32) a x).toNat < S32000.size a)
theorem k0_idx202_inb : ∀ (v2375 : IVec S16 32) (k0_hw202 : k0_chk202 v2375), ∀ a x, ((![v2375] : Fin 1 → IVec S16 32) a x).toNat < S32000.size a := fun v2375 k0_hw202 => k0_hw202

def k0_chk203 (v2377 : IVec S16 32) : Prop :=
  (∀ a x, ((![v2377] : Fin 1 → IVec S16 32) a x).toNat < S32000.size a)
theorem k0_idx203_inb : ∀ (v2377 : IVec S16 32) (k0_hw203 : k0_chk203 v2377), ∀ a x, ((![v2377] : Fin 1 → IVec S16 32) a x).toNat < S32000.size a := fun v2377 k0_hw203 => k0_hw203

def k0_chk204 (v2379 : IVec S16 32) : Prop :=
  (∀ a x, ((![v2379] : Fin 1 → IVec S16 32) a x).toNat < S32000.size a)
theorem k0_idx204_inb : ∀ (v2379 : IVec S16 32) (k0_hw204 : k0_chk204 v2379), ∀ a x, ((![v2379] : Fin 1 → IVec S16 32) a x).toNat < S32000.size a := fun v2379 k0_hw204 => k0_hw204

def k0_chk205 (v664 : IVec S16 32) (v2430 : IVec S16 32) : Prop :=
  (∀ a x, ((![v2430, v664] : Fin 2 → IVec S16 32) a x).toNat < S64x512.size a)
theorem k0_idx205_inb : ∀ (v664 : IVec S16 32) (v2430 : IVec S16 32) (k0_hw205 : k0_chk205 v664 v2430), ∀ a x, ((![v2430, v664] : Fin 2 → IVec S16 32) a x).toNat < S64x512.size a := fun v664 v2430 k0_hw205 => k0_hw205

def k0_chk206 (v664 : IVec S16 32) (v2432 : IVec S16 32) : Prop :=
  (∀ a x, ((![v2432, v664] : Fin 2 → IVec S16 32) a x).toNat < S64x512.size a)
theorem k0_idx206_inb : ∀ (v664 : IVec S16 32) (v2432 : IVec S16 32) (k0_hw206 : k0_chk206 v664 v2432), ∀ a x, ((![v2432, v664] : Fin 2 → IVec S16 32) a x).toNat < S64x512.size a := fun v664 v2432 k0_hw206 => k0_hw206

def k0_chk207 (v2439 : IVec S16 32) : Prop :=
  (∀ a x, ((![v2439] : Fin 1 → IVec S16 32) a x).toNat < S32000.size a)
theorem k0_idx207_inb : ∀ (v2439 : IVec S16 32) (k0_hw207 : k0_chk207 v2439), ∀ a x, ((![v2439] : Fin 1 → IVec S16 32) a x).toNat < S32000.size a := fun v2439 k0_hw207 => k0_hw207

def k0_chk208 (v2441 : IVec S16 32) : Prop :=
  (∀ a x, ((![v2441] : Fin 1 → IVec S16 32) a x).toNat < S32000.size a)
theorem k0_idx208_inb : ∀ (v2441 : IVec S16 32) (k0_hw208 : k0_chk208 v2441), ∀ a x, ((![v2441] : Fin 1 → IVec S16 32) a x).toNat < S32000.size a := fun v2441 k0_hw208 => k0_hw208

def k0_chk209 (v2443 : IVec S16 32) : Prop :=
  (∀ a x, ((![v2443] : Fin 1 → IVec S16 32) a x).toNat < S32000.size a)
theorem k0_idx209_inb : ∀ (v2443 : IVec S16 32) (k0_hw209 : k0_chk209 v2443), ∀ a x, ((![v2443] : Fin 1 → IVec S16 32) a x).toNat < S32000.size a := fun v2443 k0_hw209 => k0_hw209

def k0_chk210 (v2445 : IVec S16 32) : Prop :=
  (∀ a x, ((![v2445] : Fin 1 → IVec S16 32) a x).toNat < S32000.size a)
theorem k0_idx210_inb : ∀ (v2445 : IVec S16 32) (k0_hw210 : k0_chk210 v2445), ∀ a x, ((![v2445] : Fin 1 → IVec S16 32) a x).toNat < S32000.size a := fun v2445 k0_hw210 => k0_hw210

def k0_chk211 (v2447 : IVec S16 32) : Prop :=
  (∀ a x, ((![v2447] : Fin 1 → IVec S16 32) a x).toNat < S32000.size a)
theorem k0_idx211_inb : ∀ (v2447 : IVec S16 32) (k0_hw211 : k0_chk211 v2447), ∀ a x, ((![v2447] : Fin 1 → IVec S16 32) a x).toNat < S32000.size a := fun v2447 k0_hw211 => k0_hw211

def k0_chk212 (v2449 : IVec S16 32) : Prop :=
  (∀ a x, ((![v2449] : Fin 1 → IVec S16 32) a x).toNat < S32000.size a)
theorem k0_idx212_inb : ∀ (v2449 : IVec S16 32) (k0_hw212 : k0_chk212 v2449), ∀ a x, ((![v2449] : Fin 1 → IVec S16 32) a x).toNat < S32000.size a := fun v2449 k0_hw212 => k0_hw212

def k0_chk213 (v664 : IVec S16 32) (v2500 : IVec S16 32) : Prop :=
  (∀ a x, ((![v2500, v664] : Fin 2 → IVec S16 32) a x).toNat < S64x512.size a)
theorem k0_idx213_inb : ∀ (v664 : IVec S16 32) (v2500 : IVec S16 32) (k0_hw213 : k0_chk213 v664 v2500), ∀ a x, ((![v2500, v664] : Fin 2 → IVec S16 32) a x).toNat < S64x512.size a := fun v664 v2500 k0_hw213 => k0_hw213

def k0_chk214 (v664 : IVec S16 32) (v2502 : IVec S16 32) : Prop :=
  (∀ a x, ((![v2502, v664] : Fin 2 → IVec S16 32) a x).toNat < S64x512.size a)
theorem k0_idx214_inb : ∀ (v664 : IVec S16 32) (v2502 : IVec S16 32) (k0_hw214 : k0_chk214 v664 v2502), ∀ a x, ((![v2502, v664] : Fin 2 → IVec S16 32) a x).toNat < S64x512.size a := fun v664 v2502 k0_hw214 => k0_hw214

def k0_chk215 (v2509 : IVec S16 32) : Prop :=
  (∀ a x, ((![v2509] : Fin 1 → IVec S16 32) a x).toNat < S32000.size a)
theorem k0_idx215_inb : ∀ (v2509 : IVec S16 32) (k0_hw215 : k0_chk215 v2509), ∀ a x, ((![v2509] : Fin 1 → IVec S16 32) a x).toNat < S32000.size a := fun v2509 k0_hw215 => k0_hw215

def k0_chk216 (v2511 : IVec S16 32) : Prop :=
  (∀ a x, ((![v2511] : Fin 1 → IVec S16 32) a x).toNat < S32000.size a)
theorem k0_idx216_inb : ∀ (v2511 : IVec S16 32) (k0_hw216 : k0_chk216 v2511), ∀ a x, ((![v2511] : Fin 1 → IVec S16 32) a x).toNat < S32000.size a := fun v2511 k0_hw216 => k0_hw216

def k0_chk217 (v2513 : IVec S16 32) : Prop :=
  (∀ a x, ((![v2513] : Fin 1 → IVec S16 32) a x).toNat < S32000.size a)
theorem k0_idx217_inb : ∀ (v2513 : IVec S16 32) (k0_hw217 : k0_chk217 v2513), ∀ a x, ((![v2513] : Fin 1 → IVec S16 32) a x).toNat < S32000.size a := fun v2513 k0_hw217 => k0_hw217

def k0_chk218 (v2515 : IVec S16 32) : Prop :=
  (∀ a x, ((![v2515] : Fin 1 → IVec S16 32) a x).toNat < S32000.size a)
theorem k0_idx218_inb : ∀ (v2515 : IVec S16 32) (k0_hw218 : k0_chk218 v2515), ∀ a x, ((![v2515] : Fin 1 → IVec S16 32) a x).toNat < S32000.size a := fun v2515 k0_hw218 => k0_hw218

def k0_chk219 (v2517 : IVec S16 32) : Prop :=
  (∀ a x, ((![v2517] : Fin 1 → IVec S16 32) a x).toNat < S32000.size a)
theorem k0_idx219_inb : ∀ (v2517 : IVec S16 32) (k0_hw219 : k0_chk219 v2517), ∀ a x, ((![v2517] : Fin 1 → IVec S16 32) a x).toNat < S32000.size a := fun v2517 k0_hw219 => k0_hw219

def k0_chk220 (v2519 : IVec S16 32) : Prop :=
  (∀ a x, ((![v2519] : Fin 1 → IVec S16 32) a x).toNat < S32000.size a)
theorem k0_idx220_inb : ∀ (v2519 : IVec S16 32) (k0_hw220 : k0_chk220 v2519), ∀ a x, ((![v2519] : Fin 1 → IVec S16 32) a x).toNat < S32000.size a := fun v2519 k0_hw220 => k0_hw220

def k0_chk221 (v664 : IVec S16 32) (v2570 : IVec S16 32) : Prop :=
  (∀ a x, ((![v2570, v664] : Fin 2 → IVec S16 32) a x).toNat < S64x512.size a)
theorem k0_idx221_inb : ∀ (v664 : IVec S16 32) (v2570 : IVec S16 32) (k0_hw221 : k0_chk221 v664 v2570), ∀ a x, ((![v2570, v664] : Fin 2 → IVec S16 32) a x).toNat < S64x512.size a := fun v664 v2570 k0_hw221 => k0_hw221

def k0_chk222 (v664 : IVec S16 32) (v2572 : IVec S16 32) : Prop :=
  (∀ a x, ((![v2572, v664] : Fin 2 → IVec S16 32) a x).toNat < S64x512.size a)
theorem k0_idx222_inb : ∀ (v664 : IVec S16 32) (v2572 : IVec S16 32) (k0_hw222 : k0_chk222 v664 v2572), ∀ a x, ((![v2572, v664] : Fin 2 → IVec S16 32) a x).toNat < S64x512.size a := fun v664 v2572 k0_hw222 => k0_hw222

def k0_chk223 (v2579 : IVec S16 32) : Prop :=
  (∀ a x, ((![v2579] : Fin 1 → IVec S16 32) a x).toNat < S32000.size a)
theorem k0_idx223_inb : ∀ (v2579 : IVec S16 32) (k0_hw223 : k0_chk223 v2579), ∀ a x, ((![v2579] : Fin 1 → IVec S16 32) a x).toNat < S32000.size a := fun v2579 k0_hw223 => k0_hw223

def k0_chk224 (v2581 : IVec S16 32) : Prop :=
  (∀ a x, ((![v2581] : Fin 1 → IVec S16 32) a x).toNat < S32000.size a)
theorem k0_idx224_inb : ∀ (v2581 : IVec S16 32) (k0_hw224 : k0_chk224 v2581), ∀ a x, ((![v2581] : Fin 1 → IVec S16 32) a x).toNat < S32000.size a := fun v2581 k0_hw224 => k0_hw224

def k0_chk225 (v2583 : IVec S16 32) : Prop :=
  (∀ a x, ((![v2583] : Fin 1 → IVec S16 32) a x).toNat < S32000.size a)
theorem k0_idx225_inb : ∀ (v2583 : IVec S16 32) (k0_hw225 : k0_chk225 v2583), ∀ a x, ((![v2583] : Fin 1 → IVec S16 32) a x).toNat < S32000.size a := fun v2583 k0_hw225 => k0_hw225

def k0_chk226 (v2585 : IVec S16 32) : Prop :=
  (∀ a x, ((![v2585] : Fin 1 → IVec S16 32) a x).toNat < S32000.size a)
theorem k0_idx226_inb : ∀ (v2585 : IVec S16 32) (k0_hw226 : k0_chk226 v2585), ∀ a x, ((![v2585] : Fin 1 → IVec S16 32) a x).toNat < S32000.size a := fun v2585 k0_hw226 => k0_hw226

def k0_chk227 (v2587 : IVec S16 32) : Prop :=
  (∀ a x, ((![v2587] : Fin 1 → IVec S16 32) a x).toNat < S32000.size a)
theorem k0_idx227_inb : ∀ (v2587 : IVec S16 32) (k0_hw227 : k0_chk227 v2587), ∀ a x, ((![v2587] : Fin 1 → IVec S16 32) a x).toNat < S32000.size a := fun v2587 k0_hw227 => k0_hw227

def k0_chk228 (v2589 : IVec S16 32) : Prop :=
  (∀ a x, ((![v2589] : Fin 1 → IVec S16 32) a x).toNat < S32000.size a)
theorem k0_idx228_inb : ∀ (v2589 : IVec S16 32) (k0_hw228 : k0_chk228 v2589), ∀ a x, ((![v2589] : Fin 1 → IVec S16 32) a x).toNat < S32000.size a := fun v2589 k0_hw228 => k0_hw228

def k0_chk229 (v664 : IVec S16 32) (v2640 : IVec S16 32) : Prop :=
  (∀ a x, ((![v2640, v664] : Fin 2 → IVec S16 32) a x).toNat < S64x512.size a)
theorem k0_idx229_inb : ∀ (v664 : IVec S16 32) (v2640 : IVec S16 32) (k0_hw229 : k0_chk229 v664 v2640), ∀ a x, ((![v2640, v664] : Fin 2 → IVec S16 32) a x).toNat < S64x512.size a := fun v664 v2640 k0_hw229 => k0_hw229

def k0_chk230 (v664 : IVec S16 32) (v2642 : IVec S16 32) : Prop :=
  (∀ a x, ((![v2642, v664] : Fin 2 → IVec S16 32) a x).toNat < S64x512.size a)
theorem k0_idx230_inb : ∀ (v664 : IVec S16 32) (v2642 : IVec S16 32) (k0_hw230 : k0_chk230 v664 v2642), ∀ a x, ((![v2642, v664] : Fin 2 → IVec S16 32) a x).toNat < S64x512.size a := fun v664 v2642 k0_hw230 => k0_hw230

def k0_chk231 (v2649 : IVec S16 32) : Prop :=
  (∀ a x, ((![v2649] : Fin 1 → IVec S16 32) a x).toNat < S32000.size a)
theorem k0_idx231_inb : ∀ (v2649 : IVec S16 32) (k0_hw231 : k0_chk231 v2649), ∀ a x, ((![v2649] : Fin 1 → IVec S16 32) a x).toNat < S32000.size a := fun v2649 k0_hw231 => k0_hw231

def k0_chk232 (v2651 : IVec S16 32) : Prop :=
  (∀ a x, ((![v2651] : Fin 1 → IVec S16 32) a x).toNat < S32000.size a)
theorem k0_idx232_inb : ∀ (v2651 : IVec S16 32) (k0_hw232 : k0_chk232 v2651), ∀ a x, ((![v2651] : Fin 1 → IVec S16 32) a x).toNat < S32000.size a := fun v2651 k0_hw232 => k0_hw232

def k0_chk233 (v2653 : IVec S16 32) : Prop :=
  (∀ a x, ((![v2653] : Fin 1 → IVec S16 32) a x).toNat < S32000.size a)
theorem k0_idx233_inb : ∀ (v2653 : IVec S16 32) (k0_hw233 : k0_chk233 v2653), ∀ a x, ((![v2653] : Fin 1 → IVec S16 32) a x).toNat < S32000.size a := fun v2653 k0_hw233 => k0_hw233

def k0_chk234 (v2655 : IVec S16 32) : Prop :=
  (∀ a x, ((![v2655] : Fin 1 → IVec S16 32) a x).toNat < S32000.size a)
theorem k0_idx234_inb : ∀ (v2655 : IVec S16 32) (k0_hw234 : k0_chk234 v2655), ∀ a x, ((![v2655] : Fin 1 → IVec S16 32) a x).toNat < S32000.size a := fun v2655 k0_hw234 => k0_hw234

def k0_chk235 (v2657 : IVec S16 32) : Prop :=
  (∀ a x, ((![v2657] : Fin 1 → IVec S16 32) a x).toNat < S32000.size a)
theorem k0_idx235_inb : ∀ (v2657 : IVec S16 32) (k0_hw235 : k0_chk235 v2657), ∀ a x, ((![v2657] : Fin 1 → IVec S16 32) a x).toNat < S32000.size a := fun v2657 k0_hw235 => k0_hw235

def k0_chk236 (v2659 : IVec S16 32) : Prop :=
  (∀ a x, ((![v2659] : Fin 1 → IVec S16 32) a x).toNat < S32000.size a)
theorem k0_idx236_inb : ∀ (v2659 : IVec S16 32) (k0_hw236 : k0_chk236 v2659), ∀ a x, ((![v2659] : Fin 1 → IVec S16 32) a x).toNat < S32000.size a := fun v2659 k0_hw236 => k0_hw236

def k0_chk237 (v664 : IVec S16 32) (v2710 : IVec S16 32) : Prop :=
  (∀ a x, ((![v2710, v664] : Fin 2 → IVec S16 32) a x).toNat < S64x512.size a)
theorem k0_idx237_inb : ∀ (v664 : IVec S16 32) (v2710 : IVec S16 32) (k0_hw237 : k0_chk237 v664 v2710), ∀ a x, ((![v2710, v664] : Fin 2 → IVec S16 32) a x).toNat < S64x512.size a := fun v664 v2710 k0_hw237 => k0_hw237

def k0_chk238 (v664 : IVec S16 32) (v2712 : IVec S16 32) : Prop :=
  (∀ a x, ((![v2712, v664] : Fin 2 → IVec S16 32) a x).toNat < S64x512.size a)
theorem k0_idx238_inb : ∀ (v664 : IVec S16 32) (v2712 : IVec S16 32) (k0_hw238 : k0_chk238 v664 v2712), ∀ a x, ((![v2712, v664] : Fin 2 → IVec S16 32) a x).toNat < S64x512.size a := fun v664 v2712 k0_hw238 => k0_hw238

def k0_chk239 (v2719 : IVec S16 32) : Prop :=
  (∀ a x, ((![v2719] : Fin 1 → IVec S16 32) a x).toNat < S32000.size a)
theorem k0_idx239_inb : ∀ (v2719 : IVec S16 32) (k0_hw239 : k0_chk239 v2719), ∀ a x, ((![v2719] : Fin 1 → IVec S16 32) a x).toNat < S32000.size a := fun v2719 k0_hw239 => k0_hw239

def k0_chk240 (v2721 : IVec S16 32) : Prop :=
  (∀ a x, ((![v2721] : Fin 1 → IVec S16 32) a x).toNat < S32000.size a)
theorem k0_idx240_inb : ∀ (v2721 : IVec S16 32) (k0_hw240 : k0_chk240 v2721), ∀ a x, ((![v2721] : Fin 1 → IVec S16 32) a x).toNat < S32000.size a := fun v2721 k0_hw240 => k0_hw240

def k0_chk241 (v2723 : IVec S16 32) : Prop :=
  (∀ a x, ((![v2723] : Fin 1 → IVec S16 32) a x).toNat < S32000.size a)
theorem k0_idx241_inb : ∀ (v2723 : IVec S16 32) (k0_hw241 : k0_chk241 v2723), ∀ a x, ((![v2723] : Fin 1 → IVec S16 32) a x).toNat < S32000.size a := fun v2723 k0_hw241 => k0_hw241

def k0_chk242 (v2725 : IVec S16 32) : Prop :=
  (∀ a x, ((![v2725] : Fin 1 → IVec S16 32) a x).toNat < S32000.size a)
theorem k0_idx242_inb : ∀ (v2725 : IVec S16 32) (k0_hw242 : k0_chk242 v2725), ∀ a x, ((![v2725] : Fin 1 → IVec S16 32) a x).toNat < S32000.size a := fun v2725 k0_hw242 => k0_hw242

def k0_chk243 (v2727 : IVec S16 32) : Prop :=
  (∀ a x, ((![v2727] : Fin 1 → IVec S16 32) a x).toNat < S32000.size a)
theorem k0_idx243_inb : ∀ (v2727 : IVec S16 32) (k0_hw243 : k0_chk243 v2727), ∀ a x, ((![v2727] : Fin 1 → IVec S16 32) a x).toNat < S32000.size a := fun v2727 k0_hw243 => k0_hw243

def k0_chk244 (v2729 : IVec S16 32) : Prop :=
  (∀ a x, ((![v2729] : Fin 1 → IVec S16 32) a x).toNat < S32000.size a)
theorem k0_idx244_inb : ∀ (v2729 : IVec S16 32) (k0_hw244 : k0_chk244 v2729), ∀ a x, ((![v2729] : Fin 1 → IVec S16 32) a x).toNat < S32000.size a := fun v2729 k0_hw244 => k0_hw244

def k0_chk245 (v664 : IVec S16 32) (v2780 : IVec S16 32) : Prop :=
  (∀ a x, ((![v2780, v664] : Fin 2 → IVec S16 32) a x).toNat < S64x512.size a)
theorem k0_idx245_inb : ∀ (v664 : IVec S16 32) (v2780 : IVec S16 32) (k0_hw245 : k0_chk245 v664 v2780), ∀ a x, ((![v2780, v664] : Fin 2 → IVec S16 32) a x).toNat < S64x512.size a := fun v664 v2780 k0_hw245 => k0_hw245

def k0_chk246 (v664 : IVec S16 32) (v2782 : IVec S16 32) : Prop :=
  (∀ a x, ((![v2782, v664] : Fin 2 → IVec S16 32) a x).toNat < S64x512.size a)
theorem k0_idx246_inb : ∀ (v664 : IVec S16 32) (v2782 : IVec S16 32) (k0_hw246 : k0_chk246 v664 v2782), ∀ a x, ((![v2782, v664] : Fin 2 → IVec S16 32) a x).toNat < S64x512.size a := fun v664 v2782 k0_hw246 => k0_hw246

def k0_chk247 (v2789 : IVec S16 32) : Prop :=
  (∀ a x, ((![v2789] : Fin 1 → IVec S16 32) a x).toNat < S32000.size a)
theorem k0_idx247_inb : ∀ (v2789 : IVec S16 32) (k0_hw247 : k0_chk247 v2789), ∀ a x, ((![v2789] : Fin 1 → IVec S16 32) a x).toNat < S32000.size a := fun v2789 k0_hw247 => k0_hw247

def k0_chk248 (v2791 : IVec S16 32) : Prop :=
  (∀ a x, ((![v2791] : Fin 1 → IVec S16 32) a x).toNat < S32000.size a)
theorem k0_idx248_inb : ∀ (v2791 : IVec S16 32) (k0_hw248 : k0_chk248 v2791), ∀ a x, ((![v2791] : Fin 1 → IVec S16 32) a x).toNat < S32000.size a := fun v2791 k0_hw248 => k0_hw248

def k0_chk249 (v2793 : IVec S16 32) : Prop :=
  (∀ a x, ((![v2793] : Fin 1 → IVec S16 32) a x).toNat < S32000.size a)
theorem k0_idx249_inb : ∀ (v2793 : IVec S16 32) (k0_hw249 : k0_chk249 v2793), ∀ a x, ((![v2793] : Fin 1 → IVec S16 32) a x).toNat < S32000.size a := fun v2793 k0_hw249 => k0_hw249

def k0_chk250 (v2795 : IVec S16 32) : Prop :=
  (∀ a x, ((![v2795] : Fin 1 → IVec S16 32) a x).toNat < S32000.size a)
theorem k0_idx250_inb : ∀ (v2795 : IVec S16 32) (k0_hw250 : k0_chk250 v2795), ∀ a x, ((![v2795] : Fin 1 → IVec S16 32) a x).toNat < S32000.size a := fun v2795 k0_hw250 => k0_hw250

def k0_chk251 (v2797 : IVec S16 32) : Prop :=
  (∀ a x, ((![v2797] : Fin 1 → IVec S16 32) a x).toNat < S32000.size a)
theorem k0_idx251_inb : ∀ (v2797 : IVec S16 32) (k0_hw251 : k0_chk251 v2797), ∀ a x, ((![v2797] : Fin 1 → IVec S16 32) a x).toNat < S32000.size a := fun v2797 k0_hw251 => k0_hw251

def k0_chk252 (v2799 : IVec S16 32) : Prop :=
  (∀ a x, ((![v2799] : Fin 1 → IVec S16 32) a x).toNat < S32000.size a)
theorem k0_idx252_inb : ∀ (v2799 : IVec S16 32) (k0_hw252 : k0_chk252 v2799), ∀ a x, ((![v2799] : Fin 1 → IVec S16 32) a x).toNat < S32000.size a := fun v2799 k0_hw252 => k0_hw252

def k0_chk253 (v664 : IVec S16 32) (v2850 : IVec S16 32) : Prop :=
  (∀ a x, ((![v2850, v664] : Fin 2 → IVec S16 32) a x).toNat < S64x512.size a)
theorem k0_idx253_inb : ∀ (v664 : IVec S16 32) (v2850 : IVec S16 32) (k0_hw253 : k0_chk253 v664 v2850), ∀ a x, ((![v2850, v664] : Fin 2 → IVec S16 32) a x).toNat < S64x512.size a := fun v664 v2850 k0_hw253 => k0_hw253

def k0_chk254 (v664 : IVec S16 32) (v2852 : IVec S16 32) : Prop :=
  (∀ a x, ((![v2852, v664] : Fin 2 → IVec S16 32) a x).toNat < S64x512.size a)
theorem k0_idx254_inb : ∀ (v664 : IVec S16 32) (v2852 : IVec S16 32) (k0_hw254 : k0_chk254 v664 v2852), ∀ a x, ((![v2852, v664] : Fin 2 → IVec S16 32) a x).toNat < S64x512.size a := fun v664 v2852 k0_hw254 => k0_hw254

def k0_chk255 (v664 : IVec S16 32) (v2902 : IVec S16 32) : Prop :=
  (∀ a x, ((![v2902, v664] : Fin 2 → IVec S16 32) a x).toNat < S64x512.size a)
theorem k0_idx255_inb : ∀ (v664 : IVec S16 32) (v2902 : IVec S16 32) (k0_hw255 : k0_chk255 v664 v2902), ∀ a x, ((![v2902, v664] : Fin 2 → IVec S16 32) a x).toNat < S64x512.size a := fun v664 v2902 k0_hw255 => k0_hw255

def k0_chk256 (v664 : IVec S16 32) (v2904 : IVec S16 32) : Prop :=
  (∀ a x, ((![v2904, v664] : Fin 2 → IVec S16 32) a x).toNat < S64x512.size a)
theorem k0_idx256_inb : ∀ (v664 : IVec S16 32) (v2904 : IVec S16 32) (k0_hw256 : k0_chk256 v664 v2904), ∀ a x, ((![v2904, v664] : Fin 2 → IVec S16 32) a x).toNat < S64x512.size a := fun v664 v2904 k0_hw256 => k0_hw256
def k0_off8 (i : grid0.Coords) (c0_i32_39 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_38 : BitVec 32 := 8#32
  let v76 : BitVec 32 := Scalar.muli v1 c8_i32_38
  let v77 : BitVec 32 := Scalar.addi v76 c0_i32_39
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c2_i32_40 : BitVec 32 := 2#32
  let c0_i32_43 : BitVec 32 := 0#32
  let v84 : BitVec 1 := Scalar.cmpi .sgt c2_i32_40 c0_i32_43
  let v85 : BitVec 32 := Scalar.extui v84
  let c0_i32_44 : BitVec 32 := 0#32
  let v86 : BitVec 1 := Scalar.cmpi .slt c2_i32_40 c0_i32_44
  let v87 : BitVec 32 := Scalar.extui v86
  let v88 : BitVec 32 := Scalar.subi v85 v87
  let v89 : BitVec 1 := Scalar.cmpi .ne v83 v88
  let v90 : BitVec 32 := Scalar.remsi v77 c2_i32_40
  let c0_i32_45 : BitVec 32 := 0#32
  let v91 : BitVec 1 := Scalar.cmpi .ne v90 c0_i32_45
  let v92 : BitVec 1 := Scalar.andi v89 v91
  let v78 : BitVec 32 := Scalar.divsi v77 c2_i32_40
  let c1_i32_46 : BitVec 32 := 1#32
  let v93 : BitVec 32 := Scalar.subi v78 c1_i32_46
  let v94 : BitVec 32 := Scalar.select v92 v93 v78
  let c0_i32_54 : BitVec 32 := 0#32
  let c2_i32_47 : BitVec 32 := 2#32
  let c0_i32_48 : BitVec 32 := 0#32
  let v95 : BitVec 1 := Scalar.cmpi .eq c2_i32_47 c0_i32_48
  let c1_i32_49 : BitVec 32 := 1#32
  let v96 : BitVec 32 := Scalar.select v95 c1_i32_49 c2_i32_47
  let v97 : BitVec 32 := Scalar.remsi v77 v96
  let c0_i32_51 : BitVec 32 := 0#32
  let v99 : BitVec 1 := Scalar.cmpi .slt v97 c0_i32_51
  let c0_i32_52 : BitVec 32 := 0#32
  let v100 : BitVec 1 := Scalar.cmpi .slt v96 c0_i32_52
  let v101 : BitVec 1 := Scalar.xori v99 v100
  let c0_i32_50 : BitVec 32 := 0#32
  let v98 : BitVec 1 := Scalar.cmpi .ne v97 c0_i32_50
  let v102 : BitVec 1 := Scalar.andi v101 v98
  let v103 : BitVec 32 := Scalar.addi v97 v96
  let v104 : BitVec 32 := Scalar.select v102 v103 v97
  let c512_i32_53 : BitVec 32 := 512#32
  let v105 : BitVec 32 := Scalar.muli v104 c512_i32_53
  ![v94.toNat, 0, v105.toNat]
@[reducible] def k0_t2_loop : Scf.Loop 32 :=
  let c0_i32_77 : BitVec 32 := 0#32
  let c32_i32_78 : BitVec 32 := 32#32
  let v149 : BitVec 32 := Scalar.addi c0_i32_77 c32_i32_78
  let c1_i32_79 : BitVec 32 := 1#32
  ⟨c0_i32_77, v149, c1_i32_79⟩
def k0_off9 (k0_t2 : Fin k0_t2_loop.trips) : Fin 2 → Nat :=
  let c0_i32_350 : BitVec 32 := 0#32
  let v627 : Index := Scalar.indexCast c0_i32_350
  let c0_i32_77 : BitVec 32 := 0#32
  let c1_i32_79 : BitVec 32 := 1#32
  let arg14 : BitVec 32 := Scf.iv c0_i32_77 c1_i32_79 k0_t2
  let c16_i32 : BitVec 32 := 16#32
  let v626 : BitVec 32 := Scalar.muli arg14 c16_i32
  let v628 : Index := Scalar.indexCast v626
  ![0, v628.toNat]
def k0_off10 (k0_t2 : Fin k0_t2_loop.trips) : Fin 2 → Nat :=
  let c1_i32_353 : BitVec 32 := 1#32
  let v633 : Index := Scalar.indexCast c1_i32_353
  let c0_i32_77 : BitVec 32 := 0#32
  let c1_i32_79 : BitVec 32 := 1#32
  let arg14 : BitVec 32 := Scf.iv c0_i32_77 c1_i32_79 k0_t2
  let c16_i32_352 : BitVec 32 := 16#32
  let v632 : BitVec 32 := Scalar.muli arg14 c16_i32_352
  let v634 : Index := Scalar.indexCast v632
  ![1, v634.toNat]
def k0_off11 (k0_t2 : Fin k0_t2_loop.trips) : Fin 2 → Nat :=
  let c2_i32_356 : BitVec 32 := 2#32
  let v639 : Index := Scalar.indexCast c2_i32_356
  let c0_i32_77 : BitVec 32 := 0#32
  let c1_i32_79 : BitVec 32 := 1#32
  let arg14 : BitVec 32 := Scf.iv c0_i32_77 c1_i32_79 k0_t2
  let c16_i32_355 : BitVec 32 := 16#32
  let v638 : BitVec 32 := Scalar.muli arg14 c16_i32_355
  let v640 : Index := Scalar.indexCast v638
  ![2, v640.toNat]
def k0_off12 (k0_t2 : Fin k0_t2_loop.trips) : Fin 2 → Nat :=
  let c3_i32_359 : BitVec 32 := 3#32
  let v645 : Index := Scalar.indexCast c3_i32_359
  let c0_i32_77 : BitVec 32 := 0#32
  let c1_i32_79 : BitVec 32 := 1#32
  let arg14 : BitVec 32 := Scf.iv c0_i32_77 c1_i32_79 k0_t2
  let c16_i32_358 : BitVec 32 := 16#32
  let v644 : BitVec 32 := Scalar.muli arg14 c16_i32_358
  let v646 : Index := Scalar.indexCast v644
  ![3, v646.toNat]
def k0_off13 (k0_t2 : Fin k0_t2_loop.trips) : Fin 2 → Nat :=
  let c4_i32_362 : BitVec 32 := 4#32
  let v651 : Index := Scalar.indexCast c4_i32_362
  let c0_i32_77 : BitVec 32 := 0#32
  let c1_i32_79 : BitVec 32 := 1#32
  let arg14 : BitVec 32 := Scf.iv c0_i32_77 c1_i32_79 k0_t2
  let c16_i32_361 : BitVec 32 := 16#32
  let v650 : BitVec 32 := Scalar.muli arg14 c16_i32_361
  let v652 : Index := Scalar.indexCast v650
  ![4, v652.toNat]
def k0_off14 (k0_t2 : Fin k0_t2_loop.trips) : Fin 2 → Nat :=
  let c5_i32_365 : BitVec 32 := 5#32
  let v657 : Index := Scalar.indexCast c5_i32_365
  let c0_i32_77 : BitVec 32 := 0#32
  let c1_i32_79 : BitVec 32 := 1#32
  let arg14 : BitVec 32 := Scf.iv c0_i32_77 c1_i32_79 k0_t2
  let c16_i32_364 : BitVec 32 := 16#32
  let v656 : BitVec 32 := Scalar.muli arg14 c16_i32_364
  let v658 : Index := Scalar.indexCast v656
  ![5, v658.toNat]

def k0_chk257 (v671 : IVec S16 32) : Prop :=
  (∀ a x, ((![v671] : Fin 1 → IVec S16 32) a x).toNat < S32000.size a)
theorem k0_idx257_inb : ∀ (v671 : IVec S16 32) (k0_hw257 : k0_chk257 v671), ∀ a x, ((![v671] : Fin 1 → IVec S16 32) a x).toNat < S32000.size a := fun v671 k0_hw257 => k0_hw257

def k0_chk258 (v673 : IVec S16 32) : Prop :=
  (∀ a x, ((![v673] : Fin 1 → IVec S16 32) a x).toNat < S32000.size a)
theorem k0_idx258_inb : ∀ (v673 : IVec S16 32) (k0_hw258 : k0_chk258 v673), ∀ a x, ((![v673] : Fin 1 → IVec S16 32) a x).toNat < S32000.size a := fun v673 k0_hw258 => k0_hw258

def k0_chk259 (v675 : IVec S16 32) : Prop :=
  (∀ a x, ((![v675] : Fin 1 → IVec S16 32) a x).toNat < S32000.size a)
theorem k0_idx259_inb : ∀ (v675 : IVec S16 32) (k0_hw259 : k0_chk259 v675), ∀ a x, ((![v675] : Fin 1 → IVec S16 32) a x).toNat < S32000.size a := fun v675 k0_hw259 => k0_hw259

def k0_chk260 (v677 : IVec S16 32) : Prop :=
  (∀ a x, ((![v677] : Fin 1 → IVec S16 32) a x).toNat < S32000.size a)
theorem k0_idx260_inb : ∀ (v677 : IVec S16 32) (k0_hw260 : k0_chk260 v677), ∀ a x, ((![v677] : Fin 1 → IVec S16 32) a x).toNat < S32000.size a := fun v677 k0_hw260 => k0_hw260

def k0_chk261 (v679 : IVec S16 32) : Prop :=
  (∀ a x, ((![v679] : Fin 1 → IVec S16 32) a x).toNat < S32000.size a)
theorem k0_idx261_inb : ∀ (v679 : IVec S16 32) (k0_hw261 : k0_chk261 v679), ∀ a x, ((![v679] : Fin 1 → IVec S16 32) a x).toNat < S32000.size a := fun v679 k0_hw261 => k0_hw261

def k0_chk262 (v681 : IVec S16 32) : Prop :=
  (∀ a x, ((![v681] : Fin 1 → IVec S16 32) a x).toNat < S32000.size a)
theorem k0_idx262_inb : ∀ (v681 : IVec S16 32) (k0_hw262 : k0_chk262 v681), ∀ a x, ((![v681] : Fin 1 → IVec S16 32) a x).toNat < S32000.size a := fun v681 k0_hw262 => k0_hw262

def k0_chk263 (v689 : IVec S16 32) : Prop :=
  (∀ a x, ((![v689] : Fin 1 → IVec S16 32) a x).toNat < S32000.size a)
theorem k0_idx263_inb : ∀ (v689 : IVec S16 32) (k0_hw263 : k0_chk263 v689), ∀ a x, ((![v689] : Fin 1 → IVec S16 32) a x).toNat < S32000.size a := fun v689 k0_hw263 => k0_hw263

def k0_chk264 (v691 : IVec S16 32) : Prop :=
  (∀ a x, ((![v691] : Fin 1 → IVec S16 32) a x).toNat < S32000.size a)
theorem k0_idx264_inb : ∀ (v691 : IVec S16 32) (k0_hw264 : k0_chk264 v691), ∀ a x, ((![v691] : Fin 1 → IVec S16 32) a x).toNat < S32000.size a := fun v691 k0_hw264 => k0_hw264

def k0_chk265 (v693 : IVec S16 32) : Prop :=
  (∀ a x, ((![v693] : Fin 1 → IVec S16 32) a x).toNat < S32000.size a)
theorem k0_idx265_inb : ∀ (v693 : IVec S16 32) (k0_hw265 : k0_chk265 v693), ∀ a x, ((![v693] : Fin 1 → IVec S16 32) a x).toNat < S32000.size a := fun v693 k0_hw265 => k0_hw265

def k0_chk266 (v695 : IVec S16 32) : Prop :=
  (∀ a x, ((![v695] : Fin 1 → IVec S16 32) a x).toNat < S32000.size a)
theorem k0_idx266_inb : ∀ (v695 : IVec S16 32) (k0_hw266 : k0_chk266 v695), ∀ a x, ((![v695] : Fin 1 → IVec S16 32) a x).toNat < S32000.size a := fun v695 k0_hw266 => k0_hw266

def k0_chk267 (v697 : IVec S16 32) : Prop :=
  (∀ a x, ((![v697] : Fin 1 → IVec S16 32) a x).toNat < S32000.size a)
theorem k0_idx267_inb : ∀ (v697 : IVec S16 32) (k0_hw267 : k0_chk267 v697), ∀ a x, ((![v697] : Fin 1 → IVec S16 32) a x).toNat < S32000.size a := fun v697 k0_hw267 => k0_hw267

def k0_chk268 (v699 : IVec S16 32) : Prop :=
  (∀ a x, ((![v699] : Fin 1 → IVec S16 32) a x).toNat < S32000.size a)
theorem k0_idx268_inb : ∀ (v699 : IVec S16 32) (k0_hw268 : k0_chk268 v699), ∀ a x, ((![v699] : Fin 1 → IVec S16 32) a x).toNat < S32000.size a := fun v699 k0_hw268 => k0_hw268

def k0_chk269 (v664 : IVec S16 32) (v750 : IVec S16 32) : Prop :=
  (∀ a x, ((![v750, v664] : Fin 2 → IVec S16 32) a x).toNat < S64x512.size a)
theorem k0_idx269_inb : ∀ (v664 : IVec S16 32) (v750 : IVec S16 32) (k0_hw269 : k0_chk269 v664 v750), ∀ a x, ((![v750, v664] : Fin 2 → IVec S16 32) a x).toNat < S64x512.size a := fun v664 v750 k0_hw269 => k0_hw269

def k0_chk270 (v664 : IVec S16 32) (v752 : IVec S16 32) : Prop :=
  (∀ a x, ((![v752, v664] : Fin 2 → IVec S16 32) a x).toNat < S64x512.size a)
theorem k0_idx270_inb : ∀ (v664 : IVec S16 32) (v752 : IVec S16 32) (k0_hw270 : k0_chk270 v664 v752), ∀ a x, ((![v752, v664] : Fin 2 → IVec S16 32) a x).toNat < S64x512.size a := fun v664 v752 k0_hw270 => k0_hw270

def k0_chk271 (v759 : IVec S16 32) : Prop :=
  (∀ a x, ((![v759] : Fin 1 → IVec S16 32) a x).toNat < S32000.size a)
theorem k0_idx271_inb : ∀ (v759 : IVec S16 32) (k0_hw271 : k0_chk271 v759), ∀ a x, ((![v759] : Fin 1 → IVec S16 32) a x).toNat < S32000.size a := fun v759 k0_hw271 => k0_hw271

def k0_chk272 (v761 : IVec S16 32) : Prop :=
  (∀ a x, ((![v761] : Fin 1 → IVec S16 32) a x).toNat < S32000.size a)
theorem k0_idx272_inb : ∀ (v761 : IVec S16 32) (k0_hw272 : k0_chk272 v761), ∀ a x, ((![v761] : Fin 1 → IVec S16 32) a x).toNat < S32000.size a := fun v761 k0_hw272 => k0_hw272

def k0_chk273 (v763 : IVec S16 32) : Prop :=
  (∀ a x, ((![v763] : Fin 1 → IVec S16 32) a x).toNat < S32000.size a)
theorem k0_idx273_inb : ∀ (v763 : IVec S16 32) (k0_hw273 : k0_chk273 v763), ∀ a x, ((![v763] : Fin 1 → IVec S16 32) a x).toNat < S32000.size a := fun v763 k0_hw273 => k0_hw273

def k0_chk274 (v765 : IVec S16 32) : Prop :=
  (∀ a x, ((![v765] : Fin 1 → IVec S16 32) a x).toNat < S32000.size a)
theorem k0_idx274_inb : ∀ (v765 : IVec S16 32) (k0_hw274 : k0_chk274 v765), ∀ a x, ((![v765] : Fin 1 → IVec S16 32) a x).toNat < S32000.size a := fun v765 k0_hw274 => k0_hw274

def k0_chk275 (v767 : IVec S16 32) : Prop :=
  (∀ a x, ((![v767] : Fin 1 → IVec S16 32) a x).toNat < S32000.size a)
theorem k0_idx275_inb : ∀ (v767 : IVec S16 32) (k0_hw275 : k0_chk275 v767), ∀ a x, ((![v767] : Fin 1 → IVec S16 32) a x).toNat < S32000.size a := fun v767 k0_hw275 => k0_hw275

def k0_chk276 (v769 : IVec S16 32) : Prop :=
  (∀ a x, ((![v769] : Fin 1 → IVec S16 32) a x).toNat < S32000.size a)
theorem k0_idx276_inb : ∀ (v769 : IVec S16 32) (k0_hw276 : k0_chk276 v769), ∀ a x, ((![v769] : Fin 1 → IVec S16 32) a x).toNat < S32000.size a := fun v769 k0_hw276 => k0_hw276

def k0_chk277 (v664 : IVec S16 32) (v820 : IVec S16 32) : Prop :=
  (∀ a x, ((![v820, v664] : Fin 2 → IVec S16 32) a x).toNat < S64x512.size a)
theorem k0_idx277_inb : ∀ (v664 : IVec S16 32) (v820 : IVec S16 32) (k0_hw277 : k0_chk277 v664 v820), ∀ a x, ((![v820, v664] : Fin 2 → IVec S16 32) a x).toNat < S64x512.size a := fun v664 v820 k0_hw277 => k0_hw277

def k0_chk278 (v664 : IVec S16 32) (v822 : IVec S16 32) : Prop :=
  (∀ a x, ((![v822, v664] : Fin 2 → IVec S16 32) a x).toNat < S64x512.size a)
theorem k0_idx278_inb : ∀ (v664 : IVec S16 32) (v822 : IVec S16 32) (k0_hw278 : k0_chk278 v664 v822), ∀ a x, ((![v822, v664] : Fin 2 → IVec S16 32) a x).toNat < S64x512.size a := fun v664 v822 k0_hw278 => k0_hw278

def k0_chk279 (v829 : IVec S16 32) : Prop :=
  (∀ a x, ((![v829] : Fin 1 → IVec S16 32) a x).toNat < S32000.size a)
theorem k0_idx279_inb : ∀ (v829 : IVec S16 32) (k0_hw279 : k0_chk279 v829), ∀ a x, ((![v829] : Fin 1 → IVec S16 32) a x).toNat < S32000.size a := fun v829 k0_hw279 => k0_hw279

def k0_chk280 (v831 : IVec S16 32) : Prop :=
  (∀ a x, ((![v831] : Fin 1 → IVec S16 32) a x).toNat < S32000.size a)
theorem k0_idx280_inb : ∀ (v831 : IVec S16 32) (k0_hw280 : k0_chk280 v831), ∀ a x, ((![v831] : Fin 1 → IVec S16 32) a x).toNat < S32000.size a := fun v831 k0_hw280 => k0_hw280

def k0_chk281 (v833 : IVec S16 32) : Prop :=
  (∀ a x, ((![v833] : Fin 1 → IVec S16 32) a x).toNat < S32000.size a)
theorem k0_idx281_inb : ∀ (v833 : IVec S16 32) (k0_hw281 : k0_chk281 v833), ∀ a x, ((![v833] : Fin 1 → IVec S16 32) a x).toNat < S32000.size a := fun v833 k0_hw281 => k0_hw281

def k0_chk282 (v835 : IVec S16 32) : Prop :=
  (∀ a x, ((![v835] : Fin 1 → IVec S16 32) a x).toNat < S32000.size a)
theorem k0_idx282_inb : ∀ (v835 : IVec S16 32) (k0_hw282 : k0_chk282 v835), ∀ a x, ((![v835] : Fin 1 → IVec S16 32) a x).toNat < S32000.size a := fun v835 k0_hw282 => k0_hw282

def k0_chk283 (v837 : IVec S16 32) : Prop :=
  (∀ a x, ((![v837] : Fin 1 → IVec S16 32) a x).toNat < S32000.size a)
theorem k0_idx283_inb : ∀ (v837 : IVec S16 32) (k0_hw283 : k0_chk283 v837), ∀ a x, ((![v837] : Fin 1 → IVec S16 32) a x).toNat < S32000.size a := fun v837 k0_hw283 => k0_hw283

def k0_chk284 (v839 : IVec S16 32) : Prop :=
  (∀ a x, ((![v839] : Fin 1 → IVec S16 32) a x).toNat < S32000.size a)
theorem k0_idx284_inb : ∀ (v839 : IVec S16 32) (k0_hw284 : k0_chk284 v839), ∀ a x, ((![v839] : Fin 1 → IVec S16 32) a x).toNat < S32000.size a := fun v839 k0_hw284 => k0_hw284

def k0_chk285 (v664 : IVec S16 32) (v890 : IVec S16 32) : Prop :=
  (∀ a x, ((![v890, v664] : Fin 2 → IVec S16 32) a x).toNat < S64x512.size a)
theorem k0_idx285_inb : ∀ (v664 : IVec S16 32) (v890 : IVec S16 32) (k0_hw285 : k0_chk285 v664 v890), ∀ a x, ((![v890, v664] : Fin 2 → IVec S16 32) a x).toNat < S64x512.size a := fun v664 v890 k0_hw285 => k0_hw285

def k0_chk286 (v664 : IVec S16 32) (v892 : IVec S16 32) : Prop :=
  (∀ a x, ((![v892, v664] : Fin 2 → IVec S16 32) a x).toNat < S64x512.size a)
theorem k0_idx286_inb : ∀ (v664 : IVec S16 32) (v892 : IVec S16 32) (k0_hw286 : k0_chk286 v664 v892), ∀ a x, ((![v892, v664] : Fin 2 → IVec S16 32) a x).toNat < S64x512.size a := fun v664 v892 k0_hw286 => k0_hw286

def k0_chk287 (v899 : IVec S16 32) : Prop :=
  (∀ a x, ((![v899] : Fin 1 → IVec S16 32) a x).toNat < S32000.size a)
theorem k0_idx287_inb : ∀ (v899 : IVec S16 32) (k0_hw287 : k0_chk287 v899), ∀ a x, ((![v899] : Fin 1 → IVec S16 32) a x).toNat < S32000.size a := fun v899 k0_hw287 => k0_hw287

def k0_chk288 (v901 : IVec S16 32) : Prop :=
  (∀ a x, ((![v901] : Fin 1 → IVec S16 32) a x).toNat < S32000.size a)
theorem k0_idx288_inb : ∀ (v901 : IVec S16 32) (k0_hw288 : k0_chk288 v901), ∀ a x, ((![v901] : Fin 1 → IVec S16 32) a x).toNat < S32000.size a := fun v901 k0_hw288 => k0_hw288

def k0_chk289 (v903 : IVec S16 32) : Prop :=
  (∀ a x, ((![v903] : Fin 1 → IVec S16 32) a x).toNat < S32000.size a)
theorem k0_idx289_inb : ∀ (v903 : IVec S16 32) (k0_hw289 : k0_chk289 v903), ∀ a x, ((![v903] : Fin 1 → IVec S16 32) a x).toNat < S32000.size a := fun v903 k0_hw289 => k0_hw289

def k0_chk290 (v905 : IVec S16 32) : Prop :=
  (∀ a x, ((![v905] : Fin 1 → IVec S16 32) a x).toNat < S32000.size a)
theorem k0_idx290_inb : ∀ (v905 : IVec S16 32) (k0_hw290 : k0_chk290 v905), ∀ a x, ((![v905] : Fin 1 → IVec S16 32) a x).toNat < S32000.size a := fun v905 k0_hw290 => k0_hw290

def k0_chk291 (v907 : IVec S16 32) : Prop :=
  (∀ a x, ((![v907] : Fin 1 → IVec S16 32) a x).toNat < S32000.size a)
theorem k0_idx291_inb : ∀ (v907 : IVec S16 32) (k0_hw291 : k0_chk291 v907), ∀ a x, ((![v907] : Fin 1 → IVec S16 32) a x).toNat < S32000.size a := fun v907 k0_hw291 => k0_hw291

def k0_chk292 (v909 : IVec S16 32) : Prop :=
  (∀ a x, ((![v909] : Fin 1 → IVec S16 32) a x).toNat < S32000.size a)
theorem k0_idx292_inb : ∀ (v909 : IVec S16 32) (k0_hw292 : k0_chk292 v909), ∀ a x, ((![v909] : Fin 1 → IVec S16 32) a x).toNat < S32000.size a := fun v909 k0_hw292 => k0_hw292

def k0_chk293 (v664 : IVec S16 32) (v960 : IVec S16 32) : Prop :=
  (∀ a x, ((![v960, v664] : Fin 2 → IVec S16 32) a x).toNat < S64x512.size a)
theorem k0_idx293_inb : ∀ (v664 : IVec S16 32) (v960 : IVec S16 32) (k0_hw293 : k0_chk293 v664 v960), ∀ a x, ((![v960, v664] : Fin 2 → IVec S16 32) a x).toNat < S64x512.size a := fun v664 v960 k0_hw293 => k0_hw293

def k0_chk294 (v664 : IVec S16 32) (v962 : IVec S16 32) : Prop :=
  (∀ a x, ((![v962, v664] : Fin 2 → IVec S16 32) a x).toNat < S64x512.size a)
theorem k0_idx294_inb : ∀ (v664 : IVec S16 32) (v962 : IVec S16 32) (k0_hw294 : k0_chk294 v664 v962), ∀ a x, ((![v962, v664] : Fin 2 → IVec S16 32) a x).toNat < S64x512.size a := fun v664 v962 k0_hw294 => k0_hw294

def k0_chk295 (v969 : IVec S16 32) : Prop :=
  (∀ a x, ((![v969] : Fin 1 → IVec S16 32) a x).toNat < S32000.size a)
theorem k0_idx295_inb : ∀ (v969 : IVec S16 32) (k0_hw295 : k0_chk295 v969), ∀ a x, ((![v969] : Fin 1 → IVec S16 32) a x).toNat < S32000.size a := fun v969 k0_hw295 => k0_hw295

def k0_chk296 (v971 : IVec S16 32) : Prop :=
  (∀ a x, ((![v971] : Fin 1 → IVec S16 32) a x).toNat < S32000.size a)
theorem k0_idx296_inb : ∀ (v971 : IVec S16 32) (k0_hw296 : k0_chk296 v971), ∀ a x, ((![v971] : Fin 1 → IVec S16 32) a x).toNat < S32000.size a := fun v971 k0_hw296 => k0_hw296

def k0_chk297 (v973 : IVec S16 32) : Prop :=
  (∀ a x, ((![v973] : Fin 1 → IVec S16 32) a x).toNat < S32000.size a)
theorem k0_idx297_inb : ∀ (v973 : IVec S16 32) (k0_hw297 : k0_chk297 v973), ∀ a x, ((![v973] : Fin 1 → IVec S16 32) a x).toNat < S32000.size a := fun v973 k0_hw297 => k0_hw297

def k0_chk298 (v975 : IVec S16 32) : Prop :=
  (∀ a x, ((![v975] : Fin 1 → IVec S16 32) a x).toNat < S32000.size a)
theorem k0_idx298_inb : ∀ (v975 : IVec S16 32) (k0_hw298 : k0_chk298 v975), ∀ a x, ((![v975] : Fin 1 → IVec S16 32) a x).toNat < S32000.size a := fun v975 k0_hw298 => k0_hw298

def k0_chk299 (v977 : IVec S16 32) : Prop :=
  (∀ a x, ((![v977] : Fin 1 → IVec S16 32) a x).toNat < S32000.size a)
theorem k0_idx299_inb : ∀ (v977 : IVec S16 32) (k0_hw299 : k0_chk299 v977), ∀ a x, ((![v977] : Fin 1 → IVec S16 32) a x).toNat < S32000.size a := fun v977 k0_hw299 => k0_hw299

def k0_chk300 (v979 : IVec S16 32) : Prop :=
  (∀ a x, ((![v979] : Fin 1 → IVec S16 32) a x).toNat < S32000.size a)
theorem k0_idx300_inb : ∀ (v979 : IVec S16 32) (k0_hw300 : k0_chk300 v979), ∀ a x, ((![v979] : Fin 1 → IVec S16 32) a x).toNat < S32000.size a := fun v979 k0_hw300 => k0_hw300

def k0_chk301 (v664 : IVec S16 32) (v1030 : IVec S16 32) : Prop :=
  (∀ a x, ((![v1030, v664] : Fin 2 → IVec S16 32) a x).toNat < S64x512.size a)
theorem k0_idx301_inb : ∀ (v664 : IVec S16 32) (v1030 : IVec S16 32) (k0_hw301 : k0_chk301 v664 v1030), ∀ a x, ((![v1030, v664] : Fin 2 → IVec S16 32) a x).toNat < S64x512.size a := fun v664 v1030 k0_hw301 => k0_hw301

def k0_chk302 (v664 : IVec S16 32) (v1032 : IVec S16 32) : Prop :=
  (∀ a x, ((![v1032, v664] : Fin 2 → IVec S16 32) a x).toNat < S64x512.size a)
theorem k0_idx302_inb : ∀ (v664 : IVec S16 32) (v1032 : IVec S16 32) (k0_hw302 : k0_chk302 v664 v1032), ∀ a x, ((![v1032, v664] : Fin 2 → IVec S16 32) a x).toNat < S64x512.size a := fun v664 v1032 k0_hw302 => k0_hw302

def k0_chk303 (v1039 : IVec S16 32) : Prop :=
  (∀ a x, ((![v1039] : Fin 1 → IVec S16 32) a x).toNat < S32000.size a)
theorem k0_idx303_inb : ∀ (v1039 : IVec S16 32) (k0_hw303 : k0_chk303 v1039), ∀ a x, ((![v1039] : Fin 1 → IVec S16 32) a x).toNat < S32000.size a := fun v1039 k0_hw303 => k0_hw303

def k0_chk304 (v1041 : IVec S16 32) : Prop :=
  (∀ a x, ((![v1041] : Fin 1 → IVec S16 32) a x).toNat < S32000.size a)
theorem k0_idx304_inb : ∀ (v1041 : IVec S16 32) (k0_hw304 : k0_chk304 v1041), ∀ a x, ((![v1041] : Fin 1 → IVec S16 32) a x).toNat < S32000.size a := fun v1041 k0_hw304 => k0_hw304

def k0_chk305 (v1043 : IVec S16 32) : Prop :=
  (∀ a x, ((![v1043] : Fin 1 → IVec S16 32) a x).toNat < S32000.size a)
theorem k0_idx305_inb : ∀ (v1043 : IVec S16 32) (k0_hw305 : k0_chk305 v1043), ∀ a x, ((![v1043] : Fin 1 → IVec S16 32) a x).toNat < S32000.size a := fun v1043 k0_hw305 => k0_hw305

def k0_chk306 (v1045 : IVec S16 32) : Prop :=
  (∀ a x, ((![v1045] : Fin 1 → IVec S16 32) a x).toNat < S32000.size a)
theorem k0_idx306_inb : ∀ (v1045 : IVec S16 32) (k0_hw306 : k0_chk306 v1045), ∀ a x, ((![v1045] : Fin 1 → IVec S16 32) a x).toNat < S32000.size a := fun v1045 k0_hw306 => k0_hw306

def k0_chk307 (v1047 : IVec S16 32) : Prop :=
  (∀ a x, ((![v1047] : Fin 1 → IVec S16 32) a x).toNat < S32000.size a)
theorem k0_idx307_inb : ∀ (v1047 : IVec S16 32) (k0_hw307 : k0_chk307 v1047), ∀ a x, ((![v1047] : Fin 1 → IVec S16 32) a x).toNat < S32000.size a := fun v1047 k0_hw307 => k0_hw307

def k0_chk308 (v1049 : IVec S16 32) : Prop :=
  (∀ a x, ((![v1049] : Fin 1 → IVec S16 32) a x).toNat < S32000.size a)
theorem k0_idx308_inb : ∀ (v1049 : IVec S16 32) (k0_hw308 : k0_chk308 v1049), ∀ a x, ((![v1049] : Fin 1 → IVec S16 32) a x).toNat < S32000.size a := fun v1049 k0_hw308 => k0_hw308

def k0_chk309 (v664 : IVec S16 32) (v1100 : IVec S16 32) : Prop :=
  (∀ a x, ((![v1100, v664] : Fin 2 → IVec S16 32) a x).toNat < S64x512.size a)
theorem k0_idx309_inb : ∀ (v664 : IVec S16 32) (v1100 : IVec S16 32) (k0_hw309 : k0_chk309 v664 v1100), ∀ a x, ((![v1100, v664] : Fin 2 → IVec S16 32) a x).toNat < S64x512.size a := fun v664 v1100 k0_hw309 => k0_hw309

def k0_chk310 (v664 : IVec S16 32) (v1102 : IVec S16 32) : Prop :=
  (∀ a x, ((![v1102, v664] : Fin 2 → IVec S16 32) a x).toNat < S64x512.size a)
theorem k0_idx310_inb : ∀ (v664 : IVec S16 32) (v1102 : IVec S16 32) (k0_hw310 : k0_chk310 v664 v1102), ∀ a x, ((![v1102, v664] : Fin 2 → IVec S16 32) a x).toNat < S64x512.size a := fun v664 v1102 k0_hw310 => k0_hw310

def k0_chk311 (v1109 : IVec S16 32) : Prop :=
  (∀ a x, ((![v1109] : Fin 1 → IVec S16 32) a x).toNat < S32000.size a)
theorem k0_idx311_inb : ∀ (v1109 : IVec S16 32) (k0_hw311 : k0_chk311 v1109), ∀ a x, ((![v1109] : Fin 1 → IVec S16 32) a x).toNat < S32000.size a := fun v1109 k0_hw311 => k0_hw311

def k0_chk312 (v1111 : IVec S16 32) : Prop :=
  (∀ a x, ((![v1111] : Fin 1 → IVec S16 32) a x).toNat < S32000.size a)
theorem k0_idx312_inb : ∀ (v1111 : IVec S16 32) (k0_hw312 : k0_chk312 v1111), ∀ a x, ((![v1111] : Fin 1 → IVec S16 32) a x).toNat < S32000.size a := fun v1111 k0_hw312 => k0_hw312

def k0_chk313 (v1113 : IVec S16 32) : Prop :=
  (∀ a x, ((![v1113] : Fin 1 → IVec S16 32) a x).toNat < S32000.size a)
theorem k0_idx313_inb : ∀ (v1113 : IVec S16 32) (k0_hw313 : k0_chk313 v1113), ∀ a x, ((![v1113] : Fin 1 → IVec S16 32) a x).toNat < S32000.size a := fun v1113 k0_hw313 => k0_hw313

def k0_chk314 (v1115 : IVec S16 32) : Prop :=
  (∀ a x, ((![v1115] : Fin 1 → IVec S16 32) a x).toNat < S32000.size a)
theorem k0_idx314_inb : ∀ (v1115 : IVec S16 32) (k0_hw314 : k0_chk314 v1115), ∀ a x, ((![v1115] : Fin 1 → IVec S16 32) a x).toNat < S32000.size a := fun v1115 k0_hw314 => k0_hw314

def k0_chk315 (v1117 : IVec S16 32) : Prop :=
  (∀ a x, ((![v1117] : Fin 1 → IVec S16 32) a x).toNat < S32000.size a)
theorem k0_idx315_inb : ∀ (v1117 : IVec S16 32) (k0_hw315 : k0_chk315 v1117), ∀ a x, ((![v1117] : Fin 1 → IVec S16 32) a x).toNat < S32000.size a := fun v1117 k0_hw315 => k0_hw315

def k0_chk316 (v1119 : IVec S16 32) : Prop :=
  (∀ a x, ((![v1119] : Fin 1 → IVec S16 32) a x).toNat < S32000.size a)
theorem k0_idx316_inb : ∀ (v1119 : IVec S16 32) (k0_hw316 : k0_chk316 v1119), ∀ a x, ((![v1119] : Fin 1 → IVec S16 32) a x).toNat < S32000.size a := fun v1119 k0_hw316 => k0_hw316

def k0_chk317 (v664 : IVec S16 32) (v1170 : IVec S16 32) : Prop :=
  (∀ a x, ((![v1170, v664] : Fin 2 → IVec S16 32) a x).toNat < S64x512.size a)
theorem k0_idx317_inb : ∀ (v664 : IVec S16 32) (v1170 : IVec S16 32) (k0_hw317 : k0_chk317 v664 v1170), ∀ a x, ((![v1170, v664] : Fin 2 → IVec S16 32) a x).toNat < S64x512.size a := fun v664 v1170 k0_hw317 => k0_hw317

def k0_chk318 (v664 : IVec S16 32) (v1172 : IVec S16 32) : Prop :=
  (∀ a x, ((![v1172, v664] : Fin 2 → IVec S16 32) a x).toNat < S64x512.size a)
theorem k0_idx318_inb : ∀ (v664 : IVec S16 32) (v1172 : IVec S16 32) (k0_hw318 : k0_chk318 v664 v1172), ∀ a x, ((![v1172, v664] : Fin 2 → IVec S16 32) a x).toNat < S64x512.size a := fun v664 v1172 k0_hw318 => k0_hw318

def k0_chk319 (v1179 : IVec S16 32) : Prop :=
  (∀ a x, ((![v1179] : Fin 1 → IVec S16 32) a x).toNat < S32000.size a)
theorem k0_idx319_inb : ∀ (v1179 : IVec S16 32) (k0_hw319 : k0_chk319 v1179), ∀ a x, ((![v1179] : Fin 1 → IVec S16 32) a x).toNat < S32000.size a := fun v1179 k0_hw319 => k0_hw319

def k0_chk320 (v1181 : IVec S16 32) : Prop :=
  (∀ a x, ((![v1181] : Fin 1 → IVec S16 32) a x).toNat < S32000.size a)
theorem k0_idx320_inb : ∀ (v1181 : IVec S16 32) (k0_hw320 : k0_chk320 v1181), ∀ a x, ((![v1181] : Fin 1 → IVec S16 32) a x).toNat < S32000.size a := fun v1181 k0_hw320 => k0_hw320

def k0_chk321 (v1183 : IVec S16 32) : Prop :=
  (∀ a x, ((![v1183] : Fin 1 → IVec S16 32) a x).toNat < S32000.size a)
theorem k0_idx321_inb : ∀ (v1183 : IVec S16 32) (k0_hw321 : k0_chk321 v1183), ∀ a x, ((![v1183] : Fin 1 → IVec S16 32) a x).toNat < S32000.size a := fun v1183 k0_hw321 => k0_hw321

def k0_chk322 (v1185 : IVec S16 32) : Prop :=
  (∀ a x, ((![v1185] : Fin 1 → IVec S16 32) a x).toNat < S32000.size a)
theorem k0_idx322_inb : ∀ (v1185 : IVec S16 32) (k0_hw322 : k0_chk322 v1185), ∀ a x, ((![v1185] : Fin 1 → IVec S16 32) a x).toNat < S32000.size a := fun v1185 k0_hw322 => k0_hw322

def k0_chk323 (v1187 : IVec S16 32) : Prop :=
  (∀ a x, ((![v1187] : Fin 1 → IVec S16 32) a x).toNat < S32000.size a)
theorem k0_idx323_inb : ∀ (v1187 : IVec S16 32) (k0_hw323 : k0_chk323 v1187), ∀ a x, ((![v1187] : Fin 1 → IVec S16 32) a x).toNat < S32000.size a := fun v1187 k0_hw323 => k0_hw323

def k0_chk324 (v1189 : IVec S16 32) : Prop :=
  (∀ a x, ((![v1189] : Fin 1 → IVec S16 32) a x).toNat < S32000.size a)
theorem k0_idx324_inb : ∀ (v1189 : IVec S16 32) (k0_hw324 : k0_chk324 v1189), ∀ a x, ((![v1189] : Fin 1 → IVec S16 32) a x).toNat < S32000.size a := fun v1189 k0_hw324 => k0_hw324

def k0_chk325 (v664 : IVec S16 32) (v1240 : IVec S16 32) : Prop :=
  (∀ a x, ((![v1240, v664] : Fin 2 → IVec S16 32) a x).toNat < S64x512.size a)
theorem k0_idx325_inb : ∀ (v664 : IVec S16 32) (v1240 : IVec S16 32) (k0_hw325 : k0_chk325 v664 v1240), ∀ a x, ((![v1240, v664] : Fin 2 → IVec S16 32) a x).toNat < S64x512.size a := fun v664 v1240 k0_hw325 => k0_hw325

def k0_chk326 (v664 : IVec S16 32) (v1242 : IVec S16 32) : Prop :=
  (∀ a x, ((![v1242, v664] : Fin 2 → IVec S16 32) a x).toNat < S64x512.size a)
theorem k0_idx326_inb : ∀ (v664 : IVec S16 32) (v1242 : IVec S16 32) (k0_hw326 : k0_chk326 v664 v1242), ∀ a x, ((![v1242, v664] : Fin 2 → IVec S16 32) a x).toNat < S64x512.size a := fun v664 v1242 k0_hw326 => k0_hw326

def k0_chk327 (v1249 : IVec S16 32) : Prop :=
  (∀ a x, ((![v1249] : Fin 1 → IVec S16 32) a x).toNat < S32000.size a)
theorem k0_idx327_inb : ∀ (v1249 : IVec S16 32) (k0_hw327 : k0_chk327 v1249), ∀ a x, ((![v1249] : Fin 1 → IVec S16 32) a x).toNat < S32000.size a := fun v1249 k0_hw327 => k0_hw327

def k0_chk328 (v1251 : IVec S16 32) : Prop :=
  (∀ a x, ((![v1251] : Fin 1 → IVec S16 32) a x).toNat < S32000.size a)
theorem k0_idx328_inb : ∀ (v1251 : IVec S16 32) (k0_hw328 : k0_chk328 v1251), ∀ a x, ((![v1251] : Fin 1 → IVec S16 32) a x).toNat < S32000.size a := fun v1251 k0_hw328 => k0_hw328

def k0_chk329 (v1253 : IVec S16 32) : Prop :=
  (∀ a x, ((![v1253] : Fin 1 → IVec S16 32) a x).toNat < S32000.size a)
theorem k0_idx329_inb : ∀ (v1253 : IVec S16 32) (k0_hw329 : k0_chk329 v1253), ∀ a x, ((![v1253] : Fin 1 → IVec S16 32) a x).toNat < S32000.size a := fun v1253 k0_hw329 => k0_hw329

def k0_chk330 (v1255 : IVec S16 32) : Prop :=
  (∀ a x, ((![v1255] : Fin 1 → IVec S16 32) a x).toNat < S32000.size a)
theorem k0_idx330_inb : ∀ (v1255 : IVec S16 32) (k0_hw330 : k0_chk330 v1255), ∀ a x, ((![v1255] : Fin 1 → IVec S16 32) a x).toNat < S32000.size a := fun v1255 k0_hw330 => k0_hw330

def k0_chk331 (v1257 : IVec S16 32) : Prop :=
  (∀ a x, ((![v1257] : Fin 1 → IVec S16 32) a x).toNat < S32000.size a)
theorem k0_idx331_inb : ∀ (v1257 : IVec S16 32) (k0_hw331 : k0_chk331 v1257), ∀ a x, ((![v1257] : Fin 1 → IVec S16 32) a x).toNat < S32000.size a := fun v1257 k0_hw331 => k0_hw331

def k0_chk332 (v1259 : IVec S16 32) : Prop :=
  (∀ a x, ((![v1259] : Fin 1 → IVec S16 32) a x).toNat < S32000.size a)
theorem k0_idx332_inb : ∀ (v1259 : IVec S16 32) (k0_hw332 : k0_chk332 v1259), ∀ a x, ((![v1259] : Fin 1 → IVec S16 32) a x).toNat < S32000.size a := fun v1259 k0_hw332 => k0_hw332

def k0_chk333 (v664 : IVec S16 32) (v1310 : IVec S16 32) : Prop :=
  (∀ a x, ((![v1310, v664] : Fin 2 → IVec S16 32) a x).toNat < S64x512.size a)
theorem k0_idx333_inb : ∀ (v664 : IVec S16 32) (v1310 : IVec S16 32) (k0_hw333 : k0_chk333 v664 v1310), ∀ a x, ((![v1310, v664] : Fin 2 → IVec S16 32) a x).toNat < S64x512.size a := fun v664 v1310 k0_hw333 => k0_hw333

def k0_chk334 (v664 : IVec S16 32) (v1312 : IVec S16 32) : Prop :=
  (∀ a x, ((![v1312, v664] : Fin 2 → IVec S16 32) a x).toNat < S64x512.size a)
theorem k0_idx334_inb : ∀ (v664 : IVec S16 32) (v1312 : IVec S16 32) (k0_hw334 : k0_chk334 v664 v1312), ∀ a x, ((![v1312, v664] : Fin 2 → IVec S16 32) a x).toNat < S64x512.size a := fun v664 v1312 k0_hw334 => k0_hw334

def k0_chk335 (v1319 : IVec S16 32) : Prop :=
  (∀ a x, ((![v1319] : Fin 1 → IVec S16 32) a x).toNat < S32000.size a)
theorem k0_idx335_inb : ∀ (v1319 : IVec S16 32) (k0_hw335 : k0_chk335 v1319), ∀ a x, ((![v1319] : Fin 1 → IVec S16 32) a x).toNat < S32000.size a := fun v1319 k0_hw335 => k0_hw335

def k0_chk336 (v1321 : IVec S16 32) : Prop :=
  (∀ a x, ((![v1321] : Fin 1 → IVec S16 32) a x).toNat < S32000.size a)
theorem k0_idx336_inb : ∀ (v1321 : IVec S16 32) (k0_hw336 : k0_chk336 v1321), ∀ a x, ((![v1321] : Fin 1 → IVec S16 32) a x).toNat < S32000.size a := fun v1321 k0_hw336 => k0_hw336

def k0_chk337 (v1323 : IVec S16 32) : Prop :=
  (∀ a x, ((![v1323] : Fin 1 → IVec S16 32) a x).toNat < S32000.size a)
theorem k0_idx337_inb : ∀ (v1323 : IVec S16 32) (k0_hw337 : k0_chk337 v1323), ∀ a x, ((![v1323] : Fin 1 → IVec S16 32) a x).toNat < S32000.size a := fun v1323 k0_hw337 => k0_hw337

def k0_chk338 (v1325 : IVec S16 32) : Prop :=
  (∀ a x, ((![v1325] : Fin 1 → IVec S16 32) a x).toNat < S32000.size a)
theorem k0_idx338_inb : ∀ (v1325 : IVec S16 32) (k0_hw338 : k0_chk338 v1325), ∀ a x, ((![v1325] : Fin 1 → IVec S16 32) a x).toNat < S32000.size a := fun v1325 k0_hw338 => k0_hw338

def k0_chk339 (v1327 : IVec S16 32) : Prop :=
  (∀ a x, ((![v1327] : Fin 1 → IVec S16 32) a x).toNat < S32000.size a)
theorem k0_idx339_inb : ∀ (v1327 : IVec S16 32) (k0_hw339 : k0_chk339 v1327), ∀ a x, ((![v1327] : Fin 1 → IVec S16 32) a x).toNat < S32000.size a := fun v1327 k0_hw339 => k0_hw339

def k0_chk340 (v1329 : IVec S16 32) : Prop :=
  (∀ a x, ((![v1329] : Fin 1 → IVec S16 32) a x).toNat < S32000.size a)
theorem k0_idx340_inb : ∀ (v1329 : IVec S16 32) (k0_hw340 : k0_chk340 v1329), ∀ a x, ((![v1329] : Fin 1 → IVec S16 32) a x).toNat < S32000.size a := fun v1329 k0_hw340 => k0_hw340

def k0_chk341 (v664 : IVec S16 32) (v1380 : IVec S16 32) : Prop :=
  (∀ a x, ((![v1380, v664] : Fin 2 → IVec S16 32) a x).toNat < S64x512.size a)
theorem k0_idx341_inb : ∀ (v664 : IVec S16 32) (v1380 : IVec S16 32) (k0_hw341 : k0_chk341 v664 v1380), ∀ a x, ((![v1380, v664] : Fin 2 → IVec S16 32) a x).toNat < S64x512.size a := fun v664 v1380 k0_hw341 => k0_hw341

def k0_chk342 (v664 : IVec S16 32) (v1382 : IVec S16 32) : Prop :=
  (∀ a x, ((![v1382, v664] : Fin 2 → IVec S16 32) a x).toNat < S64x512.size a)
theorem k0_idx342_inb : ∀ (v664 : IVec S16 32) (v1382 : IVec S16 32) (k0_hw342 : k0_chk342 v664 v1382), ∀ a x, ((![v1382, v664] : Fin 2 → IVec S16 32) a x).toNat < S64x512.size a := fun v664 v1382 k0_hw342 => k0_hw342

def k0_chk343 (v1389 : IVec S16 32) : Prop :=
  (∀ a x, ((![v1389] : Fin 1 → IVec S16 32) a x).toNat < S32000.size a)
theorem k0_idx343_inb : ∀ (v1389 : IVec S16 32) (k0_hw343 : k0_chk343 v1389), ∀ a x, ((![v1389] : Fin 1 → IVec S16 32) a x).toNat < S32000.size a := fun v1389 k0_hw343 => k0_hw343

def k0_chk344 (v1391 : IVec S16 32) : Prop :=
  (∀ a x, ((![v1391] : Fin 1 → IVec S16 32) a x).toNat < S32000.size a)
theorem k0_idx344_inb : ∀ (v1391 : IVec S16 32) (k0_hw344 : k0_chk344 v1391), ∀ a x, ((![v1391] : Fin 1 → IVec S16 32) a x).toNat < S32000.size a := fun v1391 k0_hw344 => k0_hw344

def k0_chk345 (v1393 : IVec S16 32) : Prop :=
  (∀ a x, ((![v1393] : Fin 1 → IVec S16 32) a x).toNat < S32000.size a)
theorem k0_idx345_inb : ∀ (v1393 : IVec S16 32) (k0_hw345 : k0_chk345 v1393), ∀ a x, ((![v1393] : Fin 1 → IVec S16 32) a x).toNat < S32000.size a := fun v1393 k0_hw345 => k0_hw345

def k0_chk346 (v1395 : IVec S16 32) : Prop :=
  (∀ a x, ((![v1395] : Fin 1 → IVec S16 32) a x).toNat < S32000.size a)
theorem k0_idx346_inb : ∀ (v1395 : IVec S16 32) (k0_hw346 : k0_chk346 v1395), ∀ a x, ((![v1395] : Fin 1 → IVec S16 32) a x).toNat < S32000.size a := fun v1395 k0_hw346 => k0_hw346

def k0_chk347 (v1397 : IVec S16 32) : Prop :=
  (∀ a x, ((![v1397] : Fin 1 → IVec S16 32) a x).toNat < S32000.size a)
theorem k0_idx347_inb : ∀ (v1397 : IVec S16 32) (k0_hw347 : k0_chk347 v1397), ∀ a x, ((![v1397] : Fin 1 → IVec S16 32) a x).toNat < S32000.size a := fun v1397 k0_hw347 => k0_hw347

def k0_chk348 (v1399 : IVec S16 32) : Prop :=
  (∀ a x, ((![v1399] : Fin 1 → IVec S16 32) a x).toNat < S32000.size a)
theorem k0_idx348_inb : ∀ (v1399 : IVec S16 32) (k0_hw348 : k0_chk348 v1399), ∀ a x, ((![v1399] : Fin 1 → IVec S16 32) a x).toNat < S32000.size a := fun v1399 k0_hw348 => k0_hw348

def k0_chk349 (v664 : IVec S16 32) (v1450 : IVec S16 32) : Prop :=
  (∀ a x, ((![v1450, v664] : Fin 2 → IVec S16 32) a x).toNat < S64x512.size a)
theorem k0_idx349_inb : ∀ (v664 : IVec S16 32) (v1450 : IVec S16 32) (k0_hw349 : k0_chk349 v664 v1450), ∀ a x, ((![v1450, v664] : Fin 2 → IVec S16 32) a x).toNat < S64x512.size a := fun v664 v1450 k0_hw349 => k0_hw349

def k0_chk350 (v664 : IVec S16 32) (v1452 : IVec S16 32) : Prop :=
  (∀ a x, ((![v1452, v664] : Fin 2 → IVec S16 32) a x).toNat < S64x512.size a)
theorem k0_idx350_inb : ∀ (v664 : IVec S16 32) (v1452 : IVec S16 32) (k0_hw350 : k0_chk350 v664 v1452), ∀ a x, ((![v1452, v664] : Fin 2 → IVec S16 32) a x).toNat < S64x512.size a := fun v664 v1452 k0_hw350 => k0_hw350

def k0_chk351 (v1459 : IVec S16 32) : Prop :=
  (∀ a x, ((![v1459] : Fin 1 → IVec S16 32) a x).toNat < S32000.size a)
theorem k0_idx351_inb : ∀ (v1459 : IVec S16 32) (k0_hw351 : k0_chk351 v1459), ∀ a x, ((![v1459] : Fin 1 → IVec S16 32) a x).toNat < S32000.size a := fun v1459 k0_hw351 => k0_hw351

def k0_chk352 (v1461 : IVec S16 32) : Prop :=
  (∀ a x, ((![v1461] : Fin 1 → IVec S16 32) a x).toNat < S32000.size a)
theorem k0_idx352_inb : ∀ (v1461 : IVec S16 32) (k0_hw352 : k0_chk352 v1461), ∀ a x, ((![v1461] : Fin 1 → IVec S16 32) a x).toNat < S32000.size a := fun v1461 k0_hw352 => k0_hw352

def k0_chk353 (v1463 : IVec S16 32) : Prop :=
  (∀ a x, ((![v1463] : Fin 1 → IVec S16 32) a x).toNat < S32000.size a)
theorem k0_idx353_inb : ∀ (v1463 : IVec S16 32) (k0_hw353 : k0_chk353 v1463), ∀ a x, ((![v1463] : Fin 1 → IVec S16 32) a x).toNat < S32000.size a := fun v1463 k0_hw353 => k0_hw353

def k0_chk354 (v1465 : IVec S16 32) : Prop :=
  (∀ a x, ((![v1465] : Fin 1 → IVec S16 32) a x).toNat < S32000.size a)
theorem k0_idx354_inb : ∀ (v1465 : IVec S16 32) (k0_hw354 : k0_chk354 v1465), ∀ a x, ((![v1465] : Fin 1 → IVec S16 32) a x).toNat < S32000.size a := fun v1465 k0_hw354 => k0_hw354

def k0_chk355 (v1467 : IVec S16 32) : Prop :=
  (∀ a x, ((![v1467] : Fin 1 → IVec S16 32) a x).toNat < S32000.size a)
theorem k0_idx355_inb : ∀ (v1467 : IVec S16 32) (k0_hw355 : k0_chk355 v1467), ∀ a x, ((![v1467] : Fin 1 → IVec S16 32) a x).toNat < S32000.size a := fun v1467 k0_hw355 => k0_hw355

def k0_chk356 (v1469 : IVec S16 32) : Prop :=
  (∀ a x, ((![v1469] : Fin 1 → IVec S16 32) a x).toNat < S32000.size a)
theorem k0_idx356_inb : ∀ (v1469 : IVec S16 32) (k0_hw356 : k0_chk356 v1469), ∀ a x, ((![v1469] : Fin 1 → IVec S16 32) a x).toNat < S32000.size a := fun v1469 k0_hw356 => k0_hw356

def k0_chk357 (v664 : IVec S16 32) (v1520 : IVec S16 32) : Prop :=
  (∀ a x, ((![v1520, v664] : Fin 2 → IVec S16 32) a x).toNat < S64x512.size a)
theorem k0_idx357_inb : ∀ (v664 : IVec S16 32) (v1520 : IVec S16 32) (k0_hw357 : k0_chk357 v664 v1520), ∀ a x, ((![v1520, v664] : Fin 2 → IVec S16 32) a x).toNat < S64x512.size a := fun v664 v1520 k0_hw357 => k0_hw357

def k0_chk358 (v664 : IVec S16 32) (v1522 : IVec S16 32) : Prop :=
  (∀ a x, ((![v1522, v664] : Fin 2 → IVec S16 32) a x).toNat < S64x512.size a)
theorem k0_idx358_inb : ∀ (v664 : IVec S16 32) (v1522 : IVec S16 32) (k0_hw358 : k0_chk358 v664 v1522), ∀ a x, ((![v1522, v664] : Fin 2 → IVec S16 32) a x).toNat < S64x512.size a := fun v664 v1522 k0_hw358 => k0_hw358

def k0_chk359 (v1529 : IVec S16 32) : Prop :=
  (∀ a x, ((![v1529] : Fin 1 → IVec S16 32) a x).toNat < S32000.size a)
theorem k0_idx359_inb : ∀ (v1529 : IVec S16 32) (k0_hw359 : k0_chk359 v1529), ∀ a x, ((![v1529] : Fin 1 → IVec S16 32) a x).toNat < S32000.size a := fun v1529 k0_hw359 => k0_hw359

def k0_chk360 (v1531 : IVec S16 32) : Prop :=
  (∀ a x, ((![v1531] : Fin 1 → IVec S16 32) a x).toNat < S32000.size a)
theorem k0_idx360_inb : ∀ (v1531 : IVec S16 32) (k0_hw360 : k0_chk360 v1531), ∀ a x, ((![v1531] : Fin 1 → IVec S16 32) a x).toNat < S32000.size a := fun v1531 k0_hw360 => k0_hw360

def k0_chk361 (v1533 : IVec S16 32) : Prop :=
  (∀ a x, ((![v1533] : Fin 1 → IVec S16 32) a x).toNat < S32000.size a)
theorem k0_idx361_inb : ∀ (v1533 : IVec S16 32) (k0_hw361 : k0_chk361 v1533), ∀ a x, ((![v1533] : Fin 1 → IVec S16 32) a x).toNat < S32000.size a := fun v1533 k0_hw361 => k0_hw361

def k0_chk362 (v1535 : IVec S16 32) : Prop :=
  (∀ a x, ((![v1535] : Fin 1 → IVec S16 32) a x).toNat < S32000.size a)
theorem k0_idx362_inb : ∀ (v1535 : IVec S16 32) (k0_hw362 : k0_chk362 v1535), ∀ a x, ((![v1535] : Fin 1 → IVec S16 32) a x).toNat < S32000.size a := fun v1535 k0_hw362 => k0_hw362

def k0_chk363 (v1537 : IVec S16 32) : Prop :=
  (∀ a x, ((![v1537] : Fin 1 → IVec S16 32) a x).toNat < S32000.size a)
theorem k0_idx363_inb : ∀ (v1537 : IVec S16 32) (k0_hw363 : k0_chk363 v1537), ∀ a x, ((![v1537] : Fin 1 → IVec S16 32) a x).toNat < S32000.size a := fun v1537 k0_hw363 => k0_hw363

def k0_chk364 (v1539 : IVec S16 32) : Prop :=
  (∀ a x, ((![v1539] : Fin 1 → IVec S16 32) a x).toNat < S32000.size a)
theorem k0_idx364_inb : ∀ (v1539 : IVec S16 32) (k0_hw364 : k0_chk364 v1539), ∀ a x, ((![v1539] : Fin 1 → IVec S16 32) a x).toNat < S32000.size a := fun v1539 k0_hw364 => k0_hw364

def k0_chk365 (v664 : IVec S16 32) (v1590 : IVec S16 32) : Prop :=
  (∀ a x, ((![v1590, v664] : Fin 2 → IVec S16 32) a x).toNat < S64x512.size a)
theorem k0_idx365_inb : ∀ (v664 : IVec S16 32) (v1590 : IVec S16 32) (k0_hw365 : k0_chk365 v664 v1590), ∀ a x, ((![v1590, v664] : Fin 2 → IVec S16 32) a x).toNat < S64x512.size a := fun v664 v1590 k0_hw365 => k0_hw365

def k0_chk366 (v664 : IVec S16 32) (v1592 : IVec S16 32) : Prop :=
  (∀ a x, ((![v1592, v664] : Fin 2 → IVec S16 32) a x).toNat < S64x512.size a)
theorem k0_idx366_inb : ∀ (v664 : IVec S16 32) (v1592 : IVec S16 32) (k0_hw366 : k0_chk366 v664 v1592), ∀ a x, ((![v1592, v664] : Fin 2 → IVec S16 32) a x).toNat < S64x512.size a := fun v664 v1592 k0_hw366 => k0_hw366

def k0_chk367 (v1599 : IVec S16 32) : Prop :=
  (∀ a x, ((![v1599] : Fin 1 → IVec S16 32) a x).toNat < S32000.size a)
theorem k0_idx367_inb : ∀ (v1599 : IVec S16 32) (k0_hw367 : k0_chk367 v1599), ∀ a x, ((![v1599] : Fin 1 → IVec S16 32) a x).toNat < S32000.size a := fun v1599 k0_hw367 => k0_hw367

def k0_chk368 (v1601 : IVec S16 32) : Prop :=
  (∀ a x, ((![v1601] : Fin 1 → IVec S16 32) a x).toNat < S32000.size a)
theorem k0_idx368_inb : ∀ (v1601 : IVec S16 32) (k0_hw368 : k0_chk368 v1601), ∀ a x, ((![v1601] : Fin 1 → IVec S16 32) a x).toNat < S32000.size a := fun v1601 k0_hw368 => k0_hw368

def k0_chk369 (v1603 : IVec S16 32) : Prop :=
  (∀ a x, ((![v1603] : Fin 1 → IVec S16 32) a x).toNat < S32000.size a)
theorem k0_idx369_inb : ∀ (v1603 : IVec S16 32) (k0_hw369 : k0_chk369 v1603), ∀ a x, ((![v1603] : Fin 1 → IVec S16 32) a x).toNat < S32000.size a := fun v1603 k0_hw369 => k0_hw369

def k0_chk370 (v1605 : IVec S16 32) : Prop :=
  (∀ a x, ((![v1605] : Fin 1 → IVec S16 32) a x).toNat < S32000.size a)
theorem k0_idx370_inb : ∀ (v1605 : IVec S16 32) (k0_hw370 : k0_chk370 v1605), ∀ a x, ((![v1605] : Fin 1 → IVec S16 32) a x).toNat < S32000.size a := fun v1605 k0_hw370 => k0_hw370

def k0_chk371 (v1607 : IVec S16 32) : Prop :=
  (∀ a x, ((![v1607] : Fin 1 → IVec S16 32) a x).toNat < S32000.size a)
theorem k0_idx371_inb : ∀ (v1607 : IVec S16 32) (k0_hw371 : k0_chk371 v1607), ∀ a x, ((![v1607] : Fin 1 → IVec S16 32) a x).toNat < S32000.size a := fun v1607 k0_hw371 => k0_hw371

def k0_chk372 (v1609 : IVec S16 32) : Prop :=
  (∀ a x, ((![v1609] : Fin 1 → IVec S16 32) a x).toNat < S32000.size a)
theorem k0_idx372_inb : ∀ (v1609 : IVec S16 32) (k0_hw372 : k0_chk372 v1609), ∀ a x, ((![v1609] : Fin 1 → IVec S16 32) a x).toNat < S32000.size a := fun v1609 k0_hw372 => k0_hw372

def k0_chk373 (v664 : IVec S16 32) (v1660 : IVec S16 32) : Prop :=
  (∀ a x, ((![v1660, v664] : Fin 2 → IVec S16 32) a x).toNat < S64x512.size a)
theorem k0_idx373_inb : ∀ (v664 : IVec S16 32) (v1660 : IVec S16 32) (k0_hw373 : k0_chk373 v664 v1660), ∀ a x, ((![v1660, v664] : Fin 2 → IVec S16 32) a x).toNat < S64x512.size a := fun v664 v1660 k0_hw373 => k0_hw373

def k0_chk374 (v664 : IVec S16 32) (v1662 : IVec S16 32) : Prop :=
  (∀ a x, ((![v1662, v664] : Fin 2 → IVec S16 32) a x).toNat < S64x512.size a)
theorem k0_idx374_inb : ∀ (v664 : IVec S16 32) (v1662 : IVec S16 32) (k0_hw374 : k0_chk374 v664 v1662), ∀ a x, ((![v1662, v664] : Fin 2 → IVec S16 32) a x).toNat < S64x512.size a := fun v664 v1662 k0_hw374 => k0_hw374

def k0_chk375 (v1669 : IVec S16 32) : Prop :=
  (∀ a x, ((![v1669] : Fin 1 → IVec S16 32) a x).toNat < S32000.size a)
theorem k0_idx375_inb : ∀ (v1669 : IVec S16 32) (k0_hw375 : k0_chk375 v1669), ∀ a x, ((![v1669] : Fin 1 → IVec S16 32) a x).toNat < S32000.size a := fun v1669 k0_hw375 => k0_hw375

def k0_chk376 (v1671 : IVec S16 32) : Prop :=
  (∀ a x, ((![v1671] : Fin 1 → IVec S16 32) a x).toNat < S32000.size a)
theorem k0_idx376_inb : ∀ (v1671 : IVec S16 32) (k0_hw376 : k0_chk376 v1671), ∀ a x, ((![v1671] : Fin 1 → IVec S16 32) a x).toNat < S32000.size a := fun v1671 k0_hw376 => k0_hw376

def k0_chk377 (v1673 : IVec S16 32) : Prop :=
  (∀ a x, ((![v1673] : Fin 1 → IVec S16 32) a x).toNat < S32000.size a)
theorem k0_idx377_inb : ∀ (v1673 : IVec S16 32) (k0_hw377 : k0_chk377 v1673), ∀ a x, ((![v1673] : Fin 1 → IVec S16 32) a x).toNat < S32000.size a := fun v1673 k0_hw377 => k0_hw377

def k0_chk378 (v1675 : IVec S16 32) : Prop :=
  (∀ a x, ((![v1675] : Fin 1 → IVec S16 32) a x).toNat < S32000.size a)
theorem k0_idx378_inb : ∀ (v1675 : IVec S16 32) (k0_hw378 : k0_chk378 v1675), ∀ a x, ((![v1675] : Fin 1 → IVec S16 32) a x).toNat < S32000.size a := fun v1675 k0_hw378 => k0_hw378

def k0_chk379 (v1677 : IVec S16 32) : Prop :=
  (∀ a x, ((![v1677] : Fin 1 → IVec S16 32) a x).toNat < S32000.size a)
theorem k0_idx379_inb : ∀ (v1677 : IVec S16 32) (k0_hw379 : k0_chk379 v1677), ∀ a x, ((![v1677] : Fin 1 → IVec S16 32) a x).toNat < S32000.size a := fun v1677 k0_hw379 => k0_hw379

def k0_chk380 (v1679 : IVec S16 32) : Prop :=
  (∀ a x, ((![v1679] : Fin 1 → IVec S16 32) a x).toNat < S32000.size a)
theorem k0_idx380_inb : ∀ (v1679 : IVec S16 32) (k0_hw380 : k0_chk380 v1679), ∀ a x, ((![v1679] : Fin 1 → IVec S16 32) a x).toNat < S32000.size a := fun v1679 k0_hw380 => k0_hw380

def k0_chk381 (v664 : IVec S16 32) (v1730 : IVec S16 32) : Prop :=
  (∀ a x, ((![v1730, v664] : Fin 2 → IVec S16 32) a x).toNat < S64x512.size a)
theorem k0_idx381_inb : ∀ (v664 : IVec S16 32) (v1730 : IVec S16 32) (k0_hw381 : k0_chk381 v664 v1730), ∀ a x, ((![v1730, v664] : Fin 2 → IVec S16 32) a x).toNat < S64x512.size a := fun v664 v1730 k0_hw381 => k0_hw381

def k0_chk382 (v664 : IVec S16 32) (v1732 : IVec S16 32) : Prop :=
  (∀ a x, ((![v1732, v664] : Fin 2 → IVec S16 32) a x).toNat < S64x512.size a)
theorem k0_idx382_inb : ∀ (v664 : IVec S16 32) (v1732 : IVec S16 32) (k0_hw382 : k0_chk382 v664 v1732), ∀ a x, ((![v1732, v664] : Fin 2 → IVec S16 32) a x).toNat < S64x512.size a := fun v664 v1732 k0_hw382 => k0_hw382

def k0_chk383 (v1739 : IVec S16 32) : Prop :=
  (∀ a x, ((![v1739] : Fin 1 → IVec S16 32) a x).toNat < S32000.size a)
theorem k0_idx383_inb : ∀ (v1739 : IVec S16 32) (k0_hw383 : k0_chk383 v1739), ∀ a x, ((![v1739] : Fin 1 → IVec S16 32) a x).toNat < S32000.size a := fun v1739 k0_hw383 => k0_hw383

def k0_chk384 (v1741 : IVec S16 32) : Prop :=
  (∀ a x, ((![v1741] : Fin 1 → IVec S16 32) a x).toNat < S32000.size a)
theorem k0_idx384_inb : ∀ (v1741 : IVec S16 32) (k0_hw384 : k0_chk384 v1741), ∀ a x, ((![v1741] : Fin 1 → IVec S16 32) a x).toNat < S32000.size a := fun v1741 k0_hw384 => k0_hw384

def k0_chk385 (v1743 : IVec S16 32) : Prop :=
  (∀ a x, ((![v1743] : Fin 1 → IVec S16 32) a x).toNat < S32000.size a)
theorem k0_idx385_inb : ∀ (v1743 : IVec S16 32) (k0_hw385 : k0_chk385 v1743), ∀ a x, ((![v1743] : Fin 1 → IVec S16 32) a x).toNat < S32000.size a := fun v1743 k0_hw385 => k0_hw385

def k0_chk386 (v1745 : IVec S16 32) : Prop :=
  (∀ a x, ((![v1745] : Fin 1 → IVec S16 32) a x).toNat < S32000.size a)
theorem k0_idx386_inb : ∀ (v1745 : IVec S16 32) (k0_hw386 : k0_chk386 v1745), ∀ a x, ((![v1745] : Fin 1 → IVec S16 32) a x).toNat < S32000.size a := fun v1745 k0_hw386 => k0_hw386

def k0_chk387 (v1747 : IVec S16 32) : Prop :=
  (∀ a x, ((![v1747] : Fin 1 → IVec S16 32) a x).toNat < S32000.size a)
theorem k0_idx387_inb : ∀ (v1747 : IVec S16 32) (k0_hw387 : k0_chk387 v1747), ∀ a x, ((![v1747] : Fin 1 → IVec S16 32) a x).toNat < S32000.size a := fun v1747 k0_hw387 => k0_hw387

def k0_chk388 (v1749 : IVec S16 32) : Prop :=
  (∀ a x, ((![v1749] : Fin 1 → IVec S16 32) a x).toNat < S32000.size a)
theorem k0_idx388_inb : ∀ (v1749 : IVec S16 32) (k0_hw388 : k0_chk388 v1749), ∀ a x, ((![v1749] : Fin 1 → IVec S16 32) a x).toNat < S32000.size a := fun v1749 k0_hw388 => k0_hw388

def k0_chk389 (v664 : IVec S16 32) (v1800 : IVec S16 32) : Prop :=
  (∀ a x, ((![v1800, v664] : Fin 2 → IVec S16 32) a x).toNat < S64x512.size a)
theorem k0_idx389_inb : ∀ (v664 : IVec S16 32) (v1800 : IVec S16 32) (k0_hw389 : k0_chk389 v664 v1800), ∀ a x, ((![v1800, v664] : Fin 2 → IVec S16 32) a x).toNat < S64x512.size a := fun v664 v1800 k0_hw389 => k0_hw389

def k0_chk390 (v664 : IVec S16 32) (v1802 : IVec S16 32) : Prop :=
  (∀ a x, ((![v1802, v664] : Fin 2 → IVec S16 32) a x).toNat < S64x512.size a)
theorem k0_idx390_inb : ∀ (v664 : IVec S16 32) (v1802 : IVec S16 32) (k0_hw390 : k0_chk390 v664 v1802), ∀ a x, ((![v1802, v664] : Fin 2 → IVec S16 32) a x).toNat < S64x512.size a := fun v664 v1802 k0_hw390 => k0_hw390

def k0_chk391 (v1809 : IVec S16 32) : Prop :=
  (∀ a x, ((![v1809] : Fin 1 → IVec S16 32) a x).toNat < S32000.size a)
theorem k0_idx391_inb : ∀ (v1809 : IVec S16 32) (k0_hw391 : k0_chk391 v1809), ∀ a x, ((![v1809] : Fin 1 → IVec S16 32) a x).toNat < S32000.size a := fun v1809 k0_hw391 => k0_hw391

def k0_chk392 (v1811 : IVec S16 32) : Prop :=
  (∀ a x, ((![v1811] : Fin 1 → IVec S16 32) a x).toNat < S32000.size a)
theorem k0_idx392_inb : ∀ (v1811 : IVec S16 32) (k0_hw392 : k0_chk392 v1811), ∀ a x, ((![v1811] : Fin 1 → IVec S16 32) a x).toNat < S32000.size a := fun v1811 k0_hw392 => k0_hw392

def k0_chk393 (v1813 : IVec S16 32) : Prop :=
  (∀ a x, ((![v1813] : Fin 1 → IVec S16 32) a x).toNat < S32000.size a)
theorem k0_idx393_inb : ∀ (v1813 : IVec S16 32) (k0_hw393 : k0_chk393 v1813), ∀ a x, ((![v1813] : Fin 1 → IVec S16 32) a x).toNat < S32000.size a := fun v1813 k0_hw393 => k0_hw393

def k0_chk394 (v1815 : IVec S16 32) : Prop :=
  (∀ a x, ((![v1815] : Fin 1 → IVec S16 32) a x).toNat < S32000.size a)
theorem k0_idx394_inb : ∀ (v1815 : IVec S16 32) (k0_hw394 : k0_chk394 v1815), ∀ a x, ((![v1815] : Fin 1 → IVec S16 32) a x).toNat < S32000.size a := fun v1815 k0_hw394 => k0_hw394

def k0_chk395 (v1817 : IVec S16 32) : Prop :=
  (∀ a x, ((![v1817] : Fin 1 → IVec S16 32) a x).toNat < S32000.size a)
theorem k0_idx395_inb : ∀ (v1817 : IVec S16 32) (k0_hw395 : k0_chk395 v1817), ∀ a x, ((![v1817] : Fin 1 → IVec S16 32) a x).toNat < S32000.size a := fun v1817 k0_hw395 => k0_hw395

def k0_chk396 (v1819 : IVec S16 32) : Prop :=
  (∀ a x, ((![v1819] : Fin 1 → IVec S16 32) a x).toNat < S32000.size a)
theorem k0_idx396_inb : ∀ (v1819 : IVec S16 32) (k0_hw396 : k0_chk396 v1819), ∀ a x, ((![v1819] : Fin 1 → IVec S16 32) a x).toNat < S32000.size a := fun v1819 k0_hw396 => k0_hw396

def k0_chk397 (v664 : IVec S16 32) (v1870 : IVec S16 32) : Prop :=
  (∀ a x, ((![v1870, v664] : Fin 2 → IVec S16 32) a x).toNat < S64x512.size a)
theorem k0_idx397_inb : ∀ (v664 : IVec S16 32) (v1870 : IVec S16 32) (k0_hw397 : k0_chk397 v664 v1870), ∀ a x, ((![v1870, v664] : Fin 2 → IVec S16 32) a x).toNat < S64x512.size a := fun v664 v1870 k0_hw397 => k0_hw397

def k0_chk398 (v664 : IVec S16 32) (v1872 : IVec S16 32) : Prop :=
  (∀ a x, ((![v1872, v664] : Fin 2 → IVec S16 32) a x).toNat < S64x512.size a)
theorem k0_idx398_inb : ∀ (v664 : IVec S16 32) (v1872 : IVec S16 32) (k0_hw398 : k0_chk398 v664 v1872), ∀ a x, ((![v1872, v664] : Fin 2 → IVec S16 32) a x).toNat < S64x512.size a := fun v664 v1872 k0_hw398 => k0_hw398

def k0_chk399 (v1879 : IVec S16 32) : Prop :=
  (∀ a x, ((![v1879] : Fin 1 → IVec S16 32) a x).toNat < S32000.size a)
theorem k0_idx399_inb : ∀ (v1879 : IVec S16 32) (k0_hw399 : k0_chk399 v1879), ∀ a x, ((![v1879] : Fin 1 → IVec S16 32) a x).toNat < S32000.size a := fun v1879 k0_hw399 => k0_hw399

def k0_chk400 (v1881 : IVec S16 32) : Prop :=
  (∀ a x, ((![v1881] : Fin 1 → IVec S16 32) a x).toNat < S32000.size a)
theorem k0_idx400_inb : ∀ (v1881 : IVec S16 32) (k0_hw400 : k0_chk400 v1881), ∀ a x, ((![v1881] : Fin 1 → IVec S16 32) a x).toNat < S32000.size a := fun v1881 k0_hw400 => k0_hw400

def k0_chk401 (v1883 : IVec S16 32) : Prop :=
  (∀ a x, ((![v1883] : Fin 1 → IVec S16 32) a x).toNat < S32000.size a)
theorem k0_idx401_inb : ∀ (v1883 : IVec S16 32) (k0_hw401 : k0_chk401 v1883), ∀ a x, ((![v1883] : Fin 1 → IVec S16 32) a x).toNat < S32000.size a := fun v1883 k0_hw401 => k0_hw401

def k0_chk402 (v1885 : IVec S16 32) : Prop :=
  (∀ a x, ((![v1885] : Fin 1 → IVec S16 32) a x).toNat < S32000.size a)
theorem k0_idx402_inb : ∀ (v1885 : IVec S16 32) (k0_hw402 : k0_chk402 v1885), ∀ a x, ((![v1885] : Fin 1 → IVec S16 32) a x).toNat < S32000.size a := fun v1885 k0_hw402 => k0_hw402

def k0_chk403 (v1887 : IVec S16 32) : Prop :=
  (∀ a x, ((![v1887] : Fin 1 → IVec S16 32) a x).toNat < S32000.size a)
theorem k0_idx403_inb : ∀ (v1887 : IVec S16 32) (k0_hw403 : k0_chk403 v1887), ∀ a x, ((![v1887] : Fin 1 → IVec S16 32) a x).toNat < S32000.size a := fun v1887 k0_hw403 => k0_hw403

def k0_chk404 (v1889 : IVec S16 32) : Prop :=
  (∀ a x, ((![v1889] : Fin 1 → IVec S16 32) a x).toNat < S32000.size a)
theorem k0_idx404_inb : ∀ (v1889 : IVec S16 32) (k0_hw404 : k0_chk404 v1889), ∀ a x, ((![v1889] : Fin 1 → IVec S16 32) a x).toNat < S32000.size a := fun v1889 k0_hw404 => k0_hw404

def k0_chk405 (v664 : IVec S16 32) (v1940 : IVec S16 32) : Prop :=
  (∀ a x, ((![v1940, v664] : Fin 2 → IVec S16 32) a x).toNat < S64x512.size a)
theorem k0_idx405_inb : ∀ (v664 : IVec S16 32) (v1940 : IVec S16 32) (k0_hw405 : k0_chk405 v664 v1940), ∀ a x, ((![v1940, v664] : Fin 2 → IVec S16 32) a x).toNat < S64x512.size a := fun v664 v1940 k0_hw405 => k0_hw405

def k0_chk406 (v664 : IVec S16 32) (v1942 : IVec S16 32) : Prop :=
  (∀ a x, ((![v1942, v664] : Fin 2 → IVec S16 32) a x).toNat < S64x512.size a)
theorem k0_idx406_inb : ∀ (v664 : IVec S16 32) (v1942 : IVec S16 32) (k0_hw406 : k0_chk406 v664 v1942), ∀ a x, ((![v1942, v664] : Fin 2 → IVec S16 32) a x).toNat < S64x512.size a := fun v664 v1942 k0_hw406 => k0_hw406

def k0_chk407 (v1949 : IVec S16 32) : Prop :=
  (∀ a x, ((![v1949] : Fin 1 → IVec S16 32) a x).toNat < S32000.size a)
theorem k0_idx407_inb : ∀ (v1949 : IVec S16 32) (k0_hw407 : k0_chk407 v1949), ∀ a x, ((![v1949] : Fin 1 → IVec S16 32) a x).toNat < S32000.size a := fun v1949 k0_hw407 => k0_hw407

def k0_chk408 (v1951 : IVec S16 32) : Prop :=
  (∀ a x, ((![v1951] : Fin 1 → IVec S16 32) a x).toNat < S32000.size a)
theorem k0_idx408_inb : ∀ (v1951 : IVec S16 32) (k0_hw408 : k0_chk408 v1951), ∀ a x, ((![v1951] : Fin 1 → IVec S16 32) a x).toNat < S32000.size a := fun v1951 k0_hw408 => k0_hw408

def k0_chk409 (v1953 : IVec S16 32) : Prop :=
  (∀ a x, ((![v1953] : Fin 1 → IVec S16 32) a x).toNat < S32000.size a)
theorem k0_idx409_inb : ∀ (v1953 : IVec S16 32) (k0_hw409 : k0_chk409 v1953), ∀ a x, ((![v1953] : Fin 1 → IVec S16 32) a x).toNat < S32000.size a := fun v1953 k0_hw409 => k0_hw409

def k0_chk410 (v1955 : IVec S16 32) : Prop :=
  (∀ a x, ((![v1955] : Fin 1 → IVec S16 32) a x).toNat < S32000.size a)
theorem k0_idx410_inb : ∀ (v1955 : IVec S16 32) (k0_hw410 : k0_chk410 v1955), ∀ a x, ((![v1955] : Fin 1 → IVec S16 32) a x).toNat < S32000.size a := fun v1955 k0_hw410 => k0_hw410

def k0_chk411 (v1957 : IVec S16 32) : Prop :=
  (∀ a x, ((![v1957] : Fin 1 → IVec S16 32) a x).toNat < S32000.size a)
theorem k0_idx411_inb : ∀ (v1957 : IVec S16 32) (k0_hw411 : k0_chk411 v1957), ∀ a x, ((![v1957] : Fin 1 → IVec S16 32) a x).toNat < S32000.size a := fun v1957 k0_hw411 => k0_hw411

def k0_chk412 (v1959 : IVec S16 32) : Prop :=
  (∀ a x, ((![v1959] : Fin 1 → IVec S16 32) a x).toNat < S32000.size a)
theorem k0_idx412_inb : ∀ (v1959 : IVec S16 32) (k0_hw412 : k0_chk412 v1959), ∀ a x, ((![v1959] : Fin 1 → IVec S16 32) a x).toNat < S32000.size a := fun v1959 k0_hw412 => k0_hw412

def k0_chk413 (v664 : IVec S16 32) (v2010 : IVec S16 32) : Prop :=
  (∀ a x, ((![v2010, v664] : Fin 2 → IVec S16 32) a x).toNat < S64x512.size a)
theorem k0_idx413_inb : ∀ (v664 : IVec S16 32) (v2010 : IVec S16 32) (k0_hw413 : k0_chk413 v664 v2010), ∀ a x, ((![v2010, v664] : Fin 2 → IVec S16 32) a x).toNat < S64x512.size a := fun v664 v2010 k0_hw413 => k0_hw413

def k0_chk414 (v664 : IVec S16 32) (v2012 : IVec S16 32) : Prop :=
  (∀ a x, ((![v2012, v664] : Fin 2 → IVec S16 32) a x).toNat < S64x512.size a)
theorem k0_idx414_inb : ∀ (v664 : IVec S16 32) (v2012 : IVec S16 32) (k0_hw414 : k0_chk414 v664 v2012), ∀ a x, ((![v2012, v664] : Fin 2 → IVec S16 32) a x).toNat < S64x512.size a := fun v664 v2012 k0_hw414 => k0_hw414

def k0_chk415 (v2019 : IVec S16 32) : Prop :=
  (∀ a x, ((![v2019] : Fin 1 → IVec S16 32) a x).toNat < S32000.size a)
theorem k0_idx415_inb : ∀ (v2019 : IVec S16 32) (k0_hw415 : k0_chk415 v2019), ∀ a x, ((![v2019] : Fin 1 → IVec S16 32) a x).toNat < S32000.size a := fun v2019 k0_hw415 => k0_hw415

def k0_chk416 (v2021 : IVec S16 32) : Prop :=
  (∀ a x, ((![v2021] : Fin 1 → IVec S16 32) a x).toNat < S32000.size a)
theorem k0_idx416_inb : ∀ (v2021 : IVec S16 32) (k0_hw416 : k0_chk416 v2021), ∀ a x, ((![v2021] : Fin 1 → IVec S16 32) a x).toNat < S32000.size a := fun v2021 k0_hw416 => k0_hw416

def k0_chk417 (v2023 : IVec S16 32) : Prop :=
  (∀ a x, ((![v2023] : Fin 1 → IVec S16 32) a x).toNat < S32000.size a)
theorem k0_idx417_inb : ∀ (v2023 : IVec S16 32) (k0_hw417 : k0_chk417 v2023), ∀ a x, ((![v2023] : Fin 1 → IVec S16 32) a x).toNat < S32000.size a := fun v2023 k0_hw417 => k0_hw417

def k0_chk418 (v2025 : IVec S16 32) : Prop :=
  (∀ a x, ((![v2025] : Fin 1 → IVec S16 32) a x).toNat < S32000.size a)
theorem k0_idx418_inb : ∀ (v2025 : IVec S16 32) (k0_hw418 : k0_chk418 v2025), ∀ a x, ((![v2025] : Fin 1 → IVec S16 32) a x).toNat < S32000.size a := fun v2025 k0_hw418 => k0_hw418

def k0_chk419 (v2027 : IVec S16 32) : Prop :=
  (∀ a x, ((![v2027] : Fin 1 → IVec S16 32) a x).toNat < S32000.size a)
theorem k0_idx419_inb : ∀ (v2027 : IVec S16 32) (k0_hw419 : k0_chk419 v2027), ∀ a x, ((![v2027] : Fin 1 → IVec S16 32) a x).toNat < S32000.size a := fun v2027 k0_hw419 => k0_hw419

def k0_chk420 (v2029 : IVec S16 32) : Prop :=
  (∀ a x, ((![v2029] : Fin 1 → IVec S16 32) a x).toNat < S32000.size a)
theorem k0_idx420_inb : ∀ (v2029 : IVec S16 32) (k0_hw420 : k0_chk420 v2029), ∀ a x, ((![v2029] : Fin 1 → IVec S16 32) a x).toNat < S32000.size a := fun v2029 k0_hw420 => k0_hw420

def k0_chk421 (v664 : IVec S16 32) (v2080 : IVec S16 32) : Prop :=
  (∀ a x, ((![v2080, v664] : Fin 2 → IVec S16 32) a x).toNat < S64x512.size a)
theorem k0_idx421_inb : ∀ (v664 : IVec S16 32) (v2080 : IVec S16 32) (k0_hw421 : k0_chk421 v664 v2080), ∀ a x, ((![v2080, v664] : Fin 2 → IVec S16 32) a x).toNat < S64x512.size a := fun v664 v2080 k0_hw421 => k0_hw421

def k0_chk422 (v664 : IVec S16 32) (v2082 : IVec S16 32) : Prop :=
  (∀ a x, ((![v2082, v664] : Fin 2 → IVec S16 32) a x).toNat < S64x512.size a)
theorem k0_idx422_inb : ∀ (v664 : IVec S16 32) (v2082 : IVec S16 32) (k0_hw422 : k0_chk422 v664 v2082), ∀ a x, ((![v2082, v664] : Fin 2 → IVec S16 32) a x).toNat < S64x512.size a := fun v664 v2082 k0_hw422 => k0_hw422

def k0_chk423 (v2089 : IVec S16 32) : Prop :=
  (∀ a x, ((![v2089] : Fin 1 → IVec S16 32) a x).toNat < S32000.size a)
theorem k0_idx423_inb : ∀ (v2089 : IVec S16 32) (k0_hw423 : k0_chk423 v2089), ∀ a x, ((![v2089] : Fin 1 → IVec S16 32) a x).toNat < S32000.size a := fun v2089 k0_hw423 => k0_hw423

def k0_chk424 (v2091 : IVec S16 32) : Prop :=
  (∀ a x, ((![v2091] : Fin 1 → IVec S16 32) a x).toNat < S32000.size a)
theorem k0_idx424_inb : ∀ (v2091 : IVec S16 32) (k0_hw424 : k0_chk424 v2091), ∀ a x, ((![v2091] : Fin 1 → IVec S16 32) a x).toNat < S32000.size a := fun v2091 k0_hw424 => k0_hw424

def k0_chk425 (v2093 : IVec S16 32) : Prop :=
  (∀ a x, ((![v2093] : Fin 1 → IVec S16 32) a x).toNat < S32000.size a)
theorem k0_idx425_inb : ∀ (v2093 : IVec S16 32) (k0_hw425 : k0_chk425 v2093), ∀ a x, ((![v2093] : Fin 1 → IVec S16 32) a x).toNat < S32000.size a := fun v2093 k0_hw425 => k0_hw425

def k0_chk426 (v2095 : IVec S16 32) : Prop :=
  (∀ a x, ((![v2095] : Fin 1 → IVec S16 32) a x).toNat < S32000.size a)
theorem k0_idx426_inb : ∀ (v2095 : IVec S16 32) (k0_hw426 : k0_chk426 v2095), ∀ a x, ((![v2095] : Fin 1 → IVec S16 32) a x).toNat < S32000.size a := fun v2095 k0_hw426 => k0_hw426

def k0_chk427 (v2097 : IVec S16 32) : Prop :=
  (∀ a x, ((![v2097] : Fin 1 → IVec S16 32) a x).toNat < S32000.size a)
theorem k0_idx427_inb : ∀ (v2097 : IVec S16 32) (k0_hw427 : k0_chk427 v2097), ∀ a x, ((![v2097] : Fin 1 → IVec S16 32) a x).toNat < S32000.size a := fun v2097 k0_hw427 => k0_hw427

def k0_chk428 (v2099 : IVec S16 32) : Prop :=
  (∀ a x, ((![v2099] : Fin 1 → IVec S16 32) a x).toNat < S32000.size a)
theorem k0_idx428_inb : ∀ (v2099 : IVec S16 32) (k0_hw428 : k0_chk428 v2099), ∀ a x, ((![v2099] : Fin 1 → IVec S16 32) a x).toNat < S32000.size a := fun v2099 k0_hw428 => k0_hw428

def k0_chk429 (v664 : IVec S16 32) (v2150 : IVec S16 32) : Prop :=
  (∀ a x, ((![v2150, v664] : Fin 2 → IVec S16 32) a x).toNat < S64x512.size a)
theorem k0_idx429_inb : ∀ (v664 : IVec S16 32) (v2150 : IVec S16 32) (k0_hw429 : k0_chk429 v664 v2150), ∀ a x, ((![v2150, v664] : Fin 2 → IVec S16 32) a x).toNat < S64x512.size a := fun v664 v2150 k0_hw429 => k0_hw429

def k0_chk430 (v664 : IVec S16 32) (v2152 : IVec S16 32) : Prop :=
  (∀ a x, ((![v2152, v664] : Fin 2 → IVec S16 32) a x).toNat < S64x512.size a)
theorem k0_idx430_inb : ∀ (v664 : IVec S16 32) (v2152 : IVec S16 32) (k0_hw430 : k0_chk430 v664 v2152), ∀ a x, ((![v2152, v664] : Fin 2 → IVec S16 32) a x).toNat < S64x512.size a := fun v664 v2152 k0_hw430 => k0_hw430

def k0_chk431 (v2159 : IVec S16 32) : Prop :=
  (∀ a x, ((![v2159] : Fin 1 → IVec S16 32) a x).toNat < S32000.size a)
theorem k0_idx431_inb : ∀ (v2159 : IVec S16 32) (k0_hw431 : k0_chk431 v2159), ∀ a x, ((![v2159] : Fin 1 → IVec S16 32) a x).toNat < S32000.size a := fun v2159 k0_hw431 => k0_hw431

def k0_chk432 (v2161 : IVec S16 32) : Prop :=
  (∀ a x, ((![v2161] : Fin 1 → IVec S16 32) a x).toNat < S32000.size a)
theorem k0_idx432_inb : ∀ (v2161 : IVec S16 32) (k0_hw432 : k0_chk432 v2161), ∀ a x, ((![v2161] : Fin 1 → IVec S16 32) a x).toNat < S32000.size a := fun v2161 k0_hw432 => k0_hw432

def k0_chk433 (v2163 : IVec S16 32) : Prop :=
  (∀ a x, ((![v2163] : Fin 1 → IVec S16 32) a x).toNat < S32000.size a)
theorem k0_idx433_inb : ∀ (v2163 : IVec S16 32) (k0_hw433 : k0_chk433 v2163), ∀ a x, ((![v2163] : Fin 1 → IVec S16 32) a x).toNat < S32000.size a := fun v2163 k0_hw433 => k0_hw433

def k0_chk434 (v2165 : IVec S16 32) : Prop :=
  (∀ a x, ((![v2165] : Fin 1 → IVec S16 32) a x).toNat < S32000.size a)
theorem k0_idx434_inb : ∀ (v2165 : IVec S16 32) (k0_hw434 : k0_chk434 v2165), ∀ a x, ((![v2165] : Fin 1 → IVec S16 32) a x).toNat < S32000.size a := fun v2165 k0_hw434 => k0_hw434

def k0_chk435 (v2167 : IVec S16 32) : Prop :=
  (∀ a x, ((![v2167] : Fin 1 → IVec S16 32) a x).toNat < S32000.size a)
theorem k0_idx435_inb : ∀ (v2167 : IVec S16 32) (k0_hw435 : k0_chk435 v2167), ∀ a x, ((![v2167] : Fin 1 → IVec S16 32) a x).toNat < S32000.size a := fun v2167 k0_hw435 => k0_hw435

def k0_chk436 (v2169 : IVec S16 32) : Prop :=
  (∀ a x, ((![v2169] : Fin 1 → IVec S16 32) a x).toNat < S32000.size a)
theorem k0_idx436_inb : ∀ (v2169 : IVec S16 32) (k0_hw436 : k0_chk436 v2169), ∀ a x, ((![v2169] : Fin 1 → IVec S16 32) a x).toNat < S32000.size a := fun v2169 k0_hw436 => k0_hw436

def k0_chk437 (v664 : IVec S16 32) (v2220 : IVec S16 32) : Prop :=
  (∀ a x, ((![v2220, v664] : Fin 2 → IVec S16 32) a x).toNat < S64x512.size a)
theorem k0_idx437_inb : ∀ (v664 : IVec S16 32) (v2220 : IVec S16 32) (k0_hw437 : k0_chk437 v664 v2220), ∀ a x, ((![v2220, v664] : Fin 2 → IVec S16 32) a x).toNat < S64x512.size a := fun v664 v2220 k0_hw437 => k0_hw437

def k0_chk438 (v664 : IVec S16 32) (v2222 : IVec S16 32) : Prop :=
  (∀ a x, ((![v2222, v664] : Fin 2 → IVec S16 32) a x).toNat < S64x512.size a)
theorem k0_idx438_inb : ∀ (v664 : IVec S16 32) (v2222 : IVec S16 32) (k0_hw438 : k0_chk438 v664 v2222), ∀ a x, ((![v2222, v664] : Fin 2 → IVec S16 32) a x).toNat < S64x512.size a := fun v664 v2222 k0_hw438 => k0_hw438

def k0_chk439 (v2229 : IVec S16 32) : Prop :=
  (∀ a x, ((![v2229] : Fin 1 → IVec S16 32) a x).toNat < S32000.size a)
theorem k0_idx439_inb : ∀ (v2229 : IVec S16 32) (k0_hw439 : k0_chk439 v2229), ∀ a x, ((![v2229] : Fin 1 → IVec S16 32) a x).toNat < S32000.size a := fun v2229 k0_hw439 => k0_hw439

def k0_chk440 (v2231 : IVec S16 32) : Prop :=
  (∀ a x, ((![v2231] : Fin 1 → IVec S16 32) a x).toNat < S32000.size a)
theorem k0_idx440_inb : ∀ (v2231 : IVec S16 32) (k0_hw440 : k0_chk440 v2231), ∀ a x, ((![v2231] : Fin 1 → IVec S16 32) a x).toNat < S32000.size a := fun v2231 k0_hw440 => k0_hw440

def k0_chk441 (v2233 : IVec S16 32) : Prop :=
  (∀ a x, ((![v2233] : Fin 1 → IVec S16 32) a x).toNat < S32000.size a)
theorem k0_idx441_inb : ∀ (v2233 : IVec S16 32) (k0_hw441 : k0_chk441 v2233), ∀ a x, ((![v2233] : Fin 1 → IVec S16 32) a x).toNat < S32000.size a := fun v2233 k0_hw441 => k0_hw441

def k0_chk442 (v2235 : IVec S16 32) : Prop :=
  (∀ a x, ((![v2235] : Fin 1 → IVec S16 32) a x).toNat < S32000.size a)
theorem k0_idx442_inb : ∀ (v2235 : IVec S16 32) (k0_hw442 : k0_chk442 v2235), ∀ a x, ((![v2235] : Fin 1 → IVec S16 32) a x).toNat < S32000.size a := fun v2235 k0_hw442 => k0_hw442

def k0_chk443 (v2237 : IVec S16 32) : Prop :=
  (∀ a x, ((![v2237] : Fin 1 → IVec S16 32) a x).toNat < S32000.size a)
theorem k0_idx443_inb : ∀ (v2237 : IVec S16 32) (k0_hw443 : k0_chk443 v2237), ∀ a x, ((![v2237] : Fin 1 → IVec S16 32) a x).toNat < S32000.size a := fun v2237 k0_hw443 => k0_hw443

def k0_chk444 (v2239 : IVec S16 32) : Prop :=
  (∀ a x, ((![v2239] : Fin 1 → IVec S16 32) a x).toNat < S32000.size a)
theorem k0_idx444_inb : ∀ (v2239 : IVec S16 32) (k0_hw444 : k0_chk444 v2239), ∀ a x, ((![v2239] : Fin 1 → IVec S16 32) a x).toNat < S32000.size a := fun v2239 k0_hw444 => k0_hw444

def k0_chk445 (v664 : IVec S16 32) (v2290 : IVec S16 32) : Prop :=
  (∀ a x, ((![v2290, v664] : Fin 2 → IVec S16 32) a x).toNat < S64x512.size a)
theorem k0_idx445_inb : ∀ (v664 : IVec S16 32) (v2290 : IVec S16 32) (k0_hw445 : k0_chk445 v664 v2290), ∀ a x, ((![v2290, v664] : Fin 2 → IVec S16 32) a x).toNat < S64x512.size a := fun v664 v2290 k0_hw445 => k0_hw445

def k0_chk446 (v664 : IVec S16 32) (v2292 : IVec S16 32) : Prop :=
  (∀ a x, ((![v2292, v664] : Fin 2 → IVec S16 32) a x).toNat < S64x512.size a)
theorem k0_idx446_inb : ∀ (v664 : IVec S16 32) (v2292 : IVec S16 32) (k0_hw446 : k0_chk446 v664 v2292), ∀ a x, ((![v2292, v664] : Fin 2 → IVec S16 32) a x).toNat < S64x512.size a := fun v664 v2292 k0_hw446 => k0_hw446

def k0_chk447 (v2299 : IVec S16 32) : Prop :=
  (∀ a x, ((![v2299] : Fin 1 → IVec S16 32) a x).toNat < S32000.size a)
theorem k0_idx447_inb : ∀ (v2299 : IVec S16 32) (k0_hw447 : k0_chk447 v2299), ∀ a x, ((![v2299] : Fin 1 → IVec S16 32) a x).toNat < S32000.size a := fun v2299 k0_hw447 => k0_hw447

def k0_chk448 (v2301 : IVec S16 32) : Prop :=
  (∀ a x, ((![v2301] : Fin 1 → IVec S16 32) a x).toNat < S32000.size a)
theorem k0_idx448_inb : ∀ (v2301 : IVec S16 32) (k0_hw448 : k0_chk448 v2301), ∀ a x, ((![v2301] : Fin 1 → IVec S16 32) a x).toNat < S32000.size a := fun v2301 k0_hw448 => k0_hw448

def k0_chk449 (v2303 : IVec S16 32) : Prop :=
  (∀ a x, ((![v2303] : Fin 1 → IVec S16 32) a x).toNat < S32000.size a)
theorem k0_idx449_inb : ∀ (v2303 : IVec S16 32) (k0_hw449 : k0_chk449 v2303), ∀ a x, ((![v2303] : Fin 1 → IVec S16 32) a x).toNat < S32000.size a := fun v2303 k0_hw449 => k0_hw449

def k0_chk450 (v2305 : IVec S16 32) : Prop :=
  (∀ a x, ((![v2305] : Fin 1 → IVec S16 32) a x).toNat < S32000.size a)
theorem k0_idx450_inb : ∀ (v2305 : IVec S16 32) (k0_hw450 : k0_chk450 v2305), ∀ a x, ((![v2305] : Fin 1 → IVec S16 32) a x).toNat < S32000.size a := fun v2305 k0_hw450 => k0_hw450

def k0_chk451 (v2307 : IVec S16 32) : Prop :=
  (∀ a x, ((![v2307] : Fin 1 → IVec S16 32) a x).toNat < S32000.size a)
theorem k0_idx451_inb : ∀ (v2307 : IVec S16 32) (k0_hw451 : k0_chk451 v2307), ∀ a x, ((![v2307] : Fin 1 → IVec S16 32) a x).toNat < S32000.size a := fun v2307 k0_hw451 => k0_hw451

def k0_chk452 (v2309 : IVec S16 32) : Prop :=
  (∀ a x, ((![v2309] : Fin 1 → IVec S16 32) a x).toNat < S32000.size a)
theorem k0_idx452_inb : ∀ (v2309 : IVec S16 32) (k0_hw452 : k0_chk452 v2309), ∀ a x, ((![v2309] : Fin 1 → IVec S16 32) a x).toNat < S32000.size a := fun v2309 k0_hw452 => k0_hw452

def k0_chk453 (v664 : IVec S16 32) (v2360 : IVec S16 32) : Prop :=
  (∀ a x, ((![v2360, v664] : Fin 2 → IVec S16 32) a x).toNat < S64x512.size a)
theorem k0_idx453_inb : ∀ (v664 : IVec S16 32) (v2360 : IVec S16 32) (k0_hw453 : k0_chk453 v664 v2360), ∀ a x, ((![v2360, v664] : Fin 2 → IVec S16 32) a x).toNat < S64x512.size a := fun v664 v2360 k0_hw453 => k0_hw453

def k0_chk454 (v664 : IVec S16 32) (v2362 : IVec S16 32) : Prop :=
  (∀ a x, ((![v2362, v664] : Fin 2 → IVec S16 32) a x).toNat < S64x512.size a)
theorem k0_idx454_inb : ∀ (v664 : IVec S16 32) (v2362 : IVec S16 32) (k0_hw454 : k0_chk454 v664 v2362), ∀ a x, ((![v2362, v664] : Fin 2 → IVec S16 32) a x).toNat < S64x512.size a := fun v664 v2362 k0_hw454 => k0_hw454

def k0_chk455 (v2369 : IVec S16 32) : Prop :=
  (∀ a x, ((![v2369] : Fin 1 → IVec S16 32) a x).toNat < S32000.size a)
theorem k0_idx455_inb : ∀ (v2369 : IVec S16 32) (k0_hw455 : k0_chk455 v2369), ∀ a x, ((![v2369] : Fin 1 → IVec S16 32) a x).toNat < S32000.size a := fun v2369 k0_hw455 => k0_hw455

def k0_chk456 (v2371 : IVec S16 32) : Prop :=
  (∀ a x, ((![v2371] : Fin 1 → IVec S16 32) a x).toNat < S32000.size a)
theorem k0_idx456_inb : ∀ (v2371 : IVec S16 32) (k0_hw456 : k0_chk456 v2371), ∀ a x, ((![v2371] : Fin 1 → IVec S16 32) a x).toNat < S32000.size a := fun v2371 k0_hw456 => k0_hw456

def k0_chk457 (v2373 : IVec S16 32) : Prop :=
  (∀ a x, ((![v2373] : Fin 1 → IVec S16 32) a x).toNat < S32000.size a)
theorem k0_idx457_inb : ∀ (v2373 : IVec S16 32) (k0_hw457 : k0_chk457 v2373), ∀ a x, ((![v2373] : Fin 1 → IVec S16 32) a x).toNat < S32000.size a := fun v2373 k0_hw457 => k0_hw457

def k0_chk458 (v2375 : IVec S16 32) : Prop :=
  (∀ a x, ((![v2375] : Fin 1 → IVec S16 32) a x).toNat < S32000.size a)
theorem k0_idx458_inb : ∀ (v2375 : IVec S16 32) (k0_hw458 : k0_chk458 v2375), ∀ a x, ((![v2375] : Fin 1 → IVec S16 32) a x).toNat < S32000.size a := fun v2375 k0_hw458 => k0_hw458

def k0_chk459 (v2377 : IVec S16 32) : Prop :=
  (∀ a x, ((![v2377] : Fin 1 → IVec S16 32) a x).toNat < S32000.size a)
theorem k0_idx459_inb : ∀ (v2377 : IVec S16 32) (k0_hw459 : k0_chk459 v2377), ∀ a x, ((![v2377] : Fin 1 → IVec S16 32) a x).toNat < S32000.size a := fun v2377 k0_hw459 => k0_hw459

def k0_chk460 (v2379 : IVec S16 32) : Prop :=
  (∀ a x, ((![v2379] : Fin 1 → IVec S16 32) a x).toNat < S32000.size a)
theorem k0_idx460_inb : ∀ (v2379 : IVec S16 32) (k0_hw460 : k0_chk460 v2379), ∀ a x, ((![v2379] : Fin 1 → IVec S16 32) a x).toNat < S32000.size a := fun v2379 k0_hw460 => k0_hw460

def k0_chk461 (v664 : IVec S16 32) (v2430 : IVec S16 32) : Prop :=
  (∀ a x, ((![v2430, v664] : Fin 2 → IVec S16 32) a x).toNat < S64x512.size a)
theorem k0_idx461_inb : ∀ (v664 : IVec S16 32) (v2430 : IVec S16 32) (k0_hw461 : k0_chk461 v664 v2430), ∀ a x, ((![v2430, v664] : Fin 2 → IVec S16 32) a x).toNat < S64x512.size a := fun v664 v2430 k0_hw461 => k0_hw461

def k0_chk462 (v664 : IVec S16 32) (v2432 : IVec S16 32) : Prop :=
  (∀ a x, ((![v2432, v664] : Fin 2 → IVec S16 32) a x).toNat < S64x512.size a)
theorem k0_idx462_inb : ∀ (v664 : IVec S16 32) (v2432 : IVec S16 32) (k0_hw462 : k0_chk462 v664 v2432), ∀ a x, ((![v2432, v664] : Fin 2 → IVec S16 32) a x).toNat < S64x512.size a := fun v664 v2432 k0_hw462 => k0_hw462

def k0_chk463 (v2439 : IVec S16 32) : Prop :=
  (∀ a x, ((![v2439] : Fin 1 → IVec S16 32) a x).toNat < S32000.size a)
theorem k0_idx463_inb : ∀ (v2439 : IVec S16 32) (k0_hw463 : k0_chk463 v2439), ∀ a x, ((![v2439] : Fin 1 → IVec S16 32) a x).toNat < S32000.size a := fun v2439 k0_hw463 => k0_hw463

def k0_chk464 (v2441 : IVec S16 32) : Prop :=
  (∀ a x, ((![v2441] : Fin 1 → IVec S16 32) a x).toNat < S32000.size a)
theorem k0_idx464_inb : ∀ (v2441 : IVec S16 32) (k0_hw464 : k0_chk464 v2441), ∀ a x, ((![v2441] : Fin 1 → IVec S16 32) a x).toNat < S32000.size a := fun v2441 k0_hw464 => k0_hw464

def k0_chk465 (v2443 : IVec S16 32) : Prop :=
  (∀ a x, ((![v2443] : Fin 1 → IVec S16 32) a x).toNat < S32000.size a)
theorem k0_idx465_inb : ∀ (v2443 : IVec S16 32) (k0_hw465 : k0_chk465 v2443), ∀ a x, ((![v2443] : Fin 1 → IVec S16 32) a x).toNat < S32000.size a := fun v2443 k0_hw465 => k0_hw465

def k0_chk466 (v2445 : IVec S16 32) : Prop :=
  (∀ a x, ((![v2445] : Fin 1 → IVec S16 32) a x).toNat < S32000.size a)
theorem k0_idx466_inb : ∀ (v2445 : IVec S16 32) (k0_hw466 : k0_chk466 v2445), ∀ a x, ((![v2445] : Fin 1 → IVec S16 32) a x).toNat < S32000.size a := fun v2445 k0_hw466 => k0_hw466

def k0_chk467 (v2447 : IVec S16 32) : Prop :=
  (∀ a x, ((![v2447] : Fin 1 → IVec S16 32) a x).toNat < S32000.size a)
theorem k0_idx467_inb : ∀ (v2447 : IVec S16 32) (k0_hw467 : k0_chk467 v2447), ∀ a x, ((![v2447] : Fin 1 → IVec S16 32) a x).toNat < S32000.size a := fun v2447 k0_hw467 => k0_hw467

def k0_chk468 (v2449 : IVec S16 32) : Prop :=
  (∀ a x, ((![v2449] : Fin 1 → IVec S16 32) a x).toNat < S32000.size a)
theorem k0_idx468_inb : ∀ (v2449 : IVec S16 32) (k0_hw468 : k0_chk468 v2449), ∀ a x, ((![v2449] : Fin 1 → IVec S16 32) a x).toNat < S32000.size a := fun v2449 k0_hw468 => k0_hw468

def k0_chk469 (v664 : IVec S16 32) (v2500 : IVec S16 32) : Prop :=
  (∀ a x, ((![v2500, v664] : Fin 2 → IVec S16 32) a x).toNat < S64x512.size a)
theorem k0_idx469_inb : ∀ (v664 : IVec S16 32) (v2500 : IVec S16 32) (k0_hw469 : k0_chk469 v664 v2500), ∀ a x, ((![v2500, v664] : Fin 2 → IVec S16 32) a x).toNat < S64x512.size a := fun v664 v2500 k0_hw469 => k0_hw469

def k0_chk470 (v664 : IVec S16 32) (v2502 : IVec S16 32) : Prop :=
  (∀ a x, ((![v2502, v664] : Fin 2 → IVec S16 32) a x).toNat < S64x512.size a)
theorem k0_idx470_inb : ∀ (v664 : IVec S16 32) (v2502 : IVec S16 32) (k0_hw470 : k0_chk470 v664 v2502), ∀ a x, ((![v2502, v664] : Fin 2 → IVec S16 32) a x).toNat < S64x512.size a := fun v664 v2502 k0_hw470 => k0_hw470

def k0_chk471 (v2509 : IVec S16 32) : Prop :=
  (∀ a x, ((![v2509] : Fin 1 → IVec S16 32) a x).toNat < S32000.size a)
theorem k0_idx471_inb : ∀ (v2509 : IVec S16 32) (k0_hw471 : k0_chk471 v2509), ∀ a x, ((![v2509] : Fin 1 → IVec S16 32) a x).toNat < S32000.size a := fun v2509 k0_hw471 => k0_hw471

def k0_chk472 (v2511 : IVec S16 32) : Prop :=
  (∀ a x, ((![v2511] : Fin 1 → IVec S16 32) a x).toNat < S32000.size a)
theorem k0_idx472_inb : ∀ (v2511 : IVec S16 32) (k0_hw472 : k0_chk472 v2511), ∀ a x, ((![v2511] : Fin 1 → IVec S16 32) a x).toNat < S32000.size a := fun v2511 k0_hw472 => k0_hw472

def k0_chk473 (v2513 : IVec S16 32) : Prop :=
  (∀ a x, ((![v2513] : Fin 1 → IVec S16 32) a x).toNat < S32000.size a)
theorem k0_idx473_inb : ∀ (v2513 : IVec S16 32) (k0_hw473 : k0_chk473 v2513), ∀ a x, ((![v2513] : Fin 1 → IVec S16 32) a x).toNat < S32000.size a := fun v2513 k0_hw473 => k0_hw473

def k0_chk474 (v2515 : IVec S16 32) : Prop :=
  (∀ a x, ((![v2515] : Fin 1 → IVec S16 32) a x).toNat < S32000.size a)
theorem k0_idx474_inb : ∀ (v2515 : IVec S16 32) (k0_hw474 : k0_chk474 v2515), ∀ a x, ((![v2515] : Fin 1 → IVec S16 32) a x).toNat < S32000.size a := fun v2515 k0_hw474 => k0_hw474

def k0_chk475 (v2517 : IVec S16 32) : Prop :=
  (∀ a x, ((![v2517] : Fin 1 → IVec S16 32) a x).toNat < S32000.size a)
theorem k0_idx475_inb : ∀ (v2517 : IVec S16 32) (k0_hw475 : k0_chk475 v2517), ∀ a x, ((![v2517] : Fin 1 → IVec S16 32) a x).toNat < S32000.size a := fun v2517 k0_hw475 => k0_hw475

def k0_chk476 (v2519 : IVec S16 32) : Prop :=
  (∀ a x, ((![v2519] : Fin 1 → IVec S16 32) a x).toNat < S32000.size a)
theorem k0_idx476_inb : ∀ (v2519 : IVec S16 32) (k0_hw476 : k0_chk476 v2519), ∀ a x, ((![v2519] : Fin 1 → IVec S16 32) a x).toNat < S32000.size a := fun v2519 k0_hw476 => k0_hw476

def k0_chk477 (v664 : IVec S16 32) (v2570 : IVec S16 32) : Prop :=
  (∀ a x, ((![v2570, v664] : Fin 2 → IVec S16 32) a x).toNat < S64x512.size a)
theorem k0_idx477_inb : ∀ (v664 : IVec S16 32) (v2570 : IVec S16 32) (k0_hw477 : k0_chk477 v664 v2570), ∀ a x, ((![v2570, v664] : Fin 2 → IVec S16 32) a x).toNat < S64x512.size a := fun v664 v2570 k0_hw477 => k0_hw477

def k0_chk478 (v664 : IVec S16 32) (v2572 : IVec S16 32) : Prop :=
  (∀ a x, ((![v2572, v664] : Fin 2 → IVec S16 32) a x).toNat < S64x512.size a)
theorem k0_idx478_inb : ∀ (v664 : IVec S16 32) (v2572 : IVec S16 32) (k0_hw478 : k0_chk478 v664 v2572), ∀ a x, ((![v2572, v664] : Fin 2 → IVec S16 32) a x).toNat < S64x512.size a := fun v664 v2572 k0_hw478 => k0_hw478

def k0_chk479 (v2579 : IVec S16 32) : Prop :=
  (∀ a x, ((![v2579] : Fin 1 → IVec S16 32) a x).toNat < S32000.size a)
theorem k0_idx479_inb : ∀ (v2579 : IVec S16 32) (k0_hw479 : k0_chk479 v2579), ∀ a x, ((![v2579] : Fin 1 → IVec S16 32) a x).toNat < S32000.size a := fun v2579 k0_hw479 => k0_hw479

def k0_chk480 (v2581 : IVec S16 32) : Prop :=
  (∀ a x, ((![v2581] : Fin 1 → IVec S16 32) a x).toNat < S32000.size a)
theorem k0_idx480_inb : ∀ (v2581 : IVec S16 32) (k0_hw480 : k0_chk480 v2581), ∀ a x, ((![v2581] : Fin 1 → IVec S16 32) a x).toNat < S32000.size a := fun v2581 k0_hw480 => k0_hw480

def k0_chk481 (v2583 : IVec S16 32) : Prop :=
  (∀ a x, ((![v2583] : Fin 1 → IVec S16 32) a x).toNat < S32000.size a)
theorem k0_idx481_inb : ∀ (v2583 : IVec S16 32) (k0_hw481 : k0_chk481 v2583), ∀ a x, ((![v2583] : Fin 1 → IVec S16 32) a x).toNat < S32000.size a := fun v2583 k0_hw481 => k0_hw481

def k0_chk482 (v2585 : IVec S16 32) : Prop :=
  (∀ a x, ((![v2585] : Fin 1 → IVec S16 32) a x).toNat < S32000.size a)
theorem k0_idx482_inb : ∀ (v2585 : IVec S16 32) (k0_hw482 : k0_chk482 v2585), ∀ a x, ((![v2585] : Fin 1 → IVec S16 32) a x).toNat < S32000.size a := fun v2585 k0_hw482 => k0_hw482

def k0_chk483 (v2587 : IVec S16 32) : Prop :=
  (∀ a x, ((![v2587] : Fin 1 → IVec S16 32) a x).toNat < S32000.size a)
theorem k0_idx483_inb : ∀ (v2587 : IVec S16 32) (k0_hw483 : k0_chk483 v2587), ∀ a x, ((![v2587] : Fin 1 → IVec S16 32) a x).toNat < S32000.size a := fun v2587 k0_hw483 => k0_hw483

def k0_chk484 (v2589 : IVec S16 32) : Prop :=
  (∀ a x, ((![v2589] : Fin 1 → IVec S16 32) a x).toNat < S32000.size a)
theorem k0_idx484_inb : ∀ (v2589 : IVec S16 32) (k0_hw484 : k0_chk484 v2589), ∀ a x, ((![v2589] : Fin 1 → IVec S16 32) a x).toNat < S32000.size a := fun v2589 k0_hw484 => k0_hw484

def k0_chk485 (v664 : IVec S16 32) (v2640 : IVec S16 32) : Prop :=
  (∀ a x, ((![v2640, v664] : Fin 2 → IVec S16 32) a x).toNat < S64x512.size a)
theorem k0_idx485_inb : ∀ (v664 : IVec S16 32) (v2640 : IVec S16 32) (k0_hw485 : k0_chk485 v664 v2640), ∀ a x, ((![v2640, v664] : Fin 2 → IVec S16 32) a x).toNat < S64x512.size a := fun v664 v2640 k0_hw485 => k0_hw485

def k0_chk486 (v664 : IVec S16 32) (v2642 : IVec S16 32) : Prop :=
  (∀ a x, ((![v2642, v664] : Fin 2 → IVec S16 32) a x).toNat < S64x512.size a)
theorem k0_idx486_inb : ∀ (v664 : IVec S16 32) (v2642 : IVec S16 32) (k0_hw486 : k0_chk486 v664 v2642), ∀ a x, ((![v2642, v664] : Fin 2 → IVec S16 32) a x).toNat < S64x512.size a := fun v664 v2642 k0_hw486 => k0_hw486

def k0_chk487 (v2649 : IVec S16 32) : Prop :=
  (∀ a x, ((![v2649] : Fin 1 → IVec S16 32) a x).toNat < S32000.size a)
theorem k0_idx487_inb : ∀ (v2649 : IVec S16 32) (k0_hw487 : k0_chk487 v2649), ∀ a x, ((![v2649] : Fin 1 → IVec S16 32) a x).toNat < S32000.size a := fun v2649 k0_hw487 => k0_hw487

def k0_chk488 (v2651 : IVec S16 32) : Prop :=
  (∀ a x, ((![v2651] : Fin 1 → IVec S16 32) a x).toNat < S32000.size a)
theorem k0_idx488_inb : ∀ (v2651 : IVec S16 32) (k0_hw488 : k0_chk488 v2651), ∀ a x, ((![v2651] : Fin 1 → IVec S16 32) a x).toNat < S32000.size a := fun v2651 k0_hw488 => k0_hw488

def k0_chk489 (v2653 : IVec S16 32) : Prop :=
  (∀ a x, ((![v2653] : Fin 1 → IVec S16 32) a x).toNat < S32000.size a)
theorem k0_idx489_inb : ∀ (v2653 : IVec S16 32) (k0_hw489 : k0_chk489 v2653), ∀ a x, ((![v2653] : Fin 1 → IVec S16 32) a x).toNat < S32000.size a := fun v2653 k0_hw489 => k0_hw489

def k0_chk490 (v2655 : IVec S16 32) : Prop :=
  (∀ a x, ((![v2655] : Fin 1 → IVec S16 32) a x).toNat < S32000.size a)
theorem k0_idx490_inb : ∀ (v2655 : IVec S16 32) (k0_hw490 : k0_chk490 v2655), ∀ a x, ((![v2655] : Fin 1 → IVec S16 32) a x).toNat < S32000.size a := fun v2655 k0_hw490 => k0_hw490

def k0_chk491 (v2657 : IVec S16 32) : Prop :=
  (∀ a x, ((![v2657] : Fin 1 → IVec S16 32) a x).toNat < S32000.size a)
theorem k0_idx491_inb : ∀ (v2657 : IVec S16 32) (k0_hw491 : k0_chk491 v2657), ∀ a x, ((![v2657] : Fin 1 → IVec S16 32) a x).toNat < S32000.size a := fun v2657 k0_hw491 => k0_hw491

def k0_chk492 (v2659 : IVec S16 32) : Prop :=
  (∀ a x, ((![v2659] : Fin 1 → IVec S16 32) a x).toNat < S32000.size a)
theorem k0_idx492_inb : ∀ (v2659 : IVec S16 32) (k0_hw492 : k0_chk492 v2659), ∀ a x, ((![v2659] : Fin 1 → IVec S16 32) a x).toNat < S32000.size a := fun v2659 k0_hw492 => k0_hw492

def k0_chk493 (v664 : IVec S16 32) (v2710 : IVec S16 32) : Prop :=
  (∀ a x, ((![v2710, v664] : Fin 2 → IVec S16 32) a x).toNat < S64x512.size a)
theorem k0_idx493_inb : ∀ (v664 : IVec S16 32) (v2710 : IVec S16 32) (k0_hw493 : k0_chk493 v664 v2710), ∀ a x, ((![v2710, v664] : Fin 2 → IVec S16 32) a x).toNat < S64x512.size a := fun v664 v2710 k0_hw493 => k0_hw493

def k0_chk494 (v664 : IVec S16 32) (v2712 : IVec S16 32) : Prop :=
  (∀ a x, ((![v2712, v664] : Fin 2 → IVec S16 32) a x).toNat < S64x512.size a)
theorem k0_idx494_inb : ∀ (v664 : IVec S16 32) (v2712 : IVec S16 32) (k0_hw494 : k0_chk494 v664 v2712), ∀ a x, ((![v2712, v664] : Fin 2 → IVec S16 32) a x).toNat < S64x512.size a := fun v664 v2712 k0_hw494 => k0_hw494

def k0_chk495 (v2719 : IVec S16 32) : Prop :=
  (∀ a x, ((![v2719] : Fin 1 → IVec S16 32) a x).toNat < S32000.size a)
theorem k0_idx495_inb : ∀ (v2719 : IVec S16 32) (k0_hw495 : k0_chk495 v2719), ∀ a x, ((![v2719] : Fin 1 → IVec S16 32) a x).toNat < S32000.size a := fun v2719 k0_hw495 => k0_hw495

def k0_chk496 (v2721 : IVec S16 32) : Prop :=
  (∀ a x, ((![v2721] : Fin 1 → IVec S16 32) a x).toNat < S32000.size a)
theorem k0_idx496_inb : ∀ (v2721 : IVec S16 32) (k0_hw496 : k0_chk496 v2721), ∀ a x, ((![v2721] : Fin 1 → IVec S16 32) a x).toNat < S32000.size a := fun v2721 k0_hw496 => k0_hw496

def k0_chk497 (v2723 : IVec S16 32) : Prop :=
  (∀ a x, ((![v2723] : Fin 1 → IVec S16 32) a x).toNat < S32000.size a)
theorem k0_idx497_inb : ∀ (v2723 : IVec S16 32) (k0_hw497 : k0_chk497 v2723), ∀ a x, ((![v2723] : Fin 1 → IVec S16 32) a x).toNat < S32000.size a := fun v2723 k0_hw497 => k0_hw497

def k0_chk498 (v2725 : IVec S16 32) : Prop :=
  (∀ a x, ((![v2725] : Fin 1 → IVec S16 32) a x).toNat < S32000.size a)
theorem k0_idx498_inb : ∀ (v2725 : IVec S16 32) (k0_hw498 : k0_chk498 v2725), ∀ a x, ((![v2725] : Fin 1 → IVec S16 32) a x).toNat < S32000.size a := fun v2725 k0_hw498 => k0_hw498

def k0_chk499 (v2727 : IVec S16 32) : Prop :=
  (∀ a x, ((![v2727] : Fin 1 → IVec S16 32) a x).toNat < S32000.size a)
theorem k0_idx499_inb : ∀ (v2727 : IVec S16 32) (k0_hw499 : k0_chk499 v2727), ∀ a x, ((![v2727] : Fin 1 → IVec S16 32) a x).toNat < S32000.size a := fun v2727 k0_hw499 => k0_hw499

def k0_chk500 (v2729 : IVec S16 32) : Prop :=
  (∀ a x, ((![v2729] : Fin 1 → IVec S16 32) a x).toNat < S32000.size a)
theorem k0_idx500_inb : ∀ (v2729 : IVec S16 32) (k0_hw500 : k0_chk500 v2729), ∀ a x, ((![v2729] : Fin 1 → IVec S16 32) a x).toNat < S32000.size a := fun v2729 k0_hw500 => k0_hw500

def k0_chk501 (v664 : IVec S16 32) (v2780 : IVec S16 32) : Prop :=
  (∀ a x, ((![v2780, v664] : Fin 2 → IVec S16 32) a x).toNat < S64x512.size a)
theorem k0_idx501_inb : ∀ (v664 : IVec S16 32) (v2780 : IVec S16 32) (k0_hw501 : k0_chk501 v664 v2780), ∀ a x, ((![v2780, v664] : Fin 2 → IVec S16 32) a x).toNat < S64x512.size a := fun v664 v2780 k0_hw501 => k0_hw501

def k0_chk502 (v664 : IVec S16 32) (v2782 : IVec S16 32) : Prop :=
  (∀ a x, ((![v2782, v664] : Fin 2 → IVec S16 32) a x).toNat < S64x512.size a)
theorem k0_idx502_inb : ∀ (v664 : IVec S16 32) (v2782 : IVec S16 32) (k0_hw502 : k0_chk502 v664 v2782), ∀ a x, ((![v2782, v664] : Fin 2 → IVec S16 32) a x).toNat < S64x512.size a := fun v664 v2782 k0_hw502 => k0_hw502

def k0_chk503 (v2789 : IVec S16 32) : Prop :=
  (∀ a x, ((![v2789] : Fin 1 → IVec S16 32) a x).toNat < S32000.size a)
theorem k0_idx503_inb : ∀ (v2789 : IVec S16 32) (k0_hw503 : k0_chk503 v2789), ∀ a x, ((![v2789] : Fin 1 → IVec S16 32) a x).toNat < S32000.size a := fun v2789 k0_hw503 => k0_hw503

def k0_chk504 (v2791 : IVec S16 32) : Prop :=
  (∀ a x, ((![v2791] : Fin 1 → IVec S16 32) a x).toNat < S32000.size a)
theorem k0_idx504_inb : ∀ (v2791 : IVec S16 32) (k0_hw504 : k0_chk504 v2791), ∀ a x, ((![v2791] : Fin 1 → IVec S16 32) a x).toNat < S32000.size a := fun v2791 k0_hw504 => k0_hw504

def k0_chk505 (v2793 : IVec S16 32) : Prop :=
  (∀ a x, ((![v2793] : Fin 1 → IVec S16 32) a x).toNat < S32000.size a)
theorem k0_idx505_inb : ∀ (v2793 : IVec S16 32) (k0_hw505 : k0_chk505 v2793), ∀ a x, ((![v2793] : Fin 1 → IVec S16 32) a x).toNat < S32000.size a := fun v2793 k0_hw505 => k0_hw505

def k0_chk506 (v2795 : IVec S16 32) : Prop :=
  (∀ a x, ((![v2795] : Fin 1 → IVec S16 32) a x).toNat < S32000.size a)
theorem k0_idx506_inb : ∀ (v2795 : IVec S16 32) (k0_hw506 : k0_chk506 v2795), ∀ a x, ((![v2795] : Fin 1 → IVec S16 32) a x).toNat < S32000.size a := fun v2795 k0_hw506 => k0_hw506

def k0_chk507 (v2797 : IVec S16 32) : Prop :=
  (∀ a x, ((![v2797] : Fin 1 → IVec S16 32) a x).toNat < S32000.size a)
theorem k0_idx507_inb : ∀ (v2797 : IVec S16 32) (k0_hw507 : k0_chk507 v2797), ∀ a x, ((![v2797] : Fin 1 → IVec S16 32) a x).toNat < S32000.size a := fun v2797 k0_hw507 => k0_hw507

def k0_chk508 (v2799 : IVec S16 32) : Prop :=
  (∀ a x, ((![v2799] : Fin 1 → IVec S16 32) a x).toNat < S32000.size a)
theorem k0_idx508_inb : ∀ (v2799 : IVec S16 32) (k0_hw508 : k0_chk508 v2799), ∀ a x, ((![v2799] : Fin 1 → IVec S16 32) a x).toNat < S32000.size a := fun v2799 k0_hw508 => k0_hw508

def k0_chk509 (v664 : IVec S16 32) (v2850 : IVec S16 32) : Prop :=
  (∀ a x, ((![v2850, v664] : Fin 2 → IVec S16 32) a x).toNat < S64x512.size a)
theorem k0_idx509_inb : ∀ (v664 : IVec S16 32) (v2850 : IVec S16 32) (k0_hw509 : k0_chk509 v664 v2850), ∀ a x, ((![v2850, v664] : Fin 2 → IVec S16 32) a x).toNat < S64x512.size a := fun v664 v2850 k0_hw509 => k0_hw509

def k0_chk510 (v664 : IVec S16 32) (v2852 : IVec S16 32) : Prop :=
  (∀ a x, ((![v2852, v664] : Fin 2 → IVec S16 32) a x).toNat < S64x512.size a)
theorem k0_idx510_inb : ∀ (v664 : IVec S16 32) (v2852 : IVec S16 32) (k0_hw510 : k0_chk510 v664 v2852), ∀ a x, ((![v2852, v664] : Fin 2 → IVec S16 32) a x).toNat < S64x512.size a := fun v664 v2852 k0_hw510 => k0_hw510

def k0_chk511 (v664 : IVec S16 32) (v2902 : IVec S16 32) : Prop :=
  (∀ a x, ((![v2902, v664] : Fin 2 → IVec S16 32) a x).toNat < S64x512.size a)
theorem k0_idx511_inb : ∀ (v664 : IVec S16 32) (v2902 : IVec S16 32) (k0_hw511 : k0_chk511 v664 v2902), ∀ a x, ((![v2902, v664] : Fin 2 → IVec S16 32) a x).toNat < S64x512.size a := fun v664 v2902 k0_hw511 => k0_hw511

def k0_chk512 (v664 : IVec S16 32) (v2904 : IVec S16 32) : Prop :=
  (∀ a x, ((![v2904, v664] : Fin 2 → IVec S16 32) a x).toNat < S64x512.size a)
theorem k0_idx512_inb : ∀ (v664 : IVec S16 32) (v2904 : IVec S16 32) (k0_hw512 : k0_chk512 v664 v2904), ∀ a x, ((![v2904, v664] : Fin 2 → IVec S16 32) a x).toNat < S64x512.size a := fun v664 v2904 k0_hw512 => k0_hw512
@[reducible] def k0_t3_loop : Scf.Loop 32 :=
  let c0_i32_121 : BitVec 32 := 0#32
  let c32_i32_122 : BitVec 32 := 32#32
  let v227 : BitVec 32 := Scalar.addi c0_i32_121 c32_i32_122
  let c1_i32_123 : BitVec 32 := 1#32
  ⟨c0_i32_121, v227, c1_i32_123⟩
def k0_off15 (k0_t3 : Fin k0_t3_loop.trips) : Fin 2 → Nat :=
  let c0_i32_350 : BitVec 32 := 0#32
  let v627 : Index := Scalar.indexCast c0_i32_350
  let c0_i32_121 : BitVec 32 := 0#32
  let c1_i32_123 : BitVec 32 := 1#32
  let arg14 : BitVec 32 := Scf.iv c0_i32_121 c1_i32_123 k0_t3
  let c16_i32 : BitVec 32 := 16#32
  let v626 : BitVec 32 := Scalar.muli arg14 c16_i32
  let v628 : Index := Scalar.indexCast v626
  ![0, v628.toNat]
def k0_off16 (k0_t3 : Fin k0_t3_loop.trips) : Fin 2 → Nat :=
  let c1_i32_353 : BitVec 32 := 1#32
  let v633 : Index := Scalar.indexCast c1_i32_353
  let c0_i32_121 : BitVec 32 := 0#32
  let c1_i32_123 : BitVec 32 := 1#32
  let arg14 : BitVec 32 := Scf.iv c0_i32_121 c1_i32_123 k0_t3
  let c16_i32_352 : BitVec 32 := 16#32
  let v632 : BitVec 32 := Scalar.muli arg14 c16_i32_352
  let v634 : Index := Scalar.indexCast v632
  ![1, v634.toNat]
def k0_off17 (k0_t3 : Fin k0_t3_loop.trips) : Fin 2 → Nat :=
  let c2_i32_356 : BitVec 32 := 2#32
  let v639 : Index := Scalar.indexCast c2_i32_356
  let c0_i32_121 : BitVec 32 := 0#32
  let c1_i32_123 : BitVec 32 := 1#32
  let arg14 : BitVec 32 := Scf.iv c0_i32_121 c1_i32_123 k0_t3
  let c16_i32_355 : BitVec 32 := 16#32
  let v638 : BitVec 32 := Scalar.muli arg14 c16_i32_355
  let v640 : Index := Scalar.indexCast v638
  ![2, v640.toNat]
def k0_off18 (k0_t3 : Fin k0_t3_loop.trips) : Fin 2 → Nat :=
  let c3_i32_359 : BitVec 32 := 3#32
  let v645 : Index := Scalar.indexCast c3_i32_359
  let c0_i32_121 : BitVec 32 := 0#32
  let c1_i32_123 : BitVec 32 := 1#32
  let arg14 : BitVec 32 := Scf.iv c0_i32_121 c1_i32_123 k0_t3
  let c16_i32_358 : BitVec 32 := 16#32
  let v644 : BitVec 32 := Scalar.muli arg14 c16_i32_358
  let v646 : Index := Scalar.indexCast v644
  ![3, v646.toNat]
def k0_off19 (k0_t3 : Fin k0_t3_loop.trips) : Fin 2 → Nat :=
  let c4_i32_362 : BitVec 32 := 4#32
  let v651 : Index := Scalar.indexCast c4_i32_362
  let c0_i32_121 : BitVec 32 := 0#32
  let c1_i32_123 : BitVec 32 := 1#32
  let arg14 : BitVec 32 := Scf.iv c0_i32_121 c1_i32_123 k0_t3
  let c16_i32_361 : BitVec 32 := 16#32
  let v650 : BitVec 32 := Scalar.muli arg14 c16_i32_361
  let v652 : Index := Scalar.indexCast v650
  ![4, v652.toNat]
def k0_off20 (k0_t3 : Fin k0_t3_loop.trips) : Fin 2 → Nat :=
  let c5_i32_365 : BitVec 32 := 5#32
  let v657 : Index := Scalar.indexCast c5_i32_365
  let c0_i32_121 : BitVec 32 := 0#32
  let c1_i32_123 : BitVec 32 := 1#32
  let arg14 : BitVec 32 := Scf.iv c0_i32_121 c1_i32_123 k0_t3
  let c16_i32_364 : BitVec 32 := 16#32
  let v656 : BitVec 32 := Scalar.muli arg14 c16_i32_364
  let v658 : Index := Scalar.indexCast v656
  ![5, v658.toNat]

def k0_chk513 (v671 : IVec S16 32) : Prop :=
  (∀ a x, ((![v671] : Fin 1 → IVec S16 32) a x).toNat < S32000.size a)
theorem k0_idx513_inb : ∀ (v671 : IVec S16 32) (k0_hw513 : k0_chk513 v671), ∀ a x, ((![v671] : Fin 1 → IVec S16 32) a x).toNat < S32000.size a := fun v671 k0_hw513 => k0_hw513

def k0_chk514 (v673 : IVec S16 32) : Prop :=
  (∀ a x, ((![v673] : Fin 1 → IVec S16 32) a x).toNat < S32000.size a)
theorem k0_idx514_inb : ∀ (v673 : IVec S16 32) (k0_hw514 : k0_chk514 v673), ∀ a x, ((![v673] : Fin 1 → IVec S16 32) a x).toNat < S32000.size a := fun v673 k0_hw514 => k0_hw514

def k0_chk515 (v675 : IVec S16 32) : Prop :=
  (∀ a x, ((![v675] : Fin 1 → IVec S16 32) a x).toNat < S32000.size a)
theorem k0_idx515_inb : ∀ (v675 : IVec S16 32) (k0_hw515 : k0_chk515 v675), ∀ a x, ((![v675] : Fin 1 → IVec S16 32) a x).toNat < S32000.size a := fun v675 k0_hw515 => k0_hw515

def k0_chk516 (v677 : IVec S16 32) : Prop :=
  (∀ a x, ((![v677] : Fin 1 → IVec S16 32) a x).toNat < S32000.size a)
theorem k0_idx516_inb : ∀ (v677 : IVec S16 32) (k0_hw516 : k0_chk516 v677), ∀ a x, ((![v677] : Fin 1 → IVec S16 32) a x).toNat < S32000.size a := fun v677 k0_hw516 => k0_hw516

def k0_chk517 (v679 : IVec S16 32) : Prop :=
  (∀ a x, ((![v679] : Fin 1 → IVec S16 32) a x).toNat < S32000.size a)
theorem k0_idx517_inb : ∀ (v679 : IVec S16 32) (k0_hw517 : k0_chk517 v679), ∀ a x, ((![v679] : Fin 1 → IVec S16 32) a x).toNat < S32000.size a := fun v679 k0_hw517 => k0_hw517

def k0_chk518 (v681 : IVec S16 32) : Prop :=
  (∀ a x, ((![v681] : Fin 1 → IVec S16 32) a x).toNat < S32000.size a)
theorem k0_idx518_inb : ∀ (v681 : IVec S16 32) (k0_hw518 : k0_chk518 v681), ∀ a x, ((![v681] : Fin 1 → IVec S16 32) a x).toNat < S32000.size a := fun v681 k0_hw518 => k0_hw518

def k0_chk519 (v689 : IVec S16 32) : Prop :=
  (∀ a x, ((![v689] : Fin 1 → IVec S16 32) a x).toNat < S32000.size a)
theorem k0_idx519_inb : ∀ (v689 : IVec S16 32) (k0_hw519 : k0_chk519 v689), ∀ a x, ((![v689] : Fin 1 → IVec S16 32) a x).toNat < S32000.size a := fun v689 k0_hw519 => k0_hw519

def k0_chk520 (v691 : IVec S16 32) : Prop :=
  (∀ a x, ((![v691] : Fin 1 → IVec S16 32) a x).toNat < S32000.size a)
theorem k0_idx520_inb : ∀ (v691 : IVec S16 32) (k0_hw520 : k0_chk520 v691), ∀ a x, ((![v691] : Fin 1 → IVec S16 32) a x).toNat < S32000.size a := fun v691 k0_hw520 => k0_hw520

def k0_chk521 (v693 : IVec S16 32) : Prop :=
  (∀ a x, ((![v693] : Fin 1 → IVec S16 32) a x).toNat < S32000.size a)
theorem k0_idx521_inb : ∀ (v693 : IVec S16 32) (k0_hw521 : k0_chk521 v693), ∀ a x, ((![v693] : Fin 1 → IVec S16 32) a x).toNat < S32000.size a := fun v693 k0_hw521 => k0_hw521

def k0_chk522 (v695 : IVec S16 32) : Prop :=
  (∀ a x, ((![v695] : Fin 1 → IVec S16 32) a x).toNat < S32000.size a)
theorem k0_idx522_inb : ∀ (v695 : IVec S16 32) (k0_hw522 : k0_chk522 v695), ∀ a x, ((![v695] : Fin 1 → IVec S16 32) a x).toNat < S32000.size a := fun v695 k0_hw522 => k0_hw522

def k0_chk523 (v697 : IVec S16 32) : Prop :=
  (∀ a x, ((![v697] : Fin 1 → IVec S16 32) a x).toNat < S32000.size a)
theorem k0_idx523_inb : ∀ (v697 : IVec S16 32) (k0_hw523 : k0_chk523 v697), ∀ a x, ((![v697] : Fin 1 → IVec S16 32) a x).toNat < S32000.size a := fun v697 k0_hw523 => k0_hw523

def k0_chk524 (v699 : IVec S16 32) : Prop :=
  (∀ a x, ((![v699] : Fin 1 → IVec S16 32) a x).toNat < S32000.size a)
theorem k0_idx524_inb : ∀ (v699 : IVec S16 32) (k0_hw524 : k0_chk524 v699), ∀ a x, ((![v699] : Fin 1 → IVec S16 32) a x).toNat < S32000.size a := fun v699 k0_hw524 => k0_hw524

def k0_chk525 (v664 : IVec S16 32) (v750 : IVec S16 32) : Prop :=
  (∀ a x, ((![v750, v664] : Fin 2 → IVec S16 32) a x).toNat < S64x512.size a)
theorem k0_idx525_inb : ∀ (v664 : IVec S16 32) (v750 : IVec S16 32) (k0_hw525 : k0_chk525 v664 v750), ∀ a x, ((![v750, v664] : Fin 2 → IVec S16 32) a x).toNat < S64x512.size a := fun v664 v750 k0_hw525 => k0_hw525

def k0_chk526 (v664 : IVec S16 32) (v752 : IVec S16 32) : Prop :=
  (∀ a x, ((![v752, v664] : Fin 2 → IVec S16 32) a x).toNat < S64x512.size a)
theorem k0_idx526_inb : ∀ (v664 : IVec S16 32) (v752 : IVec S16 32) (k0_hw526 : k0_chk526 v664 v752), ∀ a x, ((![v752, v664] : Fin 2 → IVec S16 32) a x).toNat < S64x512.size a := fun v664 v752 k0_hw526 => k0_hw526

def k0_chk527 (v759 : IVec S16 32) : Prop :=
  (∀ a x, ((![v759] : Fin 1 → IVec S16 32) a x).toNat < S32000.size a)
theorem k0_idx527_inb : ∀ (v759 : IVec S16 32) (k0_hw527 : k0_chk527 v759), ∀ a x, ((![v759] : Fin 1 → IVec S16 32) a x).toNat < S32000.size a := fun v759 k0_hw527 => k0_hw527

def k0_chk528 (v761 : IVec S16 32) : Prop :=
  (∀ a x, ((![v761] : Fin 1 → IVec S16 32) a x).toNat < S32000.size a)
theorem k0_idx528_inb : ∀ (v761 : IVec S16 32) (k0_hw528 : k0_chk528 v761), ∀ a x, ((![v761] : Fin 1 → IVec S16 32) a x).toNat < S32000.size a := fun v761 k0_hw528 => k0_hw528

def k0_chk529 (v763 : IVec S16 32) : Prop :=
  (∀ a x, ((![v763] : Fin 1 → IVec S16 32) a x).toNat < S32000.size a)
theorem k0_idx529_inb : ∀ (v763 : IVec S16 32) (k0_hw529 : k0_chk529 v763), ∀ a x, ((![v763] : Fin 1 → IVec S16 32) a x).toNat < S32000.size a := fun v763 k0_hw529 => k0_hw529

def k0_chk530 (v765 : IVec S16 32) : Prop :=
  (∀ a x, ((![v765] : Fin 1 → IVec S16 32) a x).toNat < S32000.size a)
theorem k0_idx530_inb : ∀ (v765 : IVec S16 32) (k0_hw530 : k0_chk530 v765), ∀ a x, ((![v765] : Fin 1 → IVec S16 32) a x).toNat < S32000.size a := fun v765 k0_hw530 => k0_hw530

def k0_chk531 (v767 : IVec S16 32) : Prop :=
  (∀ a x, ((![v767] : Fin 1 → IVec S16 32) a x).toNat < S32000.size a)
theorem k0_idx531_inb : ∀ (v767 : IVec S16 32) (k0_hw531 : k0_chk531 v767), ∀ a x, ((![v767] : Fin 1 → IVec S16 32) a x).toNat < S32000.size a := fun v767 k0_hw531 => k0_hw531

def k0_chk532 (v769 : IVec S16 32) : Prop :=
  (∀ a x, ((![v769] : Fin 1 → IVec S16 32) a x).toNat < S32000.size a)
theorem k0_idx532_inb : ∀ (v769 : IVec S16 32) (k0_hw532 : k0_chk532 v769), ∀ a x, ((![v769] : Fin 1 → IVec S16 32) a x).toNat < S32000.size a := fun v769 k0_hw532 => k0_hw532

def k0_chk533 (v664 : IVec S16 32) (v820 : IVec S16 32) : Prop :=
  (∀ a x, ((![v820, v664] : Fin 2 → IVec S16 32) a x).toNat < S64x512.size a)
theorem k0_idx533_inb : ∀ (v664 : IVec S16 32) (v820 : IVec S16 32) (k0_hw533 : k0_chk533 v664 v820), ∀ a x, ((![v820, v664] : Fin 2 → IVec S16 32) a x).toNat < S64x512.size a := fun v664 v820 k0_hw533 => k0_hw533

def k0_chk534 (v664 : IVec S16 32) (v822 : IVec S16 32) : Prop :=
  (∀ a x, ((![v822, v664] : Fin 2 → IVec S16 32) a x).toNat < S64x512.size a)
theorem k0_idx534_inb : ∀ (v664 : IVec S16 32) (v822 : IVec S16 32) (k0_hw534 : k0_chk534 v664 v822), ∀ a x, ((![v822, v664] : Fin 2 → IVec S16 32) a x).toNat < S64x512.size a := fun v664 v822 k0_hw534 => k0_hw534

def k0_chk535 (v829 : IVec S16 32) : Prop :=
  (∀ a x, ((![v829] : Fin 1 → IVec S16 32) a x).toNat < S32000.size a)
theorem k0_idx535_inb : ∀ (v829 : IVec S16 32) (k0_hw535 : k0_chk535 v829), ∀ a x, ((![v829] : Fin 1 → IVec S16 32) a x).toNat < S32000.size a := fun v829 k0_hw535 => k0_hw535

def k0_chk536 (v831 : IVec S16 32) : Prop :=
  (∀ a x, ((![v831] : Fin 1 → IVec S16 32) a x).toNat < S32000.size a)
theorem k0_idx536_inb : ∀ (v831 : IVec S16 32) (k0_hw536 : k0_chk536 v831), ∀ a x, ((![v831] : Fin 1 → IVec S16 32) a x).toNat < S32000.size a := fun v831 k0_hw536 => k0_hw536

def k0_chk537 (v833 : IVec S16 32) : Prop :=
  (∀ a x, ((![v833] : Fin 1 → IVec S16 32) a x).toNat < S32000.size a)
theorem k0_idx537_inb : ∀ (v833 : IVec S16 32) (k0_hw537 : k0_chk537 v833), ∀ a x, ((![v833] : Fin 1 → IVec S16 32) a x).toNat < S32000.size a := fun v833 k0_hw537 => k0_hw537

def k0_chk538 (v835 : IVec S16 32) : Prop :=
  (∀ a x, ((![v835] : Fin 1 → IVec S16 32) a x).toNat < S32000.size a)
theorem k0_idx538_inb : ∀ (v835 : IVec S16 32) (k0_hw538 : k0_chk538 v835), ∀ a x, ((![v835] : Fin 1 → IVec S16 32) a x).toNat < S32000.size a := fun v835 k0_hw538 => k0_hw538

def k0_chk539 (v837 : IVec S16 32) : Prop :=
  (∀ a x, ((![v837] : Fin 1 → IVec S16 32) a x).toNat < S32000.size a)
theorem k0_idx539_inb : ∀ (v837 : IVec S16 32) (k0_hw539 : k0_chk539 v837), ∀ a x, ((![v837] : Fin 1 → IVec S16 32) a x).toNat < S32000.size a := fun v837 k0_hw539 => k0_hw539

def k0_chk540 (v839 : IVec S16 32) : Prop :=
  (∀ a x, ((![v839] : Fin 1 → IVec S16 32) a x).toNat < S32000.size a)
theorem k0_idx540_inb : ∀ (v839 : IVec S16 32) (k0_hw540 : k0_chk540 v839), ∀ a x, ((![v839] : Fin 1 → IVec S16 32) a x).toNat < S32000.size a := fun v839 k0_hw540 => k0_hw540

def k0_chk541 (v664 : IVec S16 32) (v890 : IVec S16 32) : Prop :=
  (∀ a x, ((![v890, v664] : Fin 2 → IVec S16 32) a x).toNat < S64x512.size a)
theorem k0_idx541_inb : ∀ (v664 : IVec S16 32) (v890 : IVec S16 32) (k0_hw541 : k0_chk541 v664 v890), ∀ a x, ((![v890, v664] : Fin 2 → IVec S16 32) a x).toNat < S64x512.size a := fun v664 v890 k0_hw541 => k0_hw541

def k0_chk542 (v664 : IVec S16 32) (v892 : IVec S16 32) : Prop :=
  (∀ a x, ((![v892, v664] : Fin 2 → IVec S16 32) a x).toNat < S64x512.size a)
theorem k0_idx542_inb : ∀ (v664 : IVec S16 32) (v892 : IVec S16 32) (k0_hw542 : k0_chk542 v664 v892), ∀ a x, ((![v892, v664] : Fin 2 → IVec S16 32) a x).toNat < S64x512.size a := fun v664 v892 k0_hw542 => k0_hw542

def k0_chk543 (v899 : IVec S16 32) : Prop :=
  (∀ a x, ((![v899] : Fin 1 → IVec S16 32) a x).toNat < S32000.size a)
theorem k0_idx543_inb : ∀ (v899 : IVec S16 32) (k0_hw543 : k0_chk543 v899), ∀ a x, ((![v899] : Fin 1 → IVec S16 32) a x).toNat < S32000.size a := fun v899 k0_hw543 => k0_hw543

def k0_chk544 (v901 : IVec S16 32) : Prop :=
  (∀ a x, ((![v901] : Fin 1 → IVec S16 32) a x).toNat < S32000.size a)
theorem k0_idx544_inb : ∀ (v901 : IVec S16 32) (k0_hw544 : k0_chk544 v901), ∀ a x, ((![v901] : Fin 1 → IVec S16 32) a x).toNat < S32000.size a := fun v901 k0_hw544 => k0_hw544

def k0_chk545 (v903 : IVec S16 32) : Prop :=
  (∀ a x, ((![v903] : Fin 1 → IVec S16 32) a x).toNat < S32000.size a)
theorem k0_idx545_inb : ∀ (v903 : IVec S16 32) (k0_hw545 : k0_chk545 v903), ∀ a x, ((![v903] : Fin 1 → IVec S16 32) a x).toNat < S32000.size a := fun v903 k0_hw545 => k0_hw545

def k0_chk546 (v905 : IVec S16 32) : Prop :=
  (∀ a x, ((![v905] : Fin 1 → IVec S16 32) a x).toNat < S32000.size a)
theorem k0_idx546_inb : ∀ (v905 : IVec S16 32) (k0_hw546 : k0_chk546 v905), ∀ a x, ((![v905] : Fin 1 → IVec S16 32) a x).toNat < S32000.size a := fun v905 k0_hw546 => k0_hw546

def k0_chk547 (v907 : IVec S16 32) : Prop :=
  (∀ a x, ((![v907] : Fin 1 → IVec S16 32) a x).toNat < S32000.size a)
theorem k0_idx547_inb : ∀ (v907 : IVec S16 32) (k0_hw547 : k0_chk547 v907), ∀ a x, ((![v907] : Fin 1 → IVec S16 32) a x).toNat < S32000.size a := fun v907 k0_hw547 => k0_hw547

def k0_chk548 (v909 : IVec S16 32) : Prop :=
  (∀ a x, ((![v909] : Fin 1 → IVec S16 32) a x).toNat < S32000.size a)
theorem k0_idx548_inb : ∀ (v909 : IVec S16 32) (k0_hw548 : k0_chk548 v909), ∀ a x, ((![v909] : Fin 1 → IVec S16 32) a x).toNat < S32000.size a := fun v909 k0_hw548 => k0_hw548

def k0_chk549 (v664 : IVec S16 32) (v960 : IVec S16 32) : Prop :=
  (∀ a x, ((![v960, v664] : Fin 2 → IVec S16 32) a x).toNat < S64x512.size a)
theorem k0_idx549_inb : ∀ (v664 : IVec S16 32) (v960 : IVec S16 32) (k0_hw549 : k0_chk549 v664 v960), ∀ a x, ((![v960, v664] : Fin 2 → IVec S16 32) a x).toNat < S64x512.size a := fun v664 v960 k0_hw549 => k0_hw549

def k0_chk550 (v664 : IVec S16 32) (v962 : IVec S16 32) : Prop :=
  (∀ a x, ((![v962, v664] : Fin 2 → IVec S16 32) a x).toNat < S64x512.size a)
theorem k0_idx550_inb : ∀ (v664 : IVec S16 32) (v962 : IVec S16 32) (k0_hw550 : k0_chk550 v664 v962), ∀ a x, ((![v962, v664] : Fin 2 → IVec S16 32) a x).toNat < S64x512.size a := fun v664 v962 k0_hw550 => k0_hw550

def k0_chk551 (v969 : IVec S16 32) : Prop :=
  (∀ a x, ((![v969] : Fin 1 → IVec S16 32) a x).toNat < S32000.size a)
theorem k0_idx551_inb : ∀ (v969 : IVec S16 32) (k0_hw551 : k0_chk551 v969), ∀ a x, ((![v969] : Fin 1 → IVec S16 32) a x).toNat < S32000.size a := fun v969 k0_hw551 => k0_hw551

def k0_chk552 (v971 : IVec S16 32) : Prop :=
  (∀ a x, ((![v971] : Fin 1 → IVec S16 32) a x).toNat < S32000.size a)
theorem k0_idx552_inb : ∀ (v971 : IVec S16 32) (k0_hw552 : k0_chk552 v971), ∀ a x, ((![v971] : Fin 1 → IVec S16 32) a x).toNat < S32000.size a := fun v971 k0_hw552 => k0_hw552

def k0_chk553 (v973 : IVec S16 32) : Prop :=
  (∀ a x, ((![v973] : Fin 1 → IVec S16 32) a x).toNat < S32000.size a)
theorem k0_idx553_inb : ∀ (v973 : IVec S16 32) (k0_hw553 : k0_chk553 v973), ∀ a x, ((![v973] : Fin 1 → IVec S16 32) a x).toNat < S32000.size a := fun v973 k0_hw553 => k0_hw553

def k0_chk554 (v975 : IVec S16 32) : Prop :=
  (∀ a x, ((![v975] : Fin 1 → IVec S16 32) a x).toNat < S32000.size a)
theorem k0_idx554_inb : ∀ (v975 : IVec S16 32) (k0_hw554 : k0_chk554 v975), ∀ a x, ((![v975] : Fin 1 → IVec S16 32) a x).toNat < S32000.size a := fun v975 k0_hw554 => k0_hw554

def k0_chk555 (v977 : IVec S16 32) : Prop :=
  (∀ a x, ((![v977] : Fin 1 → IVec S16 32) a x).toNat < S32000.size a)
theorem k0_idx555_inb : ∀ (v977 : IVec S16 32) (k0_hw555 : k0_chk555 v977), ∀ a x, ((![v977] : Fin 1 → IVec S16 32) a x).toNat < S32000.size a := fun v977 k0_hw555 => k0_hw555

def k0_chk556 (v979 : IVec S16 32) : Prop :=
  (∀ a x, ((![v979] : Fin 1 → IVec S16 32) a x).toNat < S32000.size a)
theorem k0_idx556_inb : ∀ (v979 : IVec S16 32) (k0_hw556 : k0_chk556 v979), ∀ a x, ((![v979] : Fin 1 → IVec S16 32) a x).toNat < S32000.size a := fun v979 k0_hw556 => k0_hw556

def k0_chk557 (v664 : IVec S16 32) (v1030 : IVec S16 32) : Prop :=
  (∀ a x, ((![v1030, v664] : Fin 2 → IVec S16 32) a x).toNat < S64x512.size a)
theorem k0_idx557_inb : ∀ (v664 : IVec S16 32) (v1030 : IVec S16 32) (k0_hw557 : k0_chk557 v664 v1030), ∀ a x, ((![v1030, v664] : Fin 2 → IVec S16 32) a x).toNat < S64x512.size a := fun v664 v1030 k0_hw557 => k0_hw557

def k0_chk558 (v664 : IVec S16 32) (v1032 : IVec S16 32) : Prop :=
  (∀ a x, ((![v1032, v664] : Fin 2 → IVec S16 32) a x).toNat < S64x512.size a)
theorem k0_idx558_inb : ∀ (v664 : IVec S16 32) (v1032 : IVec S16 32) (k0_hw558 : k0_chk558 v664 v1032), ∀ a x, ((![v1032, v664] : Fin 2 → IVec S16 32) a x).toNat < S64x512.size a := fun v664 v1032 k0_hw558 => k0_hw558

def k0_chk559 (v1039 : IVec S16 32) : Prop :=
  (∀ a x, ((![v1039] : Fin 1 → IVec S16 32) a x).toNat < S32000.size a)
theorem k0_idx559_inb : ∀ (v1039 : IVec S16 32) (k0_hw559 : k0_chk559 v1039), ∀ a x, ((![v1039] : Fin 1 → IVec S16 32) a x).toNat < S32000.size a := fun v1039 k0_hw559 => k0_hw559

def k0_chk560 (v1041 : IVec S16 32) : Prop :=
  (∀ a x, ((![v1041] : Fin 1 → IVec S16 32) a x).toNat < S32000.size a)
theorem k0_idx560_inb : ∀ (v1041 : IVec S16 32) (k0_hw560 : k0_chk560 v1041), ∀ a x, ((![v1041] : Fin 1 → IVec S16 32) a x).toNat < S32000.size a := fun v1041 k0_hw560 => k0_hw560

def k0_chk561 (v1043 : IVec S16 32) : Prop :=
  (∀ a x, ((![v1043] : Fin 1 → IVec S16 32) a x).toNat < S32000.size a)
theorem k0_idx561_inb : ∀ (v1043 : IVec S16 32) (k0_hw561 : k0_chk561 v1043), ∀ a x, ((![v1043] : Fin 1 → IVec S16 32) a x).toNat < S32000.size a := fun v1043 k0_hw561 => k0_hw561

def k0_chk562 (v1045 : IVec S16 32) : Prop :=
  (∀ a x, ((![v1045] : Fin 1 → IVec S16 32) a x).toNat < S32000.size a)
theorem k0_idx562_inb : ∀ (v1045 : IVec S16 32) (k0_hw562 : k0_chk562 v1045), ∀ a x, ((![v1045] : Fin 1 → IVec S16 32) a x).toNat < S32000.size a := fun v1045 k0_hw562 => k0_hw562

def k0_chk563 (v1047 : IVec S16 32) : Prop :=
  (∀ a x, ((![v1047] : Fin 1 → IVec S16 32) a x).toNat < S32000.size a)
theorem k0_idx563_inb : ∀ (v1047 : IVec S16 32) (k0_hw563 : k0_chk563 v1047), ∀ a x, ((![v1047] : Fin 1 → IVec S16 32) a x).toNat < S32000.size a := fun v1047 k0_hw563 => k0_hw563

def k0_chk564 (v1049 : IVec S16 32) : Prop :=
  (∀ a x, ((![v1049] : Fin 1 → IVec S16 32) a x).toNat < S32000.size a)
theorem k0_idx564_inb : ∀ (v1049 : IVec S16 32) (k0_hw564 : k0_chk564 v1049), ∀ a x, ((![v1049] : Fin 1 → IVec S16 32) a x).toNat < S32000.size a := fun v1049 k0_hw564 => k0_hw564

def k0_chk565 (v664 : IVec S16 32) (v1100 : IVec S16 32) : Prop :=
  (∀ a x, ((![v1100, v664] : Fin 2 → IVec S16 32) a x).toNat < S64x512.size a)
theorem k0_idx565_inb : ∀ (v664 : IVec S16 32) (v1100 : IVec S16 32) (k0_hw565 : k0_chk565 v664 v1100), ∀ a x, ((![v1100, v664] : Fin 2 → IVec S16 32) a x).toNat < S64x512.size a := fun v664 v1100 k0_hw565 => k0_hw565

def k0_chk566 (v664 : IVec S16 32) (v1102 : IVec S16 32) : Prop :=
  (∀ a x, ((![v1102, v664] : Fin 2 → IVec S16 32) a x).toNat < S64x512.size a)
theorem k0_idx566_inb : ∀ (v664 : IVec S16 32) (v1102 : IVec S16 32) (k0_hw566 : k0_chk566 v664 v1102), ∀ a x, ((![v1102, v664] : Fin 2 → IVec S16 32) a x).toNat < S64x512.size a := fun v664 v1102 k0_hw566 => k0_hw566

def k0_chk567 (v1109 : IVec S16 32) : Prop :=
  (∀ a x, ((![v1109] : Fin 1 → IVec S16 32) a x).toNat < S32000.size a)
theorem k0_idx567_inb : ∀ (v1109 : IVec S16 32) (k0_hw567 : k0_chk567 v1109), ∀ a x, ((![v1109] : Fin 1 → IVec S16 32) a x).toNat < S32000.size a := fun v1109 k0_hw567 => k0_hw567

def k0_chk568 (v1111 : IVec S16 32) : Prop :=
  (∀ a x, ((![v1111] : Fin 1 → IVec S16 32) a x).toNat < S32000.size a)
theorem k0_idx568_inb : ∀ (v1111 : IVec S16 32) (k0_hw568 : k0_chk568 v1111), ∀ a x, ((![v1111] : Fin 1 → IVec S16 32) a x).toNat < S32000.size a := fun v1111 k0_hw568 => k0_hw568

def k0_chk569 (v1113 : IVec S16 32) : Prop :=
  (∀ a x, ((![v1113] : Fin 1 → IVec S16 32) a x).toNat < S32000.size a)
theorem k0_idx569_inb : ∀ (v1113 : IVec S16 32) (k0_hw569 : k0_chk569 v1113), ∀ a x, ((![v1113] : Fin 1 → IVec S16 32) a x).toNat < S32000.size a := fun v1113 k0_hw569 => k0_hw569

def k0_chk570 (v1115 : IVec S16 32) : Prop :=
  (∀ a x, ((![v1115] : Fin 1 → IVec S16 32) a x).toNat < S32000.size a)
theorem k0_idx570_inb : ∀ (v1115 : IVec S16 32) (k0_hw570 : k0_chk570 v1115), ∀ a x, ((![v1115] : Fin 1 → IVec S16 32) a x).toNat < S32000.size a := fun v1115 k0_hw570 => k0_hw570

def k0_chk571 (v1117 : IVec S16 32) : Prop :=
  (∀ a x, ((![v1117] : Fin 1 → IVec S16 32) a x).toNat < S32000.size a)
theorem k0_idx571_inb : ∀ (v1117 : IVec S16 32) (k0_hw571 : k0_chk571 v1117), ∀ a x, ((![v1117] : Fin 1 → IVec S16 32) a x).toNat < S32000.size a := fun v1117 k0_hw571 => k0_hw571

def k0_chk572 (v1119 : IVec S16 32) : Prop :=
  (∀ a x, ((![v1119] : Fin 1 → IVec S16 32) a x).toNat < S32000.size a)
theorem k0_idx572_inb : ∀ (v1119 : IVec S16 32) (k0_hw572 : k0_chk572 v1119), ∀ a x, ((![v1119] : Fin 1 → IVec S16 32) a x).toNat < S32000.size a := fun v1119 k0_hw572 => k0_hw572

def k0_chk573 (v664 : IVec S16 32) (v1170 : IVec S16 32) : Prop :=
  (∀ a x, ((![v1170, v664] : Fin 2 → IVec S16 32) a x).toNat < S64x512.size a)
theorem k0_idx573_inb : ∀ (v664 : IVec S16 32) (v1170 : IVec S16 32) (k0_hw573 : k0_chk573 v664 v1170), ∀ a x, ((![v1170, v664] : Fin 2 → IVec S16 32) a x).toNat < S64x512.size a := fun v664 v1170 k0_hw573 => k0_hw573

def k0_chk574 (v664 : IVec S16 32) (v1172 : IVec S16 32) : Prop :=
  (∀ a x, ((![v1172, v664] : Fin 2 → IVec S16 32) a x).toNat < S64x512.size a)
theorem k0_idx574_inb : ∀ (v664 : IVec S16 32) (v1172 : IVec S16 32) (k0_hw574 : k0_chk574 v664 v1172), ∀ a x, ((![v1172, v664] : Fin 2 → IVec S16 32) a x).toNat < S64x512.size a := fun v664 v1172 k0_hw574 => k0_hw574

def k0_chk575 (v1179 : IVec S16 32) : Prop :=
  (∀ a x, ((![v1179] : Fin 1 → IVec S16 32) a x).toNat < S32000.size a)
theorem k0_idx575_inb : ∀ (v1179 : IVec S16 32) (k0_hw575 : k0_chk575 v1179), ∀ a x, ((![v1179] : Fin 1 → IVec S16 32) a x).toNat < S32000.size a := fun v1179 k0_hw575 => k0_hw575

def k0_chk576 (v1181 : IVec S16 32) : Prop :=
  (∀ a x, ((![v1181] : Fin 1 → IVec S16 32) a x).toNat < S32000.size a)
theorem k0_idx576_inb : ∀ (v1181 : IVec S16 32) (k0_hw576 : k0_chk576 v1181), ∀ a x, ((![v1181] : Fin 1 → IVec S16 32) a x).toNat < S32000.size a := fun v1181 k0_hw576 => k0_hw576

def k0_chk577 (v1183 : IVec S16 32) : Prop :=
  (∀ a x, ((![v1183] : Fin 1 → IVec S16 32) a x).toNat < S32000.size a)
theorem k0_idx577_inb : ∀ (v1183 : IVec S16 32) (k0_hw577 : k0_chk577 v1183), ∀ a x, ((![v1183] : Fin 1 → IVec S16 32) a x).toNat < S32000.size a := fun v1183 k0_hw577 => k0_hw577

def k0_chk578 (v1185 : IVec S16 32) : Prop :=
  (∀ a x, ((![v1185] : Fin 1 → IVec S16 32) a x).toNat < S32000.size a)
theorem k0_idx578_inb : ∀ (v1185 : IVec S16 32) (k0_hw578 : k0_chk578 v1185), ∀ a x, ((![v1185] : Fin 1 → IVec S16 32) a x).toNat < S32000.size a := fun v1185 k0_hw578 => k0_hw578

def k0_chk579 (v1187 : IVec S16 32) : Prop :=
  (∀ a x, ((![v1187] : Fin 1 → IVec S16 32) a x).toNat < S32000.size a)
theorem k0_idx579_inb : ∀ (v1187 : IVec S16 32) (k0_hw579 : k0_chk579 v1187), ∀ a x, ((![v1187] : Fin 1 → IVec S16 32) a x).toNat < S32000.size a := fun v1187 k0_hw579 => k0_hw579

def k0_chk580 (v1189 : IVec S16 32) : Prop :=
  (∀ a x, ((![v1189] : Fin 1 → IVec S16 32) a x).toNat < S32000.size a)
theorem k0_idx580_inb : ∀ (v1189 : IVec S16 32) (k0_hw580 : k0_chk580 v1189), ∀ a x, ((![v1189] : Fin 1 → IVec S16 32) a x).toNat < S32000.size a := fun v1189 k0_hw580 => k0_hw580

def k0_chk581 (v664 : IVec S16 32) (v1240 : IVec S16 32) : Prop :=
  (∀ a x, ((![v1240, v664] : Fin 2 → IVec S16 32) a x).toNat < S64x512.size a)
theorem k0_idx581_inb : ∀ (v664 : IVec S16 32) (v1240 : IVec S16 32) (k0_hw581 : k0_chk581 v664 v1240), ∀ a x, ((![v1240, v664] : Fin 2 → IVec S16 32) a x).toNat < S64x512.size a := fun v664 v1240 k0_hw581 => k0_hw581

def k0_chk582 (v664 : IVec S16 32) (v1242 : IVec S16 32) : Prop :=
  (∀ a x, ((![v1242, v664] : Fin 2 → IVec S16 32) a x).toNat < S64x512.size a)
theorem k0_idx582_inb : ∀ (v664 : IVec S16 32) (v1242 : IVec S16 32) (k0_hw582 : k0_chk582 v664 v1242), ∀ a x, ((![v1242, v664] : Fin 2 → IVec S16 32) a x).toNat < S64x512.size a := fun v664 v1242 k0_hw582 => k0_hw582

def k0_chk583 (v1249 : IVec S16 32) : Prop :=
  (∀ a x, ((![v1249] : Fin 1 → IVec S16 32) a x).toNat < S32000.size a)
theorem k0_idx583_inb : ∀ (v1249 : IVec S16 32) (k0_hw583 : k0_chk583 v1249), ∀ a x, ((![v1249] : Fin 1 → IVec S16 32) a x).toNat < S32000.size a := fun v1249 k0_hw583 => k0_hw583

def k0_chk584 (v1251 : IVec S16 32) : Prop :=
  (∀ a x, ((![v1251] : Fin 1 → IVec S16 32) a x).toNat < S32000.size a)
theorem k0_idx584_inb : ∀ (v1251 : IVec S16 32) (k0_hw584 : k0_chk584 v1251), ∀ a x, ((![v1251] : Fin 1 → IVec S16 32) a x).toNat < S32000.size a := fun v1251 k0_hw584 => k0_hw584

def k0_chk585 (v1253 : IVec S16 32) : Prop :=
  (∀ a x, ((![v1253] : Fin 1 → IVec S16 32) a x).toNat < S32000.size a)
theorem k0_idx585_inb : ∀ (v1253 : IVec S16 32) (k0_hw585 : k0_chk585 v1253), ∀ a x, ((![v1253] : Fin 1 → IVec S16 32) a x).toNat < S32000.size a := fun v1253 k0_hw585 => k0_hw585

def k0_chk586 (v1255 : IVec S16 32) : Prop :=
  (∀ a x, ((![v1255] : Fin 1 → IVec S16 32) a x).toNat < S32000.size a)
theorem k0_idx586_inb : ∀ (v1255 : IVec S16 32) (k0_hw586 : k0_chk586 v1255), ∀ a x, ((![v1255] : Fin 1 → IVec S16 32) a x).toNat < S32000.size a := fun v1255 k0_hw586 => k0_hw586

def k0_chk587 (v1257 : IVec S16 32) : Prop :=
  (∀ a x, ((![v1257] : Fin 1 → IVec S16 32) a x).toNat < S32000.size a)
theorem k0_idx587_inb : ∀ (v1257 : IVec S16 32) (k0_hw587 : k0_chk587 v1257), ∀ a x, ((![v1257] : Fin 1 → IVec S16 32) a x).toNat < S32000.size a := fun v1257 k0_hw587 => k0_hw587

def k0_chk588 (v1259 : IVec S16 32) : Prop :=
  (∀ a x, ((![v1259] : Fin 1 → IVec S16 32) a x).toNat < S32000.size a)
theorem k0_idx588_inb : ∀ (v1259 : IVec S16 32) (k0_hw588 : k0_chk588 v1259), ∀ a x, ((![v1259] : Fin 1 → IVec S16 32) a x).toNat < S32000.size a := fun v1259 k0_hw588 => k0_hw588

def k0_chk589 (v664 : IVec S16 32) (v1310 : IVec S16 32) : Prop :=
  (∀ a x, ((![v1310, v664] : Fin 2 → IVec S16 32) a x).toNat < S64x512.size a)
theorem k0_idx589_inb : ∀ (v664 : IVec S16 32) (v1310 : IVec S16 32) (k0_hw589 : k0_chk589 v664 v1310), ∀ a x, ((![v1310, v664] : Fin 2 → IVec S16 32) a x).toNat < S64x512.size a := fun v664 v1310 k0_hw589 => k0_hw589

def k0_chk590 (v664 : IVec S16 32) (v1312 : IVec S16 32) : Prop :=
  (∀ a x, ((![v1312, v664] : Fin 2 → IVec S16 32) a x).toNat < S64x512.size a)
theorem k0_idx590_inb : ∀ (v664 : IVec S16 32) (v1312 : IVec S16 32) (k0_hw590 : k0_chk590 v664 v1312), ∀ a x, ((![v1312, v664] : Fin 2 → IVec S16 32) a x).toNat < S64x512.size a := fun v664 v1312 k0_hw590 => k0_hw590

def k0_chk591 (v1319 : IVec S16 32) : Prop :=
  (∀ a x, ((![v1319] : Fin 1 → IVec S16 32) a x).toNat < S32000.size a)
theorem k0_idx591_inb : ∀ (v1319 : IVec S16 32) (k0_hw591 : k0_chk591 v1319), ∀ a x, ((![v1319] : Fin 1 → IVec S16 32) a x).toNat < S32000.size a := fun v1319 k0_hw591 => k0_hw591

def k0_chk592 (v1321 : IVec S16 32) : Prop :=
  (∀ a x, ((![v1321] : Fin 1 → IVec S16 32) a x).toNat < S32000.size a)
theorem k0_idx592_inb : ∀ (v1321 : IVec S16 32) (k0_hw592 : k0_chk592 v1321), ∀ a x, ((![v1321] : Fin 1 → IVec S16 32) a x).toNat < S32000.size a := fun v1321 k0_hw592 => k0_hw592

def k0_chk593 (v1323 : IVec S16 32) : Prop :=
  (∀ a x, ((![v1323] : Fin 1 → IVec S16 32) a x).toNat < S32000.size a)
theorem k0_idx593_inb : ∀ (v1323 : IVec S16 32) (k0_hw593 : k0_chk593 v1323), ∀ a x, ((![v1323] : Fin 1 → IVec S16 32) a x).toNat < S32000.size a := fun v1323 k0_hw593 => k0_hw593

def k0_chk594 (v1325 : IVec S16 32) : Prop :=
  (∀ a x, ((![v1325] : Fin 1 → IVec S16 32) a x).toNat < S32000.size a)
theorem k0_idx594_inb : ∀ (v1325 : IVec S16 32) (k0_hw594 : k0_chk594 v1325), ∀ a x, ((![v1325] : Fin 1 → IVec S16 32) a x).toNat < S32000.size a := fun v1325 k0_hw594 => k0_hw594

def k0_chk595 (v1327 : IVec S16 32) : Prop :=
  (∀ a x, ((![v1327] : Fin 1 → IVec S16 32) a x).toNat < S32000.size a)
theorem k0_idx595_inb : ∀ (v1327 : IVec S16 32) (k0_hw595 : k0_chk595 v1327), ∀ a x, ((![v1327] : Fin 1 → IVec S16 32) a x).toNat < S32000.size a := fun v1327 k0_hw595 => k0_hw595

def k0_chk596 (v1329 : IVec S16 32) : Prop :=
  (∀ a x, ((![v1329] : Fin 1 → IVec S16 32) a x).toNat < S32000.size a)
theorem k0_idx596_inb : ∀ (v1329 : IVec S16 32) (k0_hw596 : k0_chk596 v1329), ∀ a x, ((![v1329] : Fin 1 → IVec S16 32) a x).toNat < S32000.size a := fun v1329 k0_hw596 => k0_hw596

def k0_chk597 (v664 : IVec S16 32) (v1380 : IVec S16 32) : Prop :=
  (∀ a x, ((![v1380, v664] : Fin 2 → IVec S16 32) a x).toNat < S64x512.size a)
theorem k0_idx597_inb : ∀ (v664 : IVec S16 32) (v1380 : IVec S16 32) (k0_hw597 : k0_chk597 v664 v1380), ∀ a x, ((![v1380, v664] : Fin 2 → IVec S16 32) a x).toNat < S64x512.size a := fun v664 v1380 k0_hw597 => k0_hw597

def k0_chk598 (v664 : IVec S16 32) (v1382 : IVec S16 32) : Prop :=
  (∀ a x, ((![v1382, v664] : Fin 2 → IVec S16 32) a x).toNat < S64x512.size a)
theorem k0_idx598_inb : ∀ (v664 : IVec S16 32) (v1382 : IVec S16 32) (k0_hw598 : k0_chk598 v664 v1382), ∀ a x, ((![v1382, v664] : Fin 2 → IVec S16 32) a x).toNat < S64x512.size a := fun v664 v1382 k0_hw598 => k0_hw598

def k0_chk599 (v1389 : IVec S16 32) : Prop :=
  (∀ a x, ((![v1389] : Fin 1 → IVec S16 32) a x).toNat < S32000.size a)
theorem k0_idx599_inb : ∀ (v1389 : IVec S16 32) (k0_hw599 : k0_chk599 v1389), ∀ a x, ((![v1389] : Fin 1 → IVec S16 32) a x).toNat < S32000.size a := fun v1389 k0_hw599 => k0_hw599

def k0_chk600 (v1391 : IVec S16 32) : Prop :=
  (∀ a x, ((![v1391] : Fin 1 → IVec S16 32) a x).toNat < S32000.size a)
theorem k0_idx600_inb : ∀ (v1391 : IVec S16 32) (k0_hw600 : k0_chk600 v1391), ∀ a x, ((![v1391] : Fin 1 → IVec S16 32) a x).toNat < S32000.size a := fun v1391 k0_hw600 => k0_hw600

def k0_chk601 (v1393 : IVec S16 32) : Prop :=
  (∀ a x, ((![v1393] : Fin 1 → IVec S16 32) a x).toNat < S32000.size a)
theorem k0_idx601_inb : ∀ (v1393 : IVec S16 32) (k0_hw601 : k0_chk601 v1393), ∀ a x, ((![v1393] : Fin 1 → IVec S16 32) a x).toNat < S32000.size a := fun v1393 k0_hw601 => k0_hw601

def k0_chk602 (v1395 : IVec S16 32) : Prop :=
  (∀ a x, ((![v1395] : Fin 1 → IVec S16 32) a x).toNat < S32000.size a)
theorem k0_idx602_inb : ∀ (v1395 : IVec S16 32) (k0_hw602 : k0_chk602 v1395), ∀ a x, ((![v1395] : Fin 1 → IVec S16 32) a x).toNat < S32000.size a := fun v1395 k0_hw602 => k0_hw602

def k0_chk603 (v1397 : IVec S16 32) : Prop :=
  (∀ a x, ((![v1397] : Fin 1 → IVec S16 32) a x).toNat < S32000.size a)
theorem k0_idx603_inb : ∀ (v1397 : IVec S16 32) (k0_hw603 : k0_chk603 v1397), ∀ a x, ((![v1397] : Fin 1 → IVec S16 32) a x).toNat < S32000.size a := fun v1397 k0_hw603 => k0_hw603

def k0_chk604 (v1399 : IVec S16 32) : Prop :=
  (∀ a x, ((![v1399] : Fin 1 → IVec S16 32) a x).toNat < S32000.size a)
theorem k0_idx604_inb : ∀ (v1399 : IVec S16 32) (k0_hw604 : k0_chk604 v1399), ∀ a x, ((![v1399] : Fin 1 → IVec S16 32) a x).toNat < S32000.size a := fun v1399 k0_hw604 => k0_hw604

def k0_chk605 (v664 : IVec S16 32) (v1450 : IVec S16 32) : Prop :=
  (∀ a x, ((![v1450, v664] : Fin 2 → IVec S16 32) a x).toNat < S64x512.size a)
theorem k0_idx605_inb : ∀ (v664 : IVec S16 32) (v1450 : IVec S16 32) (k0_hw605 : k0_chk605 v664 v1450), ∀ a x, ((![v1450, v664] : Fin 2 → IVec S16 32) a x).toNat < S64x512.size a := fun v664 v1450 k0_hw605 => k0_hw605

def k0_chk606 (v664 : IVec S16 32) (v1452 : IVec S16 32) : Prop :=
  (∀ a x, ((![v1452, v664] : Fin 2 → IVec S16 32) a x).toNat < S64x512.size a)
theorem k0_idx606_inb : ∀ (v664 : IVec S16 32) (v1452 : IVec S16 32) (k0_hw606 : k0_chk606 v664 v1452), ∀ a x, ((![v1452, v664] : Fin 2 → IVec S16 32) a x).toNat < S64x512.size a := fun v664 v1452 k0_hw606 => k0_hw606

def k0_chk607 (v1459 : IVec S16 32) : Prop :=
  (∀ a x, ((![v1459] : Fin 1 → IVec S16 32) a x).toNat < S32000.size a)
theorem k0_idx607_inb : ∀ (v1459 : IVec S16 32) (k0_hw607 : k0_chk607 v1459), ∀ a x, ((![v1459] : Fin 1 → IVec S16 32) a x).toNat < S32000.size a := fun v1459 k0_hw607 => k0_hw607

def k0_chk608 (v1461 : IVec S16 32) : Prop :=
  (∀ a x, ((![v1461] : Fin 1 → IVec S16 32) a x).toNat < S32000.size a)
theorem k0_idx608_inb : ∀ (v1461 : IVec S16 32) (k0_hw608 : k0_chk608 v1461), ∀ a x, ((![v1461] : Fin 1 → IVec S16 32) a x).toNat < S32000.size a := fun v1461 k0_hw608 => k0_hw608

def k0_chk609 (v1463 : IVec S16 32) : Prop :=
  (∀ a x, ((![v1463] : Fin 1 → IVec S16 32) a x).toNat < S32000.size a)
theorem k0_idx609_inb : ∀ (v1463 : IVec S16 32) (k0_hw609 : k0_chk609 v1463), ∀ a x, ((![v1463] : Fin 1 → IVec S16 32) a x).toNat < S32000.size a := fun v1463 k0_hw609 => k0_hw609

def k0_chk610 (v1465 : IVec S16 32) : Prop :=
  (∀ a x, ((![v1465] : Fin 1 → IVec S16 32) a x).toNat < S32000.size a)
theorem k0_idx610_inb : ∀ (v1465 : IVec S16 32) (k0_hw610 : k0_chk610 v1465), ∀ a x, ((![v1465] : Fin 1 → IVec S16 32) a x).toNat < S32000.size a := fun v1465 k0_hw610 => k0_hw610

def k0_chk611 (v1467 : IVec S16 32) : Prop :=
  (∀ a x, ((![v1467] : Fin 1 → IVec S16 32) a x).toNat < S32000.size a)
theorem k0_idx611_inb : ∀ (v1467 : IVec S16 32) (k0_hw611 : k0_chk611 v1467), ∀ a x, ((![v1467] : Fin 1 → IVec S16 32) a x).toNat < S32000.size a := fun v1467 k0_hw611 => k0_hw611

def k0_chk612 (v1469 : IVec S16 32) : Prop :=
  (∀ a x, ((![v1469] : Fin 1 → IVec S16 32) a x).toNat < S32000.size a)
theorem k0_idx612_inb : ∀ (v1469 : IVec S16 32) (k0_hw612 : k0_chk612 v1469), ∀ a x, ((![v1469] : Fin 1 → IVec S16 32) a x).toNat < S32000.size a := fun v1469 k0_hw612 => k0_hw612

def k0_chk613 (v664 : IVec S16 32) (v1520 : IVec S16 32) : Prop :=
  (∀ a x, ((![v1520, v664] : Fin 2 → IVec S16 32) a x).toNat < S64x512.size a)
theorem k0_idx613_inb : ∀ (v664 : IVec S16 32) (v1520 : IVec S16 32) (k0_hw613 : k0_chk613 v664 v1520), ∀ a x, ((![v1520, v664] : Fin 2 → IVec S16 32) a x).toNat < S64x512.size a := fun v664 v1520 k0_hw613 => k0_hw613

def k0_chk614 (v664 : IVec S16 32) (v1522 : IVec S16 32) : Prop :=
  (∀ a x, ((![v1522, v664] : Fin 2 → IVec S16 32) a x).toNat < S64x512.size a)
theorem k0_idx614_inb : ∀ (v664 : IVec S16 32) (v1522 : IVec S16 32) (k0_hw614 : k0_chk614 v664 v1522), ∀ a x, ((![v1522, v664] : Fin 2 → IVec S16 32) a x).toNat < S64x512.size a := fun v664 v1522 k0_hw614 => k0_hw614

def k0_chk615 (v1529 : IVec S16 32) : Prop :=
  (∀ a x, ((![v1529] : Fin 1 → IVec S16 32) a x).toNat < S32000.size a)
theorem k0_idx615_inb : ∀ (v1529 : IVec S16 32) (k0_hw615 : k0_chk615 v1529), ∀ a x, ((![v1529] : Fin 1 → IVec S16 32) a x).toNat < S32000.size a := fun v1529 k0_hw615 => k0_hw615

def k0_chk616 (v1531 : IVec S16 32) : Prop :=
  (∀ a x, ((![v1531] : Fin 1 → IVec S16 32) a x).toNat < S32000.size a)
theorem k0_idx616_inb : ∀ (v1531 : IVec S16 32) (k0_hw616 : k0_chk616 v1531), ∀ a x, ((![v1531] : Fin 1 → IVec S16 32) a x).toNat < S32000.size a := fun v1531 k0_hw616 => k0_hw616

def k0_chk617 (v1533 : IVec S16 32) : Prop :=
  (∀ a x, ((![v1533] : Fin 1 → IVec S16 32) a x).toNat < S32000.size a)
theorem k0_idx617_inb : ∀ (v1533 : IVec S16 32) (k0_hw617 : k0_chk617 v1533), ∀ a x, ((![v1533] : Fin 1 → IVec S16 32) a x).toNat < S32000.size a := fun v1533 k0_hw617 => k0_hw617

def k0_chk618 (v1535 : IVec S16 32) : Prop :=
  (∀ a x, ((![v1535] : Fin 1 → IVec S16 32) a x).toNat < S32000.size a)
theorem k0_idx618_inb : ∀ (v1535 : IVec S16 32) (k0_hw618 : k0_chk618 v1535), ∀ a x, ((![v1535] : Fin 1 → IVec S16 32) a x).toNat < S32000.size a := fun v1535 k0_hw618 => k0_hw618

def k0_chk619 (v1537 : IVec S16 32) : Prop :=
  (∀ a x, ((![v1537] : Fin 1 → IVec S16 32) a x).toNat < S32000.size a)
theorem k0_idx619_inb : ∀ (v1537 : IVec S16 32) (k0_hw619 : k0_chk619 v1537), ∀ a x, ((![v1537] : Fin 1 → IVec S16 32) a x).toNat < S32000.size a := fun v1537 k0_hw619 => k0_hw619

def k0_chk620 (v1539 : IVec S16 32) : Prop :=
  (∀ a x, ((![v1539] : Fin 1 → IVec S16 32) a x).toNat < S32000.size a)
theorem k0_idx620_inb : ∀ (v1539 : IVec S16 32) (k0_hw620 : k0_chk620 v1539), ∀ a x, ((![v1539] : Fin 1 → IVec S16 32) a x).toNat < S32000.size a := fun v1539 k0_hw620 => k0_hw620

def k0_chk621 (v664 : IVec S16 32) (v1590 : IVec S16 32) : Prop :=
  (∀ a x, ((![v1590, v664] : Fin 2 → IVec S16 32) a x).toNat < S64x512.size a)
theorem k0_idx621_inb : ∀ (v664 : IVec S16 32) (v1590 : IVec S16 32) (k0_hw621 : k0_chk621 v664 v1590), ∀ a x, ((![v1590, v664] : Fin 2 → IVec S16 32) a x).toNat < S64x512.size a := fun v664 v1590 k0_hw621 => k0_hw621

def k0_chk622 (v664 : IVec S16 32) (v1592 : IVec S16 32) : Prop :=
  (∀ a x, ((![v1592, v664] : Fin 2 → IVec S16 32) a x).toNat < S64x512.size a)
theorem k0_idx622_inb : ∀ (v664 : IVec S16 32) (v1592 : IVec S16 32) (k0_hw622 : k0_chk622 v664 v1592), ∀ a x, ((![v1592, v664] : Fin 2 → IVec S16 32) a x).toNat < S64x512.size a := fun v664 v1592 k0_hw622 => k0_hw622

def k0_chk623 (v1599 : IVec S16 32) : Prop :=
  (∀ a x, ((![v1599] : Fin 1 → IVec S16 32) a x).toNat < S32000.size a)
theorem k0_idx623_inb : ∀ (v1599 : IVec S16 32) (k0_hw623 : k0_chk623 v1599), ∀ a x, ((![v1599] : Fin 1 → IVec S16 32) a x).toNat < S32000.size a := fun v1599 k0_hw623 => k0_hw623

def k0_chk624 (v1601 : IVec S16 32) : Prop :=
  (∀ a x, ((![v1601] : Fin 1 → IVec S16 32) a x).toNat < S32000.size a)
theorem k0_idx624_inb : ∀ (v1601 : IVec S16 32) (k0_hw624 : k0_chk624 v1601), ∀ a x, ((![v1601] : Fin 1 → IVec S16 32) a x).toNat < S32000.size a := fun v1601 k0_hw624 => k0_hw624

def k0_chk625 (v1603 : IVec S16 32) : Prop :=
  (∀ a x, ((![v1603] : Fin 1 → IVec S16 32) a x).toNat < S32000.size a)
theorem k0_idx625_inb : ∀ (v1603 : IVec S16 32) (k0_hw625 : k0_chk625 v1603), ∀ a x, ((![v1603] : Fin 1 → IVec S16 32) a x).toNat < S32000.size a := fun v1603 k0_hw625 => k0_hw625

def k0_chk626 (v1605 : IVec S16 32) : Prop :=
  (∀ a x, ((![v1605] : Fin 1 → IVec S16 32) a x).toNat < S32000.size a)
theorem k0_idx626_inb : ∀ (v1605 : IVec S16 32) (k0_hw626 : k0_chk626 v1605), ∀ a x, ((![v1605] : Fin 1 → IVec S16 32) a x).toNat < S32000.size a := fun v1605 k0_hw626 => k0_hw626

def k0_chk627 (v1607 : IVec S16 32) : Prop :=
  (∀ a x, ((![v1607] : Fin 1 → IVec S16 32) a x).toNat < S32000.size a)
theorem k0_idx627_inb : ∀ (v1607 : IVec S16 32) (k0_hw627 : k0_chk627 v1607), ∀ a x, ((![v1607] : Fin 1 → IVec S16 32) a x).toNat < S32000.size a := fun v1607 k0_hw627 => k0_hw627

def k0_chk628 (v1609 : IVec S16 32) : Prop :=
  (∀ a x, ((![v1609] : Fin 1 → IVec S16 32) a x).toNat < S32000.size a)
theorem k0_idx628_inb : ∀ (v1609 : IVec S16 32) (k0_hw628 : k0_chk628 v1609), ∀ a x, ((![v1609] : Fin 1 → IVec S16 32) a x).toNat < S32000.size a := fun v1609 k0_hw628 => k0_hw628

def k0_chk629 (v664 : IVec S16 32) (v1660 : IVec S16 32) : Prop :=
  (∀ a x, ((![v1660, v664] : Fin 2 → IVec S16 32) a x).toNat < S64x512.size a)
theorem k0_idx629_inb : ∀ (v664 : IVec S16 32) (v1660 : IVec S16 32) (k0_hw629 : k0_chk629 v664 v1660), ∀ a x, ((![v1660, v664] : Fin 2 → IVec S16 32) a x).toNat < S64x512.size a := fun v664 v1660 k0_hw629 => k0_hw629

def k0_chk630 (v664 : IVec S16 32) (v1662 : IVec S16 32) : Prop :=
  (∀ a x, ((![v1662, v664] : Fin 2 → IVec S16 32) a x).toNat < S64x512.size a)
theorem k0_idx630_inb : ∀ (v664 : IVec S16 32) (v1662 : IVec S16 32) (k0_hw630 : k0_chk630 v664 v1662), ∀ a x, ((![v1662, v664] : Fin 2 → IVec S16 32) a x).toNat < S64x512.size a := fun v664 v1662 k0_hw630 => k0_hw630

def k0_chk631 (v1669 : IVec S16 32) : Prop :=
  (∀ a x, ((![v1669] : Fin 1 → IVec S16 32) a x).toNat < S32000.size a)
theorem k0_idx631_inb : ∀ (v1669 : IVec S16 32) (k0_hw631 : k0_chk631 v1669), ∀ a x, ((![v1669] : Fin 1 → IVec S16 32) a x).toNat < S32000.size a := fun v1669 k0_hw631 => k0_hw631

def k0_chk632 (v1671 : IVec S16 32) : Prop :=
  (∀ a x, ((![v1671] : Fin 1 → IVec S16 32) a x).toNat < S32000.size a)
theorem k0_idx632_inb : ∀ (v1671 : IVec S16 32) (k0_hw632 : k0_chk632 v1671), ∀ a x, ((![v1671] : Fin 1 → IVec S16 32) a x).toNat < S32000.size a := fun v1671 k0_hw632 => k0_hw632

def k0_chk633 (v1673 : IVec S16 32) : Prop :=
  (∀ a x, ((![v1673] : Fin 1 → IVec S16 32) a x).toNat < S32000.size a)
theorem k0_idx633_inb : ∀ (v1673 : IVec S16 32) (k0_hw633 : k0_chk633 v1673), ∀ a x, ((![v1673] : Fin 1 → IVec S16 32) a x).toNat < S32000.size a := fun v1673 k0_hw633 => k0_hw633

def k0_chk634 (v1675 : IVec S16 32) : Prop :=
  (∀ a x, ((![v1675] : Fin 1 → IVec S16 32) a x).toNat < S32000.size a)
theorem k0_idx634_inb : ∀ (v1675 : IVec S16 32) (k0_hw634 : k0_chk634 v1675), ∀ a x, ((![v1675] : Fin 1 → IVec S16 32) a x).toNat < S32000.size a := fun v1675 k0_hw634 => k0_hw634

def k0_chk635 (v1677 : IVec S16 32) : Prop :=
  (∀ a x, ((![v1677] : Fin 1 → IVec S16 32) a x).toNat < S32000.size a)
theorem k0_idx635_inb : ∀ (v1677 : IVec S16 32) (k0_hw635 : k0_chk635 v1677), ∀ a x, ((![v1677] : Fin 1 → IVec S16 32) a x).toNat < S32000.size a := fun v1677 k0_hw635 => k0_hw635

def k0_chk636 (v1679 : IVec S16 32) : Prop :=
  (∀ a x, ((![v1679] : Fin 1 → IVec S16 32) a x).toNat < S32000.size a)
theorem k0_idx636_inb : ∀ (v1679 : IVec S16 32) (k0_hw636 : k0_chk636 v1679), ∀ a x, ((![v1679] : Fin 1 → IVec S16 32) a x).toNat < S32000.size a := fun v1679 k0_hw636 => k0_hw636

def k0_chk637 (v664 : IVec S16 32) (v1730 : IVec S16 32) : Prop :=
  (∀ a x, ((![v1730, v664] : Fin 2 → IVec S16 32) a x).toNat < S64x512.size a)
theorem k0_idx637_inb : ∀ (v664 : IVec S16 32) (v1730 : IVec S16 32) (k0_hw637 : k0_chk637 v664 v1730), ∀ a x, ((![v1730, v664] : Fin 2 → IVec S16 32) a x).toNat < S64x512.size a := fun v664 v1730 k0_hw637 => k0_hw637

def k0_chk638 (v664 : IVec S16 32) (v1732 : IVec S16 32) : Prop :=
  (∀ a x, ((![v1732, v664] : Fin 2 → IVec S16 32) a x).toNat < S64x512.size a)
theorem k0_idx638_inb : ∀ (v664 : IVec S16 32) (v1732 : IVec S16 32) (k0_hw638 : k0_chk638 v664 v1732), ∀ a x, ((![v1732, v664] : Fin 2 → IVec S16 32) a x).toNat < S64x512.size a := fun v664 v1732 k0_hw638 => k0_hw638

def k0_chk639 (v1739 : IVec S16 32) : Prop :=
  (∀ a x, ((![v1739] : Fin 1 → IVec S16 32) a x).toNat < S32000.size a)
theorem k0_idx639_inb : ∀ (v1739 : IVec S16 32) (k0_hw639 : k0_chk639 v1739), ∀ a x, ((![v1739] : Fin 1 → IVec S16 32) a x).toNat < S32000.size a := fun v1739 k0_hw639 => k0_hw639

def k0_chk640 (v1741 : IVec S16 32) : Prop :=
  (∀ a x, ((![v1741] : Fin 1 → IVec S16 32) a x).toNat < S32000.size a)
theorem k0_idx640_inb : ∀ (v1741 : IVec S16 32) (k0_hw640 : k0_chk640 v1741), ∀ a x, ((![v1741] : Fin 1 → IVec S16 32) a x).toNat < S32000.size a := fun v1741 k0_hw640 => k0_hw640

def k0_chk641 (v1743 : IVec S16 32) : Prop :=
  (∀ a x, ((![v1743] : Fin 1 → IVec S16 32) a x).toNat < S32000.size a)
theorem k0_idx641_inb : ∀ (v1743 : IVec S16 32) (k0_hw641 : k0_chk641 v1743), ∀ a x, ((![v1743] : Fin 1 → IVec S16 32) a x).toNat < S32000.size a := fun v1743 k0_hw641 => k0_hw641

def k0_chk642 (v1745 : IVec S16 32) : Prop :=
  (∀ a x, ((![v1745] : Fin 1 → IVec S16 32) a x).toNat < S32000.size a)
theorem k0_idx642_inb : ∀ (v1745 : IVec S16 32) (k0_hw642 : k0_chk642 v1745), ∀ a x, ((![v1745] : Fin 1 → IVec S16 32) a x).toNat < S32000.size a := fun v1745 k0_hw642 => k0_hw642

def k0_chk643 (v1747 : IVec S16 32) : Prop :=
  (∀ a x, ((![v1747] : Fin 1 → IVec S16 32) a x).toNat < S32000.size a)
theorem k0_idx643_inb : ∀ (v1747 : IVec S16 32) (k0_hw643 : k0_chk643 v1747), ∀ a x, ((![v1747] : Fin 1 → IVec S16 32) a x).toNat < S32000.size a := fun v1747 k0_hw643 => k0_hw643

def k0_chk644 (v1749 : IVec S16 32) : Prop :=
  (∀ a x, ((![v1749] : Fin 1 → IVec S16 32) a x).toNat < S32000.size a)
theorem k0_idx644_inb : ∀ (v1749 : IVec S16 32) (k0_hw644 : k0_chk644 v1749), ∀ a x, ((![v1749] : Fin 1 → IVec S16 32) a x).toNat < S32000.size a := fun v1749 k0_hw644 => k0_hw644

def k0_chk645 (v664 : IVec S16 32) (v1800 : IVec S16 32) : Prop :=
  (∀ a x, ((![v1800, v664] : Fin 2 → IVec S16 32) a x).toNat < S64x512.size a)
theorem k0_idx645_inb : ∀ (v664 : IVec S16 32) (v1800 : IVec S16 32) (k0_hw645 : k0_chk645 v664 v1800), ∀ a x, ((![v1800, v664] : Fin 2 → IVec S16 32) a x).toNat < S64x512.size a := fun v664 v1800 k0_hw645 => k0_hw645

def k0_chk646 (v664 : IVec S16 32) (v1802 : IVec S16 32) : Prop :=
  (∀ a x, ((![v1802, v664] : Fin 2 → IVec S16 32) a x).toNat < S64x512.size a)
theorem k0_idx646_inb : ∀ (v664 : IVec S16 32) (v1802 : IVec S16 32) (k0_hw646 : k0_chk646 v664 v1802), ∀ a x, ((![v1802, v664] : Fin 2 → IVec S16 32) a x).toNat < S64x512.size a := fun v664 v1802 k0_hw646 => k0_hw646

def k0_chk647 (v1809 : IVec S16 32) : Prop :=
  (∀ a x, ((![v1809] : Fin 1 → IVec S16 32) a x).toNat < S32000.size a)
theorem k0_idx647_inb : ∀ (v1809 : IVec S16 32) (k0_hw647 : k0_chk647 v1809), ∀ a x, ((![v1809] : Fin 1 → IVec S16 32) a x).toNat < S32000.size a := fun v1809 k0_hw647 => k0_hw647

def k0_chk648 (v1811 : IVec S16 32) : Prop :=
  (∀ a x, ((![v1811] : Fin 1 → IVec S16 32) a x).toNat < S32000.size a)
theorem k0_idx648_inb : ∀ (v1811 : IVec S16 32) (k0_hw648 : k0_chk648 v1811), ∀ a x, ((![v1811] : Fin 1 → IVec S16 32) a x).toNat < S32000.size a := fun v1811 k0_hw648 => k0_hw648

def k0_chk649 (v1813 : IVec S16 32) : Prop :=
  (∀ a x, ((![v1813] : Fin 1 → IVec S16 32) a x).toNat < S32000.size a)
theorem k0_idx649_inb : ∀ (v1813 : IVec S16 32) (k0_hw649 : k0_chk649 v1813), ∀ a x, ((![v1813] : Fin 1 → IVec S16 32) a x).toNat < S32000.size a := fun v1813 k0_hw649 => k0_hw649

def k0_chk650 (v1815 : IVec S16 32) : Prop :=
  (∀ a x, ((![v1815] : Fin 1 → IVec S16 32) a x).toNat < S32000.size a)
theorem k0_idx650_inb : ∀ (v1815 : IVec S16 32) (k0_hw650 : k0_chk650 v1815), ∀ a x, ((![v1815] : Fin 1 → IVec S16 32) a x).toNat < S32000.size a := fun v1815 k0_hw650 => k0_hw650

def k0_chk651 (v1817 : IVec S16 32) : Prop :=
  (∀ a x, ((![v1817] : Fin 1 → IVec S16 32) a x).toNat < S32000.size a)
theorem k0_idx651_inb : ∀ (v1817 : IVec S16 32) (k0_hw651 : k0_chk651 v1817), ∀ a x, ((![v1817] : Fin 1 → IVec S16 32) a x).toNat < S32000.size a := fun v1817 k0_hw651 => k0_hw651

def k0_chk652 (v1819 : IVec S16 32) : Prop :=
  (∀ a x, ((![v1819] : Fin 1 → IVec S16 32) a x).toNat < S32000.size a)
theorem k0_idx652_inb : ∀ (v1819 : IVec S16 32) (k0_hw652 : k0_chk652 v1819), ∀ a x, ((![v1819] : Fin 1 → IVec S16 32) a x).toNat < S32000.size a := fun v1819 k0_hw652 => k0_hw652

def k0_chk653 (v664 : IVec S16 32) (v1870 : IVec S16 32) : Prop :=
  (∀ a x, ((![v1870, v664] : Fin 2 → IVec S16 32) a x).toNat < S64x512.size a)
theorem k0_idx653_inb : ∀ (v664 : IVec S16 32) (v1870 : IVec S16 32) (k0_hw653 : k0_chk653 v664 v1870), ∀ a x, ((![v1870, v664] : Fin 2 → IVec S16 32) a x).toNat < S64x512.size a := fun v664 v1870 k0_hw653 => k0_hw653

def k0_chk654 (v664 : IVec S16 32) (v1872 : IVec S16 32) : Prop :=
  (∀ a x, ((![v1872, v664] : Fin 2 → IVec S16 32) a x).toNat < S64x512.size a)
theorem k0_idx654_inb : ∀ (v664 : IVec S16 32) (v1872 : IVec S16 32) (k0_hw654 : k0_chk654 v664 v1872), ∀ a x, ((![v1872, v664] : Fin 2 → IVec S16 32) a x).toNat < S64x512.size a := fun v664 v1872 k0_hw654 => k0_hw654

def k0_chk655 (v1879 : IVec S16 32) : Prop :=
  (∀ a x, ((![v1879] : Fin 1 → IVec S16 32) a x).toNat < S32000.size a)
theorem k0_idx655_inb : ∀ (v1879 : IVec S16 32) (k0_hw655 : k0_chk655 v1879), ∀ a x, ((![v1879] : Fin 1 → IVec S16 32) a x).toNat < S32000.size a := fun v1879 k0_hw655 => k0_hw655

def k0_chk656 (v1881 : IVec S16 32) : Prop :=
  (∀ a x, ((![v1881] : Fin 1 → IVec S16 32) a x).toNat < S32000.size a)
theorem k0_idx656_inb : ∀ (v1881 : IVec S16 32) (k0_hw656 : k0_chk656 v1881), ∀ a x, ((![v1881] : Fin 1 → IVec S16 32) a x).toNat < S32000.size a := fun v1881 k0_hw656 => k0_hw656

def k0_chk657 (v1883 : IVec S16 32) : Prop :=
  (∀ a x, ((![v1883] : Fin 1 → IVec S16 32) a x).toNat < S32000.size a)
theorem k0_idx657_inb : ∀ (v1883 : IVec S16 32) (k0_hw657 : k0_chk657 v1883), ∀ a x, ((![v1883] : Fin 1 → IVec S16 32) a x).toNat < S32000.size a := fun v1883 k0_hw657 => k0_hw657

def k0_chk658 (v1885 : IVec S16 32) : Prop :=
  (∀ a x, ((![v1885] : Fin 1 → IVec S16 32) a x).toNat < S32000.size a)
theorem k0_idx658_inb : ∀ (v1885 : IVec S16 32) (k0_hw658 : k0_chk658 v1885), ∀ a x, ((![v1885] : Fin 1 → IVec S16 32) a x).toNat < S32000.size a := fun v1885 k0_hw658 => k0_hw658

def k0_chk659 (v1887 : IVec S16 32) : Prop :=
  (∀ a x, ((![v1887] : Fin 1 → IVec S16 32) a x).toNat < S32000.size a)
theorem k0_idx659_inb : ∀ (v1887 : IVec S16 32) (k0_hw659 : k0_chk659 v1887), ∀ a x, ((![v1887] : Fin 1 → IVec S16 32) a x).toNat < S32000.size a := fun v1887 k0_hw659 => k0_hw659

def k0_chk660 (v1889 : IVec S16 32) : Prop :=
  (∀ a x, ((![v1889] : Fin 1 → IVec S16 32) a x).toNat < S32000.size a)
theorem k0_idx660_inb : ∀ (v1889 : IVec S16 32) (k0_hw660 : k0_chk660 v1889), ∀ a x, ((![v1889] : Fin 1 → IVec S16 32) a x).toNat < S32000.size a := fun v1889 k0_hw660 => k0_hw660

def k0_chk661 (v664 : IVec S16 32) (v1940 : IVec S16 32) : Prop :=
  (∀ a x, ((![v1940, v664] : Fin 2 → IVec S16 32) a x).toNat < S64x512.size a)
theorem k0_idx661_inb : ∀ (v664 : IVec S16 32) (v1940 : IVec S16 32) (k0_hw661 : k0_chk661 v664 v1940), ∀ a x, ((![v1940, v664] : Fin 2 → IVec S16 32) a x).toNat < S64x512.size a := fun v664 v1940 k0_hw661 => k0_hw661

def k0_chk662 (v664 : IVec S16 32) (v1942 : IVec S16 32) : Prop :=
  (∀ a x, ((![v1942, v664] : Fin 2 → IVec S16 32) a x).toNat < S64x512.size a)
theorem k0_idx662_inb : ∀ (v664 : IVec S16 32) (v1942 : IVec S16 32) (k0_hw662 : k0_chk662 v664 v1942), ∀ a x, ((![v1942, v664] : Fin 2 → IVec S16 32) a x).toNat < S64x512.size a := fun v664 v1942 k0_hw662 => k0_hw662

def k0_chk663 (v1949 : IVec S16 32) : Prop :=
  (∀ a x, ((![v1949] : Fin 1 → IVec S16 32) a x).toNat < S32000.size a)
theorem k0_idx663_inb : ∀ (v1949 : IVec S16 32) (k0_hw663 : k0_chk663 v1949), ∀ a x, ((![v1949] : Fin 1 → IVec S16 32) a x).toNat < S32000.size a := fun v1949 k0_hw663 => k0_hw663

def k0_chk664 (v1951 : IVec S16 32) : Prop :=
  (∀ a x, ((![v1951] : Fin 1 → IVec S16 32) a x).toNat < S32000.size a)
theorem k0_idx664_inb : ∀ (v1951 : IVec S16 32) (k0_hw664 : k0_chk664 v1951), ∀ a x, ((![v1951] : Fin 1 → IVec S16 32) a x).toNat < S32000.size a := fun v1951 k0_hw664 => k0_hw664

def k0_chk665 (v1953 : IVec S16 32) : Prop :=
  (∀ a x, ((![v1953] : Fin 1 → IVec S16 32) a x).toNat < S32000.size a)
theorem k0_idx665_inb : ∀ (v1953 : IVec S16 32) (k0_hw665 : k0_chk665 v1953), ∀ a x, ((![v1953] : Fin 1 → IVec S16 32) a x).toNat < S32000.size a := fun v1953 k0_hw665 => k0_hw665

def k0_chk666 (v1955 : IVec S16 32) : Prop :=
  (∀ a x, ((![v1955] : Fin 1 → IVec S16 32) a x).toNat < S32000.size a)
theorem k0_idx666_inb : ∀ (v1955 : IVec S16 32) (k0_hw666 : k0_chk666 v1955), ∀ a x, ((![v1955] : Fin 1 → IVec S16 32) a x).toNat < S32000.size a := fun v1955 k0_hw666 => k0_hw666

def k0_chk667 (v1957 : IVec S16 32) : Prop :=
  (∀ a x, ((![v1957] : Fin 1 → IVec S16 32) a x).toNat < S32000.size a)
theorem k0_idx667_inb : ∀ (v1957 : IVec S16 32) (k0_hw667 : k0_chk667 v1957), ∀ a x, ((![v1957] : Fin 1 → IVec S16 32) a x).toNat < S32000.size a := fun v1957 k0_hw667 => k0_hw667

def k0_chk668 (v1959 : IVec S16 32) : Prop :=
  (∀ a x, ((![v1959] : Fin 1 → IVec S16 32) a x).toNat < S32000.size a)
theorem k0_idx668_inb : ∀ (v1959 : IVec S16 32) (k0_hw668 : k0_chk668 v1959), ∀ a x, ((![v1959] : Fin 1 → IVec S16 32) a x).toNat < S32000.size a := fun v1959 k0_hw668 => k0_hw668

def k0_chk669 (v664 : IVec S16 32) (v2010 : IVec S16 32) : Prop :=
  (∀ a x, ((![v2010, v664] : Fin 2 → IVec S16 32) a x).toNat < S64x512.size a)
theorem k0_idx669_inb : ∀ (v664 : IVec S16 32) (v2010 : IVec S16 32) (k0_hw669 : k0_chk669 v664 v2010), ∀ a x, ((![v2010, v664] : Fin 2 → IVec S16 32) a x).toNat < S64x512.size a := fun v664 v2010 k0_hw669 => k0_hw669

def k0_chk670 (v664 : IVec S16 32) (v2012 : IVec S16 32) : Prop :=
  (∀ a x, ((![v2012, v664] : Fin 2 → IVec S16 32) a x).toNat < S64x512.size a)
theorem k0_idx670_inb : ∀ (v664 : IVec S16 32) (v2012 : IVec S16 32) (k0_hw670 : k0_chk670 v664 v2012), ∀ a x, ((![v2012, v664] : Fin 2 → IVec S16 32) a x).toNat < S64x512.size a := fun v664 v2012 k0_hw670 => k0_hw670

def k0_chk671 (v2019 : IVec S16 32) : Prop :=
  (∀ a x, ((![v2019] : Fin 1 → IVec S16 32) a x).toNat < S32000.size a)
theorem k0_idx671_inb : ∀ (v2019 : IVec S16 32) (k0_hw671 : k0_chk671 v2019), ∀ a x, ((![v2019] : Fin 1 → IVec S16 32) a x).toNat < S32000.size a := fun v2019 k0_hw671 => k0_hw671

def k0_chk672 (v2021 : IVec S16 32) : Prop :=
  (∀ a x, ((![v2021] : Fin 1 → IVec S16 32) a x).toNat < S32000.size a)
theorem k0_idx672_inb : ∀ (v2021 : IVec S16 32) (k0_hw672 : k0_chk672 v2021), ∀ a x, ((![v2021] : Fin 1 → IVec S16 32) a x).toNat < S32000.size a := fun v2021 k0_hw672 => k0_hw672

def k0_chk673 (v2023 : IVec S16 32) : Prop :=
  (∀ a x, ((![v2023] : Fin 1 → IVec S16 32) a x).toNat < S32000.size a)
theorem k0_idx673_inb : ∀ (v2023 : IVec S16 32) (k0_hw673 : k0_chk673 v2023), ∀ a x, ((![v2023] : Fin 1 → IVec S16 32) a x).toNat < S32000.size a := fun v2023 k0_hw673 => k0_hw673

def k0_chk674 (v2025 : IVec S16 32) : Prop :=
  (∀ a x, ((![v2025] : Fin 1 → IVec S16 32) a x).toNat < S32000.size a)
theorem k0_idx674_inb : ∀ (v2025 : IVec S16 32) (k0_hw674 : k0_chk674 v2025), ∀ a x, ((![v2025] : Fin 1 → IVec S16 32) a x).toNat < S32000.size a := fun v2025 k0_hw674 => k0_hw674

def k0_chk675 (v2027 : IVec S16 32) : Prop :=
  (∀ a x, ((![v2027] : Fin 1 → IVec S16 32) a x).toNat < S32000.size a)
theorem k0_idx675_inb : ∀ (v2027 : IVec S16 32) (k0_hw675 : k0_chk675 v2027), ∀ a x, ((![v2027] : Fin 1 → IVec S16 32) a x).toNat < S32000.size a := fun v2027 k0_hw675 => k0_hw675

def k0_chk676 (v2029 : IVec S16 32) : Prop :=
  (∀ a x, ((![v2029] : Fin 1 → IVec S16 32) a x).toNat < S32000.size a)
theorem k0_idx676_inb : ∀ (v2029 : IVec S16 32) (k0_hw676 : k0_chk676 v2029), ∀ a x, ((![v2029] : Fin 1 → IVec S16 32) a x).toNat < S32000.size a := fun v2029 k0_hw676 => k0_hw676

def k0_chk677 (v664 : IVec S16 32) (v2080 : IVec S16 32) : Prop :=
  (∀ a x, ((![v2080, v664] : Fin 2 → IVec S16 32) a x).toNat < S64x512.size a)
theorem k0_idx677_inb : ∀ (v664 : IVec S16 32) (v2080 : IVec S16 32) (k0_hw677 : k0_chk677 v664 v2080), ∀ a x, ((![v2080, v664] : Fin 2 → IVec S16 32) a x).toNat < S64x512.size a := fun v664 v2080 k0_hw677 => k0_hw677

def k0_chk678 (v664 : IVec S16 32) (v2082 : IVec S16 32) : Prop :=
  (∀ a x, ((![v2082, v664] : Fin 2 → IVec S16 32) a x).toNat < S64x512.size a)
theorem k0_idx678_inb : ∀ (v664 : IVec S16 32) (v2082 : IVec S16 32) (k0_hw678 : k0_chk678 v664 v2082), ∀ a x, ((![v2082, v664] : Fin 2 → IVec S16 32) a x).toNat < S64x512.size a := fun v664 v2082 k0_hw678 => k0_hw678

def k0_chk679 (v2089 : IVec S16 32) : Prop :=
  (∀ a x, ((![v2089] : Fin 1 → IVec S16 32) a x).toNat < S32000.size a)
theorem k0_idx679_inb : ∀ (v2089 : IVec S16 32) (k0_hw679 : k0_chk679 v2089), ∀ a x, ((![v2089] : Fin 1 → IVec S16 32) a x).toNat < S32000.size a := fun v2089 k0_hw679 => k0_hw679

def k0_chk680 (v2091 : IVec S16 32) : Prop :=
  (∀ a x, ((![v2091] : Fin 1 → IVec S16 32) a x).toNat < S32000.size a)
theorem k0_idx680_inb : ∀ (v2091 : IVec S16 32) (k0_hw680 : k0_chk680 v2091), ∀ a x, ((![v2091] : Fin 1 → IVec S16 32) a x).toNat < S32000.size a := fun v2091 k0_hw680 => k0_hw680

def k0_chk681 (v2093 : IVec S16 32) : Prop :=
  (∀ a x, ((![v2093] : Fin 1 → IVec S16 32) a x).toNat < S32000.size a)
theorem k0_idx681_inb : ∀ (v2093 : IVec S16 32) (k0_hw681 : k0_chk681 v2093), ∀ a x, ((![v2093] : Fin 1 → IVec S16 32) a x).toNat < S32000.size a := fun v2093 k0_hw681 => k0_hw681

def k0_chk682 (v2095 : IVec S16 32) : Prop :=
  (∀ a x, ((![v2095] : Fin 1 → IVec S16 32) a x).toNat < S32000.size a)
theorem k0_idx682_inb : ∀ (v2095 : IVec S16 32) (k0_hw682 : k0_chk682 v2095), ∀ a x, ((![v2095] : Fin 1 → IVec S16 32) a x).toNat < S32000.size a := fun v2095 k0_hw682 => k0_hw682

def k0_chk683 (v2097 : IVec S16 32) : Prop :=
  (∀ a x, ((![v2097] : Fin 1 → IVec S16 32) a x).toNat < S32000.size a)
theorem k0_idx683_inb : ∀ (v2097 : IVec S16 32) (k0_hw683 : k0_chk683 v2097), ∀ a x, ((![v2097] : Fin 1 → IVec S16 32) a x).toNat < S32000.size a := fun v2097 k0_hw683 => k0_hw683

def k0_chk684 (v2099 : IVec S16 32) : Prop :=
  (∀ a x, ((![v2099] : Fin 1 → IVec S16 32) a x).toNat < S32000.size a)
theorem k0_idx684_inb : ∀ (v2099 : IVec S16 32) (k0_hw684 : k0_chk684 v2099), ∀ a x, ((![v2099] : Fin 1 → IVec S16 32) a x).toNat < S32000.size a := fun v2099 k0_hw684 => k0_hw684

def k0_chk685 (v664 : IVec S16 32) (v2150 : IVec S16 32) : Prop :=
  (∀ a x, ((![v2150, v664] : Fin 2 → IVec S16 32) a x).toNat < S64x512.size a)
theorem k0_idx685_inb : ∀ (v664 : IVec S16 32) (v2150 : IVec S16 32) (k0_hw685 : k0_chk685 v664 v2150), ∀ a x, ((![v2150, v664] : Fin 2 → IVec S16 32) a x).toNat < S64x512.size a := fun v664 v2150 k0_hw685 => k0_hw685

def k0_chk686 (v664 : IVec S16 32) (v2152 : IVec S16 32) : Prop :=
  (∀ a x, ((![v2152, v664] : Fin 2 → IVec S16 32) a x).toNat < S64x512.size a)
theorem k0_idx686_inb : ∀ (v664 : IVec S16 32) (v2152 : IVec S16 32) (k0_hw686 : k0_chk686 v664 v2152), ∀ a x, ((![v2152, v664] : Fin 2 → IVec S16 32) a x).toNat < S64x512.size a := fun v664 v2152 k0_hw686 => k0_hw686

def k0_chk687 (v2159 : IVec S16 32) : Prop :=
  (∀ a x, ((![v2159] : Fin 1 → IVec S16 32) a x).toNat < S32000.size a)
theorem k0_idx687_inb : ∀ (v2159 : IVec S16 32) (k0_hw687 : k0_chk687 v2159), ∀ a x, ((![v2159] : Fin 1 → IVec S16 32) a x).toNat < S32000.size a := fun v2159 k0_hw687 => k0_hw687

def k0_chk688 (v2161 : IVec S16 32) : Prop :=
  (∀ a x, ((![v2161] : Fin 1 → IVec S16 32) a x).toNat < S32000.size a)
theorem k0_idx688_inb : ∀ (v2161 : IVec S16 32) (k0_hw688 : k0_chk688 v2161), ∀ a x, ((![v2161] : Fin 1 → IVec S16 32) a x).toNat < S32000.size a := fun v2161 k0_hw688 => k0_hw688

def k0_chk689 (v2163 : IVec S16 32) : Prop :=
  (∀ a x, ((![v2163] : Fin 1 → IVec S16 32) a x).toNat < S32000.size a)
theorem k0_idx689_inb : ∀ (v2163 : IVec S16 32) (k0_hw689 : k0_chk689 v2163), ∀ a x, ((![v2163] : Fin 1 → IVec S16 32) a x).toNat < S32000.size a := fun v2163 k0_hw689 => k0_hw689

def k0_chk690 (v2165 : IVec S16 32) : Prop :=
  (∀ a x, ((![v2165] : Fin 1 → IVec S16 32) a x).toNat < S32000.size a)
theorem k0_idx690_inb : ∀ (v2165 : IVec S16 32) (k0_hw690 : k0_chk690 v2165), ∀ a x, ((![v2165] : Fin 1 → IVec S16 32) a x).toNat < S32000.size a := fun v2165 k0_hw690 => k0_hw690

def k0_chk691 (v2167 : IVec S16 32) : Prop :=
  (∀ a x, ((![v2167] : Fin 1 → IVec S16 32) a x).toNat < S32000.size a)
theorem k0_idx691_inb : ∀ (v2167 : IVec S16 32) (k0_hw691 : k0_chk691 v2167), ∀ a x, ((![v2167] : Fin 1 → IVec S16 32) a x).toNat < S32000.size a := fun v2167 k0_hw691 => k0_hw691

def k0_chk692 (v2169 : IVec S16 32) : Prop :=
  (∀ a x, ((![v2169] : Fin 1 → IVec S16 32) a x).toNat < S32000.size a)
theorem k0_idx692_inb : ∀ (v2169 : IVec S16 32) (k0_hw692 : k0_chk692 v2169), ∀ a x, ((![v2169] : Fin 1 → IVec S16 32) a x).toNat < S32000.size a := fun v2169 k0_hw692 => k0_hw692

def k0_chk693 (v664 : IVec S16 32) (v2220 : IVec S16 32) : Prop :=
  (∀ a x, ((![v2220, v664] : Fin 2 → IVec S16 32) a x).toNat < S64x512.size a)
theorem k0_idx693_inb : ∀ (v664 : IVec S16 32) (v2220 : IVec S16 32) (k0_hw693 : k0_chk693 v664 v2220), ∀ a x, ((![v2220, v664] : Fin 2 → IVec S16 32) a x).toNat < S64x512.size a := fun v664 v2220 k0_hw693 => k0_hw693

def k0_chk694 (v664 : IVec S16 32) (v2222 : IVec S16 32) : Prop :=
  (∀ a x, ((![v2222, v664] : Fin 2 → IVec S16 32) a x).toNat < S64x512.size a)
theorem k0_idx694_inb : ∀ (v664 : IVec S16 32) (v2222 : IVec S16 32) (k0_hw694 : k0_chk694 v664 v2222), ∀ a x, ((![v2222, v664] : Fin 2 → IVec S16 32) a x).toNat < S64x512.size a := fun v664 v2222 k0_hw694 => k0_hw694

def k0_chk695 (v2229 : IVec S16 32) : Prop :=
  (∀ a x, ((![v2229] : Fin 1 → IVec S16 32) a x).toNat < S32000.size a)
theorem k0_idx695_inb : ∀ (v2229 : IVec S16 32) (k0_hw695 : k0_chk695 v2229), ∀ a x, ((![v2229] : Fin 1 → IVec S16 32) a x).toNat < S32000.size a := fun v2229 k0_hw695 => k0_hw695

def k0_chk696 (v2231 : IVec S16 32) : Prop :=
  (∀ a x, ((![v2231] : Fin 1 → IVec S16 32) a x).toNat < S32000.size a)
theorem k0_idx696_inb : ∀ (v2231 : IVec S16 32) (k0_hw696 : k0_chk696 v2231), ∀ a x, ((![v2231] : Fin 1 → IVec S16 32) a x).toNat < S32000.size a := fun v2231 k0_hw696 => k0_hw696

def k0_chk697 (v2233 : IVec S16 32) : Prop :=
  (∀ a x, ((![v2233] : Fin 1 → IVec S16 32) a x).toNat < S32000.size a)
theorem k0_idx697_inb : ∀ (v2233 : IVec S16 32) (k0_hw697 : k0_chk697 v2233), ∀ a x, ((![v2233] : Fin 1 → IVec S16 32) a x).toNat < S32000.size a := fun v2233 k0_hw697 => k0_hw697

def k0_chk698 (v2235 : IVec S16 32) : Prop :=
  (∀ a x, ((![v2235] : Fin 1 → IVec S16 32) a x).toNat < S32000.size a)
theorem k0_idx698_inb : ∀ (v2235 : IVec S16 32) (k0_hw698 : k0_chk698 v2235), ∀ a x, ((![v2235] : Fin 1 → IVec S16 32) a x).toNat < S32000.size a := fun v2235 k0_hw698 => k0_hw698

def k0_chk699 (v2237 : IVec S16 32) : Prop :=
  (∀ a x, ((![v2237] : Fin 1 → IVec S16 32) a x).toNat < S32000.size a)
theorem k0_idx699_inb : ∀ (v2237 : IVec S16 32) (k0_hw699 : k0_chk699 v2237), ∀ a x, ((![v2237] : Fin 1 → IVec S16 32) a x).toNat < S32000.size a := fun v2237 k0_hw699 => k0_hw699

def k0_chk700 (v2239 : IVec S16 32) : Prop :=
  (∀ a x, ((![v2239] : Fin 1 → IVec S16 32) a x).toNat < S32000.size a)
theorem k0_idx700_inb : ∀ (v2239 : IVec S16 32) (k0_hw700 : k0_chk700 v2239), ∀ a x, ((![v2239] : Fin 1 → IVec S16 32) a x).toNat < S32000.size a := fun v2239 k0_hw700 => k0_hw700

def k0_chk701 (v664 : IVec S16 32) (v2290 : IVec S16 32) : Prop :=
  (∀ a x, ((![v2290, v664] : Fin 2 → IVec S16 32) a x).toNat < S64x512.size a)
theorem k0_idx701_inb : ∀ (v664 : IVec S16 32) (v2290 : IVec S16 32) (k0_hw701 : k0_chk701 v664 v2290), ∀ a x, ((![v2290, v664] : Fin 2 → IVec S16 32) a x).toNat < S64x512.size a := fun v664 v2290 k0_hw701 => k0_hw701

def k0_chk702 (v664 : IVec S16 32) (v2292 : IVec S16 32) : Prop :=
  (∀ a x, ((![v2292, v664] : Fin 2 → IVec S16 32) a x).toNat < S64x512.size a)
theorem k0_idx702_inb : ∀ (v664 : IVec S16 32) (v2292 : IVec S16 32) (k0_hw702 : k0_chk702 v664 v2292), ∀ a x, ((![v2292, v664] : Fin 2 → IVec S16 32) a x).toNat < S64x512.size a := fun v664 v2292 k0_hw702 => k0_hw702

def k0_chk703 (v2299 : IVec S16 32) : Prop :=
  (∀ a x, ((![v2299] : Fin 1 → IVec S16 32) a x).toNat < S32000.size a)
theorem k0_idx703_inb : ∀ (v2299 : IVec S16 32) (k0_hw703 : k0_chk703 v2299), ∀ a x, ((![v2299] : Fin 1 → IVec S16 32) a x).toNat < S32000.size a := fun v2299 k0_hw703 => k0_hw703

def k0_chk704 (v2301 : IVec S16 32) : Prop :=
  (∀ a x, ((![v2301] : Fin 1 → IVec S16 32) a x).toNat < S32000.size a)
theorem k0_idx704_inb : ∀ (v2301 : IVec S16 32) (k0_hw704 : k0_chk704 v2301), ∀ a x, ((![v2301] : Fin 1 → IVec S16 32) a x).toNat < S32000.size a := fun v2301 k0_hw704 => k0_hw704

def k0_chk705 (v2303 : IVec S16 32) : Prop :=
  (∀ a x, ((![v2303] : Fin 1 → IVec S16 32) a x).toNat < S32000.size a)
theorem k0_idx705_inb : ∀ (v2303 : IVec S16 32) (k0_hw705 : k0_chk705 v2303), ∀ a x, ((![v2303] : Fin 1 → IVec S16 32) a x).toNat < S32000.size a := fun v2303 k0_hw705 => k0_hw705

def k0_chk706 (v2305 : IVec S16 32) : Prop :=
  (∀ a x, ((![v2305] : Fin 1 → IVec S16 32) a x).toNat < S32000.size a)
theorem k0_idx706_inb : ∀ (v2305 : IVec S16 32) (k0_hw706 : k0_chk706 v2305), ∀ a x, ((![v2305] : Fin 1 → IVec S16 32) a x).toNat < S32000.size a := fun v2305 k0_hw706 => k0_hw706

def k0_chk707 (v2307 : IVec S16 32) : Prop :=
  (∀ a x, ((![v2307] : Fin 1 → IVec S16 32) a x).toNat < S32000.size a)
theorem k0_idx707_inb : ∀ (v2307 : IVec S16 32) (k0_hw707 : k0_chk707 v2307), ∀ a x, ((![v2307] : Fin 1 → IVec S16 32) a x).toNat < S32000.size a := fun v2307 k0_hw707 => k0_hw707

def k0_chk708 (v2309 : IVec S16 32) : Prop :=
  (∀ a x, ((![v2309] : Fin 1 → IVec S16 32) a x).toNat < S32000.size a)
theorem k0_idx708_inb : ∀ (v2309 : IVec S16 32) (k0_hw708 : k0_chk708 v2309), ∀ a x, ((![v2309] : Fin 1 → IVec S16 32) a x).toNat < S32000.size a := fun v2309 k0_hw708 => k0_hw708

def k0_chk709 (v664 : IVec S16 32) (v2360 : IVec S16 32) : Prop :=
  (∀ a x, ((![v2360, v664] : Fin 2 → IVec S16 32) a x).toNat < S64x512.size a)
theorem k0_idx709_inb : ∀ (v664 : IVec S16 32) (v2360 : IVec S16 32) (k0_hw709 : k0_chk709 v664 v2360), ∀ a x, ((![v2360, v664] : Fin 2 → IVec S16 32) a x).toNat < S64x512.size a := fun v664 v2360 k0_hw709 => k0_hw709

def k0_chk710 (v664 : IVec S16 32) (v2362 : IVec S16 32) : Prop :=
  (∀ a x, ((![v2362, v664] : Fin 2 → IVec S16 32) a x).toNat < S64x512.size a)
theorem k0_idx710_inb : ∀ (v664 : IVec S16 32) (v2362 : IVec S16 32) (k0_hw710 : k0_chk710 v664 v2362), ∀ a x, ((![v2362, v664] : Fin 2 → IVec S16 32) a x).toNat < S64x512.size a := fun v664 v2362 k0_hw710 => k0_hw710

def k0_chk711 (v2369 : IVec S16 32) : Prop :=
  (∀ a x, ((![v2369] : Fin 1 → IVec S16 32) a x).toNat < S32000.size a)
theorem k0_idx711_inb : ∀ (v2369 : IVec S16 32) (k0_hw711 : k0_chk711 v2369), ∀ a x, ((![v2369] : Fin 1 → IVec S16 32) a x).toNat < S32000.size a := fun v2369 k0_hw711 => k0_hw711

def k0_chk712 (v2371 : IVec S16 32) : Prop :=
  (∀ a x, ((![v2371] : Fin 1 → IVec S16 32) a x).toNat < S32000.size a)
theorem k0_idx712_inb : ∀ (v2371 : IVec S16 32) (k0_hw712 : k0_chk712 v2371), ∀ a x, ((![v2371] : Fin 1 → IVec S16 32) a x).toNat < S32000.size a := fun v2371 k0_hw712 => k0_hw712

def k0_chk713 (v2373 : IVec S16 32) : Prop :=
  (∀ a x, ((![v2373] : Fin 1 → IVec S16 32) a x).toNat < S32000.size a)
theorem k0_idx713_inb : ∀ (v2373 : IVec S16 32) (k0_hw713 : k0_chk713 v2373), ∀ a x, ((![v2373] : Fin 1 → IVec S16 32) a x).toNat < S32000.size a := fun v2373 k0_hw713 => k0_hw713

def k0_chk714 (v2375 : IVec S16 32) : Prop :=
  (∀ a x, ((![v2375] : Fin 1 → IVec S16 32) a x).toNat < S32000.size a)
theorem k0_idx714_inb : ∀ (v2375 : IVec S16 32) (k0_hw714 : k0_chk714 v2375), ∀ a x, ((![v2375] : Fin 1 → IVec S16 32) a x).toNat < S32000.size a := fun v2375 k0_hw714 => k0_hw714

def k0_chk715 (v2377 : IVec S16 32) : Prop :=
  (∀ a x, ((![v2377] : Fin 1 → IVec S16 32) a x).toNat < S32000.size a)
theorem k0_idx715_inb : ∀ (v2377 : IVec S16 32) (k0_hw715 : k0_chk715 v2377), ∀ a x, ((![v2377] : Fin 1 → IVec S16 32) a x).toNat < S32000.size a := fun v2377 k0_hw715 => k0_hw715

def k0_chk716 (v2379 : IVec S16 32) : Prop :=
  (∀ a x, ((![v2379] : Fin 1 → IVec S16 32) a x).toNat < S32000.size a)
theorem k0_idx716_inb : ∀ (v2379 : IVec S16 32) (k0_hw716 : k0_chk716 v2379), ∀ a x, ((![v2379] : Fin 1 → IVec S16 32) a x).toNat < S32000.size a := fun v2379 k0_hw716 => k0_hw716

def k0_chk717 (v664 : IVec S16 32) (v2430 : IVec S16 32) : Prop :=
  (∀ a x, ((![v2430, v664] : Fin 2 → IVec S16 32) a x).toNat < S64x512.size a)
theorem k0_idx717_inb : ∀ (v664 : IVec S16 32) (v2430 : IVec S16 32) (k0_hw717 : k0_chk717 v664 v2430), ∀ a x, ((![v2430, v664] : Fin 2 → IVec S16 32) a x).toNat < S64x512.size a := fun v664 v2430 k0_hw717 => k0_hw717

def k0_chk718 (v664 : IVec S16 32) (v2432 : IVec S16 32) : Prop :=
  (∀ a x, ((![v2432, v664] : Fin 2 → IVec S16 32) a x).toNat < S64x512.size a)
theorem k0_idx718_inb : ∀ (v664 : IVec S16 32) (v2432 : IVec S16 32) (k0_hw718 : k0_chk718 v664 v2432), ∀ a x, ((![v2432, v664] : Fin 2 → IVec S16 32) a x).toNat < S64x512.size a := fun v664 v2432 k0_hw718 => k0_hw718

def k0_chk719 (v2439 : IVec S16 32) : Prop :=
  (∀ a x, ((![v2439] : Fin 1 → IVec S16 32) a x).toNat < S32000.size a)
theorem k0_idx719_inb : ∀ (v2439 : IVec S16 32) (k0_hw719 : k0_chk719 v2439), ∀ a x, ((![v2439] : Fin 1 → IVec S16 32) a x).toNat < S32000.size a := fun v2439 k0_hw719 => k0_hw719

def k0_chk720 (v2441 : IVec S16 32) : Prop :=
  (∀ a x, ((![v2441] : Fin 1 → IVec S16 32) a x).toNat < S32000.size a)
theorem k0_idx720_inb : ∀ (v2441 : IVec S16 32) (k0_hw720 : k0_chk720 v2441), ∀ a x, ((![v2441] : Fin 1 → IVec S16 32) a x).toNat < S32000.size a := fun v2441 k0_hw720 => k0_hw720

def k0_chk721 (v2443 : IVec S16 32) : Prop :=
  (∀ a x, ((![v2443] : Fin 1 → IVec S16 32) a x).toNat < S32000.size a)
theorem k0_idx721_inb : ∀ (v2443 : IVec S16 32) (k0_hw721 : k0_chk721 v2443), ∀ a x, ((![v2443] : Fin 1 → IVec S16 32) a x).toNat < S32000.size a := fun v2443 k0_hw721 => k0_hw721

def k0_chk722 (v2445 : IVec S16 32) : Prop :=
  (∀ a x, ((![v2445] : Fin 1 → IVec S16 32) a x).toNat < S32000.size a)
theorem k0_idx722_inb : ∀ (v2445 : IVec S16 32) (k0_hw722 : k0_chk722 v2445), ∀ a x, ((![v2445] : Fin 1 → IVec S16 32) a x).toNat < S32000.size a := fun v2445 k0_hw722 => k0_hw722

def k0_chk723 (v2447 : IVec S16 32) : Prop :=
  (∀ a x, ((![v2447] : Fin 1 → IVec S16 32) a x).toNat < S32000.size a)
theorem k0_idx723_inb : ∀ (v2447 : IVec S16 32) (k0_hw723 : k0_chk723 v2447), ∀ a x, ((![v2447] : Fin 1 → IVec S16 32) a x).toNat < S32000.size a := fun v2447 k0_hw723 => k0_hw723

def k0_chk724 (v2449 : IVec S16 32) : Prop :=
  (∀ a x, ((![v2449] : Fin 1 → IVec S16 32) a x).toNat < S32000.size a)
theorem k0_idx724_inb : ∀ (v2449 : IVec S16 32) (k0_hw724 : k0_chk724 v2449), ∀ a x, ((![v2449] : Fin 1 → IVec S16 32) a x).toNat < S32000.size a := fun v2449 k0_hw724 => k0_hw724

def k0_chk725 (v664 : IVec S16 32) (v2500 : IVec S16 32) : Prop :=
  (∀ a x, ((![v2500, v664] : Fin 2 → IVec S16 32) a x).toNat < S64x512.size a)
theorem k0_idx725_inb : ∀ (v664 : IVec S16 32) (v2500 : IVec S16 32) (k0_hw725 : k0_chk725 v664 v2500), ∀ a x, ((![v2500, v664] : Fin 2 → IVec S16 32) a x).toNat < S64x512.size a := fun v664 v2500 k0_hw725 => k0_hw725

def k0_chk726 (v664 : IVec S16 32) (v2502 : IVec S16 32) : Prop :=
  (∀ a x, ((![v2502, v664] : Fin 2 → IVec S16 32) a x).toNat < S64x512.size a)
theorem k0_idx726_inb : ∀ (v664 : IVec S16 32) (v2502 : IVec S16 32) (k0_hw726 : k0_chk726 v664 v2502), ∀ a x, ((![v2502, v664] : Fin 2 → IVec S16 32) a x).toNat < S64x512.size a := fun v664 v2502 k0_hw726 => k0_hw726

def k0_chk727 (v2509 : IVec S16 32) : Prop :=
  (∀ a x, ((![v2509] : Fin 1 → IVec S16 32) a x).toNat < S32000.size a)
theorem k0_idx727_inb : ∀ (v2509 : IVec S16 32) (k0_hw727 : k0_chk727 v2509), ∀ a x, ((![v2509] : Fin 1 → IVec S16 32) a x).toNat < S32000.size a := fun v2509 k0_hw727 => k0_hw727

def k0_chk728 (v2511 : IVec S16 32) : Prop :=
  (∀ a x, ((![v2511] : Fin 1 → IVec S16 32) a x).toNat < S32000.size a)
theorem k0_idx728_inb : ∀ (v2511 : IVec S16 32) (k0_hw728 : k0_chk728 v2511), ∀ a x, ((![v2511] : Fin 1 → IVec S16 32) a x).toNat < S32000.size a := fun v2511 k0_hw728 => k0_hw728

def k0_chk729 (v2513 : IVec S16 32) : Prop :=
  (∀ a x, ((![v2513] : Fin 1 → IVec S16 32) a x).toNat < S32000.size a)
theorem k0_idx729_inb : ∀ (v2513 : IVec S16 32) (k0_hw729 : k0_chk729 v2513), ∀ a x, ((![v2513] : Fin 1 → IVec S16 32) a x).toNat < S32000.size a := fun v2513 k0_hw729 => k0_hw729

def k0_chk730 (v2515 : IVec S16 32) : Prop :=
  (∀ a x, ((![v2515] : Fin 1 → IVec S16 32) a x).toNat < S32000.size a)
theorem k0_idx730_inb : ∀ (v2515 : IVec S16 32) (k0_hw730 : k0_chk730 v2515), ∀ a x, ((![v2515] : Fin 1 → IVec S16 32) a x).toNat < S32000.size a := fun v2515 k0_hw730 => k0_hw730

def k0_chk731 (v2517 : IVec S16 32) : Prop :=
  (∀ a x, ((![v2517] : Fin 1 → IVec S16 32) a x).toNat < S32000.size a)
theorem k0_idx731_inb : ∀ (v2517 : IVec S16 32) (k0_hw731 : k0_chk731 v2517), ∀ a x, ((![v2517] : Fin 1 → IVec S16 32) a x).toNat < S32000.size a := fun v2517 k0_hw731 => k0_hw731

def k0_chk732 (v2519 : IVec S16 32) : Prop :=
  (∀ a x, ((![v2519] : Fin 1 → IVec S16 32) a x).toNat < S32000.size a)
theorem k0_idx732_inb : ∀ (v2519 : IVec S16 32) (k0_hw732 : k0_chk732 v2519), ∀ a x, ((![v2519] : Fin 1 → IVec S16 32) a x).toNat < S32000.size a := fun v2519 k0_hw732 => k0_hw732

def k0_chk733 (v664 : IVec S16 32) (v2570 : IVec S16 32) : Prop :=
  (∀ a x, ((![v2570, v664] : Fin 2 → IVec S16 32) a x).toNat < S64x512.size a)
theorem k0_idx733_inb : ∀ (v664 : IVec S16 32) (v2570 : IVec S16 32) (k0_hw733 : k0_chk733 v664 v2570), ∀ a x, ((![v2570, v664] : Fin 2 → IVec S16 32) a x).toNat < S64x512.size a := fun v664 v2570 k0_hw733 => k0_hw733

def k0_chk734 (v664 : IVec S16 32) (v2572 : IVec S16 32) : Prop :=
  (∀ a x, ((![v2572, v664] : Fin 2 → IVec S16 32) a x).toNat < S64x512.size a)
theorem k0_idx734_inb : ∀ (v664 : IVec S16 32) (v2572 : IVec S16 32) (k0_hw734 : k0_chk734 v664 v2572), ∀ a x, ((![v2572, v664] : Fin 2 → IVec S16 32) a x).toNat < S64x512.size a := fun v664 v2572 k0_hw734 => k0_hw734

def k0_chk735 (v2579 : IVec S16 32) : Prop :=
  (∀ a x, ((![v2579] : Fin 1 → IVec S16 32) a x).toNat < S32000.size a)
theorem k0_idx735_inb : ∀ (v2579 : IVec S16 32) (k0_hw735 : k0_chk735 v2579), ∀ a x, ((![v2579] : Fin 1 → IVec S16 32) a x).toNat < S32000.size a := fun v2579 k0_hw735 => k0_hw735

def k0_chk736 (v2581 : IVec S16 32) : Prop :=
  (∀ a x, ((![v2581] : Fin 1 → IVec S16 32) a x).toNat < S32000.size a)
theorem k0_idx736_inb : ∀ (v2581 : IVec S16 32) (k0_hw736 : k0_chk736 v2581), ∀ a x, ((![v2581] : Fin 1 → IVec S16 32) a x).toNat < S32000.size a := fun v2581 k0_hw736 => k0_hw736

def k0_chk737 (v2583 : IVec S16 32) : Prop :=
  (∀ a x, ((![v2583] : Fin 1 → IVec S16 32) a x).toNat < S32000.size a)
theorem k0_idx737_inb : ∀ (v2583 : IVec S16 32) (k0_hw737 : k0_chk737 v2583), ∀ a x, ((![v2583] : Fin 1 → IVec S16 32) a x).toNat < S32000.size a := fun v2583 k0_hw737 => k0_hw737

def k0_chk738 (v2585 : IVec S16 32) : Prop :=
  (∀ a x, ((![v2585] : Fin 1 → IVec S16 32) a x).toNat < S32000.size a)
theorem k0_idx738_inb : ∀ (v2585 : IVec S16 32) (k0_hw738 : k0_chk738 v2585), ∀ a x, ((![v2585] : Fin 1 → IVec S16 32) a x).toNat < S32000.size a := fun v2585 k0_hw738 => k0_hw738

def k0_chk739 (v2587 : IVec S16 32) : Prop :=
  (∀ a x, ((![v2587] : Fin 1 → IVec S16 32) a x).toNat < S32000.size a)
theorem k0_idx739_inb : ∀ (v2587 : IVec S16 32) (k0_hw739 : k0_chk739 v2587), ∀ a x, ((![v2587] : Fin 1 → IVec S16 32) a x).toNat < S32000.size a := fun v2587 k0_hw739 => k0_hw739

def k0_chk740 (v2589 : IVec S16 32) : Prop :=
  (∀ a x, ((![v2589] : Fin 1 → IVec S16 32) a x).toNat < S32000.size a)
theorem k0_idx740_inb : ∀ (v2589 : IVec S16 32) (k0_hw740 : k0_chk740 v2589), ∀ a x, ((![v2589] : Fin 1 → IVec S16 32) a x).toNat < S32000.size a := fun v2589 k0_hw740 => k0_hw740

def k0_chk741 (v664 : IVec S16 32) (v2640 : IVec S16 32) : Prop :=
  (∀ a x, ((![v2640, v664] : Fin 2 → IVec S16 32) a x).toNat < S64x512.size a)
theorem k0_idx741_inb : ∀ (v664 : IVec S16 32) (v2640 : IVec S16 32) (k0_hw741 : k0_chk741 v664 v2640), ∀ a x, ((![v2640, v664] : Fin 2 → IVec S16 32) a x).toNat < S64x512.size a := fun v664 v2640 k0_hw741 => k0_hw741

def k0_chk742 (v664 : IVec S16 32) (v2642 : IVec S16 32) : Prop :=
  (∀ a x, ((![v2642, v664] : Fin 2 → IVec S16 32) a x).toNat < S64x512.size a)
theorem k0_idx742_inb : ∀ (v664 : IVec S16 32) (v2642 : IVec S16 32) (k0_hw742 : k0_chk742 v664 v2642), ∀ a x, ((![v2642, v664] : Fin 2 → IVec S16 32) a x).toNat < S64x512.size a := fun v664 v2642 k0_hw742 => k0_hw742

def k0_chk743 (v2649 : IVec S16 32) : Prop :=
  (∀ a x, ((![v2649] : Fin 1 → IVec S16 32) a x).toNat < S32000.size a)
theorem k0_idx743_inb : ∀ (v2649 : IVec S16 32) (k0_hw743 : k0_chk743 v2649), ∀ a x, ((![v2649] : Fin 1 → IVec S16 32) a x).toNat < S32000.size a := fun v2649 k0_hw743 => k0_hw743

def k0_chk744 (v2651 : IVec S16 32) : Prop :=
  (∀ a x, ((![v2651] : Fin 1 → IVec S16 32) a x).toNat < S32000.size a)
theorem k0_idx744_inb : ∀ (v2651 : IVec S16 32) (k0_hw744 : k0_chk744 v2651), ∀ a x, ((![v2651] : Fin 1 → IVec S16 32) a x).toNat < S32000.size a := fun v2651 k0_hw744 => k0_hw744

def k0_chk745 (v2653 : IVec S16 32) : Prop :=
  (∀ a x, ((![v2653] : Fin 1 → IVec S16 32) a x).toNat < S32000.size a)
theorem k0_idx745_inb : ∀ (v2653 : IVec S16 32) (k0_hw745 : k0_chk745 v2653), ∀ a x, ((![v2653] : Fin 1 → IVec S16 32) a x).toNat < S32000.size a := fun v2653 k0_hw745 => k0_hw745

def k0_chk746 (v2655 : IVec S16 32) : Prop :=
  (∀ a x, ((![v2655] : Fin 1 → IVec S16 32) a x).toNat < S32000.size a)
theorem k0_idx746_inb : ∀ (v2655 : IVec S16 32) (k0_hw746 : k0_chk746 v2655), ∀ a x, ((![v2655] : Fin 1 → IVec S16 32) a x).toNat < S32000.size a := fun v2655 k0_hw746 => k0_hw746

def k0_chk747 (v2657 : IVec S16 32) : Prop :=
  (∀ a x, ((![v2657] : Fin 1 → IVec S16 32) a x).toNat < S32000.size a)
theorem k0_idx747_inb : ∀ (v2657 : IVec S16 32) (k0_hw747 : k0_chk747 v2657), ∀ a x, ((![v2657] : Fin 1 → IVec S16 32) a x).toNat < S32000.size a := fun v2657 k0_hw747 => k0_hw747

def k0_chk748 (v2659 : IVec S16 32) : Prop :=
  (∀ a x, ((![v2659] : Fin 1 → IVec S16 32) a x).toNat < S32000.size a)
theorem k0_idx748_inb : ∀ (v2659 : IVec S16 32) (k0_hw748 : k0_chk748 v2659), ∀ a x, ((![v2659] : Fin 1 → IVec S16 32) a x).toNat < S32000.size a := fun v2659 k0_hw748 => k0_hw748

def k0_chk749 (v664 : IVec S16 32) (v2710 : IVec S16 32) : Prop :=
  (∀ a x, ((![v2710, v664] : Fin 2 → IVec S16 32) a x).toNat < S64x512.size a)
theorem k0_idx749_inb : ∀ (v664 : IVec S16 32) (v2710 : IVec S16 32) (k0_hw749 : k0_chk749 v664 v2710), ∀ a x, ((![v2710, v664] : Fin 2 → IVec S16 32) a x).toNat < S64x512.size a := fun v664 v2710 k0_hw749 => k0_hw749

def k0_chk750 (v664 : IVec S16 32) (v2712 : IVec S16 32) : Prop :=
  (∀ a x, ((![v2712, v664] : Fin 2 → IVec S16 32) a x).toNat < S64x512.size a)
theorem k0_idx750_inb : ∀ (v664 : IVec S16 32) (v2712 : IVec S16 32) (k0_hw750 : k0_chk750 v664 v2712), ∀ a x, ((![v2712, v664] : Fin 2 → IVec S16 32) a x).toNat < S64x512.size a := fun v664 v2712 k0_hw750 => k0_hw750

def k0_chk751 (v2719 : IVec S16 32) : Prop :=
  (∀ a x, ((![v2719] : Fin 1 → IVec S16 32) a x).toNat < S32000.size a)
theorem k0_idx751_inb : ∀ (v2719 : IVec S16 32) (k0_hw751 : k0_chk751 v2719), ∀ a x, ((![v2719] : Fin 1 → IVec S16 32) a x).toNat < S32000.size a := fun v2719 k0_hw751 => k0_hw751

def k0_chk752 (v2721 : IVec S16 32) : Prop :=
  (∀ a x, ((![v2721] : Fin 1 → IVec S16 32) a x).toNat < S32000.size a)
theorem k0_idx752_inb : ∀ (v2721 : IVec S16 32) (k0_hw752 : k0_chk752 v2721), ∀ a x, ((![v2721] : Fin 1 → IVec S16 32) a x).toNat < S32000.size a := fun v2721 k0_hw752 => k0_hw752

def k0_chk753 (v2723 : IVec S16 32) : Prop :=
  (∀ a x, ((![v2723] : Fin 1 → IVec S16 32) a x).toNat < S32000.size a)
theorem k0_idx753_inb : ∀ (v2723 : IVec S16 32) (k0_hw753 : k0_chk753 v2723), ∀ a x, ((![v2723] : Fin 1 → IVec S16 32) a x).toNat < S32000.size a := fun v2723 k0_hw753 => k0_hw753

def k0_chk754 (v2725 : IVec S16 32) : Prop :=
  (∀ a x, ((![v2725] : Fin 1 → IVec S16 32) a x).toNat < S32000.size a)
theorem k0_idx754_inb : ∀ (v2725 : IVec S16 32) (k0_hw754 : k0_chk754 v2725), ∀ a x, ((![v2725] : Fin 1 → IVec S16 32) a x).toNat < S32000.size a := fun v2725 k0_hw754 => k0_hw754

def k0_chk755 (v2727 : IVec S16 32) : Prop :=
  (∀ a x, ((![v2727] : Fin 1 → IVec S16 32) a x).toNat < S32000.size a)
theorem k0_idx755_inb : ∀ (v2727 : IVec S16 32) (k0_hw755 : k0_chk755 v2727), ∀ a x, ((![v2727] : Fin 1 → IVec S16 32) a x).toNat < S32000.size a := fun v2727 k0_hw755 => k0_hw755

def k0_chk756 (v2729 : IVec S16 32) : Prop :=
  (∀ a x, ((![v2729] : Fin 1 → IVec S16 32) a x).toNat < S32000.size a)
theorem k0_idx756_inb : ∀ (v2729 : IVec S16 32) (k0_hw756 : k0_chk756 v2729), ∀ a x, ((![v2729] : Fin 1 → IVec S16 32) a x).toNat < S32000.size a := fun v2729 k0_hw756 => k0_hw756

def k0_chk757 (v664 : IVec S16 32) (v2780 : IVec S16 32) : Prop :=
  (∀ a x, ((![v2780, v664] : Fin 2 → IVec S16 32) a x).toNat < S64x512.size a)
theorem k0_idx757_inb : ∀ (v664 : IVec S16 32) (v2780 : IVec S16 32) (k0_hw757 : k0_chk757 v664 v2780), ∀ a x, ((![v2780, v664] : Fin 2 → IVec S16 32) a x).toNat < S64x512.size a := fun v664 v2780 k0_hw757 => k0_hw757

def k0_chk758 (v664 : IVec S16 32) (v2782 : IVec S16 32) : Prop :=
  (∀ a x, ((![v2782, v664] : Fin 2 → IVec S16 32) a x).toNat < S64x512.size a)
theorem k0_idx758_inb : ∀ (v664 : IVec S16 32) (v2782 : IVec S16 32) (k0_hw758 : k0_chk758 v664 v2782), ∀ a x, ((![v2782, v664] : Fin 2 → IVec S16 32) a x).toNat < S64x512.size a := fun v664 v2782 k0_hw758 => k0_hw758

def k0_chk759 (v2789 : IVec S16 32) : Prop :=
  (∀ a x, ((![v2789] : Fin 1 → IVec S16 32) a x).toNat < S32000.size a)
theorem k0_idx759_inb : ∀ (v2789 : IVec S16 32) (k0_hw759 : k0_chk759 v2789), ∀ a x, ((![v2789] : Fin 1 → IVec S16 32) a x).toNat < S32000.size a := fun v2789 k0_hw759 => k0_hw759

def k0_chk760 (v2791 : IVec S16 32) : Prop :=
  (∀ a x, ((![v2791] : Fin 1 → IVec S16 32) a x).toNat < S32000.size a)
theorem k0_idx760_inb : ∀ (v2791 : IVec S16 32) (k0_hw760 : k0_chk760 v2791), ∀ a x, ((![v2791] : Fin 1 → IVec S16 32) a x).toNat < S32000.size a := fun v2791 k0_hw760 => k0_hw760

def k0_chk761 (v2793 : IVec S16 32) : Prop :=
  (∀ a x, ((![v2793] : Fin 1 → IVec S16 32) a x).toNat < S32000.size a)
theorem k0_idx761_inb : ∀ (v2793 : IVec S16 32) (k0_hw761 : k0_chk761 v2793), ∀ a x, ((![v2793] : Fin 1 → IVec S16 32) a x).toNat < S32000.size a := fun v2793 k0_hw761 => k0_hw761

def k0_chk762 (v2795 : IVec S16 32) : Prop :=
  (∀ a x, ((![v2795] : Fin 1 → IVec S16 32) a x).toNat < S32000.size a)
theorem k0_idx762_inb : ∀ (v2795 : IVec S16 32) (k0_hw762 : k0_chk762 v2795), ∀ a x, ((![v2795] : Fin 1 → IVec S16 32) a x).toNat < S32000.size a := fun v2795 k0_hw762 => k0_hw762

def k0_chk763 (v2797 : IVec S16 32) : Prop :=
  (∀ a x, ((![v2797] : Fin 1 → IVec S16 32) a x).toNat < S32000.size a)
theorem k0_idx763_inb : ∀ (v2797 : IVec S16 32) (k0_hw763 : k0_chk763 v2797), ∀ a x, ((![v2797] : Fin 1 → IVec S16 32) a x).toNat < S32000.size a := fun v2797 k0_hw763 => k0_hw763

def k0_chk764 (v2799 : IVec S16 32) : Prop :=
  (∀ a x, ((![v2799] : Fin 1 → IVec S16 32) a x).toNat < S32000.size a)
theorem k0_idx764_inb : ∀ (v2799 : IVec S16 32) (k0_hw764 : k0_chk764 v2799), ∀ a x, ((![v2799] : Fin 1 → IVec S16 32) a x).toNat < S32000.size a := fun v2799 k0_hw764 => k0_hw764

def k0_chk765 (v664 : IVec S16 32) (v2850 : IVec S16 32) : Prop :=
  (∀ a x, ((![v2850, v664] : Fin 2 → IVec S16 32) a x).toNat < S64x512.size a)
theorem k0_idx765_inb : ∀ (v664 : IVec S16 32) (v2850 : IVec S16 32) (k0_hw765 : k0_chk765 v664 v2850), ∀ a x, ((![v2850, v664] : Fin 2 → IVec S16 32) a x).toNat < S64x512.size a := fun v664 v2850 k0_hw765 => k0_hw765

def k0_chk766 (v664 : IVec S16 32) (v2852 : IVec S16 32) : Prop :=
  (∀ a x, ((![v2852, v664] : Fin 2 → IVec S16 32) a x).toNat < S64x512.size a)
theorem k0_idx766_inb : ∀ (v664 : IVec S16 32) (v2852 : IVec S16 32) (k0_hw766 : k0_chk766 v664 v2852), ∀ a x, ((![v2852, v664] : Fin 2 → IVec S16 32) a x).toNat < S64x512.size a := fun v664 v2852 k0_hw766 => k0_hw766

def k0_chk767 (v664 : IVec S16 32) (v2902 : IVec S16 32) : Prop :=
  (∀ a x, ((![v2902, v664] : Fin 2 → IVec S16 32) a x).toNat < S64x512.size a)
theorem k0_idx767_inb : ∀ (v664 : IVec S16 32) (v2902 : IVec S16 32) (k0_hw767 : k0_chk767 v664 v2902), ∀ a x, ((![v2902, v664] : Fin 2 → IVec S16 32) a x).toNat < S64x512.size a := fun v664 v2902 k0_hw767 => k0_hw767

def k0_chk768 (v664 : IVec S16 32) (v2904 : IVec S16 32) : Prop :=
  (∀ a x, ((![v2904, v664] : Fin 2 → IVec S16 32) a x).toNat < S64x512.size a)
theorem k0_idx768_inb : ∀ (v664 : IVec S16 32) (v2904 : IVec S16 32) (k0_hw768 : k0_chk768 v664 v2904), ∀ a x, ((![v2904, v664] : Fin 2 → IVec S16 32) a x).toNat < S64x512.size a := fun v664 v2904 k0_hw768 => k0_hw768
@[reducible] def k0_t4_loop : Scf.Loop 32 :=
  let c0_i32_165 : BitVec 32 := 0#32
  let c32_i32_166 : BitVec 32 := 32#32
  let v305 : BitVec 32 := Scalar.addi c0_i32_165 c32_i32_166
  let c1_i32_167 : BitVec 32 := 1#32
  ⟨c0_i32_165, v305, c1_i32_167⟩
def k0_off21 (k0_t4 : Fin k0_t4_loop.trips) : Fin 2 → Nat :=
  let c0_i32_350 : BitVec 32 := 0#32
  let v627 : Index := Scalar.indexCast c0_i32_350
  let c0_i32_165 : BitVec 32 := 0#32
  let c1_i32_167 : BitVec 32 := 1#32
  let arg14 : BitVec 32 := Scf.iv c0_i32_165 c1_i32_167 k0_t4
  let c16_i32 : BitVec 32 := 16#32
  let v626 : BitVec 32 := Scalar.muli arg14 c16_i32
  let v628 : Index := Scalar.indexCast v626
  ![0, v628.toNat]
def k0_off22 (k0_t4 : Fin k0_t4_loop.trips) : Fin 2 → Nat :=
  let c1_i32_353 : BitVec 32 := 1#32
  let v633 : Index := Scalar.indexCast c1_i32_353
  let c0_i32_165 : BitVec 32 := 0#32
  let c1_i32_167 : BitVec 32 := 1#32
  let arg14 : BitVec 32 := Scf.iv c0_i32_165 c1_i32_167 k0_t4
  let c16_i32_352 : BitVec 32 := 16#32
  let v632 : BitVec 32 := Scalar.muli arg14 c16_i32_352
  let v634 : Index := Scalar.indexCast v632
  ![1, v634.toNat]
def k0_off23 (k0_t4 : Fin k0_t4_loop.trips) : Fin 2 → Nat :=
  let c2_i32_356 : BitVec 32 := 2#32
  let v639 : Index := Scalar.indexCast c2_i32_356
  let c0_i32_165 : BitVec 32 := 0#32
  let c1_i32_167 : BitVec 32 := 1#32
  let arg14 : BitVec 32 := Scf.iv c0_i32_165 c1_i32_167 k0_t4
  let c16_i32_355 : BitVec 32 := 16#32
  let v638 : BitVec 32 := Scalar.muli arg14 c16_i32_355
  let v640 : Index := Scalar.indexCast v638
  ![2, v640.toNat]
def k0_off24 (k0_t4 : Fin k0_t4_loop.trips) : Fin 2 → Nat :=
  let c3_i32_359 : BitVec 32 := 3#32
  let v645 : Index := Scalar.indexCast c3_i32_359
  let c0_i32_165 : BitVec 32 := 0#32
  let c1_i32_167 : BitVec 32 := 1#32
  let arg14 : BitVec 32 := Scf.iv c0_i32_165 c1_i32_167 k0_t4
  let c16_i32_358 : BitVec 32 := 16#32
  let v644 : BitVec 32 := Scalar.muli arg14 c16_i32_358
  let v646 : Index := Scalar.indexCast v644
  ![3, v646.toNat]
def k0_off25 (k0_t4 : Fin k0_t4_loop.trips) : Fin 2 → Nat :=
  let c4_i32_362 : BitVec 32 := 4#32
  let v651 : Index := Scalar.indexCast c4_i32_362
  let c0_i32_165 : BitVec 32 := 0#32
  let c1_i32_167 : BitVec 32 := 1#32
  let arg14 : BitVec 32 := Scf.iv c0_i32_165 c1_i32_167 k0_t4
  let c16_i32_361 : BitVec 32 := 16#32
  let v650 : BitVec 32 := Scalar.muli arg14 c16_i32_361
  let v652 : Index := Scalar.indexCast v650
  ![4, v652.toNat]
def k0_off26 (k0_t4 : Fin k0_t4_loop.trips) : Fin 2 → Nat :=
  let c5_i32_365 : BitVec 32 := 5#32
  let v657 : Index := Scalar.indexCast c5_i32_365
  let c0_i32_165 : BitVec 32 := 0#32
  let c1_i32_167 : BitVec 32 := 1#32
  let arg14 : BitVec 32 := Scf.iv c0_i32_165 c1_i32_167 k0_t4
  let c16_i32_364 : BitVec 32 := 16#32
  let v656 : BitVec 32 := Scalar.muli arg14 c16_i32_364
  let v658 : Index := Scalar.indexCast v656
  ![5, v658.toNat]

def k0_chk769 (v671 : IVec S16 32) : Prop :=
  (∀ a x, ((![v671] : Fin 1 → IVec S16 32) a x).toNat < S32000.size a)
theorem k0_idx769_inb : ∀ (v671 : IVec S16 32) (k0_hw769 : k0_chk769 v671), ∀ a x, ((![v671] : Fin 1 → IVec S16 32) a x).toNat < S32000.size a := fun v671 k0_hw769 => k0_hw769

def k0_chk770 (v673 : IVec S16 32) : Prop :=
  (∀ a x, ((![v673] : Fin 1 → IVec S16 32) a x).toNat < S32000.size a)
theorem k0_idx770_inb : ∀ (v673 : IVec S16 32) (k0_hw770 : k0_chk770 v673), ∀ a x, ((![v673] : Fin 1 → IVec S16 32) a x).toNat < S32000.size a := fun v673 k0_hw770 => k0_hw770

def k0_chk771 (v675 : IVec S16 32) : Prop :=
  (∀ a x, ((![v675] : Fin 1 → IVec S16 32) a x).toNat < S32000.size a)
theorem k0_idx771_inb : ∀ (v675 : IVec S16 32) (k0_hw771 : k0_chk771 v675), ∀ a x, ((![v675] : Fin 1 → IVec S16 32) a x).toNat < S32000.size a := fun v675 k0_hw771 => k0_hw771

def k0_chk772 (v677 : IVec S16 32) : Prop :=
  (∀ a x, ((![v677] : Fin 1 → IVec S16 32) a x).toNat < S32000.size a)
theorem k0_idx772_inb : ∀ (v677 : IVec S16 32) (k0_hw772 : k0_chk772 v677), ∀ a x, ((![v677] : Fin 1 → IVec S16 32) a x).toNat < S32000.size a := fun v677 k0_hw772 => k0_hw772

def k0_chk773 (v679 : IVec S16 32) : Prop :=
  (∀ a x, ((![v679] : Fin 1 → IVec S16 32) a x).toNat < S32000.size a)
theorem k0_idx773_inb : ∀ (v679 : IVec S16 32) (k0_hw773 : k0_chk773 v679), ∀ a x, ((![v679] : Fin 1 → IVec S16 32) a x).toNat < S32000.size a := fun v679 k0_hw773 => k0_hw773

def k0_chk774 (v681 : IVec S16 32) : Prop :=
  (∀ a x, ((![v681] : Fin 1 → IVec S16 32) a x).toNat < S32000.size a)
theorem k0_idx774_inb : ∀ (v681 : IVec S16 32) (k0_hw774 : k0_chk774 v681), ∀ a x, ((![v681] : Fin 1 → IVec S16 32) a x).toNat < S32000.size a := fun v681 k0_hw774 => k0_hw774

def k0_chk775 (v689 : IVec S16 32) : Prop :=
  (∀ a x, ((![v689] : Fin 1 → IVec S16 32) a x).toNat < S32000.size a)
theorem k0_idx775_inb : ∀ (v689 : IVec S16 32) (k0_hw775 : k0_chk775 v689), ∀ a x, ((![v689] : Fin 1 → IVec S16 32) a x).toNat < S32000.size a := fun v689 k0_hw775 => k0_hw775

def k0_chk776 (v691 : IVec S16 32) : Prop :=
  (∀ a x, ((![v691] : Fin 1 → IVec S16 32) a x).toNat < S32000.size a)
theorem k0_idx776_inb : ∀ (v691 : IVec S16 32) (k0_hw776 : k0_chk776 v691), ∀ a x, ((![v691] : Fin 1 → IVec S16 32) a x).toNat < S32000.size a := fun v691 k0_hw776 => k0_hw776

def k0_chk777 (v693 : IVec S16 32) : Prop :=
  (∀ a x, ((![v693] : Fin 1 → IVec S16 32) a x).toNat < S32000.size a)
theorem k0_idx777_inb : ∀ (v693 : IVec S16 32) (k0_hw777 : k0_chk777 v693), ∀ a x, ((![v693] : Fin 1 → IVec S16 32) a x).toNat < S32000.size a := fun v693 k0_hw777 => k0_hw777

def k0_chk778 (v695 : IVec S16 32) : Prop :=
  (∀ a x, ((![v695] : Fin 1 → IVec S16 32) a x).toNat < S32000.size a)
theorem k0_idx778_inb : ∀ (v695 : IVec S16 32) (k0_hw778 : k0_chk778 v695), ∀ a x, ((![v695] : Fin 1 → IVec S16 32) a x).toNat < S32000.size a := fun v695 k0_hw778 => k0_hw778

def k0_chk779 (v697 : IVec S16 32) : Prop :=
  (∀ a x, ((![v697] : Fin 1 → IVec S16 32) a x).toNat < S32000.size a)
theorem k0_idx779_inb : ∀ (v697 : IVec S16 32) (k0_hw779 : k0_chk779 v697), ∀ a x, ((![v697] : Fin 1 → IVec S16 32) a x).toNat < S32000.size a := fun v697 k0_hw779 => k0_hw779

def k0_chk780 (v699 : IVec S16 32) : Prop :=
  (∀ a x, ((![v699] : Fin 1 → IVec S16 32) a x).toNat < S32000.size a)
theorem k0_idx780_inb : ∀ (v699 : IVec S16 32) (k0_hw780 : k0_chk780 v699), ∀ a x, ((![v699] : Fin 1 → IVec S16 32) a x).toNat < S32000.size a := fun v699 k0_hw780 => k0_hw780

def k0_chk781 (v664 : IVec S16 32) (v750 : IVec S16 32) : Prop :=
  (∀ a x, ((![v750, v664] : Fin 2 → IVec S16 32) a x).toNat < S64x512.size a)
theorem k0_idx781_inb : ∀ (v664 : IVec S16 32) (v750 : IVec S16 32) (k0_hw781 : k0_chk781 v664 v750), ∀ a x, ((![v750, v664] : Fin 2 → IVec S16 32) a x).toNat < S64x512.size a := fun v664 v750 k0_hw781 => k0_hw781

def k0_chk782 (v664 : IVec S16 32) (v752 : IVec S16 32) : Prop :=
  (∀ a x, ((![v752, v664] : Fin 2 → IVec S16 32) a x).toNat < S64x512.size a)
theorem k0_idx782_inb : ∀ (v664 : IVec S16 32) (v752 : IVec S16 32) (k0_hw782 : k0_chk782 v664 v752), ∀ a x, ((![v752, v664] : Fin 2 → IVec S16 32) a x).toNat < S64x512.size a := fun v664 v752 k0_hw782 => k0_hw782

def k0_chk783 (v759 : IVec S16 32) : Prop :=
  (∀ a x, ((![v759] : Fin 1 → IVec S16 32) a x).toNat < S32000.size a)
theorem k0_idx783_inb : ∀ (v759 : IVec S16 32) (k0_hw783 : k0_chk783 v759), ∀ a x, ((![v759] : Fin 1 → IVec S16 32) a x).toNat < S32000.size a := fun v759 k0_hw783 => k0_hw783

def k0_chk784 (v761 : IVec S16 32) : Prop :=
  (∀ a x, ((![v761] : Fin 1 → IVec S16 32) a x).toNat < S32000.size a)
theorem k0_idx784_inb : ∀ (v761 : IVec S16 32) (k0_hw784 : k0_chk784 v761), ∀ a x, ((![v761] : Fin 1 → IVec S16 32) a x).toNat < S32000.size a := fun v761 k0_hw784 => k0_hw784

def k0_chk785 (v763 : IVec S16 32) : Prop :=
  (∀ a x, ((![v763] : Fin 1 → IVec S16 32) a x).toNat < S32000.size a)
theorem k0_idx785_inb : ∀ (v763 : IVec S16 32) (k0_hw785 : k0_chk785 v763), ∀ a x, ((![v763] : Fin 1 → IVec S16 32) a x).toNat < S32000.size a := fun v763 k0_hw785 => k0_hw785

def k0_chk786 (v765 : IVec S16 32) : Prop :=
  (∀ a x, ((![v765] : Fin 1 → IVec S16 32) a x).toNat < S32000.size a)
theorem k0_idx786_inb : ∀ (v765 : IVec S16 32) (k0_hw786 : k0_chk786 v765), ∀ a x, ((![v765] : Fin 1 → IVec S16 32) a x).toNat < S32000.size a := fun v765 k0_hw786 => k0_hw786

def k0_chk787 (v767 : IVec S16 32) : Prop :=
  (∀ a x, ((![v767] : Fin 1 → IVec S16 32) a x).toNat < S32000.size a)
theorem k0_idx787_inb : ∀ (v767 : IVec S16 32) (k0_hw787 : k0_chk787 v767), ∀ a x, ((![v767] : Fin 1 → IVec S16 32) a x).toNat < S32000.size a := fun v767 k0_hw787 => k0_hw787

def k0_chk788 (v769 : IVec S16 32) : Prop :=
  (∀ a x, ((![v769] : Fin 1 → IVec S16 32) a x).toNat < S32000.size a)
theorem k0_idx788_inb : ∀ (v769 : IVec S16 32) (k0_hw788 : k0_chk788 v769), ∀ a x, ((![v769] : Fin 1 → IVec S16 32) a x).toNat < S32000.size a := fun v769 k0_hw788 => k0_hw788

def k0_chk789 (v664 : IVec S16 32) (v820 : IVec S16 32) : Prop :=
  (∀ a x, ((![v820, v664] : Fin 2 → IVec S16 32) a x).toNat < S64x512.size a)
theorem k0_idx789_inb : ∀ (v664 : IVec S16 32) (v820 : IVec S16 32) (k0_hw789 : k0_chk789 v664 v820), ∀ a x, ((![v820, v664] : Fin 2 → IVec S16 32) a x).toNat < S64x512.size a := fun v664 v820 k0_hw789 => k0_hw789

def k0_chk790 (v664 : IVec S16 32) (v822 : IVec S16 32) : Prop :=
  (∀ a x, ((![v822, v664] : Fin 2 → IVec S16 32) a x).toNat < S64x512.size a)
theorem k0_idx790_inb : ∀ (v664 : IVec S16 32) (v822 : IVec S16 32) (k0_hw790 : k0_chk790 v664 v822), ∀ a x, ((![v822, v664] : Fin 2 → IVec S16 32) a x).toNat < S64x512.size a := fun v664 v822 k0_hw790 => k0_hw790

def k0_chk791 (v829 : IVec S16 32) : Prop :=
  (∀ a x, ((![v829] : Fin 1 → IVec S16 32) a x).toNat < S32000.size a)
theorem k0_idx791_inb : ∀ (v829 : IVec S16 32) (k0_hw791 : k0_chk791 v829), ∀ a x, ((![v829] : Fin 1 → IVec S16 32) a x).toNat < S32000.size a := fun v829 k0_hw791 => k0_hw791

def k0_chk792 (v831 : IVec S16 32) : Prop :=
  (∀ a x, ((![v831] : Fin 1 → IVec S16 32) a x).toNat < S32000.size a)
theorem k0_idx792_inb : ∀ (v831 : IVec S16 32) (k0_hw792 : k0_chk792 v831), ∀ a x, ((![v831] : Fin 1 → IVec S16 32) a x).toNat < S32000.size a := fun v831 k0_hw792 => k0_hw792

def k0_chk793 (v833 : IVec S16 32) : Prop :=
  (∀ a x, ((![v833] : Fin 1 → IVec S16 32) a x).toNat < S32000.size a)
theorem k0_idx793_inb : ∀ (v833 : IVec S16 32) (k0_hw793 : k0_chk793 v833), ∀ a x, ((![v833] : Fin 1 → IVec S16 32) a x).toNat < S32000.size a := fun v833 k0_hw793 => k0_hw793

def k0_chk794 (v835 : IVec S16 32) : Prop :=
  (∀ a x, ((![v835] : Fin 1 → IVec S16 32) a x).toNat < S32000.size a)
theorem k0_idx794_inb : ∀ (v835 : IVec S16 32) (k0_hw794 : k0_chk794 v835), ∀ a x, ((![v835] : Fin 1 → IVec S16 32) a x).toNat < S32000.size a := fun v835 k0_hw794 => k0_hw794

def k0_chk795 (v837 : IVec S16 32) : Prop :=
  (∀ a x, ((![v837] : Fin 1 → IVec S16 32) a x).toNat < S32000.size a)
theorem k0_idx795_inb : ∀ (v837 : IVec S16 32) (k0_hw795 : k0_chk795 v837), ∀ a x, ((![v837] : Fin 1 → IVec S16 32) a x).toNat < S32000.size a := fun v837 k0_hw795 => k0_hw795

def k0_chk796 (v839 : IVec S16 32) : Prop :=
  (∀ a x, ((![v839] : Fin 1 → IVec S16 32) a x).toNat < S32000.size a)
theorem k0_idx796_inb : ∀ (v839 : IVec S16 32) (k0_hw796 : k0_chk796 v839), ∀ a x, ((![v839] : Fin 1 → IVec S16 32) a x).toNat < S32000.size a := fun v839 k0_hw796 => k0_hw796

def k0_chk797 (v664 : IVec S16 32) (v890 : IVec S16 32) : Prop :=
  (∀ a x, ((![v890, v664] : Fin 2 → IVec S16 32) a x).toNat < S64x512.size a)
theorem k0_idx797_inb : ∀ (v664 : IVec S16 32) (v890 : IVec S16 32) (k0_hw797 : k0_chk797 v664 v890), ∀ a x, ((![v890, v664] : Fin 2 → IVec S16 32) a x).toNat < S64x512.size a := fun v664 v890 k0_hw797 => k0_hw797

def k0_chk798 (v664 : IVec S16 32) (v892 : IVec S16 32) : Prop :=
  (∀ a x, ((![v892, v664] : Fin 2 → IVec S16 32) a x).toNat < S64x512.size a)
theorem k0_idx798_inb : ∀ (v664 : IVec S16 32) (v892 : IVec S16 32) (k0_hw798 : k0_chk798 v664 v892), ∀ a x, ((![v892, v664] : Fin 2 → IVec S16 32) a x).toNat < S64x512.size a := fun v664 v892 k0_hw798 => k0_hw798

def k0_chk799 (v899 : IVec S16 32) : Prop :=
  (∀ a x, ((![v899] : Fin 1 → IVec S16 32) a x).toNat < S32000.size a)
theorem k0_idx799_inb : ∀ (v899 : IVec S16 32) (k0_hw799 : k0_chk799 v899), ∀ a x, ((![v899] : Fin 1 → IVec S16 32) a x).toNat < S32000.size a := fun v899 k0_hw799 => k0_hw799

def k0_chk800 (v901 : IVec S16 32) : Prop :=
  (∀ a x, ((![v901] : Fin 1 → IVec S16 32) a x).toNat < S32000.size a)
theorem k0_idx800_inb : ∀ (v901 : IVec S16 32) (k0_hw800 : k0_chk800 v901), ∀ a x, ((![v901] : Fin 1 → IVec S16 32) a x).toNat < S32000.size a := fun v901 k0_hw800 => k0_hw800

def k0_chk801 (v903 : IVec S16 32) : Prop :=
  (∀ a x, ((![v903] : Fin 1 → IVec S16 32) a x).toNat < S32000.size a)
theorem k0_idx801_inb : ∀ (v903 : IVec S16 32) (k0_hw801 : k0_chk801 v903), ∀ a x, ((![v903] : Fin 1 → IVec S16 32) a x).toNat < S32000.size a := fun v903 k0_hw801 => k0_hw801

def k0_chk802 (v905 : IVec S16 32) : Prop :=
  (∀ a x, ((![v905] : Fin 1 → IVec S16 32) a x).toNat < S32000.size a)
theorem k0_idx802_inb : ∀ (v905 : IVec S16 32) (k0_hw802 : k0_chk802 v905), ∀ a x, ((![v905] : Fin 1 → IVec S16 32) a x).toNat < S32000.size a := fun v905 k0_hw802 => k0_hw802

def k0_chk803 (v907 : IVec S16 32) : Prop :=
  (∀ a x, ((![v907] : Fin 1 → IVec S16 32) a x).toNat < S32000.size a)
theorem k0_idx803_inb : ∀ (v907 : IVec S16 32) (k0_hw803 : k0_chk803 v907), ∀ a x, ((![v907] : Fin 1 → IVec S16 32) a x).toNat < S32000.size a := fun v907 k0_hw803 => k0_hw803

def k0_chk804 (v909 : IVec S16 32) : Prop :=
  (∀ a x, ((![v909] : Fin 1 → IVec S16 32) a x).toNat < S32000.size a)
theorem k0_idx804_inb : ∀ (v909 : IVec S16 32) (k0_hw804 : k0_chk804 v909), ∀ a x, ((![v909] : Fin 1 → IVec S16 32) a x).toNat < S32000.size a := fun v909 k0_hw804 => k0_hw804

def k0_chk805 (v664 : IVec S16 32) (v960 : IVec S16 32) : Prop :=
  (∀ a x, ((![v960, v664] : Fin 2 → IVec S16 32) a x).toNat < S64x512.size a)
theorem k0_idx805_inb : ∀ (v664 : IVec S16 32) (v960 : IVec S16 32) (k0_hw805 : k0_chk805 v664 v960), ∀ a x, ((![v960, v664] : Fin 2 → IVec S16 32) a x).toNat < S64x512.size a := fun v664 v960 k0_hw805 => k0_hw805

def k0_chk806 (v664 : IVec S16 32) (v962 : IVec S16 32) : Prop :=
  (∀ a x, ((![v962, v664] : Fin 2 → IVec S16 32) a x).toNat < S64x512.size a)
theorem k0_idx806_inb : ∀ (v664 : IVec S16 32) (v962 : IVec S16 32) (k0_hw806 : k0_chk806 v664 v962), ∀ a x, ((![v962, v664] : Fin 2 → IVec S16 32) a x).toNat < S64x512.size a := fun v664 v962 k0_hw806 => k0_hw806

def k0_chk807 (v969 : IVec S16 32) : Prop :=
  (∀ a x, ((![v969] : Fin 1 → IVec S16 32) a x).toNat < S32000.size a)
theorem k0_idx807_inb : ∀ (v969 : IVec S16 32) (k0_hw807 : k0_chk807 v969), ∀ a x, ((![v969] : Fin 1 → IVec S16 32) a x).toNat < S32000.size a := fun v969 k0_hw807 => k0_hw807

def k0_chk808 (v971 : IVec S16 32) : Prop :=
  (∀ a x, ((![v971] : Fin 1 → IVec S16 32) a x).toNat < S32000.size a)
theorem k0_idx808_inb : ∀ (v971 : IVec S16 32) (k0_hw808 : k0_chk808 v971), ∀ a x, ((![v971] : Fin 1 → IVec S16 32) a x).toNat < S32000.size a := fun v971 k0_hw808 => k0_hw808

def k0_chk809 (v973 : IVec S16 32) : Prop :=
  (∀ a x, ((![v973] : Fin 1 → IVec S16 32) a x).toNat < S32000.size a)
theorem k0_idx809_inb : ∀ (v973 : IVec S16 32) (k0_hw809 : k0_chk809 v973), ∀ a x, ((![v973] : Fin 1 → IVec S16 32) a x).toNat < S32000.size a := fun v973 k0_hw809 => k0_hw809

def k0_chk810 (v975 : IVec S16 32) : Prop :=
  (∀ a x, ((![v975] : Fin 1 → IVec S16 32) a x).toNat < S32000.size a)
theorem k0_idx810_inb : ∀ (v975 : IVec S16 32) (k0_hw810 : k0_chk810 v975), ∀ a x, ((![v975] : Fin 1 → IVec S16 32) a x).toNat < S32000.size a := fun v975 k0_hw810 => k0_hw810

def k0_chk811 (v977 : IVec S16 32) : Prop :=
  (∀ a x, ((![v977] : Fin 1 → IVec S16 32) a x).toNat < S32000.size a)
theorem k0_idx811_inb : ∀ (v977 : IVec S16 32) (k0_hw811 : k0_chk811 v977), ∀ a x, ((![v977] : Fin 1 → IVec S16 32) a x).toNat < S32000.size a := fun v977 k0_hw811 => k0_hw811

def k0_chk812 (v979 : IVec S16 32) : Prop :=
  (∀ a x, ((![v979] : Fin 1 → IVec S16 32) a x).toNat < S32000.size a)
theorem k0_idx812_inb : ∀ (v979 : IVec S16 32) (k0_hw812 : k0_chk812 v979), ∀ a x, ((![v979] : Fin 1 → IVec S16 32) a x).toNat < S32000.size a := fun v979 k0_hw812 => k0_hw812

def k0_chk813 (v664 : IVec S16 32) (v1030 : IVec S16 32) : Prop :=
  (∀ a x, ((![v1030, v664] : Fin 2 → IVec S16 32) a x).toNat < S64x512.size a)
theorem k0_idx813_inb : ∀ (v664 : IVec S16 32) (v1030 : IVec S16 32) (k0_hw813 : k0_chk813 v664 v1030), ∀ a x, ((![v1030, v664] : Fin 2 → IVec S16 32) a x).toNat < S64x512.size a := fun v664 v1030 k0_hw813 => k0_hw813

def k0_chk814 (v664 : IVec S16 32) (v1032 : IVec S16 32) : Prop :=
  (∀ a x, ((![v1032, v664] : Fin 2 → IVec S16 32) a x).toNat < S64x512.size a)
theorem k0_idx814_inb : ∀ (v664 : IVec S16 32) (v1032 : IVec S16 32) (k0_hw814 : k0_chk814 v664 v1032), ∀ a x, ((![v1032, v664] : Fin 2 → IVec S16 32) a x).toNat < S64x512.size a := fun v664 v1032 k0_hw814 => k0_hw814

def k0_chk815 (v1039 : IVec S16 32) : Prop :=
  (∀ a x, ((![v1039] : Fin 1 → IVec S16 32) a x).toNat < S32000.size a)
theorem k0_idx815_inb : ∀ (v1039 : IVec S16 32) (k0_hw815 : k0_chk815 v1039), ∀ a x, ((![v1039] : Fin 1 → IVec S16 32) a x).toNat < S32000.size a := fun v1039 k0_hw815 => k0_hw815

def k0_chk816 (v1041 : IVec S16 32) : Prop :=
  (∀ a x, ((![v1041] : Fin 1 → IVec S16 32) a x).toNat < S32000.size a)
theorem k0_idx816_inb : ∀ (v1041 : IVec S16 32) (k0_hw816 : k0_chk816 v1041), ∀ a x, ((![v1041] : Fin 1 → IVec S16 32) a x).toNat < S32000.size a := fun v1041 k0_hw816 => k0_hw816

def k0_chk817 (v1043 : IVec S16 32) : Prop :=
  (∀ a x, ((![v1043] : Fin 1 → IVec S16 32) a x).toNat < S32000.size a)
theorem k0_idx817_inb : ∀ (v1043 : IVec S16 32) (k0_hw817 : k0_chk817 v1043), ∀ a x, ((![v1043] : Fin 1 → IVec S16 32) a x).toNat < S32000.size a := fun v1043 k0_hw817 => k0_hw817

def k0_chk818 (v1045 : IVec S16 32) : Prop :=
  (∀ a x, ((![v1045] : Fin 1 → IVec S16 32) a x).toNat < S32000.size a)
theorem k0_idx818_inb : ∀ (v1045 : IVec S16 32) (k0_hw818 : k0_chk818 v1045), ∀ a x, ((![v1045] : Fin 1 → IVec S16 32) a x).toNat < S32000.size a := fun v1045 k0_hw818 => k0_hw818

def k0_chk819 (v1047 : IVec S16 32) : Prop :=
  (∀ a x, ((![v1047] : Fin 1 → IVec S16 32) a x).toNat < S32000.size a)
theorem k0_idx819_inb : ∀ (v1047 : IVec S16 32) (k0_hw819 : k0_chk819 v1047), ∀ a x, ((![v1047] : Fin 1 → IVec S16 32) a x).toNat < S32000.size a := fun v1047 k0_hw819 => k0_hw819

def k0_chk820 (v1049 : IVec S16 32) : Prop :=
  (∀ a x, ((![v1049] : Fin 1 → IVec S16 32) a x).toNat < S32000.size a)
theorem k0_idx820_inb : ∀ (v1049 : IVec S16 32) (k0_hw820 : k0_chk820 v1049), ∀ a x, ((![v1049] : Fin 1 → IVec S16 32) a x).toNat < S32000.size a := fun v1049 k0_hw820 => k0_hw820

def k0_chk821 (v664 : IVec S16 32) (v1100 : IVec S16 32) : Prop :=
  (∀ a x, ((![v1100, v664] : Fin 2 → IVec S16 32) a x).toNat < S64x512.size a)
theorem k0_idx821_inb : ∀ (v664 : IVec S16 32) (v1100 : IVec S16 32) (k0_hw821 : k0_chk821 v664 v1100), ∀ a x, ((![v1100, v664] : Fin 2 → IVec S16 32) a x).toNat < S64x512.size a := fun v664 v1100 k0_hw821 => k0_hw821

def k0_chk822 (v664 : IVec S16 32) (v1102 : IVec S16 32) : Prop :=
  (∀ a x, ((![v1102, v664] : Fin 2 → IVec S16 32) a x).toNat < S64x512.size a)
theorem k0_idx822_inb : ∀ (v664 : IVec S16 32) (v1102 : IVec S16 32) (k0_hw822 : k0_chk822 v664 v1102), ∀ a x, ((![v1102, v664] : Fin 2 → IVec S16 32) a x).toNat < S64x512.size a := fun v664 v1102 k0_hw822 => k0_hw822

def k0_chk823 (v1109 : IVec S16 32) : Prop :=
  (∀ a x, ((![v1109] : Fin 1 → IVec S16 32) a x).toNat < S32000.size a)
theorem k0_idx823_inb : ∀ (v1109 : IVec S16 32) (k0_hw823 : k0_chk823 v1109), ∀ a x, ((![v1109] : Fin 1 → IVec S16 32) a x).toNat < S32000.size a := fun v1109 k0_hw823 => k0_hw823

def k0_chk824 (v1111 : IVec S16 32) : Prop :=
  (∀ a x, ((![v1111] : Fin 1 → IVec S16 32) a x).toNat < S32000.size a)
theorem k0_idx824_inb : ∀ (v1111 : IVec S16 32) (k0_hw824 : k0_chk824 v1111), ∀ a x, ((![v1111] : Fin 1 → IVec S16 32) a x).toNat < S32000.size a := fun v1111 k0_hw824 => k0_hw824

def k0_chk825 (v1113 : IVec S16 32) : Prop :=
  (∀ a x, ((![v1113] : Fin 1 → IVec S16 32) a x).toNat < S32000.size a)
theorem k0_idx825_inb : ∀ (v1113 : IVec S16 32) (k0_hw825 : k0_chk825 v1113), ∀ a x, ((![v1113] : Fin 1 → IVec S16 32) a x).toNat < S32000.size a := fun v1113 k0_hw825 => k0_hw825

def k0_chk826 (v1115 : IVec S16 32) : Prop :=
  (∀ a x, ((![v1115] : Fin 1 → IVec S16 32) a x).toNat < S32000.size a)
theorem k0_idx826_inb : ∀ (v1115 : IVec S16 32) (k0_hw826 : k0_chk826 v1115), ∀ a x, ((![v1115] : Fin 1 → IVec S16 32) a x).toNat < S32000.size a := fun v1115 k0_hw826 => k0_hw826

def k0_chk827 (v1117 : IVec S16 32) : Prop :=
  (∀ a x, ((![v1117] : Fin 1 → IVec S16 32) a x).toNat < S32000.size a)
theorem k0_idx827_inb : ∀ (v1117 : IVec S16 32) (k0_hw827 : k0_chk827 v1117), ∀ a x, ((![v1117] : Fin 1 → IVec S16 32) a x).toNat < S32000.size a := fun v1117 k0_hw827 => k0_hw827

def k0_chk828 (v1119 : IVec S16 32) : Prop :=
  (∀ a x, ((![v1119] : Fin 1 → IVec S16 32) a x).toNat < S32000.size a)
theorem k0_idx828_inb : ∀ (v1119 : IVec S16 32) (k0_hw828 : k0_chk828 v1119), ∀ a x, ((![v1119] : Fin 1 → IVec S16 32) a x).toNat < S32000.size a := fun v1119 k0_hw828 => k0_hw828

def k0_chk829 (v664 : IVec S16 32) (v1170 : IVec S16 32) : Prop :=
  (∀ a x, ((![v1170, v664] : Fin 2 → IVec S16 32) a x).toNat < S64x512.size a)
theorem k0_idx829_inb : ∀ (v664 : IVec S16 32) (v1170 : IVec S16 32) (k0_hw829 : k0_chk829 v664 v1170), ∀ a x, ((![v1170, v664] : Fin 2 → IVec S16 32) a x).toNat < S64x512.size a := fun v664 v1170 k0_hw829 => k0_hw829

def k0_chk830 (v664 : IVec S16 32) (v1172 : IVec S16 32) : Prop :=
  (∀ a x, ((![v1172, v664] : Fin 2 → IVec S16 32) a x).toNat < S64x512.size a)
theorem k0_idx830_inb : ∀ (v664 : IVec S16 32) (v1172 : IVec S16 32) (k0_hw830 : k0_chk830 v664 v1172), ∀ a x, ((![v1172, v664] : Fin 2 → IVec S16 32) a x).toNat < S64x512.size a := fun v664 v1172 k0_hw830 => k0_hw830

def k0_chk831 (v1179 : IVec S16 32) : Prop :=
  (∀ a x, ((![v1179] : Fin 1 → IVec S16 32) a x).toNat < S32000.size a)
theorem k0_idx831_inb : ∀ (v1179 : IVec S16 32) (k0_hw831 : k0_chk831 v1179), ∀ a x, ((![v1179] : Fin 1 → IVec S16 32) a x).toNat < S32000.size a := fun v1179 k0_hw831 => k0_hw831

def k0_chk832 (v1181 : IVec S16 32) : Prop :=
  (∀ a x, ((![v1181] : Fin 1 → IVec S16 32) a x).toNat < S32000.size a)
theorem k0_idx832_inb : ∀ (v1181 : IVec S16 32) (k0_hw832 : k0_chk832 v1181), ∀ a x, ((![v1181] : Fin 1 → IVec S16 32) a x).toNat < S32000.size a := fun v1181 k0_hw832 => k0_hw832

def k0_chk833 (v1183 : IVec S16 32) : Prop :=
  (∀ a x, ((![v1183] : Fin 1 → IVec S16 32) a x).toNat < S32000.size a)
theorem k0_idx833_inb : ∀ (v1183 : IVec S16 32) (k0_hw833 : k0_chk833 v1183), ∀ a x, ((![v1183] : Fin 1 → IVec S16 32) a x).toNat < S32000.size a := fun v1183 k0_hw833 => k0_hw833

def k0_chk834 (v1185 : IVec S16 32) : Prop :=
  (∀ a x, ((![v1185] : Fin 1 → IVec S16 32) a x).toNat < S32000.size a)
theorem k0_idx834_inb : ∀ (v1185 : IVec S16 32) (k0_hw834 : k0_chk834 v1185), ∀ a x, ((![v1185] : Fin 1 → IVec S16 32) a x).toNat < S32000.size a := fun v1185 k0_hw834 => k0_hw834

def k0_chk835 (v1187 : IVec S16 32) : Prop :=
  (∀ a x, ((![v1187] : Fin 1 → IVec S16 32) a x).toNat < S32000.size a)
theorem k0_idx835_inb : ∀ (v1187 : IVec S16 32) (k0_hw835 : k0_chk835 v1187), ∀ a x, ((![v1187] : Fin 1 → IVec S16 32) a x).toNat < S32000.size a := fun v1187 k0_hw835 => k0_hw835

def k0_chk836 (v1189 : IVec S16 32) : Prop :=
  (∀ a x, ((![v1189] : Fin 1 → IVec S16 32) a x).toNat < S32000.size a)
theorem k0_idx836_inb : ∀ (v1189 : IVec S16 32) (k0_hw836 : k0_chk836 v1189), ∀ a x, ((![v1189] : Fin 1 → IVec S16 32) a x).toNat < S32000.size a := fun v1189 k0_hw836 => k0_hw836

def k0_chk837 (v664 : IVec S16 32) (v1240 : IVec S16 32) : Prop :=
  (∀ a x, ((![v1240, v664] : Fin 2 → IVec S16 32) a x).toNat < S64x512.size a)
theorem k0_idx837_inb : ∀ (v664 : IVec S16 32) (v1240 : IVec S16 32) (k0_hw837 : k0_chk837 v664 v1240), ∀ a x, ((![v1240, v664] : Fin 2 → IVec S16 32) a x).toNat < S64x512.size a := fun v664 v1240 k0_hw837 => k0_hw837

def k0_chk838 (v664 : IVec S16 32) (v1242 : IVec S16 32) : Prop :=
  (∀ a x, ((![v1242, v664] : Fin 2 → IVec S16 32) a x).toNat < S64x512.size a)
theorem k0_idx838_inb : ∀ (v664 : IVec S16 32) (v1242 : IVec S16 32) (k0_hw838 : k0_chk838 v664 v1242), ∀ a x, ((![v1242, v664] : Fin 2 → IVec S16 32) a x).toNat < S64x512.size a := fun v664 v1242 k0_hw838 => k0_hw838

def k0_chk839 (v1249 : IVec S16 32) : Prop :=
  (∀ a x, ((![v1249] : Fin 1 → IVec S16 32) a x).toNat < S32000.size a)
theorem k0_idx839_inb : ∀ (v1249 : IVec S16 32) (k0_hw839 : k0_chk839 v1249), ∀ a x, ((![v1249] : Fin 1 → IVec S16 32) a x).toNat < S32000.size a := fun v1249 k0_hw839 => k0_hw839

def k0_chk840 (v1251 : IVec S16 32) : Prop :=
  (∀ a x, ((![v1251] : Fin 1 → IVec S16 32) a x).toNat < S32000.size a)
theorem k0_idx840_inb : ∀ (v1251 : IVec S16 32) (k0_hw840 : k0_chk840 v1251), ∀ a x, ((![v1251] : Fin 1 → IVec S16 32) a x).toNat < S32000.size a := fun v1251 k0_hw840 => k0_hw840

def k0_chk841 (v1253 : IVec S16 32) : Prop :=
  (∀ a x, ((![v1253] : Fin 1 → IVec S16 32) a x).toNat < S32000.size a)
theorem k0_idx841_inb : ∀ (v1253 : IVec S16 32) (k0_hw841 : k0_chk841 v1253), ∀ a x, ((![v1253] : Fin 1 → IVec S16 32) a x).toNat < S32000.size a := fun v1253 k0_hw841 => k0_hw841

def k0_chk842 (v1255 : IVec S16 32) : Prop :=
  (∀ a x, ((![v1255] : Fin 1 → IVec S16 32) a x).toNat < S32000.size a)
theorem k0_idx842_inb : ∀ (v1255 : IVec S16 32) (k0_hw842 : k0_chk842 v1255), ∀ a x, ((![v1255] : Fin 1 → IVec S16 32) a x).toNat < S32000.size a := fun v1255 k0_hw842 => k0_hw842

def k0_chk843 (v1257 : IVec S16 32) : Prop :=
  (∀ a x, ((![v1257] : Fin 1 → IVec S16 32) a x).toNat < S32000.size a)
theorem k0_idx843_inb : ∀ (v1257 : IVec S16 32) (k0_hw843 : k0_chk843 v1257), ∀ a x, ((![v1257] : Fin 1 → IVec S16 32) a x).toNat < S32000.size a := fun v1257 k0_hw843 => k0_hw843

def k0_chk844 (v1259 : IVec S16 32) : Prop :=
  (∀ a x, ((![v1259] : Fin 1 → IVec S16 32) a x).toNat < S32000.size a)
theorem k0_idx844_inb : ∀ (v1259 : IVec S16 32) (k0_hw844 : k0_chk844 v1259), ∀ a x, ((![v1259] : Fin 1 → IVec S16 32) a x).toNat < S32000.size a := fun v1259 k0_hw844 => k0_hw844

def k0_chk845 (v664 : IVec S16 32) (v1310 : IVec S16 32) : Prop :=
  (∀ a x, ((![v1310, v664] : Fin 2 → IVec S16 32) a x).toNat < S64x512.size a)
theorem k0_idx845_inb : ∀ (v664 : IVec S16 32) (v1310 : IVec S16 32) (k0_hw845 : k0_chk845 v664 v1310), ∀ a x, ((![v1310, v664] : Fin 2 → IVec S16 32) a x).toNat < S64x512.size a := fun v664 v1310 k0_hw845 => k0_hw845

def k0_chk846 (v664 : IVec S16 32) (v1312 : IVec S16 32) : Prop :=
  (∀ a x, ((![v1312, v664] : Fin 2 → IVec S16 32) a x).toNat < S64x512.size a)
theorem k0_idx846_inb : ∀ (v664 : IVec S16 32) (v1312 : IVec S16 32) (k0_hw846 : k0_chk846 v664 v1312), ∀ a x, ((![v1312, v664] : Fin 2 → IVec S16 32) a x).toNat < S64x512.size a := fun v664 v1312 k0_hw846 => k0_hw846

def k0_chk847 (v1319 : IVec S16 32) : Prop :=
  (∀ a x, ((![v1319] : Fin 1 → IVec S16 32) a x).toNat < S32000.size a)
theorem k0_idx847_inb : ∀ (v1319 : IVec S16 32) (k0_hw847 : k0_chk847 v1319), ∀ a x, ((![v1319] : Fin 1 → IVec S16 32) a x).toNat < S32000.size a := fun v1319 k0_hw847 => k0_hw847

def k0_chk848 (v1321 : IVec S16 32) : Prop :=
  (∀ a x, ((![v1321] : Fin 1 → IVec S16 32) a x).toNat < S32000.size a)
theorem k0_idx848_inb : ∀ (v1321 : IVec S16 32) (k0_hw848 : k0_chk848 v1321), ∀ a x, ((![v1321] : Fin 1 → IVec S16 32) a x).toNat < S32000.size a := fun v1321 k0_hw848 => k0_hw848

def k0_chk849 (v1323 : IVec S16 32) : Prop :=
  (∀ a x, ((![v1323] : Fin 1 → IVec S16 32) a x).toNat < S32000.size a)
theorem k0_idx849_inb : ∀ (v1323 : IVec S16 32) (k0_hw849 : k0_chk849 v1323), ∀ a x, ((![v1323] : Fin 1 → IVec S16 32) a x).toNat < S32000.size a := fun v1323 k0_hw849 => k0_hw849

def k0_chk850 (v1325 : IVec S16 32) : Prop :=
  (∀ a x, ((![v1325] : Fin 1 → IVec S16 32) a x).toNat < S32000.size a)
theorem k0_idx850_inb : ∀ (v1325 : IVec S16 32) (k0_hw850 : k0_chk850 v1325), ∀ a x, ((![v1325] : Fin 1 → IVec S16 32) a x).toNat < S32000.size a := fun v1325 k0_hw850 => k0_hw850

def k0_chk851 (v1327 : IVec S16 32) : Prop :=
  (∀ a x, ((![v1327] : Fin 1 → IVec S16 32) a x).toNat < S32000.size a)
theorem k0_idx851_inb : ∀ (v1327 : IVec S16 32) (k0_hw851 : k0_chk851 v1327), ∀ a x, ((![v1327] : Fin 1 → IVec S16 32) a x).toNat < S32000.size a := fun v1327 k0_hw851 => k0_hw851

def k0_chk852 (v1329 : IVec S16 32) : Prop :=
  (∀ a x, ((![v1329] : Fin 1 → IVec S16 32) a x).toNat < S32000.size a)
theorem k0_idx852_inb : ∀ (v1329 : IVec S16 32) (k0_hw852 : k0_chk852 v1329), ∀ a x, ((![v1329] : Fin 1 → IVec S16 32) a x).toNat < S32000.size a := fun v1329 k0_hw852 => k0_hw852

def k0_chk853 (v664 : IVec S16 32) (v1380 : IVec S16 32) : Prop :=
  (∀ a x, ((![v1380, v664] : Fin 2 → IVec S16 32) a x).toNat < S64x512.size a)
theorem k0_idx853_inb : ∀ (v664 : IVec S16 32) (v1380 : IVec S16 32) (k0_hw853 : k0_chk853 v664 v1380), ∀ a x, ((![v1380, v664] : Fin 2 → IVec S16 32) a x).toNat < S64x512.size a := fun v664 v1380 k0_hw853 => k0_hw853

def k0_chk854 (v664 : IVec S16 32) (v1382 : IVec S16 32) : Prop :=
  (∀ a x, ((![v1382, v664] : Fin 2 → IVec S16 32) a x).toNat < S64x512.size a)
theorem k0_idx854_inb : ∀ (v664 : IVec S16 32) (v1382 : IVec S16 32) (k0_hw854 : k0_chk854 v664 v1382), ∀ a x, ((![v1382, v664] : Fin 2 → IVec S16 32) a x).toNat < S64x512.size a := fun v664 v1382 k0_hw854 => k0_hw854

def k0_chk855 (v1389 : IVec S16 32) : Prop :=
  (∀ a x, ((![v1389] : Fin 1 → IVec S16 32) a x).toNat < S32000.size a)
theorem k0_idx855_inb : ∀ (v1389 : IVec S16 32) (k0_hw855 : k0_chk855 v1389), ∀ a x, ((![v1389] : Fin 1 → IVec S16 32) a x).toNat < S32000.size a := fun v1389 k0_hw855 => k0_hw855

def k0_chk856 (v1391 : IVec S16 32) : Prop :=
  (∀ a x, ((![v1391] : Fin 1 → IVec S16 32) a x).toNat < S32000.size a)
theorem k0_idx856_inb : ∀ (v1391 : IVec S16 32) (k0_hw856 : k0_chk856 v1391), ∀ a x, ((![v1391] : Fin 1 → IVec S16 32) a x).toNat < S32000.size a := fun v1391 k0_hw856 => k0_hw856

def k0_chk857 (v1393 : IVec S16 32) : Prop :=
  (∀ a x, ((![v1393] : Fin 1 → IVec S16 32) a x).toNat < S32000.size a)
theorem k0_idx857_inb : ∀ (v1393 : IVec S16 32) (k0_hw857 : k0_chk857 v1393), ∀ a x, ((![v1393] : Fin 1 → IVec S16 32) a x).toNat < S32000.size a := fun v1393 k0_hw857 => k0_hw857

def k0_chk858 (v1395 : IVec S16 32) : Prop :=
  (∀ a x, ((![v1395] : Fin 1 → IVec S16 32) a x).toNat < S32000.size a)
theorem k0_idx858_inb : ∀ (v1395 : IVec S16 32) (k0_hw858 : k0_chk858 v1395), ∀ a x, ((![v1395] : Fin 1 → IVec S16 32) a x).toNat < S32000.size a := fun v1395 k0_hw858 => k0_hw858

def k0_chk859 (v1397 : IVec S16 32) : Prop :=
  (∀ a x, ((![v1397] : Fin 1 → IVec S16 32) a x).toNat < S32000.size a)
theorem k0_idx859_inb : ∀ (v1397 : IVec S16 32) (k0_hw859 : k0_chk859 v1397), ∀ a x, ((![v1397] : Fin 1 → IVec S16 32) a x).toNat < S32000.size a := fun v1397 k0_hw859 => k0_hw859

def k0_chk860 (v1399 : IVec S16 32) : Prop :=
  (∀ a x, ((![v1399] : Fin 1 → IVec S16 32) a x).toNat < S32000.size a)
theorem k0_idx860_inb : ∀ (v1399 : IVec S16 32) (k0_hw860 : k0_chk860 v1399), ∀ a x, ((![v1399] : Fin 1 → IVec S16 32) a x).toNat < S32000.size a := fun v1399 k0_hw860 => k0_hw860

def k0_chk861 (v664 : IVec S16 32) (v1450 : IVec S16 32) : Prop :=
  (∀ a x, ((![v1450, v664] : Fin 2 → IVec S16 32) a x).toNat < S64x512.size a)
theorem k0_idx861_inb : ∀ (v664 : IVec S16 32) (v1450 : IVec S16 32) (k0_hw861 : k0_chk861 v664 v1450), ∀ a x, ((![v1450, v664] : Fin 2 → IVec S16 32) a x).toNat < S64x512.size a := fun v664 v1450 k0_hw861 => k0_hw861

def k0_chk862 (v664 : IVec S16 32) (v1452 : IVec S16 32) : Prop :=
  (∀ a x, ((![v1452, v664] : Fin 2 → IVec S16 32) a x).toNat < S64x512.size a)
theorem k0_idx862_inb : ∀ (v664 : IVec S16 32) (v1452 : IVec S16 32) (k0_hw862 : k0_chk862 v664 v1452), ∀ a x, ((![v1452, v664] : Fin 2 → IVec S16 32) a x).toNat < S64x512.size a := fun v664 v1452 k0_hw862 => k0_hw862

def k0_chk863 (v1459 : IVec S16 32) : Prop :=
  (∀ a x, ((![v1459] : Fin 1 → IVec S16 32) a x).toNat < S32000.size a)
theorem k0_idx863_inb : ∀ (v1459 : IVec S16 32) (k0_hw863 : k0_chk863 v1459), ∀ a x, ((![v1459] : Fin 1 → IVec S16 32) a x).toNat < S32000.size a := fun v1459 k0_hw863 => k0_hw863

def k0_chk864 (v1461 : IVec S16 32) : Prop :=
  (∀ a x, ((![v1461] : Fin 1 → IVec S16 32) a x).toNat < S32000.size a)
theorem k0_idx864_inb : ∀ (v1461 : IVec S16 32) (k0_hw864 : k0_chk864 v1461), ∀ a x, ((![v1461] : Fin 1 → IVec S16 32) a x).toNat < S32000.size a := fun v1461 k0_hw864 => k0_hw864

def k0_chk865 (v1463 : IVec S16 32) : Prop :=
  (∀ a x, ((![v1463] : Fin 1 → IVec S16 32) a x).toNat < S32000.size a)
theorem k0_idx865_inb : ∀ (v1463 : IVec S16 32) (k0_hw865 : k0_chk865 v1463), ∀ a x, ((![v1463] : Fin 1 → IVec S16 32) a x).toNat < S32000.size a := fun v1463 k0_hw865 => k0_hw865

def k0_chk866 (v1465 : IVec S16 32) : Prop :=
  (∀ a x, ((![v1465] : Fin 1 → IVec S16 32) a x).toNat < S32000.size a)
theorem k0_idx866_inb : ∀ (v1465 : IVec S16 32) (k0_hw866 : k0_chk866 v1465), ∀ a x, ((![v1465] : Fin 1 → IVec S16 32) a x).toNat < S32000.size a := fun v1465 k0_hw866 => k0_hw866

def k0_chk867 (v1467 : IVec S16 32) : Prop :=
  (∀ a x, ((![v1467] : Fin 1 → IVec S16 32) a x).toNat < S32000.size a)
theorem k0_idx867_inb : ∀ (v1467 : IVec S16 32) (k0_hw867 : k0_chk867 v1467), ∀ a x, ((![v1467] : Fin 1 → IVec S16 32) a x).toNat < S32000.size a := fun v1467 k0_hw867 => k0_hw867

def k0_chk868 (v1469 : IVec S16 32) : Prop :=
  (∀ a x, ((![v1469] : Fin 1 → IVec S16 32) a x).toNat < S32000.size a)
theorem k0_idx868_inb : ∀ (v1469 : IVec S16 32) (k0_hw868 : k0_chk868 v1469), ∀ a x, ((![v1469] : Fin 1 → IVec S16 32) a x).toNat < S32000.size a := fun v1469 k0_hw868 => k0_hw868

def k0_chk869 (v664 : IVec S16 32) (v1520 : IVec S16 32) : Prop :=
  (∀ a x, ((![v1520, v664] : Fin 2 → IVec S16 32) a x).toNat < S64x512.size a)
theorem k0_idx869_inb : ∀ (v664 : IVec S16 32) (v1520 : IVec S16 32) (k0_hw869 : k0_chk869 v664 v1520), ∀ a x, ((![v1520, v664] : Fin 2 → IVec S16 32) a x).toNat < S64x512.size a := fun v664 v1520 k0_hw869 => k0_hw869

def k0_chk870 (v664 : IVec S16 32) (v1522 : IVec S16 32) : Prop :=
  (∀ a x, ((![v1522, v664] : Fin 2 → IVec S16 32) a x).toNat < S64x512.size a)
theorem k0_idx870_inb : ∀ (v664 : IVec S16 32) (v1522 : IVec S16 32) (k0_hw870 : k0_chk870 v664 v1522), ∀ a x, ((![v1522, v664] : Fin 2 → IVec S16 32) a x).toNat < S64x512.size a := fun v664 v1522 k0_hw870 => k0_hw870

def k0_chk871 (v1529 : IVec S16 32) : Prop :=
  (∀ a x, ((![v1529] : Fin 1 → IVec S16 32) a x).toNat < S32000.size a)
theorem k0_idx871_inb : ∀ (v1529 : IVec S16 32) (k0_hw871 : k0_chk871 v1529), ∀ a x, ((![v1529] : Fin 1 → IVec S16 32) a x).toNat < S32000.size a := fun v1529 k0_hw871 => k0_hw871

def k0_chk872 (v1531 : IVec S16 32) : Prop :=
  (∀ a x, ((![v1531] : Fin 1 → IVec S16 32) a x).toNat < S32000.size a)
theorem k0_idx872_inb : ∀ (v1531 : IVec S16 32) (k0_hw872 : k0_chk872 v1531), ∀ a x, ((![v1531] : Fin 1 → IVec S16 32) a x).toNat < S32000.size a := fun v1531 k0_hw872 => k0_hw872

def k0_chk873 (v1533 : IVec S16 32) : Prop :=
  (∀ a x, ((![v1533] : Fin 1 → IVec S16 32) a x).toNat < S32000.size a)
theorem k0_idx873_inb : ∀ (v1533 : IVec S16 32) (k0_hw873 : k0_chk873 v1533), ∀ a x, ((![v1533] : Fin 1 → IVec S16 32) a x).toNat < S32000.size a := fun v1533 k0_hw873 => k0_hw873

def k0_chk874 (v1535 : IVec S16 32) : Prop :=
  (∀ a x, ((![v1535] : Fin 1 → IVec S16 32) a x).toNat < S32000.size a)
theorem k0_idx874_inb : ∀ (v1535 : IVec S16 32) (k0_hw874 : k0_chk874 v1535), ∀ a x, ((![v1535] : Fin 1 → IVec S16 32) a x).toNat < S32000.size a := fun v1535 k0_hw874 => k0_hw874

def k0_chk875 (v1537 : IVec S16 32) : Prop :=
  (∀ a x, ((![v1537] : Fin 1 → IVec S16 32) a x).toNat < S32000.size a)
theorem k0_idx875_inb : ∀ (v1537 : IVec S16 32) (k0_hw875 : k0_chk875 v1537), ∀ a x, ((![v1537] : Fin 1 → IVec S16 32) a x).toNat < S32000.size a := fun v1537 k0_hw875 => k0_hw875

def k0_chk876 (v1539 : IVec S16 32) : Prop :=
  (∀ a x, ((![v1539] : Fin 1 → IVec S16 32) a x).toNat < S32000.size a)
theorem k0_idx876_inb : ∀ (v1539 : IVec S16 32) (k0_hw876 : k0_chk876 v1539), ∀ a x, ((![v1539] : Fin 1 → IVec S16 32) a x).toNat < S32000.size a := fun v1539 k0_hw876 => k0_hw876

def k0_chk877 (v664 : IVec S16 32) (v1590 : IVec S16 32) : Prop :=
  (∀ a x, ((![v1590, v664] : Fin 2 → IVec S16 32) a x).toNat < S64x512.size a)
theorem k0_idx877_inb : ∀ (v664 : IVec S16 32) (v1590 : IVec S16 32) (k0_hw877 : k0_chk877 v664 v1590), ∀ a x, ((![v1590, v664] : Fin 2 → IVec S16 32) a x).toNat < S64x512.size a := fun v664 v1590 k0_hw877 => k0_hw877

def k0_chk878 (v664 : IVec S16 32) (v1592 : IVec S16 32) : Prop :=
  (∀ a x, ((![v1592, v664] : Fin 2 → IVec S16 32) a x).toNat < S64x512.size a)
theorem k0_idx878_inb : ∀ (v664 : IVec S16 32) (v1592 : IVec S16 32) (k0_hw878 : k0_chk878 v664 v1592), ∀ a x, ((![v1592, v664] : Fin 2 → IVec S16 32) a x).toNat < S64x512.size a := fun v664 v1592 k0_hw878 => k0_hw878

def k0_chk879 (v1599 : IVec S16 32) : Prop :=
  (∀ a x, ((![v1599] : Fin 1 → IVec S16 32) a x).toNat < S32000.size a)
theorem k0_idx879_inb : ∀ (v1599 : IVec S16 32) (k0_hw879 : k0_chk879 v1599), ∀ a x, ((![v1599] : Fin 1 → IVec S16 32) a x).toNat < S32000.size a := fun v1599 k0_hw879 => k0_hw879

def k0_chk880 (v1601 : IVec S16 32) : Prop :=
  (∀ a x, ((![v1601] : Fin 1 → IVec S16 32) a x).toNat < S32000.size a)
theorem k0_idx880_inb : ∀ (v1601 : IVec S16 32) (k0_hw880 : k0_chk880 v1601), ∀ a x, ((![v1601] : Fin 1 → IVec S16 32) a x).toNat < S32000.size a := fun v1601 k0_hw880 => k0_hw880

def k0_chk881 (v1603 : IVec S16 32) : Prop :=
  (∀ a x, ((![v1603] : Fin 1 → IVec S16 32) a x).toNat < S32000.size a)
theorem k0_idx881_inb : ∀ (v1603 : IVec S16 32) (k0_hw881 : k0_chk881 v1603), ∀ a x, ((![v1603] : Fin 1 → IVec S16 32) a x).toNat < S32000.size a := fun v1603 k0_hw881 => k0_hw881

def k0_chk882 (v1605 : IVec S16 32) : Prop :=
  (∀ a x, ((![v1605] : Fin 1 → IVec S16 32) a x).toNat < S32000.size a)
theorem k0_idx882_inb : ∀ (v1605 : IVec S16 32) (k0_hw882 : k0_chk882 v1605), ∀ a x, ((![v1605] : Fin 1 → IVec S16 32) a x).toNat < S32000.size a := fun v1605 k0_hw882 => k0_hw882

def k0_chk883 (v1607 : IVec S16 32) : Prop :=
  (∀ a x, ((![v1607] : Fin 1 → IVec S16 32) a x).toNat < S32000.size a)
theorem k0_idx883_inb : ∀ (v1607 : IVec S16 32) (k0_hw883 : k0_chk883 v1607), ∀ a x, ((![v1607] : Fin 1 → IVec S16 32) a x).toNat < S32000.size a := fun v1607 k0_hw883 => k0_hw883

def k0_chk884 (v1609 : IVec S16 32) : Prop :=
  (∀ a x, ((![v1609] : Fin 1 → IVec S16 32) a x).toNat < S32000.size a)
theorem k0_idx884_inb : ∀ (v1609 : IVec S16 32) (k0_hw884 : k0_chk884 v1609), ∀ a x, ((![v1609] : Fin 1 → IVec S16 32) a x).toNat < S32000.size a := fun v1609 k0_hw884 => k0_hw884

def k0_chk885 (v664 : IVec S16 32) (v1660 : IVec S16 32) : Prop :=
  (∀ a x, ((![v1660, v664] : Fin 2 → IVec S16 32) a x).toNat < S64x512.size a)
theorem k0_idx885_inb : ∀ (v664 : IVec S16 32) (v1660 : IVec S16 32) (k0_hw885 : k0_chk885 v664 v1660), ∀ a x, ((![v1660, v664] : Fin 2 → IVec S16 32) a x).toNat < S64x512.size a := fun v664 v1660 k0_hw885 => k0_hw885

def k0_chk886 (v664 : IVec S16 32) (v1662 : IVec S16 32) : Prop :=
  (∀ a x, ((![v1662, v664] : Fin 2 → IVec S16 32) a x).toNat < S64x512.size a)
theorem k0_idx886_inb : ∀ (v664 : IVec S16 32) (v1662 : IVec S16 32) (k0_hw886 : k0_chk886 v664 v1662), ∀ a x, ((![v1662, v664] : Fin 2 → IVec S16 32) a x).toNat < S64x512.size a := fun v664 v1662 k0_hw886 => k0_hw886

def k0_chk887 (v1669 : IVec S16 32) : Prop :=
  (∀ a x, ((![v1669] : Fin 1 → IVec S16 32) a x).toNat < S32000.size a)
theorem k0_idx887_inb : ∀ (v1669 : IVec S16 32) (k0_hw887 : k0_chk887 v1669), ∀ a x, ((![v1669] : Fin 1 → IVec S16 32) a x).toNat < S32000.size a := fun v1669 k0_hw887 => k0_hw887

def k0_chk888 (v1671 : IVec S16 32) : Prop :=
  (∀ a x, ((![v1671] : Fin 1 → IVec S16 32) a x).toNat < S32000.size a)
theorem k0_idx888_inb : ∀ (v1671 : IVec S16 32) (k0_hw888 : k0_chk888 v1671), ∀ a x, ((![v1671] : Fin 1 → IVec S16 32) a x).toNat < S32000.size a := fun v1671 k0_hw888 => k0_hw888

def k0_chk889 (v1673 : IVec S16 32) : Prop :=
  (∀ a x, ((![v1673] : Fin 1 → IVec S16 32) a x).toNat < S32000.size a)
theorem k0_idx889_inb : ∀ (v1673 : IVec S16 32) (k0_hw889 : k0_chk889 v1673), ∀ a x, ((![v1673] : Fin 1 → IVec S16 32) a x).toNat < S32000.size a := fun v1673 k0_hw889 => k0_hw889

def k0_chk890 (v1675 : IVec S16 32) : Prop :=
  (∀ a x, ((![v1675] : Fin 1 → IVec S16 32) a x).toNat < S32000.size a)
theorem k0_idx890_inb : ∀ (v1675 : IVec S16 32) (k0_hw890 : k0_chk890 v1675), ∀ a x, ((![v1675] : Fin 1 → IVec S16 32) a x).toNat < S32000.size a := fun v1675 k0_hw890 => k0_hw890

def k0_chk891 (v1677 : IVec S16 32) : Prop :=
  (∀ a x, ((![v1677] : Fin 1 → IVec S16 32) a x).toNat < S32000.size a)
theorem k0_idx891_inb : ∀ (v1677 : IVec S16 32) (k0_hw891 : k0_chk891 v1677), ∀ a x, ((![v1677] : Fin 1 → IVec S16 32) a x).toNat < S32000.size a := fun v1677 k0_hw891 => k0_hw891

def k0_chk892 (v1679 : IVec S16 32) : Prop :=
  (∀ a x, ((![v1679] : Fin 1 → IVec S16 32) a x).toNat < S32000.size a)
theorem k0_idx892_inb : ∀ (v1679 : IVec S16 32) (k0_hw892 : k0_chk892 v1679), ∀ a x, ((![v1679] : Fin 1 → IVec S16 32) a x).toNat < S32000.size a := fun v1679 k0_hw892 => k0_hw892

def k0_chk893 (v664 : IVec S16 32) (v1730 : IVec S16 32) : Prop :=
  (∀ a x, ((![v1730, v664] : Fin 2 → IVec S16 32) a x).toNat < S64x512.size a)
theorem k0_idx893_inb : ∀ (v664 : IVec S16 32) (v1730 : IVec S16 32) (k0_hw893 : k0_chk893 v664 v1730), ∀ a x, ((![v1730, v664] : Fin 2 → IVec S16 32) a x).toNat < S64x512.size a := fun v664 v1730 k0_hw893 => k0_hw893

def k0_chk894 (v664 : IVec S16 32) (v1732 : IVec S16 32) : Prop :=
  (∀ a x, ((![v1732, v664] : Fin 2 → IVec S16 32) a x).toNat < S64x512.size a)
theorem k0_idx894_inb : ∀ (v664 : IVec S16 32) (v1732 : IVec S16 32) (k0_hw894 : k0_chk894 v664 v1732), ∀ a x, ((![v1732, v664] : Fin 2 → IVec S16 32) a x).toNat < S64x512.size a := fun v664 v1732 k0_hw894 => k0_hw894

def k0_chk895 (v1739 : IVec S16 32) : Prop :=
  (∀ a x, ((![v1739] : Fin 1 → IVec S16 32) a x).toNat < S32000.size a)
theorem k0_idx895_inb : ∀ (v1739 : IVec S16 32) (k0_hw895 : k0_chk895 v1739), ∀ a x, ((![v1739] : Fin 1 → IVec S16 32) a x).toNat < S32000.size a := fun v1739 k0_hw895 => k0_hw895

def k0_chk896 (v1741 : IVec S16 32) : Prop :=
  (∀ a x, ((![v1741] : Fin 1 → IVec S16 32) a x).toNat < S32000.size a)
theorem k0_idx896_inb : ∀ (v1741 : IVec S16 32) (k0_hw896 : k0_chk896 v1741), ∀ a x, ((![v1741] : Fin 1 → IVec S16 32) a x).toNat < S32000.size a := fun v1741 k0_hw896 => k0_hw896

def k0_chk897 (v1743 : IVec S16 32) : Prop :=
  (∀ a x, ((![v1743] : Fin 1 → IVec S16 32) a x).toNat < S32000.size a)
theorem k0_idx897_inb : ∀ (v1743 : IVec S16 32) (k0_hw897 : k0_chk897 v1743), ∀ a x, ((![v1743] : Fin 1 → IVec S16 32) a x).toNat < S32000.size a := fun v1743 k0_hw897 => k0_hw897

def k0_chk898 (v1745 : IVec S16 32) : Prop :=
  (∀ a x, ((![v1745] : Fin 1 → IVec S16 32) a x).toNat < S32000.size a)
theorem k0_idx898_inb : ∀ (v1745 : IVec S16 32) (k0_hw898 : k0_chk898 v1745), ∀ a x, ((![v1745] : Fin 1 → IVec S16 32) a x).toNat < S32000.size a := fun v1745 k0_hw898 => k0_hw898

def k0_chk899 (v1747 : IVec S16 32) : Prop :=
  (∀ a x, ((![v1747] : Fin 1 → IVec S16 32) a x).toNat < S32000.size a)
theorem k0_idx899_inb : ∀ (v1747 : IVec S16 32) (k0_hw899 : k0_chk899 v1747), ∀ a x, ((![v1747] : Fin 1 → IVec S16 32) a x).toNat < S32000.size a := fun v1747 k0_hw899 => k0_hw899

def k0_chk900 (v1749 : IVec S16 32) : Prop :=
  (∀ a x, ((![v1749] : Fin 1 → IVec S16 32) a x).toNat < S32000.size a)
theorem k0_idx900_inb : ∀ (v1749 : IVec S16 32) (k0_hw900 : k0_chk900 v1749), ∀ a x, ((![v1749] : Fin 1 → IVec S16 32) a x).toNat < S32000.size a := fun v1749 k0_hw900 => k0_hw900

def k0_chk901 (v664 : IVec S16 32) (v1800 : IVec S16 32) : Prop :=
  (∀ a x, ((![v1800, v664] : Fin 2 → IVec S16 32) a x).toNat < S64x512.size a)
theorem k0_idx901_inb : ∀ (v664 : IVec S16 32) (v1800 : IVec S16 32) (k0_hw901 : k0_chk901 v664 v1800), ∀ a x, ((![v1800, v664] : Fin 2 → IVec S16 32) a x).toNat < S64x512.size a := fun v664 v1800 k0_hw901 => k0_hw901

def k0_chk902 (v664 : IVec S16 32) (v1802 : IVec S16 32) : Prop :=
  (∀ a x, ((![v1802, v664] : Fin 2 → IVec S16 32) a x).toNat < S64x512.size a)
theorem k0_idx902_inb : ∀ (v664 : IVec S16 32) (v1802 : IVec S16 32) (k0_hw902 : k0_chk902 v664 v1802), ∀ a x, ((![v1802, v664] : Fin 2 → IVec S16 32) a x).toNat < S64x512.size a := fun v664 v1802 k0_hw902 => k0_hw902

def k0_chk903 (v1809 : IVec S16 32) : Prop :=
  (∀ a x, ((![v1809] : Fin 1 → IVec S16 32) a x).toNat < S32000.size a)
theorem k0_idx903_inb : ∀ (v1809 : IVec S16 32) (k0_hw903 : k0_chk903 v1809), ∀ a x, ((![v1809] : Fin 1 → IVec S16 32) a x).toNat < S32000.size a := fun v1809 k0_hw903 => k0_hw903

def k0_chk904 (v1811 : IVec S16 32) : Prop :=
  (∀ a x, ((![v1811] : Fin 1 → IVec S16 32) a x).toNat < S32000.size a)
theorem k0_idx904_inb : ∀ (v1811 : IVec S16 32) (k0_hw904 : k0_chk904 v1811), ∀ a x, ((![v1811] : Fin 1 → IVec S16 32) a x).toNat < S32000.size a := fun v1811 k0_hw904 => k0_hw904

def k0_chk905 (v1813 : IVec S16 32) : Prop :=
  (∀ a x, ((![v1813] : Fin 1 → IVec S16 32) a x).toNat < S32000.size a)
theorem k0_idx905_inb : ∀ (v1813 : IVec S16 32) (k0_hw905 : k0_chk905 v1813), ∀ a x, ((![v1813] : Fin 1 → IVec S16 32) a x).toNat < S32000.size a := fun v1813 k0_hw905 => k0_hw905

def k0_chk906 (v1815 : IVec S16 32) : Prop :=
  (∀ a x, ((![v1815] : Fin 1 → IVec S16 32) a x).toNat < S32000.size a)
theorem k0_idx906_inb : ∀ (v1815 : IVec S16 32) (k0_hw906 : k0_chk906 v1815), ∀ a x, ((![v1815] : Fin 1 → IVec S16 32) a x).toNat < S32000.size a := fun v1815 k0_hw906 => k0_hw906

def k0_chk907 (v1817 : IVec S16 32) : Prop :=
  (∀ a x, ((![v1817] : Fin 1 → IVec S16 32) a x).toNat < S32000.size a)
theorem k0_idx907_inb : ∀ (v1817 : IVec S16 32) (k0_hw907 : k0_chk907 v1817), ∀ a x, ((![v1817] : Fin 1 → IVec S16 32) a x).toNat < S32000.size a := fun v1817 k0_hw907 => k0_hw907

def k0_chk908 (v1819 : IVec S16 32) : Prop :=
  (∀ a x, ((![v1819] : Fin 1 → IVec S16 32) a x).toNat < S32000.size a)
theorem k0_idx908_inb : ∀ (v1819 : IVec S16 32) (k0_hw908 : k0_chk908 v1819), ∀ a x, ((![v1819] : Fin 1 → IVec S16 32) a x).toNat < S32000.size a := fun v1819 k0_hw908 => k0_hw908

def k0_chk909 (v664 : IVec S16 32) (v1870 : IVec S16 32) : Prop :=
  (∀ a x, ((![v1870, v664] : Fin 2 → IVec S16 32) a x).toNat < S64x512.size a)
theorem k0_idx909_inb : ∀ (v664 : IVec S16 32) (v1870 : IVec S16 32) (k0_hw909 : k0_chk909 v664 v1870), ∀ a x, ((![v1870, v664] : Fin 2 → IVec S16 32) a x).toNat < S64x512.size a := fun v664 v1870 k0_hw909 => k0_hw909

def k0_chk910 (v664 : IVec S16 32) (v1872 : IVec S16 32) : Prop :=
  (∀ a x, ((![v1872, v664] : Fin 2 → IVec S16 32) a x).toNat < S64x512.size a)
theorem k0_idx910_inb : ∀ (v664 : IVec S16 32) (v1872 : IVec S16 32) (k0_hw910 : k0_chk910 v664 v1872), ∀ a x, ((![v1872, v664] : Fin 2 → IVec S16 32) a x).toNat < S64x512.size a := fun v664 v1872 k0_hw910 => k0_hw910

def k0_chk911 (v1879 : IVec S16 32) : Prop :=
  (∀ a x, ((![v1879] : Fin 1 → IVec S16 32) a x).toNat < S32000.size a)
theorem k0_idx911_inb : ∀ (v1879 : IVec S16 32) (k0_hw911 : k0_chk911 v1879), ∀ a x, ((![v1879] : Fin 1 → IVec S16 32) a x).toNat < S32000.size a := fun v1879 k0_hw911 => k0_hw911

def k0_chk912 (v1881 : IVec S16 32) : Prop :=
  (∀ a x, ((![v1881] : Fin 1 → IVec S16 32) a x).toNat < S32000.size a)
theorem k0_idx912_inb : ∀ (v1881 : IVec S16 32) (k0_hw912 : k0_chk912 v1881), ∀ a x, ((![v1881] : Fin 1 → IVec S16 32) a x).toNat < S32000.size a := fun v1881 k0_hw912 => k0_hw912

def k0_chk913 (v1883 : IVec S16 32) : Prop :=
  (∀ a x, ((![v1883] : Fin 1 → IVec S16 32) a x).toNat < S32000.size a)
theorem k0_idx913_inb : ∀ (v1883 : IVec S16 32) (k0_hw913 : k0_chk913 v1883), ∀ a x, ((![v1883] : Fin 1 → IVec S16 32) a x).toNat < S32000.size a := fun v1883 k0_hw913 => k0_hw913

def k0_chk914 (v1885 : IVec S16 32) : Prop :=
  (∀ a x, ((![v1885] : Fin 1 → IVec S16 32) a x).toNat < S32000.size a)
theorem k0_idx914_inb : ∀ (v1885 : IVec S16 32) (k0_hw914 : k0_chk914 v1885), ∀ a x, ((![v1885] : Fin 1 → IVec S16 32) a x).toNat < S32000.size a := fun v1885 k0_hw914 => k0_hw914

def k0_chk915 (v1887 : IVec S16 32) : Prop :=
  (∀ a x, ((![v1887] : Fin 1 → IVec S16 32) a x).toNat < S32000.size a)
theorem k0_idx915_inb : ∀ (v1887 : IVec S16 32) (k0_hw915 : k0_chk915 v1887), ∀ a x, ((![v1887] : Fin 1 → IVec S16 32) a x).toNat < S32000.size a := fun v1887 k0_hw915 => k0_hw915

def k0_chk916 (v1889 : IVec S16 32) : Prop :=
  (∀ a x, ((![v1889] : Fin 1 → IVec S16 32) a x).toNat < S32000.size a)
theorem k0_idx916_inb : ∀ (v1889 : IVec S16 32) (k0_hw916 : k0_chk916 v1889), ∀ a x, ((![v1889] : Fin 1 → IVec S16 32) a x).toNat < S32000.size a := fun v1889 k0_hw916 => k0_hw916

def k0_chk917 (v664 : IVec S16 32) (v1940 : IVec S16 32) : Prop :=
  (∀ a x, ((![v1940, v664] : Fin 2 → IVec S16 32) a x).toNat < S64x512.size a)
theorem k0_idx917_inb : ∀ (v664 : IVec S16 32) (v1940 : IVec S16 32) (k0_hw917 : k0_chk917 v664 v1940), ∀ a x, ((![v1940, v664] : Fin 2 → IVec S16 32) a x).toNat < S64x512.size a := fun v664 v1940 k0_hw917 => k0_hw917

def k0_chk918 (v664 : IVec S16 32) (v1942 : IVec S16 32) : Prop :=
  (∀ a x, ((![v1942, v664] : Fin 2 → IVec S16 32) a x).toNat < S64x512.size a)
theorem k0_idx918_inb : ∀ (v664 : IVec S16 32) (v1942 : IVec S16 32) (k0_hw918 : k0_chk918 v664 v1942), ∀ a x, ((![v1942, v664] : Fin 2 → IVec S16 32) a x).toNat < S64x512.size a := fun v664 v1942 k0_hw918 => k0_hw918

def k0_chk919 (v1949 : IVec S16 32) : Prop :=
  (∀ a x, ((![v1949] : Fin 1 → IVec S16 32) a x).toNat < S32000.size a)
theorem k0_idx919_inb : ∀ (v1949 : IVec S16 32) (k0_hw919 : k0_chk919 v1949), ∀ a x, ((![v1949] : Fin 1 → IVec S16 32) a x).toNat < S32000.size a := fun v1949 k0_hw919 => k0_hw919

def k0_chk920 (v1951 : IVec S16 32) : Prop :=
  (∀ a x, ((![v1951] : Fin 1 → IVec S16 32) a x).toNat < S32000.size a)
theorem k0_idx920_inb : ∀ (v1951 : IVec S16 32) (k0_hw920 : k0_chk920 v1951), ∀ a x, ((![v1951] : Fin 1 → IVec S16 32) a x).toNat < S32000.size a := fun v1951 k0_hw920 => k0_hw920

def k0_chk921 (v1953 : IVec S16 32) : Prop :=
  (∀ a x, ((![v1953] : Fin 1 → IVec S16 32) a x).toNat < S32000.size a)
theorem k0_idx921_inb : ∀ (v1953 : IVec S16 32) (k0_hw921 : k0_chk921 v1953), ∀ a x, ((![v1953] : Fin 1 → IVec S16 32) a x).toNat < S32000.size a := fun v1953 k0_hw921 => k0_hw921

def k0_chk922 (v1955 : IVec S16 32) : Prop :=
  (∀ a x, ((![v1955] : Fin 1 → IVec S16 32) a x).toNat < S32000.size a)
theorem k0_idx922_inb : ∀ (v1955 : IVec S16 32) (k0_hw922 : k0_chk922 v1955), ∀ a x, ((![v1955] : Fin 1 → IVec S16 32) a x).toNat < S32000.size a := fun v1955 k0_hw922 => k0_hw922

def k0_chk923 (v1957 : IVec S16 32) : Prop :=
  (∀ a x, ((![v1957] : Fin 1 → IVec S16 32) a x).toNat < S32000.size a)
theorem k0_idx923_inb : ∀ (v1957 : IVec S16 32) (k0_hw923 : k0_chk923 v1957), ∀ a x, ((![v1957] : Fin 1 → IVec S16 32) a x).toNat < S32000.size a := fun v1957 k0_hw923 => k0_hw923

def k0_chk924 (v1959 : IVec S16 32) : Prop :=
  (∀ a x, ((![v1959] : Fin 1 → IVec S16 32) a x).toNat < S32000.size a)
theorem k0_idx924_inb : ∀ (v1959 : IVec S16 32) (k0_hw924 : k0_chk924 v1959), ∀ a x, ((![v1959] : Fin 1 → IVec S16 32) a x).toNat < S32000.size a := fun v1959 k0_hw924 => k0_hw924

def k0_chk925 (v664 : IVec S16 32) (v2010 : IVec S16 32) : Prop :=
  (∀ a x, ((![v2010, v664] : Fin 2 → IVec S16 32) a x).toNat < S64x512.size a)
theorem k0_idx925_inb : ∀ (v664 : IVec S16 32) (v2010 : IVec S16 32) (k0_hw925 : k0_chk925 v664 v2010), ∀ a x, ((![v2010, v664] : Fin 2 → IVec S16 32) a x).toNat < S64x512.size a := fun v664 v2010 k0_hw925 => k0_hw925

def k0_chk926 (v664 : IVec S16 32) (v2012 : IVec S16 32) : Prop :=
  (∀ a x, ((![v2012, v664] : Fin 2 → IVec S16 32) a x).toNat < S64x512.size a)
theorem k0_idx926_inb : ∀ (v664 : IVec S16 32) (v2012 : IVec S16 32) (k0_hw926 : k0_chk926 v664 v2012), ∀ a x, ((![v2012, v664] : Fin 2 → IVec S16 32) a x).toNat < S64x512.size a := fun v664 v2012 k0_hw926 => k0_hw926

def k0_chk927 (v2019 : IVec S16 32) : Prop :=
  (∀ a x, ((![v2019] : Fin 1 → IVec S16 32) a x).toNat < S32000.size a)
theorem k0_idx927_inb : ∀ (v2019 : IVec S16 32) (k0_hw927 : k0_chk927 v2019), ∀ a x, ((![v2019] : Fin 1 → IVec S16 32) a x).toNat < S32000.size a := fun v2019 k0_hw927 => k0_hw927

def k0_chk928 (v2021 : IVec S16 32) : Prop :=
  (∀ a x, ((![v2021] : Fin 1 → IVec S16 32) a x).toNat < S32000.size a)
theorem k0_idx928_inb : ∀ (v2021 : IVec S16 32) (k0_hw928 : k0_chk928 v2021), ∀ a x, ((![v2021] : Fin 1 → IVec S16 32) a x).toNat < S32000.size a := fun v2021 k0_hw928 => k0_hw928

def k0_chk929 (v2023 : IVec S16 32) : Prop :=
  (∀ a x, ((![v2023] : Fin 1 → IVec S16 32) a x).toNat < S32000.size a)
theorem k0_idx929_inb : ∀ (v2023 : IVec S16 32) (k0_hw929 : k0_chk929 v2023), ∀ a x, ((![v2023] : Fin 1 → IVec S16 32) a x).toNat < S32000.size a := fun v2023 k0_hw929 => k0_hw929

def k0_chk930 (v2025 : IVec S16 32) : Prop :=
  (∀ a x, ((![v2025] : Fin 1 → IVec S16 32) a x).toNat < S32000.size a)
theorem k0_idx930_inb : ∀ (v2025 : IVec S16 32) (k0_hw930 : k0_chk930 v2025), ∀ a x, ((![v2025] : Fin 1 → IVec S16 32) a x).toNat < S32000.size a := fun v2025 k0_hw930 => k0_hw930

def k0_chk931 (v2027 : IVec S16 32) : Prop :=
  (∀ a x, ((![v2027] : Fin 1 → IVec S16 32) a x).toNat < S32000.size a)
theorem k0_idx931_inb : ∀ (v2027 : IVec S16 32) (k0_hw931 : k0_chk931 v2027), ∀ a x, ((![v2027] : Fin 1 → IVec S16 32) a x).toNat < S32000.size a := fun v2027 k0_hw931 => k0_hw931

def k0_chk932 (v2029 : IVec S16 32) : Prop :=
  (∀ a x, ((![v2029] : Fin 1 → IVec S16 32) a x).toNat < S32000.size a)
theorem k0_idx932_inb : ∀ (v2029 : IVec S16 32) (k0_hw932 : k0_chk932 v2029), ∀ a x, ((![v2029] : Fin 1 → IVec S16 32) a x).toNat < S32000.size a := fun v2029 k0_hw932 => k0_hw932

def k0_chk933 (v664 : IVec S16 32) (v2080 : IVec S16 32) : Prop :=
  (∀ a x, ((![v2080, v664] : Fin 2 → IVec S16 32) a x).toNat < S64x512.size a)
theorem k0_idx933_inb : ∀ (v664 : IVec S16 32) (v2080 : IVec S16 32) (k0_hw933 : k0_chk933 v664 v2080), ∀ a x, ((![v2080, v664] : Fin 2 → IVec S16 32) a x).toNat < S64x512.size a := fun v664 v2080 k0_hw933 => k0_hw933

def k0_chk934 (v664 : IVec S16 32) (v2082 : IVec S16 32) : Prop :=
  (∀ a x, ((![v2082, v664] : Fin 2 → IVec S16 32) a x).toNat < S64x512.size a)
theorem k0_idx934_inb : ∀ (v664 : IVec S16 32) (v2082 : IVec S16 32) (k0_hw934 : k0_chk934 v664 v2082), ∀ a x, ((![v2082, v664] : Fin 2 → IVec S16 32) a x).toNat < S64x512.size a := fun v664 v2082 k0_hw934 => k0_hw934

def k0_chk935 (v2089 : IVec S16 32) : Prop :=
  (∀ a x, ((![v2089] : Fin 1 → IVec S16 32) a x).toNat < S32000.size a)
theorem k0_idx935_inb : ∀ (v2089 : IVec S16 32) (k0_hw935 : k0_chk935 v2089), ∀ a x, ((![v2089] : Fin 1 → IVec S16 32) a x).toNat < S32000.size a := fun v2089 k0_hw935 => k0_hw935

def k0_chk936 (v2091 : IVec S16 32) : Prop :=
  (∀ a x, ((![v2091] : Fin 1 → IVec S16 32) a x).toNat < S32000.size a)
theorem k0_idx936_inb : ∀ (v2091 : IVec S16 32) (k0_hw936 : k0_chk936 v2091), ∀ a x, ((![v2091] : Fin 1 → IVec S16 32) a x).toNat < S32000.size a := fun v2091 k0_hw936 => k0_hw936

def k0_chk937 (v2093 : IVec S16 32) : Prop :=
  (∀ a x, ((![v2093] : Fin 1 → IVec S16 32) a x).toNat < S32000.size a)
theorem k0_idx937_inb : ∀ (v2093 : IVec S16 32) (k0_hw937 : k0_chk937 v2093), ∀ a x, ((![v2093] : Fin 1 → IVec S16 32) a x).toNat < S32000.size a := fun v2093 k0_hw937 => k0_hw937

def k0_chk938 (v2095 : IVec S16 32) : Prop :=
  (∀ a x, ((![v2095] : Fin 1 → IVec S16 32) a x).toNat < S32000.size a)
theorem k0_idx938_inb : ∀ (v2095 : IVec S16 32) (k0_hw938 : k0_chk938 v2095), ∀ a x, ((![v2095] : Fin 1 → IVec S16 32) a x).toNat < S32000.size a := fun v2095 k0_hw938 => k0_hw938

def k0_chk939 (v2097 : IVec S16 32) : Prop :=
  (∀ a x, ((![v2097] : Fin 1 → IVec S16 32) a x).toNat < S32000.size a)
theorem k0_idx939_inb : ∀ (v2097 : IVec S16 32) (k0_hw939 : k0_chk939 v2097), ∀ a x, ((![v2097] : Fin 1 → IVec S16 32) a x).toNat < S32000.size a := fun v2097 k0_hw939 => k0_hw939

def k0_chk940 (v2099 : IVec S16 32) : Prop :=
  (∀ a x, ((![v2099] : Fin 1 → IVec S16 32) a x).toNat < S32000.size a)
theorem k0_idx940_inb : ∀ (v2099 : IVec S16 32) (k0_hw940 : k0_chk940 v2099), ∀ a x, ((![v2099] : Fin 1 → IVec S16 32) a x).toNat < S32000.size a := fun v2099 k0_hw940 => k0_hw940

def k0_chk941 (v664 : IVec S16 32) (v2150 : IVec S16 32) : Prop :=
  (∀ a x, ((![v2150, v664] : Fin 2 → IVec S16 32) a x).toNat < S64x512.size a)
theorem k0_idx941_inb : ∀ (v664 : IVec S16 32) (v2150 : IVec S16 32) (k0_hw941 : k0_chk941 v664 v2150), ∀ a x, ((![v2150, v664] : Fin 2 → IVec S16 32) a x).toNat < S64x512.size a := fun v664 v2150 k0_hw941 => k0_hw941

def k0_chk942 (v664 : IVec S16 32) (v2152 : IVec S16 32) : Prop :=
  (∀ a x, ((![v2152, v664] : Fin 2 → IVec S16 32) a x).toNat < S64x512.size a)
theorem k0_idx942_inb : ∀ (v664 : IVec S16 32) (v2152 : IVec S16 32) (k0_hw942 : k0_chk942 v664 v2152), ∀ a x, ((![v2152, v664] : Fin 2 → IVec S16 32) a x).toNat < S64x512.size a := fun v664 v2152 k0_hw942 => k0_hw942

def k0_chk943 (v2159 : IVec S16 32) : Prop :=
  (∀ a x, ((![v2159] : Fin 1 → IVec S16 32) a x).toNat < S32000.size a)
theorem k0_idx943_inb : ∀ (v2159 : IVec S16 32) (k0_hw943 : k0_chk943 v2159), ∀ a x, ((![v2159] : Fin 1 → IVec S16 32) a x).toNat < S32000.size a := fun v2159 k0_hw943 => k0_hw943

def k0_chk944 (v2161 : IVec S16 32) : Prop :=
  (∀ a x, ((![v2161] : Fin 1 → IVec S16 32) a x).toNat < S32000.size a)
theorem k0_idx944_inb : ∀ (v2161 : IVec S16 32) (k0_hw944 : k0_chk944 v2161), ∀ a x, ((![v2161] : Fin 1 → IVec S16 32) a x).toNat < S32000.size a := fun v2161 k0_hw944 => k0_hw944

def k0_chk945 (v2163 : IVec S16 32) : Prop :=
  (∀ a x, ((![v2163] : Fin 1 → IVec S16 32) a x).toNat < S32000.size a)
theorem k0_idx945_inb : ∀ (v2163 : IVec S16 32) (k0_hw945 : k0_chk945 v2163), ∀ a x, ((![v2163] : Fin 1 → IVec S16 32) a x).toNat < S32000.size a := fun v2163 k0_hw945 => k0_hw945

def k0_chk946 (v2165 : IVec S16 32) : Prop :=
  (∀ a x, ((![v2165] : Fin 1 → IVec S16 32) a x).toNat < S32000.size a)
theorem k0_idx946_inb : ∀ (v2165 : IVec S16 32) (k0_hw946 : k0_chk946 v2165), ∀ a x, ((![v2165] : Fin 1 → IVec S16 32) a x).toNat < S32000.size a := fun v2165 k0_hw946 => k0_hw946

def k0_chk947 (v2167 : IVec S16 32) : Prop :=
  (∀ a x, ((![v2167] : Fin 1 → IVec S16 32) a x).toNat < S32000.size a)
theorem k0_idx947_inb : ∀ (v2167 : IVec S16 32) (k0_hw947 : k0_chk947 v2167), ∀ a x, ((![v2167] : Fin 1 → IVec S16 32) a x).toNat < S32000.size a := fun v2167 k0_hw947 => k0_hw947

def k0_chk948 (v2169 : IVec S16 32) : Prop :=
  (∀ a x, ((![v2169] : Fin 1 → IVec S16 32) a x).toNat < S32000.size a)
theorem k0_idx948_inb : ∀ (v2169 : IVec S16 32) (k0_hw948 : k0_chk948 v2169), ∀ a x, ((![v2169] : Fin 1 → IVec S16 32) a x).toNat < S32000.size a := fun v2169 k0_hw948 => k0_hw948

def k0_chk949 (v664 : IVec S16 32) (v2220 : IVec S16 32) : Prop :=
  (∀ a x, ((![v2220, v664] : Fin 2 → IVec S16 32) a x).toNat < S64x512.size a)
theorem k0_idx949_inb : ∀ (v664 : IVec S16 32) (v2220 : IVec S16 32) (k0_hw949 : k0_chk949 v664 v2220), ∀ a x, ((![v2220, v664] : Fin 2 → IVec S16 32) a x).toNat < S64x512.size a := fun v664 v2220 k0_hw949 => k0_hw949

def k0_chk950 (v664 : IVec S16 32) (v2222 : IVec S16 32) : Prop :=
  (∀ a x, ((![v2222, v664] : Fin 2 → IVec S16 32) a x).toNat < S64x512.size a)
theorem k0_idx950_inb : ∀ (v664 : IVec S16 32) (v2222 : IVec S16 32) (k0_hw950 : k0_chk950 v664 v2222), ∀ a x, ((![v2222, v664] : Fin 2 → IVec S16 32) a x).toNat < S64x512.size a := fun v664 v2222 k0_hw950 => k0_hw950

def k0_chk951 (v2229 : IVec S16 32) : Prop :=
  (∀ a x, ((![v2229] : Fin 1 → IVec S16 32) a x).toNat < S32000.size a)
theorem k0_idx951_inb : ∀ (v2229 : IVec S16 32) (k0_hw951 : k0_chk951 v2229), ∀ a x, ((![v2229] : Fin 1 → IVec S16 32) a x).toNat < S32000.size a := fun v2229 k0_hw951 => k0_hw951

def k0_chk952 (v2231 : IVec S16 32) : Prop :=
  (∀ a x, ((![v2231] : Fin 1 → IVec S16 32) a x).toNat < S32000.size a)
theorem k0_idx952_inb : ∀ (v2231 : IVec S16 32) (k0_hw952 : k0_chk952 v2231), ∀ a x, ((![v2231] : Fin 1 → IVec S16 32) a x).toNat < S32000.size a := fun v2231 k0_hw952 => k0_hw952

def k0_chk953 (v2233 : IVec S16 32) : Prop :=
  (∀ a x, ((![v2233] : Fin 1 → IVec S16 32) a x).toNat < S32000.size a)
theorem k0_idx953_inb : ∀ (v2233 : IVec S16 32) (k0_hw953 : k0_chk953 v2233), ∀ a x, ((![v2233] : Fin 1 → IVec S16 32) a x).toNat < S32000.size a := fun v2233 k0_hw953 => k0_hw953

def k0_chk954 (v2235 : IVec S16 32) : Prop :=
  (∀ a x, ((![v2235] : Fin 1 → IVec S16 32) a x).toNat < S32000.size a)
theorem k0_idx954_inb : ∀ (v2235 : IVec S16 32) (k0_hw954 : k0_chk954 v2235), ∀ a x, ((![v2235] : Fin 1 → IVec S16 32) a x).toNat < S32000.size a := fun v2235 k0_hw954 => k0_hw954

def k0_chk955 (v2237 : IVec S16 32) : Prop :=
  (∀ a x, ((![v2237] : Fin 1 → IVec S16 32) a x).toNat < S32000.size a)
theorem k0_idx955_inb : ∀ (v2237 : IVec S16 32) (k0_hw955 : k0_chk955 v2237), ∀ a x, ((![v2237] : Fin 1 → IVec S16 32) a x).toNat < S32000.size a := fun v2237 k0_hw955 => k0_hw955

def k0_chk956 (v2239 : IVec S16 32) : Prop :=
  (∀ a x, ((![v2239] : Fin 1 → IVec S16 32) a x).toNat < S32000.size a)
theorem k0_idx956_inb : ∀ (v2239 : IVec S16 32) (k0_hw956 : k0_chk956 v2239), ∀ a x, ((![v2239] : Fin 1 → IVec S16 32) a x).toNat < S32000.size a := fun v2239 k0_hw956 => k0_hw956

def k0_chk957 (v664 : IVec S16 32) (v2290 : IVec S16 32) : Prop :=
  (∀ a x, ((![v2290, v664] : Fin 2 → IVec S16 32) a x).toNat < S64x512.size a)
theorem k0_idx957_inb : ∀ (v664 : IVec S16 32) (v2290 : IVec S16 32) (k0_hw957 : k0_chk957 v664 v2290), ∀ a x, ((![v2290, v664] : Fin 2 → IVec S16 32) a x).toNat < S64x512.size a := fun v664 v2290 k0_hw957 => k0_hw957

def k0_chk958 (v664 : IVec S16 32) (v2292 : IVec S16 32) : Prop :=
  (∀ a x, ((![v2292, v664] : Fin 2 → IVec S16 32) a x).toNat < S64x512.size a)
theorem k0_idx958_inb : ∀ (v664 : IVec S16 32) (v2292 : IVec S16 32) (k0_hw958 : k0_chk958 v664 v2292), ∀ a x, ((![v2292, v664] : Fin 2 → IVec S16 32) a x).toNat < S64x512.size a := fun v664 v2292 k0_hw958 => k0_hw958

def k0_chk959 (v2299 : IVec S16 32) : Prop :=
  (∀ a x, ((![v2299] : Fin 1 → IVec S16 32) a x).toNat < S32000.size a)
theorem k0_idx959_inb : ∀ (v2299 : IVec S16 32) (k0_hw959 : k0_chk959 v2299), ∀ a x, ((![v2299] : Fin 1 → IVec S16 32) a x).toNat < S32000.size a := fun v2299 k0_hw959 => k0_hw959

def k0_chk960 (v2301 : IVec S16 32) : Prop :=
  (∀ a x, ((![v2301] : Fin 1 → IVec S16 32) a x).toNat < S32000.size a)
theorem k0_idx960_inb : ∀ (v2301 : IVec S16 32) (k0_hw960 : k0_chk960 v2301), ∀ a x, ((![v2301] : Fin 1 → IVec S16 32) a x).toNat < S32000.size a := fun v2301 k0_hw960 => k0_hw960

def k0_chk961 (v2303 : IVec S16 32) : Prop :=
  (∀ a x, ((![v2303] : Fin 1 → IVec S16 32) a x).toNat < S32000.size a)
theorem k0_idx961_inb : ∀ (v2303 : IVec S16 32) (k0_hw961 : k0_chk961 v2303), ∀ a x, ((![v2303] : Fin 1 → IVec S16 32) a x).toNat < S32000.size a := fun v2303 k0_hw961 => k0_hw961

def k0_chk962 (v2305 : IVec S16 32) : Prop :=
  (∀ a x, ((![v2305] : Fin 1 → IVec S16 32) a x).toNat < S32000.size a)
theorem k0_idx962_inb : ∀ (v2305 : IVec S16 32) (k0_hw962 : k0_chk962 v2305), ∀ a x, ((![v2305] : Fin 1 → IVec S16 32) a x).toNat < S32000.size a := fun v2305 k0_hw962 => k0_hw962

def k0_chk963 (v2307 : IVec S16 32) : Prop :=
  (∀ a x, ((![v2307] : Fin 1 → IVec S16 32) a x).toNat < S32000.size a)
theorem k0_idx963_inb : ∀ (v2307 : IVec S16 32) (k0_hw963 : k0_chk963 v2307), ∀ a x, ((![v2307] : Fin 1 → IVec S16 32) a x).toNat < S32000.size a := fun v2307 k0_hw963 => k0_hw963

def k0_chk964 (v2309 : IVec S16 32) : Prop :=
  (∀ a x, ((![v2309] : Fin 1 → IVec S16 32) a x).toNat < S32000.size a)
theorem k0_idx964_inb : ∀ (v2309 : IVec S16 32) (k0_hw964 : k0_chk964 v2309), ∀ a x, ((![v2309] : Fin 1 → IVec S16 32) a x).toNat < S32000.size a := fun v2309 k0_hw964 => k0_hw964

def k0_chk965 (v664 : IVec S16 32) (v2360 : IVec S16 32) : Prop :=
  (∀ a x, ((![v2360, v664] : Fin 2 → IVec S16 32) a x).toNat < S64x512.size a)
theorem k0_idx965_inb : ∀ (v664 : IVec S16 32) (v2360 : IVec S16 32) (k0_hw965 : k0_chk965 v664 v2360), ∀ a x, ((![v2360, v664] : Fin 2 → IVec S16 32) a x).toNat < S64x512.size a := fun v664 v2360 k0_hw965 => k0_hw965

def k0_chk966 (v664 : IVec S16 32) (v2362 : IVec S16 32) : Prop :=
  (∀ a x, ((![v2362, v664] : Fin 2 → IVec S16 32) a x).toNat < S64x512.size a)
theorem k0_idx966_inb : ∀ (v664 : IVec S16 32) (v2362 : IVec S16 32) (k0_hw966 : k0_chk966 v664 v2362), ∀ a x, ((![v2362, v664] : Fin 2 → IVec S16 32) a x).toNat < S64x512.size a := fun v664 v2362 k0_hw966 => k0_hw966

def k0_chk967 (v2369 : IVec S16 32) : Prop :=
  (∀ a x, ((![v2369] : Fin 1 → IVec S16 32) a x).toNat < S32000.size a)
theorem k0_idx967_inb : ∀ (v2369 : IVec S16 32) (k0_hw967 : k0_chk967 v2369), ∀ a x, ((![v2369] : Fin 1 → IVec S16 32) a x).toNat < S32000.size a := fun v2369 k0_hw967 => k0_hw967

def k0_chk968 (v2371 : IVec S16 32) : Prop :=
  (∀ a x, ((![v2371] : Fin 1 → IVec S16 32) a x).toNat < S32000.size a)
theorem k0_idx968_inb : ∀ (v2371 : IVec S16 32) (k0_hw968 : k0_chk968 v2371), ∀ a x, ((![v2371] : Fin 1 → IVec S16 32) a x).toNat < S32000.size a := fun v2371 k0_hw968 => k0_hw968

def k0_chk969 (v2373 : IVec S16 32) : Prop :=
  (∀ a x, ((![v2373] : Fin 1 → IVec S16 32) a x).toNat < S32000.size a)
theorem k0_idx969_inb : ∀ (v2373 : IVec S16 32) (k0_hw969 : k0_chk969 v2373), ∀ a x, ((![v2373] : Fin 1 → IVec S16 32) a x).toNat < S32000.size a := fun v2373 k0_hw969 => k0_hw969

def k0_chk970 (v2375 : IVec S16 32) : Prop :=
  (∀ a x, ((![v2375] : Fin 1 → IVec S16 32) a x).toNat < S32000.size a)
theorem k0_idx970_inb : ∀ (v2375 : IVec S16 32) (k0_hw970 : k0_chk970 v2375), ∀ a x, ((![v2375] : Fin 1 → IVec S16 32) a x).toNat < S32000.size a := fun v2375 k0_hw970 => k0_hw970

def k0_chk971 (v2377 : IVec S16 32) : Prop :=
  (∀ a x, ((![v2377] : Fin 1 → IVec S16 32) a x).toNat < S32000.size a)
theorem k0_idx971_inb : ∀ (v2377 : IVec S16 32) (k0_hw971 : k0_chk971 v2377), ∀ a x, ((![v2377] : Fin 1 → IVec S16 32) a x).toNat < S32000.size a := fun v2377 k0_hw971 => k0_hw971

def k0_chk972 (v2379 : IVec S16 32) : Prop :=
  (∀ a x, ((![v2379] : Fin 1 → IVec S16 32) a x).toNat < S32000.size a)
theorem k0_idx972_inb : ∀ (v2379 : IVec S16 32) (k0_hw972 : k0_chk972 v2379), ∀ a x, ((![v2379] : Fin 1 → IVec S16 32) a x).toNat < S32000.size a := fun v2379 k0_hw972 => k0_hw972

def k0_chk973 (v664 : IVec S16 32) (v2430 : IVec S16 32) : Prop :=
  (∀ a x, ((![v2430, v664] : Fin 2 → IVec S16 32) a x).toNat < S64x512.size a)
theorem k0_idx973_inb : ∀ (v664 : IVec S16 32) (v2430 : IVec S16 32) (k0_hw973 : k0_chk973 v664 v2430), ∀ a x, ((![v2430, v664] : Fin 2 → IVec S16 32) a x).toNat < S64x512.size a := fun v664 v2430 k0_hw973 => k0_hw973

def k0_chk974 (v664 : IVec S16 32) (v2432 : IVec S16 32) : Prop :=
  (∀ a x, ((![v2432, v664] : Fin 2 → IVec S16 32) a x).toNat < S64x512.size a)
theorem k0_idx974_inb : ∀ (v664 : IVec S16 32) (v2432 : IVec S16 32) (k0_hw974 : k0_chk974 v664 v2432), ∀ a x, ((![v2432, v664] : Fin 2 → IVec S16 32) a x).toNat < S64x512.size a := fun v664 v2432 k0_hw974 => k0_hw974

def k0_chk975 (v2439 : IVec S16 32) : Prop :=
  (∀ a x, ((![v2439] : Fin 1 → IVec S16 32) a x).toNat < S32000.size a)
theorem k0_idx975_inb : ∀ (v2439 : IVec S16 32) (k0_hw975 : k0_chk975 v2439), ∀ a x, ((![v2439] : Fin 1 → IVec S16 32) a x).toNat < S32000.size a := fun v2439 k0_hw975 => k0_hw975

def k0_chk976 (v2441 : IVec S16 32) : Prop :=
  (∀ a x, ((![v2441] : Fin 1 → IVec S16 32) a x).toNat < S32000.size a)
theorem k0_idx976_inb : ∀ (v2441 : IVec S16 32) (k0_hw976 : k0_chk976 v2441), ∀ a x, ((![v2441] : Fin 1 → IVec S16 32) a x).toNat < S32000.size a := fun v2441 k0_hw976 => k0_hw976

def k0_chk977 (v2443 : IVec S16 32) : Prop :=
  (∀ a x, ((![v2443] : Fin 1 → IVec S16 32) a x).toNat < S32000.size a)
theorem k0_idx977_inb : ∀ (v2443 : IVec S16 32) (k0_hw977 : k0_chk977 v2443), ∀ a x, ((![v2443] : Fin 1 → IVec S16 32) a x).toNat < S32000.size a := fun v2443 k0_hw977 => k0_hw977

def k0_chk978 (v2445 : IVec S16 32) : Prop :=
  (∀ a x, ((![v2445] : Fin 1 → IVec S16 32) a x).toNat < S32000.size a)
theorem k0_idx978_inb : ∀ (v2445 : IVec S16 32) (k0_hw978 : k0_chk978 v2445), ∀ a x, ((![v2445] : Fin 1 → IVec S16 32) a x).toNat < S32000.size a := fun v2445 k0_hw978 => k0_hw978

def k0_chk979 (v2447 : IVec S16 32) : Prop :=
  (∀ a x, ((![v2447] : Fin 1 → IVec S16 32) a x).toNat < S32000.size a)
theorem k0_idx979_inb : ∀ (v2447 : IVec S16 32) (k0_hw979 : k0_chk979 v2447), ∀ a x, ((![v2447] : Fin 1 → IVec S16 32) a x).toNat < S32000.size a := fun v2447 k0_hw979 => k0_hw979

def k0_chk980 (v2449 : IVec S16 32) : Prop :=
  (∀ a x, ((![v2449] : Fin 1 → IVec S16 32) a x).toNat < S32000.size a)
theorem k0_idx980_inb : ∀ (v2449 : IVec S16 32) (k0_hw980 : k0_chk980 v2449), ∀ a x, ((![v2449] : Fin 1 → IVec S16 32) a x).toNat < S32000.size a := fun v2449 k0_hw980 => k0_hw980

def k0_chk981 (v664 : IVec S16 32) (v2500 : IVec S16 32) : Prop :=
  (∀ a x, ((![v2500, v664] : Fin 2 → IVec S16 32) a x).toNat < S64x512.size a)
theorem k0_idx981_inb : ∀ (v664 : IVec S16 32) (v2500 : IVec S16 32) (k0_hw981 : k0_chk981 v664 v2500), ∀ a x, ((![v2500, v664] : Fin 2 → IVec S16 32) a x).toNat < S64x512.size a := fun v664 v2500 k0_hw981 => k0_hw981

def k0_chk982 (v664 : IVec S16 32) (v2502 : IVec S16 32) : Prop :=
  (∀ a x, ((![v2502, v664] : Fin 2 → IVec S16 32) a x).toNat < S64x512.size a)
theorem k0_idx982_inb : ∀ (v664 : IVec S16 32) (v2502 : IVec S16 32) (k0_hw982 : k0_chk982 v664 v2502), ∀ a x, ((![v2502, v664] : Fin 2 → IVec S16 32) a x).toNat < S64x512.size a := fun v664 v2502 k0_hw982 => k0_hw982

def k0_chk983 (v2509 : IVec S16 32) : Prop :=
  (∀ a x, ((![v2509] : Fin 1 → IVec S16 32) a x).toNat < S32000.size a)
theorem k0_idx983_inb : ∀ (v2509 : IVec S16 32) (k0_hw983 : k0_chk983 v2509), ∀ a x, ((![v2509] : Fin 1 → IVec S16 32) a x).toNat < S32000.size a := fun v2509 k0_hw983 => k0_hw983

def k0_chk984 (v2511 : IVec S16 32) : Prop :=
  (∀ a x, ((![v2511] : Fin 1 → IVec S16 32) a x).toNat < S32000.size a)
theorem k0_idx984_inb : ∀ (v2511 : IVec S16 32) (k0_hw984 : k0_chk984 v2511), ∀ a x, ((![v2511] : Fin 1 → IVec S16 32) a x).toNat < S32000.size a := fun v2511 k0_hw984 => k0_hw984

def k0_chk985 (v2513 : IVec S16 32) : Prop :=
  (∀ a x, ((![v2513] : Fin 1 → IVec S16 32) a x).toNat < S32000.size a)
theorem k0_idx985_inb : ∀ (v2513 : IVec S16 32) (k0_hw985 : k0_chk985 v2513), ∀ a x, ((![v2513] : Fin 1 → IVec S16 32) a x).toNat < S32000.size a := fun v2513 k0_hw985 => k0_hw985

def k0_chk986 (v2515 : IVec S16 32) : Prop :=
  (∀ a x, ((![v2515] : Fin 1 → IVec S16 32) a x).toNat < S32000.size a)
theorem k0_idx986_inb : ∀ (v2515 : IVec S16 32) (k0_hw986 : k0_chk986 v2515), ∀ a x, ((![v2515] : Fin 1 → IVec S16 32) a x).toNat < S32000.size a := fun v2515 k0_hw986 => k0_hw986

def k0_chk987 (v2517 : IVec S16 32) : Prop :=
  (∀ a x, ((![v2517] : Fin 1 → IVec S16 32) a x).toNat < S32000.size a)
theorem k0_idx987_inb : ∀ (v2517 : IVec S16 32) (k0_hw987 : k0_chk987 v2517), ∀ a x, ((![v2517] : Fin 1 → IVec S16 32) a x).toNat < S32000.size a := fun v2517 k0_hw987 => k0_hw987

def k0_chk988 (v2519 : IVec S16 32) : Prop :=
  (∀ a x, ((![v2519] : Fin 1 → IVec S16 32) a x).toNat < S32000.size a)
theorem k0_idx988_inb : ∀ (v2519 : IVec S16 32) (k0_hw988 : k0_chk988 v2519), ∀ a x, ((![v2519] : Fin 1 → IVec S16 32) a x).toNat < S32000.size a := fun v2519 k0_hw988 => k0_hw988

def k0_chk989 (v664 : IVec S16 32) (v2570 : IVec S16 32) : Prop :=
  (∀ a x, ((![v2570, v664] : Fin 2 → IVec S16 32) a x).toNat < S64x512.size a)
theorem k0_idx989_inb : ∀ (v664 : IVec S16 32) (v2570 : IVec S16 32) (k0_hw989 : k0_chk989 v664 v2570), ∀ a x, ((![v2570, v664] : Fin 2 → IVec S16 32) a x).toNat < S64x512.size a := fun v664 v2570 k0_hw989 => k0_hw989

def k0_chk990 (v664 : IVec S16 32) (v2572 : IVec S16 32) : Prop :=
  (∀ a x, ((![v2572, v664] : Fin 2 → IVec S16 32) a x).toNat < S64x512.size a)
theorem k0_idx990_inb : ∀ (v664 : IVec S16 32) (v2572 : IVec S16 32) (k0_hw990 : k0_chk990 v664 v2572), ∀ a x, ((![v2572, v664] : Fin 2 → IVec S16 32) a x).toNat < S64x512.size a := fun v664 v2572 k0_hw990 => k0_hw990

def k0_chk991 (v2579 : IVec S16 32) : Prop :=
  (∀ a x, ((![v2579] : Fin 1 → IVec S16 32) a x).toNat < S32000.size a)
theorem k0_idx991_inb : ∀ (v2579 : IVec S16 32) (k0_hw991 : k0_chk991 v2579), ∀ a x, ((![v2579] : Fin 1 → IVec S16 32) a x).toNat < S32000.size a := fun v2579 k0_hw991 => k0_hw991

def k0_chk992 (v2581 : IVec S16 32) : Prop :=
  (∀ a x, ((![v2581] : Fin 1 → IVec S16 32) a x).toNat < S32000.size a)
theorem k0_idx992_inb : ∀ (v2581 : IVec S16 32) (k0_hw992 : k0_chk992 v2581), ∀ a x, ((![v2581] : Fin 1 → IVec S16 32) a x).toNat < S32000.size a := fun v2581 k0_hw992 => k0_hw992

def k0_chk993 (v2583 : IVec S16 32) : Prop :=
  (∀ a x, ((![v2583] : Fin 1 → IVec S16 32) a x).toNat < S32000.size a)
theorem k0_idx993_inb : ∀ (v2583 : IVec S16 32) (k0_hw993 : k0_chk993 v2583), ∀ a x, ((![v2583] : Fin 1 → IVec S16 32) a x).toNat < S32000.size a := fun v2583 k0_hw993 => k0_hw993

def k0_chk994 (v2585 : IVec S16 32) : Prop :=
  (∀ a x, ((![v2585] : Fin 1 → IVec S16 32) a x).toNat < S32000.size a)
theorem k0_idx994_inb : ∀ (v2585 : IVec S16 32) (k0_hw994 : k0_chk994 v2585), ∀ a x, ((![v2585] : Fin 1 → IVec S16 32) a x).toNat < S32000.size a := fun v2585 k0_hw994 => k0_hw994

def k0_chk995 (v2587 : IVec S16 32) : Prop :=
  (∀ a x, ((![v2587] : Fin 1 → IVec S16 32) a x).toNat < S32000.size a)
theorem k0_idx995_inb : ∀ (v2587 : IVec S16 32) (k0_hw995 : k0_chk995 v2587), ∀ a x, ((![v2587] : Fin 1 → IVec S16 32) a x).toNat < S32000.size a := fun v2587 k0_hw995 => k0_hw995

def k0_chk996 (v2589 : IVec S16 32) : Prop :=
  (∀ a x, ((![v2589] : Fin 1 → IVec S16 32) a x).toNat < S32000.size a)
theorem k0_idx996_inb : ∀ (v2589 : IVec S16 32) (k0_hw996 : k0_chk996 v2589), ∀ a x, ((![v2589] : Fin 1 → IVec S16 32) a x).toNat < S32000.size a := fun v2589 k0_hw996 => k0_hw996

def k0_chk997 (v664 : IVec S16 32) (v2640 : IVec S16 32) : Prop :=
  (∀ a x, ((![v2640, v664] : Fin 2 → IVec S16 32) a x).toNat < S64x512.size a)
theorem k0_idx997_inb : ∀ (v664 : IVec S16 32) (v2640 : IVec S16 32) (k0_hw997 : k0_chk997 v664 v2640), ∀ a x, ((![v2640, v664] : Fin 2 → IVec S16 32) a x).toNat < S64x512.size a := fun v664 v2640 k0_hw997 => k0_hw997

def k0_chk998 (v664 : IVec S16 32) (v2642 : IVec S16 32) : Prop :=
  (∀ a x, ((![v2642, v664] : Fin 2 → IVec S16 32) a x).toNat < S64x512.size a)
theorem k0_idx998_inb : ∀ (v664 : IVec S16 32) (v2642 : IVec S16 32) (k0_hw998 : k0_chk998 v664 v2642), ∀ a x, ((![v2642, v664] : Fin 2 → IVec S16 32) a x).toNat < S64x512.size a := fun v664 v2642 k0_hw998 => k0_hw998

def k0_chk999 (v2649 : IVec S16 32) : Prop :=
  (∀ a x, ((![v2649] : Fin 1 → IVec S16 32) a x).toNat < S32000.size a)
theorem k0_idx999_inb : ∀ (v2649 : IVec S16 32) (k0_hw999 : k0_chk999 v2649), ∀ a x, ((![v2649] : Fin 1 → IVec S16 32) a x).toNat < S32000.size a := fun v2649 k0_hw999 => k0_hw999

def k0_chk1000 (v2651 : IVec S16 32) : Prop :=
  (∀ a x, ((![v2651] : Fin 1 → IVec S16 32) a x).toNat < S32000.size a)
theorem k0_idx1000_inb : ∀ (v2651 : IVec S16 32) (k0_hw1000 : k0_chk1000 v2651), ∀ a x, ((![v2651] : Fin 1 → IVec S16 32) a x).toNat < S32000.size a := fun v2651 k0_hw1000 => k0_hw1000

def k0_chk1001 (v2653 : IVec S16 32) : Prop :=
  (∀ a x, ((![v2653] : Fin 1 → IVec S16 32) a x).toNat < S32000.size a)
theorem k0_idx1001_inb : ∀ (v2653 : IVec S16 32) (k0_hw1001 : k0_chk1001 v2653), ∀ a x, ((![v2653] : Fin 1 → IVec S16 32) a x).toNat < S32000.size a := fun v2653 k0_hw1001 => k0_hw1001

def k0_chk1002 (v2655 : IVec S16 32) : Prop :=
  (∀ a x, ((![v2655] : Fin 1 → IVec S16 32) a x).toNat < S32000.size a)
theorem k0_idx1002_inb : ∀ (v2655 : IVec S16 32) (k0_hw1002 : k0_chk1002 v2655), ∀ a x, ((![v2655] : Fin 1 → IVec S16 32) a x).toNat < S32000.size a := fun v2655 k0_hw1002 => k0_hw1002

def k0_chk1003 (v2657 : IVec S16 32) : Prop :=
  (∀ a x, ((![v2657] : Fin 1 → IVec S16 32) a x).toNat < S32000.size a)
theorem k0_idx1003_inb : ∀ (v2657 : IVec S16 32) (k0_hw1003 : k0_chk1003 v2657), ∀ a x, ((![v2657] : Fin 1 → IVec S16 32) a x).toNat < S32000.size a := fun v2657 k0_hw1003 => k0_hw1003

def k0_chk1004 (v2659 : IVec S16 32) : Prop :=
  (∀ a x, ((![v2659] : Fin 1 → IVec S16 32) a x).toNat < S32000.size a)
theorem k0_idx1004_inb : ∀ (v2659 : IVec S16 32) (k0_hw1004 : k0_chk1004 v2659), ∀ a x, ((![v2659] : Fin 1 → IVec S16 32) a x).toNat < S32000.size a := fun v2659 k0_hw1004 => k0_hw1004

def k0_chk1005 (v664 : IVec S16 32) (v2710 : IVec S16 32) : Prop :=
  (∀ a x, ((![v2710, v664] : Fin 2 → IVec S16 32) a x).toNat < S64x512.size a)
theorem k0_idx1005_inb : ∀ (v664 : IVec S16 32) (v2710 : IVec S16 32) (k0_hw1005 : k0_chk1005 v664 v2710), ∀ a x, ((![v2710, v664] : Fin 2 → IVec S16 32) a x).toNat < S64x512.size a := fun v664 v2710 k0_hw1005 => k0_hw1005

def k0_chk1006 (v664 : IVec S16 32) (v2712 : IVec S16 32) : Prop :=
  (∀ a x, ((![v2712, v664] : Fin 2 → IVec S16 32) a x).toNat < S64x512.size a)
theorem k0_idx1006_inb : ∀ (v664 : IVec S16 32) (v2712 : IVec S16 32) (k0_hw1006 : k0_chk1006 v664 v2712), ∀ a x, ((![v2712, v664] : Fin 2 → IVec S16 32) a x).toNat < S64x512.size a := fun v664 v2712 k0_hw1006 => k0_hw1006

def k0_chk1007 (v2719 : IVec S16 32) : Prop :=
  (∀ a x, ((![v2719] : Fin 1 → IVec S16 32) a x).toNat < S32000.size a)
theorem k0_idx1007_inb : ∀ (v2719 : IVec S16 32) (k0_hw1007 : k0_chk1007 v2719), ∀ a x, ((![v2719] : Fin 1 → IVec S16 32) a x).toNat < S32000.size a := fun v2719 k0_hw1007 => k0_hw1007

def k0_chk1008 (v2721 : IVec S16 32) : Prop :=
  (∀ a x, ((![v2721] : Fin 1 → IVec S16 32) a x).toNat < S32000.size a)
theorem k0_idx1008_inb : ∀ (v2721 : IVec S16 32) (k0_hw1008 : k0_chk1008 v2721), ∀ a x, ((![v2721] : Fin 1 → IVec S16 32) a x).toNat < S32000.size a := fun v2721 k0_hw1008 => k0_hw1008

def k0_chk1009 (v2723 : IVec S16 32) : Prop :=
  (∀ a x, ((![v2723] : Fin 1 → IVec S16 32) a x).toNat < S32000.size a)
theorem k0_idx1009_inb : ∀ (v2723 : IVec S16 32) (k0_hw1009 : k0_chk1009 v2723), ∀ a x, ((![v2723] : Fin 1 → IVec S16 32) a x).toNat < S32000.size a := fun v2723 k0_hw1009 => k0_hw1009

def k0_chk1010 (v2725 : IVec S16 32) : Prop :=
  (∀ a x, ((![v2725] : Fin 1 → IVec S16 32) a x).toNat < S32000.size a)
theorem k0_idx1010_inb : ∀ (v2725 : IVec S16 32) (k0_hw1010 : k0_chk1010 v2725), ∀ a x, ((![v2725] : Fin 1 → IVec S16 32) a x).toNat < S32000.size a := fun v2725 k0_hw1010 => k0_hw1010

def k0_chk1011 (v2727 : IVec S16 32) : Prop :=
  (∀ a x, ((![v2727] : Fin 1 → IVec S16 32) a x).toNat < S32000.size a)
theorem k0_idx1011_inb : ∀ (v2727 : IVec S16 32) (k0_hw1011 : k0_chk1011 v2727), ∀ a x, ((![v2727] : Fin 1 → IVec S16 32) a x).toNat < S32000.size a := fun v2727 k0_hw1011 => k0_hw1011

def k0_chk1012 (v2729 : IVec S16 32) : Prop :=
  (∀ a x, ((![v2729] : Fin 1 → IVec S16 32) a x).toNat < S32000.size a)
theorem k0_idx1012_inb : ∀ (v2729 : IVec S16 32) (k0_hw1012 : k0_chk1012 v2729), ∀ a x, ((![v2729] : Fin 1 → IVec S16 32) a x).toNat < S32000.size a := fun v2729 k0_hw1012 => k0_hw1012

def k0_chk1013 (v664 : IVec S16 32) (v2780 : IVec S16 32) : Prop :=
  (∀ a x, ((![v2780, v664] : Fin 2 → IVec S16 32) a x).toNat < S64x512.size a)
theorem k0_idx1013_inb : ∀ (v664 : IVec S16 32) (v2780 : IVec S16 32) (k0_hw1013 : k0_chk1013 v664 v2780), ∀ a x, ((![v2780, v664] : Fin 2 → IVec S16 32) a x).toNat < S64x512.size a := fun v664 v2780 k0_hw1013 => k0_hw1013

def k0_chk1014 (v664 : IVec S16 32) (v2782 : IVec S16 32) : Prop :=
  (∀ a x, ((![v2782, v664] : Fin 2 → IVec S16 32) a x).toNat < S64x512.size a)
theorem k0_idx1014_inb : ∀ (v664 : IVec S16 32) (v2782 : IVec S16 32) (k0_hw1014 : k0_chk1014 v664 v2782), ∀ a x, ((![v2782, v664] : Fin 2 → IVec S16 32) a x).toNat < S64x512.size a := fun v664 v2782 k0_hw1014 => k0_hw1014

def k0_chk1015 (v2789 : IVec S16 32) : Prop :=
  (∀ a x, ((![v2789] : Fin 1 → IVec S16 32) a x).toNat < S32000.size a)
theorem k0_idx1015_inb : ∀ (v2789 : IVec S16 32) (k0_hw1015 : k0_chk1015 v2789), ∀ a x, ((![v2789] : Fin 1 → IVec S16 32) a x).toNat < S32000.size a := fun v2789 k0_hw1015 => k0_hw1015

def k0_chk1016 (v2791 : IVec S16 32) : Prop :=
  (∀ a x, ((![v2791] : Fin 1 → IVec S16 32) a x).toNat < S32000.size a)
theorem k0_idx1016_inb : ∀ (v2791 : IVec S16 32) (k0_hw1016 : k0_chk1016 v2791), ∀ a x, ((![v2791] : Fin 1 → IVec S16 32) a x).toNat < S32000.size a := fun v2791 k0_hw1016 => k0_hw1016

def k0_chk1017 (v2793 : IVec S16 32) : Prop :=
  (∀ a x, ((![v2793] : Fin 1 → IVec S16 32) a x).toNat < S32000.size a)
theorem k0_idx1017_inb : ∀ (v2793 : IVec S16 32) (k0_hw1017 : k0_chk1017 v2793), ∀ a x, ((![v2793] : Fin 1 → IVec S16 32) a x).toNat < S32000.size a := fun v2793 k0_hw1017 => k0_hw1017

def k0_chk1018 (v2795 : IVec S16 32) : Prop :=
  (∀ a x, ((![v2795] : Fin 1 → IVec S16 32) a x).toNat < S32000.size a)
theorem k0_idx1018_inb : ∀ (v2795 : IVec S16 32) (k0_hw1018 : k0_chk1018 v2795), ∀ a x, ((![v2795] : Fin 1 → IVec S16 32) a x).toNat < S32000.size a := fun v2795 k0_hw1018 => k0_hw1018

def k0_chk1019 (v2797 : IVec S16 32) : Prop :=
  (∀ a x, ((![v2797] : Fin 1 → IVec S16 32) a x).toNat < S32000.size a)
theorem k0_idx1019_inb : ∀ (v2797 : IVec S16 32) (k0_hw1019 : k0_chk1019 v2797), ∀ a x, ((![v2797] : Fin 1 → IVec S16 32) a x).toNat < S32000.size a := fun v2797 k0_hw1019 => k0_hw1019

def k0_chk1020 (v2799 : IVec S16 32) : Prop :=
  (∀ a x, ((![v2799] : Fin 1 → IVec S16 32) a x).toNat < S32000.size a)
theorem k0_idx1020_inb : ∀ (v2799 : IVec S16 32) (k0_hw1020 : k0_chk1020 v2799), ∀ a x, ((![v2799] : Fin 1 → IVec S16 32) a x).toNat < S32000.size a := fun v2799 k0_hw1020 => k0_hw1020

def k0_chk1021 (v664 : IVec S16 32) (v2850 : IVec S16 32) : Prop :=
  (∀ a x, ((![v2850, v664] : Fin 2 → IVec S16 32) a x).toNat < S64x512.size a)
theorem k0_idx1021_inb : ∀ (v664 : IVec S16 32) (v2850 : IVec S16 32) (k0_hw1021 : k0_chk1021 v664 v2850), ∀ a x, ((![v2850, v664] : Fin 2 → IVec S16 32) a x).toNat < S64x512.size a := fun v664 v2850 k0_hw1021 => k0_hw1021

def k0_chk1022 (v664 : IVec S16 32) (v2852 : IVec S16 32) : Prop :=
  (∀ a x, ((![v2852, v664] : Fin 2 → IVec S16 32) a x).toNat < S64x512.size a)
theorem k0_idx1022_inb : ∀ (v664 : IVec S16 32) (v2852 : IVec S16 32) (k0_hw1022 : k0_chk1022 v664 v2852), ∀ a x, ((![v2852, v664] : Fin 2 → IVec S16 32) a x).toNat < S64x512.size a := fun v664 v2852 k0_hw1022 => k0_hw1022

def k0_chk1023 (v664 : IVec S16 32) (v2902 : IVec S16 32) : Prop :=
  (∀ a x, ((![v2902, v664] : Fin 2 → IVec S16 32) a x).toNat < S64x512.size a)
theorem k0_idx1023_inb : ∀ (v664 : IVec S16 32) (v2902 : IVec S16 32) (k0_hw1023 : k0_chk1023 v664 v2902), ∀ a x, ((![v2902, v664] : Fin 2 → IVec S16 32) a x).toNat < S64x512.size a := fun v664 v2902 k0_hw1023 => k0_hw1023

def k0_chk1024 (v664 : IVec S16 32) (v2904 : IVec S16 32) : Prop :=
  (∀ a x, ((![v2904, v664] : Fin 2 → IVec S16 32) a x).toNat < S64x512.size a)
theorem k0_idx1024_inb : ∀ (v664 : IVec S16 32) (v2904 : IVec S16 32) (k0_hw1024 : k0_chk1024 v664 v2904), ∀ a x, ((![v2904, v664] : Fin 2 → IVec S16 32) a x).toNat < S64x512.size a := fun v664 v2904 k0_hw1024 => k0_hw1024
@[reducible] def k0_t5_loop : Scf.Loop 32 :=
  let c0_i32_209 : BitVec 32 := 0#32
  let c32_i32_210 : BitVec 32 := 32#32
  let v383 : BitVec 32 := Scalar.addi c0_i32_209 c32_i32_210
  let c1_i32_211 : BitVec 32 := 1#32
  ⟨c0_i32_209, v383, c1_i32_211⟩
def k0_off27 (k0_t5 : Fin k0_t5_loop.trips) : Fin 2 → Nat :=
  let c0_i32_350 : BitVec 32 := 0#32
  let v627 : Index := Scalar.indexCast c0_i32_350
  let c0_i32_209 : BitVec 32 := 0#32
  let c1_i32_211 : BitVec 32 := 1#32
  let arg14 : BitVec 32 := Scf.iv c0_i32_209 c1_i32_211 k0_t5
  let c16_i32 : BitVec 32 := 16#32
  let v626 : BitVec 32 := Scalar.muli arg14 c16_i32
  let v628 : Index := Scalar.indexCast v626
  ![0, v628.toNat]
def k0_off28 (k0_t5 : Fin k0_t5_loop.trips) : Fin 2 → Nat :=
  let c1_i32_353 : BitVec 32 := 1#32
  let v633 : Index := Scalar.indexCast c1_i32_353
  let c0_i32_209 : BitVec 32 := 0#32
  let c1_i32_211 : BitVec 32 := 1#32
  let arg14 : BitVec 32 := Scf.iv c0_i32_209 c1_i32_211 k0_t5
  let c16_i32_352 : BitVec 32 := 16#32
  let v632 : BitVec 32 := Scalar.muli arg14 c16_i32_352
  let v634 : Index := Scalar.indexCast v632
  ![1, v634.toNat]
def k0_off29 (k0_t5 : Fin k0_t5_loop.trips) : Fin 2 → Nat :=
  let c2_i32_356 : BitVec 32 := 2#32
  let v639 : Index := Scalar.indexCast c2_i32_356
  let c0_i32_209 : BitVec 32 := 0#32
  let c1_i32_211 : BitVec 32 := 1#32
  let arg14 : BitVec 32 := Scf.iv c0_i32_209 c1_i32_211 k0_t5
  let c16_i32_355 : BitVec 32 := 16#32
  let v638 : BitVec 32 := Scalar.muli arg14 c16_i32_355
  let v640 : Index := Scalar.indexCast v638
  ![2, v640.toNat]
def k0_off30 (k0_t5 : Fin k0_t5_loop.trips) : Fin 2 → Nat :=
  let c3_i32_359 : BitVec 32 := 3#32
  let v645 : Index := Scalar.indexCast c3_i32_359
  let c0_i32_209 : BitVec 32 := 0#32
  let c1_i32_211 : BitVec 32 := 1#32
  let arg14 : BitVec 32 := Scf.iv c0_i32_209 c1_i32_211 k0_t5
  let c16_i32_358 : BitVec 32 := 16#32
  let v644 : BitVec 32 := Scalar.muli arg14 c16_i32_358
  let v646 : Index := Scalar.indexCast v644
  ![3, v646.toNat]
def k0_off31 (k0_t5 : Fin k0_t5_loop.trips) : Fin 2 → Nat :=
  let c4_i32_362 : BitVec 32 := 4#32
  let v651 : Index := Scalar.indexCast c4_i32_362
  let c0_i32_209 : BitVec 32 := 0#32
  let c1_i32_211 : BitVec 32 := 1#32
  let arg14 : BitVec 32 := Scf.iv c0_i32_209 c1_i32_211 k0_t5
  let c16_i32_361 : BitVec 32 := 16#32
  let v650 : BitVec 32 := Scalar.muli arg14 c16_i32_361
  let v652 : Index := Scalar.indexCast v650
  ![4, v652.toNat]
def k0_off32 (k0_t5 : Fin k0_t5_loop.trips) : Fin 2 → Nat :=
  let c5_i32_365 : BitVec 32 := 5#32
  let v657 : Index := Scalar.indexCast c5_i32_365
  let c0_i32_209 : BitVec 32 := 0#32
  let c1_i32_211 : BitVec 32 := 1#32
  let arg14 : BitVec 32 := Scf.iv c0_i32_209 c1_i32_211 k0_t5
  let c16_i32_364 : BitVec 32 := 16#32
  let v656 : BitVec 32 := Scalar.muli arg14 c16_i32_364
  let v658 : Index := Scalar.indexCast v656
  ![5, v658.toNat]

def k0_chk1025 (v671 : IVec S16 32) : Prop :=
  (∀ a x, ((![v671] : Fin 1 → IVec S16 32) a x).toNat < S32000.size a)
theorem k0_idx1025_inb : ∀ (v671 : IVec S16 32) (k0_hw1025 : k0_chk1025 v671), ∀ a x, ((![v671] : Fin 1 → IVec S16 32) a x).toNat < S32000.size a := fun v671 k0_hw1025 => k0_hw1025

def k0_chk1026 (v673 : IVec S16 32) : Prop :=
  (∀ a x, ((![v673] : Fin 1 → IVec S16 32) a x).toNat < S32000.size a)
theorem k0_idx1026_inb : ∀ (v673 : IVec S16 32) (k0_hw1026 : k0_chk1026 v673), ∀ a x, ((![v673] : Fin 1 → IVec S16 32) a x).toNat < S32000.size a := fun v673 k0_hw1026 => k0_hw1026

def k0_chk1027 (v675 : IVec S16 32) : Prop :=
  (∀ a x, ((![v675] : Fin 1 → IVec S16 32) a x).toNat < S32000.size a)
theorem k0_idx1027_inb : ∀ (v675 : IVec S16 32) (k0_hw1027 : k0_chk1027 v675), ∀ a x, ((![v675] : Fin 1 → IVec S16 32) a x).toNat < S32000.size a := fun v675 k0_hw1027 => k0_hw1027

def k0_chk1028 (v677 : IVec S16 32) : Prop :=
  (∀ a x, ((![v677] : Fin 1 → IVec S16 32) a x).toNat < S32000.size a)
theorem k0_idx1028_inb : ∀ (v677 : IVec S16 32) (k0_hw1028 : k0_chk1028 v677), ∀ a x, ((![v677] : Fin 1 → IVec S16 32) a x).toNat < S32000.size a := fun v677 k0_hw1028 => k0_hw1028

def k0_chk1029 (v679 : IVec S16 32) : Prop :=
  (∀ a x, ((![v679] : Fin 1 → IVec S16 32) a x).toNat < S32000.size a)
theorem k0_idx1029_inb : ∀ (v679 : IVec S16 32) (k0_hw1029 : k0_chk1029 v679), ∀ a x, ((![v679] : Fin 1 → IVec S16 32) a x).toNat < S32000.size a := fun v679 k0_hw1029 => k0_hw1029

def k0_chk1030 (v681 : IVec S16 32) : Prop :=
  (∀ a x, ((![v681] : Fin 1 → IVec S16 32) a x).toNat < S32000.size a)
theorem k0_idx1030_inb : ∀ (v681 : IVec S16 32) (k0_hw1030 : k0_chk1030 v681), ∀ a x, ((![v681] : Fin 1 → IVec S16 32) a x).toNat < S32000.size a := fun v681 k0_hw1030 => k0_hw1030

def k0_chk1031 (v689 : IVec S16 32) : Prop :=
  (∀ a x, ((![v689] : Fin 1 → IVec S16 32) a x).toNat < S32000.size a)
theorem k0_idx1031_inb : ∀ (v689 : IVec S16 32) (k0_hw1031 : k0_chk1031 v689), ∀ a x, ((![v689] : Fin 1 → IVec S16 32) a x).toNat < S32000.size a := fun v689 k0_hw1031 => k0_hw1031

def k0_chk1032 (v691 : IVec S16 32) : Prop :=
  (∀ a x, ((![v691] : Fin 1 → IVec S16 32) a x).toNat < S32000.size a)
theorem k0_idx1032_inb : ∀ (v691 : IVec S16 32) (k0_hw1032 : k0_chk1032 v691), ∀ a x, ((![v691] : Fin 1 → IVec S16 32) a x).toNat < S32000.size a := fun v691 k0_hw1032 => k0_hw1032

def k0_chk1033 (v693 : IVec S16 32) : Prop :=
  (∀ a x, ((![v693] : Fin 1 → IVec S16 32) a x).toNat < S32000.size a)
theorem k0_idx1033_inb : ∀ (v693 : IVec S16 32) (k0_hw1033 : k0_chk1033 v693), ∀ a x, ((![v693] : Fin 1 → IVec S16 32) a x).toNat < S32000.size a := fun v693 k0_hw1033 => k0_hw1033

def k0_chk1034 (v695 : IVec S16 32) : Prop :=
  (∀ a x, ((![v695] : Fin 1 → IVec S16 32) a x).toNat < S32000.size a)
theorem k0_idx1034_inb : ∀ (v695 : IVec S16 32) (k0_hw1034 : k0_chk1034 v695), ∀ a x, ((![v695] : Fin 1 → IVec S16 32) a x).toNat < S32000.size a := fun v695 k0_hw1034 => k0_hw1034

def k0_chk1035 (v697 : IVec S16 32) : Prop :=
  (∀ a x, ((![v697] : Fin 1 → IVec S16 32) a x).toNat < S32000.size a)
theorem k0_idx1035_inb : ∀ (v697 : IVec S16 32) (k0_hw1035 : k0_chk1035 v697), ∀ a x, ((![v697] : Fin 1 → IVec S16 32) a x).toNat < S32000.size a := fun v697 k0_hw1035 => k0_hw1035

def k0_chk1036 (v699 : IVec S16 32) : Prop :=
  (∀ a x, ((![v699] : Fin 1 → IVec S16 32) a x).toNat < S32000.size a)
theorem k0_idx1036_inb : ∀ (v699 : IVec S16 32) (k0_hw1036 : k0_chk1036 v699), ∀ a x, ((![v699] : Fin 1 → IVec S16 32) a x).toNat < S32000.size a := fun v699 k0_hw1036 => k0_hw1036

def k0_chk1037 (v664 : IVec S16 32) (v750 : IVec S16 32) : Prop :=
  (∀ a x, ((![v750, v664] : Fin 2 → IVec S16 32) a x).toNat < S64x512.size a)
theorem k0_idx1037_inb : ∀ (v664 : IVec S16 32) (v750 : IVec S16 32) (k0_hw1037 : k0_chk1037 v664 v750), ∀ a x, ((![v750, v664] : Fin 2 → IVec S16 32) a x).toNat < S64x512.size a := fun v664 v750 k0_hw1037 => k0_hw1037

def k0_chk1038 (v664 : IVec S16 32) (v752 : IVec S16 32) : Prop :=
  (∀ a x, ((![v752, v664] : Fin 2 → IVec S16 32) a x).toNat < S64x512.size a)
theorem k0_idx1038_inb : ∀ (v664 : IVec S16 32) (v752 : IVec S16 32) (k0_hw1038 : k0_chk1038 v664 v752), ∀ a x, ((![v752, v664] : Fin 2 → IVec S16 32) a x).toNat < S64x512.size a := fun v664 v752 k0_hw1038 => k0_hw1038

def k0_chk1039 (v759 : IVec S16 32) : Prop :=
  (∀ a x, ((![v759] : Fin 1 → IVec S16 32) a x).toNat < S32000.size a)
theorem k0_idx1039_inb : ∀ (v759 : IVec S16 32) (k0_hw1039 : k0_chk1039 v759), ∀ a x, ((![v759] : Fin 1 → IVec S16 32) a x).toNat < S32000.size a := fun v759 k0_hw1039 => k0_hw1039

def k0_chk1040 (v761 : IVec S16 32) : Prop :=
  (∀ a x, ((![v761] : Fin 1 → IVec S16 32) a x).toNat < S32000.size a)
theorem k0_idx1040_inb : ∀ (v761 : IVec S16 32) (k0_hw1040 : k0_chk1040 v761), ∀ a x, ((![v761] : Fin 1 → IVec S16 32) a x).toNat < S32000.size a := fun v761 k0_hw1040 => k0_hw1040

def k0_chk1041 (v763 : IVec S16 32) : Prop :=
  (∀ a x, ((![v763] : Fin 1 → IVec S16 32) a x).toNat < S32000.size a)
theorem k0_idx1041_inb : ∀ (v763 : IVec S16 32) (k0_hw1041 : k0_chk1041 v763), ∀ a x, ((![v763] : Fin 1 → IVec S16 32) a x).toNat < S32000.size a := fun v763 k0_hw1041 => k0_hw1041

def k0_chk1042 (v765 : IVec S16 32) : Prop :=
  (∀ a x, ((![v765] : Fin 1 → IVec S16 32) a x).toNat < S32000.size a)
theorem k0_idx1042_inb : ∀ (v765 : IVec S16 32) (k0_hw1042 : k0_chk1042 v765), ∀ a x, ((![v765] : Fin 1 → IVec S16 32) a x).toNat < S32000.size a := fun v765 k0_hw1042 => k0_hw1042

def k0_chk1043 (v767 : IVec S16 32) : Prop :=
  (∀ a x, ((![v767] : Fin 1 → IVec S16 32) a x).toNat < S32000.size a)
theorem k0_idx1043_inb : ∀ (v767 : IVec S16 32) (k0_hw1043 : k0_chk1043 v767), ∀ a x, ((![v767] : Fin 1 → IVec S16 32) a x).toNat < S32000.size a := fun v767 k0_hw1043 => k0_hw1043

def k0_chk1044 (v769 : IVec S16 32) : Prop :=
  (∀ a x, ((![v769] : Fin 1 → IVec S16 32) a x).toNat < S32000.size a)
theorem k0_idx1044_inb : ∀ (v769 : IVec S16 32) (k0_hw1044 : k0_chk1044 v769), ∀ a x, ((![v769] : Fin 1 → IVec S16 32) a x).toNat < S32000.size a := fun v769 k0_hw1044 => k0_hw1044

def k0_chk1045 (v664 : IVec S16 32) (v820 : IVec S16 32) : Prop :=
  (∀ a x, ((![v820, v664] : Fin 2 → IVec S16 32) a x).toNat < S64x512.size a)
theorem k0_idx1045_inb : ∀ (v664 : IVec S16 32) (v820 : IVec S16 32) (k0_hw1045 : k0_chk1045 v664 v820), ∀ a x, ((![v820, v664] : Fin 2 → IVec S16 32) a x).toNat < S64x512.size a := fun v664 v820 k0_hw1045 => k0_hw1045

def k0_chk1046 (v664 : IVec S16 32) (v822 : IVec S16 32) : Prop :=
  (∀ a x, ((![v822, v664] : Fin 2 → IVec S16 32) a x).toNat < S64x512.size a)
theorem k0_idx1046_inb : ∀ (v664 : IVec S16 32) (v822 : IVec S16 32) (k0_hw1046 : k0_chk1046 v664 v822), ∀ a x, ((![v822, v664] : Fin 2 → IVec S16 32) a x).toNat < S64x512.size a := fun v664 v822 k0_hw1046 => k0_hw1046

def k0_chk1047 (v829 : IVec S16 32) : Prop :=
  (∀ a x, ((![v829] : Fin 1 → IVec S16 32) a x).toNat < S32000.size a)
theorem k0_idx1047_inb : ∀ (v829 : IVec S16 32) (k0_hw1047 : k0_chk1047 v829), ∀ a x, ((![v829] : Fin 1 → IVec S16 32) a x).toNat < S32000.size a := fun v829 k0_hw1047 => k0_hw1047

def k0_chk1048 (v831 : IVec S16 32) : Prop :=
  (∀ a x, ((![v831] : Fin 1 → IVec S16 32) a x).toNat < S32000.size a)
theorem k0_idx1048_inb : ∀ (v831 : IVec S16 32) (k0_hw1048 : k0_chk1048 v831), ∀ a x, ((![v831] : Fin 1 → IVec S16 32) a x).toNat < S32000.size a := fun v831 k0_hw1048 => k0_hw1048

def k0_chk1049 (v833 : IVec S16 32) : Prop :=
  (∀ a x, ((![v833] : Fin 1 → IVec S16 32) a x).toNat < S32000.size a)
theorem k0_idx1049_inb : ∀ (v833 : IVec S16 32) (k0_hw1049 : k0_chk1049 v833), ∀ a x, ((![v833] : Fin 1 → IVec S16 32) a x).toNat < S32000.size a := fun v833 k0_hw1049 => k0_hw1049

def k0_chk1050 (v835 : IVec S16 32) : Prop :=
  (∀ a x, ((![v835] : Fin 1 → IVec S16 32) a x).toNat < S32000.size a)
theorem k0_idx1050_inb : ∀ (v835 : IVec S16 32) (k0_hw1050 : k0_chk1050 v835), ∀ a x, ((![v835] : Fin 1 → IVec S16 32) a x).toNat < S32000.size a := fun v835 k0_hw1050 => k0_hw1050

def k0_chk1051 (v837 : IVec S16 32) : Prop :=
  (∀ a x, ((![v837] : Fin 1 → IVec S16 32) a x).toNat < S32000.size a)
theorem k0_idx1051_inb : ∀ (v837 : IVec S16 32) (k0_hw1051 : k0_chk1051 v837), ∀ a x, ((![v837] : Fin 1 → IVec S16 32) a x).toNat < S32000.size a := fun v837 k0_hw1051 => k0_hw1051

def k0_chk1052 (v839 : IVec S16 32) : Prop :=
  (∀ a x, ((![v839] : Fin 1 → IVec S16 32) a x).toNat < S32000.size a)
theorem k0_idx1052_inb : ∀ (v839 : IVec S16 32) (k0_hw1052 : k0_chk1052 v839), ∀ a x, ((![v839] : Fin 1 → IVec S16 32) a x).toNat < S32000.size a := fun v839 k0_hw1052 => k0_hw1052

def k0_chk1053 (v664 : IVec S16 32) (v890 : IVec S16 32) : Prop :=
  (∀ a x, ((![v890, v664] : Fin 2 → IVec S16 32) a x).toNat < S64x512.size a)
theorem k0_idx1053_inb : ∀ (v664 : IVec S16 32) (v890 : IVec S16 32) (k0_hw1053 : k0_chk1053 v664 v890), ∀ a x, ((![v890, v664] : Fin 2 → IVec S16 32) a x).toNat < S64x512.size a := fun v664 v890 k0_hw1053 => k0_hw1053

def k0_chk1054 (v664 : IVec S16 32) (v892 : IVec S16 32) : Prop :=
  (∀ a x, ((![v892, v664] : Fin 2 → IVec S16 32) a x).toNat < S64x512.size a)
theorem k0_idx1054_inb : ∀ (v664 : IVec S16 32) (v892 : IVec S16 32) (k0_hw1054 : k0_chk1054 v664 v892), ∀ a x, ((![v892, v664] : Fin 2 → IVec S16 32) a x).toNat < S64x512.size a := fun v664 v892 k0_hw1054 => k0_hw1054

def k0_chk1055 (v899 : IVec S16 32) : Prop :=
  (∀ a x, ((![v899] : Fin 1 → IVec S16 32) a x).toNat < S32000.size a)
theorem k0_idx1055_inb : ∀ (v899 : IVec S16 32) (k0_hw1055 : k0_chk1055 v899), ∀ a x, ((![v899] : Fin 1 → IVec S16 32) a x).toNat < S32000.size a := fun v899 k0_hw1055 => k0_hw1055

def k0_chk1056 (v901 : IVec S16 32) : Prop :=
  (∀ a x, ((![v901] : Fin 1 → IVec S16 32) a x).toNat < S32000.size a)
theorem k0_idx1056_inb : ∀ (v901 : IVec S16 32) (k0_hw1056 : k0_chk1056 v901), ∀ a x, ((![v901] : Fin 1 → IVec S16 32) a x).toNat < S32000.size a := fun v901 k0_hw1056 => k0_hw1056

def k0_chk1057 (v903 : IVec S16 32) : Prop :=
  (∀ a x, ((![v903] : Fin 1 → IVec S16 32) a x).toNat < S32000.size a)
theorem k0_idx1057_inb : ∀ (v903 : IVec S16 32) (k0_hw1057 : k0_chk1057 v903), ∀ a x, ((![v903] : Fin 1 → IVec S16 32) a x).toNat < S32000.size a := fun v903 k0_hw1057 => k0_hw1057

def k0_chk1058 (v905 : IVec S16 32) : Prop :=
  (∀ a x, ((![v905] : Fin 1 → IVec S16 32) a x).toNat < S32000.size a)
theorem k0_idx1058_inb : ∀ (v905 : IVec S16 32) (k0_hw1058 : k0_chk1058 v905), ∀ a x, ((![v905] : Fin 1 → IVec S16 32) a x).toNat < S32000.size a := fun v905 k0_hw1058 => k0_hw1058

def k0_chk1059 (v907 : IVec S16 32) : Prop :=
  (∀ a x, ((![v907] : Fin 1 → IVec S16 32) a x).toNat < S32000.size a)
theorem k0_idx1059_inb : ∀ (v907 : IVec S16 32) (k0_hw1059 : k0_chk1059 v907), ∀ a x, ((![v907] : Fin 1 → IVec S16 32) a x).toNat < S32000.size a := fun v907 k0_hw1059 => k0_hw1059

def k0_chk1060 (v909 : IVec S16 32) : Prop :=
  (∀ a x, ((![v909] : Fin 1 → IVec S16 32) a x).toNat < S32000.size a)
theorem k0_idx1060_inb : ∀ (v909 : IVec S16 32) (k0_hw1060 : k0_chk1060 v909), ∀ a x, ((![v909] : Fin 1 → IVec S16 32) a x).toNat < S32000.size a := fun v909 k0_hw1060 => k0_hw1060

def k0_chk1061 (v664 : IVec S16 32) (v960 : IVec S16 32) : Prop :=
  (∀ a x, ((![v960, v664] : Fin 2 → IVec S16 32) a x).toNat < S64x512.size a)
theorem k0_idx1061_inb : ∀ (v664 : IVec S16 32) (v960 : IVec S16 32) (k0_hw1061 : k0_chk1061 v664 v960), ∀ a x, ((![v960, v664] : Fin 2 → IVec S16 32) a x).toNat < S64x512.size a := fun v664 v960 k0_hw1061 => k0_hw1061

def k0_chk1062 (v664 : IVec S16 32) (v962 : IVec S16 32) : Prop :=
  (∀ a x, ((![v962, v664] : Fin 2 → IVec S16 32) a x).toNat < S64x512.size a)
theorem k0_idx1062_inb : ∀ (v664 : IVec S16 32) (v962 : IVec S16 32) (k0_hw1062 : k0_chk1062 v664 v962), ∀ a x, ((![v962, v664] : Fin 2 → IVec S16 32) a x).toNat < S64x512.size a := fun v664 v962 k0_hw1062 => k0_hw1062

def k0_chk1063 (v969 : IVec S16 32) : Prop :=
  (∀ a x, ((![v969] : Fin 1 → IVec S16 32) a x).toNat < S32000.size a)
theorem k0_idx1063_inb : ∀ (v969 : IVec S16 32) (k0_hw1063 : k0_chk1063 v969), ∀ a x, ((![v969] : Fin 1 → IVec S16 32) a x).toNat < S32000.size a := fun v969 k0_hw1063 => k0_hw1063

def k0_chk1064 (v971 : IVec S16 32) : Prop :=
  (∀ a x, ((![v971] : Fin 1 → IVec S16 32) a x).toNat < S32000.size a)
theorem k0_idx1064_inb : ∀ (v971 : IVec S16 32) (k0_hw1064 : k0_chk1064 v971), ∀ a x, ((![v971] : Fin 1 → IVec S16 32) a x).toNat < S32000.size a := fun v971 k0_hw1064 => k0_hw1064

def k0_chk1065 (v973 : IVec S16 32) : Prop :=
  (∀ a x, ((![v973] : Fin 1 → IVec S16 32) a x).toNat < S32000.size a)
theorem k0_idx1065_inb : ∀ (v973 : IVec S16 32) (k0_hw1065 : k0_chk1065 v973), ∀ a x, ((![v973] : Fin 1 → IVec S16 32) a x).toNat < S32000.size a := fun v973 k0_hw1065 => k0_hw1065

def k0_chk1066 (v975 : IVec S16 32) : Prop :=
  (∀ a x, ((![v975] : Fin 1 → IVec S16 32) a x).toNat < S32000.size a)
theorem k0_idx1066_inb : ∀ (v975 : IVec S16 32) (k0_hw1066 : k0_chk1066 v975), ∀ a x, ((![v975] : Fin 1 → IVec S16 32) a x).toNat < S32000.size a := fun v975 k0_hw1066 => k0_hw1066

def k0_chk1067 (v977 : IVec S16 32) : Prop :=
  (∀ a x, ((![v977] : Fin 1 → IVec S16 32) a x).toNat < S32000.size a)
theorem k0_idx1067_inb : ∀ (v977 : IVec S16 32) (k0_hw1067 : k0_chk1067 v977), ∀ a x, ((![v977] : Fin 1 → IVec S16 32) a x).toNat < S32000.size a := fun v977 k0_hw1067 => k0_hw1067

def k0_chk1068 (v979 : IVec S16 32) : Prop :=
  (∀ a x, ((![v979] : Fin 1 → IVec S16 32) a x).toNat < S32000.size a)
theorem k0_idx1068_inb : ∀ (v979 : IVec S16 32) (k0_hw1068 : k0_chk1068 v979), ∀ a x, ((![v979] : Fin 1 → IVec S16 32) a x).toNat < S32000.size a := fun v979 k0_hw1068 => k0_hw1068

def k0_chk1069 (v664 : IVec S16 32) (v1030 : IVec S16 32) : Prop :=
  (∀ a x, ((![v1030, v664] : Fin 2 → IVec S16 32) a x).toNat < S64x512.size a)
theorem k0_idx1069_inb : ∀ (v664 : IVec S16 32) (v1030 : IVec S16 32) (k0_hw1069 : k0_chk1069 v664 v1030), ∀ a x, ((![v1030, v664] : Fin 2 → IVec S16 32) a x).toNat < S64x512.size a := fun v664 v1030 k0_hw1069 => k0_hw1069

def k0_chk1070 (v664 : IVec S16 32) (v1032 : IVec S16 32) : Prop :=
  (∀ a x, ((![v1032, v664] : Fin 2 → IVec S16 32) a x).toNat < S64x512.size a)
theorem k0_idx1070_inb : ∀ (v664 : IVec S16 32) (v1032 : IVec S16 32) (k0_hw1070 : k0_chk1070 v664 v1032), ∀ a x, ((![v1032, v664] : Fin 2 → IVec S16 32) a x).toNat < S64x512.size a := fun v664 v1032 k0_hw1070 => k0_hw1070

def k0_chk1071 (v1039 : IVec S16 32) : Prop :=
  (∀ a x, ((![v1039] : Fin 1 → IVec S16 32) a x).toNat < S32000.size a)
theorem k0_idx1071_inb : ∀ (v1039 : IVec S16 32) (k0_hw1071 : k0_chk1071 v1039), ∀ a x, ((![v1039] : Fin 1 → IVec S16 32) a x).toNat < S32000.size a := fun v1039 k0_hw1071 => k0_hw1071

def k0_chk1072 (v1041 : IVec S16 32) : Prop :=
  (∀ a x, ((![v1041] : Fin 1 → IVec S16 32) a x).toNat < S32000.size a)
theorem k0_idx1072_inb : ∀ (v1041 : IVec S16 32) (k0_hw1072 : k0_chk1072 v1041), ∀ a x, ((![v1041] : Fin 1 → IVec S16 32) a x).toNat < S32000.size a := fun v1041 k0_hw1072 => k0_hw1072

def k0_chk1073 (v1043 : IVec S16 32) : Prop :=
  (∀ a x, ((![v1043] : Fin 1 → IVec S16 32) a x).toNat < S32000.size a)
theorem k0_idx1073_inb : ∀ (v1043 : IVec S16 32) (k0_hw1073 : k0_chk1073 v1043), ∀ a x, ((![v1043] : Fin 1 → IVec S16 32) a x).toNat < S32000.size a := fun v1043 k0_hw1073 => k0_hw1073

def k0_chk1074 (v1045 : IVec S16 32) : Prop :=
  (∀ a x, ((![v1045] : Fin 1 → IVec S16 32) a x).toNat < S32000.size a)
theorem k0_idx1074_inb : ∀ (v1045 : IVec S16 32) (k0_hw1074 : k0_chk1074 v1045), ∀ a x, ((![v1045] : Fin 1 → IVec S16 32) a x).toNat < S32000.size a := fun v1045 k0_hw1074 => k0_hw1074

def k0_chk1075 (v1047 : IVec S16 32) : Prop :=
  (∀ a x, ((![v1047] : Fin 1 → IVec S16 32) a x).toNat < S32000.size a)
theorem k0_idx1075_inb : ∀ (v1047 : IVec S16 32) (k0_hw1075 : k0_chk1075 v1047), ∀ a x, ((![v1047] : Fin 1 → IVec S16 32) a x).toNat < S32000.size a := fun v1047 k0_hw1075 => k0_hw1075

def k0_chk1076 (v1049 : IVec S16 32) : Prop :=
  (∀ a x, ((![v1049] : Fin 1 → IVec S16 32) a x).toNat < S32000.size a)
theorem k0_idx1076_inb : ∀ (v1049 : IVec S16 32) (k0_hw1076 : k0_chk1076 v1049), ∀ a x, ((![v1049] : Fin 1 → IVec S16 32) a x).toNat < S32000.size a := fun v1049 k0_hw1076 => k0_hw1076

def k0_chk1077 (v664 : IVec S16 32) (v1100 : IVec S16 32) : Prop :=
  (∀ a x, ((![v1100, v664] : Fin 2 → IVec S16 32) a x).toNat < S64x512.size a)
theorem k0_idx1077_inb : ∀ (v664 : IVec S16 32) (v1100 : IVec S16 32) (k0_hw1077 : k0_chk1077 v664 v1100), ∀ a x, ((![v1100, v664] : Fin 2 → IVec S16 32) a x).toNat < S64x512.size a := fun v664 v1100 k0_hw1077 => k0_hw1077

def k0_chk1078 (v664 : IVec S16 32) (v1102 : IVec S16 32) : Prop :=
  (∀ a x, ((![v1102, v664] : Fin 2 → IVec S16 32) a x).toNat < S64x512.size a)
theorem k0_idx1078_inb : ∀ (v664 : IVec S16 32) (v1102 : IVec S16 32) (k0_hw1078 : k0_chk1078 v664 v1102), ∀ a x, ((![v1102, v664] : Fin 2 → IVec S16 32) a x).toNat < S64x512.size a := fun v664 v1102 k0_hw1078 => k0_hw1078

def k0_chk1079 (v1109 : IVec S16 32) : Prop :=
  (∀ a x, ((![v1109] : Fin 1 → IVec S16 32) a x).toNat < S32000.size a)
theorem k0_idx1079_inb : ∀ (v1109 : IVec S16 32) (k0_hw1079 : k0_chk1079 v1109), ∀ a x, ((![v1109] : Fin 1 → IVec S16 32) a x).toNat < S32000.size a := fun v1109 k0_hw1079 => k0_hw1079

def k0_chk1080 (v1111 : IVec S16 32) : Prop :=
  (∀ a x, ((![v1111] : Fin 1 → IVec S16 32) a x).toNat < S32000.size a)
theorem k0_idx1080_inb : ∀ (v1111 : IVec S16 32) (k0_hw1080 : k0_chk1080 v1111), ∀ a x, ((![v1111] : Fin 1 → IVec S16 32) a x).toNat < S32000.size a := fun v1111 k0_hw1080 => k0_hw1080

def k0_chk1081 (v1113 : IVec S16 32) : Prop :=
  (∀ a x, ((![v1113] : Fin 1 → IVec S16 32) a x).toNat < S32000.size a)
theorem k0_idx1081_inb : ∀ (v1113 : IVec S16 32) (k0_hw1081 : k0_chk1081 v1113), ∀ a x, ((![v1113] : Fin 1 → IVec S16 32) a x).toNat < S32000.size a := fun v1113 k0_hw1081 => k0_hw1081

def k0_chk1082 (v1115 : IVec S16 32) : Prop :=
  (∀ a x, ((![v1115] : Fin 1 → IVec S16 32) a x).toNat < S32000.size a)
theorem k0_idx1082_inb : ∀ (v1115 : IVec S16 32) (k0_hw1082 : k0_chk1082 v1115), ∀ a x, ((![v1115] : Fin 1 → IVec S16 32) a x).toNat < S32000.size a := fun v1115 k0_hw1082 => k0_hw1082

def k0_chk1083 (v1117 : IVec S16 32) : Prop :=
  (∀ a x, ((![v1117] : Fin 1 → IVec S16 32) a x).toNat < S32000.size a)
theorem k0_idx1083_inb : ∀ (v1117 : IVec S16 32) (k0_hw1083 : k0_chk1083 v1117), ∀ a x, ((![v1117] : Fin 1 → IVec S16 32) a x).toNat < S32000.size a := fun v1117 k0_hw1083 => k0_hw1083

def k0_chk1084 (v1119 : IVec S16 32) : Prop :=
  (∀ a x, ((![v1119] : Fin 1 → IVec S16 32) a x).toNat < S32000.size a)
theorem k0_idx1084_inb : ∀ (v1119 : IVec S16 32) (k0_hw1084 : k0_chk1084 v1119), ∀ a x, ((![v1119] : Fin 1 → IVec S16 32) a x).toNat < S32000.size a := fun v1119 k0_hw1084 => k0_hw1084

def k0_chk1085 (v664 : IVec S16 32) (v1170 : IVec S16 32) : Prop :=
  (∀ a x, ((![v1170, v664] : Fin 2 → IVec S16 32) a x).toNat < S64x512.size a)
theorem k0_idx1085_inb : ∀ (v664 : IVec S16 32) (v1170 : IVec S16 32) (k0_hw1085 : k0_chk1085 v664 v1170), ∀ a x, ((![v1170, v664] : Fin 2 → IVec S16 32) a x).toNat < S64x512.size a := fun v664 v1170 k0_hw1085 => k0_hw1085

def k0_chk1086 (v664 : IVec S16 32) (v1172 : IVec S16 32) : Prop :=
  (∀ a x, ((![v1172, v664] : Fin 2 → IVec S16 32) a x).toNat < S64x512.size a)
theorem k0_idx1086_inb : ∀ (v664 : IVec S16 32) (v1172 : IVec S16 32) (k0_hw1086 : k0_chk1086 v664 v1172), ∀ a x, ((![v1172, v664] : Fin 2 → IVec S16 32) a x).toNat < S64x512.size a := fun v664 v1172 k0_hw1086 => k0_hw1086

def k0_chk1087 (v1179 : IVec S16 32) : Prop :=
  (∀ a x, ((![v1179] : Fin 1 → IVec S16 32) a x).toNat < S32000.size a)
theorem k0_idx1087_inb : ∀ (v1179 : IVec S16 32) (k0_hw1087 : k0_chk1087 v1179), ∀ a x, ((![v1179] : Fin 1 → IVec S16 32) a x).toNat < S32000.size a := fun v1179 k0_hw1087 => k0_hw1087

def k0_chk1088 (v1181 : IVec S16 32) : Prop :=
  (∀ a x, ((![v1181] : Fin 1 → IVec S16 32) a x).toNat < S32000.size a)
theorem k0_idx1088_inb : ∀ (v1181 : IVec S16 32) (k0_hw1088 : k0_chk1088 v1181), ∀ a x, ((![v1181] : Fin 1 → IVec S16 32) a x).toNat < S32000.size a := fun v1181 k0_hw1088 => k0_hw1088

def k0_chk1089 (v1183 : IVec S16 32) : Prop :=
  (∀ a x, ((![v1183] : Fin 1 → IVec S16 32) a x).toNat < S32000.size a)
theorem k0_idx1089_inb : ∀ (v1183 : IVec S16 32) (k0_hw1089 : k0_chk1089 v1183), ∀ a x, ((![v1183] : Fin 1 → IVec S16 32) a x).toNat < S32000.size a := fun v1183 k0_hw1089 => k0_hw1089

def k0_chk1090 (v1185 : IVec S16 32) : Prop :=
  (∀ a x, ((![v1185] : Fin 1 → IVec S16 32) a x).toNat < S32000.size a)
theorem k0_idx1090_inb : ∀ (v1185 : IVec S16 32) (k0_hw1090 : k0_chk1090 v1185), ∀ a x, ((![v1185] : Fin 1 → IVec S16 32) a x).toNat < S32000.size a := fun v1185 k0_hw1090 => k0_hw1090

def k0_chk1091 (v1187 : IVec S16 32) : Prop :=
  (∀ a x, ((![v1187] : Fin 1 → IVec S16 32) a x).toNat < S32000.size a)
theorem k0_idx1091_inb : ∀ (v1187 : IVec S16 32) (k0_hw1091 : k0_chk1091 v1187), ∀ a x, ((![v1187] : Fin 1 → IVec S16 32) a x).toNat < S32000.size a := fun v1187 k0_hw1091 => k0_hw1091

def k0_chk1092 (v1189 : IVec S16 32) : Prop :=
  (∀ a x, ((![v1189] : Fin 1 → IVec S16 32) a x).toNat < S32000.size a)
theorem k0_idx1092_inb : ∀ (v1189 : IVec S16 32) (k0_hw1092 : k0_chk1092 v1189), ∀ a x, ((![v1189] : Fin 1 → IVec S16 32) a x).toNat < S32000.size a := fun v1189 k0_hw1092 => k0_hw1092

def k0_chk1093 (v664 : IVec S16 32) (v1240 : IVec S16 32) : Prop :=
  (∀ a x, ((![v1240, v664] : Fin 2 → IVec S16 32) a x).toNat < S64x512.size a)
theorem k0_idx1093_inb : ∀ (v664 : IVec S16 32) (v1240 : IVec S16 32) (k0_hw1093 : k0_chk1093 v664 v1240), ∀ a x, ((![v1240, v664] : Fin 2 → IVec S16 32) a x).toNat < S64x512.size a := fun v664 v1240 k0_hw1093 => k0_hw1093

def k0_chk1094 (v664 : IVec S16 32) (v1242 : IVec S16 32) : Prop :=
  (∀ a x, ((![v1242, v664] : Fin 2 → IVec S16 32) a x).toNat < S64x512.size a)
theorem k0_idx1094_inb : ∀ (v664 : IVec S16 32) (v1242 : IVec S16 32) (k0_hw1094 : k0_chk1094 v664 v1242), ∀ a x, ((![v1242, v664] : Fin 2 → IVec S16 32) a x).toNat < S64x512.size a := fun v664 v1242 k0_hw1094 => k0_hw1094

def k0_chk1095 (v1249 : IVec S16 32) : Prop :=
  (∀ a x, ((![v1249] : Fin 1 → IVec S16 32) a x).toNat < S32000.size a)
theorem k0_idx1095_inb : ∀ (v1249 : IVec S16 32) (k0_hw1095 : k0_chk1095 v1249), ∀ a x, ((![v1249] : Fin 1 → IVec S16 32) a x).toNat < S32000.size a := fun v1249 k0_hw1095 => k0_hw1095

def k0_chk1096 (v1251 : IVec S16 32) : Prop :=
  (∀ a x, ((![v1251] : Fin 1 → IVec S16 32) a x).toNat < S32000.size a)
theorem k0_idx1096_inb : ∀ (v1251 : IVec S16 32) (k0_hw1096 : k0_chk1096 v1251), ∀ a x, ((![v1251] : Fin 1 → IVec S16 32) a x).toNat < S32000.size a := fun v1251 k0_hw1096 => k0_hw1096

def k0_chk1097 (v1253 : IVec S16 32) : Prop :=
  (∀ a x, ((![v1253] : Fin 1 → IVec S16 32) a x).toNat < S32000.size a)
theorem k0_idx1097_inb : ∀ (v1253 : IVec S16 32) (k0_hw1097 : k0_chk1097 v1253), ∀ a x, ((![v1253] : Fin 1 → IVec S16 32) a x).toNat < S32000.size a := fun v1253 k0_hw1097 => k0_hw1097

def k0_chk1098 (v1255 : IVec S16 32) : Prop :=
  (∀ a x, ((![v1255] : Fin 1 → IVec S16 32) a x).toNat < S32000.size a)
theorem k0_idx1098_inb : ∀ (v1255 : IVec S16 32) (k0_hw1098 : k0_chk1098 v1255), ∀ a x, ((![v1255] : Fin 1 → IVec S16 32) a x).toNat < S32000.size a := fun v1255 k0_hw1098 => k0_hw1098

def k0_chk1099 (v1257 : IVec S16 32) : Prop :=
  (∀ a x, ((![v1257] : Fin 1 → IVec S16 32) a x).toNat < S32000.size a)
theorem k0_idx1099_inb : ∀ (v1257 : IVec S16 32) (k0_hw1099 : k0_chk1099 v1257), ∀ a x, ((![v1257] : Fin 1 → IVec S16 32) a x).toNat < S32000.size a := fun v1257 k0_hw1099 => k0_hw1099

def k0_chk1100 (v1259 : IVec S16 32) : Prop :=
  (∀ a x, ((![v1259] : Fin 1 → IVec S16 32) a x).toNat < S32000.size a)
theorem k0_idx1100_inb : ∀ (v1259 : IVec S16 32) (k0_hw1100 : k0_chk1100 v1259), ∀ a x, ((![v1259] : Fin 1 → IVec S16 32) a x).toNat < S32000.size a := fun v1259 k0_hw1100 => k0_hw1100

def k0_chk1101 (v664 : IVec S16 32) (v1310 : IVec S16 32) : Prop :=
  (∀ a x, ((![v1310, v664] : Fin 2 → IVec S16 32) a x).toNat < S64x512.size a)
theorem k0_idx1101_inb : ∀ (v664 : IVec S16 32) (v1310 : IVec S16 32) (k0_hw1101 : k0_chk1101 v664 v1310), ∀ a x, ((![v1310, v664] : Fin 2 → IVec S16 32) a x).toNat < S64x512.size a := fun v664 v1310 k0_hw1101 => k0_hw1101

def k0_chk1102 (v664 : IVec S16 32) (v1312 : IVec S16 32) : Prop :=
  (∀ a x, ((![v1312, v664] : Fin 2 → IVec S16 32) a x).toNat < S64x512.size a)
theorem k0_idx1102_inb : ∀ (v664 : IVec S16 32) (v1312 : IVec S16 32) (k0_hw1102 : k0_chk1102 v664 v1312), ∀ a x, ((![v1312, v664] : Fin 2 → IVec S16 32) a x).toNat < S64x512.size a := fun v664 v1312 k0_hw1102 => k0_hw1102

def k0_chk1103 (v1319 : IVec S16 32) : Prop :=
  (∀ a x, ((![v1319] : Fin 1 → IVec S16 32) a x).toNat < S32000.size a)
theorem k0_idx1103_inb : ∀ (v1319 : IVec S16 32) (k0_hw1103 : k0_chk1103 v1319), ∀ a x, ((![v1319] : Fin 1 → IVec S16 32) a x).toNat < S32000.size a := fun v1319 k0_hw1103 => k0_hw1103

def k0_chk1104 (v1321 : IVec S16 32) : Prop :=
  (∀ a x, ((![v1321] : Fin 1 → IVec S16 32) a x).toNat < S32000.size a)
theorem k0_idx1104_inb : ∀ (v1321 : IVec S16 32) (k0_hw1104 : k0_chk1104 v1321), ∀ a x, ((![v1321] : Fin 1 → IVec S16 32) a x).toNat < S32000.size a := fun v1321 k0_hw1104 => k0_hw1104

def k0_chk1105 (v1323 : IVec S16 32) : Prop :=
  (∀ a x, ((![v1323] : Fin 1 → IVec S16 32) a x).toNat < S32000.size a)
theorem k0_idx1105_inb : ∀ (v1323 : IVec S16 32) (k0_hw1105 : k0_chk1105 v1323), ∀ a x, ((![v1323] : Fin 1 → IVec S16 32) a x).toNat < S32000.size a := fun v1323 k0_hw1105 => k0_hw1105

def k0_chk1106 (v1325 : IVec S16 32) : Prop :=
  (∀ a x, ((![v1325] : Fin 1 → IVec S16 32) a x).toNat < S32000.size a)
theorem k0_idx1106_inb : ∀ (v1325 : IVec S16 32) (k0_hw1106 : k0_chk1106 v1325), ∀ a x, ((![v1325] : Fin 1 → IVec S16 32) a x).toNat < S32000.size a := fun v1325 k0_hw1106 => k0_hw1106

def k0_chk1107 (v1327 : IVec S16 32) : Prop :=
  (∀ a x, ((![v1327] : Fin 1 → IVec S16 32) a x).toNat < S32000.size a)
theorem k0_idx1107_inb : ∀ (v1327 : IVec S16 32) (k0_hw1107 : k0_chk1107 v1327), ∀ a x, ((![v1327] : Fin 1 → IVec S16 32) a x).toNat < S32000.size a := fun v1327 k0_hw1107 => k0_hw1107

def k0_chk1108 (v1329 : IVec S16 32) : Prop :=
  (∀ a x, ((![v1329] : Fin 1 → IVec S16 32) a x).toNat < S32000.size a)
theorem k0_idx1108_inb : ∀ (v1329 : IVec S16 32) (k0_hw1108 : k0_chk1108 v1329), ∀ a x, ((![v1329] : Fin 1 → IVec S16 32) a x).toNat < S32000.size a := fun v1329 k0_hw1108 => k0_hw1108

def k0_chk1109 (v664 : IVec S16 32) (v1380 : IVec S16 32) : Prop :=
  (∀ a x, ((![v1380, v664] : Fin 2 → IVec S16 32) a x).toNat < S64x512.size a)
theorem k0_idx1109_inb : ∀ (v664 : IVec S16 32) (v1380 : IVec S16 32) (k0_hw1109 : k0_chk1109 v664 v1380), ∀ a x, ((![v1380, v664] : Fin 2 → IVec S16 32) a x).toNat < S64x512.size a := fun v664 v1380 k0_hw1109 => k0_hw1109

def k0_chk1110 (v664 : IVec S16 32) (v1382 : IVec S16 32) : Prop :=
  (∀ a x, ((![v1382, v664] : Fin 2 → IVec S16 32) a x).toNat < S64x512.size a)
theorem k0_idx1110_inb : ∀ (v664 : IVec S16 32) (v1382 : IVec S16 32) (k0_hw1110 : k0_chk1110 v664 v1382), ∀ a x, ((![v1382, v664] : Fin 2 → IVec S16 32) a x).toNat < S64x512.size a := fun v664 v1382 k0_hw1110 => k0_hw1110

def k0_chk1111 (v1389 : IVec S16 32) : Prop :=
  (∀ a x, ((![v1389] : Fin 1 → IVec S16 32) a x).toNat < S32000.size a)
theorem k0_idx1111_inb : ∀ (v1389 : IVec S16 32) (k0_hw1111 : k0_chk1111 v1389), ∀ a x, ((![v1389] : Fin 1 → IVec S16 32) a x).toNat < S32000.size a := fun v1389 k0_hw1111 => k0_hw1111

def k0_chk1112 (v1391 : IVec S16 32) : Prop :=
  (∀ a x, ((![v1391] : Fin 1 → IVec S16 32) a x).toNat < S32000.size a)
theorem k0_idx1112_inb : ∀ (v1391 : IVec S16 32) (k0_hw1112 : k0_chk1112 v1391), ∀ a x, ((![v1391] : Fin 1 → IVec S16 32) a x).toNat < S32000.size a := fun v1391 k0_hw1112 => k0_hw1112

def k0_chk1113 (v1393 : IVec S16 32) : Prop :=
  (∀ a x, ((![v1393] : Fin 1 → IVec S16 32) a x).toNat < S32000.size a)
theorem k0_idx1113_inb : ∀ (v1393 : IVec S16 32) (k0_hw1113 : k0_chk1113 v1393), ∀ a x, ((![v1393] : Fin 1 → IVec S16 32) a x).toNat < S32000.size a := fun v1393 k0_hw1113 => k0_hw1113

def k0_chk1114 (v1395 : IVec S16 32) : Prop :=
  (∀ a x, ((![v1395] : Fin 1 → IVec S16 32) a x).toNat < S32000.size a)
theorem k0_idx1114_inb : ∀ (v1395 : IVec S16 32) (k0_hw1114 : k0_chk1114 v1395), ∀ a x, ((![v1395] : Fin 1 → IVec S16 32) a x).toNat < S32000.size a := fun v1395 k0_hw1114 => k0_hw1114

def k0_chk1115 (v1397 : IVec S16 32) : Prop :=
  (∀ a x, ((![v1397] : Fin 1 → IVec S16 32) a x).toNat < S32000.size a)
theorem k0_idx1115_inb : ∀ (v1397 : IVec S16 32) (k0_hw1115 : k0_chk1115 v1397), ∀ a x, ((![v1397] : Fin 1 → IVec S16 32) a x).toNat < S32000.size a := fun v1397 k0_hw1115 => k0_hw1115

def k0_chk1116 (v1399 : IVec S16 32) : Prop :=
  (∀ a x, ((![v1399] : Fin 1 → IVec S16 32) a x).toNat < S32000.size a)
theorem k0_idx1116_inb : ∀ (v1399 : IVec S16 32) (k0_hw1116 : k0_chk1116 v1399), ∀ a x, ((![v1399] : Fin 1 → IVec S16 32) a x).toNat < S32000.size a := fun v1399 k0_hw1116 => k0_hw1116

def k0_chk1117 (v664 : IVec S16 32) (v1450 : IVec S16 32) : Prop :=
  (∀ a x, ((![v1450, v664] : Fin 2 → IVec S16 32) a x).toNat < S64x512.size a)
theorem k0_idx1117_inb : ∀ (v664 : IVec S16 32) (v1450 : IVec S16 32) (k0_hw1117 : k0_chk1117 v664 v1450), ∀ a x, ((![v1450, v664] : Fin 2 → IVec S16 32) a x).toNat < S64x512.size a := fun v664 v1450 k0_hw1117 => k0_hw1117

def k0_chk1118 (v664 : IVec S16 32) (v1452 : IVec S16 32) : Prop :=
  (∀ a x, ((![v1452, v664] : Fin 2 → IVec S16 32) a x).toNat < S64x512.size a)
theorem k0_idx1118_inb : ∀ (v664 : IVec S16 32) (v1452 : IVec S16 32) (k0_hw1118 : k0_chk1118 v664 v1452), ∀ a x, ((![v1452, v664] : Fin 2 → IVec S16 32) a x).toNat < S64x512.size a := fun v664 v1452 k0_hw1118 => k0_hw1118

def k0_chk1119 (v1459 : IVec S16 32) : Prop :=
  (∀ a x, ((![v1459] : Fin 1 → IVec S16 32) a x).toNat < S32000.size a)
theorem k0_idx1119_inb : ∀ (v1459 : IVec S16 32) (k0_hw1119 : k0_chk1119 v1459), ∀ a x, ((![v1459] : Fin 1 → IVec S16 32) a x).toNat < S32000.size a := fun v1459 k0_hw1119 => k0_hw1119

def k0_chk1120 (v1461 : IVec S16 32) : Prop :=
  (∀ a x, ((![v1461] : Fin 1 → IVec S16 32) a x).toNat < S32000.size a)
theorem k0_idx1120_inb : ∀ (v1461 : IVec S16 32) (k0_hw1120 : k0_chk1120 v1461), ∀ a x, ((![v1461] : Fin 1 → IVec S16 32) a x).toNat < S32000.size a := fun v1461 k0_hw1120 => k0_hw1120

def k0_chk1121 (v1463 : IVec S16 32) : Prop :=
  (∀ a x, ((![v1463] : Fin 1 → IVec S16 32) a x).toNat < S32000.size a)
theorem k0_idx1121_inb : ∀ (v1463 : IVec S16 32) (k0_hw1121 : k0_chk1121 v1463), ∀ a x, ((![v1463] : Fin 1 → IVec S16 32) a x).toNat < S32000.size a := fun v1463 k0_hw1121 => k0_hw1121

def k0_chk1122 (v1465 : IVec S16 32) : Prop :=
  (∀ a x, ((![v1465] : Fin 1 → IVec S16 32) a x).toNat < S32000.size a)
theorem k0_idx1122_inb : ∀ (v1465 : IVec S16 32) (k0_hw1122 : k0_chk1122 v1465), ∀ a x, ((![v1465] : Fin 1 → IVec S16 32) a x).toNat < S32000.size a := fun v1465 k0_hw1122 => k0_hw1122

def k0_chk1123 (v1467 : IVec S16 32) : Prop :=
  (∀ a x, ((![v1467] : Fin 1 → IVec S16 32) a x).toNat < S32000.size a)
theorem k0_idx1123_inb : ∀ (v1467 : IVec S16 32) (k0_hw1123 : k0_chk1123 v1467), ∀ a x, ((![v1467] : Fin 1 → IVec S16 32) a x).toNat < S32000.size a := fun v1467 k0_hw1123 => k0_hw1123

def k0_chk1124 (v1469 : IVec S16 32) : Prop :=
  (∀ a x, ((![v1469] : Fin 1 → IVec S16 32) a x).toNat < S32000.size a)
theorem k0_idx1124_inb : ∀ (v1469 : IVec S16 32) (k0_hw1124 : k0_chk1124 v1469), ∀ a x, ((![v1469] : Fin 1 → IVec S16 32) a x).toNat < S32000.size a := fun v1469 k0_hw1124 => k0_hw1124

def k0_chk1125 (v664 : IVec S16 32) (v1520 : IVec S16 32) : Prop :=
  (∀ a x, ((![v1520, v664] : Fin 2 → IVec S16 32) a x).toNat < S64x512.size a)
theorem k0_idx1125_inb : ∀ (v664 : IVec S16 32) (v1520 : IVec S16 32) (k0_hw1125 : k0_chk1125 v664 v1520), ∀ a x, ((![v1520, v664] : Fin 2 → IVec S16 32) a x).toNat < S64x512.size a := fun v664 v1520 k0_hw1125 => k0_hw1125

def k0_chk1126 (v664 : IVec S16 32) (v1522 : IVec S16 32) : Prop :=
  (∀ a x, ((![v1522, v664] : Fin 2 → IVec S16 32) a x).toNat < S64x512.size a)
theorem k0_idx1126_inb : ∀ (v664 : IVec S16 32) (v1522 : IVec S16 32) (k0_hw1126 : k0_chk1126 v664 v1522), ∀ a x, ((![v1522, v664] : Fin 2 → IVec S16 32) a x).toNat < S64x512.size a := fun v664 v1522 k0_hw1126 => k0_hw1126

def k0_chk1127 (v1529 : IVec S16 32) : Prop :=
  (∀ a x, ((![v1529] : Fin 1 → IVec S16 32) a x).toNat < S32000.size a)
theorem k0_idx1127_inb : ∀ (v1529 : IVec S16 32) (k0_hw1127 : k0_chk1127 v1529), ∀ a x, ((![v1529] : Fin 1 → IVec S16 32) a x).toNat < S32000.size a := fun v1529 k0_hw1127 => k0_hw1127

def k0_chk1128 (v1531 : IVec S16 32) : Prop :=
  (∀ a x, ((![v1531] : Fin 1 → IVec S16 32) a x).toNat < S32000.size a)
theorem k0_idx1128_inb : ∀ (v1531 : IVec S16 32) (k0_hw1128 : k0_chk1128 v1531), ∀ a x, ((![v1531] : Fin 1 → IVec S16 32) a x).toNat < S32000.size a := fun v1531 k0_hw1128 => k0_hw1128

def k0_chk1129 (v1533 : IVec S16 32) : Prop :=
  (∀ a x, ((![v1533] : Fin 1 → IVec S16 32) a x).toNat < S32000.size a)
theorem k0_idx1129_inb : ∀ (v1533 : IVec S16 32) (k0_hw1129 : k0_chk1129 v1533), ∀ a x, ((![v1533] : Fin 1 → IVec S16 32) a x).toNat < S32000.size a := fun v1533 k0_hw1129 => k0_hw1129

def k0_chk1130 (v1535 : IVec S16 32) : Prop :=
  (∀ a x, ((![v1535] : Fin 1 → IVec S16 32) a x).toNat < S32000.size a)
theorem k0_idx1130_inb : ∀ (v1535 : IVec S16 32) (k0_hw1130 : k0_chk1130 v1535), ∀ a x, ((![v1535] : Fin 1 → IVec S16 32) a x).toNat < S32000.size a := fun v1535 k0_hw1130 => k0_hw1130

def k0_chk1131 (v1537 : IVec S16 32) : Prop :=
  (∀ a x, ((![v1537] : Fin 1 → IVec S16 32) a x).toNat < S32000.size a)
theorem k0_idx1131_inb : ∀ (v1537 : IVec S16 32) (k0_hw1131 : k0_chk1131 v1537), ∀ a x, ((![v1537] : Fin 1 → IVec S16 32) a x).toNat < S32000.size a := fun v1537 k0_hw1131 => k0_hw1131

def k0_chk1132 (v1539 : IVec S16 32) : Prop :=
  (∀ a x, ((![v1539] : Fin 1 → IVec S16 32) a x).toNat < S32000.size a)
theorem k0_idx1132_inb : ∀ (v1539 : IVec S16 32) (k0_hw1132 : k0_chk1132 v1539), ∀ a x, ((![v1539] : Fin 1 → IVec S16 32) a x).toNat < S32000.size a := fun v1539 k0_hw1132 => k0_hw1132

def k0_chk1133 (v664 : IVec S16 32) (v1590 : IVec S16 32) : Prop :=
  (∀ a x, ((![v1590, v664] : Fin 2 → IVec S16 32) a x).toNat < S64x512.size a)
theorem k0_idx1133_inb : ∀ (v664 : IVec S16 32) (v1590 : IVec S16 32) (k0_hw1133 : k0_chk1133 v664 v1590), ∀ a x, ((![v1590, v664] : Fin 2 → IVec S16 32) a x).toNat < S64x512.size a := fun v664 v1590 k0_hw1133 => k0_hw1133

def k0_chk1134 (v664 : IVec S16 32) (v1592 : IVec S16 32) : Prop :=
  (∀ a x, ((![v1592, v664] : Fin 2 → IVec S16 32) a x).toNat < S64x512.size a)
theorem k0_idx1134_inb : ∀ (v664 : IVec S16 32) (v1592 : IVec S16 32) (k0_hw1134 : k0_chk1134 v664 v1592), ∀ a x, ((![v1592, v664] : Fin 2 → IVec S16 32) a x).toNat < S64x512.size a := fun v664 v1592 k0_hw1134 => k0_hw1134

def k0_chk1135 (v1599 : IVec S16 32) : Prop :=
  (∀ a x, ((![v1599] : Fin 1 → IVec S16 32) a x).toNat < S32000.size a)
theorem k0_idx1135_inb : ∀ (v1599 : IVec S16 32) (k0_hw1135 : k0_chk1135 v1599), ∀ a x, ((![v1599] : Fin 1 → IVec S16 32) a x).toNat < S32000.size a := fun v1599 k0_hw1135 => k0_hw1135

def k0_chk1136 (v1601 : IVec S16 32) : Prop :=
  (∀ a x, ((![v1601] : Fin 1 → IVec S16 32) a x).toNat < S32000.size a)
theorem k0_idx1136_inb : ∀ (v1601 : IVec S16 32) (k0_hw1136 : k0_chk1136 v1601), ∀ a x, ((![v1601] : Fin 1 → IVec S16 32) a x).toNat < S32000.size a := fun v1601 k0_hw1136 => k0_hw1136

def k0_chk1137 (v1603 : IVec S16 32) : Prop :=
  (∀ a x, ((![v1603] : Fin 1 → IVec S16 32) a x).toNat < S32000.size a)
theorem k0_idx1137_inb : ∀ (v1603 : IVec S16 32) (k0_hw1137 : k0_chk1137 v1603), ∀ a x, ((![v1603] : Fin 1 → IVec S16 32) a x).toNat < S32000.size a := fun v1603 k0_hw1137 => k0_hw1137

def k0_chk1138 (v1605 : IVec S16 32) : Prop :=
  (∀ a x, ((![v1605] : Fin 1 → IVec S16 32) a x).toNat < S32000.size a)
theorem k0_idx1138_inb : ∀ (v1605 : IVec S16 32) (k0_hw1138 : k0_chk1138 v1605), ∀ a x, ((![v1605] : Fin 1 → IVec S16 32) a x).toNat < S32000.size a := fun v1605 k0_hw1138 => k0_hw1138

def k0_chk1139 (v1607 : IVec S16 32) : Prop :=
  (∀ a x, ((![v1607] : Fin 1 → IVec S16 32) a x).toNat < S32000.size a)
theorem k0_idx1139_inb : ∀ (v1607 : IVec S16 32) (k0_hw1139 : k0_chk1139 v1607), ∀ a x, ((![v1607] : Fin 1 → IVec S16 32) a x).toNat < S32000.size a := fun v1607 k0_hw1139 => k0_hw1139

def k0_chk1140 (v1609 : IVec S16 32) : Prop :=
  (∀ a x, ((![v1609] : Fin 1 → IVec S16 32) a x).toNat < S32000.size a)
theorem k0_idx1140_inb : ∀ (v1609 : IVec S16 32) (k0_hw1140 : k0_chk1140 v1609), ∀ a x, ((![v1609] : Fin 1 → IVec S16 32) a x).toNat < S32000.size a := fun v1609 k0_hw1140 => k0_hw1140

def k0_chk1141 (v664 : IVec S16 32) (v1660 : IVec S16 32) : Prop :=
  (∀ a x, ((![v1660, v664] : Fin 2 → IVec S16 32) a x).toNat < S64x512.size a)
theorem k0_idx1141_inb : ∀ (v664 : IVec S16 32) (v1660 : IVec S16 32) (k0_hw1141 : k0_chk1141 v664 v1660), ∀ a x, ((![v1660, v664] : Fin 2 → IVec S16 32) a x).toNat < S64x512.size a := fun v664 v1660 k0_hw1141 => k0_hw1141

def k0_chk1142 (v664 : IVec S16 32) (v1662 : IVec S16 32) : Prop :=
  (∀ a x, ((![v1662, v664] : Fin 2 → IVec S16 32) a x).toNat < S64x512.size a)
theorem k0_idx1142_inb : ∀ (v664 : IVec S16 32) (v1662 : IVec S16 32) (k0_hw1142 : k0_chk1142 v664 v1662), ∀ a x, ((![v1662, v664] : Fin 2 → IVec S16 32) a x).toNat < S64x512.size a := fun v664 v1662 k0_hw1142 => k0_hw1142

def k0_chk1143 (v1669 : IVec S16 32) : Prop :=
  (∀ a x, ((![v1669] : Fin 1 → IVec S16 32) a x).toNat < S32000.size a)
theorem k0_idx1143_inb : ∀ (v1669 : IVec S16 32) (k0_hw1143 : k0_chk1143 v1669), ∀ a x, ((![v1669] : Fin 1 → IVec S16 32) a x).toNat < S32000.size a := fun v1669 k0_hw1143 => k0_hw1143

def k0_chk1144 (v1671 : IVec S16 32) : Prop :=
  (∀ a x, ((![v1671] : Fin 1 → IVec S16 32) a x).toNat < S32000.size a)
theorem k0_idx1144_inb : ∀ (v1671 : IVec S16 32) (k0_hw1144 : k0_chk1144 v1671), ∀ a x, ((![v1671] : Fin 1 → IVec S16 32) a x).toNat < S32000.size a := fun v1671 k0_hw1144 => k0_hw1144

def k0_chk1145 (v1673 : IVec S16 32) : Prop :=
  (∀ a x, ((![v1673] : Fin 1 → IVec S16 32) a x).toNat < S32000.size a)
theorem k0_idx1145_inb : ∀ (v1673 : IVec S16 32) (k0_hw1145 : k0_chk1145 v1673), ∀ a x, ((![v1673] : Fin 1 → IVec S16 32) a x).toNat < S32000.size a := fun v1673 k0_hw1145 => k0_hw1145

def k0_chk1146 (v1675 : IVec S16 32) : Prop :=
  (∀ a x, ((![v1675] : Fin 1 → IVec S16 32) a x).toNat < S32000.size a)
theorem k0_idx1146_inb : ∀ (v1675 : IVec S16 32) (k0_hw1146 : k0_chk1146 v1675), ∀ a x, ((![v1675] : Fin 1 → IVec S16 32) a x).toNat < S32000.size a := fun v1675 k0_hw1146 => k0_hw1146

def k0_chk1147 (v1677 : IVec S16 32) : Prop :=
  (∀ a x, ((![v1677] : Fin 1 → IVec S16 32) a x).toNat < S32000.size a)
theorem k0_idx1147_inb : ∀ (v1677 : IVec S16 32) (k0_hw1147 : k0_chk1147 v1677), ∀ a x, ((![v1677] : Fin 1 → IVec S16 32) a x).toNat < S32000.size a := fun v1677 k0_hw1147 => k0_hw1147

def k0_chk1148 (v1679 : IVec S16 32) : Prop :=
  (∀ a x, ((![v1679] : Fin 1 → IVec S16 32) a x).toNat < S32000.size a)
theorem k0_idx1148_inb : ∀ (v1679 : IVec S16 32) (k0_hw1148 : k0_chk1148 v1679), ∀ a x, ((![v1679] : Fin 1 → IVec S16 32) a x).toNat < S32000.size a := fun v1679 k0_hw1148 => k0_hw1148

def k0_chk1149 (v664 : IVec S16 32) (v1730 : IVec S16 32) : Prop :=
  (∀ a x, ((![v1730, v664] : Fin 2 → IVec S16 32) a x).toNat < S64x512.size a)
theorem k0_idx1149_inb : ∀ (v664 : IVec S16 32) (v1730 : IVec S16 32) (k0_hw1149 : k0_chk1149 v664 v1730), ∀ a x, ((![v1730, v664] : Fin 2 → IVec S16 32) a x).toNat < S64x512.size a := fun v664 v1730 k0_hw1149 => k0_hw1149

def k0_chk1150 (v664 : IVec S16 32) (v1732 : IVec S16 32) : Prop :=
  (∀ a x, ((![v1732, v664] : Fin 2 → IVec S16 32) a x).toNat < S64x512.size a)
theorem k0_idx1150_inb : ∀ (v664 : IVec S16 32) (v1732 : IVec S16 32) (k0_hw1150 : k0_chk1150 v664 v1732), ∀ a x, ((![v1732, v664] : Fin 2 → IVec S16 32) a x).toNat < S64x512.size a := fun v664 v1732 k0_hw1150 => k0_hw1150

def k0_chk1151 (v1739 : IVec S16 32) : Prop :=
  (∀ a x, ((![v1739] : Fin 1 → IVec S16 32) a x).toNat < S32000.size a)
theorem k0_idx1151_inb : ∀ (v1739 : IVec S16 32) (k0_hw1151 : k0_chk1151 v1739), ∀ a x, ((![v1739] : Fin 1 → IVec S16 32) a x).toNat < S32000.size a := fun v1739 k0_hw1151 => k0_hw1151

def k0_chk1152 (v1741 : IVec S16 32) : Prop :=
  (∀ a x, ((![v1741] : Fin 1 → IVec S16 32) a x).toNat < S32000.size a)
theorem k0_idx1152_inb : ∀ (v1741 : IVec S16 32) (k0_hw1152 : k0_chk1152 v1741), ∀ a x, ((![v1741] : Fin 1 → IVec S16 32) a x).toNat < S32000.size a := fun v1741 k0_hw1152 => k0_hw1152

def k0_chk1153 (v1743 : IVec S16 32) : Prop :=
  (∀ a x, ((![v1743] : Fin 1 → IVec S16 32) a x).toNat < S32000.size a)
theorem k0_idx1153_inb : ∀ (v1743 : IVec S16 32) (k0_hw1153 : k0_chk1153 v1743), ∀ a x, ((![v1743] : Fin 1 → IVec S16 32) a x).toNat < S32000.size a := fun v1743 k0_hw1153 => k0_hw1153

def k0_chk1154 (v1745 : IVec S16 32) : Prop :=
  (∀ a x, ((![v1745] : Fin 1 → IVec S16 32) a x).toNat < S32000.size a)
theorem k0_idx1154_inb : ∀ (v1745 : IVec S16 32) (k0_hw1154 : k0_chk1154 v1745), ∀ a x, ((![v1745] : Fin 1 → IVec S16 32) a x).toNat < S32000.size a := fun v1745 k0_hw1154 => k0_hw1154

def k0_chk1155 (v1747 : IVec S16 32) : Prop :=
  (∀ a x, ((![v1747] : Fin 1 → IVec S16 32) a x).toNat < S32000.size a)
theorem k0_idx1155_inb : ∀ (v1747 : IVec S16 32) (k0_hw1155 : k0_chk1155 v1747), ∀ a x, ((![v1747] : Fin 1 → IVec S16 32) a x).toNat < S32000.size a := fun v1747 k0_hw1155 => k0_hw1155

def k0_chk1156 (v1749 : IVec S16 32) : Prop :=
  (∀ a x, ((![v1749] : Fin 1 → IVec S16 32) a x).toNat < S32000.size a)
theorem k0_idx1156_inb : ∀ (v1749 : IVec S16 32) (k0_hw1156 : k0_chk1156 v1749), ∀ a x, ((![v1749] : Fin 1 → IVec S16 32) a x).toNat < S32000.size a := fun v1749 k0_hw1156 => k0_hw1156

def k0_chk1157 (v664 : IVec S16 32) (v1800 : IVec S16 32) : Prop :=
  (∀ a x, ((![v1800, v664] : Fin 2 → IVec S16 32) a x).toNat < S64x512.size a)
theorem k0_idx1157_inb : ∀ (v664 : IVec S16 32) (v1800 : IVec S16 32) (k0_hw1157 : k0_chk1157 v664 v1800), ∀ a x, ((![v1800, v664] : Fin 2 → IVec S16 32) a x).toNat < S64x512.size a := fun v664 v1800 k0_hw1157 => k0_hw1157

def k0_chk1158 (v664 : IVec S16 32) (v1802 : IVec S16 32) : Prop :=
  (∀ a x, ((![v1802, v664] : Fin 2 → IVec S16 32) a x).toNat < S64x512.size a)
theorem k0_idx1158_inb : ∀ (v664 : IVec S16 32) (v1802 : IVec S16 32) (k0_hw1158 : k0_chk1158 v664 v1802), ∀ a x, ((![v1802, v664] : Fin 2 → IVec S16 32) a x).toNat < S64x512.size a := fun v664 v1802 k0_hw1158 => k0_hw1158

def k0_chk1159 (v1809 : IVec S16 32) : Prop :=
  (∀ a x, ((![v1809] : Fin 1 → IVec S16 32) a x).toNat < S32000.size a)
theorem k0_idx1159_inb : ∀ (v1809 : IVec S16 32) (k0_hw1159 : k0_chk1159 v1809), ∀ a x, ((![v1809] : Fin 1 → IVec S16 32) a x).toNat < S32000.size a := fun v1809 k0_hw1159 => k0_hw1159

def k0_chk1160 (v1811 : IVec S16 32) : Prop :=
  (∀ a x, ((![v1811] : Fin 1 → IVec S16 32) a x).toNat < S32000.size a)
theorem k0_idx1160_inb : ∀ (v1811 : IVec S16 32) (k0_hw1160 : k0_chk1160 v1811), ∀ a x, ((![v1811] : Fin 1 → IVec S16 32) a x).toNat < S32000.size a := fun v1811 k0_hw1160 => k0_hw1160

def k0_chk1161 (v1813 : IVec S16 32) : Prop :=
  (∀ a x, ((![v1813] : Fin 1 → IVec S16 32) a x).toNat < S32000.size a)
theorem k0_idx1161_inb : ∀ (v1813 : IVec S16 32) (k0_hw1161 : k0_chk1161 v1813), ∀ a x, ((![v1813] : Fin 1 → IVec S16 32) a x).toNat < S32000.size a := fun v1813 k0_hw1161 => k0_hw1161

def k0_chk1162 (v1815 : IVec S16 32) : Prop :=
  (∀ a x, ((![v1815] : Fin 1 → IVec S16 32) a x).toNat < S32000.size a)
theorem k0_idx1162_inb : ∀ (v1815 : IVec S16 32) (k0_hw1162 : k0_chk1162 v1815), ∀ a x, ((![v1815] : Fin 1 → IVec S16 32) a x).toNat < S32000.size a := fun v1815 k0_hw1162 => k0_hw1162

def k0_chk1163 (v1817 : IVec S16 32) : Prop :=
  (∀ a x, ((![v1817] : Fin 1 → IVec S16 32) a x).toNat < S32000.size a)
theorem k0_idx1163_inb : ∀ (v1817 : IVec S16 32) (k0_hw1163 : k0_chk1163 v1817), ∀ a x, ((![v1817] : Fin 1 → IVec S16 32) a x).toNat < S32000.size a := fun v1817 k0_hw1163 => k0_hw1163

def k0_chk1164 (v1819 : IVec S16 32) : Prop :=
  (∀ a x, ((![v1819] : Fin 1 → IVec S16 32) a x).toNat < S32000.size a)
theorem k0_idx1164_inb : ∀ (v1819 : IVec S16 32) (k0_hw1164 : k0_chk1164 v1819), ∀ a x, ((![v1819] : Fin 1 → IVec S16 32) a x).toNat < S32000.size a := fun v1819 k0_hw1164 => k0_hw1164

def k0_chk1165 (v664 : IVec S16 32) (v1870 : IVec S16 32) : Prop :=
  (∀ a x, ((![v1870, v664] : Fin 2 → IVec S16 32) a x).toNat < S64x512.size a)
theorem k0_idx1165_inb : ∀ (v664 : IVec S16 32) (v1870 : IVec S16 32) (k0_hw1165 : k0_chk1165 v664 v1870), ∀ a x, ((![v1870, v664] : Fin 2 → IVec S16 32) a x).toNat < S64x512.size a := fun v664 v1870 k0_hw1165 => k0_hw1165

def k0_chk1166 (v664 : IVec S16 32) (v1872 : IVec S16 32) : Prop :=
  (∀ a x, ((![v1872, v664] : Fin 2 → IVec S16 32) a x).toNat < S64x512.size a)
theorem k0_idx1166_inb : ∀ (v664 : IVec S16 32) (v1872 : IVec S16 32) (k0_hw1166 : k0_chk1166 v664 v1872), ∀ a x, ((![v1872, v664] : Fin 2 → IVec S16 32) a x).toNat < S64x512.size a := fun v664 v1872 k0_hw1166 => k0_hw1166

def k0_chk1167 (v1879 : IVec S16 32) : Prop :=
  (∀ a x, ((![v1879] : Fin 1 → IVec S16 32) a x).toNat < S32000.size a)
theorem k0_idx1167_inb : ∀ (v1879 : IVec S16 32) (k0_hw1167 : k0_chk1167 v1879), ∀ a x, ((![v1879] : Fin 1 → IVec S16 32) a x).toNat < S32000.size a := fun v1879 k0_hw1167 => k0_hw1167

def k0_chk1168 (v1881 : IVec S16 32) : Prop :=
  (∀ a x, ((![v1881] : Fin 1 → IVec S16 32) a x).toNat < S32000.size a)
theorem k0_idx1168_inb : ∀ (v1881 : IVec S16 32) (k0_hw1168 : k0_chk1168 v1881), ∀ a x, ((![v1881] : Fin 1 → IVec S16 32) a x).toNat < S32000.size a := fun v1881 k0_hw1168 => k0_hw1168

def k0_chk1169 (v1883 : IVec S16 32) : Prop :=
  (∀ a x, ((![v1883] : Fin 1 → IVec S16 32) a x).toNat < S32000.size a)
theorem k0_idx1169_inb : ∀ (v1883 : IVec S16 32) (k0_hw1169 : k0_chk1169 v1883), ∀ a x, ((![v1883] : Fin 1 → IVec S16 32) a x).toNat < S32000.size a := fun v1883 k0_hw1169 => k0_hw1169

def k0_chk1170 (v1885 : IVec S16 32) : Prop :=
  (∀ a x, ((![v1885] : Fin 1 → IVec S16 32) a x).toNat < S32000.size a)
theorem k0_idx1170_inb : ∀ (v1885 : IVec S16 32) (k0_hw1170 : k0_chk1170 v1885), ∀ a x, ((![v1885] : Fin 1 → IVec S16 32) a x).toNat < S32000.size a := fun v1885 k0_hw1170 => k0_hw1170

def k0_chk1171 (v1887 : IVec S16 32) : Prop :=
  (∀ a x, ((![v1887] : Fin 1 → IVec S16 32) a x).toNat < S32000.size a)
theorem k0_idx1171_inb : ∀ (v1887 : IVec S16 32) (k0_hw1171 : k0_chk1171 v1887), ∀ a x, ((![v1887] : Fin 1 → IVec S16 32) a x).toNat < S32000.size a := fun v1887 k0_hw1171 => k0_hw1171

def k0_chk1172 (v1889 : IVec S16 32) : Prop :=
  (∀ a x, ((![v1889] : Fin 1 → IVec S16 32) a x).toNat < S32000.size a)
theorem k0_idx1172_inb : ∀ (v1889 : IVec S16 32) (k0_hw1172 : k0_chk1172 v1889), ∀ a x, ((![v1889] : Fin 1 → IVec S16 32) a x).toNat < S32000.size a := fun v1889 k0_hw1172 => k0_hw1172

def k0_chk1173 (v664 : IVec S16 32) (v1940 : IVec S16 32) : Prop :=
  (∀ a x, ((![v1940, v664] : Fin 2 → IVec S16 32) a x).toNat < S64x512.size a)
theorem k0_idx1173_inb : ∀ (v664 : IVec S16 32) (v1940 : IVec S16 32) (k0_hw1173 : k0_chk1173 v664 v1940), ∀ a x, ((![v1940, v664] : Fin 2 → IVec S16 32) a x).toNat < S64x512.size a := fun v664 v1940 k0_hw1173 => k0_hw1173

def k0_chk1174 (v664 : IVec S16 32) (v1942 : IVec S16 32) : Prop :=
  (∀ a x, ((![v1942, v664] : Fin 2 → IVec S16 32) a x).toNat < S64x512.size a)
theorem k0_idx1174_inb : ∀ (v664 : IVec S16 32) (v1942 : IVec S16 32) (k0_hw1174 : k0_chk1174 v664 v1942), ∀ a x, ((![v1942, v664] : Fin 2 → IVec S16 32) a x).toNat < S64x512.size a := fun v664 v1942 k0_hw1174 => k0_hw1174

def k0_chk1175 (v1949 : IVec S16 32) : Prop :=
  (∀ a x, ((![v1949] : Fin 1 → IVec S16 32) a x).toNat < S32000.size a)
theorem k0_idx1175_inb : ∀ (v1949 : IVec S16 32) (k0_hw1175 : k0_chk1175 v1949), ∀ a x, ((![v1949] : Fin 1 → IVec S16 32) a x).toNat < S32000.size a := fun v1949 k0_hw1175 => k0_hw1175

def k0_chk1176 (v1951 : IVec S16 32) : Prop :=
  (∀ a x, ((![v1951] : Fin 1 → IVec S16 32) a x).toNat < S32000.size a)
theorem k0_idx1176_inb : ∀ (v1951 : IVec S16 32) (k0_hw1176 : k0_chk1176 v1951), ∀ a x, ((![v1951] : Fin 1 → IVec S16 32) a x).toNat < S32000.size a := fun v1951 k0_hw1176 => k0_hw1176

def k0_chk1177 (v1953 : IVec S16 32) : Prop :=
  (∀ a x, ((![v1953] : Fin 1 → IVec S16 32) a x).toNat < S32000.size a)
theorem k0_idx1177_inb : ∀ (v1953 : IVec S16 32) (k0_hw1177 : k0_chk1177 v1953), ∀ a x, ((![v1953] : Fin 1 → IVec S16 32) a x).toNat < S32000.size a := fun v1953 k0_hw1177 => k0_hw1177

def k0_chk1178 (v1955 : IVec S16 32) : Prop :=
  (∀ a x, ((![v1955] : Fin 1 → IVec S16 32) a x).toNat < S32000.size a)
theorem k0_idx1178_inb : ∀ (v1955 : IVec S16 32) (k0_hw1178 : k0_chk1178 v1955), ∀ a x, ((![v1955] : Fin 1 → IVec S16 32) a x).toNat < S32000.size a := fun v1955 k0_hw1178 => k0_hw1178

def k0_chk1179 (v1957 : IVec S16 32) : Prop :=
  (∀ a x, ((![v1957] : Fin 1 → IVec S16 32) a x).toNat < S32000.size a)
theorem k0_idx1179_inb : ∀ (v1957 : IVec S16 32) (k0_hw1179 : k0_chk1179 v1957), ∀ a x, ((![v1957] : Fin 1 → IVec S16 32) a x).toNat < S32000.size a := fun v1957 k0_hw1179 => k0_hw1179

def k0_chk1180 (v1959 : IVec S16 32) : Prop :=
  (∀ a x, ((![v1959] : Fin 1 → IVec S16 32) a x).toNat < S32000.size a)
theorem k0_idx1180_inb : ∀ (v1959 : IVec S16 32) (k0_hw1180 : k0_chk1180 v1959), ∀ a x, ((![v1959] : Fin 1 → IVec S16 32) a x).toNat < S32000.size a := fun v1959 k0_hw1180 => k0_hw1180

def k0_chk1181 (v664 : IVec S16 32) (v2010 : IVec S16 32) : Prop :=
  (∀ a x, ((![v2010, v664] : Fin 2 → IVec S16 32) a x).toNat < S64x512.size a)
theorem k0_idx1181_inb : ∀ (v664 : IVec S16 32) (v2010 : IVec S16 32) (k0_hw1181 : k0_chk1181 v664 v2010), ∀ a x, ((![v2010, v664] : Fin 2 → IVec S16 32) a x).toNat < S64x512.size a := fun v664 v2010 k0_hw1181 => k0_hw1181

def k0_chk1182 (v664 : IVec S16 32) (v2012 : IVec S16 32) : Prop :=
  (∀ a x, ((![v2012, v664] : Fin 2 → IVec S16 32) a x).toNat < S64x512.size a)
theorem k0_idx1182_inb : ∀ (v664 : IVec S16 32) (v2012 : IVec S16 32) (k0_hw1182 : k0_chk1182 v664 v2012), ∀ a x, ((![v2012, v664] : Fin 2 → IVec S16 32) a x).toNat < S64x512.size a := fun v664 v2012 k0_hw1182 => k0_hw1182

def k0_chk1183 (v2019 : IVec S16 32) : Prop :=
  (∀ a x, ((![v2019] : Fin 1 → IVec S16 32) a x).toNat < S32000.size a)
theorem k0_idx1183_inb : ∀ (v2019 : IVec S16 32) (k0_hw1183 : k0_chk1183 v2019), ∀ a x, ((![v2019] : Fin 1 → IVec S16 32) a x).toNat < S32000.size a := fun v2019 k0_hw1183 => k0_hw1183

def k0_chk1184 (v2021 : IVec S16 32) : Prop :=
  (∀ a x, ((![v2021] : Fin 1 → IVec S16 32) a x).toNat < S32000.size a)
theorem k0_idx1184_inb : ∀ (v2021 : IVec S16 32) (k0_hw1184 : k0_chk1184 v2021), ∀ a x, ((![v2021] : Fin 1 → IVec S16 32) a x).toNat < S32000.size a := fun v2021 k0_hw1184 => k0_hw1184

def k0_chk1185 (v2023 : IVec S16 32) : Prop :=
  (∀ a x, ((![v2023] : Fin 1 → IVec S16 32) a x).toNat < S32000.size a)
theorem k0_idx1185_inb : ∀ (v2023 : IVec S16 32) (k0_hw1185 : k0_chk1185 v2023), ∀ a x, ((![v2023] : Fin 1 → IVec S16 32) a x).toNat < S32000.size a := fun v2023 k0_hw1185 => k0_hw1185

def k0_chk1186 (v2025 : IVec S16 32) : Prop :=
  (∀ a x, ((![v2025] : Fin 1 → IVec S16 32) a x).toNat < S32000.size a)
theorem k0_idx1186_inb : ∀ (v2025 : IVec S16 32) (k0_hw1186 : k0_chk1186 v2025), ∀ a x, ((![v2025] : Fin 1 → IVec S16 32) a x).toNat < S32000.size a := fun v2025 k0_hw1186 => k0_hw1186

def k0_chk1187 (v2027 : IVec S16 32) : Prop :=
  (∀ a x, ((![v2027] : Fin 1 → IVec S16 32) a x).toNat < S32000.size a)
theorem k0_idx1187_inb : ∀ (v2027 : IVec S16 32) (k0_hw1187 : k0_chk1187 v2027), ∀ a x, ((![v2027] : Fin 1 → IVec S16 32) a x).toNat < S32000.size a := fun v2027 k0_hw1187 => k0_hw1187

def k0_chk1188 (v2029 : IVec S16 32) : Prop :=
  (∀ a x, ((![v2029] : Fin 1 → IVec S16 32) a x).toNat < S32000.size a)
theorem k0_idx1188_inb : ∀ (v2029 : IVec S16 32) (k0_hw1188 : k0_chk1188 v2029), ∀ a x, ((![v2029] : Fin 1 → IVec S16 32) a x).toNat < S32000.size a := fun v2029 k0_hw1188 => k0_hw1188

def k0_chk1189 (v664 : IVec S16 32) (v2080 : IVec S16 32) : Prop :=
  (∀ a x, ((![v2080, v664] : Fin 2 → IVec S16 32) a x).toNat < S64x512.size a)
theorem k0_idx1189_inb : ∀ (v664 : IVec S16 32) (v2080 : IVec S16 32) (k0_hw1189 : k0_chk1189 v664 v2080), ∀ a x, ((![v2080, v664] : Fin 2 → IVec S16 32) a x).toNat < S64x512.size a := fun v664 v2080 k0_hw1189 => k0_hw1189

def k0_chk1190 (v664 : IVec S16 32) (v2082 : IVec S16 32) : Prop :=
  (∀ a x, ((![v2082, v664] : Fin 2 → IVec S16 32) a x).toNat < S64x512.size a)
theorem k0_idx1190_inb : ∀ (v664 : IVec S16 32) (v2082 : IVec S16 32) (k0_hw1190 : k0_chk1190 v664 v2082), ∀ a x, ((![v2082, v664] : Fin 2 → IVec S16 32) a x).toNat < S64x512.size a := fun v664 v2082 k0_hw1190 => k0_hw1190

def k0_chk1191 (v2089 : IVec S16 32) : Prop :=
  (∀ a x, ((![v2089] : Fin 1 → IVec S16 32) a x).toNat < S32000.size a)
theorem k0_idx1191_inb : ∀ (v2089 : IVec S16 32) (k0_hw1191 : k0_chk1191 v2089), ∀ a x, ((![v2089] : Fin 1 → IVec S16 32) a x).toNat < S32000.size a := fun v2089 k0_hw1191 => k0_hw1191

def k0_chk1192 (v2091 : IVec S16 32) : Prop :=
  (∀ a x, ((![v2091] : Fin 1 → IVec S16 32) a x).toNat < S32000.size a)
theorem k0_idx1192_inb : ∀ (v2091 : IVec S16 32) (k0_hw1192 : k0_chk1192 v2091), ∀ a x, ((![v2091] : Fin 1 → IVec S16 32) a x).toNat < S32000.size a := fun v2091 k0_hw1192 => k0_hw1192

def k0_chk1193 (v2093 : IVec S16 32) : Prop :=
  (∀ a x, ((![v2093] : Fin 1 → IVec S16 32) a x).toNat < S32000.size a)
theorem k0_idx1193_inb : ∀ (v2093 : IVec S16 32) (k0_hw1193 : k0_chk1193 v2093), ∀ a x, ((![v2093] : Fin 1 → IVec S16 32) a x).toNat < S32000.size a := fun v2093 k0_hw1193 => k0_hw1193

def k0_chk1194 (v2095 : IVec S16 32) : Prop :=
  (∀ a x, ((![v2095] : Fin 1 → IVec S16 32) a x).toNat < S32000.size a)
theorem k0_idx1194_inb : ∀ (v2095 : IVec S16 32) (k0_hw1194 : k0_chk1194 v2095), ∀ a x, ((![v2095] : Fin 1 → IVec S16 32) a x).toNat < S32000.size a := fun v2095 k0_hw1194 => k0_hw1194

def k0_chk1195 (v2097 : IVec S16 32) : Prop :=
  (∀ a x, ((![v2097] : Fin 1 → IVec S16 32) a x).toNat < S32000.size a)
theorem k0_idx1195_inb : ∀ (v2097 : IVec S16 32) (k0_hw1195 : k0_chk1195 v2097), ∀ a x, ((![v2097] : Fin 1 → IVec S16 32) a x).toNat < S32000.size a := fun v2097 k0_hw1195 => k0_hw1195

def k0_chk1196 (v2099 : IVec S16 32) : Prop :=
  (∀ a x, ((![v2099] : Fin 1 → IVec S16 32) a x).toNat < S32000.size a)
theorem k0_idx1196_inb : ∀ (v2099 : IVec S16 32) (k0_hw1196 : k0_chk1196 v2099), ∀ a x, ((![v2099] : Fin 1 → IVec S16 32) a x).toNat < S32000.size a := fun v2099 k0_hw1196 => k0_hw1196

def k0_chk1197 (v664 : IVec S16 32) (v2150 : IVec S16 32) : Prop :=
  (∀ a x, ((![v2150, v664] : Fin 2 → IVec S16 32) a x).toNat < S64x512.size a)
theorem k0_idx1197_inb : ∀ (v664 : IVec S16 32) (v2150 : IVec S16 32) (k0_hw1197 : k0_chk1197 v664 v2150), ∀ a x, ((![v2150, v664] : Fin 2 → IVec S16 32) a x).toNat < S64x512.size a := fun v664 v2150 k0_hw1197 => k0_hw1197

def k0_chk1198 (v664 : IVec S16 32) (v2152 : IVec S16 32) : Prop :=
  (∀ a x, ((![v2152, v664] : Fin 2 → IVec S16 32) a x).toNat < S64x512.size a)
theorem k0_idx1198_inb : ∀ (v664 : IVec S16 32) (v2152 : IVec S16 32) (k0_hw1198 : k0_chk1198 v664 v2152), ∀ a x, ((![v2152, v664] : Fin 2 → IVec S16 32) a x).toNat < S64x512.size a := fun v664 v2152 k0_hw1198 => k0_hw1198

def k0_chk1199 (v2159 : IVec S16 32) : Prop :=
  (∀ a x, ((![v2159] : Fin 1 → IVec S16 32) a x).toNat < S32000.size a)
theorem k0_idx1199_inb : ∀ (v2159 : IVec S16 32) (k0_hw1199 : k0_chk1199 v2159), ∀ a x, ((![v2159] : Fin 1 → IVec S16 32) a x).toNat < S32000.size a := fun v2159 k0_hw1199 => k0_hw1199

def k0_chk1200 (v2161 : IVec S16 32) : Prop :=
  (∀ a x, ((![v2161] : Fin 1 → IVec S16 32) a x).toNat < S32000.size a)
theorem k0_idx1200_inb : ∀ (v2161 : IVec S16 32) (k0_hw1200 : k0_chk1200 v2161), ∀ a x, ((![v2161] : Fin 1 → IVec S16 32) a x).toNat < S32000.size a := fun v2161 k0_hw1200 => k0_hw1200

def k0_chk1201 (v2163 : IVec S16 32) : Prop :=
  (∀ a x, ((![v2163] : Fin 1 → IVec S16 32) a x).toNat < S32000.size a)
theorem k0_idx1201_inb : ∀ (v2163 : IVec S16 32) (k0_hw1201 : k0_chk1201 v2163), ∀ a x, ((![v2163] : Fin 1 → IVec S16 32) a x).toNat < S32000.size a := fun v2163 k0_hw1201 => k0_hw1201

def k0_chk1202 (v2165 : IVec S16 32) : Prop :=
  (∀ a x, ((![v2165] : Fin 1 → IVec S16 32) a x).toNat < S32000.size a)
theorem k0_idx1202_inb : ∀ (v2165 : IVec S16 32) (k0_hw1202 : k0_chk1202 v2165), ∀ a x, ((![v2165] : Fin 1 → IVec S16 32) a x).toNat < S32000.size a := fun v2165 k0_hw1202 => k0_hw1202

def k0_chk1203 (v2167 : IVec S16 32) : Prop :=
  (∀ a x, ((![v2167] : Fin 1 → IVec S16 32) a x).toNat < S32000.size a)
theorem k0_idx1203_inb : ∀ (v2167 : IVec S16 32) (k0_hw1203 : k0_chk1203 v2167), ∀ a x, ((![v2167] : Fin 1 → IVec S16 32) a x).toNat < S32000.size a := fun v2167 k0_hw1203 => k0_hw1203

def k0_chk1204 (v2169 : IVec S16 32) : Prop :=
  (∀ a x, ((![v2169] : Fin 1 → IVec S16 32) a x).toNat < S32000.size a)
theorem k0_idx1204_inb : ∀ (v2169 : IVec S16 32) (k0_hw1204 : k0_chk1204 v2169), ∀ a x, ((![v2169] : Fin 1 → IVec S16 32) a x).toNat < S32000.size a := fun v2169 k0_hw1204 => k0_hw1204

def k0_chk1205 (v664 : IVec S16 32) (v2220 : IVec S16 32) : Prop :=
  (∀ a x, ((![v2220, v664] : Fin 2 → IVec S16 32) a x).toNat < S64x512.size a)
theorem k0_idx1205_inb : ∀ (v664 : IVec S16 32) (v2220 : IVec S16 32) (k0_hw1205 : k0_chk1205 v664 v2220), ∀ a x, ((![v2220, v664] : Fin 2 → IVec S16 32) a x).toNat < S64x512.size a := fun v664 v2220 k0_hw1205 => k0_hw1205

def k0_chk1206 (v664 : IVec S16 32) (v2222 : IVec S16 32) : Prop :=
  (∀ a x, ((![v2222, v664] : Fin 2 → IVec S16 32) a x).toNat < S64x512.size a)
theorem k0_idx1206_inb : ∀ (v664 : IVec S16 32) (v2222 : IVec S16 32) (k0_hw1206 : k0_chk1206 v664 v2222), ∀ a x, ((![v2222, v664] : Fin 2 → IVec S16 32) a x).toNat < S64x512.size a := fun v664 v2222 k0_hw1206 => k0_hw1206

def k0_chk1207 (v2229 : IVec S16 32) : Prop :=
  (∀ a x, ((![v2229] : Fin 1 → IVec S16 32) a x).toNat < S32000.size a)
theorem k0_idx1207_inb : ∀ (v2229 : IVec S16 32) (k0_hw1207 : k0_chk1207 v2229), ∀ a x, ((![v2229] : Fin 1 → IVec S16 32) a x).toNat < S32000.size a := fun v2229 k0_hw1207 => k0_hw1207

def k0_chk1208 (v2231 : IVec S16 32) : Prop :=
  (∀ a x, ((![v2231] : Fin 1 → IVec S16 32) a x).toNat < S32000.size a)
theorem k0_idx1208_inb : ∀ (v2231 : IVec S16 32) (k0_hw1208 : k0_chk1208 v2231), ∀ a x, ((![v2231] : Fin 1 → IVec S16 32) a x).toNat < S32000.size a := fun v2231 k0_hw1208 => k0_hw1208

def k0_chk1209 (v2233 : IVec S16 32) : Prop :=
  (∀ a x, ((![v2233] : Fin 1 → IVec S16 32) a x).toNat < S32000.size a)
theorem k0_idx1209_inb : ∀ (v2233 : IVec S16 32) (k0_hw1209 : k0_chk1209 v2233), ∀ a x, ((![v2233] : Fin 1 → IVec S16 32) a x).toNat < S32000.size a := fun v2233 k0_hw1209 => k0_hw1209

def k0_chk1210 (v2235 : IVec S16 32) : Prop :=
  (∀ a x, ((![v2235] : Fin 1 → IVec S16 32) a x).toNat < S32000.size a)
theorem k0_idx1210_inb : ∀ (v2235 : IVec S16 32) (k0_hw1210 : k0_chk1210 v2235), ∀ a x, ((![v2235] : Fin 1 → IVec S16 32) a x).toNat < S32000.size a := fun v2235 k0_hw1210 => k0_hw1210

def k0_chk1211 (v2237 : IVec S16 32) : Prop :=
  (∀ a x, ((![v2237] : Fin 1 → IVec S16 32) a x).toNat < S32000.size a)
theorem k0_idx1211_inb : ∀ (v2237 : IVec S16 32) (k0_hw1211 : k0_chk1211 v2237), ∀ a x, ((![v2237] : Fin 1 → IVec S16 32) a x).toNat < S32000.size a := fun v2237 k0_hw1211 => k0_hw1211

def k0_chk1212 (v2239 : IVec S16 32) : Prop :=
  (∀ a x, ((![v2239] : Fin 1 → IVec S16 32) a x).toNat < S32000.size a)
theorem k0_idx1212_inb : ∀ (v2239 : IVec S16 32) (k0_hw1212 : k0_chk1212 v2239), ∀ a x, ((![v2239] : Fin 1 → IVec S16 32) a x).toNat < S32000.size a := fun v2239 k0_hw1212 => k0_hw1212

def k0_chk1213 (v664 : IVec S16 32) (v2290 : IVec S16 32) : Prop :=
  (∀ a x, ((![v2290, v664] : Fin 2 → IVec S16 32) a x).toNat < S64x512.size a)
theorem k0_idx1213_inb : ∀ (v664 : IVec S16 32) (v2290 : IVec S16 32) (k0_hw1213 : k0_chk1213 v664 v2290), ∀ a x, ((![v2290, v664] : Fin 2 → IVec S16 32) a x).toNat < S64x512.size a := fun v664 v2290 k0_hw1213 => k0_hw1213

def k0_chk1214 (v664 : IVec S16 32) (v2292 : IVec S16 32) : Prop :=
  (∀ a x, ((![v2292, v664] : Fin 2 → IVec S16 32) a x).toNat < S64x512.size a)
theorem k0_idx1214_inb : ∀ (v664 : IVec S16 32) (v2292 : IVec S16 32) (k0_hw1214 : k0_chk1214 v664 v2292), ∀ a x, ((![v2292, v664] : Fin 2 → IVec S16 32) a x).toNat < S64x512.size a := fun v664 v2292 k0_hw1214 => k0_hw1214

def k0_chk1215 (v2299 : IVec S16 32) : Prop :=
  (∀ a x, ((![v2299] : Fin 1 → IVec S16 32) a x).toNat < S32000.size a)
theorem k0_idx1215_inb : ∀ (v2299 : IVec S16 32) (k0_hw1215 : k0_chk1215 v2299), ∀ a x, ((![v2299] : Fin 1 → IVec S16 32) a x).toNat < S32000.size a := fun v2299 k0_hw1215 => k0_hw1215

def k0_chk1216 (v2301 : IVec S16 32) : Prop :=
  (∀ a x, ((![v2301] : Fin 1 → IVec S16 32) a x).toNat < S32000.size a)
theorem k0_idx1216_inb : ∀ (v2301 : IVec S16 32) (k0_hw1216 : k0_chk1216 v2301), ∀ a x, ((![v2301] : Fin 1 → IVec S16 32) a x).toNat < S32000.size a := fun v2301 k0_hw1216 => k0_hw1216

def k0_chk1217 (v2303 : IVec S16 32) : Prop :=
  (∀ a x, ((![v2303] : Fin 1 → IVec S16 32) a x).toNat < S32000.size a)
theorem k0_idx1217_inb : ∀ (v2303 : IVec S16 32) (k0_hw1217 : k0_chk1217 v2303), ∀ a x, ((![v2303] : Fin 1 → IVec S16 32) a x).toNat < S32000.size a := fun v2303 k0_hw1217 => k0_hw1217

def k0_chk1218 (v2305 : IVec S16 32) : Prop :=
  (∀ a x, ((![v2305] : Fin 1 → IVec S16 32) a x).toNat < S32000.size a)
theorem k0_idx1218_inb : ∀ (v2305 : IVec S16 32) (k0_hw1218 : k0_chk1218 v2305), ∀ a x, ((![v2305] : Fin 1 → IVec S16 32) a x).toNat < S32000.size a := fun v2305 k0_hw1218 => k0_hw1218

def k0_chk1219 (v2307 : IVec S16 32) : Prop :=
  (∀ a x, ((![v2307] : Fin 1 → IVec S16 32) a x).toNat < S32000.size a)
theorem k0_idx1219_inb : ∀ (v2307 : IVec S16 32) (k0_hw1219 : k0_chk1219 v2307), ∀ a x, ((![v2307] : Fin 1 → IVec S16 32) a x).toNat < S32000.size a := fun v2307 k0_hw1219 => k0_hw1219

def k0_chk1220 (v2309 : IVec S16 32) : Prop :=
  (∀ a x, ((![v2309] : Fin 1 → IVec S16 32) a x).toNat < S32000.size a)
theorem k0_idx1220_inb : ∀ (v2309 : IVec S16 32) (k0_hw1220 : k0_chk1220 v2309), ∀ a x, ((![v2309] : Fin 1 → IVec S16 32) a x).toNat < S32000.size a := fun v2309 k0_hw1220 => k0_hw1220

def k0_chk1221 (v664 : IVec S16 32) (v2360 : IVec S16 32) : Prop :=
  (∀ a x, ((![v2360, v664] : Fin 2 → IVec S16 32) a x).toNat < S64x512.size a)
theorem k0_idx1221_inb : ∀ (v664 : IVec S16 32) (v2360 : IVec S16 32) (k0_hw1221 : k0_chk1221 v664 v2360), ∀ a x, ((![v2360, v664] : Fin 2 → IVec S16 32) a x).toNat < S64x512.size a := fun v664 v2360 k0_hw1221 => k0_hw1221

def k0_chk1222 (v664 : IVec S16 32) (v2362 : IVec S16 32) : Prop :=
  (∀ a x, ((![v2362, v664] : Fin 2 → IVec S16 32) a x).toNat < S64x512.size a)
theorem k0_idx1222_inb : ∀ (v664 : IVec S16 32) (v2362 : IVec S16 32) (k0_hw1222 : k0_chk1222 v664 v2362), ∀ a x, ((![v2362, v664] : Fin 2 → IVec S16 32) a x).toNat < S64x512.size a := fun v664 v2362 k0_hw1222 => k0_hw1222

def k0_chk1223 (v2369 : IVec S16 32) : Prop :=
  (∀ a x, ((![v2369] : Fin 1 → IVec S16 32) a x).toNat < S32000.size a)
theorem k0_idx1223_inb : ∀ (v2369 : IVec S16 32) (k0_hw1223 : k0_chk1223 v2369), ∀ a x, ((![v2369] : Fin 1 → IVec S16 32) a x).toNat < S32000.size a := fun v2369 k0_hw1223 => k0_hw1223

def k0_chk1224 (v2371 : IVec S16 32) : Prop :=
  (∀ a x, ((![v2371] : Fin 1 → IVec S16 32) a x).toNat < S32000.size a)
theorem k0_idx1224_inb : ∀ (v2371 : IVec S16 32) (k0_hw1224 : k0_chk1224 v2371), ∀ a x, ((![v2371] : Fin 1 → IVec S16 32) a x).toNat < S32000.size a := fun v2371 k0_hw1224 => k0_hw1224

def k0_chk1225 (v2373 : IVec S16 32) : Prop :=
  (∀ a x, ((![v2373] : Fin 1 → IVec S16 32) a x).toNat < S32000.size a)
theorem k0_idx1225_inb : ∀ (v2373 : IVec S16 32) (k0_hw1225 : k0_chk1225 v2373), ∀ a x, ((![v2373] : Fin 1 → IVec S16 32) a x).toNat < S32000.size a := fun v2373 k0_hw1225 => k0_hw1225

def k0_chk1226 (v2375 : IVec S16 32) : Prop :=
  (∀ a x, ((![v2375] : Fin 1 → IVec S16 32) a x).toNat < S32000.size a)
theorem k0_idx1226_inb : ∀ (v2375 : IVec S16 32) (k0_hw1226 : k0_chk1226 v2375), ∀ a x, ((![v2375] : Fin 1 → IVec S16 32) a x).toNat < S32000.size a := fun v2375 k0_hw1226 => k0_hw1226

def k0_chk1227 (v2377 : IVec S16 32) : Prop :=
  (∀ a x, ((![v2377] : Fin 1 → IVec S16 32) a x).toNat < S32000.size a)
theorem k0_idx1227_inb : ∀ (v2377 : IVec S16 32) (k0_hw1227 : k0_chk1227 v2377), ∀ a x, ((![v2377] : Fin 1 → IVec S16 32) a x).toNat < S32000.size a := fun v2377 k0_hw1227 => k0_hw1227

def k0_chk1228 (v2379 : IVec S16 32) : Prop :=
  (∀ a x, ((![v2379] : Fin 1 → IVec S16 32) a x).toNat < S32000.size a)
theorem k0_idx1228_inb : ∀ (v2379 : IVec S16 32) (k0_hw1228 : k0_chk1228 v2379), ∀ a x, ((![v2379] : Fin 1 → IVec S16 32) a x).toNat < S32000.size a := fun v2379 k0_hw1228 => k0_hw1228

def k0_chk1229 (v664 : IVec S16 32) (v2430 : IVec S16 32) : Prop :=
  (∀ a x, ((![v2430, v664] : Fin 2 → IVec S16 32) a x).toNat < S64x512.size a)
theorem k0_idx1229_inb : ∀ (v664 : IVec S16 32) (v2430 : IVec S16 32) (k0_hw1229 : k0_chk1229 v664 v2430), ∀ a x, ((![v2430, v664] : Fin 2 → IVec S16 32) a x).toNat < S64x512.size a := fun v664 v2430 k0_hw1229 => k0_hw1229

def k0_chk1230 (v664 : IVec S16 32) (v2432 : IVec S16 32) : Prop :=
  (∀ a x, ((![v2432, v664] : Fin 2 → IVec S16 32) a x).toNat < S64x512.size a)
theorem k0_idx1230_inb : ∀ (v664 : IVec S16 32) (v2432 : IVec S16 32) (k0_hw1230 : k0_chk1230 v664 v2432), ∀ a x, ((![v2432, v664] : Fin 2 → IVec S16 32) a x).toNat < S64x512.size a := fun v664 v2432 k0_hw1230 => k0_hw1230

def k0_chk1231 (v2439 : IVec S16 32) : Prop :=
  (∀ a x, ((![v2439] : Fin 1 → IVec S16 32) a x).toNat < S32000.size a)
theorem k0_idx1231_inb : ∀ (v2439 : IVec S16 32) (k0_hw1231 : k0_chk1231 v2439), ∀ a x, ((![v2439] : Fin 1 → IVec S16 32) a x).toNat < S32000.size a := fun v2439 k0_hw1231 => k0_hw1231

def k0_chk1232 (v2441 : IVec S16 32) : Prop :=
  (∀ a x, ((![v2441] : Fin 1 → IVec S16 32) a x).toNat < S32000.size a)
theorem k0_idx1232_inb : ∀ (v2441 : IVec S16 32) (k0_hw1232 : k0_chk1232 v2441), ∀ a x, ((![v2441] : Fin 1 → IVec S16 32) a x).toNat < S32000.size a := fun v2441 k0_hw1232 => k0_hw1232

def k0_chk1233 (v2443 : IVec S16 32) : Prop :=
  (∀ a x, ((![v2443] : Fin 1 → IVec S16 32) a x).toNat < S32000.size a)
theorem k0_idx1233_inb : ∀ (v2443 : IVec S16 32) (k0_hw1233 : k0_chk1233 v2443), ∀ a x, ((![v2443] : Fin 1 → IVec S16 32) a x).toNat < S32000.size a := fun v2443 k0_hw1233 => k0_hw1233

def k0_chk1234 (v2445 : IVec S16 32) : Prop :=
  (∀ a x, ((![v2445] : Fin 1 → IVec S16 32) a x).toNat < S32000.size a)
theorem k0_idx1234_inb : ∀ (v2445 : IVec S16 32) (k0_hw1234 : k0_chk1234 v2445), ∀ a x, ((![v2445] : Fin 1 → IVec S16 32) a x).toNat < S32000.size a := fun v2445 k0_hw1234 => k0_hw1234

def k0_chk1235 (v2447 : IVec S16 32) : Prop :=
  (∀ a x, ((![v2447] : Fin 1 → IVec S16 32) a x).toNat < S32000.size a)
theorem k0_idx1235_inb : ∀ (v2447 : IVec S16 32) (k0_hw1235 : k0_chk1235 v2447), ∀ a x, ((![v2447] : Fin 1 → IVec S16 32) a x).toNat < S32000.size a := fun v2447 k0_hw1235 => k0_hw1235

def k0_chk1236 (v2449 : IVec S16 32) : Prop :=
  (∀ a x, ((![v2449] : Fin 1 → IVec S16 32) a x).toNat < S32000.size a)
theorem k0_idx1236_inb : ∀ (v2449 : IVec S16 32) (k0_hw1236 : k0_chk1236 v2449), ∀ a x, ((![v2449] : Fin 1 → IVec S16 32) a x).toNat < S32000.size a := fun v2449 k0_hw1236 => k0_hw1236

def k0_chk1237 (v664 : IVec S16 32) (v2500 : IVec S16 32) : Prop :=
  (∀ a x, ((![v2500, v664] : Fin 2 → IVec S16 32) a x).toNat < S64x512.size a)
theorem k0_idx1237_inb : ∀ (v664 : IVec S16 32) (v2500 : IVec S16 32) (k0_hw1237 : k0_chk1237 v664 v2500), ∀ a x, ((![v2500, v664] : Fin 2 → IVec S16 32) a x).toNat < S64x512.size a := fun v664 v2500 k0_hw1237 => k0_hw1237

def k0_chk1238 (v664 : IVec S16 32) (v2502 : IVec S16 32) : Prop :=
  (∀ a x, ((![v2502, v664] : Fin 2 → IVec S16 32) a x).toNat < S64x512.size a)
theorem k0_idx1238_inb : ∀ (v664 : IVec S16 32) (v2502 : IVec S16 32) (k0_hw1238 : k0_chk1238 v664 v2502), ∀ a x, ((![v2502, v664] : Fin 2 → IVec S16 32) a x).toNat < S64x512.size a := fun v664 v2502 k0_hw1238 => k0_hw1238

def k0_chk1239 (v2509 : IVec S16 32) : Prop :=
  (∀ a x, ((![v2509] : Fin 1 → IVec S16 32) a x).toNat < S32000.size a)
theorem k0_idx1239_inb : ∀ (v2509 : IVec S16 32) (k0_hw1239 : k0_chk1239 v2509), ∀ a x, ((![v2509] : Fin 1 → IVec S16 32) a x).toNat < S32000.size a := fun v2509 k0_hw1239 => k0_hw1239

def k0_chk1240 (v2511 : IVec S16 32) : Prop :=
  (∀ a x, ((![v2511] : Fin 1 → IVec S16 32) a x).toNat < S32000.size a)
theorem k0_idx1240_inb : ∀ (v2511 : IVec S16 32) (k0_hw1240 : k0_chk1240 v2511), ∀ a x, ((![v2511] : Fin 1 → IVec S16 32) a x).toNat < S32000.size a := fun v2511 k0_hw1240 => k0_hw1240

def k0_chk1241 (v2513 : IVec S16 32) : Prop :=
  (∀ a x, ((![v2513] : Fin 1 → IVec S16 32) a x).toNat < S32000.size a)
theorem k0_idx1241_inb : ∀ (v2513 : IVec S16 32) (k0_hw1241 : k0_chk1241 v2513), ∀ a x, ((![v2513] : Fin 1 → IVec S16 32) a x).toNat < S32000.size a := fun v2513 k0_hw1241 => k0_hw1241

def k0_chk1242 (v2515 : IVec S16 32) : Prop :=
  (∀ a x, ((![v2515] : Fin 1 → IVec S16 32) a x).toNat < S32000.size a)
theorem k0_idx1242_inb : ∀ (v2515 : IVec S16 32) (k0_hw1242 : k0_chk1242 v2515), ∀ a x, ((![v2515] : Fin 1 → IVec S16 32) a x).toNat < S32000.size a := fun v2515 k0_hw1242 => k0_hw1242

def k0_chk1243 (v2517 : IVec S16 32) : Prop :=
  (∀ a x, ((![v2517] : Fin 1 → IVec S16 32) a x).toNat < S32000.size a)
theorem k0_idx1243_inb : ∀ (v2517 : IVec S16 32) (k0_hw1243 : k0_chk1243 v2517), ∀ a x, ((![v2517] : Fin 1 → IVec S16 32) a x).toNat < S32000.size a := fun v2517 k0_hw1243 => k0_hw1243

def k0_chk1244 (v2519 : IVec S16 32) : Prop :=
  (∀ a x, ((![v2519] : Fin 1 → IVec S16 32) a x).toNat < S32000.size a)
theorem k0_idx1244_inb : ∀ (v2519 : IVec S16 32) (k0_hw1244 : k0_chk1244 v2519), ∀ a x, ((![v2519] : Fin 1 → IVec S16 32) a x).toNat < S32000.size a := fun v2519 k0_hw1244 => k0_hw1244

def k0_chk1245 (v664 : IVec S16 32) (v2570 : IVec S16 32) : Prop :=
  (∀ a x, ((![v2570, v664] : Fin 2 → IVec S16 32) a x).toNat < S64x512.size a)
theorem k0_idx1245_inb : ∀ (v664 : IVec S16 32) (v2570 : IVec S16 32) (k0_hw1245 : k0_chk1245 v664 v2570), ∀ a x, ((![v2570, v664] : Fin 2 → IVec S16 32) a x).toNat < S64x512.size a := fun v664 v2570 k0_hw1245 => k0_hw1245

def k0_chk1246 (v664 : IVec S16 32) (v2572 : IVec S16 32) : Prop :=
  (∀ a x, ((![v2572, v664] : Fin 2 → IVec S16 32) a x).toNat < S64x512.size a)
theorem k0_idx1246_inb : ∀ (v664 : IVec S16 32) (v2572 : IVec S16 32) (k0_hw1246 : k0_chk1246 v664 v2572), ∀ a x, ((![v2572, v664] : Fin 2 → IVec S16 32) a x).toNat < S64x512.size a := fun v664 v2572 k0_hw1246 => k0_hw1246

def k0_chk1247 (v2579 : IVec S16 32) : Prop :=
  (∀ a x, ((![v2579] : Fin 1 → IVec S16 32) a x).toNat < S32000.size a)
theorem k0_idx1247_inb : ∀ (v2579 : IVec S16 32) (k0_hw1247 : k0_chk1247 v2579), ∀ a x, ((![v2579] : Fin 1 → IVec S16 32) a x).toNat < S32000.size a := fun v2579 k0_hw1247 => k0_hw1247

def k0_chk1248 (v2581 : IVec S16 32) : Prop :=
  (∀ a x, ((![v2581] : Fin 1 → IVec S16 32) a x).toNat < S32000.size a)
theorem k0_idx1248_inb : ∀ (v2581 : IVec S16 32) (k0_hw1248 : k0_chk1248 v2581), ∀ a x, ((![v2581] : Fin 1 → IVec S16 32) a x).toNat < S32000.size a := fun v2581 k0_hw1248 => k0_hw1248

def k0_chk1249 (v2583 : IVec S16 32) : Prop :=
  (∀ a x, ((![v2583] : Fin 1 → IVec S16 32) a x).toNat < S32000.size a)
theorem k0_idx1249_inb : ∀ (v2583 : IVec S16 32) (k0_hw1249 : k0_chk1249 v2583), ∀ a x, ((![v2583] : Fin 1 → IVec S16 32) a x).toNat < S32000.size a := fun v2583 k0_hw1249 => k0_hw1249

def k0_chk1250 (v2585 : IVec S16 32) : Prop :=
  (∀ a x, ((![v2585] : Fin 1 → IVec S16 32) a x).toNat < S32000.size a)
theorem k0_idx1250_inb : ∀ (v2585 : IVec S16 32) (k0_hw1250 : k0_chk1250 v2585), ∀ a x, ((![v2585] : Fin 1 → IVec S16 32) a x).toNat < S32000.size a := fun v2585 k0_hw1250 => k0_hw1250

def k0_chk1251 (v2587 : IVec S16 32) : Prop :=
  (∀ a x, ((![v2587] : Fin 1 → IVec S16 32) a x).toNat < S32000.size a)
theorem k0_idx1251_inb : ∀ (v2587 : IVec S16 32) (k0_hw1251 : k0_chk1251 v2587), ∀ a x, ((![v2587] : Fin 1 → IVec S16 32) a x).toNat < S32000.size a := fun v2587 k0_hw1251 => k0_hw1251

def k0_chk1252 (v2589 : IVec S16 32) : Prop :=
  (∀ a x, ((![v2589] : Fin 1 → IVec S16 32) a x).toNat < S32000.size a)
theorem k0_idx1252_inb : ∀ (v2589 : IVec S16 32) (k0_hw1252 : k0_chk1252 v2589), ∀ a x, ((![v2589] : Fin 1 → IVec S16 32) a x).toNat < S32000.size a := fun v2589 k0_hw1252 => k0_hw1252

def k0_chk1253 (v664 : IVec S16 32) (v2640 : IVec S16 32) : Prop :=
  (∀ a x, ((![v2640, v664] : Fin 2 → IVec S16 32) a x).toNat < S64x512.size a)
theorem k0_idx1253_inb : ∀ (v664 : IVec S16 32) (v2640 : IVec S16 32) (k0_hw1253 : k0_chk1253 v664 v2640), ∀ a x, ((![v2640, v664] : Fin 2 → IVec S16 32) a x).toNat < S64x512.size a := fun v664 v2640 k0_hw1253 => k0_hw1253

def k0_chk1254 (v664 : IVec S16 32) (v2642 : IVec S16 32) : Prop :=
  (∀ a x, ((![v2642, v664] : Fin 2 → IVec S16 32) a x).toNat < S64x512.size a)
theorem k0_idx1254_inb : ∀ (v664 : IVec S16 32) (v2642 : IVec S16 32) (k0_hw1254 : k0_chk1254 v664 v2642), ∀ a x, ((![v2642, v664] : Fin 2 → IVec S16 32) a x).toNat < S64x512.size a := fun v664 v2642 k0_hw1254 => k0_hw1254

def k0_chk1255 (v2649 : IVec S16 32) : Prop :=
  (∀ a x, ((![v2649] : Fin 1 → IVec S16 32) a x).toNat < S32000.size a)
theorem k0_idx1255_inb : ∀ (v2649 : IVec S16 32) (k0_hw1255 : k0_chk1255 v2649), ∀ a x, ((![v2649] : Fin 1 → IVec S16 32) a x).toNat < S32000.size a := fun v2649 k0_hw1255 => k0_hw1255

def k0_chk1256 (v2651 : IVec S16 32) : Prop :=
  (∀ a x, ((![v2651] : Fin 1 → IVec S16 32) a x).toNat < S32000.size a)
theorem k0_idx1256_inb : ∀ (v2651 : IVec S16 32) (k0_hw1256 : k0_chk1256 v2651), ∀ a x, ((![v2651] : Fin 1 → IVec S16 32) a x).toNat < S32000.size a := fun v2651 k0_hw1256 => k0_hw1256

def k0_chk1257 (v2653 : IVec S16 32) : Prop :=
  (∀ a x, ((![v2653] : Fin 1 → IVec S16 32) a x).toNat < S32000.size a)
theorem k0_idx1257_inb : ∀ (v2653 : IVec S16 32) (k0_hw1257 : k0_chk1257 v2653), ∀ a x, ((![v2653] : Fin 1 → IVec S16 32) a x).toNat < S32000.size a := fun v2653 k0_hw1257 => k0_hw1257

def k0_chk1258 (v2655 : IVec S16 32) : Prop :=
  (∀ a x, ((![v2655] : Fin 1 → IVec S16 32) a x).toNat < S32000.size a)
theorem k0_idx1258_inb : ∀ (v2655 : IVec S16 32) (k0_hw1258 : k0_chk1258 v2655), ∀ a x, ((![v2655] : Fin 1 → IVec S16 32) a x).toNat < S32000.size a := fun v2655 k0_hw1258 => k0_hw1258

def k0_chk1259 (v2657 : IVec S16 32) : Prop :=
  (∀ a x, ((![v2657] : Fin 1 → IVec S16 32) a x).toNat < S32000.size a)
theorem k0_idx1259_inb : ∀ (v2657 : IVec S16 32) (k0_hw1259 : k0_chk1259 v2657), ∀ a x, ((![v2657] : Fin 1 → IVec S16 32) a x).toNat < S32000.size a := fun v2657 k0_hw1259 => k0_hw1259

def k0_chk1260 (v2659 : IVec S16 32) : Prop :=
  (∀ a x, ((![v2659] : Fin 1 → IVec S16 32) a x).toNat < S32000.size a)
theorem k0_idx1260_inb : ∀ (v2659 : IVec S16 32) (k0_hw1260 : k0_chk1260 v2659), ∀ a x, ((![v2659] : Fin 1 → IVec S16 32) a x).toNat < S32000.size a := fun v2659 k0_hw1260 => k0_hw1260

def k0_chk1261 (v664 : IVec S16 32) (v2710 : IVec S16 32) : Prop :=
  (∀ a x, ((![v2710, v664] : Fin 2 → IVec S16 32) a x).toNat < S64x512.size a)
theorem k0_idx1261_inb : ∀ (v664 : IVec S16 32) (v2710 : IVec S16 32) (k0_hw1261 : k0_chk1261 v664 v2710), ∀ a x, ((![v2710, v664] : Fin 2 → IVec S16 32) a x).toNat < S64x512.size a := fun v664 v2710 k0_hw1261 => k0_hw1261

def k0_chk1262 (v664 : IVec S16 32) (v2712 : IVec S16 32) : Prop :=
  (∀ a x, ((![v2712, v664] : Fin 2 → IVec S16 32) a x).toNat < S64x512.size a)
theorem k0_idx1262_inb : ∀ (v664 : IVec S16 32) (v2712 : IVec S16 32) (k0_hw1262 : k0_chk1262 v664 v2712), ∀ a x, ((![v2712, v664] : Fin 2 → IVec S16 32) a x).toNat < S64x512.size a := fun v664 v2712 k0_hw1262 => k0_hw1262

def k0_chk1263 (v2719 : IVec S16 32) : Prop :=
  (∀ a x, ((![v2719] : Fin 1 → IVec S16 32) a x).toNat < S32000.size a)
theorem k0_idx1263_inb : ∀ (v2719 : IVec S16 32) (k0_hw1263 : k0_chk1263 v2719), ∀ a x, ((![v2719] : Fin 1 → IVec S16 32) a x).toNat < S32000.size a := fun v2719 k0_hw1263 => k0_hw1263

def k0_chk1264 (v2721 : IVec S16 32) : Prop :=
  (∀ a x, ((![v2721] : Fin 1 → IVec S16 32) a x).toNat < S32000.size a)
theorem k0_idx1264_inb : ∀ (v2721 : IVec S16 32) (k0_hw1264 : k0_chk1264 v2721), ∀ a x, ((![v2721] : Fin 1 → IVec S16 32) a x).toNat < S32000.size a := fun v2721 k0_hw1264 => k0_hw1264

def k0_chk1265 (v2723 : IVec S16 32) : Prop :=
  (∀ a x, ((![v2723] : Fin 1 → IVec S16 32) a x).toNat < S32000.size a)
theorem k0_idx1265_inb : ∀ (v2723 : IVec S16 32) (k0_hw1265 : k0_chk1265 v2723), ∀ a x, ((![v2723] : Fin 1 → IVec S16 32) a x).toNat < S32000.size a := fun v2723 k0_hw1265 => k0_hw1265

def k0_chk1266 (v2725 : IVec S16 32) : Prop :=
  (∀ a x, ((![v2725] : Fin 1 → IVec S16 32) a x).toNat < S32000.size a)
theorem k0_idx1266_inb : ∀ (v2725 : IVec S16 32) (k0_hw1266 : k0_chk1266 v2725), ∀ a x, ((![v2725] : Fin 1 → IVec S16 32) a x).toNat < S32000.size a := fun v2725 k0_hw1266 => k0_hw1266

def k0_chk1267 (v2727 : IVec S16 32) : Prop :=
  (∀ a x, ((![v2727] : Fin 1 → IVec S16 32) a x).toNat < S32000.size a)
theorem k0_idx1267_inb : ∀ (v2727 : IVec S16 32) (k0_hw1267 : k0_chk1267 v2727), ∀ a x, ((![v2727] : Fin 1 → IVec S16 32) a x).toNat < S32000.size a := fun v2727 k0_hw1267 => k0_hw1267

def k0_chk1268 (v2729 : IVec S16 32) : Prop :=
  (∀ a x, ((![v2729] : Fin 1 → IVec S16 32) a x).toNat < S32000.size a)
theorem k0_idx1268_inb : ∀ (v2729 : IVec S16 32) (k0_hw1268 : k0_chk1268 v2729), ∀ a x, ((![v2729] : Fin 1 → IVec S16 32) a x).toNat < S32000.size a := fun v2729 k0_hw1268 => k0_hw1268

def k0_chk1269 (v664 : IVec S16 32) (v2780 : IVec S16 32) : Prop :=
  (∀ a x, ((![v2780, v664] : Fin 2 → IVec S16 32) a x).toNat < S64x512.size a)
theorem k0_idx1269_inb : ∀ (v664 : IVec S16 32) (v2780 : IVec S16 32) (k0_hw1269 : k0_chk1269 v664 v2780), ∀ a x, ((![v2780, v664] : Fin 2 → IVec S16 32) a x).toNat < S64x512.size a := fun v664 v2780 k0_hw1269 => k0_hw1269

def k0_chk1270 (v664 : IVec S16 32) (v2782 : IVec S16 32) : Prop :=
  (∀ a x, ((![v2782, v664] : Fin 2 → IVec S16 32) a x).toNat < S64x512.size a)
theorem k0_idx1270_inb : ∀ (v664 : IVec S16 32) (v2782 : IVec S16 32) (k0_hw1270 : k0_chk1270 v664 v2782), ∀ a x, ((![v2782, v664] : Fin 2 → IVec S16 32) a x).toNat < S64x512.size a := fun v664 v2782 k0_hw1270 => k0_hw1270

def k0_chk1271 (v2789 : IVec S16 32) : Prop :=
  (∀ a x, ((![v2789] : Fin 1 → IVec S16 32) a x).toNat < S32000.size a)
theorem k0_idx1271_inb : ∀ (v2789 : IVec S16 32) (k0_hw1271 : k0_chk1271 v2789), ∀ a x, ((![v2789] : Fin 1 → IVec S16 32) a x).toNat < S32000.size a := fun v2789 k0_hw1271 => k0_hw1271

def k0_chk1272 (v2791 : IVec S16 32) : Prop :=
  (∀ a x, ((![v2791] : Fin 1 → IVec S16 32) a x).toNat < S32000.size a)
theorem k0_idx1272_inb : ∀ (v2791 : IVec S16 32) (k0_hw1272 : k0_chk1272 v2791), ∀ a x, ((![v2791] : Fin 1 → IVec S16 32) a x).toNat < S32000.size a := fun v2791 k0_hw1272 => k0_hw1272

def k0_chk1273 (v2793 : IVec S16 32) : Prop :=
  (∀ a x, ((![v2793] : Fin 1 → IVec S16 32) a x).toNat < S32000.size a)
theorem k0_idx1273_inb : ∀ (v2793 : IVec S16 32) (k0_hw1273 : k0_chk1273 v2793), ∀ a x, ((![v2793] : Fin 1 → IVec S16 32) a x).toNat < S32000.size a := fun v2793 k0_hw1273 => k0_hw1273

def k0_chk1274 (v2795 : IVec S16 32) : Prop :=
  (∀ a x, ((![v2795] : Fin 1 → IVec S16 32) a x).toNat < S32000.size a)
theorem k0_idx1274_inb : ∀ (v2795 : IVec S16 32) (k0_hw1274 : k0_chk1274 v2795), ∀ a x, ((![v2795] : Fin 1 → IVec S16 32) a x).toNat < S32000.size a := fun v2795 k0_hw1274 => k0_hw1274

def k0_chk1275 (v2797 : IVec S16 32) : Prop :=
  (∀ a x, ((![v2797] : Fin 1 → IVec S16 32) a x).toNat < S32000.size a)
theorem k0_idx1275_inb : ∀ (v2797 : IVec S16 32) (k0_hw1275 : k0_chk1275 v2797), ∀ a x, ((![v2797] : Fin 1 → IVec S16 32) a x).toNat < S32000.size a := fun v2797 k0_hw1275 => k0_hw1275

def k0_chk1276 (v2799 : IVec S16 32) : Prop :=
  (∀ a x, ((![v2799] : Fin 1 → IVec S16 32) a x).toNat < S32000.size a)
theorem k0_idx1276_inb : ∀ (v2799 : IVec S16 32) (k0_hw1276 : k0_chk1276 v2799), ∀ a x, ((![v2799] : Fin 1 → IVec S16 32) a x).toNat < S32000.size a := fun v2799 k0_hw1276 => k0_hw1276

def k0_chk1277 (v664 : IVec S16 32) (v2850 : IVec S16 32) : Prop :=
  (∀ a x, ((![v2850, v664] : Fin 2 → IVec S16 32) a x).toNat < S64x512.size a)
theorem k0_idx1277_inb : ∀ (v664 : IVec S16 32) (v2850 : IVec S16 32) (k0_hw1277 : k0_chk1277 v664 v2850), ∀ a x, ((![v2850, v664] : Fin 2 → IVec S16 32) a x).toNat < S64x512.size a := fun v664 v2850 k0_hw1277 => k0_hw1277

def k0_chk1278 (v664 : IVec S16 32) (v2852 : IVec S16 32) : Prop :=
  (∀ a x, ((![v2852, v664] : Fin 2 → IVec S16 32) a x).toNat < S64x512.size a)
theorem k0_idx1278_inb : ∀ (v664 : IVec S16 32) (v2852 : IVec S16 32) (k0_hw1278 : k0_chk1278 v664 v2852), ∀ a x, ((![v2852, v664] : Fin 2 → IVec S16 32) a x).toNat < S64x512.size a := fun v664 v2852 k0_hw1278 => k0_hw1278

def k0_chk1279 (v664 : IVec S16 32) (v2902 : IVec S16 32) : Prop :=
  (∀ a x, ((![v2902, v664] : Fin 2 → IVec S16 32) a x).toNat < S64x512.size a)
theorem k0_idx1279_inb : ∀ (v664 : IVec S16 32) (v2902 : IVec S16 32) (k0_hw1279 : k0_chk1279 v664 v2902), ∀ a x, ((![v2902, v664] : Fin 2 → IVec S16 32) a x).toNat < S64x512.size a := fun v664 v2902 k0_hw1279 => k0_hw1279

def k0_chk1280 (v664 : IVec S16 32) (v2904 : IVec S16 32) : Prop :=
  (∀ a x, ((![v2904, v664] : Fin 2 → IVec S16 32) a x).toNat < S64x512.size a)
theorem k0_idx1280_inb : ∀ (v664 : IVec S16 32) (v2904 : IVec S16 32) (k0_hw1280 : k0_chk1280 v664 v2904), ∀ a x, ((![v2904, v664] : Fin 2 → IVec S16 32) a x).toNat < S64x512.size a := fun v664 v2904 k0_hw1280 => k0_hw1280
@[reducible] def k0_t6_loop : Scf.Loop 32 :=
  let c0_i32_253 : BitVec 32 := 0#32
  let c32_i32_254 : BitVec 32 := 32#32
  let v461 : BitVec 32 := Scalar.addi c0_i32_253 c32_i32_254
  let c1_i32_255 : BitVec 32 := 1#32
  ⟨c0_i32_253, v461, c1_i32_255⟩
def k0_off33 (k0_t6 : Fin k0_t6_loop.trips) : Fin 2 → Nat :=
  let c0_i32_350 : BitVec 32 := 0#32
  let v627 : Index := Scalar.indexCast c0_i32_350
  let c0_i32_253 : BitVec 32 := 0#32
  let c1_i32_255 : BitVec 32 := 1#32
  let arg14 : BitVec 32 := Scf.iv c0_i32_253 c1_i32_255 k0_t6
  let c16_i32 : BitVec 32 := 16#32
  let v626 : BitVec 32 := Scalar.muli arg14 c16_i32
  let v628 : Index := Scalar.indexCast v626
  ![0, v628.toNat]
def k0_off34 (k0_t6 : Fin k0_t6_loop.trips) : Fin 2 → Nat :=
  let c1_i32_353 : BitVec 32 := 1#32
  let v633 : Index := Scalar.indexCast c1_i32_353
  let c0_i32_253 : BitVec 32 := 0#32
  let c1_i32_255 : BitVec 32 := 1#32
  let arg14 : BitVec 32 := Scf.iv c0_i32_253 c1_i32_255 k0_t6
  let c16_i32_352 : BitVec 32 := 16#32
  let v632 : BitVec 32 := Scalar.muli arg14 c16_i32_352
  let v634 : Index := Scalar.indexCast v632
  ![1, v634.toNat]
def k0_off35 (k0_t6 : Fin k0_t6_loop.trips) : Fin 2 → Nat :=
  let c2_i32_356 : BitVec 32 := 2#32
  let v639 : Index := Scalar.indexCast c2_i32_356
  let c0_i32_253 : BitVec 32 := 0#32
  let c1_i32_255 : BitVec 32 := 1#32
  let arg14 : BitVec 32 := Scf.iv c0_i32_253 c1_i32_255 k0_t6
  let c16_i32_355 : BitVec 32 := 16#32
  let v638 : BitVec 32 := Scalar.muli arg14 c16_i32_355
  let v640 : Index := Scalar.indexCast v638
  ![2, v640.toNat]
def k0_off36 (k0_t6 : Fin k0_t6_loop.trips) : Fin 2 → Nat :=
  let c3_i32_359 : BitVec 32 := 3#32
  let v645 : Index := Scalar.indexCast c3_i32_359
  let c0_i32_253 : BitVec 32 := 0#32
  let c1_i32_255 : BitVec 32 := 1#32
  let arg14 : BitVec 32 := Scf.iv c0_i32_253 c1_i32_255 k0_t6
  let c16_i32_358 : BitVec 32 := 16#32
  let v644 : BitVec 32 := Scalar.muli arg14 c16_i32_358
  let v646 : Index := Scalar.indexCast v644
  ![3, v646.toNat]
def k0_off37 (k0_t6 : Fin k0_t6_loop.trips) : Fin 2 → Nat :=
  let c4_i32_362 : BitVec 32 := 4#32
  let v651 : Index := Scalar.indexCast c4_i32_362
  let c0_i32_253 : BitVec 32 := 0#32
  let c1_i32_255 : BitVec 32 := 1#32
  let arg14 : BitVec 32 := Scf.iv c0_i32_253 c1_i32_255 k0_t6
  let c16_i32_361 : BitVec 32 := 16#32
  let v650 : BitVec 32 := Scalar.muli arg14 c16_i32_361
  let v652 : Index := Scalar.indexCast v650
  ![4, v652.toNat]
def k0_off38 (k0_t6 : Fin k0_t6_loop.trips) : Fin 2 → Nat :=
  let c5_i32_365 : BitVec 32 := 5#32
  let v657 : Index := Scalar.indexCast c5_i32_365
  let c0_i32_253 : BitVec 32 := 0#32
  let c1_i32_255 : BitVec 32 := 1#32
  let arg14 : BitVec 32 := Scf.iv c0_i32_253 c1_i32_255 k0_t6
  let c16_i32_364 : BitVec 32 := 16#32
  let v656 : BitVec 32 := Scalar.muli arg14 c16_i32_364
  let v658 : Index := Scalar.indexCast v656
  ![5, v658.toNat]

def k0_chk1281 (v671 : IVec S16 32) : Prop :=
  (∀ a x, ((![v671] : Fin 1 → IVec S16 32) a x).toNat < S32000.size a)
theorem k0_idx1281_inb : ∀ (v671 : IVec S16 32) (k0_hw1281 : k0_chk1281 v671), ∀ a x, ((![v671] : Fin 1 → IVec S16 32) a x).toNat < S32000.size a := fun v671 k0_hw1281 => k0_hw1281

def k0_chk1282 (v673 : IVec S16 32) : Prop :=
  (∀ a x, ((![v673] : Fin 1 → IVec S16 32) a x).toNat < S32000.size a)
theorem k0_idx1282_inb : ∀ (v673 : IVec S16 32) (k0_hw1282 : k0_chk1282 v673), ∀ a x, ((![v673] : Fin 1 → IVec S16 32) a x).toNat < S32000.size a := fun v673 k0_hw1282 => k0_hw1282

def k0_chk1283 (v675 : IVec S16 32) : Prop :=
  (∀ a x, ((![v675] : Fin 1 → IVec S16 32) a x).toNat < S32000.size a)
theorem k0_idx1283_inb : ∀ (v675 : IVec S16 32) (k0_hw1283 : k0_chk1283 v675), ∀ a x, ((![v675] : Fin 1 → IVec S16 32) a x).toNat < S32000.size a := fun v675 k0_hw1283 => k0_hw1283

def k0_chk1284 (v677 : IVec S16 32) : Prop :=
  (∀ a x, ((![v677] : Fin 1 → IVec S16 32) a x).toNat < S32000.size a)
theorem k0_idx1284_inb : ∀ (v677 : IVec S16 32) (k0_hw1284 : k0_chk1284 v677), ∀ a x, ((![v677] : Fin 1 → IVec S16 32) a x).toNat < S32000.size a := fun v677 k0_hw1284 => k0_hw1284

def k0_chk1285 (v679 : IVec S16 32) : Prop :=
  (∀ a x, ((![v679] : Fin 1 → IVec S16 32) a x).toNat < S32000.size a)
theorem k0_idx1285_inb : ∀ (v679 : IVec S16 32) (k0_hw1285 : k0_chk1285 v679), ∀ a x, ((![v679] : Fin 1 → IVec S16 32) a x).toNat < S32000.size a := fun v679 k0_hw1285 => k0_hw1285

def k0_chk1286 (v681 : IVec S16 32) : Prop :=
  (∀ a x, ((![v681] : Fin 1 → IVec S16 32) a x).toNat < S32000.size a)
theorem k0_idx1286_inb : ∀ (v681 : IVec S16 32) (k0_hw1286 : k0_chk1286 v681), ∀ a x, ((![v681] : Fin 1 → IVec S16 32) a x).toNat < S32000.size a := fun v681 k0_hw1286 => k0_hw1286

def k0_chk1287 (v689 : IVec S16 32) : Prop :=
  (∀ a x, ((![v689] : Fin 1 → IVec S16 32) a x).toNat < S32000.size a)
theorem k0_idx1287_inb : ∀ (v689 : IVec S16 32) (k0_hw1287 : k0_chk1287 v689), ∀ a x, ((![v689] : Fin 1 → IVec S16 32) a x).toNat < S32000.size a := fun v689 k0_hw1287 => k0_hw1287

def k0_chk1288 (v691 : IVec S16 32) : Prop :=
  (∀ a x, ((![v691] : Fin 1 → IVec S16 32) a x).toNat < S32000.size a)
theorem k0_idx1288_inb : ∀ (v691 : IVec S16 32) (k0_hw1288 : k0_chk1288 v691), ∀ a x, ((![v691] : Fin 1 → IVec S16 32) a x).toNat < S32000.size a := fun v691 k0_hw1288 => k0_hw1288

def k0_chk1289 (v693 : IVec S16 32) : Prop :=
  (∀ a x, ((![v693] : Fin 1 → IVec S16 32) a x).toNat < S32000.size a)
theorem k0_idx1289_inb : ∀ (v693 : IVec S16 32) (k0_hw1289 : k0_chk1289 v693), ∀ a x, ((![v693] : Fin 1 → IVec S16 32) a x).toNat < S32000.size a := fun v693 k0_hw1289 => k0_hw1289

def k0_chk1290 (v695 : IVec S16 32) : Prop :=
  (∀ a x, ((![v695] : Fin 1 → IVec S16 32) a x).toNat < S32000.size a)
theorem k0_idx1290_inb : ∀ (v695 : IVec S16 32) (k0_hw1290 : k0_chk1290 v695), ∀ a x, ((![v695] : Fin 1 → IVec S16 32) a x).toNat < S32000.size a := fun v695 k0_hw1290 => k0_hw1290

def k0_chk1291 (v697 : IVec S16 32) : Prop :=
  (∀ a x, ((![v697] : Fin 1 → IVec S16 32) a x).toNat < S32000.size a)
theorem k0_idx1291_inb : ∀ (v697 : IVec S16 32) (k0_hw1291 : k0_chk1291 v697), ∀ a x, ((![v697] : Fin 1 → IVec S16 32) a x).toNat < S32000.size a := fun v697 k0_hw1291 => k0_hw1291

def k0_chk1292 (v699 : IVec S16 32) : Prop :=
  (∀ a x, ((![v699] : Fin 1 → IVec S16 32) a x).toNat < S32000.size a)
theorem k0_idx1292_inb : ∀ (v699 : IVec S16 32) (k0_hw1292 : k0_chk1292 v699), ∀ a x, ((![v699] : Fin 1 → IVec S16 32) a x).toNat < S32000.size a := fun v699 k0_hw1292 => k0_hw1292

def k0_chk1293 (v664 : IVec S16 32) (v750 : IVec S16 32) : Prop :=
  (∀ a x, ((![v750, v664] : Fin 2 → IVec S16 32) a x).toNat < S64x512.size a)
theorem k0_idx1293_inb : ∀ (v664 : IVec S16 32) (v750 : IVec S16 32) (k0_hw1293 : k0_chk1293 v664 v750), ∀ a x, ((![v750, v664] : Fin 2 → IVec S16 32) a x).toNat < S64x512.size a := fun v664 v750 k0_hw1293 => k0_hw1293

def k0_chk1294 (v664 : IVec S16 32) (v752 : IVec S16 32) : Prop :=
  (∀ a x, ((![v752, v664] : Fin 2 → IVec S16 32) a x).toNat < S64x512.size a)
theorem k0_idx1294_inb : ∀ (v664 : IVec S16 32) (v752 : IVec S16 32) (k0_hw1294 : k0_chk1294 v664 v752), ∀ a x, ((![v752, v664] : Fin 2 → IVec S16 32) a x).toNat < S64x512.size a := fun v664 v752 k0_hw1294 => k0_hw1294

def k0_chk1295 (v759 : IVec S16 32) : Prop :=
  (∀ a x, ((![v759] : Fin 1 → IVec S16 32) a x).toNat < S32000.size a)
theorem k0_idx1295_inb : ∀ (v759 : IVec S16 32) (k0_hw1295 : k0_chk1295 v759), ∀ a x, ((![v759] : Fin 1 → IVec S16 32) a x).toNat < S32000.size a := fun v759 k0_hw1295 => k0_hw1295

def k0_chk1296 (v761 : IVec S16 32) : Prop :=
  (∀ a x, ((![v761] : Fin 1 → IVec S16 32) a x).toNat < S32000.size a)
theorem k0_idx1296_inb : ∀ (v761 : IVec S16 32) (k0_hw1296 : k0_chk1296 v761), ∀ a x, ((![v761] : Fin 1 → IVec S16 32) a x).toNat < S32000.size a := fun v761 k0_hw1296 => k0_hw1296

def k0_chk1297 (v763 : IVec S16 32) : Prop :=
  (∀ a x, ((![v763] : Fin 1 → IVec S16 32) a x).toNat < S32000.size a)
theorem k0_idx1297_inb : ∀ (v763 : IVec S16 32) (k0_hw1297 : k0_chk1297 v763), ∀ a x, ((![v763] : Fin 1 → IVec S16 32) a x).toNat < S32000.size a := fun v763 k0_hw1297 => k0_hw1297

def k0_chk1298 (v765 : IVec S16 32) : Prop :=
  (∀ a x, ((![v765] : Fin 1 → IVec S16 32) a x).toNat < S32000.size a)
theorem k0_idx1298_inb : ∀ (v765 : IVec S16 32) (k0_hw1298 : k0_chk1298 v765), ∀ a x, ((![v765] : Fin 1 → IVec S16 32) a x).toNat < S32000.size a := fun v765 k0_hw1298 => k0_hw1298

def k0_chk1299 (v767 : IVec S16 32) : Prop :=
  (∀ a x, ((![v767] : Fin 1 → IVec S16 32) a x).toNat < S32000.size a)
theorem k0_idx1299_inb : ∀ (v767 : IVec S16 32) (k0_hw1299 : k0_chk1299 v767), ∀ a x, ((![v767] : Fin 1 → IVec S16 32) a x).toNat < S32000.size a := fun v767 k0_hw1299 => k0_hw1299

def k0_chk1300 (v769 : IVec S16 32) : Prop :=
  (∀ a x, ((![v769] : Fin 1 → IVec S16 32) a x).toNat < S32000.size a)
theorem k0_idx1300_inb : ∀ (v769 : IVec S16 32) (k0_hw1300 : k0_chk1300 v769), ∀ a x, ((![v769] : Fin 1 → IVec S16 32) a x).toNat < S32000.size a := fun v769 k0_hw1300 => k0_hw1300

def k0_chk1301 (v664 : IVec S16 32) (v820 : IVec S16 32) : Prop :=
  (∀ a x, ((![v820, v664] : Fin 2 → IVec S16 32) a x).toNat < S64x512.size a)
theorem k0_idx1301_inb : ∀ (v664 : IVec S16 32) (v820 : IVec S16 32) (k0_hw1301 : k0_chk1301 v664 v820), ∀ a x, ((![v820, v664] : Fin 2 → IVec S16 32) a x).toNat < S64x512.size a := fun v664 v820 k0_hw1301 => k0_hw1301

def k0_chk1302 (v664 : IVec S16 32) (v822 : IVec S16 32) : Prop :=
  (∀ a x, ((![v822, v664] : Fin 2 → IVec S16 32) a x).toNat < S64x512.size a)
theorem k0_idx1302_inb : ∀ (v664 : IVec S16 32) (v822 : IVec S16 32) (k0_hw1302 : k0_chk1302 v664 v822), ∀ a x, ((![v822, v664] : Fin 2 → IVec S16 32) a x).toNat < S64x512.size a := fun v664 v822 k0_hw1302 => k0_hw1302

def k0_chk1303 (v829 : IVec S16 32) : Prop :=
  (∀ a x, ((![v829] : Fin 1 → IVec S16 32) a x).toNat < S32000.size a)
theorem k0_idx1303_inb : ∀ (v829 : IVec S16 32) (k0_hw1303 : k0_chk1303 v829), ∀ a x, ((![v829] : Fin 1 → IVec S16 32) a x).toNat < S32000.size a := fun v829 k0_hw1303 => k0_hw1303

def k0_chk1304 (v831 : IVec S16 32) : Prop :=
  (∀ a x, ((![v831] : Fin 1 → IVec S16 32) a x).toNat < S32000.size a)
theorem k0_idx1304_inb : ∀ (v831 : IVec S16 32) (k0_hw1304 : k0_chk1304 v831), ∀ a x, ((![v831] : Fin 1 → IVec S16 32) a x).toNat < S32000.size a := fun v831 k0_hw1304 => k0_hw1304

def k0_chk1305 (v833 : IVec S16 32) : Prop :=
  (∀ a x, ((![v833] : Fin 1 → IVec S16 32) a x).toNat < S32000.size a)
theorem k0_idx1305_inb : ∀ (v833 : IVec S16 32) (k0_hw1305 : k0_chk1305 v833), ∀ a x, ((![v833] : Fin 1 → IVec S16 32) a x).toNat < S32000.size a := fun v833 k0_hw1305 => k0_hw1305

def k0_chk1306 (v835 : IVec S16 32) : Prop :=
  (∀ a x, ((![v835] : Fin 1 → IVec S16 32) a x).toNat < S32000.size a)
theorem k0_idx1306_inb : ∀ (v835 : IVec S16 32) (k0_hw1306 : k0_chk1306 v835), ∀ a x, ((![v835] : Fin 1 → IVec S16 32) a x).toNat < S32000.size a := fun v835 k0_hw1306 => k0_hw1306

def k0_chk1307 (v837 : IVec S16 32) : Prop :=
  (∀ a x, ((![v837] : Fin 1 → IVec S16 32) a x).toNat < S32000.size a)
theorem k0_idx1307_inb : ∀ (v837 : IVec S16 32) (k0_hw1307 : k0_chk1307 v837), ∀ a x, ((![v837] : Fin 1 → IVec S16 32) a x).toNat < S32000.size a := fun v837 k0_hw1307 => k0_hw1307

def k0_chk1308 (v839 : IVec S16 32) : Prop :=
  (∀ a x, ((![v839] : Fin 1 → IVec S16 32) a x).toNat < S32000.size a)
theorem k0_idx1308_inb : ∀ (v839 : IVec S16 32) (k0_hw1308 : k0_chk1308 v839), ∀ a x, ((![v839] : Fin 1 → IVec S16 32) a x).toNat < S32000.size a := fun v839 k0_hw1308 => k0_hw1308

def k0_chk1309 (v664 : IVec S16 32) (v890 : IVec S16 32) : Prop :=
  (∀ a x, ((![v890, v664] : Fin 2 → IVec S16 32) a x).toNat < S64x512.size a)
theorem k0_idx1309_inb : ∀ (v664 : IVec S16 32) (v890 : IVec S16 32) (k0_hw1309 : k0_chk1309 v664 v890), ∀ a x, ((![v890, v664] : Fin 2 → IVec S16 32) a x).toNat < S64x512.size a := fun v664 v890 k0_hw1309 => k0_hw1309

def k0_chk1310 (v664 : IVec S16 32) (v892 : IVec S16 32) : Prop :=
  (∀ a x, ((![v892, v664] : Fin 2 → IVec S16 32) a x).toNat < S64x512.size a)
theorem k0_idx1310_inb : ∀ (v664 : IVec S16 32) (v892 : IVec S16 32) (k0_hw1310 : k0_chk1310 v664 v892), ∀ a x, ((![v892, v664] : Fin 2 → IVec S16 32) a x).toNat < S64x512.size a := fun v664 v892 k0_hw1310 => k0_hw1310

def k0_chk1311 (v899 : IVec S16 32) : Prop :=
  (∀ a x, ((![v899] : Fin 1 → IVec S16 32) a x).toNat < S32000.size a)
theorem k0_idx1311_inb : ∀ (v899 : IVec S16 32) (k0_hw1311 : k0_chk1311 v899), ∀ a x, ((![v899] : Fin 1 → IVec S16 32) a x).toNat < S32000.size a := fun v899 k0_hw1311 => k0_hw1311

def k0_chk1312 (v901 : IVec S16 32) : Prop :=
  (∀ a x, ((![v901] : Fin 1 → IVec S16 32) a x).toNat < S32000.size a)
theorem k0_idx1312_inb : ∀ (v901 : IVec S16 32) (k0_hw1312 : k0_chk1312 v901), ∀ a x, ((![v901] : Fin 1 → IVec S16 32) a x).toNat < S32000.size a := fun v901 k0_hw1312 => k0_hw1312

def k0_chk1313 (v903 : IVec S16 32) : Prop :=
  (∀ a x, ((![v903] : Fin 1 → IVec S16 32) a x).toNat < S32000.size a)
theorem k0_idx1313_inb : ∀ (v903 : IVec S16 32) (k0_hw1313 : k0_chk1313 v903), ∀ a x, ((![v903] : Fin 1 → IVec S16 32) a x).toNat < S32000.size a := fun v903 k0_hw1313 => k0_hw1313

def k0_chk1314 (v905 : IVec S16 32) : Prop :=
  (∀ a x, ((![v905] : Fin 1 → IVec S16 32) a x).toNat < S32000.size a)
theorem k0_idx1314_inb : ∀ (v905 : IVec S16 32) (k0_hw1314 : k0_chk1314 v905), ∀ a x, ((![v905] : Fin 1 → IVec S16 32) a x).toNat < S32000.size a := fun v905 k0_hw1314 => k0_hw1314

def k0_chk1315 (v907 : IVec S16 32) : Prop :=
  (∀ a x, ((![v907] : Fin 1 → IVec S16 32) a x).toNat < S32000.size a)
theorem k0_idx1315_inb : ∀ (v907 : IVec S16 32) (k0_hw1315 : k0_chk1315 v907), ∀ a x, ((![v907] : Fin 1 → IVec S16 32) a x).toNat < S32000.size a := fun v907 k0_hw1315 => k0_hw1315

def k0_chk1316 (v909 : IVec S16 32) : Prop :=
  (∀ a x, ((![v909] : Fin 1 → IVec S16 32) a x).toNat < S32000.size a)
theorem k0_idx1316_inb : ∀ (v909 : IVec S16 32) (k0_hw1316 : k0_chk1316 v909), ∀ a x, ((![v909] : Fin 1 → IVec S16 32) a x).toNat < S32000.size a := fun v909 k0_hw1316 => k0_hw1316

def k0_chk1317 (v664 : IVec S16 32) (v960 : IVec S16 32) : Prop :=
  (∀ a x, ((![v960, v664] : Fin 2 → IVec S16 32) a x).toNat < S64x512.size a)
theorem k0_idx1317_inb : ∀ (v664 : IVec S16 32) (v960 : IVec S16 32) (k0_hw1317 : k0_chk1317 v664 v960), ∀ a x, ((![v960, v664] : Fin 2 → IVec S16 32) a x).toNat < S64x512.size a := fun v664 v960 k0_hw1317 => k0_hw1317

def k0_chk1318 (v664 : IVec S16 32) (v962 : IVec S16 32) : Prop :=
  (∀ a x, ((![v962, v664] : Fin 2 → IVec S16 32) a x).toNat < S64x512.size a)
theorem k0_idx1318_inb : ∀ (v664 : IVec S16 32) (v962 : IVec S16 32) (k0_hw1318 : k0_chk1318 v664 v962), ∀ a x, ((![v962, v664] : Fin 2 → IVec S16 32) a x).toNat < S64x512.size a := fun v664 v962 k0_hw1318 => k0_hw1318

def k0_chk1319 (v969 : IVec S16 32) : Prop :=
  (∀ a x, ((![v969] : Fin 1 → IVec S16 32) a x).toNat < S32000.size a)
theorem k0_idx1319_inb : ∀ (v969 : IVec S16 32) (k0_hw1319 : k0_chk1319 v969), ∀ a x, ((![v969] : Fin 1 → IVec S16 32) a x).toNat < S32000.size a := fun v969 k0_hw1319 => k0_hw1319

def k0_chk1320 (v971 : IVec S16 32) : Prop :=
  (∀ a x, ((![v971] : Fin 1 → IVec S16 32) a x).toNat < S32000.size a)
theorem k0_idx1320_inb : ∀ (v971 : IVec S16 32) (k0_hw1320 : k0_chk1320 v971), ∀ a x, ((![v971] : Fin 1 → IVec S16 32) a x).toNat < S32000.size a := fun v971 k0_hw1320 => k0_hw1320

def k0_chk1321 (v973 : IVec S16 32) : Prop :=
  (∀ a x, ((![v973] : Fin 1 → IVec S16 32) a x).toNat < S32000.size a)
theorem k0_idx1321_inb : ∀ (v973 : IVec S16 32) (k0_hw1321 : k0_chk1321 v973), ∀ a x, ((![v973] : Fin 1 → IVec S16 32) a x).toNat < S32000.size a := fun v973 k0_hw1321 => k0_hw1321

def k0_chk1322 (v975 : IVec S16 32) : Prop :=
  (∀ a x, ((![v975] : Fin 1 → IVec S16 32) a x).toNat < S32000.size a)
theorem k0_idx1322_inb : ∀ (v975 : IVec S16 32) (k0_hw1322 : k0_chk1322 v975), ∀ a x, ((![v975] : Fin 1 → IVec S16 32) a x).toNat < S32000.size a := fun v975 k0_hw1322 => k0_hw1322

def k0_chk1323 (v977 : IVec S16 32) : Prop :=
  (∀ a x, ((![v977] : Fin 1 → IVec S16 32) a x).toNat < S32000.size a)
theorem k0_idx1323_inb : ∀ (v977 : IVec S16 32) (k0_hw1323 : k0_chk1323 v977), ∀ a x, ((![v977] : Fin 1 → IVec S16 32) a x).toNat < S32000.size a := fun v977 k0_hw1323 => k0_hw1323

def k0_chk1324 (v979 : IVec S16 32) : Prop :=
  (∀ a x, ((![v979] : Fin 1 → IVec S16 32) a x).toNat < S32000.size a)
theorem k0_idx1324_inb : ∀ (v979 : IVec S16 32) (k0_hw1324 : k0_chk1324 v979), ∀ a x, ((![v979] : Fin 1 → IVec S16 32) a x).toNat < S32000.size a := fun v979 k0_hw1324 => k0_hw1324

def k0_chk1325 (v664 : IVec S16 32) (v1030 : IVec S16 32) : Prop :=
  (∀ a x, ((![v1030, v664] : Fin 2 → IVec S16 32) a x).toNat < S64x512.size a)
theorem k0_idx1325_inb : ∀ (v664 : IVec S16 32) (v1030 : IVec S16 32) (k0_hw1325 : k0_chk1325 v664 v1030), ∀ a x, ((![v1030, v664] : Fin 2 → IVec S16 32) a x).toNat < S64x512.size a := fun v664 v1030 k0_hw1325 => k0_hw1325

def k0_chk1326 (v664 : IVec S16 32) (v1032 : IVec S16 32) : Prop :=
  (∀ a x, ((![v1032, v664] : Fin 2 → IVec S16 32) a x).toNat < S64x512.size a)
theorem k0_idx1326_inb : ∀ (v664 : IVec S16 32) (v1032 : IVec S16 32) (k0_hw1326 : k0_chk1326 v664 v1032), ∀ a x, ((![v1032, v664] : Fin 2 → IVec S16 32) a x).toNat < S64x512.size a := fun v664 v1032 k0_hw1326 => k0_hw1326

def k0_chk1327 (v1039 : IVec S16 32) : Prop :=
  (∀ a x, ((![v1039] : Fin 1 → IVec S16 32) a x).toNat < S32000.size a)
theorem k0_idx1327_inb : ∀ (v1039 : IVec S16 32) (k0_hw1327 : k0_chk1327 v1039), ∀ a x, ((![v1039] : Fin 1 → IVec S16 32) a x).toNat < S32000.size a := fun v1039 k0_hw1327 => k0_hw1327

def k0_chk1328 (v1041 : IVec S16 32) : Prop :=
  (∀ a x, ((![v1041] : Fin 1 → IVec S16 32) a x).toNat < S32000.size a)
theorem k0_idx1328_inb : ∀ (v1041 : IVec S16 32) (k0_hw1328 : k0_chk1328 v1041), ∀ a x, ((![v1041] : Fin 1 → IVec S16 32) a x).toNat < S32000.size a := fun v1041 k0_hw1328 => k0_hw1328

def k0_chk1329 (v1043 : IVec S16 32) : Prop :=
  (∀ a x, ((![v1043] : Fin 1 → IVec S16 32) a x).toNat < S32000.size a)
theorem k0_idx1329_inb : ∀ (v1043 : IVec S16 32) (k0_hw1329 : k0_chk1329 v1043), ∀ a x, ((![v1043] : Fin 1 → IVec S16 32) a x).toNat < S32000.size a := fun v1043 k0_hw1329 => k0_hw1329

def k0_chk1330 (v1045 : IVec S16 32) : Prop :=
  (∀ a x, ((![v1045] : Fin 1 → IVec S16 32) a x).toNat < S32000.size a)
theorem k0_idx1330_inb : ∀ (v1045 : IVec S16 32) (k0_hw1330 : k0_chk1330 v1045), ∀ a x, ((![v1045] : Fin 1 → IVec S16 32) a x).toNat < S32000.size a := fun v1045 k0_hw1330 => k0_hw1330

def k0_chk1331 (v1047 : IVec S16 32) : Prop :=
  (∀ a x, ((![v1047] : Fin 1 → IVec S16 32) a x).toNat < S32000.size a)
theorem k0_idx1331_inb : ∀ (v1047 : IVec S16 32) (k0_hw1331 : k0_chk1331 v1047), ∀ a x, ((![v1047] : Fin 1 → IVec S16 32) a x).toNat < S32000.size a := fun v1047 k0_hw1331 => k0_hw1331

def k0_chk1332 (v1049 : IVec S16 32) : Prop :=
  (∀ a x, ((![v1049] : Fin 1 → IVec S16 32) a x).toNat < S32000.size a)
theorem k0_idx1332_inb : ∀ (v1049 : IVec S16 32) (k0_hw1332 : k0_chk1332 v1049), ∀ a x, ((![v1049] : Fin 1 → IVec S16 32) a x).toNat < S32000.size a := fun v1049 k0_hw1332 => k0_hw1332

def k0_chk1333 (v664 : IVec S16 32) (v1100 : IVec S16 32) : Prop :=
  (∀ a x, ((![v1100, v664] : Fin 2 → IVec S16 32) a x).toNat < S64x512.size a)
theorem k0_idx1333_inb : ∀ (v664 : IVec S16 32) (v1100 : IVec S16 32) (k0_hw1333 : k0_chk1333 v664 v1100), ∀ a x, ((![v1100, v664] : Fin 2 → IVec S16 32) a x).toNat < S64x512.size a := fun v664 v1100 k0_hw1333 => k0_hw1333

def k0_chk1334 (v664 : IVec S16 32) (v1102 : IVec S16 32) : Prop :=
  (∀ a x, ((![v1102, v664] : Fin 2 → IVec S16 32) a x).toNat < S64x512.size a)
theorem k0_idx1334_inb : ∀ (v664 : IVec S16 32) (v1102 : IVec S16 32) (k0_hw1334 : k0_chk1334 v664 v1102), ∀ a x, ((![v1102, v664] : Fin 2 → IVec S16 32) a x).toNat < S64x512.size a := fun v664 v1102 k0_hw1334 => k0_hw1334

def k0_chk1335 (v1109 : IVec S16 32) : Prop :=
  (∀ a x, ((![v1109] : Fin 1 → IVec S16 32) a x).toNat < S32000.size a)
theorem k0_idx1335_inb : ∀ (v1109 : IVec S16 32) (k0_hw1335 : k0_chk1335 v1109), ∀ a x, ((![v1109] : Fin 1 → IVec S16 32) a x).toNat < S32000.size a := fun v1109 k0_hw1335 => k0_hw1335

def k0_chk1336 (v1111 : IVec S16 32) : Prop :=
  (∀ a x, ((![v1111] : Fin 1 → IVec S16 32) a x).toNat < S32000.size a)
theorem k0_idx1336_inb : ∀ (v1111 : IVec S16 32) (k0_hw1336 : k0_chk1336 v1111), ∀ a x, ((![v1111] : Fin 1 → IVec S16 32) a x).toNat < S32000.size a := fun v1111 k0_hw1336 => k0_hw1336

def k0_chk1337 (v1113 : IVec S16 32) : Prop :=
  (∀ a x, ((![v1113] : Fin 1 → IVec S16 32) a x).toNat < S32000.size a)
theorem k0_idx1337_inb : ∀ (v1113 : IVec S16 32) (k0_hw1337 : k0_chk1337 v1113), ∀ a x, ((![v1113] : Fin 1 → IVec S16 32) a x).toNat < S32000.size a := fun v1113 k0_hw1337 => k0_hw1337

def k0_chk1338 (v1115 : IVec S16 32) : Prop :=
  (∀ a x, ((![v1115] : Fin 1 → IVec S16 32) a x).toNat < S32000.size a)
theorem k0_idx1338_inb : ∀ (v1115 : IVec S16 32) (k0_hw1338 : k0_chk1338 v1115), ∀ a x, ((![v1115] : Fin 1 → IVec S16 32) a x).toNat < S32000.size a := fun v1115 k0_hw1338 => k0_hw1338

def k0_chk1339 (v1117 : IVec S16 32) : Prop :=
  (∀ a x, ((![v1117] : Fin 1 → IVec S16 32) a x).toNat < S32000.size a)
theorem k0_idx1339_inb : ∀ (v1117 : IVec S16 32) (k0_hw1339 : k0_chk1339 v1117), ∀ a x, ((![v1117] : Fin 1 → IVec S16 32) a x).toNat < S32000.size a := fun v1117 k0_hw1339 => k0_hw1339

def k0_chk1340 (v1119 : IVec S16 32) : Prop :=
  (∀ a x, ((![v1119] : Fin 1 → IVec S16 32) a x).toNat < S32000.size a)
theorem k0_idx1340_inb : ∀ (v1119 : IVec S16 32) (k0_hw1340 : k0_chk1340 v1119), ∀ a x, ((![v1119] : Fin 1 → IVec S16 32) a x).toNat < S32000.size a := fun v1119 k0_hw1340 => k0_hw1340

def k0_chk1341 (v664 : IVec S16 32) (v1170 : IVec S16 32) : Prop :=
  (∀ a x, ((![v1170, v664] : Fin 2 → IVec S16 32) a x).toNat < S64x512.size a)
theorem k0_idx1341_inb : ∀ (v664 : IVec S16 32) (v1170 : IVec S16 32) (k0_hw1341 : k0_chk1341 v664 v1170), ∀ a x, ((![v1170, v664] : Fin 2 → IVec S16 32) a x).toNat < S64x512.size a := fun v664 v1170 k0_hw1341 => k0_hw1341

def k0_chk1342 (v664 : IVec S16 32) (v1172 : IVec S16 32) : Prop :=
  (∀ a x, ((![v1172, v664] : Fin 2 → IVec S16 32) a x).toNat < S64x512.size a)
theorem k0_idx1342_inb : ∀ (v664 : IVec S16 32) (v1172 : IVec S16 32) (k0_hw1342 : k0_chk1342 v664 v1172), ∀ a x, ((![v1172, v664] : Fin 2 → IVec S16 32) a x).toNat < S64x512.size a := fun v664 v1172 k0_hw1342 => k0_hw1342

def k0_chk1343 (v1179 : IVec S16 32) : Prop :=
  (∀ a x, ((![v1179] : Fin 1 → IVec S16 32) a x).toNat < S32000.size a)
theorem k0_idx1343_inb : ∀ (v1179 : IVec S16 32) (k0_hw1343 : k0_chk1343 v1179), ∀ a x, ((![v1179] : Fin 1 → IVec S16 32) a x).toNat < S32000.size a := fun v1179 k0_hw1343 => k0_hw1343

def k0_chk1344 (v1181 : IVec S16 32) : Prop :=
  (∀ a x, ((![v1181] : Fin 1 → IVec S16 32) a x).toNat < S32000.size a)
theorem k0_idx1344_inb : ∀ (v1181 : IVec S16 32) (k0_hw1344 : k0_chk1344 v1181), ∀ a x, ((![v1181] : Fin 1 → IVec S16 32) a x).toNat < S32000.size a := fun v1181 k0_hw1344 => k0_hw1344

def k0_chk1345 (v1183 : IVec S16 32) : Prop :=
  (∀ a x, ((![v1183] : Fin 1 → IVec S16 32) a x).toNat < S32000.size a)
theorem k0_idx1345_inb : ∀ (v1183 : IVec S16 32) (k0_hw1345 : k0_chk1345 v1183), ∀ a x, ((![v1183] : Fin 1 → IVec S16 32) a x).toNat < S32000.size a := fun v1183 k0_hw1345 => k0_hw1345

def k0_chk1346 (v1185 : IVec S16 32) : Prop :=
  (∀ a x, ((![v1185] : Fin 1 → IVec S16 32) a x).toNat < S32000.size a)
theorem k0_idx1346_inb : ∀ (v1185 : IVec S16 32) (k0_hw1346 : k0_chk1346 v1185), ∀ a x, ((![v1185] : Fin 1 → IVec S16 32) a x).toNat < S32000.size a := fun v1185 k0_hw1346 => k0_hw1346

def k0_chk1347 (v1187 : IVec S16 32) : Prop :=
  (∀ a x, ((![v1187] : Fin 1 → IVec S16 32) a x).toNat < S32000.size a)
theorem k0_idx1347_inb : ∀ (v1187 : IVec S16 32) (k0_hw1347 : k0_chk1347 v1187), ∀ a x, ((![v1187] : Fin 1 → IVec S16 32) a x).toNat < S32000.size a := fun v1187 k0_hw1347 => k0_hw1347

def k0_chk1348 (v1189 : IVec S16 32) : Prop :=
  (∀ a x, ((![v1189] : Fin 1 → IVec S16 32) a x).toNat < S32000.size a)
theorem k0_idx1348_inb : ∀ (v1189 : IVec S16 32) (k0_hw1348 : k0_chk1348 v1189), ∀ a x, ((![v1189] : Fin 1 → IVec S16 32) a x).toNat < S32000.size a := fun v1189 k0_hw1348 => k0_hw1348

def k0_chk1349 (v664 : IVec S16 32) (v1240 : IVec S16 32) : Prop :=
  (∀ a x, ((![v1240, v664] : Fin 2 → IVec S16 32) a x).toNat < S64x512.size a)
theorem k0_idx1349_inb : ∀ (v664 : IVec S16 32) (v1240 : IVec S16 32) (k0_hw1349 : k0_chk1349 v664 v1240), ∀ a x, ((![v1240, v664] : Fin 2 → IVec S16 32) a x).toNat < S64x512.size a := fun v664 v1240 k0_hw1349 => k0_hw1349

def k0_chk1350 (v664 : IVec S16 32) (v1242 : IVec S16 32) : Prop :=
  (∀ a x, ((![v1242, v664] : Fin 2 → IVec S16 32) a x).toNat < S64x512.size a)
theorem k0_idx1350_inb : ∀ (v664 : IVec S16 32) (v1242 : IVec S16 32) (k0_hw1350 : k0_chk1350 v664 v1242), ∀ a x, ((![v1242, v664] : Fin 2 → IVec S16 32) a x).toNat < S64x512.size a := fun v664 v1242 k0_hw1350 => k0_hw1350

def k0_chk1351 (v1249 : IVec S16 32) : Prop :=
  (∀ a x, ((![v1249] : Fin 1 → IVec S16 32) a x).toNat < S32000.size a)
theorem k0_idx1351_inb : ∀ (v1249 : IVec S16 32) (k0_hw1351 : k0_chk1351 v1249), ∀ a x, ((![v1249] : Fin 1 → IVec S16 32) a x).toNat < S32000.size a := fun v1249 k0_hw1351 => k0_hw1351

def k0_chk1352 (v1251 : IVec S16 32) : Prop :=
  (∀ a x, ((![v1251] : Fin 1 → IVec S16 32) a x).toNat < S32000.size a)
theorem k0_idx1352_inb : ∀ (v1251 : IVec S16 32) (k0_hw1352 : k0_chk1352 v1251), ∀ a x, ((![v1251] : Fin 1 → IVec S16 32) a x).toNat < S32000.size a := fun v1251 k0_hw1352 => k0_hw1352

def k0_chk1353 (v1253 : IVec S16 32) : Prop :=
  (∀ a x, ((![v1253] : Fin 1 → IVec S16 32) a x).toNat < S32000.size a)
theorem k0_idx1353_inb : ∀ (v1253 : IVec S16 32) (k0_hw1353 : k0_chk1353 v1253), ∀ a x, ((![v1253] : Fin 1 → IVec S16 32) a x).toNat < S32000.size a := fun v1253 k0_hw1353 => k0_hw1353

def k0_chk1354 (v1255 : IVec S16 32) : Prop :=
  (∀ a x, ((![v1255] : Fin 1 → IVec S16 32) a x).toNat < S32000.size a)
theorem k0_idx1354_inb : ∀ (v1255 : IVec S16 32) (k0_hw1354 : k0_chk1354 v1255), ∀ a x, ((![v1255] : Fin 1 → IVec S16 32) a x).toNat < S32000.size a := fun v1255 k0_hw1354 => k0_hw1354

def k0_chk1355 (v1257 : IVec S16 32) : Prop :=
  (∀ a x, ((![v1257] : Fin 1 → IVec S16 32) a x).toNat < S32000.size a)
theorem k0_idx1355_inb : ∀ (v1257 : IVec S16 32) (k0_hw1355 : k0_chk1355 v1257), ∀ a x, ((![v1257] : Fin 1 → IVec S16 32) a x).toNat < S32000.size a := fun v1257 k0_hw1355 => k0_hw1355

def k0_chk1356 (v1259 : IVec S16 32) : Prop :=
  (∀ a x, ((![v1259] : Fin 1 → IVec S16 32) a x).toNat < S32000.size a)
theorem k0_idx1356_inb : ∀ (v1259 : IVec S16 32) (k0_hw1356 : k0_chk1356 v1259), ∀ a x, ((![v1259] : Fin 1 → IVec S16 32) a x).toNat < S32000.size a := fun v1259 k0_hw1356 => k0_hw1356

def k0_chk1357 (v664 : IVec S16 32) (v1310 : IVec S16 32) : Prop :=
  (∀ a x, ((![v1310, v664] : Fin 2 → IVec S16 32) a x).toNat < S64x512.size a)
theorem k0_idx1357_inb : ∀ (v664 : IVec S16 32) (v1310 : IVec S16 32) (k0_hw1357 : k0_chk1357 v664 v1310), ∀ a x, ((![v1310, v664] : Fin 2 → IVec S16 32) a x).toNat < S64x512.size a := fun v664 v1310 k0_hw1357 => k0_hw1357

def k0_chk1358 (v664 : IVec S16 32) (v1312 : IVec S16 32) : Prop :=
  (∀ a x, ((![v1312, v664] : Fin 2 → IVec S16 32) a x).toNat < S64x512.size a)
theorem k0_idx1358_inb : ∀ (v664 : IVec S16 32) (v1312 : IVec S16 32) (k0_hw1358 : k0_chk1358 v664 v1312), ∀ a x, ((![v1312, v664] : Fin 2 → IVec S16 32) a x).toNat < S64x512.size a := fun v664 v1312 k0_hw1358 => k0_hw1358

def k0_chk1359 (v1319 : IVec S16 32) : Prop :=
  (∀ a x, ((![v1319] : Fin 1 → IVec S16 32) a x).toNat < S32000.size a)
theorem k0_idx1359_inb : ∀ (v1319 : IVec S16 32) (k0_hw1359 : k0_chk1359 v1319), ∀ a x, ((![v1319] : Fin 1 → IVec S16 32) a x).toNat < S32000.size a := fun v1319 k0_hw1359 => k0_hw1359

def k0_chk1360 (v1321 : IVec S16 32) : Prop :=
  (∀ a x, ((![v1321] : Fin 1 → IVec S16 32) a x).toNat < S32000.size a)
theorem k0_idx1360_inb : ∀ (v1321 : IVec S16 32) (k0_hw1360 : k0_chk1360 v1321), ∀ a x, ((![v1321] : Fin 1 → IVec S16 32) a x).toNat < S32000.size a := fun v1321 k0_hw1360 => k0_hw1360

def k0_chk1361 (v1323 : IVec S16 32) : Prop :=
  (∀ a x, ((![v1323] : Fin 1 → IVec S16 32) a x).toNat < S32000.size a)
theorem k0_idx1361_inb : ∀ (v1323 : IVec S16 32) (k0_hw1361 : k0_chk1361 v1323), ∀ a x, ((![v1323] : Fin 1 → IVec S16 32) a x).toNat < S32000.size a := fun v1323 k0_hw1361 => k0_hw1361

def k0_chk1362 (v1325 : IVec S16 32) : Prop :=
  (∀ a x, ((![v1325] : Fin 1 → IVec S16 32) a x).toNat < S32000.size a)
theorem k0_idx1362_inb : ∀ (v1325 : IVec S16 32) (k0_hw1362 : k0_chk1362 v1325), ∀ a x, ((![v1325] : Fin 1 → IVec S16 32) a x).toNat < S32000.size a := fun v1325 k0_hw1362 => k0_hw1362

def k0_chk1363 (v1327 : IVec S16 32) : Prop :=
  (∀ a x, ((![v1327] : Fin 1 → IVec S16 32) a x).toNat < S32000.size a)
theorem k0_idx1363_inb : ∀ (v1327 : IVec S16 32) (k0_hw1363 : k0_chk1363 v1327), ∀ a x, ((![v1327] : Fin 1 → IVec S16 32) a x).toNat < S32000.size a := fun v1327 k0_hw1363 => k0_hw1363

def k0_chk1364 (v1329 : IVec S16 32) : Prop :=
  (∀ a x, ((![v1329] : Fin 1 → IVec S16 32) a x).toNat < S32000.size a)
theorem k0_idx1364_inb : ∀ (v1329 : IVec S16 32) (k0_hw1364 : k0_chk1364 v1329), ∀ a x, ((![v1329] : Fin 1 → IVec S16 32) a x).toNat < S32000.size a := fun v1329 k0_hw1364 => k0_hw1364

def k0_chk1365 (v664 : IVec S16 32) (v1380 : IVec S16 32) : Prop :=
  (∀ a x, ((![v1380, v664] : Fin 2 → IVec S16 32) a x).toNat < S64x512.size a)
theorem k0_idx1365_inb : ∀ (v664 : IVec S16 32) (v1380 : IVec S16 32) (k0_hw1365 : k0_chk1365 v664 v1380), ∀ a x, ((![v1380, v664] : Fin 2 → IVec S16 32) a x).toNat < S64x512.size a := fun v664 v1380 k0_hw1365 => k0_hw1365

def k0_chk1366 (v664 : IVec S16 32) (v1382 : IVec S16 32) : Prop :=
  (∀ a x, ((![v1382, v664] : Fin 2 → IVec S16 32) a x).toNat < S64x512.size a)
theorem k0_idx1366_inb : ∀ (v664 : IVec S16 32) (v1382 : IVec S16 32) (k0_hw1366 : k0_chk1366 v664 v1382), ∀ a x, ((![v1382, v664] : Fin 2 → IVec S16 32) a x).toNat < S64x512.size a := fun v664 v1382 k0_hw1366 => k0_hw1366

def k0_chk1367 (v1389 : IVec S16 32) : Prop :=
  (∀ a x, ((![v1389] : Fin 1 → IVec S16 32) a x).toNat < S32000.size a)
theorem k0_idx1367_inb : ∀ (v1389 : IVec S16 32) (k0_hw1367 : k0_chk1367 v1389), ∀ a x, ((![v1389] : Fin 1 → IVec S16 32) a x).toNat < S32000.size a := fun v1389 k0_hw1367 => k0_hw1367

def k0_chk1368 (v1391 : IVec S16 32) : Prop :=
  (∀ a x, ((![v1391] : Fin 1 → IVec S16 32) a x).toNat < S32000.size a)
theorem k0_idx1368_inb : ∀ (v1391 : IVec S16 32) (k0_hw1368 : k0_chk1368 v1391), ∀ a x, ((![v1391] : Fin 1 → IVec S16 32) a x).toNat < S32000.size a := fun v1391 k0_hw1368 => k0_hw1368

def k0_chk1369 (v1393 : IVec S16 32) : Prop :=
  (∀ a x, ((![v1393] : Fin 1 → IVec S16 32) a x).toNat < S32000.size a)
theorem k0_idx1369_inb : ∀ (v1393 : IVec S16 32) (k0_hw1369 : k0_chk1369 v1393), ∀ a x, ((![v1393] : Fin 1 → IVec S16 32) a x).toNat < S32000.size a := fun v1393 k0_hw1369 => k0_hw1369

def k0_chk1370 (v1395 : IVec S16 32) : Prop :=
  (∀ a x, ((![v1395] : Fin 1 → IVec S16 32) a x).toNat < S32000.size a)
theorem k0_idx1370_inb : ∀ (v1395 : IVec S16 32) (k0_hw1370 : k0_chk1370 v1395), ∀ a x, ((![v1395] : Fin 1 → IVec S16 32) a x).toNat < S32000.size a := fun v1395 k0_hw1370 => k0_hw1370

def k0_chk1371 (v1397 : IVec S16 32) : Prop :=
  (∀ a x, ((![v1397] : Fin 1 → IVec S16 32) a x).toNat < S32000.size a)
theorem k0_idx1371_inb : ∀ (v1397 : IVec S16 32) (k0_hw1371 : k0_chk1371 v1397), ∀ a x, ((![v1397] : Fin 1 → IVec S16 32) a x).toNat < S32000.size a := fun v1397 k0_hw1371 => k0_hw1371

def k0_chk1372 (v1399 : IVec S16 32) : Prop :=
  (∀ a x, ((![v1399] : Fin 1 → IVec S16 32) a x).toNat < S32000.size a)
theorem k0_idx1372_inb : ∀ (v1399 : IVec S16 32) (k0_hw1372 : k0_chk1372 v1399), ∀ a x, ((![v1399] : Fin 1 → IVec S16 32) a x).toNat < S32000.size a := fun v1399 k0_hw1372 => k0_hw1372

def k0_chk1373 (v664 : IVec S16 32) (v1450 : IVec S16 32) : Prop :=
  (∀ a x, ((![v1450, v664] : Fin 2 → IVec S16 32) a x).toNat < S64x512.size a)
theorem k0_idx1373_inb : ∀ (v664 : IVec S16 32) (v1450 : IVec S16 32) (k0_hw1373 : k0_chk1373 v664 v1450), ∀ a x, ((![v1450, v664] : Fin 2 → IVec S16 32) a x).toNat < S64x512.size a := fun v664 v1450 k0_hw1373 => k0_hw1373

def k0_chk1374 (v664 : IVec S16 32) (v1452 : IVec S16 32) : Prop :=
  (∀ a x, ((![v1452, v664] : Fin 2 → IVec S16 32) a x).toNat < S64x512.size a)
theorem k0_idx1374_inb : ∀ (v664 : IVec S16 32) (v1452 : IVec S16 32) (k0_hw1374 : k0_chk1374 v664 v1452), ∀ a x, ((![v1452, v664] : Fin 2 → IVec S16 32) a x).toNat < S64x512.size a := fun v664 v1452 k0_hw1374 => k0_hw1374

def k0_chk1375 (v1459 : IVec S16 32) : Prop :=
  (∀ a x, ((![v1459] : Fin 1 → IVec S16 32) a x).toNat < S32000.size a)
theorem k0_idx1375_inb : ∀ (v1459 : IVec S16 32) (k0_hw1375 : k0_chk1375 v1459), ∀ a x, ((![v1459] : Fin 1 → IVec S16 32) a x).toNat < S32000.size a := fun v1459 k0_hw1375 => k0_hw1375

def k0_chk1376 (v1461 : IVec S16 32) : Prop :=
  (∀ a x, ((![v1461] : Fin 1 → IVec S16 32) a x).toNat < S32000.size a)
theorem k0_idx1376_inb : ∀ (v1461 : IVec S16 32) (k0_hw1376 : k0_chk1376 v1461), ∀ a x, ((![v1461] : Fin 1 → IVec S16 32) a x).toNat < S32000.size a := fun v1461 k0_hw1376 => k0_hw1376

def k0_chk1377 (v1463 : IVec S16 32) : Prop :=
  (∀ a x, ((![v1463] : Fin 1 → IVec S16 32) a x).toNat < S32000.size a)
theorem k0_idx1377_inb : ∀ (v1463 : IVec S16 32) (k0_hw1377 : k0_chk1377 v1463), ∀ a x, ((![v1463] : Fin 1 → IVec S16 32) a x).toNat < S32000.size a := fun v1463 k0_hw1377 => k0_hw1377

def k0_chk1378 (v1465 : IVec S16 32) : Prop :=
  (∀ a x, ((![v1465] : Fin 1 → IVec S16 32) a x).toNat < S32000.size a)
theorem k0_idx1378_inb : ∀ (v1465 : IVec S16 32) (k0_hw1378 : k0_chk1378 v1465), ∀ a x, ((![v1465] : Fin 1 → IVec S16 32) a x).toNat < S32000.size a := fun v1465 k0_hw1378 => k0_hw1378

def k0_chk1379 (v1467 : IVec S16 32) : Prop :=
  (∀ a x, ((![v1467] : Fin 1 → IVec S16 32) a x).toNat < S32000.size a)
theorem k0_idx1379_inb : ∀ (v1467 : IVec S16 32) (k0_hw1379 : k0_chk1379 v1467), ∀ a x, ((![v1467] : Fin 1 → IVec S16 32) a x).toNat < S32000.size a := fun v1467 k0_hw1379 => k0_hw1379

def k0_chk1380 (v1469 : IVec S16 32) : Prop :=
  (∀ a x, ((![v1469] : Fin 1 → IVec S16 32) a x).toNat < S32000.size a)
theorem k0_idx1380_inb : ∀ (v1469 : IVec S16 32) (k0_hw1380 : k0_chk1380 v1469), ∀ a x, ((![v1469] : Fin 1 → IVec S16 32) a x).toNat < S32000.size a := fun v1469 k0_hw1380 => k0_hw1380

def k0_chk1381 (v664 : IVec S16 32) (v1520 : IVec S16 32) : Prop :=
  (∀ a x, ((![v1520, v664] : Fin 2 → IVec S16 32) a x).toNat < S64x512.size a)
theorem k0_idx1381_inb : ∀ (v664 : IVec S16 32) (v1520 : IVec S16 32) (k0_hw1381 : k0_chk1381 v664 v1520), ∀ a x, ((![v1520, v664] : Fin 2 → IVec S16 32) a x).toNat < S64x512.size a := fun v664 v1520 k0_hw1381 => k0_hw1381

def k0_chk1382 (v664 : IVec S16 32) (v1522 : IVec S16 32) : Prop :=
  (∀ a x, ((![v1522, v664] : Fin 2 → IVec S16 32) a x).toNat < S64x512.size a)
theorem k0_idx1382_inb : ∀ (v664 : IVec S16 32) (v1522 : IVec S16 32) (k0_hw1382 : k0_chk1382 v664 v1522), ∀ a x, ((![v1522, v664] : Fin 2 → IVec S16 32) a x).toNat < S64x512.size a := fun v664 v1522 k0_hw1382 => k0_hw1382

def k0_chk1383 (v1529 : IVec S16 32) : Prop :=
  (∀ a x, ((![v1529] : Fin 1 → IVec S16 32) a x).toNat < S32000.size a)
theorem k0_idx1383_inb : ∀ (v1529 : IVec S16 32) (k0_hw1383 : k0_chk1383 v1529), ∀ a x, ((![v1529] : Fin 1 → IVec S16 32) a x).toNat < S32000.size a := fun v1529 k0_hw1383 => k0_hw1383

def k0_chk1384 (v1531 : IVec S16 32) : Prop :=
  (∀ a x, ((![v1531] : Fin 1 → IVec S16 32) a x).toNat < S32000.size a)
theorem k0_idx1384_inb : ∀ (v1531 : IVec S16 32) (k0_hw1384 : k0_chk1384 v1531), ∀ a x, ((![v1531] : Fin 1 → IVec S16 32) a x).toNat < S32000.size a := fun v1531 k0_hw1384 => k0_hw1384

def k0_chk1385 (v1533 : IVec S16 32) : Prop :=
  (∀ a x, ((![v1533] : Fin 1 → IVec S16 32) a x).toNat < S32000.size a)
theorem k0_idx1385_inb : ∀ (v1533 : IVec S16 32) (k0_hw1385 : k0_chk1385 v1533), ∀ a x, ((![v1533] : Fin 1 → IVec S16 32) a x).toNat < S32000.size a := fun v1533 k0_hw1385 => k0_hw1385

def k0_chk1386 (v1535 : IVec S16 32) : Prop :=
  (∀ a x, ((![v1535] : Fin 1 → IVec S16 32) a x).toNat < S32000.size a)
theorem k0_idx1386_inb : ∀ (v1535 : IVec S16 32) (k0_hw1386 : k0_chk1386 v1535), ∀ a x, ((![v1535] : Fin 1 → IVec S16 32) a x).toNat < S32000.size a := fun v1535 k0_hw1386 => k0_hw1386

def k0_chk1387 (v1537 : IVec S16 32) : Prop :=
  (∀ a x, ((![v1537] : Fin 1 → IVec S16 32) a x).toNat < S32000.size a)
theorem k0_idx1387_inb : ∀ (v1537 : IVec S16 32) (k0_hw1387 : k0_chk1387 v1537), ∀ a x, ((![v1537] : Fin 1 → IVec S16 32) a x).toNat < S32000.size a := fun v1537 k0_hw1387 => k0_hw1387

def k0_chk1388 (v1539 : IVec S16 32) : Prop :=
  (∀ a x, ((![v1539] : Fin 1 → IVec S16 32) a x).toNat < S32000.size a)
theorem k0_idx1388_inb : ∀ (v1539 : IVec S16 32) (k0_hw1388 : k0_chk1388 v1539), ∀ a x, ((![v1539] : Fin 1 → IVec S16 32) a x).toNat < S32000.size a := fun v1539 k0_hw1388 => k0_hw1388

def k0_chk1389 (v664 : IVec S16 32) (v1590 : IVec S16 32) : Prop :=
  (∀ a x, ((![v1590, v664] : Fin 2 → IVec S16 32) a x).toNat < S64x512.size a)
theorem k0_idx1389_inb : ∀ (v664 : IVec S16 32) (v1590 : IVec S16 32) (k0_hw1389 : k0_chk1389 v664 v1590), ∀ a x, ((![v1590, v664] : Fin 2 → IVec S16 32) a x).toNat < S64x512.size a := fun v664 v1590 k0_hw1389 => k0_hw1389

def k0_chk1390 (v664 : IVec S16 32) (v1592 : IVec S16 32) : Prop :=
  (∀ a x, ((![v1592, v664] : Fin 2 → IVec S16 32) a x).toNat < S64x512.size a)
theorem k0_idx1390_inb : ∀ (v664 : IVec S16 32) (v1592 : IVec S16 32) (k0_hw1390 : k0_chk1390 v664 v1592), ∀ a x, ((![v1592, v664] : Fin 2 → IVec S16 32) a x).toNat < S64x512.size a := fun v664 v1592 k0_hw1390 => k0_hw1390

def k0_chk1391 (v1599 : IVec S16 32) : Prop :=
  (∀ a x, ((![v1599] : Fin 1 → IVec S16 32) a x).toNat < S32000.size a)
theorem k0_idx1391_inb : ∀ (v1599 : IVec S16 32) (k0_hw1391 : k0_chk1391 v1599), ∀ a x, ((![v1599] : Fin 1 → IVec S16 32) a x).toNat < S32000.size a := fun v1599 k0_hw1391 => k0_hw1391

def k0_chk1392 (v1601 : IVec S16 32) : Prop :=
  (∀ a x, ((![v1601] : Fin 1 → IVec S16 32) a x).toNat < S32000.size a)
theorem k0_idx1392_inb : ∀ (v1601 : IVec S16 32) (k0_hw1392 : k0_chk1392 v1601), ∀ a x, ((![v1601] : Fin 1 → IVec S16 32) a x).toNat < S32000.size a := fun v1601 k0_hw1392 => k0_hw1392

def k0_chk1393 (v1603 : IVec S16 32) : Prop :=
  (∀ a x, ((![v1603] : Fin 1 → IVec S16 32) a x).toNat < S32000.size a)
theorem k0_idx1393_inb : ∀ (v1603 : IVec S16 32) (k0_hw1393 : k0_chk1393 v1603), ∀ a x, ((![v1603] : Fin 1 → IVec S16 32) a x).toNat < S32000.size a := fun v1603 k0_hw1393 => k0_hw1393

def k0_chk1394 (v1605 : IVec S16 32) : Prop :=
  (∀ a x, ((![v1605] : Fin 1 → IVec S16 32) a x).toNat < S32000.size a)
theorem k0_idx1394_inb : ∀ (v1605 : IVec S16 32) (k0_hw1394 : k0_chk1394 v1605), ∀ a x, ((![v1605] : Fin 1 → IVec S16 32) a x).toNat < S32000.size a := fun v1605 k0_hw1394 => k0_hw1394

def k0_chk1395 (v1607 : IVec S16 32) : Prop :=
  (∀ a x, ((![v1607] : Fin 1 → IVec S16 32) a x).toNat < S32000.size a)
theorem k0_idx1395_inb : ∀ (v1607 : IVec S16 32) (k0_hw1395 : k0_chk1395 v1607), ∀ a x, ((![v1607] : Fin 1 → IVec S16 32) a x).toNat < S32000.size a := fun v1607 k0_hw1395 => k0_hw1395

def k0_chk1396 (v1609 : IVec S16 32) : Prop :=
  (∀ a x, ((![v1609] : Fin 1 → IVec S16 32) a x).toNat < S32000.size a)
theorem k0_idx1396_inb : ∀ (v1609 : IVec S16 32) (k0_hw1396 : k0_chk1396 v1609), ∀ a x, ((![v1609] : Fin 1 → IVec S16 32) a x).toNat < S32000.size a := fun v1609 k0_hw1396 => k0_hw1396

def k0_chk1397 (v664 : IVec S16 32) (v1660 : IVec S16 32) : Prop :=
  (∀ a x, ((![v1660, v664] : Fin 2 → IVec S16 32) a x).toNat < S64x512.size a)
theorem k0_idx1397_inb : ∀ (v664 : IVec S16 32) (v1660 : IVec S16 32) (k0_hw1397 : k0_chk1397 v664 v1660), ∀ a x, ((![v1660, v664] : Fin 2 → IVec S16 32) a x).toNat < S64x512.size a := fun v664 v1660 k0_hw1397 => k0_hw1397

def k0_chk1398 (v664 : IVec S16 32) (v1662 : IVec S16 32) : Prop :=
  (∀ a x, ((![v1662, v664] : Fin 2 → IVec S16 32) a x).toNat < S64x512.size a)
theorem k0_idx1398_inb : ∀ (v664 : IVec S16 32) (v1662 : IVec S16 32) (k0_hw1398 : k0_chk1398 v664 v1662), ∀ a x, ((![v1662, v664] : Fin 2 → IVec S16 32) a x).toNat < S64x512.size a := fun v664 v1662 k0_hw1398 => k0_hw1398

def k0_chk1399 (v1669 : IVec S16 32) : Prop :=
  (∀ a x, ((![v1669] : Fin 1 → IVec S16 32) a x).toNat < S32000.size a)
theorem k0_idx1399_inb : ∀ (v1669 : IVec S16 32) (k0_hw1399 : k0_chk1399 v1669), ∀ a x, ((![v1669] : Fin 1 → IVec S16 32) a x).toNat < S32000.size a := fun v1669 k0_hw1399 => k0_hw1399

def k0_chk1400 (v1671 : IVec S16 32) : Prop :=
  (∀ a x, ((![v1671] : Fin 1 → IVec S16 32) a x).toNat < S32000.size a)
theorem k0_idx1400_inb : ∀ (v1671 : IVec S16 32) (k0_hw1400 : k0_chk1400 v1671), ∀ a x, ((![v1671] : Fin 1 → IVec S16 32) a x).toNat < S32000.size a := fun v1671 k0_hw1400 => k0_hw1400

def k0_chk1401 (v1673 : IVec S16 32) : Prop :=
  (∀ a x, ((![v1673] : Fin 1 → IVec S16 32) a x).toNat < S32000.size a)
theorem k0_idx1401_inb : ∀ (v1673 : IVec S16 32) (k0_hw1401 : k0_chk1401 v1673), ∀ a x, ((![v1673] : Fin 1 → IVec S16 32) a x).toNat < S32000.size a := fun v1673 k0_hw1401 => k0_hw1401

def k0_chk1402 (v1675 : IVec S16 32) : Prop :=
  (∀ a x, ((![v1675] : Fin 1 → IVec S16 32) a x).toNat < S32000.size a)
theorem k0_idx1402_inb : ∀ (v1675 : IVec S16 32) (k0_hw1402 : k0_chk1402 v1675), ∀ a x, ((![v1675] : Fin 1 → IVec S16 32) a x).toNat < S32000.size a := fun v1675 k0_hw1402 => k0_hw1402

def k0_chk1403 (v1677 : IVec S16 32) : Prop :=
  (∀ a x, ((![v1677] : Fin 1 → IVec S16 32) a x).toNat < S32000.size a)
theorem k0_idx1403_inb : ∀ (v1677 : IVec S16 32) (k0_hw1403 : k0_chk1403 v1677), ∀ a x, ((![v1677] : Fin 1 → IVec S16 32) a x).toNat < S32000.size a := fun v1677 k0_hw1403 => k0_hw1403

def k0_chk1404 (v1679 : IVec S16 32) : Prop :=
  (∀ a x, ((![v1679] : Fin 1 → IVec S16 32) a x).toNat < S32000.size a)
theorem k0_idx1404_inb : ∀ (v1679 : IVec S16 32) (k0_hw1404 : k0_chk1404 v1679), ∀ a x, ((![v1679] : Fin 1 → IVec S16 32) a x).toNat < S32000.size a := fun v1679 k0_hw1404 => k0_hw1404

def k0_chk1405 (v664 : IVec S16 32) (v1730 : IVec S16 32) : Prop :=
  (∀ a x, ((![v1730, v664] : Fin 2 → IVec S16 32) a x).toNat < S64x512.size a)
theorem k0_idx1405_inb : ∀ (v664 : IVec S16 32) (v1730 : IVec S16 32) (k0_hw1405 : k0_chk1405 v664 v1730), ∀ a x, ((![v1730, v664] : Fin 2 → IVec S16 32) a x).toNat < S64x512.size a := fun v664 v1730 k0_hw1405 => k0_hw1405

def k0_chk1406 (v664 : IVec S16 32) (v1732 : IVec S16 32) : Prop :=
  (∀ a x, ((![v1732, v664] : Fin 2 → IVec S16 32) a x).toNat < S64x512.size a)
theorem k0_idx1406_inb : ∀ (v664 : IVec S16 32) (v1732 : IVec S16 32) (k0_hw1406 : k0_chk1406 v664 v1732), ∀ a x, ((![v1732, v664] : Fin 2 → IVec S16 32) a x).toNat < S64x512.size a := fun v664 v1732 k0_hw1406 => k0_hw1406

def k0_chk1407 (v1739 : IVec S16 32) : Prop :=
  (∀ a x, ((![v1739] : Fin 1 → IVec S16 32) a x).toNat < S32000.size a)
theorem k0_idx1407_inb : ∀ (v1739 : IVec S16 32) (k0_hw1407 : k0_chk1407 v1739), ∀ a x, ((![v1739] : Fin 1 → IVec S16 32) a x).toNat < S32000.size a := fun v1739 k0_hw1407 => k0_hw1407

def k0_chk1408 (v1741 : IVec S16 32) : Prop :=
  (∀ a x, ((![v1741] : Fin 1 → IVec S16 32) a x).toNat < S32000.size a)
theorem k0_idx1408_inb : ∀ (v1741 : IVec S16 32) (k0_hw1408 : k0_chk1408 v1741), ∀ a x, ((![v1741] : Fin 1 → IVec S16 32) a x).toNat < S32000.size a := fun v1741 k0_hw1408 => k0_hw1408

def k0_chk1409 (v1743 : IVec S16 32) : Prop :=
  (∀ a x, ((![v1743] : Fin 1 → IVec S16 32) a x).toNat < S32000.size a)
theorem k0_idx1409_inb : ∀ (v1743 : IVec S16 32) (k0_hw1409 : k0_chk1409 v1743), ∀ a x, ((![v1743] : Fin 1 → IVec S16 32) a x).toNat < S32000.size a := fun v1743 k0_hw1409 => k0_hw1409

def k0_chk1410 (v1745 : IVec S16 32) : Prop :=
  (∀ a x, ((![v1745] : Fin 1 → IVec S16 32) a x).toNat < S32000.size a)
theorem k0_idx1410_inb : ∀ (v1745 : IVec S16 32) (k0_hw1410 : k0_chk1410 v1745), ∀ a x, ((![v1745] : Fin 1 → IVec S16 32) a x).toNat < S32000.size a := fun v1745 k0_hw1410 => k0_hw1410

def k0_chk1411 (v1747 : IVec S16 32) : Prop :=
  (∀ a x, ((![v1747] : Fin 1 → IVec S16 32) a x).toNat < S32000.size a)
theorem k0_idx1411_inb : ∀ (v1747 : IVec S16 32) (k0_hw1411 : k0_chk1411 v1747), ∀ a x, ((![v1747] : Fin 1 → IVec S16 32) a x).toNat < S32000.size a := fun v1747 k0_hw1411 => k0_hw1411

def k0_chk1412 (v1749 : IVec S16 32) : Prop :=
  (∀ a x, ((![v1749] : Fin 1 → IVec S16 32) a x).toNat < S32000.size a)
theorem k0_idx1412_inb : ∀ (v1749 : IVec S16 32) (k0_hw1412 : k0_chk1412 v1749), ∀ a x, ((![v1749] : Fin 1 → IVec S16 32) a x).toNat < S32000.size a := fun v1749 k0_hw1412 => k0_hw1412

def k0_chk1413 (v664 : IVec S16 32) (v1800 : IVec S16 32) : Prop :=
  (∀ a x, ((![v1800, v664] : Fin 2 → IVec S16 32) a x).toNat < S64x512.size a)
theorem k0_idx1413_inb : ∀ (v664 : IVec S16 32) (v1800 : IVec S16 32) (k0_hw1413 : k0_chk1413 v664 v1800), ∀ a x, ((![v1800, v664] : Fin 2 → IVec S16 32) a x).toNat < S64x512.size a := fun v664 v1800 k0_hw1413 => k0_hw1413

def k0_chk1414 (v664 : IVec S16 32) (v1802 : IVec S16 32) : Prop :=
  (∀ a x, ((![v1802, v664] : Fin 2 → IVec S16 32) a x).toNat < S64x512.size a)
theorem k0_idx1414_inb : ∀ (v664 : IVec S16 32) (v1802 : IVec S16 32) (k0_hw1414 : k0_chk1414 v664 v1802), ∀ a x, ((![v1802, v664] : Fin 2 → IVec S16 32) a x).toNat < S64x512.size a := fun v664 v1802 k0_hw1414 => k0_hw1414

def k0_chk1415 (v1809 : IVec S16 32) : Prop :=
  (∀ a x, ((![v1809] : Fin 1 → IVec S16 32) a x).toNat < S32000.size a)
theorem k0_idx1415_inb : ∀ (v1809 : IVec S16 32) (k0_hw1415 : k0_chk1415 v1809), ∀ a x, ((![v1809] : Fin 1 → IVec S16 32) a x).toNat < S32000.size a := fun v1809 k0_hw1415 => k0_hw1415

def k0_chk1416 (v1811 : IVec S16 32) : Prop :=
  (∀ a x, ((![v1811] : Fin 1 → IVec S16 32) a x).toNat < S32000.size a)
theorem k0_idx1416_inb : ∀ (v1811 : IVec S16 32) (k0_hw1416 : k0_chk1416 v1811), ∀ a x, ((![v1811] : Fin 1 → IVec S16 32) a x).toNat < S32000.size a := fun v1811 k0_hw1416 => k0_hw1416

def k0_chk1417 (v1813 : IVec S16 32) : Prop :=
  (∀ a x, ((![v1813] : Fin 1 → IVec S16 32) a x).toNat < S32000.size a)
theorem k0_idx1417_inb : ∀ (v1813 : IVec S16 32) (k0_hw1417 : k0_chk1417 v1813), ∀ a x, ((![v1813] : Fin 1 → IVec S16 32) a x).toNat < S32000.size a := fun v1813 k0_hw1417 => k0_hw1417

def k0_chk1418 (v1815 : IVec S16 32) : Prop :=
  (∀ a x, ((![v1815] : Fin 1 → IVec S16 32) a x).toNat < S32000.size a)
theorem k0_idx1418_inb : ∀ (v1815 : IVec S16 32) (k0_hw1418 : k0_chk1418 v1815), ∀ a x, ((![v1815] : Fin 1 → IVec S16 32) a x).toNat < S32000.size a := fun v1815 k0_hw1418 => k0_hw1418

def k0_chk1419 (v1817 : IVec S16 32) : Prop :=
  (∀ a x, ((![v1817] : Fin 1 → IVec S16 32) a x).toNat < S32000.size a)
theorem k0_idx1419_inb : ∀ (v1817 : IVec S16 32) (k0_hw1419 : k0_chk1419 v1817), ∀ a x, ((![v1817] : Fin 1 → IVec S16 32) a x).toNat < S32000.size a := fun v1817 k0_hw1419 => k0_hw1419

def k0_chk1420 (v1819 : IVec S16 32) : Prop :=
  (∀ a x, ((![v1819] : Fin 1 → IVec S16 32) a x).toNat < S32000.size a)
theorem k0_idx1420_inb : ∀ (v1819 : IVec S16 32) (k0_hw1420 : k0_chk1420 v1819), ∀ a x, ((![v1819] : Fin 1 → IVec S16 32) a x).toNat < S32000.size a := fun v1819 k0_hw1420 => k0_hw1420

def k0_chk1421 (v664 : IVec S16 32) (v1870 : IVec S16 32) : Prop :=
  (∀ a x, ((![v1870, v664] : Fin 2 → IVec S16 32) a x).toNat < S64x512.size a)
theorem k0_idx1421_inb : ∀ (v664 : IVec S16 32) (v1870 : IVec S16 32) (k0_hw1421 : k0_chk1421 v664 v1870), ∀ a x, ((![v1870, v664] : Fin 2 → IVec S16 32) a x).toNat < S64x512.size a := fun v664 v1870 k0_hw1421 => k0_hw1421

def k0_chk1422 (v664 : IVec S16 32) (v1872 : IVec S16 32) : Prop :=
  (∀ a x, ((![v1872, v664] : Fin 2 → IVec S16 32) a x).toNat < S64x512.size a)
theorem k0_idx1422_inb : ∀ (v664 : IVec S16 32) (v1872 : IVec S16 32) (k0_hw1422 : k0_chk1422 v664 v1872), ∀ a x, ((![v1872, v664] : Fin 2 → IVec S16 32) a x).toNat < S64x512.size a := fun v664 v1872 k0_hw1422 => k0_hw1422

def k0_chk1423 (v1879 : IVec S16 32) : Prop :=
  (∀ a x, ((![v1879] : Fin 1 → IVec S16 32) a x).toNat < S32000.size a)
theorem k0_idx1423_inb : ∀ (v1879 : IVec S16 32) (k0_hw1423 : k0_chk1423 v1879), ∀ a x, ((![v1879] : Fin 1 → IVec S16 32) a x).toNat < S32000.size a := fun v1879 k0_hw1423 => k0_hw1423

def k0_chk1424 (v1881 : IVec S16 32) : Prop :=
  (∀ a x, ((![v1881] : Fin 1 → IVec S16 32) a x).toNat < S32000.size a)
theorem k0_idx1424_inb : ∀ (v1881 : IVec S16 32) (k0_hw1424 : k0_chk1424 v1881), ∀ a x, ((![v1881] : Fin 1 → IVec S16 32) a x).toNat < S32000.size a := fun v1881 k0_hw1424 => k0_hw1424

def k0_chk1425 (v1883 : IVec S16 32) : Prop :=
  (∀ a x, ((![v1883] : Fin 1 → IVec S16 32) a x).toNat < S32000.size a)
theorem k0_idx1425_inb : ∀ (v1883 : IVec S16 32) (k0_hw1425 : k0_chk1425 v1883), ∀ a x, ((![v1883] : Fin 1 → IVec S16 32) a x).toNat < S32000.size a := fun v1883 k0_hw1425 => k0_hw1425

def k0_chk1426 (v1885 : IVec S16 32) : Prop :=
  (∀ a x, ((![v1885] : Fin 1 → IVec S16 32) a x).toNat < S32000.size a)
theorem k0_idx1426_inb : ∀ (v1885 : IVec S16 32) (k0_hw1426 : k0_chk1426 v1885), ∀ a x, ((![v1885] : Fin 1 → IVec S16 32) a x).toNat < S32000.size a := fun v1885 k0_hw1426 => k0_hw1426

def k0_chk1427 (v1887 : IVec S16 32) : Prop :=
  (∀ a x, ((![v1887] : Fin 1 → IVec S16 32) a x).toNat < S32000.size a)
theorem k0_idx1427_inb : ∀ (v1887 : IVec S16 32) (k0_hw1427 : k0_chk1427 v1887), ∀ a x, ((![v1887] : Fin 1 → IVec S16 32) a x).toNat < S32000.size a := fun v1887 k0_hw1427 => k0_hw1427

def k0_chk1428 (v1889 : IVec S16 32) : Prop :=
  (∀ a x, ((![v1889] : Fin 1 → IVec S16 32) a x).toNat < S32000.size a)
theorem k0_idx1428_inb : ∀ (v1889 : IVec S16 32) (k0_hw1428 : k0_chk1428 v1889), ∀ a x, ((![v1889] : Fin 1 → IVec S16 32) a x).toNat < S32000.size a := fun v1889 k0_hw1428 => k0_hw1428

def k0_chk1429 (v664 : IVec S16 32) (v1940 : IVec S16 32) : Prop :=
  (∀ a x, ((![v1940, v664] : Fin 2 → IVec S16 32) a x).toNat < S64x512.size a)
theorem k0_idx1429_inb : ∀ (v664 : IVec S16 32) (v1940 : IVec S16 32) (k0_hw1429 : k0_chk1429 v664 v1940), ∀ a x, ((![v1940, v664] : Fin 2 → IVec S16 32) a x).toNat < S64x512.size a := fun v664 v1940 k0_hw1429 => k0_hw1429

def k0_chk1430 (v664 : IVec S16 32) (v1942 : IVec S16 32) : Prop :=
  (∀ a x, ((![v1942, v664] : Fin 2 → IVec S16 32) a x).toNat < S64x512.size a)
theorem k0_idx1430_inb : ∀ (v664 : IVec S16 32) (v1942 : IVec S16 32) (k0_hw1430 : k0_chk1430 v664 v1942), ∀ a x, ((![v1942, v664] : Fin 2 → IVec S16 32) a x).toNat < S64x512.size a := fun v664 v1942 k0_hw1430 => k0_hw1430

def k0_chk1431 (v1949 : IVec S16 32) : Prop :=
  (∀ a x, ((![v1949] : Fin 1 → IVec S16 32) a x).toNat < S32000.size a)
theorem k0_idx1431_inb : ∀ (v1949 : IVec S16 32) (k0_hw1431 : k0_chk1431 v1949), ∀ a x, ((![v1949] : Fin 1 → IVec S16 32) a x).toNat < S32000.size a := fun v1949 k0_hw1431 => k0_hw1431

def k0_chk1432 (v1951 : IVec S16 32) : Prop :=
  (∀ a x, ((![v1951] : Fin 1 → IVec S16 32) a x).toNat < S32000.size a)
theorem k0_idx1432_inb : ∀ (v1951 : IVec S16 32) (k0_hw1432 : k0_chk1432 v1951), ∀ a x, ((![v1951] : Fin 1 → IVec S16 32) a x).toNat < S32000.size a := fun v1951 k0_hw1432 => k0_hw1432

def k0_chk1433 (v1953 : IVec S16 32) : Prop :=
  (∀ a x, ((![v1953] : Fin 1 → IVec S16 32) a x).toNat < S32000.size a)
theorem k0_idx1433_inb : ∀ (v1953 : IVec S16 32) (k0_hw1433 : k0_chk1433 v1953), ∀ a x, ((![v1953] : Fin 1 → IVec S16 32) a x).toNat < S32000.size a := fun v1953 k0_hw1433 => k0_hw1433

def k0_chk1434 (v1955 : IVec S16 32) : Prop :=
  (∀ a x, ((![v1955] : Fin 1 → IVec S16 32) a x).toNat < S32000.size a)
theorem k0_idx1434_inb : ∀ (v1955 : IVec S16 32) (k0_hw1434 : k0_chk1434 v1955), ∀ a x, ((![v1955] : Fin 1 → IVec S16 32) a x).toNat < S32000.size a := fun v1955 k0_hw1434 => k0_hw1434

def k0_chk1435 (v1957 : IVec S16 32) : Prop :=
  (∀ a x, ((![v1957] : Fin 1 → IVec S16 32) a x).toNat < S32000.size a)
theorem k0_idx1435_inb : ∀ (v1957 : IVec S16 32) (k0_hw1435 : k0_chk1435 v1957), ∀ a x, ((![v1957] : Fin 1 → IVec S16 32) a x).toNat < S32000.size a := fun v1957 k0_hw1435 => k0_hw1435

def k0_chk1436 (v1959 : IVec S16 32) : Prop :=
  (∀ a x, ((![v1959] : Fin 1 → IVec S16 32) a x).toNat < S32000.size a)
theorem k0_idx1436_inb : ∀ (v1959 : IVec S16 32) (k0_hw1436 : k0_chk1436 v1959), ∀ a x, ((![v1959] : Fin 1 → IVec S16 32) a x).toNat < S32000.size a := fun v1959 k0_hw1436 => k0_hw1436

def k0_chk1437 (v664 : IVec S16 32) (v2010 : IVec S16 32) : Prop :=
  (∀ a x, ((![v2010, v664] : Fin 2 → IVec S16 32) a x).toNat < S64x512.size a)
theorem k0_idx1437_inb : ∀ (v664 : IVec S16 32) (v2010 : IVec S16 32) (k0_hw1437 : k0_chk1437 v664 v2010), ∀ a x, ((![v2010, v664] : Fin 2 → IVec S16 32) a x).toNat < S64x512.size a := fun v664 v2010 k0_hw1437 => k0_hw1437

def k0_chk1438 (v664 : IVec S16 32) (v2012 : IVec S16 32) : Prop :=
  (∀ a x, ((![v2012, v664] : Fin 2 → IVec S16 32) a x).toNat < S64x512.size a)
theorem k0_idx1438_inb : ∀ (v664 : IVec S16 32) (v2012 : IVec S16 32) (k0_hw1438 : k0_chk1438 v664 v2012), ∀ a x, ((![v2012, v664] : Fin 2 → IVec S16 32) a x).toNat < S64x512.size a := fun v664 v2012 k0_hw1438 => k0_hw1438

def k0_chk1439 (v2019 : IVec S16 32) : Prop :=
  (∀ a x, ((![v2019] : Fin 1 → IVec S16 32) a x).toNat < S32000.size a)
theorem k0_idx1439_inb : ∀ (v2019 : IVec S16 32) (k0_hw1439 : k0_chk1439 v2019), ∀ a x, ((![v2019] : Fin 1 → IVec S16 32) a x).toNat < S32000.size a := fun v2019 k0_hw1439 => k0_hw1439

def k0_chk1440 (v2021 : IVec S16 32) : Prop :=
  (∀ a x, ((![v2021] : Fin 1 → IVec S16 32) a x).toNat < S32000.size a)
theorem k0_idx1440_inb : ∀ (v2021 : IVec S16 32) (k0_hw1440 : k0_chk1440 v2021), ∀ a x, ((![v2021] : Fin 1 → IVec S16 32) a x).toNat < S32000.size a := fun v2021 k0_hw1440 => k0_hw1440

def k0_chk1441 (v2023 : IVec S16 32) : Prop :=
  (∀ a x, ((![v2023] : Fin 1 → IVec S16 32) a x).toNat < S32000.size a)
theorem k0_idx1441_inb : ∀ (v2023 : IVec S16 32) (k0_hw1441 : k0_chk1441 v2023), ∀ a x, ((![v2023] : Fin 1 → IVec S16 32) a x).toNat < S32000.size a := fun v2023 k0_hw1441 => k0_hw1441

def k0_chk1442 (v2025 : IVec S16 32) : Prop :=
  (∀ a x, ((![v2025] : Fin 1 → IVec S16 32) a x).toNat < S32000.size a)
theorem k0_idx1442_inb : ∀ (v2025 : IVec S16 32) (k0_hw1442 : k0_chk1442 v2025), ∀ a x, ((![v2025] : Fin 1 → IVec S16 32) a x).toNat < S32000.size a := fun v2025 k0_hw1442 => k0_hw1442

def k0_chk1443 (v2027 : IVec S16 32) : Prop :=
  (∀ a x, ((![v2027] : Fin 1 → IVec S16 32) a x).toNat < S32000.size a)
theorem k0_idx1443_inb : ∀ (v2027 : IVec S16 32) (k0_hw1443 : k0_chk1443 v2027), ∀ a x, ((![v2027] : Fin 1 → IVec S16 32) a x).toNat < S32000.size a := fun v2027 k0_hw1443 => k0_hw1443

def k0_chk1444 (v2029 : IVec S16 32) : Prop :=
  (∀ a x, ((![v2029] : Fin 1 → IVec S16 32) a x).toNat < S32000.size a)
theorem k0_idx1444_inb : ∀ (v2029 : IVec S16 32) (k0_hw1444 : k0_chk1444 v2029), ∀ a x, ((![v2029] : Fin 1 → IVec S16 32) a x).toNat < S32000.size a := fun v2029 k0_hw1444 => k0_hw1444

def k0_chk1445 (v664 : IVec S16 32) (v2080 : IVec S16 32) : Prop :=
  (∀ a x, ((![v2080, v664] : Fin 2 → IVec S16 32) a x).toNat < S64x512.size a)
theorem k0_idx1445_inb : ∀ (v664 : IVec S16 32) (v2080 : IVec S16 32) (k0_hw1445 : k0_chk1445 v664 v2080), ∀ a x, ((![v2080, v664] : Fin 2 → IVec S16 32) a x).toNat < S64x512.size a := fun v664 v2080 k0_hw1445 => k0_hw1445

def k0_chk1446 (v664 : IVec S16 32) (v2082 : IVec S16 32) : Prop :=
  (∀ a x, ((![v2082, v664] : Fin 2 → IVec S16 32) a x).toNat < S64x512.size a)
theorem k0_idx1446_inb : ∀ (v664 : IVec S16 32) (v2082 : IVec S16 32) (k0_hw1446 : k0_chk1446 v664 v2082), ∀ a x, ((![v2082, v664] : Fin 2 → IVec S16 32) a x).toNat < S64x512.size a := fun v664 v2082 k0_hw1446 => k0_hw1446

def k0_chk1447 (v2089 : IVec S16 32) : Prop :=
  (∀ a x, ((![v2089] : Fin 1 → IVec S16 32) a x).toNat < S32000.size a)
theorem k0_idx1447_inb : ∀ (v2089 : IVec S16 32) (k0_hw1447 : k0_chk1447 v2089), ∀ a x, ((![v2089] : Fin 1 → IVec S16 32) a x).toNat < S32000.size a := fun v2089 k0_hw1447 => k0_hw1447

def k0_chk1448 (v2091 : IVec S16 32) : Prop :=
  (∀ a x, ((![v2091] : Fin 1 → IVec S16 32) a x).toNat < S32000.size a)
theorem k0_idx1448_inb : ∀ (v2091 : IVec S16 32) (k0_hw1448 : k0_chk1448 v2091), ∀ a x, ((![v2091] : Fin 1 → IVec S16 32) a x).toNat < S32000.size a := fun v2091 k0_hw1448 => k0_hw1448

def k0_chk1449 (v2093 : IVec S16 32) : Prop :=
  (∀ a x, ((![v2093] : Fin 1 → IVec S16 32) a x).toNat < S32000.size a)
theorem k0_idx1449_inb : ∀ (v2093 : IVec S16 32) (k0_hw1449 : k0_chk1449 v2093), ∀ a x, ((![v2093] : Fin 1 → IVec S16 32) a x).toNat < S32000.size a := fun v2093 k0_hw1449 => k0_hw1449

def k0_chk1450 (v2095 : IVec S16 32) : Prop :=
  (∀ a x, ((![v2095] : Fin 1 → IVec S16 32) a x).toNat < S32000.size a)
theorem k0_idx1450_inb : ∀ (v2095 : IVec S16 32) (k0_hw1450 : k0_chk1450 v2095), ∀ a x, ((![v2095] : Fin 1 → IVec S16 32) a x).toNat < S32000.size a := fun v2095 k0_hw1450 => k0_hw1450

def k0_chk1451 (v2097 : IVec S16 32) : Prop :=
  (∀ a x, ((![v2097] : Fin 1 → IVec S16 32) a x).toNat < S32000.size a)
theorem k0_idx1451_inb : ∀ (v2097 : IVec S16 32) (k0_hw1451 : k0_chk1451 v2097), ∀ a x, ((![v2097] : Fin 1 → IVec S16 32) a x).toNat < S32000.size a := fun v2097 k0_hw1451 => k0_hw1451

def k0_chk1452 (v2099 : IVec S16 32) : Prop :=
  (∀ a x, ((![v2099] : Fin 1 → IVec S16 32) a x).toNat < S32000.size a)
theorem k0_idx1452_inb : ∀ (v2099 : IVec S16 32) (k0_hw1452 : k0_chk1452 v2099), ∀ a x, ((![v2099] : Fin 1 → IVec S16 32) a x).toNat < S32000.size a := fun v2099 k0_hw1452 => k0_hw1452

def k0_chk1453 (v664 : IVec S16 32) (v2150 : IVec S16 32) : Prop :=
  (∀ a x, ((![v2150, v664] : Fin 2 → IVec S16 32) a x).toNat < S64x512.size a)
theorem k0_idx1453_inb : ∀ (v664 : IVec S16 32) (v2150 : IVec S16 32) (k0_hw1453 : k0_chk1453 v664 v2150), ∀ a x, ((![v2150, v664] : Fin 2 → IVec S16 32) a x).toNat < S64x512.size a := fun v664 v2150 k0_hw1453 => k0_hw1453

def k0_chk1454 (v664 : IVec S16 32) (v2152 : IVec S16 32) : Prop :=
  (∀ a x, ((![v2152, v664] : Fin 2 → IVec S16 32) a x).toNat < S64x512.size a)
theorem k0_idx1454_inb : ∀ (v664 : IVec S16 32) (v2152 : IVec S16 32) (k0_hw1454 : k0_chk1454 v664 v2152), ∀ a x, ((![v2152, v664] : Fin 2 → IVec S16 32) a x).toNat < S64x512.size a := fun v664 v2152 k0_hw1454 => k0_hw1454

def k0_chk1455 (v2159 : IVec S16 32) : Prop :=
  (∀ a x, ((![v2159] : Fin 1 → IVec S16 32) a x).toNat < S32000.size a)
theorem k0_idx1455_inb : ∀ (v2159 : IVec S16 32) (k0_hw1455 : k0_chk1455 v2159), ∀ a x, ((![v2159] : Fin 1 → IVec S16 32) a x).toNat < S32000.size a := fun v2159 k0_hw1455 => k0_hw1455

def k0_chk1456 (v2161 : IVec S16 32) : Prop :=
  (∀ a x, ((![v2161] : Fin 1 → IVec S16 32) a x).toNat < S32000.size a)
theorem k0_idx1456_inb : ∀ (v2161 : IVec S16 32) (k0_hw1456 : k0_chk1456 v2161), ∀ a x, ((![v2161] : Fin 1 → IVec S16 32) a x).toNat < S32000.size a := fun v2161 k0_hw1456 => k0_hw1456

def k0_chk1457 (v2163 : IVec S16 32) : Prop :=
  (∀ a x, ((![v2163] : Fin 1 → IVec S16 32) a x).toNat < S32000.size a)
theorem k0_idx1457_inb : ∀ (v2163 : IVec S16 32) (k0_hw1457 : k0_chk1457 v2163), ∀ a x, ((![v2163] : Fin 1 → IVec S16 32) a x).toNat < S32000.size a := fun v2163 k0_hw1457 => k0_hw1457

def k0_chk1458 (v2165 : IVec S16 32) : Prop :=
  (∀ a x, ((![v2165] : Fin 1 → IVec S16 32) a x).toNat < S32000.size a)
theorem k0_idx1458_inb : ∀ (v2165 : IVec S16 32) (k0_hw1458 : k0_chk1458 v2165), ∀ a x, ((![v2165] : Fin 1 → IVec S16 32) a x).toNat < S32000.size a := fun v2165 k0_hw1458 => k0_hw1458

def k0_chk1459 (v2167 : IVec S16 32) : Prop :=
  (∀ a x, ((![v2167] : Fin 1 → IVec S16 32) a x).toNat < S32000.size a)
theorem k0_idx1459_inb : ∀ (v2167 : IVec S16 32) (k0_hw1459 : k0_chk1459 v2167), ∀ a x, ((![v2167] : Fin 1 → IVec S16 32) a x).toNat < S32000.size a := fun v2167 k0_hw1459 => k0_hw1459

def k0_chk1460 (v2169 : IVec S16 32) : Prop :=
  (∀ a x, ((![v2169] : Fin 1 → IVec S16 32) a x).toNat < S32000.size a)
theorem k0_idx1460_inb : ∀ (v2169 : IVec S16 32) (k0_hw1460 : k0_chk1460 v2169), ∀ a x, ((![v2169] : Fin 1 → IVec S16 32) a x).toNat < S32000.size a := fun v2169 k0_hw1460 => k0_hw1460

def k0_chk1461 (v664 : IVec S16 32) (v2220 : IVec S16 32) : Prop :=
  (∀ a x, ((![v2220, v664] : Fin 2 → IVec S16 32) a x).toNat < S64x512.size a)
theorem k0_idx1461_inb : ∀ (v664 : IVec S16 32) (v2220 : IVec S16 32) (k0_hw1461 : k0_chk1461 v664 v2220), ∀ a x, ((![v2220, v664] : Fin 2 → IVec S16 32) a x).toNat < S64x512.size a := fun v664 v2220 k0_hw1461 => k0_hw1461

def k0_chk1462 (v664 : IVec S16 32) (v2222 : IVec S16 32) : Prop :=
  (∀ a x, ((![v2222, v664] : Fin 2 → IVec S16 32) a x).toNat < S64x512.size a)
theorem k0_idx1462_inb : ∀ (v664 : IVec S16 32) (v2222 : IVec S16 32) (k0_hw1462 : k0_chk1462 v664 v2222), ∀ a x, ((![v2222, v664] : Fin 2 → IVec S16 32) a x).toNat < S64x512.size a := fun v664 v2222 k0_hw1462 => k0_hw1462

def k0_chk1463 (v2229 : IVec S16 32) : Prop :=
  (∀ a x, ((![v2229] : Fin 1 → IVec S16 32) a x).toNat < S32000.size a)
theorem k0_idx1463_inb : ∀ (v2229 : IVec S16 32) (k0_hw1463 : k0_chk1463 v2229), ∀ a x, ((![v2229] : Fin 1 → IVec S16 32) a x).toNat < S32000.size a := fun v2229 k0_hw1463 => k0_hw1463

def k0_chk1464 (v2231 : IVec S16 32) : Prop :=
  (∀ a x, ((![v2231] : Fin 1 → IVec S16 32) a x).toNat < S32000.size a)
theorem k0_idx1464_inb : ∀ (v2231 : IVec S16 32) (k0_hw1464 : k0_chk1464 v2231), ∀ a x, ((![v2231] : Fin 1 → IVec S16 32) a x).toNat < S32000.size a := fun v2231 k0_hw1464 => k0_hw1464

def k0_chk1465 (v2233 : IVec S16 32) : Prop :=
  (∀ a x, ((![v2233] : Fin 1 → IVec S16 32) a x).toNat < S32000.size a)
theorem k0_idx1465_inb : ∀ (v2233 : IVec S16 32) (k0_hw1465 : k0_chk1465 v2233), ∀ a x, ((![v2233] : Fin 1 → IVec S16 32) a x).toNat < S32000.size a := fun v2233 k0_hw1465 => k0_hw1465

def k0_chk1466 (v2235 : IVec S16 32) : Prop :=
  (∀ a x, ((![v2235] : Fin 1 → IVec S16 32) a x).toNat < S32000.size a)
theorem k0_idx1466_inb : ∀ (v2235 : IVec S16 32) (k0_hw1466 : k0_chk1466 v2235), ∀ a x, ((![v2235] : Fin 1 → IVec S16 32) a x).toNat < S32000.size a := fun v2235 k0_hw1466 => k0_hw1466

def k0_chk1467 (v2237 : IVec S16 32) : Prop :=
  (∀ a x, ((![v2237] : Fin 1 → IVec S16 32) a x).toNat < S32000.size a)
theorem k0_idx1467_inb : ∀ (v2237 : IVec S16 32) (k0_hw1467 : k0_chk1467 v2237), ∀ a x, ((![v2237] : Fin 1 → IVec S16 32) a x).toNat < S32000.size a := fun v2237 k0_hw1467 => k0_hw1467

def k0_chk1468 (v2239 : IVec S16 32) : Prop :=
  (∀ a x, ((![v2239] : Fin 1 → IVec S16 32) a x).toNat < S32000.size a)
theorem k0_idx1468_inb : ∀ (v2239 : IVec S16 32) (k0_hw1468 : k0_chk1468 v2239), ∀ a x, ((![v2239] : Fin 1 → IVec S16 32) a x).toNat < S32000.size a := fun v2239 k0_hw1468 => k0_hw1468

def k0_chk1469 (v664 : IVec S16 32) (v2290 : IVec S16 32) : Prop :=
  (∀ a x, ((![v2290, v664] : Fin 2 → IVec S16 32) a x).toNat < S64x512.size a)
theorem k0_idx1469_inb : ∀ (v664 : IVec S16 32) (v2290 : IVec S16 32) (k0_hw1469 : k0_chk1469 v664 v2290), ∀ a x, ((![v2290, v664] : Fin 2 → IVec S16 32) a x).toNat < S64x512.size a := fun v664 v2290 k0_hw1469 => k0_hw1469

def k0_chk1470 (v664 : IVec S16 32) (v2292 : IVec S16 32) : Prop :=
  (∀ a x, ((![v2292, v664] : Fin 2 → IVec S16 32) a x).toNat < S64x512.size a)
theorem k0_idx1470_inb : ∀ (v664 : IVec S16 32) (v2292 : IVec S16 32) (k0_hw1470 : k0_chk1470 v664 v2292), ∀ a x, ((![v2292, v664] : Fin 2 → IVec S16 32) a x).toNat < S64x512.size a := fun v664 v2292 k0_hw1470 => k0_hw1470

def k0_chk1471 (v2299 : IVec S16 32) : Prop :=
  (∀ a x, ((![v2299] : Fin 1 → IVec S16 32) a x).toNat < S32000.size a)
theorem k0_idx1471_inb : ∀ (v2299 : IVec S16 32) (k0_hw1471 : k0_chk1471 v2299), ∀ a x, ((![v2299] : Fin 1 → IVec S16 32) a x).toNat < S32000.size a := fun v2299 k0_hw1471 => k0_hw1471

def k0_chk1472 (v2301 : IVec S16 32) : Prop :=
  (∀ a x, ((![v2301] : Fin 1 → IVec S16 32) a x).toNat < S32000.size a)
theorem k0_idx1472_inb : ∀ (v2301 : IVec S16 32) (k0_hw1472 : k0_chk1472 v2301), ∀ a x, ((![v2301] : Fin 1 → IVec S16 32) a x).toNat < S32000.size a := fun v2301 k0_hw1472 => k0_hw1472

def k0_chk1473 (v2303 : IVec S16 32) : Prop :=
  (∀ a x, ((![v2303] : Fin 1 → IVec S16 32) a x).toNat < S32000.size a)
theorem k0_idx1473_inb : ∀ (v2303 : IVec S16 32) (k0_hw1473 : k0_chk1473 v2303), ∀ a x, ((![v2303] : Fin 1 → IVec S16 32) a x).toNat < S32000.size a := fun v2303 k0_hw1473 => k0_hw1473

def k0_chk1474 (v2305 : IVec S16 32) : Prop :=
  (∀ a x, ((![v2305] : Fin 1 → IVec S16 32) a x).toNat < S32000.size a)
theorem k0_idx1474_inb : ∀ (v2305 : IVec S16 32) (k0_hw1474 : k0_chk1474 v2305), ∀ a x, ((![v2305] : Fin 1 → IVec S16 32) a x).toNat < S32000.size a := fun v2305 k0_hw1474 => k0_hw1474

def k0_chk1475 (v2307 : IVec S16 32) : Prop :=
  (∀ a x, ((![v2307] : Fin 1 → IVec S16 32) a x).toNat < S32000.size a)
theorem k0_idx1475_inb : ∀ (v2307 : IVec S16 32) (k0_hw1475 : k0_chk1475 v2307), ∀ a x, ((![v2307] : Fin 1 → IVec S16 32) a x).toNat < S32000.size a := fun v2307 k0_hw1475 => k0_hw1475

def k0_chk1476 (v2309 : IVec S16 32) : Prop :=
  (∀ a x, ((![v2309] : Fin 1 → IVec S16 32) a x).toNat < S32000.size a)
theorem k0_idx1476_inb : ∀ (v2309 : IVec S16 32) (k0_hw1476 : k0_chk1476 v2309), ∀ a x, ((![v2309] : Fin 1 → IVec S16 32) a x).toNat < S32000.size a := fun v2309 k0_hw1476 => k0_hw1476

def k0_chk1477 (v664 : IVec S16 32) (v2360 : IVec S16 32) : Prop :=
  (∀ a x, ((![v2360, v664] : Fin 2 → IVec S16 32) a x).toNat < S64x512.size a)
theorem k0_idx1477_inb : ∀ (v664 : IVec S16 32) (v2360 : IVec S16 32) (k0_hw1477 : k0_chk1477 v664 v2360), ∀ a x, ((![v2360, v664] : Fin 2 → IVec S16 32) a x).toNat < S64x512.size a := fun v664 v2360 k0_hw1477 => k0_hw1477

def k0_chk1478 (v664 : IVec S16 32) (v2362 : IVec S16 32) : Prop :=
  (∀ a x, ((![v2362, v664] : Fin 2 → IVec S16 32) a x).toNat < S64x512.size a)
theorem k0_idx1478_inb : ∀ (v664 : IVec S16 32) (v2362 : IVec S16 32) (k0_hw1478 : k0_chk1478 v664 v2362), ∀ a x, ((![v2362, v664] : Fin 2 → IVec S16 32) a x).toNat < S64x512.size a := fun v664 v2362 k0_hw1478 => k0_hw1478

def k0_chk1479 (v2369 : IVec S16 32) : Prop :=
  (∀ a x, ((![v2369] : Fin 1 → IVec S16 32) a x).toNat < S32000.size a)
theorem k0_idx1479_inb : ∀ (v2369 : IVec S16 32) (k0_hw1479 : k0_chk1479 v2369), ∀ a x, ((![v2369] : Fin 1 → IVec S16 32) a x).toNat < S32000.size a := fun v2369 k0_hw1479 => k0_hw1479

def k0_chk1480 (v2371 : IVec S16 32) : Prop :=
  (∀ a x, ((![v2371] : Fin 1 → IVec S16 32) a x).toNat < S32000.size a)
theorem k0_idx1480_inb : ∀ (v2371 : IVec S16 32) (k0_hw1480 : k0_chk1480 v2371), ∀ a x, ((![v2371] : Fin 1 → IVec S16 32) a x).toNat < S32000.size a := fun v2371 k0_hw1480 => k0_hw1480

def k0_chk1481 (v2373 : IVec S16 32) : Prop :=
  (∀ a x, ((![v2373] : Fin 1 → IVec S16 32) a x).toNat < S32000.size a)
theorem k0_idx1481_inb : ∀ (v2373 : IVec S16 32) (k0_hw1481 : k0_chk1481 v2373), ∀ a x, ((![v2373] : Fin 1 → IVec S16 32) a x).toNat < S32000.size a := fun v2373 k0_hw1481 => k0_hw1481

def k0_chk1482 (v2375 : IVec S16 32) : Prop :=
  (∀ a x, ((![v2375] : Fin 1 → IVec S16 32) a x).toNat < S32000.size a)
theorem k0_idx1482_inb : ∀ (v2375 : IVec S16 32) (k0_hw1482 : k0_chk1482 v2375), ∀ a x, ((![v2375] : Fin 1 → IVec S16 32) a x).toNat < S32000.size a := fun v2375 k0_hw1482 => k0_hw1482

def k0_chk1483 (v2377 : IVec S16 32) : Prop :=
  (∀ a x, ((![v2377] : Fin 1 → IVec S16 32) a x).toNat < S32000.size a)
theorem k0_idx1483_inb : ∀ (v2377 : IVec S16 32) (k0_hw1483 : k0_chk1483 v2377), ∀ a x, ((![v2377] : Fin 1 → IVec S16 32) a x).toNat < S32000.size a := fun v2377 k0_hw1483 => k0_hw1483

def k0_chk1484 (v2379 : IVec S16 32) : Prop :=
  (∀ a x, ((![v2379] : Fin 1 → IVec S16 32) a x).toNat < S32000.size a)
theorem k0_idx1484_inb : ∀ (v2379 : IVec S16 32) (k0_hw1484 : k0_chk1484 v2379), ∀ a x, ((![v2379] : Fin 1 → IVec S16 32) a x).toNat < S32000.size a := fun v2379 k0_hw1484 => k0_hw1484

def k0_chk1485 (v664 : IVec S16 32) (v2430 : IVec S16 32) : Prop :=
  (∀ a x, ((![v2430, v664] : Fin 2 → IVec S16 32) a x).toNat < S64x512.size a)
theorem k0_idx1485_inb : ∀ (v664 : IVec S16 32) (v2430 : IVec S16 32) (k0_hw1485 : k0_chk1485 v664 v2430), ∀ a x, ((![v2430, v664] : Fin 2 → IVec S16 32) a x).toNat < S64x512.size a := fun v664 v2430 k0_hw1485 => k0_hw1485

def k0_chk1486 (v664 : IVec S16 32) (v2432 : IVec S16 32) : Prop :=
  (∀ a x, ((![v2432, v664] : Fin 2 → IVec S16 32) a x).toNat < S64x512.size a)
theorem k0_idx1486_inb : ∀ (v664 : IVec S16 32) (v2432 : IVec S16 32) (k0_hw1486 : k0_chk1486 v664 v2432), ∀ a x, ((![v2432, v664] : Fin 2 → IVec S16 32) a x).toNat < S64x512.size a := fun v664 v2432 k0_hw1486 => k0_hw1486

def k0_chk1487 (v2439 : IVec S16 32) : Prop :=
  (∀ a x, ((![v2439] : Fin 1 → IVec S16 32) a x).toNat < S32000.size a)
theorem k0_idx1487_inb : ∀ (v2439 : IVec S16 32) (k0_hw1487 : k0_chk1487 v2439), ∀ a x, ((![v2439] : Fin 1 → IVec S16 32) a x).toNat < S32000.size a := fun v2439 k0_hw1487 => k0_hw1487

def k0_chk1488 (v2441 : IVec S16 32) : Prop :=
  (∀ a x, ((![v2441] : Fin 1 → IVec S16 32) a x).toNat < S32000.size a)
theorem k0_idx1488_inb : ∀ (v2441 : IVec S16 32) (k0_hw1488 : k0_chk1488 v2441), ∀ a x, ((![v2441] : Fin 1 → IVec S16 32) a x).toNat < S32000.size a := fun v2441 k0_hw1488 => k0_hw1488

def k0_chk1489 (v2443 : IVec S16 32) : Prop :=
  (∀ a x, ((![v2443] : Fin 1 → IVec S16 32) a x).toNat < S32000.size a)
theorem k0_idx1489_inb : ∀ (v2443 : IVec S16 32) (k0_hw1489 : k0_chk1489 v2443), ∀ a x, ((![v2443] : Fin 1 → IVec S16 32) a x).toNat < S32000.size a := fun v2443 k0_hw1489 => k0_hw1489

def k0_chk1490 (v2445 : IVec S16 32) : Prop :=
  (∀ a x, ((![v2445] : Fin 1 → IVec S16 32) a x).toNat < S32000.size a)
theorem k0_idx1490_inb : ∀ (v2445 : IVec S16 32) (k0_hw1490 : k0_chk1490 v2445), ∀ a x, ((![v2445] : Fin 1 → IVec S16 32) a x).toNat < S32000.size a := fun v2445 k0_hw1490 => k0_hw1490

def k0_chk1491 (v2447 : IVec S16 32) : Prop :=
  (∀ a x, ((![v2447] : Fin 1 → IVec S16 32) a x).toNat < S32000.size a)
theorem k0_idx1491_inb : ∀ (v2447 : IVec S16 32) (k0_hw1491 : k0_chk1491 v2447), ∀ a x, ((![v2447] : Fin 1 → IVec S16 32) a x).toNat < S32000.size a := fun v2447 k0_hw1491 => k0_hw1491

def k0_chk1492 (v2449 : IVec S16 32) : Prop :=
  (∀ a x, ((![v2449] : Fin 1 → IVec S16 32) a x).toNat < S32000.size a)
theorem k0_idx1492_inb : ∀ (v2449 : IVec S16 32) (k0_hw1492 : k0_chk1492 v2449), ∀ a x, ((![v2449] : Fin 1 → IVec S16 32) a x).toNat < S32000.size a := fun v2449 k0_hw1492 => k0_hw1492

def k0_chk1493 (v664 : IVec S16 32) (v2500 : IVec S16 32) : Prop :=
  (∀ a x, ((![v2500, v664] : Fin 2 → IVec S16 32) a x).toNat < S64x512.size a)
theorem k0_idx1493_inb : ∀ (v664 : IVec S16 32) (v2500 : IVec S16 32) (k0_hw1493 : k0_chk1493 v664 v2500), ∀ a x, ((![v2500, v664] : Fin 2 → IVec S16 32) a x).toNat < S64x512.size a := fun v664 v2500 k0_hw1493 => k0_hw1493

def k0_chk1494 (v664 : IVec S16 32) (v2502 : IVec S16 32) : Prop :=
  (∀ a x, ((![v2502, v664] : Fin 2 → IVec S16 32) a x).toNat < S64x512.size a)
theorem k0_idx1494_inb : ∀ (v664 : IVec S16 32) (v2502 : IVec S16 32) (k0_hw1494 : k0_chk1494 v664 v2502), ∀ a x, ((![v2502, v664] : Fin 2 → IVec S16 32) a x).toNat < S64x512.size a := fun v664 v2502 k0_hw1494 => k0_hw1494

def k0_chk1495 (v2509 : IVec S16 32) : Prop :=
  (∀ a x, ((![v2509] : Fin 1 → IVec S16 32) a x).toNat < S32000.size a)
theorem k0_idx1495_inb : ∀ (v2509 : IVec S16 32) (k0_hw1495 : k0_chk1495 v2509), ∀ a x, ((![v2509] : Fin 1 → IVec S16 32) a x).toNat < S32000.size a := fun v2509 k0_hw1495 => k0_hw1495

def k0_chk1496 (v2511 : IVec S16 32) : Prop :=
  (∀ a x, ((![v2511] : Fin 1 → IVec S16 32) a x).toNat < S32000.size a)
theorem k0_idx1496_inb : ∀ (v2511 : IVec S16 32) (k0_hw1496 : k0_chk1496 v2511), ∀ a x, ((![v2511] : Fin 1 → IVec S16 32) a x).toNat < S32000.size a := fun v2511 k0_hw1496 => k0_hw1496

def k0_chk1497 (v2513 : IVec S16 32) : Prop :=
  (∀ a x, ((![v2513] : Fin 1 → IVec S16 32) a x).toNat < S32000.size a)
theorem k0_idx1497_inb : ∀ (v2513 : IVec S16 32) (k0_hw1497 : k0_chk1497 v2513), ∀ a x, ((![v2513] : Fin 1 → IVec S16 32) a x).toNat < S32000.size a := fun v2513 k0_hw1497 => k0_hw1497

def k0_chk1498 (v2515 : IVec S16 32) : Prop :=
  (∀ a x, ((![v2515] : Fin 1 → IVec S16 32) a x).toNat < S32000.size a)
theorem k0_idx1498_inb : ∀ (v2515 : IVec S16 32) (k0_hw1498 : k0_chk1498 v2515), ∀ a x, ((![v2515] : Fin 1 → IVec S16 32) a x).toNat < S32000.size a := fun v2515 k0_hw1498 => k0_hw1498

def k0_chk1499 (v2517 : IVec S16 32) : Prop :=
  (∀ a x, ((![v2517] : Fin 1 → IVec S16 32) a x).toNat < S32000.size a)
theorem k0_idx1499_inb : ∀ (v2517 : IVec S16 32) (k0_hw1499 : k0_chk1499 v2517), ∀ a x, ((![v2517] : Fin 1 → IVec S16 32) a x).toNat < S32000.size a := fun v2517 k0_hw1499 => k0_hw1499

def k0_chk1500 (v2519 : IVec S16 32) : Prop :=
  (∀ a x, ((![v2519] : Fin 1 → IVec S16 32) a x).toNat < S32000.size a)
theorem k0_idx1500_inb : ∀ (v2519 : IVec S16 32) (k0_hw1500 : k0_chk1500 v2519), ∀ a x, ((![v2519] : Fin 1 → IVec S16 32) a x).toNat < S32000.size a := fun v2519 k0_hw1500 => k0_hw1500

def k0_chk1501 (v664 : IVec S16 32) (v2570 : IVec S16 32) : Prop :=
  (∀ a x, ((![v2570, v664] : Fin 2 → IVec S16 32) a x).toNat < S64x512.size a)
theorem k0_idx1501_inb : ∀ (v664 : IVec S16 32) (v2570 : IVec S16 32) (k0_hw1501 : k0_chk1501 v664 v2570), ∀ a x, ((![v2570, v664] : Fin 2 → IVec S16 32) a x).toNat < S64x512.size a := fun v664 v2570 k0_hw1501 => k0_hw1501

def k0_chk1502 (v664 : IVec S16 32) (v2572 : IVec S16 32) : Prop :=
  (∀ a x, ((![v2572, v664] : Fin 2 → IVec S16 32) a x).toNat < S64x512.size a)
theorem k0_idx1502_inb : ∀ (v664 : IVec S16 32) (v2572 : IVec S16 32) (k0_hw1502 : k0_chk1502 v664 v2572), ∀ a x, ((![v2572, v664] : Fin 2 → IVec S16 32) a x).toNat < S64x512.size a := fun v664 v2572 k0_hw1502 => k0_hw1502

def k0_chk1503 (v2579 : IVec S16 32) : Prop :=
  (∀ a x, ((![v2579] : Fin 1 → IVec S16 32) a x).toNat < S32000.size a)
theorem k0_idx1503_inb : ∀ (v2579 : IVec S16 32) (k0_hw1503 : k0_chk1503 v2579), ∀ a x, ((![v2579] : Fin 1 → IVec S16 32) a x).toNat < S32000.size a := fun v2579 k0_hw1503 => k0_hw1503

def k0_chk1504 (v2581 : IVec S16 32) : Prop :=
  (∀ a x, ((![v2581] : Fin 1 → IVec S16 32) a x).toNat < S32000.size a)
theorem k0_idx1504_inb : ∀ (v2581 : IVec S16 32) (k0_hw1504 : k0_chk1504 v2581), ∀ a x, ((![v2581] : Fin 1 → IVec S16 32) a x).toNat < S32000.size a := fun v2581 k0_hw1504 => k0_hw1504

def k0_chk1505 (v2583 : IVec S16 32) : Prop :=
  (∀ a x, ((![v2583] : Fin 1 → IVec S16 32) a x).toNat < S32000.size a)
theorem k0_idx1505_inb : ∀ (v2583 : IVec S16 32) (k0_hw1505 : k0_chk1505 v2583), ∀ a x, ((![v2583] : Fin 1 → IVec S16 32) a x).toNat < S32000.size a := fun v2583 k0_hw1505 => k0_hw1505

def k0_chk1506 (v2585 : IVec S16 32) : Prop :=
  (∀ a x, ((![v2585] : Fin 1 → IVec S16 32) a x).toNat < S32000.size a)
theorem k0_idx1506_inb : ∀ (v2585 : IVec S16 32) (k0_hw1506 : k0_chk1506 v2585), ∀ a x, ((![v2585] : Fin 1 → IVec S16 32) a x).toNat < S32000.size a := fun v2585 k0_hw1506 => k0_hw1506

def k0_chk1507 (v2587 : IVec S16 32) : Prop :=
  (∀ a x, ((![v2587] : Fin 1 → IVec S16 32) a x).toNat < S32000.size a)
theorem k0_idx1507_inb : ∀ (v2587 : IVec S16 32) (k0_hw1507 : k0_chk1507 v2587), ∀ a x, ((![v2587] : Fin 1 → IVec S16 32) a x).toNat < S32000.size a := fun v2587 k0_hw1507 => k0_hw1507

def k0_chk1508 (v2589 : IVec S16 32) : Prop :=
  (∀ a x, ((![v2589] : Fin 1 → IVec S16 32) a x).toNat < S32000.size a)
theorem k0_idx1508_inb : ∀ (v2589 : IVec S16 32) (k0_hw1508 : k0_chk1508 v2589), ∀ a x, ((![v2589] : Fin 1 → IVec S16 32) a x).toNat < S32000.size a := fun v2589 k0_hw1508 => k0_hw1508

def k0_chk1509 (v664 : IVec S16 32) (v2640 : IVec S16 32) : Prop :=
  (∀ a x, ((![v2640, v664] : Fin 2 → IVec S16 32) a x).toNat < S64x512.size a)
theorem k0_idx1509_inb : ∀ (v664 : IVec S16 32) (v2640 : IVec S16 32) (k0_hw1509 : k0_chk1509 v664 v2640), ∀ a x, ((![v2640, v664] : Fin 2 → IVec S16 32) a x).toNat < S64x512.size a := fun v664 v2640 k0_hw1509 => k0_hw1509

def k0_chk1510 (v664 : IVec S16 32) (v2642 : IVec S16 32) : Prop :=
  (∀ a x, ((![v2642, v664] : Fin 2 → IVec S16 32) a x).toNat < S64x512.size a)
theorem k0_idx1510_inb : ∀ (v664 : IVec S16 32) (v2642 : IVec S16 32) (k0_hw1510 : k0_chk1510 v664 v2642), ∀ a x, ((![v2642, v664] : Fin 2 → IVec S16 32) a x).toNat < S64x512.size a := fun v664 v2642 k0_hw1510 => k0_hw1510

def k0_chk1511 (v2649 : IVec S16 32) : Prop :=
  (∀ a x, ((![v2649] : Fin 1 → IVec S16 32) a x).toNat < S32000.size a)
theorem k0_idx1511_inb : ∀ (v2649 : IVec S16 32) (k0_hw1511 : k0_chk1511 v2649), ∀ a x, ((![v2649] : Fin 1 → IVec S16 32) a x).toNat < S32000.size a := fun v2649 k0_hw1511 => k0_hw1511

def k0_chk1512 (v2651 : IVec S16 32) : Prop :=
  (∀ a x, ((![v2651] : Fin 1 → IVec S16 32) a x).toNat < S32000.size a)
theorem k0_idx1512_inb : ∀ (v2651 : IVec S16 32) (k0_hw1512 : k0_chk1512 v2651), ∀ a x, ((![v2651] : Fin 1 → IVec S16 32) a x).toNat < S32000.size a := fun v2651 k0_hw1512 => k0_hw1512

def k0_chk1513 (v2653 : IVec S16 32) : Prop :=
  (∀ a x, ((![v2653] : Fin 1 → IVec S16 32) a x).toNat < S32000.size a)
theorem k0_idx1513_inb : ∀ (v2653 : IVec S16 32) (k0_hw1513 : k0_chk1513 v2653), ∀ a x, ((![v2653] : Fin 1 → IVec S16 32) a x).toNat < S32000.size a := fun v2653 k0_hw1513 => k0_hw1513

def k0_chk1514 (v2655 : IVec S16 32) : Prop :=
  (∀ a x, ((![v2655] : Fin 1 → IVec S16 32) a x).toNat < S32000.size a)
theorem k0_idx1514_inb : ∀ (v2655 : IVec S16 32) (k0_hw1514 : k0_chk1514 v2655), ∀ a x, ((![v2655] : Fin 1 → IVec S16 32) a x).toNat < S32000.size a := fun v2655 k0_hw1514 => k0_hw1514

def k0_chk1515 (v2657 : IVec S16 32) : Prop :=
  (∀ a x, ((![v2657] : Fin 1 → IVec S16 32) a x).toNat < S32000.size a)
theorem k0_idx1515_inb : ∀ (v2657 : IVec S16 32) (k0_hw1515 : k0_chk1515 v2657), ∀ a x, ((![v2657] : Fin 1 → IVec S16 32) a x).toNat < S32000.size a := fun v2657 k0_hw1515 => k0_hw1515

def k0_chk1516 (v2659 : IVec S16 32) : Prop :=
  (∀ a x, ((![v2659] : Fin 1 → IVec S16 32) a x).toNat < S32000.size a)
theorem k0_idx1516_inb : ∀ (v2659 : IVec S16 32) (k0_hw1516 : k0_chk1516 v2659), ∀ a x, ((![v2659] : Fin 1 → IVec S16 32) a x).toNat < S32000.size a := fun v2659 k0_hw1516 => k0_hw1516

def k0_chk1517 (v664 : IVec S16 32) (v2710 : IVec S16 32) : Prop :=
  (∀ a x, ((![v2710, v664] : Fin 2 → IVec S16 32) a x).toNat < S64x512.size a)
theorem k0_idx1517_inb : ∀ (v664 : IVec S16 32) (v2710 : IVec S16 32) (k0_hw1517 : k0_chk1517 v664 v2710), ∀ a x, ((![v2710, v664] : Fin 2 → IVec S16 32) a x).toNat < S64x512.size a := fun v664 v2710 k0_hw1517 => k0_hw1517

def k0_chk1518 (v664 : IVec S16 32) (v2712 : IVec S16 32) : Prop :=
  (∀ a x, ((![v2712, v664] : Fin 2 → IVec S16 32) a x).toNat < S64x512.size a)
theorem k0_idx1518_inb : ∀ (v664 : IVec S16 32) (v2712 : IVec S16 32) (k0_hw1518 : k0_chk1518 v664 v2712), ∀ a x, ((![v2712, v664] : Fin 2 → IVec S16 32) a x).toNat < S64x512.size a := fun v664 v2712 k0_hw1518 => k0_hw1518

def k0_chk1519 (v2719 : IVec S16 32) : Prop :=
  (∀ a x, ((![v2719] : Fin 1 → IVec S16 32) a x).toNat < S32000.size a)
theorem k0_idx1519_inb : ∀ (v2719 : IVec S16 32) (k0_hw1519 : k0_chk1519 v2719), ∀ a x, ((![v2719] : Fin 1 → IVec S16 32) a x).toNat < S32000.size a := fun v2719 k0_hw1519 => k0_hw1519

def k0_chk1520 (v2721 : IVec S16 32) : Prop :=
  (∀ a x, ((![v2721] : Fin 1 → IVec S16 32) a x).toNat < S32000.size a)
theorem k0_idx1520_inb : ∀ (v2721 : IVec S16 32) (k0_hw1520 : k0_chk1520 v2721), ∀ a x, ((![v2721] : Fin 1 → IVec S16 32) a x).toNat < S32000.size a := fun v2721 k0_hw1520 => k0_hw1520

def k0_chk1521 (v2723 : IVec S16 32) : Prop :=
  (∀ a x, ((![v2723] : Fin 1 → IVec S16 32) a x).toNat < S32000.size a)
theorem k0_idx1521_inb : ∀ (v2723 : IVec S16 32) (k0_hw1521 : k0_chk1521 v2723), ∀ a x, ((![v2723] : Fin 1 → IVec S16 32) a x).toNat < S32000.size a := fun v2723 k0_hw1521 => k0_hw1521

def k0_chk1522 (v2725 : IVec S16 32) : Prop :=
  (∀ a x, ((![v2725] : Fin 1 → IVec S16 32) a x).toNat < S32000.size a)
theorem k0_idx1522_inb : ∀ (v2725 : IVec S16 32) (k0_hw1522 : k0_chk1522 v2725), ∀ a x, ((![v2725] : Fin 1 → IVec S16 32) a x).toNat < S32000.size a := fun v2725 k0_hw1522 => k0_hw1522

def k0_chk1523 (v2727 : IVec S16 32) : Prop :=
  (∀ a x, ((![v2727] : Fin 1 → IVec S16 32) a x).toNat < S32000.size a)
theorem k0_idx1523_inb : ∀ (v2727 : IVec S16 32) (k0_hw1523 : k0_chk1523 v2727), ∀ a x, ((![v2727] : Fin 1 → IVec S16 32) a x).toNat < S32000.size a := fun v2727 k0_hw1523 => k0_hw1523

def k0_chk1524 (v2729 : IVec S16 32) : Prop :=
  (∀ a x, ((![v2729] : Fin 1 → IVec S16 32) a x).toNat < S32000.size a)
theorem k0_idx1524_inb : ∀ (v2729 : IVec S16 32) (k0_hw1524 : k0_chk1524 v2729), ∀ a x, ((![v2729] : Fin 1 → IVec S16 32) a x).toNat < S32000.size a := fun v2729 k0_hw1524 => k0_hw1524

def k0_chk1525 (v664 : IVec S16 32) (v2780 : IVec S16 32) : Prop :=
  (∀ a x, ((![v2780, v664] : Fin 2 → IVec S16 32) a x).toNat < S64x512.size a)
theorem k0_idx1525_inb : ∀ (v664 : IVec S16 32) (v2780 : IVec S16 32) (k0_hw1525 : k0_chk1525 v664 v2780), ∀ a x, ((![v2780, v664] : Fin 2 → IVec S16 32) a x).toNat < S64x512.size a := fun v664 v2780 k0_hw1525 => k0_hw1525

def k0_chk1526 (v664 : IVec S16 32) (v2782 : IVec S16 32) : Prop :=
  (∀ a x, ((![v2782, v664] : Fin 2 → IVec S16 32) a x).toNat < S64x512.size a)
theorem k0_idx1526_inb : ∀ (v664 : IVec S16 32) (v2782 : IVec S16 32) (k0_hw1526 : k0_chk1526 v664 v2782), ∀ a x, ((![v2782, v664] : Fin 2 → IVec S16 32) a x).toNat < S64x512.size a := fun v664 v2782 k0_hw1526 => k0_hw1526

def k0_chk1527 (v2789 : IVec S16 32) : Prop :=
  (∀ a x, ((![v2789] : Fin 1 → IVec S16 32) a x).toNat < S32000.size a)
theorem k0_idx1527_inb : ∀ (v2789 : IVec S16 32) (k0_hw1527 : k0_chk1527 v2789), ∀ a x, ((![v2789] : Fin 1 → IVec S16 32) a x).toNat < S32000.size a := fun v2789 k0_hw1527 => k0_hw1527

def k0_chk1528 (v2791 : IVec S16 32) : Prop :=
  (∀ a x, ((![v2791] : Fin 1 → IVec S16 32) a x).toNat < S32000.size a)
theorem k0_idx1528_inb : ∀ (v2791 : IVec S16 32) (k0_hw1528 : k0_chk1528 v2791), ∀ a x, ((![v2791] : Fin 1 → IVec S16 32) a x).toNat < S32000.size a := fun v2791 k0_hw1528 => k0_hw1528

def k0_chk1529 (v2793 : IVec S16 32) : Prop :=
  (∀ a x, ((![v2793] : Fin 1 → IVec S16 32) a x).toNat < S32000.size a)
theorem k0_idx1529_inb : ∀ (v2793 : IVec S16 32) (k0_hw1529 : k0_chk1529 v2793), ∀ a x, ((![v2793] : Fin 1 → IVec S16 32) a x).toNat < S32000.size a := fun v2793 k0_hw1529 => k0_hw1529

def k0_chk1530 (v2795 : IVec S16 32) : Prop :=
  (∀ a x, ((![v2795] : Fin 1 → IVec S16 32) a x).toNat < S32000.size a)
theorem k0_idx1530_inb : ∀ (v2795 : IVec S16 32) (k0_hw1530 : k0_chk1530 v2795), ∀ a x, ((![v2795] : Fin 1 → IVec S16 32) a x).toNat < S32000.size a := fun v2795 k0_hw1530 => k0_hw1530

def k0_chk1531 (v2797 : IVec S16 32) : Prop :=
  (∀ a x, ((![v2797] : Fin 1 → IVec S16 32) a x).toNat < S32000.size a)
theorem k0_idx1531_inb : ∀ (v2797 : IVec S16 32) (k0_hw1531 : k0_chk1531 v2797), ∀ a x, ((![v2797] : Fin 1 → IVec S16 32) a x).toNat < S32000.size a := fun v2797 k0_hw1531 => k0_hw1531

def k0_chk1532 (v2799 : IVec S16 32) : Prop :=
  (∀ a x, ((![v2799] : Fin 1 → IVec S16 32) a x).toNat < S32000.size a)
theorem k0_idx1532_inb : ∀ (v2799 : IVec S16 32) (k0_hw1532 : k0_chk1532 v2799), ∀ a x, ((![v2799] : Fin 1 → IVec S16 32) a x).toNat < S32000.size a := fun v2799 k0_hw1532 => k0_hw1532

def k0_chk1533 (v664 : IVec S16 32) (v2850 : IVec S16 32) : Prop :=
  (∀ a x, ((![v2850, v664] : Fin 2 → IVec S16 32) a x).toNat < S64x512.size a)
theorem k0_idx1533_inb : ∀ (v664 : IVec S16 32) (v2850 : IVec S16 32) (k0_hw1533 : k0_chk1533 v664 v2850), ∀ a x, ((![v2850, v664] : Fin 2 → IVec S16 32) a x).toNat < S64x512.size a := fun v664 v2850 k0_hw1533 => k0_hw1533

def k0_chk1534 (v664 : IVec S16 32) (v2852 : IVec S16 32) : Prop :=
  (∀ a x, ((![v2852, v664] : Fin 2 → IVec S16 32) a x).toNat < S64x512.size a)
theorem k0_idx1534_inb : ∀ (v664 : IVec S16 32) (v2852 : IVec S16 32) (k0_hw1534 : k0_chk1534 v664 v2852), ∀ a x, ((![v2852, v664] : Fin 2 → IVec S16 32) a x).toNat < S64x512.size a := fun v664 v2852 k0_hw1534 => k0_hw1534

def k0_chk1535 (v664 : IVec S16 32) (v2902 : IVec S16 32) : Prop :=
  (∀ a x, ((![v2902, v664] : Fin 2 → IVec S16 32) a x).toNat < S64x512.size a)
theorem k0_idx1535_inb : ∀ (v664 : IVec S16 32) (v2902 : IVec S16 32) (k0_hw1535 : k0_chk1535 v664 v2902), ∀ a x, ((![v2902, v664] : Fin 2 → IVec S16 32) a x).toNat < S64x512.size a := fun v664 v2902 k0_hw1535 => k0_hw1535

def k0_chk1536 (v664 : IVec S16 32) (v2904 : IVec S16 32) : Prop :=
  (∀ a x, ((![v2904, v664] : Fin 2 → IVec S16 32) a x).toNat < S64x512.size a)
theorem k0_idx1536_inb : ∀ (v664 : IVec S16 32) (v2904 : IVec S16 32) (k0_hw1536 : k0_chk1536 v664 v2904), ∀ a x, ((![v2904, v664] : Fin 2 → IVec S16 32) a x).toNat < S64x512.size a := fun v664 v2904 k0_hw1536 => k0_hw1536
@[reducible] def k0_t7_loop : Scf.Loop 32 :=
  let c0_i32_297 : BitVec 32 := 0#32
  let c32_i32_298 : BitVec 32 := 32#32
  let v539 : BitVec 32 := Scalar.addi c0_i32_297 c32_i32_298
  let c1_i32_299 : BitVec 32 := 1#32
  ⟨c0_i32_297, v539, c1_i32_299⟩
def k0_off39 (k0_t7 : Fin k0_t7_loop.trips) : Fin 2 → Nat :=
  let c0_i32_350 : BitVec 32 := 0#32
  let v627 : Index := Scalar.indexCast c0_i32_350
  let c0_i32_297 : BitVec 32 := 0#32
  let c1_i32_299 : BitVec 32 := 1#32
  let arg14 : BitVec 32 := Scf.iv c0_i32_297 c1_i32_299 k0_t7
  let c16_i32 : BitVec 32 := 16#32
  let v626 : BitVec 32 := Scalar.muli arg14 c16_i32
  let v628 : Index := Scalar.indexCast v626
  ![0, v628.toNat]
def k0_off40 (k0_t7 : Fin k0_t7_loop.trips) : Fin 2 → Nat :=
  let c1_i32_353 : BitVec 32 := 1#32
  let v633 : Index := Scalar.indexCast c1_i32_353
  let c0_i32_297 : BitVec 32 := 0#32
  let c1_i32_299 : BitVec 32 := 1#32
  let arg14 : BitVec 32 := Scf.iv c0_i32_297 c1_i32_299 k0_t7
  let c16_i32_352 : BitVec 32 := 16#32
  let v632 : BitVec 32 := Scalar.muli arg14 c16_i32_352
  let v634 : Index := Scalar.indexCast v632
  ![1, v634.toNat]
def k0_off41 (k0_t7 : Fin k0_t7_loop.trips) : Fin 2 → Nat :=
  let c2_i32_356 : BitVec 32 := 2#32
  let v639 : Index := Scalar.indexCast c2_i32_356
  let c0_i32_297 : BitVec 32 := 0#32
  let c1_i32_299 : BitVec 32 := 1#32
  let arg14 : BitVec 32 := Scf.iv c0_i32_297 c1_i32_299 k0_t7
  let c16_i32_355 : BitVec 32 := 16#32
  let v638 : BitVec 32 := Scalar.muli arg14 c16_i32_355
  let v640 : Index := Scalar.indexCast v638
  ![2, v640.toNat]
def k0_off42 (k0_t7 : Fin k0_t7_loop.trips) : Fin 2 → Nat :=
  let c3_i32_359 : BitVec 32 := 3#32
  let v645 : Index := Scalar.indexCast c3_i32_359
  let c0_i32_297 : BitVec 32 := 0#32
  let c1_i32_299 : BitVec 32 := 1#32
  let arg14 : BitVec 32 := Scf.iv c0_i32_297 c1_i32_299 k0_t7
  let c16_i32_358 : BitVec 32 := 16#32
  let v644 : BitVec 32 := Scalar.muli arg14 c16_i32_358
  let v646 : Index := Scalar.indexCast v644
  ![3, v646.toNat]
def k0_off43 (k0_t7 : Fin k0_t7_loop.trips) : Fin 2 → Nat :=
  let c4_i32_362 : BitVec 32 := 4#32
  let v651 : Index := Scalar.indexCast c4_i32_362
  let c0_i32_297 : BitVec 32 := 0#32
  let c1_i32_299 : BitVec 32 := 1#32
  let arg14 : BitVec 32 := Scf.iv c0_i32_297 c1_i32_299 k0_t7
  let c16_i32_361 : BitVec 32 := 16#32
  let v650 : BitVec 32 := Scalar.muli arg14 c16_i32_361
  let v652 : Index := Scalar.indexCast v650
  ![4, v652.toNat]
def k0_off44 (k0_t7 : Fin k0_t7_loop.trips) : Fin 2 → Nat :=
  let c5_i32_365 : BitVec 32 := 5#32
  let v657 : Index := Scalar.indexCast c5_i32_365
  let c0_i32_297 : BitVec 32 := 0#32
  let c1_i32_299 : BitVec 32 := 1#32
  let arg14 : BitVec 32 := Scf.iv c0_i32_297 c1_i32_299 k0_t7
  let c16_i32_364 : BitVec 32 := 16#32
  let v656 : BitVec 32 := Scalar.muli arg14 c16_i32_364
  let v658 : Index := Scalar.indexCast v656
  ![5, v658.toNat]

def k0_chk1537 (v671 : IVec S16 32) : Prop :=
  (∀ a x, ((![v671] : Fin 1 → IVec S16 32) a x).toNat < S32000.size a)
theorem k0_idx1537_inb : ∀ (v671 : IVec S16 32) (k0_hw1537 : k0_chk1537 v671), ∀ a x, ((![v671] : Fin 1 → IVec S16 32) a x).toNat < S32000.size a := fun v671 k0_hw1537 => k0_hw1537

def k0_chk1538 (v673 : IVec S16 32) : Prop :=
  (∀ a x, ((![v673] : Fin 1 → IVec S16 32) a x).toNat < S32000.size a)
theorem k0_idx1538_inb : ∀ (v673 : IVec S16 32) (k0_hw1538 : k0_chk1538 v673), ∀ a x, ((![v673] : Fin 1 → IVec S16 32) a x).toNat < S32000.size a := fun v673 k0_hw1538 => k0_hw1538

def k0_chk1539 (v675 : IVec S16 32) : Prop :=
  (∀ a x, ((![v675] : Fin 1 → IVec S16 32) a x).toNat < S32000.size a)
theorem k0_idx1539_inb : ∀ (v675 : IVec S16 32) (k0_hw1539 : k0_chk1539 v675), ∀ a x, ((![v675] : Fin 1 → IVec S16 32) a x).toNat < S32000.size a := fun v675 k0_hw1539 => k0_hw1539

def k0_chk1540 (v677 : IVec S16 32) : Prop :=
  (∀ a x, ((![v677] : Fin 1 → IVec S16 32) a x).toNat < S32000.size a)
theorem k0_idx1540_inb : ∀ (v677 : IVec S16 32) (k0_hw1540 : k0_chk1540 v677), ∀ a x, ((![v677] : Fin 1 → IVec S16 32) a x).toNat < S32000.size a := fun v677 k0_hw1540 => k0_hw1540

def k0_chk1541 (v679 : IVec S16 32) : Prop :=
  (∀ a x, ((![v679] : Fin 1 → IVec S16 32) a x).toNat < S32000.size a)
theorem k0_idx1541_inb : ∀ (v679 : IVec S16 32) (k0_hw1541 : k0_chk1541 v679), ∀ a x, ((![v679] : Fin 1 → IVec S16 32) a x).toNat < S32000.size a := fun v679 k0_hw1541 => k0_hw1541

def k0_chk1542 (v681 : IVec S16 32) : Prop :=
  (∀ a x, ((![v681] : Fin 1 → IVec S16 32) a x).toNat < S32000.size a)
theorem k0_idx1542_inb : ∀ (v681 : IVec S16 32) (k0_hw1542 : k0_chk1542 v681), ∀ a x, ((![v681] : Fin 1 → IVec S16 32) a x).toNat < S32000.size a := fun v681 k0_hw1542 => k0_hw1542

def k0_chk1543 (v689 : IVec S16 32) : Prop :=
  (∀ a x, ((![v689] : Fin 1 → IVec S16 32) a x).toNat < S32000.size a)
theorem k0_idx1543_inb : ∀ (v689 : IVec S16 32) (k0_hw1543 : k0_chk1543 v689), ∀ a x, ((![v689] : Fin 1 → IVec S16 32) a x).toNat < S32000.size a := fun v689 k0_hw1543 => k0_hw1543

def k0_chk1544 (v691 : IVec S16 32) : Prop :=
  (∀ a x, ((![v691] : Fin 1 → IVec S16 32) a x).toNat < S32000.size a)
theorem k0_idx1544_inb : ∀ (v691 : IVec S16 32) (k0_hw1544 : k0_chk1544 v691), ∀ a x, ((![v691] : Fin 1 → IVec S16 32) a x).toNat < S32000.size a := fun v691 k0_hw1544 => k0_hw1544

def k0_chk1545 (v693 : IVec S16 32) : Prop :=
  (∀ a x, ((![v693] : Fin 1 → IVec S16 32) a x).toNat < S32000.size a)
theorem k0_idx1545_inb : ∀ (v693 : IVec S16 32) (k0_hw1545 : k0_chk1545 v693), ∀ a x, ((![v693] : Fin 1 → IVec S16 32) a x).toNat < S32000.size a := fun v693 k0_hw1545 => k0_hw1545

def k0_chk1546 (v695 : IVec S16 32) : Prop :=
  (∀ a x, ((![v695] : Fin 1 → IVec S16 32) a x).toNat < S32000.size a)
theorem k0_idx1546_inb : ∀ (v695 : IVec S16 32) (k0_hw1546 : k0_chk1546 v695), ∀ a x, ((![v695] : Fin 1 → IVec S16 32) a x).toNat < S32000.size a := fun v695 k0_hw1546 => k0_hw1546

def k0_chk1547 (v697 : IVec S16 32) : Prop :=
  (∀ a x, ((![v697] : Fin 1 → IVec S16 32) a x).toNat < S32000.size a)
theorem k0_idx1547_inb : ∀ (v697 : IVec S16 32) (k0_hw1547 : k0_chk1547 v697), ∀ a x, ((![v697] : Fin 1 → IVec S16 32) a x).toNat < S32000.size a := fun v697 k0_hw1547 => k0_hw1547

def k0_chk1548 (v699 : IVec S16 32) : Prop :=
  (∀ a x, ((![v699] : Fin 1 → IVec S16 32) a x).toNat < S32000.size a)
theorem k0_idx1548_inb : ∀ (v699 : IVec S16 32) (k0_hw1548 : k0_chk1548 v699), ∀ a x, ((![v699] : Fin 1 → IVec S16 32) a x).toNat < S32000.size a := fun v699 k0_hw1548 => k0_hw1548

def k0_chk1549 (v664 : IVec S16 32) (v750 : IVec S16 32) : Prop :=
  (∀ a x, ((![v750, v664] : Fin 2 → IVec S16 32) a x).toNat < S64x512.size a)
theorem k0_idx1549_inb : ∀ (v664 : IVec S16 32) (v750 : IVec S16 32) (k0_hw1549 : k0_chk1549 v664 v750), ∀ a x, ((![v750, v664] : Fin 2 → IVec S16 32) a x).toNat < S64x512.size a := fun v664 v750 k0_hw1549 => k0_hw1549

def k0_chk1550 (v664 : IVec S16 32) (v752 : IVec S16 32) : Prop :=
  (∀ a x, ((![v752, v664] : Fin 2 → IVec S16 32) a x).toNat < S64x512.size a)
theorem k0_idx1550_inb : ∀ (v664 : IVec S16 32) (v752 : IVec S16 32) (k0_hw1550 : k0_chk1550 v664 v752), ∀ a x, ((![v752, v664] : Fin 2 → IVec S16 32) a x).toNat < S64x512.size a := fun v664 v752 k0_hw1550 => k0_hw1550

def k0_chk1551 (v759 : IVec S16 32) : Prop :=
  (∀ a x, ((![v759] : Fin 1 → IVec S16 32) a x).toNat < S32000.size a)
theorem k0_idx1551_inb : ∀ (v759 : IVec S16 32) (k0_hw1551 : k0_chk1551 v759), ∀ a x, ((![v759] : Fin 1 → IVec S16 32) a x).toNat < S32000.size a := fun v759 k0_hw1551 => k0_hw1551

def k0_chk1552 (v761 : IVec S16 32) : Prop :=
  (∀ a x, ((![v761] : Fin 1 → IVec S16 32) a x).toNat < S32000.size a)
theorem k0_idx1552_inb : ∀ (v761 : IVec S16 32) (k0_hw1552 : k0_chk1552 v761), ∀ a x, ((![v761] : Fin 1 → IVec S16 32) a x).toNat < S32000.size a := fun v761 k0_hw1552 => k0_hw1552

def k0_chk1553 (v763 : IVec S16 32) : Prop :=
  (∀ a x, ((![v763] : Fin 1 → IVec S16 32) a x).toNat < S32000.size a)
theorem k0_idx1553_inb : ∀ (v763 : IVec S16 32) (k0_hw1553 : k0_chk1553 v763), ∀ a x, ((![v763] : Fin 1 → IVec S16 32) a x).toNat < S32000.size a := fun v763 k0_hw1553 => k0_hw1553

def k0_chk1554 (v765 : IVec S16 32) : Prop :=
  (∀ a x, ((![v765] : Fin 1 → IVec S16 32) a x).toNat < S32000.size a)
theorem k0_idx1554_inb : ∀ (v765 : IVec S16 32) (k0_hw1554 : k0_chk1554 v765), ∀ a x, ((![v765] : Fin 1 → IVec S16 32) a x).toNat < S32000.size a := fun v765 k0_hw1554 => k0_hw1554

def k0_chk1555 (v767 : IVec S16 32) : Prop :=
  (∀ a x, ((![v767] : Fin 1 → IVec S16 32) a x).toNat < S32000.size a)
theorem k0_idx1555_inb : ∀ (v767 : IVec S16 32) (k0_hw1555 : k0_chk1555 v767), ∀ a x, ((![v767] : Fin 1 → IVec S16 32) a x).toNat < S32000.size a := fun v767 k0_hw1555 => k0_hw1555

def k0_chk1556 (v769 : IVec S16 32) : Prop :=
  (∀ a x, ((![v769] : Fin 1 → IVec S16 32) a x).toNat < S32000.size a)
theorem k0_idx1556_inb : ∀ (v769 : IVec S16 32) (k0_hw1556 : k0_chk1556 v769), ∀ a x, ((![v769] : Fin 1 → IVec S16 32) a x).toNat < S32000.size a := fun v769 k0_hw1556 => k0_hw1556

def k0_chk1557 (v664 : IVec S16 32) (v820 : IVec S16 32) : Prop :=
  (∀ a x, ((![v820, v664] : Fin 2 → IVec S16 32) a x).toNat < S64x512.size a)
theorem k0_idx1557_inb : ∀ (v664 : IVec S16 32) (v820 : IVec S16 32) (k0_hw1557 : k0_chk1557 v664 v820), ∀ a x, ((![v820, v664] : Fin 2 → IVec S16 32) a x).toNat < S64x512.size a := fun v664 v820 k0_hw1557 => k0_hw1557

def k0_chk1558 (v664 : IVec S16 32) (v822 : IVec S16 32) : Prop :=
  (∀ a x, ((![v822, v664] : Fin 2 → IVec S16 32) a x).toNat < S64x512.size a)
theorem k0_idx1558_inb : ∀ (v664 : IVec S16 32) (v822 : IVec S16 32) (k0_hw1558 : k0_chk1558 v664 v822), ∀ a x, ((![v822, v664] : Fin 2 → IVec S16 32) a x).toNat < S64x512.size a := fun v664 v822 k0_hw1558 => k0_hw1558

def k0_chk1559 (v829 : IVec S16 32) : Prop :=
  (∀ a x, ((![v829] : Fin 1 → IVec S16 32) a x).toNat < S32000.size a)
theorem k0_idx1559_inb : ∀ (v829 : IVec S16 32) (k0_hw1559 : k0_chk1559 v829), ∀ a x, ((![v829] : Fin 1 → IVec S16 32) a x).toNat < S32000.size a := fun v829 k0_hw1559 => k0_hw1559

def k0_chk1560 (v831 : IVec S16 32) : Prop :=
  (∀ a x, ((![v831] : Fin 1 → IVec S16 32) a x).toNat < S32000.size a)
theorem k0_idx1560_inb : ∀ (v831 : IVec S16 32) (k0_hw1560 : k0_chk1560 v831), ∀ a x, ((![v831] : Fin 1 → IVec S16 32) a x).toNat < S32000.size a := fun v831 k0_hw1560 => k0_hw1560

def k0_chk1561 (v833 : IVec S16 32) : Prop :=
  (∀ a x, ((![v833] : Fin 1 → IVec S16 32) a x).toNat < S32000.size a)
theorem k0_idx1561_inb : ∀ (v833 : IVec S16 32) (k0_hw1561 : k0_chk1561 v833), ∀ a x, ((![v833] : Fin 1 → IVec S16 32) a x).toNat < S32000.size a := fun v833 k0_hw1561 => k0_hw1561

def k0_chk1562 (v835 : IVec S16 32) : Prop :=
  (∀ a x, ((![v835] : Fin 1 → IVec S16 32) a x).toNat < S32000.size a)
theorem k0_idx1562_inb : ∀ (v835 : IVec S16 32) (k0_hw1562 : k0_chk1562 v835), ∀ a x, ((![v835] : Fin 1 → IVec S16 32) a x).toNat < S32000.size a := fun v835 k0_hw1562 => k0_hw1562

def k0_chk1563 (v837 : IVec S16 32) : Prop :=
  (∀ a x, ((![v837] : Fin 1 → IVec S16 32) a x).toNat < S32000.size a)
theorem k0_idx1563_inb : ∀ (v837 : IVec S16 32) (k0_hw1563 : k0_chk1563 v837), ∀ a x, ((![v837] : Fin 1 → IVec S16 32) a x).toNat < S32000.size a := fun v837 k0_hw1563 => k0_hw1563

def k0_chk1564 (v839 : IVec S16 32) : Prop :=
  (∀ a x, ((![v839] : Fin 1 → IVec S16 32) a x).toNat < S32000.size a)
theorem k0_idx1564_inb : ∀ (v839 : IVec S16 32) (k0_hw1564 : k0_chk1564 v839), ∀ a x, ((![v839] : Fin 1 → IVec S16 32) a x).toNat < S32000.size a := fun v839 k0_hw1564 => k0_hw1564

def k0_chk1565 (v664 : IVec S16 32) (v890 : IVec S16 32) : Prop :=
  (∀ a x, ((![v890, v664] : Fin 2 → IVec S16 32) a x).toNat < S64x512.size a)
theorem k0_idx1565_inb : ∀ (v664 : IVec S16 32) (v890 : IVec S16 32) (k0_hw1565 : k0_chk1565 v664 v890), ∀ a x, ((![v890, v664] : Fin 2 → IVec S16 32) a x).toNat < S64x512.size a := fun v664 v890 k0_hw1565 => k0_hw1565

def k0_chk1566 (v664 : IVec S16 32) (v892 : IVec S16 32) : Prop :=
  (∀ a x, ((![v892, v664] : Fin 2 → IVec S16 32) a x).toNat < S64x512.size a)
theorem k0_idx1566_inb : ∀ (v664 : IVec S16 32) (v892 : IVec S16 32) (k0_hw1566 : k0_chk1566 v664 v892), ∀ a x, ((![v892, v664] : Fin 2 → IVec S16 32) a x).toNat < S64x512.size a := fun v664 v892 k0_hw1566 => k0_hw1566

def k0_chk1567 (v899 : IVec S16 32) : Prop :=
  (∀ a x, ((![v899] : Fin 1 → IVec S16 32) a x).toNat < S32000.size a)
theorem k0_idx1567_inb : ∀ (v899 : IVec S16 32) (k0_hw1567 : k0_chk1567 v899), ∀ a x, ((![v899] : Fin 1 → IVec S16 32) a x).toNat < S32000.size a := fun v899 k0_hw1567 => k0_hw1567

def k0_chk1568 (v901 : IVec S16 32) : Prop :=
  (∀ a x, ((![v901] : Fin 1 → IVec S16 32) a x).toNat < S32000.size a)
theorem k0_idx1568_inb : ∀ (v901 : IVec S16 32) (k0_hw1568 : k0_chk1568 v901), ∀ a x, ((![v901] : Fin 1 → IVec S16 32) a x).toNat < S32000.size a := fun v901 k0_hw1568 => k0_hw1568

def k0_chk1569 (v903 : IVec S16 32) : Prop :=
  (∀ a x, ((![v903] : Fin 1 → IVec S16 32) a x).toNat < S32000.size a)
theorem k0_idx1569_inb : ∀ (v903 : IVec S16 32) (k0_hw1569 : k0_chk1569 v903), ∀ a x, ((![v903] : Fin 1 → IVec S16 32) a x).toNat < S32000.size a := fun v903 k0_hw1569 => k0_hw1569

def k0_chk1570 (v905 : IVec S16 32) : Prop :=
  (∀ a x, ((![v905] : Fin 1 → IVec S16 32) a x).toNat < S32000.size a)
theorem k0_idx1570_inb : ∀ (v905 : IVec S16 32) (k0_hw1570 : k0_chk1570 v905), ∀ a x, ((![v905] : Fin 1 → IVec S16 32) a x).toNat < S32000.size a := fun v905 k0_hw1570 => k0_hw1570

def k0_chk1571 (v907 : IVec S16 32) : Prop :=
  (∀ a x, ((![v907] : Fin 1 → IVec S16 32) a x).toNat < S32000.size a)
theorem k0_idx1571_inb : ∀ (v907 : IVec S16 32) (k0_hw1571 : k0_chk1571 v907), ∀ a x, ((![v907] : Fin 1 → IVec S16 32) a x).toNat < S32000.size a := fun v907 k0_hw1571 => k0_hw1571

def k0_chk1572 (v909 : IVec S16 32) : Prop :=
  (∀ a x, ((![v909] : Fin 1 → IVec S16 32) a x).toNat < S32000.size a)
theorem k0_idx1572_inb : ∀ (v909 : IVec S16 32) (k0_hw1572 : k0_chk1572 v909), ∀ a x, ((![v909] : Fin 1 → IVec S16 32) a x).toNat < S32000.size a := fun v909 k0_hw1572 => k0_hw1572

def k0_chk1573 (v664 : IVec S16 32) (v960 : IVec S16 32) : Prop :=
  (∀ a x, ((![v960, v664] : Fin 2 → IVec S16 32) a x).toNat < S64x512.size a)
theorem k0_idx1573_inb : ∀ (v664 : IVec S16 32) (v960 : IVec S16 32) (k0_hw1573 : k0_chk1573 v664 v960), ∀ a x, ((![v960, v664] : Fin 2 → IVec S16 32) a x).toNat < S64x512.size a := fun v664 v960 k0_hw1573 => k0_hw1573

def k0_chk1574 (v664 : IVec S16 32) (v962 : IVec S16 32) : Prop :=
  (∀ a x, ((![v962, v664] : Fin 2 → IVec S16 32) a x).toNat < S64x512.size a)
theorem k0_idx1574_inb : ∀ (v664 : IVec S16 32) (v962 : IVec S16 32) (k0_hw1574 : k0_chk1574 v664 v962), ∀ a x, ((![v962, v664] : Fin 2 → IVec S16 32) a x).toNat < S64x512.size a := fun v664 v962 k0_hw1574 => k0_hw1574

def k0_chk1575 (v969 : IVec S16 32) : Prop :=
  (∀ a x, ((![v969] : Fin 1 → IVec S16 32) a x).toNat < S32000.size a)
theorem k0_idx1575_inb : ∀ (v969 : IVec S16 32) (k0_hw1575 : k0_chk1575 v969), ∀ a x, ((![v969] : Fin 1 → IVec S16 32) a x).toNat < S32000.size a := fun v969 k0_hw1575 => k0_hw1575

def k0_chk1576 (v971 : IVec S16 32) : Prop :=
  (∀ a x, ((![v971] : Fin 1 → IVec S16 32) a x).toNat < S32000.size a)
theorem k0_idx1576_inb : ∀ (v971 : IVec S16 32) (k0_hw1576 : k0_chk1576 v971), ∀ a x, ((![v971] : Fin 1 → IVec S16 32) a x).toNat < S32000.size a := fun v971 k0_hw1576 => k0_hw1576

def k0_chk1577 (v973 : IVec S16 32) : Prop :=
  (∀ a x, ((![v973] : Fin 1 → IVec S16 32) a x).toNat < S32000.size a)
theorem k0_idx1577_inb : ∀ (v973 : IVec S16 32) (k0_hw1577 : k0_chk1577 v973), ∀ a x, ((![v973] : Fin 1 → IVec S16 32) a x).toNat < S32000.size a := fun v973 k0_hw1577 => k0_hw1577

def k0_chk1578 (v975 : IVec S16 32) : Prop :=
  (∀ a x, ((![v975] : Fin 1 → IVec S16 32) a x).toNat < S32000.size a)
theorem k0_idx1578_inb : ∀ (v975 : IVec S16 32) (k0_hw1578 : k0_chk1578 v975), ∀ a x, ((![v975] : Fin 1 → IVec S16 32) a x).toNat < S32000.size a := fun v975 k0_hw1578 => k0_hw1578

def k0_chk1579 (v977 : IVec S16 32) : Prop :=
  (∀ a x, ((![v977] : Fin 1 → IVec S16 32) a x).toNat < S32000.size a)
theorem k0_idx1579_inb : ∀ (v977 : IVec S16 32) (k0_hw1579 : k0_chk1579 v977), ∀ a x, ((![v977] : Fin 1 → IVec S16 32) a x).toNat < S32000.size a := fun v977 k0_hw1579 => k0_hw1579

def k0_chk1580 (v979 : IVec S16 32) : Prop :=
  (∀ a x, ((![v979] : Fin 1 → IVec S16 32) a x).toNat < S32000.size a)
theorem k0_idx1580_inb : ∀ (v979 : IVec S16 32) (k0_hw1580 : k0_chk1580 v979), ∀ a x, ((![v979] : Fin 1 → IVec S16 32) a x).toNat < S32000.size a := fun v979 k0_hw1580 => k0_hw1580

def k0_chk1581 (v664 : IVec S16 32) (v1030 : IVec S16 32) : Prop :=
  (∀ a x, ((![v1030, v664] : Fin 2 → IVec S16 32) a x).toNat < S64x512.size a)
theorem k0_idx1581_inb : ∀ (v664 : IVec S16 32) (v1030 : IVec S16 32) (k0_hw1581 : k0_chk1581 v664 v1030), ∀ a x, ((![v1030, v664] : Fin 2 → IVec S16 32) a x).toNat < S64x512.size a := fun v664 v1030 k0_hw1581 => k0_hw1581

def k0_chk1582 (v664 : IVec S16 32) (v1032 : IVec S16 32) : Prop :=
  (∀ a x, ((![v1032, v664] : Fin 2 → IVec S16 32) a x).toNat < S64x512.size a)
theorem k0_idx1582_inb : ∀ (v664 : IVec S16 32) (v1032 : IVec S16 32) (k0_hw1582 : k0_chk1582 v664 v1032), ∀ a x, ((![v1032, v664] : Fin 2 → IVec S16 32) a x).toNat < S64x512.size a := fun v664 v1032 k0_hw1582 => k0_hw1582

def k0_chk1583 (v1039 : IVec S16 32) : Prop :=
  (∀ a x, ((![v1039] : Fin 1 → IVec S16 32) a x).toNat < S32000.size a)
theorem k0_idx1583_inb : ∀ (v1039 : IVec S16 32) (k0_hw1583 : k0_chk1583 v1039), ∀ a x, ((![v1039] : Fin 1 → IVec S16 32) a x).toNat < S32000.size a := fun v1039 k0_hw1583 => k0_hw1583

def k0_chk1584 (v1041 : IVec S16 32) : Prop :=
  (∀ a x, ((![v1041] : Fin 1 → IVec S16 32) a x).toNat < S32000.size a)
theorem k0_idx1584_inb : ∀ (v1041 : IVec S16 32) (k0_hw1584 : k0_chk1584 v1041), ∀ a x, ((![v1041] : Fin 1 → IVec S16 32) a x).toNat < S32000.size a := fun v1041 k0_hw1584 => k0_hw1584

def k0_chk1585 (v1043 : IVec S16 32) : Prop :=
  (∀ a x, ((![v1043] : Fin 1 → IVec S16 32) a x).toNat < S32000.size a)
theorem k0_idx1585_inb : ∀ (v1043 : IVec S16 32) (k0_hw1585 : k0_chk1585 v1043), ∀ a x, ((![v1043] : Fin 1 → IVec S16 32) a x).toNat < S32000.size a := fun v1043 k0_hw1585 => k0_hw1585

def k0_chk1586 (v1045 : IVec S16 32) : Prop :=
  (∀ a x, ((![v1045] : Fin 1 → IVec S16 32) a x).toNat < S32000.size a)
theorem k0_idx1586_inb : ∀ (v1045 : IVec S16 32) (k0_hw1586 : k0_chk1586 v1045), ∀ a x, ((![v1045] : Fin 1 → IVec S16 32) a x).toNat < S32000.size a := fun v1045 k0_hw1586 => k0_hw1586

def k0_chk1587 (v1047 : IVec S16 32) : Prop :=
  (∀ a x, ((![v1047] : Fin 1 → IVec S16 32) a x).toNat < S32000.size a)
theorem k0_idx1587_inb : ∀ (v1047 : IVec S16 32) (k0_hw1587 : k0_chk1587 v1047), ∀ a x, ((![v1047] : Fin 1 → IVec S16 32) a x).toNat < S32000.size a := fun v1047 k0_hw1587 => k0_hw1587

def k0_chk1588 (v1049 : IVec S16 32) : Prop :=
  (∀ a x, ((![v1049] : Fin 1 → IVec S16 32) a x).toNat < S32000.size a)
theorem k0_idx1588_inb : ∀ (v1049 : IVec S16 32) (k0_hw1588 : k0_chk1588 v1049), ∀ a x, ((![v1049] : Fin 1 → IVec S16 32) a x).toNat < S32000.size a := fun v1049 k0_hw1588 => k0_hw1588

def k0_chk1589 (v664 : IVec S16 32) (v1100 : IVec S16 32) : Prop :=
  (∀ a x, ((![v1100, v664] : Fin 2 → IVec S16 32) a x).toNat < S64x512.size a)
theorem k0_idx1589_inb : ∀ (v664 : IVec S16 32) (v1100 : IVec S16 32) (k0_hw1589 : k0_chk1589 v664 v1100), ∀ a x, ((![v1100, v664] : Fin 2 → IVec S16 32) a x).toNat < S64x512.size a := fun v664 v1100 k0_hw1589 => k0_hw1589

def k0_chk1590 (v664 : IVec S16 32) (v1102 : IVec S16 32) : Prop :=
  (∀ a x, ((![v1102, v664] : Fin 2 → IVec S16 32) a x).toNat < S64x512.size a)
theorem k0_idx1590_inb : ∀ (v664 : IVec S16 32) (v1102 : IVec S16 32) (k0_hw1590 : k0_chk1590 v664 v1102), ∀ a x, ((![v1102, v664] : Fin 2 → IVec S16 32) a x).toNat < S64x512.size a := fun v664 v1102 k0_hw1590 => k0_hw1590

def k0_chk1591 (v1109 : IVec S16 32) : Prop :=
  (∀ a x, ((![v1109] : Fin 1 → IVec S16 32) a x).toNat < S32000.size a)
theorem k0_idx1591_inb : ∀ (v1109 : IVec S16 32) (k0_hw1591 : k0_chk1591 v1109), ∀ a x, ((![v1109] : Fin 1 → IVec S16 32) a x).toNat < S32000.size a := fun v1109 k0_hw1591 => k0_hw1591

def k0_chk1592 (v1111 : IVec S16 32) : Prop :=
  (∀ a x, ((![v1111] : Fin 1 → IVec S16 32) a x).toNat < S32000.size a)
theorem k0_idx1592_inb : ∀ (v1111 : IVec S16 32) (k0_hw1592 : k0_chk1592 v1111), ∀ a x, ((![v1111] : Fin 1 → IVec S16 32) a x).toNat < S32000.size a := fun v1111 k0_hw1592 => k0_hw1592

def k0_chk1593 (v1113 : IVec S16 32) : Prop :=
  (∀ a x, ((![v1113] : Fin 1 → IVec S16 32) a x).toNat < S32000.size a)
theorem k0_idx1593_inb : ∀ (v1113 : IVec S16 32) (k0_hw1593 : k0_chk1593 v1113), ∀ a x, ((![v1113] : Fin 1 → IVec S16 32) a x).toNat < S32000.size a := fun v1113 k0_hw1593 => k0_hw1593

def k0_chk1594 (v1115 : IVec S16 32) : Prop :=
  (∀ a x, ((![v1115] : Fin 1 → IVec S16 32) a x).toNat < S32000.size a)
theorem k0_idx1594_inb : ∀ (v1115 : IVec S16 32) (k0_hw1594 : k0_chk1594 v1115), ∀ a x, ((![v1115] : Fin 1 → IVec S16 32) a x).toNat < S32000.size a := fun v1115 k0_hw1594 => k0_hw1594

def k0_chk1595 (v1117 : IVec S16 32) : Prop :=
  (∀ a x, ((![v1117] : Fin 1 → IVec S16 32) a x).toNat < S32000.size a)
theorem k0_idx1595_inb : ∀ (v1117 : IVec S16 32) (k0_hw1595 : k0_chk1595 v1117), ∀ a x, ((![v1117] : Fin 1 → IVec S16 32) a x).toNat < S32000.size a := fun v1117 k0_hw1595 => k0_hw1595

def k0_chk1596 (v1119 : IVec S16 32) : Prop :=
  (∀ a x, ((![v1119] : Fin 1 → IVec S16 32) a x).toNat < S32000.size a)
theorem k0_idx1596_inb : ∀ (v1119 : IVec S16 32) (k0_hw1596 : k0_chk1596 v1119), ∀ a x, ((![v1119] : Fin 1 → IVec S16 32) a x).toNat < S32000.size a := fun v1119 k0_hw1596 => k0_hw1596

def k0_chk1597 (v664 : IVec S16 32) (v1170 : IVec S16 32) : Prop :=
  (∀ a x, ((![v1170, v664] : Fin 2 → IVec S16 32) a x).toNat < S64x512.size a)
theorem k0_idx1597_inb : ∀ (v664 : IVec S16 32) (v1170 : IVec S16 32) (k0_hw1597 : k0_chk1597 v664 v1170), ∀ a x, ((![v1170, v664] : Fin 2 → IVec S16 32) a x).toNat < S64x512.size a := fun v664 v1170 k0_hw1597 => k0_hw1597

def k0_chk1598 (v664 : IVec S16 32) (v1172 : IVec S16 32) : Prop :=
  (∀ a x, ((![v1172, v664] : Fin 2 → IVec S16 32) a x).toNat < S64x512.size a)
theorem k0_idx1598_inb : ∀ (v664 : IVec S16 32) (v1172 : IVec S16 32) (k0_hw1598 : k0_chk1598 v664 v1172), ∀ a x, ((![v1172, v664] : Fin 2 → IVec S16 32) a x).toNat < S64x512.size a := fun v664 v1172 k0_hw1598 => k0_hw1598

def k0_chk1599 (v1179 : IVec S16 32) : Prop :=
  (∀ a x, ((![v1179] : Fin 1 → IVec S16 32) a x).toNat < S32000.size a)
theorem k0_idx1599_inb : ∀ (v1179 : IVec S16 32) (k0_hw1599 : k0_chk1599 v1179), ∀ a x, ((![v1179] : Fin 1 → IVec S16 32) a x).toNat < S32000.size a := fun v1179 k0_hw1599 => k0_hw1599

def k0_chk1600 (v1181 : IVec S16 32) : Prop :=
  (∀ a x, ((![v1181] : Fin 1 → IVec S16 32) a x).toNat < S32000.size a)
theorem k0_idx1600_inb : ∀ (v1181 : IVec S16 32) (k0_hw1600 : k0_chk1600 v1181), ∀ a x, ((![v1181] : Fin 1 → IVec S16 32) a x).toNat < S32000.size a := fun v1181 k0_hw1600 => k0_hw1600

def k0_chk1601 (v1183 : IVec S16 32) : Prop :=
  (∀ a x, ((![v1183] : Fin 1 → IVec S16 32) a x).toNat < S32000.size a)
theorem k0_idx1601_inb : ∀ (v1183 : IVec S16 32) (k0_hw1601 : k0_chk1601 v1183), ∀ a x, ((![v1183] : Fin 1 → IVec S16 32) a x).toNat < S32000.size a := fun v1183 k0_hw1601 => k0_hw1601

def k0_chk1602 (v1185 : IVec S16 32) : Prop :=
  (∀ a x, ((![v1185] : Fin 1 → IVec S16 32) a x).toNat < S32000.size a)
theorem k0_idx1602_inb : ∀ (v1185 : IVec S16 32) (k0_hw1602 : k0_chk1602 v1185), ∀ a x, ((![v1185] : Fin 1 → IVec S16 32) a x).toNat < S32000.size a := fun v1185 k0_hw1602 => k0_hw1602

def k0_chk1603 (v1187 : IVec S16 32) : Prop :=
  (∀ a x, ((![v1187] : Fin 1 → IVec S16 32) a x).toNat < S32000.size a)
theorem k0_idx1603_inb : ∀ (v1187 : IVec S16 32) (k0_hw1603 : k0_chk1603 v1187), ∀ a x, ((![v1187] : Fin 1 → IVec S16 32) a x).toNat < S32000.size a := fun v1187 k0_hw1603 => k0_hw1603

def k0_chk1604 (v1189 : IVec S16 32) : Prop :=
  (∀ a x, ((![v1189] : Fin 1 → IVec S16 32) a x).toNat < S32000.size a)
theorem k0_idx1604_inb : ∀ (v1189 : IVec S16 32) (k0_hw1604 : k0_chk1604 v1189), ∀ a x, ((![v1189] : Fin 1 → IVec S16 32) a x).toNat < S32000.size a := fun v1189 k0_hw1604 => k0_hw1604

def k0_chk1605 (v664 : IVec S16 32) (v1240 : IVec S16 32) : Prop :=
  (∀ a x, ((![v1240, v664] : Fin 2 → IVec S16 32) a x).toNat < S64x512.size a)
theorem k0_idx1605_inb : ∀ (v664 : IVec S16 32) (v1240 : IVec S16 32) (k0_hw1605 : k0_chk1605 v664 v1240), ∀ a x, ((![v1240, v664] : Fin 2 → IVec S16 32) a x).toNat < S64x512.size a := fun v664 v1240 k0_hw1605 => k0_hw1605

def k0_chk1606 (v664 : IVec S16 32) (v1242 : IVec S16 32) : Prop :=
  (∀ a x, ((![v1242, v664] : Fin 2 → IVec S16 32) a x).toNat < S64x512.size a)
theorem k0_idx1606_inb : ∀ (v664 : IVec S16 32) (v1242 : IVec S16 32) (k0_hw1606 : k0_chk1606 v664 v1242), ∀ a x, ((![v1242, v664] : Fin 2 → IVec S16 32) a x).toNat < S64x512.size a := fun v664 v1242 k0_hw1606 => k0_hw1606

def k0_chk1607 (v1249 : IVec S16 32) : Prop :=
  (∀ a x, ((![v1249] : Fin 1 → IVec S16 32) a x).toNat < S32000.size a)
theorem k0_idx1607_inb : ∀ (v1249 : IVec S16 32) (k0_hw1607 : k0_chk1607 v1249), ∀ a x, ((![v1249] : Fin 1 → IVec S16 32) a x).toNat < S32000.size a := fun v1249 k0_hw1607 => k0_hw1607

def k0_chk1608 (v1251 : IVec S16 32) : Prop :=
  (∀ a x, ((![v1251] : Fin 1 → IVec S16 32) a x).toNat < S32000.size a)
theorem k0_idx1608_inb : ∀ (v1251 : IVec S16 32) (k0_hw1608 : k0_chk1608 v1251), ∀ a x, ((![v1251] : Fin 1 → IVec S16 32) a x).toNat < S32000.size a := fun v1251 k0_hw1608 => k0_hw1608

def k0_chk1609 (v1253 : IVec S16 32) : Prop :=
  (∀ a x, ((![v1253] : Fin 1 → IVec S16 32) a x).toNat < S32000.size a)
theorem k0_idx1609_inb : ∀ (v1253 : IVec S16 32) (k0_hw1609 : k0_chk1609 v1253), ∀ a x, ((![v1253] : Fin 1 → IVec S16 32) a x).toNat < S32000.size a := fun v1253 k0_hw1609 => k0_hw1609

def k0_chk1610 (v1255 : IVec S16 32) : Prop :=
  (∀ a x, ((![v1255] : Fin 1 → IVec S16 32) a x).toNat < S32000.size a)
theorem k0_idx1610_inb : ∀ (v1255 : IVec S16 32) (k0_hw1610 : k0_chk1610 v1255), ∀ a x, ((![v1255] : Fin 1 → IVec S16 32) a x).toNat < S32000.size a := fun v1255 k0_hw1610 => k0_hw1610

def k0_chk1611 (v1257 : IVec S16 32) : Prop :=
  (∀ a x, ((![v1257] : Fin 1 → IVec S16 32) a x).toNat < S32000.size a)
theorem k0_idx1611_inb : ∀ (v1257 : IVec S16 32) (k0_hw1611 : k0_chk1611 v1257), ∀ a x, ((![v1257] : Fin 1 → IVec S16 32) a x).toNat < S32000.size a := fun v1257 k0_hw1611 => k0_hw1611

def k0_chk1612 (v1259 : IVec S16 32) : Prop :=
  (∀ a x, ((![v1259] : Fin 1 → IVec S16 32) a x).toNat < S32000.size a)
theorem k0_idx1612_inb : ∀ (v1259 : IVec S16 32) (k0_hw1612 : k0_chk1612 v1259), ∀ a x, ((![v1259] : Fin 1 → IVec S16 32) a x).toNat < S32000.size a := fun v1259 k0_hw1612 => k0_hw1612

def k0_chk1613 (v664 : IVec S16 32) (v1310 : IVec S16 32) : Prop :=
  (∀ a x, ((![v1310, v664] : Fin 2 → IVec S16 32) a x).toNat < S64x512.size a)
theorem k0_idx1613_inb : ∀ (v664 : IVec S16 32) (v1310 : IVec S16 32) (k0_hw1613 : k0_chk1613 v664 v1310), ∀ a x, ((![v1310, v664] : Fin 2 → IVec S16 32) a x).toNat < S64x512.size a := fun v664 v1310 k0_hw1613 => k0_hw1613

def k0_chk1614 (v664 : IVec S16 32) (v1312 : IVec S16 32) : Prop :=
  (∀ a x, ((![v1312, v664] : Fin 2 → IVec S16 32) a x).toNat < S64x512.size a)
theorem k0_idx1614_inb : ∀ (v664 : IVec S16 32) (v1312 : IVec S16 32) (k0_hw1614 : k0_chk1614 v664 v1312), ∀ a x, ((![v1312, v664] : Fin 2 → IVec S16 32) a x).toNat < S64x512.size a := fun v664 v1312 k0_hw1614 => k0_hw1614

def k0_chk1615 (v1319 : IVec S16 32) : Prop :=
  (∀ a x, ((![v1319] : Fin 1 → IVec S16 32) a x).toNat < S32000.size a)
theorem k0_idx1615_inb : ∀ (v1319 : IVec S16 32) (k0_hw1615 : k0_chk1615 v1319), ∀ a x, ((![v1319] : Fin 1 → IVec S16 32) a x).toNat < S32000.size a := fun v1319 k0_hw1615 => k0_hw1615

def k0_chk1616 (v1321 : IVec S16 32) : Prop :=
  (∀ a x, ((![v1321] : Fin 1 → IVec S16 32) a x).toNat < S32000.size a)
theorem k0_idx1616_inb : ∀ (v1321 : IVec S16 32) (k0_hw1616 : k0_chk1616 v1321), ∀ a x, ((![v1321] : Fin 1 → IVec S16 32) a x).toNat < S32000.size a := fun v1321 k0_hw1616 => k0_hw1616

def k0_chk1617 (v1323 : IVec S16 32) : Prop :=
  (∀ a x, ((![v1323] : Fin 1 → IVec S16 32) a x).toNat < S32000.size a)
theorem k0_idx1617_inb : ∀ (v1323 : IVec S16 32) (k0_hw1617 : k0_chk1617 v1323), ∀ a x, ((![v1323] : Fin 1 → IVec S16 32) a x).toNat < S32000.size a := fun v1323 k0_hw1617 => k0_hw1617

def k0_chk1618 (v1325 : IVec S16 32) : Prop :=
  (∀ a x, ((![v1325] : Fin 1 → IVec S16 32) a x).toNat < S32000.size a)
theorem k0_idx1618_inb : ∀ (v1325 : IVec S16 32) (k0_hw1618 : k0_chk1618 v1325), ∀ a x, ((![v1325] : Fin 1 → IVec S16 32) a x).toNat < S32000.size a := fun v1325 k0_hw1618 => k0_hw1618

def k0_chk1619 (v1327 : IVec S16 32) : Prop :=
  (∀ a x, ((![v1327] : Fin 1 → IVec S16 32) a x).toNat < S32000.size a)
theorem k0_idx1619_inb : ∀ (v1327 : IVec S16 32) (k0_hw1619 : k0_chk1619 v1327), ∀ a x, ((![v1327] : Fin 1 → IVec S16 32) a x).toNat < S32000.size a := fun v1327 k0_hw1619 => k0_hw1619

def k0_chk1620 (v1329 : IVec S16 32) : Prop :=
  (∀ a x, ((![v1329] : Fin 1 → IVec S16 32) a x).toNat < S32000.size a)
theorem k0_idx1620_inb : ∀ (v1329 : IVec S16 32) (k0_hw1620 : k0_chk1620 v1329), ∀ a x, ((![v1329] : Fin 1 → IVec S16 32) a x).toNat < S32000.size a := fun v1329 k0_hw1620 => k0_hw1620

def k0_chk1621 (v664 : IVec S16 32) (v1380 : IVec S16 32) : Prop :=
  (∀ a x, ((![v1380, v664] : Fin 2 → IVec S16 32) a x).toNat < S64x512.size a)
theorem k0_idx1621_inb : ∀ (v664 : IVec S16 32) (v1380 : IVec S16 32) (k0_hw1621 : k0_chk1621 v664 v1380), ∀ a x, ((![v1380, v664] : Fin 2 → IVec S16 32) a x).toNat < S64x512.size a := fun v664 v1380 k0_hw1621 => k0_hw1621

def k0_chk1622 (v664 : IVec S16 32) (v1382 : IVec S16 32) : Prop :=
  (∀ a x, ((![v1382, v664] : Fin 2 → IVec S16 32) a x).toNat < S64x512.size a)
theorem k0_idx1622_inb : ∀ (v664 : IVec S16 32) (v1382 : IVec S16 32) (k0_hw1622 : k0_chk1622 v664 v1382), ∀ a x, ((![v1382, v664] : Fin 2 → IVec S16 32) a x).toNat < S64x512.size a := fun v664 v1382 k0_hw1622 => k0_hw1622

def k0_chk1623 (v1389 : IVec S16 32) : Prop :=
  (∀ a x, ((![v1389] : Fin 1 → IVec S16 32) a x).toNat < S32000.size a)
theorem k0_idx1623_inb : ∀ (v1389 : IVec S16 32) (k0_hw1623 : k0_chk1623 v1389), ∀ a x, ((![v1389] : Fin 1 → IVec S16 32) a x).toNat < S32000.size a := fun v1389 k0_hw1623 => k0_hw1623

def k0_chk1624 (v1391 : IVec S16 32) : Prop :=
  (∀ a x, ((![v1391] : Fin 1 → IVec S16 32) a x).toNat < S32000.size a)
theorem k0_idx1624_inb : ∀ (v1391 : IVec S16 32) (k0_hw1624 : k0_chk1624 v1391), ∀ a x, ((![v1391] : Fin 1 → IVec S16 32) a x).toNat < S32000.size a := fun v1391 k0_hw1624 => k0_hw1624

def k0_chk1625 (v1393 : IVec S16 32) : Prop :=
  (∀ a x, ((![v1393] : Fin 1 → IVec S16 32) a x).toNat < S32000.size a)
theorem k0_idx1625_inb : ∀ (v1393 : IVec S16 32) (k0_hw1625 : k0_chk1625 v1393), ∀ a x, ((![v1393] : Fin 1 → IVec S16 32) a x).toNat < S32000.size a := fun v1393 k0_hw1625 => k0_hw1625

def k0_chk1626 (v1395 : IVec S16 32) : Prop :=
  (∀ a x, ((![v1395] : Fin 1 → IVec S16 32) a x).toNat < S32000.size a)
theorem k0_idx1626_inb : ∀ (v1395 : IVec S16 32) (k0_hw1626 : k0_chk1626 v1395), ∀ a x, ((![v1395] : Fin 1 → IVec S16 32) a x).toNat < S32000.size a := fun v1395 k0_hw1626 => k0_hw1626

def k0_chk1627 (v1397 : IVec S16 32) : Prop :=
  (∀ a x, ((![v1397] : Fin 1 → IVec S16 32) a x).toNat < S32000.size a)
theorem k0_idx1627_inb : ∀ (v1397 : IVec S16 32) (k0_hw1627 : k0_chk1627 v1397), ∀ a x, ((![v1397] : Fin 1 → IVec S16 32) a x).toNat < S32000.size a := fun v1397 k0_hw1627 => k0_hw1627

def k0_chk1628 (v1399 : IVec S16 32) : Prop :=
  (∀ a x, ((![v1399] : Fin 1 → IVec S16 32) a x).toNat < S32000.size a)
theorem k0_idx1628_inb : ∀ (v1399 : IVec S16 32) (k0_hw1628 : k0_chk1628 v1399), ∀ a x, ((![v1399] : Fin 1 → IVec S16 32) a x).toNat < S32000.size a := fun v1399 k0_hw1628 => k0_hw1628

def k0_chk1629 (v664 : IVec S16 32) (v1450 : IVec S16 32) : Prop :=
  (∀ a x, ((![v1450, v664] : Fin 2 → IVec S16 32) a x).toNat < S64x512.size a)
theorem k0_idx1629_inb : ∀ (v664 : IVec S16 32) (v1450 : IVec S16 32) (k0_hw1629 : k0_chk1629 v664 v1450), ∀ a x, ((![v1450, v664] : Fin 2 → IVec S16 32) a x).toNat < S64x512.size a := fun v664 v1450 k0_hw1629 => k0_hw1629

def k0_chk1630 (v664 : IVec S16 32) (v1452 : IVec S16 32) : Prop :=
  (∀ a x, ((![v1452, v664] : Fin 2 → IVec S16 32) a x).toNat < S64x512.size a)
theorem k0_idx1630_inb : ∀ (v664 : IVec S16 32) (v1452 : IVec S16 32) (k0_hw1630 : k0_chk1630 v664 v1452), ∀ a x, ((![v1452, v664] : Fin 2 → IVec S16 32) a x).toNat < S64x512.size a := fun v664 v1452 k0_hw1630 => k0_hw1630

def k0_chk1631 (v1459 : IVec S16 32) : Prop :=
  (∀ a x, ((![v1459] : Fin 1 → IVec S16 32) a x).toNat < S32000.size a)
theorem k0_idx1631_inb : ∀ (v1459 : IVec S16 32) (k0_hw1631 : k0_chk1631 v1459), ∀ a x, ((![v1459] : Fin 1 → IVec S16 32) a x).toNat < S32000.size a := fun v1459 k0_hw1631 => k0_hw1631

def k0_chk1632 (v1461 : IVec S16 32) : Prop :=
  (∀ a x, ((![v1461] : Fin 1 → IVec S16 32) a x).toNat < S32000.size a)
theorem k0_idx1632_inb : ∀ (v1461 : IVec S16 32) (k0_hw1632 : k0_chk1632 v1461), ∀ a x, ((![v1461] : Fin 1 → IVec S16 32) a x).toNat < S32000.size a := fun v1461 k0_hw1632 => k0_hw1632

def k0_chk1633 (v1463 : IVec S16 32) : Prop :=
  (∀ a x, ((![v1463] : Fin 1 → IVec S16 32) a x).toNat < S32000.size a)
theorem k0_idx1633_inb : ∀ (v1463 : IVec S16 32) (k0_hw1633 : k0_chk1633 v1463), ∀ a x, ((![v1463] : Fin 1 → IVec S16 32) a x).toNat < S32000.size a := fun v1463 k0_hw1633 => k0_hw1633

def k0_chk1634 (v1465 : IVec S16 32) : Prop :=
  (∀ a x, ((![v1465] : Fin 1 → IVec S16 32) a x).toNat < S32000.size a)
theorem k0_idx1634_inb : ∀ (v1465 : IVec S16 32) (k0_hw1634 : k0_chk1634 v1465), ∀ a x, ((![v1465] : Fin 1 → IVec S16 32) a x).toNat < S32000.size a := fun v1465 k0_hw1634 => k0_hw1634

def k0_chk1635 (v1467 : IVec S16 32) : Prop :=
  (∀ a x, ((![v1467] : Fin 1 → IVec S16 32) a x).toNat < S32000.size a)
theorem k0_idx1635_inb : ∀ (v1467 : IVec S16 32) (k0_hw1635 : k0_chk1635 v1467), ∀ a x, ((![v1467] : Fin 1 → IVec S16 32) a x).toNat < S32000.size a := fun v1467 k0_hw1635 => k0_hw1635

def k0_chk1636 (v1469 : IVec S16 32) : Prop :=
  (∀ a x, ((![v1469] : Fin 1 → IVec S16 32) a x).toNat < S32000.size a)
theorem k0_idx1636_inb : ∀ (v1469 : IVec S16 32) (k0_hw1636 : k0_chk1636 v1469), ∀ a x, ((![v1469] : Fin 1 → IVec S16 32) a x).toNat < S32000.size a := fun v1469 k0_hw1636 => k0_hw1636

def k0_chk1637 (v664 : IVec S16 32) (v1520 : IVec S16 32) : Prop :=
  (∀ a x, ((![v1520, v664] : Fin 2 → IVec S16 32) a x).toNat < S64x512.size a)
theorem k0_idx1637_inb : ∀ (v664 : IVec S16 32) (v1520 : IVec S16 32) (k0_hw1637 : k0_chk1637 v664 v1520), ∀ a x, ((![v1520, v664] : Fin 2 → IVec S16 32) a x).toNat < S64x512.size a := fun v664 v1520 k0_hw1637 => k0_hw1637

def k0_chk1638 (v664 : IVec S16 32) (v1522 : IVec S16 32) : Prop :=
  (∀ a x, ((![v1522, v664] : Fin 2 → IVec S16 32) a x).toNat < S64x512.size a)
theorem k0_idx1638_inb : ∀ (v664 : IVec S16 32) (v1522 : IVec S16 32) (k0_hw1638 : k0_chk1638 v664 v1522), ∀ a x, ((![v1522, v664] : Fin 2 → IVec S16 32) a x).toNat < S64x512.size a := fun v664 v1522 k0_hw1638 => k0_hw1638

def k0_chk1639 (v1529 : IVec S16 32) : Prop :=
  (∀ a x, ((![v1529] : Fin 1 → IVec S16 32) a x).toNat < S32000.size a)
theorem k0_idx1639_inb : ∀ (v1529 : IVec S16 32) (k0_hw1639 : k0_chk1639 v1529), ∀ a x, ((![v1529] : Fin 1 → IVec S16 32) a x).toNat < S32000.size a := fun v1529 k0_hw1639 => k0_hw1639

def k0_chk1640 (v1531 : IVec S16 32) : Prop :=
  (∀ a x, ((![v1531] : Fin 1 → IVec S16 32) a x).toNat < S32000.size a)
theorem k0_idx1640_inb : ∀ (v1531 : IVec S16 32) (k0_hw1640 : k0_chk1640 v1531), ∀ a x, ((![v1531] : Fin 1 → IVec S16 32) a x).toNat < S32000.size a := fun v1531 k0_hw1640 => k0_hw1640

def k0_chk1641 (v1533 : IVec S16 32) : Prop :=
  (∀ a x, ((![v1533] : Fin 1 → IVec S16 32) a x).toNat < S32000.size a)
theorem k0_idx1641_inb : ∀ (v1533 : IVec S16 32) (k0_hw1641 : k0_chk1641 v1533), ∀ a x, ((![v1533] : Fin 1 → IVec S16 32) a x).toNat < S32000.size a := fun v1533 k0_hw1641 => k0_hw1641

def k0_chk1642 (v1535 : IVec S16 32) : Prop :=
  (∀ a x, ((![v1535] : Fin 1 → IVec S16 32) a x).toNat < S32000.size a)
theorem k0_idx1642_inb : ∀ (v1535 : IVec S16 32) (k0_hw1642 : k0_chk1642 v1535), ∀ a x, ((![v1535] : Fin 1 → IVec S16 32) a x).toNat < S32000.size a := fun v1535 k0_hw1642 => k0_hw1642

def k0_chk1643 (v1537 : IVec S16 32) : Prop :=
  (∀ a x, ((![v1537] : Fin 1 → IVec S16 32) a x).toNat < S32000.size a)
theorem k0_idx1643_inb : ∀ (v1537 : IVec S16 32) (k0_hw1643 : k0_chk1643 v1537), ∀ a x, ((![v1537] : Fin 1 → IVec S16 32) a x).toNat < S32000.size a := fun v1537 k0_hw1643 => k0_hw1643

def k0_chk1644 (v1539 : IVec S16 32) : Prop :=
  (∀ a x, ((![v1539] : Fin 1 → IVec S16 32) a x).toNat < S32000.size a)
theorem k0_idx1644_inb : ∀ (v1539 : IVec S16 32) (k0_hw1644 : k0_chk1644 v1539), ∀ a x, ((![v1539] : Fin 1 → IVec S16 32) a x).toNat < S32000.size a := fun v1539 k0_hw1644 => k0_hw1644

def k0_chk1645 (v664 : IVec S16 32) (v1590 : IVec S16 32) : Prop :=
  (∀ a x, ((![v1590, v664] : Fin 2 → IVec S16 32) a x).toNat < S64x512.size a)
theorem k0_idx1645_inb : ∀ (v664 : IVec S16 32) (v1590 : IVec S16 32) (k0_hw1645 : k0_chk1645 v664 v1590), ∀ a x, ((![v1590, v664] : Fin 2 → IVec S16 32) a x).toNat < S64x512.size a := fun v664 v1590 k0_hw1645 => k0_hw1645

def k0_chk1646 (v664 : IVec S16 32) (v1592 : IVec S16 32) : Prop :=
  (∀ a x, ((![v1592, v664] : Fin 2 → IVec S16 32) a x).toNat < S64x512.size a)
theorem k0_idx1646_inb : ∀ (v664 : IVec S16 32) (v1592 : IVec S16 32) (k0_hw1646 : k0_chk1646 v664 v1592), ∀ a x, ((![v1592, v664] : Fin 2 → IVec S16 32) a x).toNat < S64x512.size a := fun v664 v1592 k0_hw1646 => k0_hw1646

def k0_chk1647 (v1599 : IVec S16 32) : Prop :=
  (∀ a x, ((![v1599] : Fin 1 → IVec S16 32) a x).toNat < S32000.size a)
theorem k0_idx1647_inb : ∀ (v1599 : IVec S16 32) (k0_hw1647 : k0_chk1647 v1599), ∀ a x, ((![v1599] : Fin 1 → IVec S16 32) a x).toNat < S32000.size a := fun v1599 k0_hw1647 => k0_hw1647

def k0_chk1648 (v1601 : IVec S16 32) : Prop :=
  (∀ a x, ((![v1601] : Fin 1 → IVec S16 32) a x).toNat < S32000.size a)
theorem k0_idx1648_inb : ∀ (v1601 : IVec S16 32) (k0_hw1648 : k0_chk1648 v1601), ∀ a x, ((![v1601] : Fin 1 → IVec S16 32) a x).toNat < S32000.size a := fun v1601 k0_hw1648 => k0_hw1648

def k0_chk1649 (v1603 : IVec S16 32) : Prop :=
  (∀ a x, ((![v1603] : Fin 1 → IVec S16 32) a x).toNat < S32000.size a)
theorem k0_idx1649_inb : ∀ (v1603 : IVec S16 32) (k0_hw1649 : k0_chk1649 v1603), ∀ a x, ((![v1603] : Fin 1 → IVec S16 32) a x).toNat < S32000.size a := fun v1603 k0_hw1649 => k0_hw1649

def k0_chk1650 (v1605 : IVec S16 32) : Prop :=
  (∀ a x, ((![v1605] : Fin 1 → IVec S16 32) a x).toNat < S32000.size a)
theorem k0_idx1650_inb : ∀ (v1605 : IVec S16 32) (k0_hw1650 : k0_chk1650 v1605), ∀ a x, ((![v1605] : Fin 1 → IVec S16 32) a x).toNat < S32000.size a := fun v1605 k0_hw1650 => k0_hw1650

def k0_chk1651 (v1607 : IVec S16 32) : Prop :=
  (∀ a x, ((![v1607] : Fin 1 → IVec S16 32) a x).toNat < S32000.size a)
theorem k0_idx1651_inb : ∀ (v1607 : IVec S16 32) (k0_hw1651 : k0_chk1651 v1607), ∀ a x, ((![v1607] : Fin 1 → IVec S16 32) a x).toNat < S32000.size a := fun v1607 k0_hw1651 => k0_hw1651

def k0_chk1652 (v1609 : IVec S16 32) : Prop :=
  (∀ a x, ((![v1609] : Fin 1 → IVec S16 32) a x).toNat < S32000.size a)
theorem k0_idx1652_inb : ∀ (v1609 : IVec S16 32) (k0_hw1652 : k0_chk1652 v1609), ∀ a x, ((![v1609] : Fin 1 → IVec S16 32) a x).toNat < S32000.size a := fun v1609 k0_hw1652 => k0_hw1652

def k0_chk1653 (v664 : IVec S16 32) (v1660 : IVec S16 32) : Prop :=
  (∀ a x, ((![v1660, v664] : Fin 2 → IVec S16 32) a x).toNat < S64x512.size a)
theorem k0_idx1653_inb : ∀ (v664 : IVec S16 32) (v1660 : IVec S16 32) (k0_hw1653 : k0_chk1653 v664 v1660), ∀ a x, ((![v1660, v664] : Fin 2 → IVec S16 32) a x).toNat < S64x512.size a := fun v664 v1660 k0_hw1653 => k0_hw1653

def k0_chk1654 (v664 : IVec S16 32) (v1662 : IVec S16 32) : Prop :=
  (∀ a x, ((![v1662, v664] : Fin 2 → IVec S16 32) a x).toNat < S64x512.size a)
theorem k0_idx1654_inb : ∀ (v664 : IVec S16 32) (v1662 : IVec S16 32) (k0_hw1654 : k0_chk1654 v664 v1662), ∀ a x, ((![v1662, v664] : Fin 2 → IVec S16 32) a x).toNat < S64x512.size a := fun v664 v1662 k0_hw1654 => k0_hw1654

def k0_chk1655 (v1669 : IVec S16 32) : Prop :=
  (∀ a x, ((![v1669] : Fin 1 → IVec S16 32) a x).toNat < S32000.size a)
theorem k0_idx1655_inb : ∀ (v1669 : IVec S16 32) (k0_hw1655 : k0_chk1655 v1669), ∀ a x, ((![v1669] : Fin 1 → IVec S16 32) a x).toNat < S32000.size a := fun v1669 k0_hw1655 => k0_hw1655

def k0_chk1656 (v1671 : IVec S16 32) : Prop :=
  (∀ a x, ((![v1671] : Fin 1 → IVec S16 32) a x).toNat < S32000.size a)
theorem k0_idx1656_inb : ∀ (v1671 : IVec S16 32) (k0_hw1656 : k0_chk1656 v1671), ∀ a x, ((![v1671] : Fin 1 → IVec S16 32) a x).toNat < S32000.size a := fun v1671 k0_hw1656 => k0_hw1656

def k0_chk1657 (v1673 : IVec S16 32) : Prop :=
  (∀ a x, ((![v1673] : Fin 1 → IVec S16 32) a x).toNat < S32000.size a)
theorem k0_idx1657_inb : ∀ (v1673 : IVec S16 32) (k0_hw1657 : k0_chk1657 v1673), ∀ a x, ((![v1673] : Fin 1 → IVec S16 32) a x).toNat < S32000.size a := fun v1673 k0_hw1657 => k0_hw1657

def k0_chk1658 (v1675 : IVec S16 32) : Prop :=
  (∀ a x, ((![v1675] : Fin 1 → IVec S16 32) a x).toNat < S32000.size a)
theorem k0_idx1658_inb : ∀ (v1675 : IVec S16 32) (k0_hw1658 : k0_chk1658 v1675), ∀ a x, ((![v1675] : Fin 1 → IVec S16 32) a x).toNat < S32000.size a := fun v1675 k0_hw1658 => k0_hw1658

def k0_chk1659 (v1677 : IVec S16 32) : Prop :=
  (∀ a x, ((![v1677] : Fin 1 → IVec S16 32) a x).toNat < S32000.size a)
theorem k0_idx1659_inb : ∀ (v1677 : IVec S16 32) (k0_hw1659 : k0_chk1659 v1677), ∀ a x, ((![v1677] : Fin 1 → IVec S16 32) a x).toNat < S32000.size a := fun v1677 k0_hw1659 => k0_hw1659

def k0_chk1660 (v1679 : IVec S16 32) : Prop :=
  (∀ a x, ((![v1679] : Fin 1 → IVec S16 32) a x).toNat < S32000.size a)
theorem k0_idx1660_inb : ∀ (v1679 : IVec S16 32) (k0_hw1660 : k0_chk1660 v1679), ∀ a x, ((![v1679] : Fin 1 → IVec S16 32) a x).toNat < S32000.size a := fun v1679 k0_hw1660 => k0_hw1660

def k0_chk1661 (v664 : IVec S16 32) (v1730 : IVec S16 32) : Prop :=
  (∀ a x, ((![v1730, v664] : Fin 2 → IVec S16 32) a x).toNat < S64x512.size a)
theorem k0_idx1661_inb : ∀ (v664 : IVec S16 32) (v1730 : IVec S16 32) (k0_hw1661 : k0_chk1661 v664 v1730), ∀ a x, ((![v1730, v664] : Fin 2 → IVec S16 32) a x).toNat < S64x512.size a := fun v664 v1730 k0_hw1661 => k0_hw1661

def k0_chk1662 (v664 : IVec S16 32) (v1732 : IVec S16 32) : Prop :=
  (∀ a x, ((![v1732, v664] : Fin 2 → IVec S16 32) a x).toNat < S64x512.size a)
theorem k0_idx1662_inb : ∀ (v664 : IVec S16 32) (v1732 : IVec S16 32) (k0_hw1662 : k0_chk1662 v664 v1732), ∀ a x, ((![v1732, v664] : Fin 2 → IVec S16 32) a x).toNat < S64x512.size a := fun v664 v1732 k0_hw1662 => k0_hw1662

def k0_chk1663 (v1739 : IVec S16 32) : Prop :=
  (∀ a x, ((![v1739] : Fin 1 → IVec S16 32) a x).toNat < S32000.size a)
theorem k0_idx1663_inb : ∀ (v1739 : IVec S16 32) (k0_hw1663 : k0_chk1663 v1739), ∀ a x, ((![v1739] : Fin 1 → IVec S16 32) a x).toNat < S32000.size a := fun v1739 k0_hw1663 => k0_hw1663

def k0_chk1664 (v1741 : IVec S16 32) : Prop :=
  (∀ a x, ((![v1741] : Fin 1 → IVec S16 32) a x).toNat < S32000.size a)
theorem k0_idx1664_inb : ∀ (v1741 : IVec S16 32) (k0_hw1664 : k0_chk1664 v1741), ∀ a x, ((![v1741] : Fin 1 → IVec S16 32) a x).toNat < S32000.size a := fun v1741 k0_hw1664 => k0_hw1664

def k0_chk1665 (v1743 : IVec S16 32) : Prop :=
  (∀ a x, ((![v1743] : Fin 1 → IVec S16 32) a x).toNat < S32000.size a)
theorem k0_idx1665_inb : ∀ (v1743 : IVec S16 32) (k0_hw1665 : k0_chk1665 v1743), ∀ a x, ((![v1743] : Fin 1 → IVec S16 32) a x).toNat < S32000.size a := fun v1743 k0_hw1665 => k0_hw1665

def k0_chk1666 (v1745 : IVec S16 32) : Prop :=
  (∀ a x, ((![v1745] : Fin 1 → IVec S16 32) a x).toNat < S32000.size a)
theorem k0_idx1666_inb : ∀ (v1745 : IVec S16 32) (k0_hw1666 : k0_chk1666 v1745), ∀ a x, ((![v1745] : Fin 1 → IVec S16 32) a x).toNat < S32000.size a := fun v1745 k0_hw1666 => k0_hw1666

def k0_chk1667 (v1747 : IVec S16 32) : Prop :=
  (∀ a x, ((![v1747] : Fin 1 → IVec S16 32) a x).toNat < S32000.size a)
theorem k0_idx1667_inb : ∀ (v1747 : IVec S16 32) (k0_hw1667 : k0_chk1667 v1747), ∀ a x, ((![v1747] : Fin 1 → IVec S16 32) a x).toNat < S32000.size a := fun v1747 k0_hw1667 => k0_hw1667

def k0_chk1668 (v1749 : IVec S16 32) : Prop :=
  (∀ a x, ((![v1749] : Fin 1 → IVec S16 32) a x).toNat < S32000.size a)
theorem k0_idx1668_inb : ∀ (v1749 : IVec S16 32) (k0_hw1668 : k0_chk1668 v1749), ∀ a x, ((![v1749] : Fin 1 → IVec S16 32) a x).toNat < S32000.size a := fun v1749 k0_hw1668 => k0_hw1668

def k0_chk1669 (v664 : IVec S16 32) (v1800 : IVec S16 32) : Prop :=
  (∀ a x, ((![v1800, v664] : Fin 2 → IVec S16 32) a x).toNat < S64x512.size a)
theorem k0_idx1669_inb : ∀ (v664 : IVec S16 32) (v1800 : IVec S16 32) (k0_hw1669 : k0_chk1669 v664 v1800), ∀ a x, ((![v1800, v664] : Fin 2 → IVec S16 32) a x).toNat < S64x512.size a := fun v664 v1800 k0_hw1669 => k0_hw1669

def k0_chk1670 (v664 : IVec S16 32) (v1802 : IVec S16 32) : Prop :=
  (∀ a x, ((![v1802, v664] : Fin 2 → IVec S16 32) a x).toNat < S64x512.size a)
theorem k0_idx1670_inb : ∀ (v664 : IVec S16 32) (v1802 : IVec S16 32) (k0_hw1670 : k0_chk1670 v664 v1802), ∀ a x, ((![v1802, v664] : Fin 2 → IVec S16 32) a x).toNat < S64x512.size a := fun v664 v1802 k0_hw1670 => k0_hw1670

def k0_chk1671 (v1809 : IVec S16 32) : Prop :=
  (∀ a x, ((![v1809] : Fin 1 → IVec S16 32) a x).toNat < S32000.size a)
theorem k0_idx1671_inb : ∀ (v1809 : IVec S16 32) (k0_hw1671 : k0_chk1671 v1809), ∀ a x, ((![v1809] : Fin 1 → IVec S16 32) a x).toNat < S32000.size a := fun v1809 k0_hw1671 => k0_hw1671

def k0_chk1672 (v1811 : IVec S16 32) : Prop :=
  (∀ a x, ((![v1811] : Fin 1 → IVec S16 32) a x).toNat < S32000.size a)
theorem k0_idx1672_inb : ∀ (v1811 : IVec S16 32) (k0_hw1672 : k0_chk1672 v1811), ∀ a x, ((![v1811] : Fin 1 → IVec S16 32) a x).toNat < S32000.size a := fun v1811 k0_hw1672 => k0_hw1672

def k0_chk1673 (v1813 : IVec S16 32) : Prop :=
  (∀ a x, ((![v1813] : Fin 1 → IVec S16 32) a x).toNat < S32000.size a)
theorem k0_idx1673_inb : ∀ (v1813 : IVec S16 32) (k0_hw1673 : k0_chk1673 v1813), ∀ a x, ((![v1813] : Fin 1 → IVec S16 32) a x).toNat < S32000.size a := fun v1813 k0_hw1673 => k0_hw1673

def k0_chk1674 (v1815 : IVec S16 32) : Prop :=
  (∀ a x, ((![v1815] : Fin 1 → IVec S16 32) a x).toNat < S32000.size a)
theorem k0_idx1674_inb : ∀ (v1815 : IVec S16 32) (k0_hw1674 : k0_chk1674 v1815), ∀ a x, ((![v1815] : Fin 1 → IVec S16 32) a x).toNat < S32000.size a := fun v1815 k0_hw1674 => k0_hw1674

def k0_chk1675 (v1817 : IVec S16 32) : Prop :=
  (∀ a x, ((![v1817] : Fin 1 → IVec S16 32) a x).toNat < S32000.size a)
theorem k0_idx1675_inb : ∀ (v1817 : IVec S16 32) (k0_hw1675 : k0_chk1675 v1817), ∀ a x, ((![v1817] : Fin 1 → IVec S16 32) a x).toNat < S32000.size a := fun v1817 k0_hw1675 => k0_hw1675

def k0_chk1676 (v1819 : IVec S16 32) : Prop :=
  (∀ a x, ((![v1819] : Fin 1 → IVec S16 32) a x).toNat < S32000.size a)
theorem k0_idx1676_inb : ∀ (v1819 : IVec S16 32) (k0_hw1676 : k0_chk1676 v1819), ∀ a x, ((![v1819] : Fin 1 → IVec S16 32) a x).toNat < S32000.size a := fun v1819 k0_hw1676 => k0_hw1676

def k0_chk1677 (v664 : IVec S16 32) (v1870 : IVec S16 32) : Prop :=
  (∀ a x, ((![v1870, v664] : Fin 2 → IVec S16 32) a x).toNat < S64x512.size a)
theorem k0_idx1677_inb : ∀ (v664 : IVec S16 32) (v1870 : IVec S16 32) (k0_hw1677 : k0_chk1677 v664 v1870), ∀ a x, ((![v1870, v664] : Fin 2 → IVec S16 32) a x).toNat < S64x512.size a := fun v664 v1870 k0_hw1677 => k0_hw1677

def k0_chk1678 (v664 : IVec S16 32) (v1872 : IVec S16 32) : Prop :=
  (∀ a x, ((![v1872, v664] : Fin 2 → IVec S16 32) a x).toNat < S64x512.size a)
theorem k0_idx1678_inb : ∀ (v664 : IVec S16 32) (v1872 : IVec S16 32) (k0_hw1678 : k0_chk1678 v664 v1872), ∀ a x, ((![v1872, v664] : Fin 2 → IVec S16 32) a x).toNat < S64x512.size a := fun v664 v1872 k0_hw1678 => k0_hw1678

def k0_chk1679 (v1879 : IVec S16 32) : Prop :=
  (∀ a x, ((![v1879] : Fin 1 → IVec S16 32) a x).toNat < S32000.size a)
theorem k0_idx1679_inb : ∀ (v1879 : IVec S16 32) (k0_hw1679 : k0_chk1679 v1879), ∀ a x, ((![v1879] : Fin 1 → IVec S16 32) a x).toNat < S32000.size a := fun v1879 k0_hw1679 => k0_hw1679

def k0_chk1680 (v1881 : IVec S16 32) : Prop :=
  (∀ a x, ((![v1881] : Fin 1 → IVec S16 32) a x).toNat < S32000.size a)
theorem k0_idx1680_inb : ∀ (v1881 : IVec S16 32) (k0_hw1680 : k0_chk1680 v1881), ∀ a x, ((![v1881] : Fin 1 → IVec S16 32) a x).toNat < S32000.size a := fun v1881 k0_hw1680 => k0_hw1680

def k0_chk1681 (v1883 : IVec S16 32) : Prop :=
  (∀ a x, ((![v1883] : Fin 1 → IVec S16 32) a x).toNat < S32000.size a)
theorem k0_idx1681_inb : ∀ (v1883 : IVec S16 32) (k0_hw1681 : k0_chk1681 v1883), ∀ a x, ((![v1883] : Fin 1 → IVec S16 32) a x).toNat < S32000.size a := fun v1883 k0_hw1681 => k0_hw1681

def k0_chk1682 (v1885 : IVec S16 32) : Prop :=
  (∀ a x, ((![v1885] : Fin 1 → IVec S16 32) a x).toNat < S32000.size a)
theorem k0_idx1682_inb : ∀ (v1885 : IVec S16 32) (k0_hw1682 : k0_chk1682 v1885), ∀ a x, ((![v1885] : Fin 1 → IVec S16 32) a x).toNat < S32000.size a := fun v1885 k0_hw1682 => k0_hw1682

def k0_chk1683 (v1887 : IVec S16 32) : Prop :=
  (∀ a x, ((![v1887] : Fin 1 → IVec S16 32) a x).toNat < S32000.size a)
theorem k0_idx1683_inb : ∀ (v1887 : IVec S16 32) (k0_hw1683 : k0_chk1683 v1887), ∀ a x, ((![v1887] : Fin 1 → IVec S16 32) a x).toNat < S32000.size a := fun v1887 k0_hw1683 => k0_hw1683

def k0_chk1684 (v1889 : IVec S16 32) : Prop :=
  (∀ a x, ((![v1889] : Fin 1 → IVec S16 32) a x).toNat < S32000.size a)
theorem k0_idx1684_inb : ∀ (v1889 : IVec S16 32) (k0_hw1684 : k0_chk1684 v1889), ∀ a x, ((![v1889] : Fin 1 → IVec S16 32) a x).toNat < S32000.size a := fun v1889 k0_hw1684 => k0_hw1684

def k0_chk1685 (v664 : IVec S16 32) (v1940 : IVec S16 32) : Prop :=
  (∀ a x, ((![v1940, v664] : Fin 2 → IVec S16 32) a x).toNat < S64x512.size a)
theorem k0_idx1685_inb : ∀ (v664 : IVec S16 32) (v1940 : IVec S16 32) (k0_hw1685 : k0_chk1685 v664 v1940), ∀ a x, ((![v1940, v664] : Fin 2 → IVec S16 32) a x).toNat < S64x512.size a := fun v664 v1940 k0_hw1685 => k0_hw1685

def k0_chk1686 (v664 : IVec S16 32) (v1942 : IVec S16 32) : Prop :=
  (∀ a x, ((![v1942, v664] : Fin 2 → IVec S16 32) a x).toNat < S64x512.size a)
theorem k0_idx1686_inb : ∀ (v664 : IVec S16 32) (v1942 : IVec S16 32) (k0_hw1686 : k0_chk1686 v664 v1942), ∀ a x, ((![v1942, v664] : Fin 2 → IVec S16 32) a x).toNat < S64x512.size a := fun v664 v1942 k0_hw1686 => k0_hw1686

def k0_chk1687 (v1949 : IVec S16 32) : Prop :=
  (∀ a x, ((![v1949] : Fin 1 → IVec S16 32) a x).toNat < S32000.size a)
theorem k0_idx1687_inb : ∀ (v1949 : IVec S16 32) (k0_hw1687 : k0_chk1687 v1949), ∀ a x, ((![v1949] : Fin 1 → IVec S16 32) a x).toNat < S32000.size a := fun v1949 k0_hw1687 => k0_hw1687

def k0_chk1688 (v1951 : IVec S16 32) : Prop :=
  (∀ a x, ((![v1951] : Fin 1 → IVec S16 32) a x).toNat < S32000.size a)
theorem k0_idx1688_inb : ∀ (v1951 : IVec S16 32) (k0_hw1688 : k0_chk1688 v1951), ∀ a x, ((![v1951] : Fin 1 → IVec S16 32) a x).toNat < S32000.size a := fun v1951 k0_hw1688 => k0_hw1688

def k0_chk1689 (v1953 : IVec S16 32) : Prop :=
  (∀ a x, ((![v1953] : Fin 1 → IVec S16 32) a x).toNat < S32000.size a)
theorem k0_idx1689_inb : ∀ (v1953 : IVec S16 32) (k0_hw1689 : k0_chk1689 v1953), ∀ a x, ((![v1953] : Fin 1 → IVec S16 32) a x).toNat < S32000.size a := fun v1953 k0_hw1689 => k0_hw1689

def k0_chk1690 (v1955 : IVec S16 32) : Prop :=
  (∀ a x, ((![v1955] : Fin 1 → IVec S16 32) a x).toNat < S32000.size a)
theorem k0_idx1690_inb : ∀ (v1955 : IVec S16 32) (k0_hw1690 : k0_chk1690 v1955), ∀ a x, ((![v1955] : Fin 1 → IVec S16 32) a x).toNat < S32000.size a := fun v1955 k0_hw1690 => k0_hw1690

def k0_chk1691 (v1957 : IVec S16 32) : Prop :=
  (∀ a x, ((![v1957] : Fin 1 → IVec S16 32) a x).toNat < S32000.size a)
theorem k0_idx1691_inb : ∀ (v1957 : IVec S16 32) (k0_hw1691 : k0_chk1691 v1957), ∀ a x, ((![v1957] : Fin 1 → IVec S16 32) a x).toNat < S32000.size a := fun v1957 k0_hw1691 => k0_hw1691

def k0_chk1692 (v1959 : IVec S16 32) : Prop :=
  (∀ a x, ((![v1959] : Fin 1 → IVec S16 32) a x).toNat < S32000.size a)
theorem k0_idx1692_inb : ∀ (v1959 : IVec S16 32) (k0_hw1692 : k0_chk1692 v1959), ∀ a x, ((![v1959] : Fin 1 → IVec S16 32) a x).toNat < S32000.size a := fun v1959 k0_hw1692 => k0_hw1692

def k0_chk1693 (v664 : IVec S16 32) (v2010 : IVec S16 32) : Prop :=
  (∀ a x, ((![v2010, v664] : Fin 2 → IVec S16 32) a x).toNat < S64x512.size a)
theorem k0_idx1693_inb : ∀ (v664 : IVec S16 32) (v2010 : IVec S16 32) (k0_hw1693 : k0_chk1693 v664 v2010), ∀ a x, ((![v2010, v664] : Fin 2 → IVec S16 32) a x).toNat < S64x512.size a := fun v664 v2010 k0_hw1693 => k0_hw1693

def k0_chk1694 (v664 : IVec S16 32) (v2012 : IVec S16 32) : Prop :=
  (∀ a x, ((![v2012, v664] : Fin 2 → IVec S16 32) a x).toNat < S64x512.size a)
theorem k0_idx1694_inb : ∀ (v664 : IVec S16 32) (v2012 : IVec S16 32) (k0_hw1694 : k0_chk1694 v664 v2012), ∀ a x, ((![v2012, v664] : Fin 2 → IVec S16 32) a x).toNat < S64x512.size a := fun v664 v2012 k0_hw1694 => k0_hw1694

def k0_chk1695 (v2019 : IVec S16 32) : Prop :=
  (∀ a x, ((![v2019] : Fin 1 → IVec S16 32) a x).toNat < S32000.size a)
theorem k0_idx1695_inb : ∀ (v2019 : IVec S16 32) (k0_hw1695 : k0_chk1695 v2019), ∀ a x, ((![v2019] : Fin 1 → IVec S16 32) a x).toNat < S32000.size a := fun v2019 k0_hw1695 => k0_hw1695

def k0_chk1696 (v2021 : IVec S16 32) : Prop :=
  (∀ a x, ((![v2021] : Fin 1 → IVec S16 32) a x).toNat < S32000.size a)
theorem k0_idx1696_inb : ∀ (v2021 : IVec S16 32) (k0_hw1696 : k0_chk1696 v2021), ∀ a x, ((![v2021] : Fin 1 → IVec S16 32) a x).toNat < S32000.size a := fun v2021 k0_hw1696 => k0_hw1696

def k0_chk1697 (v2023 : IVec S16 32) : Prop :=
  (∀ a x, ((![v2023] : Fin 1 → IVec S16 32) a x).toNat < S32000.size a)
theorem k0_idx1697_inb : ∀ (v2023 : IVec S16 32) (k0_hw1697 : k0_chk1697 v2023), ∀ a x, ((![v2023] : Fin 1 → IVec S16 32) a x).toNat < S32000.size a := fun v2023 k0_hw1697 => k0_hw1697

def k0_chk1698 (v2025 : IVec S16 32) : Prop :=
  (∀ a x, ((![v2025] : Fin 1 → IVec S16 32) a x).toNat < S32000.size a)
theorem k0_idx1698_inb : ∀ (v2025 : IVec S16 32) (k0_hw1698 : k0_chk1698 v2025), ∀ a x, ((![v2025] : Fin 1 → IVec S16 32) a x).toNat < S32000.size a := fun v2025 k0_hw1698 => k0_hw1698

def k0_chk1699 (v2027 : IVec S16 32) : Prop :=
  (∀ a x, ((![v2027] : Fin 1 → IVec S16 32) a x).toNat < S32000.size a)
theorem k0_idx1699_inb : ∀ (v2027 : IVec S16 32) (k0_hw1699 : k0_chk1699 v2027), ∀ a x, ((![v2027] : Fin 1 → IVec S16 32) a x).toNat < S32000.size a := fun v2027 k0_hw1699 => k0_hw1699

def k0_chk1700 (v2029 : IVec S16 32) : Prop :=
  (∀ a x, ((![v2029] : Fin 1 → IVec S16 32) a x).toNat < S32000.size a)
theorem k0_idx1700_inb : ∀ (v2029 : IVec S16 32) (k0_hw1700 : k0_chk1700 v2029), ∀ a x, ((![v2029] : Fin 1 → IVec S16 32) a x).toNat < S32000.size a := fun v2029 k0_hw1700 => k0_hw1700

def k0_chk1701 (v664 : IVec S16 32) (v2080 : IVec S16 32) : Prop :=
  (∀ a x, ((![v2080, v664] : Fin 2 → IVec S16 32) a x).toNat < S64x512.size a)
theorem k0_idx1701_inb : ∀ (v664 : IVec S16 32) (v2080 : IVec S16 32) (k0_hw1701 : k0_chk1701 v664 v2080), ∀ a x, ((![v2080, v664] : Fin 2 → IVec S16 32) a x).toNat < S64x512.size a := fun v664 v2080 k0_hw1701 => k0_hw1701

def k0_chk1702 (v664 : IVec S16 32) (v2082 : IVec S16 32) : Prop :=
  (∀ a x, ((![v2082, v664] : Fin 2 → IVec S16 32) a x).toNat < S64x512.size a)
theorem k0_idx1702_inb : ∀ (v664 : IVec S16 32) (v2082 : IVec S16 32) (k0_hw1702 : k0_chk1702 v664 v2082), ∀ a x, ((![v2082, v664] : Fin 2 → IVec S16 32) a x).toNat < S64x512.size a := fun v664 v2082 k0_hw1702 => k0_hw1702

def k0_chk1703 (v2089 : IVec S16 32) : Prop :=
  (∀ a x, ((![v2089] : Fin 1 → IVec S16 32) a x).toNat < S32000.size a)
theorem k0_idx1703_inb : ∀ (v2089 : IVec S16 32) (k0_hw1703 : k0_chk1703 v2089), ∀ a x, ((![v2089] : Fin 1 → IVec S16 32) a x).toNat < S32000.size a := fun v2089 k0_hw1703 => k0_hw1703

def k0_chk1704 (v2091 : IVec S16 32) : Prop :=
  (∀ a x, ((![v2091] : Fin 1 → IVec S16 32) a x).toNat < S32000.size a)
theorem k0_idx1704_inb : ∀ (v2091 : IVec S16 32) (k0_hw1704 : k0_chk1704 v2091), ∀ a x, ((![v2091] : Fin 1 → IVec S16 32) a x).toNat < S32000.size a := fun v2091 k0_hw1704 => k0_hw1704

def k0_chk1705 (v2093 : IVec S16 32) : Prop :=
  (∀ a x, ((![v2093] : Fin 1 → IVec S16 32) a x).toNat < S32000.size a)
theorem k0_idx1705_inb : ∀ (v2093 : IVec S16 32) (k0_hw1705 : k0_chk1705 v2093), ∀ a x, ((![v2093] : Fin 1 → IVec S16 32) a x).toNat < S32000.size a := fun v2093 k0_hw1705 => k0_hw1705

def k0_chk1706 (v2095 : IVec S16 32) : Prop :=
  (∀ a x, ((![v2095] : Fin 1 → IVec S16 32) a x).toNat < S32000.size a)
theorem k0_idx1706_inb : ∀ (v2095 : IVec S16 32) (k0_hw1706 : k0_chk1706 v2095), ∀ a x, ((![v2095] : Fin 1 → IVec S16 32) a x).toNat < S32000.size a := fun v2095 k0_hw1706 => k0_hw1706

def k0_chk1707 (v2097 : IVec S16 32) : Prop :=
  (∀ a x, ((![v2097] : Fin 1 → IVec S16 32) a x).toNat < S32000.size a)
theorem k0_idx1707_inb : ∀ (v2097 : IVec S16 32) (k0_hw1707 : k0_chk1707 v2097), ∀ a x, ((![v2097] : Fin 1 → IVec S16 32) a x).toNat < S32000.size a := fun v2097 k0_hw1707 => k0_hw1707

def k0_chk1708 (v2099 : IVec S16 32) : Prop :=
  (∀ a x, ((![v2099] : Fin 1 → IVec S16 32) a x).toNat < S32000.size a)
theorem k0_idx1708_inb : ∀ (v2099 : IVec S16 32) (k0_hw1708 : k0_chk1708 v2099), ∀ a x, ((![v2099] : Fin 1 → IVec S16 32) a x).toNat < S32000.size a := fun v2099 k0_hw1708 => k0_hw1708

def k0_chk1709 (v664 : IVec S16 32) (v2150 : IVec S16 32) : Prop :=
  (∀ a x, ((![v2150, v664] : Fin 2 → IVec S16 32) a x).toNat < S64x512.size a)
theorem k0_idx1709_inb : ∀ (v664 : IVec S16 32) (v2150 : IVec S16 32) (k0_hw1709 : k0_chk1709 v664 v2150), ∀ a x, ((![v2150, v664] : Fin 2 → IVec S16 32) a x).toNat < S64x512.size a := fun v664 v2150 k0_hw1709 => k0_hw1709

def k0_chk1710 (v664 : IVec S16 32) (v2152 : IVec S16 32) : Prop :=
  (∀ a x, ((![v2152, v664] : Fin 2 → IVec S16 32) a x).toNat < S64x512.size a)
theorem k0_idx1710_inb : ∀ (v664 : IVec S16 32) (v2152 : IVec S16 32) (k0_hw1710 : k0_chk1710 v664 v2152), ∀ a x, ((![v2152, v664] : Fin 2 → IVec S16 32) a x).toNat < S64x512.size a := fun v664 v2152 k0_hw1710 => k0_hw1710

def k0_chk1711 (v2159 : IVec S16 32) : Prop :=
  (∀ a x, ((![v2159] : Fin 1 → IVec S16 32) a x).toNat < S32000.size a)
theorem k0_idx1711_inb : ∀ (v2159 : IVec S16 32) (k0_hw1711 : k0_chk1711 v2159), ∀ a x, ((![v2159] : Fin 1 → IVec S16 32) a x).toNat < S32000.size a := fun v2159 k0_hw1711 => k0_hw1711

def k0_chk1712 (v2161 : IVec S16 32) : Prop :=
  (∀ a x, ((![v2161] : Fin 1 → IVec S16 32) a x).toNat < S32000.size a)
theorem k0_idx1712_inb : ∀ (v2161 : IVec S16 32) (k0_hw1712 : k0_chk1712 v2161), ∀ a x, ((![v2161] : Fin 1 → IVec S16 32) a x).toNat < S32000.size a := fun v2161 k0_hw1712 => k0_hw1712

def k0_chk1713 (v2163 : IVec S16 32) : Prop :=
  (∀ a x, ((![v2163] : Fin 1 → IVec S16 32) a x).toNat < S32000.size a)
theorem k0_idx1713_inb : ∀ (v2163 : IVec S16 32) (k0_hw1713 : k0_chk1713 v2163), ∀ a x, ((![v2163] : Fin 1 → IVec S16 32) a x).toNat < S32000.size a := fun v2163 k0_hw1713 => k0_hw1713

def k0_chk1714 (v2165 : IVec S16 32) : Prop :=
  (∀ a x, ((![v2165] : Fin 1 → IVec S16 32) a x).toNat < S32000.size a)
theorem k0_idx1714_inb : ∀ (v2165 : IVec S16 32) (k0_hw1714 : k0_chk1714 v2165), ∀ a x, ((![v2165] : Fin 1 → IVec S16 32) a x).toNat < S32000.size a := fun v2165 k0_hw1714 => k0_hw1714

def k0_chk1715 (v2167 : IVec S16 32) : Prop :=
  (∀ a x, ((![v2167] : Fin 1 → IVec S16 32) a x).toNat < S32000.size a)
theorem k0_idx1715_inb : ∀ (v2167 : IVec S16 32) (k0_hw1715 : k0_chk1715 v2167), ∀ a x, ((![v2167] : Fin 1 → IVec S16 32) a x).toNat < S32000.size a := fun v2167 k0_hw1715 => k0_hw1715

def k0_chk1716 (v2169 : IVec S16 32) : Prop :=
  (∀ a x, ((![v2169] : Fin 1 → IVec S16 32) a x).toNat < S32000.size a)
theorem k0_idx1716_inb : ∀ (v2169 : IVec S16 32) (k0_hw1716 : k0_chk1716 v2169), ∀ a x, ((![v2169] : Fin 1 → IVec S16 32) a x).toNat < S32000.size a := fun v2169 k0_hw1716 => k0_hw1716

def k0_chk1717 (v664 : IVec S16 32) (v2220 : IVec S16 32) : Prop :=
  (∀ a x, ((![v2220, v664] : Fin 2 → IVec S16 32) a x).toNat < S64x512.size a)
theorem k0_idx1717_inb : ∀ (v664 : IVec S16 32) (v2220 : IVec S16 32) (k0_hw1717 : k0_chk1717 v664 v2220), ∀ a x, ((![v2220, v664] : Fin 2 → IVec S16 32) a x).toNat < S64x512.size a := fun v664 v2220 k0_hw1717 => k0_hw1717

def k0_chk1718 (v664 : IVec S16 32) (v2222 : IVec S16 32) : Prop :=
  (∀ a x, ((![v2222, v664] : Fin 2 → IVec S16 32) a x).toNat < S64x512.size a)
theorem k0_idx1718_inb : ∀ (v664 : IVec S16 32) (v2222 : IVec S16 32) (k0_hw1718 : k0_chk1718 v664 v2222), ∀ a x, ((![v2222, v664] : Fin 2 → IVec S16 32) a x).toNat < S64x512.size a := fun v664 v2222 k0_hw1718 => k0_hw1718

def k0_chk1719 (v2229 : IVec S16 32) : Prop :=
  (∀ a x, ((![v2229] : Fin 1 → IVec S16 32) a x).toNat < S32000.size a)
theorem k0_idx1719_inb : ∀ (v2229 : IVec S16 32) (k0_hw1719 : k0_chk1719 v2229), ∀ a x, ((![v2229] : Fin 1 → IVec S16 32) a x).toNat < S32000.size a := fun v2229 k0_hw1719 => k0_hw1719

def k0_chk1720 (v2231 : IVec S16 32) : Prop :=
  (∀ a x, ((![v2231] : Fin 1 → IVec S16 32) a x).toNat < S32000.size a)
theorem k0_idx1720_inb : ∀ (v2231 : IVec S16 32) (k0_hw1720 : k0_chk1720 v2231), ∀ a x, ((![v2231] : Fin 1 → IVec S16 32) a x).toNat < S32000.size a := fun v2231 k0_hw1720 => k0_hw1720

def k0_chk1721 (v2233 : IVec S16 32) : Prop :=
  (∀ a x, ((![v2233] : Fin 1 → IVec S16 32) a x).toNat < S32000.size a)
theorem k0_idx1721_inb : ∀ (v2233 : IVec S16 32) (k0_hw1721 : k0_chk1721 v2233), ∀ a x, ((![v2233] : Fin 1 → IVec S16 32) a x).toNat < S32000.size a := fun v2233 k0_hw1721 => k0_hw1721

def k0_chk1722 (v2235 : IVec S16 32) : Prop :=
  (∀ a x, ((![v2235] : Fin 1 → IVec S16 32) a x).toNat < S32000.size a)
theorem k0_idx1722_inb : ∀ (v2235 : IVec S16 32) (k0_hw1722 : k0_chk1722 v2235), ∀ a x, ((![v2235] : Fin 1 → IVec S16 32) a x).toNat < S32000.size a := fun v2235 k0_hw1722 => k0_hw1722

def k0_chk1723 (v2237 : IVec S16 32) : Prop :=
  (∀ a x, ((![v2237] : Fin 1 → IVec S16 32) a x).toNat < S32000.size a)
theorem k0_idx1723_inb : ∀ (v2237 : IVec S16 32) (k0_hw1723 : k0_chk1723 v2237), ∀ a x, ((![v2237] : Fin 1 → IVec S16 32) a x).toNat < S32000.size a := fun v2237 k0_hw1723 => k0_hw1723

def k0_chk1724 (v2239 : IVec S16 32) : Prop :=
  (∀ a x, ((![v2239] : Fin 1 → IVec S16 32) a x).toNat < S32000.size a)
theorem k0_idx1724_inb : ∀ (v2239 : IVec S16 32) (k0_hw1724 : k0_chk1724 v2239), ∀ a x, ((![v2239] : Fin 1 → IVec S16 32) a x).toNat < S32000.size a := fun v2239 k0_hw1724 => k0_hw1724

def k0_chk1725 (v664 : IVec S16 32) (v2290 : IVec S16 32) : Prop :=
  (∀ a x, ((![v2290, v664] : Fin 2 → IVec S16 32) a x).toNat < S64x512.size a)
theorem k0_idx1725_inb : ∀ (v664 : IVec S16 32) (v2290 : IVec S16 32) (k0_hw1725 : k0_chk1725 v664 v2290), ∀ a x, ((![v2290, v664] : Fin 2 → IVec S16 32) a x).toNat < S64x512.size a := fun v664 v2290 k0_hw1725 => k0_hw1725

def k0_chk1726 (v664 : IVec S16 32) (v2292 : IVec S16 32) : Prop :=
  (∀ a x, ((![v2292, v664] : Fin 2 → IVec S16 32) a x).toNat < S64x512.size a)
theorem k0_idx1726_inb : ∀ (v664 : IVec S16 32) (v2292 : IVec S16 32) (k0_hw1726 : k0_chk1726 v664 v2292), ∀ a x, ((![v2292, v664] : Fin 2 → IVec S16 32) a x).toNat < S64x512.size a := fun v664 v2292 k0_hw1726 => k0_hw1726

def k0_chk1727 (v2299 : IVec S16 32) : Prop :=
  (∀ a x, ((![v2299] : Fin 1 → IVec S16 32) a x).toNat < S32000.size a)
theorem k0_idx1727_inb : ∀ (v2299 : IVec S16 32) (k0_hw1727 : k0_chk1727 v2299), ∀ a x, ((![v2299] : Fin 1 → IVec S16 32) a x).toNat < S32000.size a := fun v2299 k0_hw1727 => k0_hw1727

def k0_chk1728 (v2301 : IVec S16 32) : Prop :=
  (∀ a x, ((![v2301] : Fin 1 → IVec S16 32) a x).toNat < S32000.size a)
theorem k0_idx1728_inb : ∀ (v2301 : IVec S16 32) (k0_hw1728 : k0_chk1728 v2301), ∀ a x, ((![v2301] : Fin 1 → IVec S16 32) a x).toNat < S32000.size a := fun v2301 k0_hw1728 => k0_hw1728

def k0_chk1729 (v2303 : IVec S16 32) : Prop :=
  (∀ a x, ((![v2303] : Fin 1 → IVec S16 32) a x).toNat < S32000.size a)
theorem k0_idx1729_inb : ∀ (v2303 : IVec S16 32) (k0_hw1729 : k0_chk1729 v2303), ∀ a x, ((![v2303] : Fin 1 → IVec S16 32) a x).toNat < S32000.size a := fun v2303 k0_hw1729 => k0_hw1729

def k0_chk1730 (v2305 : IVec S16 32) : Prop :=
  (∀ a x, ((![v2305] : Fin 1 → IVec S16 32) a x).toNat < S32000.size a)
theorem k0_idx1730_inb : ∀ (v2305 : IVec S16 32) (k0_hw1730 : k0_chk1730 v2305), ∀ a x, ((![v2305] : Fin 1 → IVec S16 32) a x).toNat < S32000.size a := fun v2305 k0_hw1730 => k0_hw1730

def k0_chk1731 (v2307 : IVec S16 32) : Prop :=
  (∀ a x, ((![v2307] : Fin 1 → IVec S16 32) a x).toNat < S32000.size a)
theorem k0_idx1731_inb : ∀ (v2307 : IVec S16 32) (k0_hw1731 : k0_chk1731 v2307), ∀ a x, ((![v2307] : Fin 1 → IVec S16 32) a x).toNat < S32000.size a := fun v2307 k0_hw1731 => k0_hw1731

def k0_chk1732 (v2309 : IVec S16 32) : Prop :=
  (∀ a x, ((![v2309] : Fin 1 → IVec S16 32) a x).toNat < S32000.size a)
theorem k0_idx1732_inb : ∀ (v2309 : IVec S16 32) (k0_hw1732 : k0_chk1732 v2309), ∀ a x, ((![v2309] : Fin 1 → IVec S16 32) a x).toNat < S32000.size a := fun v2309 k0_hw1732 => k0_hw1732

def k0_chk1733 (v664 : IVec S16 32) (v2360 : IVec S16 32) : Prop :=
  (∀ a x, ((![v2360, v664] : Fin 2 → IVec S16 32) a x).toNat < S64x512.size a)
theorem k0_idx1733_inb : ∀ (v664 : IVec S16 32) (v2360 : IVec S16 32) (k0_hw1733 : k0_chk1733 v664 v2360), ∀ a x, ((![v2360, v664] : Fin 2 → IVec S16 32) a x).toNat < S64x512.size a := fun v664 v2360 k0_hw1733 => k0_hw1733

def k0_chk1734 (v664 : IVec S16 32) (v2362 : IVec S16 32) : Prop :=
  (∀ a x, ((![v2362, v664] : Fin 2 → IVec S16 32) a x).toNat < S64x512.size a)
theorem k0_idx1734_inb : ∀ (v664 : IVec S16 32) (v2362 : IVec S16 32) (k0_hw1734 : k0_chk1734 v664 v2362), ∀ a x, ((![v2362, v664] : Fin 2 → IVec S16 32) a x).toNat < S64x512.size a := fun v664 v2362 k0_hw1734 => k0_hw1734

def k0_chk1735 (v2369 : IVec S16 32) : Prop :=
  (∀ a x, ((![v2369] : Fin 1 → IVec S16 32) a x).toNat < S32000.size a)
theorem k0_idx1735_inb : ∀ (v2369 : IVec S16 32) (k0_hw1735 : k0_chk1735 v2369), ∀ a x, ((![v2369] : Fin 1 → IVec S16 32) a x).toNat < S32000.size a := fun v2369 k0_hw1735 => k0_hw1735

def k0_chk1736 (v2371 : IVec S16 32) : Prop :=
  (∀ a x, ((![v2371] : Fin 1 → IVec S16 32) a x).toNat < S32000.size a)
theorem k0_idx1736_inb : ∀ (v2371 : IVec S16 32) (k0_hw1736 : k0_chk1736 v2371), ∀ a x, ((![v2371] : Fin 1 → IVec S16 32) a x).toNat < S32000.size a := fun v2371 k0_hw1736 => k0_hw1736

def k0_chk1737 (v2373 : IVec S16 32) : Prop :=
  (∀ a x, ((![v2373] : Fin 1 → IVec S16 32) a x).toNat < S32000.size a)
theorem k0_idx1737_inb : ∀ (v2373 : IVec S16 32) (k0_hw1737 : k0_chk1737 v2373), ∀ a x, ((![v2373] : Fin 1 → IVec S16 32) a x).toNat < S32000.size a := fun v2373 k0_hw1737 => k0_hw1737

def k0_chk1738 (v2375 : IVec S16 32) : Prop :=
  (∀ a x, ((![v2375] : Fin 1 → IVec S16 32) a x).toNat < S32000.size a)
theorem k0_idx1738_inb : ∀ (v2375 : IVec S16 32) (k0_hw1738 : k0_chk1738 v2375), ∀ a x, ((![v2375] : Fin 1 → IVec S16 32) a x).toNat < S32000.size a := fun v2375 k0_hw1738 => k0_hw1738

def k0_chk1739 (v2377 : IVec S16 32) : Prop :=
  (∀ a x, ((![v2377] : Fin 1 → IVec S16 32) a x).toNat < S32000.size a)
theorem k0_idx1739_inb : ∀ (v2377 : IVec S16 32) (k0_hw1739 : k0_chk1739 v2377), ∀ a x, ((![v2377] : Fin 1 → IVec S16 32) a x).toNat < S32000.size a := fun v2377 k0_hw1739 => k0_hw1739

def k0_chk1740 (v2379 : IVec S16 32) : Prop :=
  (∀ a x, ((![v2379] : Fin 1 → IVec S16 32) a x).toNat < S32000.size a)
theorem k0_idx1740_inb : ∀ (v2379 : IVec S16 32) (k0_hw1740 : k0_chk1740 v2379), ∀ a x, ((![v2379] : Fin 1 → IVec S16 32) a x).toNat < S32000.size a := fun v2379 k0_hw1740 => k0_hw1740

def k0_chk1741 (v664 : IVec S16 32) (v2430 : IVec S16 32) : Prop :=
  (∀ a x, ((![v2430, v664] : Fin 2 → IVec S16 32) a x).toNat < S64x512.size a)
theorem k0_idx1741_inb : ∀ (v664 : IVec S16 32) (v2430 : IVec S16 32) (k0_hw1741 : k0_chk1741 v664 v2430), ∀ a x, ((![v2430, v664] : Fin 2 → IVec S16 32) a x).toNat < S64x512.size a := fun v664 v2430 k0_hw1741 => k0_hw1741

def k0_chk1742 (v664 : IVec S16 32) (v2432 : IVec S16 32) : Prop :=
  (∀ a x, ((![v2432, v664] : Fin 2 → IVec S16 32) a x).toNat < S64x512.size a)
theorem k0_idx1742_inb : ∀ (v664 : IVec S16 32) (v2432 : IVec S16 32) (k0_hw1742 : k0_chk1742 v664 v2432), ∀ a x, ((![v2432, v664] : Fin 2 → IVec S16 32) a x).toNat < S64x512.size a := fun v664 v2432 k0_hw1742 => k0_hw1742

def k0_chk1743 (v2439 : IVec S16 32) : Prop :=
  (∀ a x, ((![v2439] : Fin 1 → IVec S16 32) a x).toNat < S32000.size a)
theorem k0_idx1743_inb : ∀ (v2439 : IVec S16 32) (k0_hw1743 : k0_chk1743 v2439), ∀ a x, ((![v2439] : Fin 1 → IVec S16 32) a x).toNat < S32000.size a := fun v2439 k0_hw1743 => k0_hw1743

def k0_chk1744 (v2441 : IVec S16 32) : Prop :=
  (∀ a x, ((![v2441] : Fin 1 → IVec S16 32) a x).toNat < S32000.size a)
theorem k0_idx1744_inb : ∀ (v2441 : IVec S16 32) (k0_hw1744 : k0_chk1744 v2441), ∀ a x, ((![v2441] : Fin 1 → IVec S16 32) a x).toNat < S32000.size a := fun v2441 k0_hw1744 => k0_hw1744

def k0_chk1745 (v2443 : IVec S16 32) : Prop :=
  (∀ a x, ((![v2443] : Fin 1 → IVec S16 32) a x).toNat < S32000.size a)
theorem k0_idx1745_inb : ∀ (v2443 : IVec S16 32) (k0_hw1745 : k0_chk1745 v2443), ∀ a x, ((![v2443] : Fin 1 → IVec S16 32) a x).toNat < S32000.size a := fun v2443 k0_hw1745 => k0_hw1745

def k0_chk1746 (v2445 : IVec S16 32) : Prop :=
  (∀ a x, ((![v2445] : Fin 1 → IVec S16 32) a x).toNat < S32000.size a)
theorem k0_idx1746_inb : ∀ (v2445 : IVec S16 32) (k0_hw1746 : k0_chk1746 v2445), ∀ a x, ((![v2445] : Fin 1 → IVec S16 32) a x).toNat < S32000.size a := fun v2445 k0_hw1746 => k0_hw1746

def k0_chk1747 (v2447 : IVec S16 32) : Prop :=
  (∀ a x, ((![v2447] : Fin 1 → IVec S16 32) a x).toNat < S32000.size a)
theorem k0_idx1747_inb : ∀ (v2447 : IVec S16 32) (k0_hw1747 : k0_chk1747 v2447), ∀ a x, ((![v2447] : Fin 1 → IVec S16 32) a x).toNat < S32000.size a := fun v2447 k0_hw1747 => k0_hw1747

def k0_chk1748 (v2449 : IVec S16 32) : Prop :=
  (∀ a x, ((![v2449] : Fin 1 → IVec S16 32) a x).toNat < S32000.size a)
theorem k0_idx1748_inb : ∀ (v2449 : IVec S16 32) (k0_hw1748 : k0_chk1748 v2449), ∀ a x, ((![v2449] : Fin 1 → IVec S16 32) a x).toNat < S32000.size a := fun v2449 k0_hw1748 => k0_hw1748

def k0_chk1749 (v664 : IVec S16 32) (v2500 : IVec S16 32) : Prop :=
  (∀ a x, ((![v2500, v664] : Fin 2 → IVec S16 32) a x).toNat < S64x512.size a)
theorem k0_idx1749_inb : ∀ (v664 : IVec S16 32) (v2500 : IVec S16 32) (k0_hw1749 : k0_chk1749 v664 v2500), ∀ a x, ((![v2500, v664] : Fin 2 → IVec S16 32) a x).toNat < S64x512.size a := fun v664 v2500 k0_hw1749 => k0_hw1749

def k0_chk1750 (v664 : IVec S16 32) (v2502 : IVec S16 32) : Prop :=
  (∀ a x, ((![v2502, v664] : Fin 2 → IVec S16 32) a x).toNat < S64x512.size a)
theorem k0_idx1750_inb : ∀ (v664 : IVec S16 32) (v2502 : IVec S16 32) (k0_hw1750 : k0_chk1750 v664 v2502), ∀ a x, ((![v2502, v664] : Fin 2 → IVec S16 32) a x).toNat < S64x512.size a := fun v664 v2502 k0_hw1750 => k0_hw1750

def k0_chk1751 (v2509 : IVec S16 32) : Prop :=
  (∀ a x, ((![v2509] : Fin 1 → IVec S16 32) a x).toNat < S32000.size a)
theorem k0_idx1751_inb : ∀ (v2509 : IVec S16 32) (k0_hw1751 : k0_chk1751 v2509), ∀ a x, ((![v2509] : Fin 1 → IVec S16 32) a x).toNat < S32000.size a := fun v2509 k0_hw1751 => k0_hw1751

def k0_chk1752 (v2511 : IVec S16 32) : Prop :=
  (∀ a x, ((![v2511] : Fin 1 → IVec S16 32) a x).toNat < S32000.size a)
theorem k0_idx1752_inb : ∀ (v2511 : IVec S16 32) (k0_hw1752 : k0_chk1752 v2511), ∀ a x, ((![v2511] : Fin 1 → IVec S16 32) a x).toNat < S32000.size a := fun v2511 k0_hw1752 => k0_hw1752

def k0_chk1753 (v2513 : IVec S16 32) : Prop :=
  (∀ a x, ((![v2513] : Fin 1 → IVec S16 32) a x).toNat < S32000.size a)
theorem k0_idx1753_inb : ∀ (v2513 : IVec S16 32) (k0_hw1753 : k0_chk1753 v2513), ∀ a x, ((![v2513] : Fin 1 → IVec S16 32) a x).toNat < S32000.size a := fun v2513 k0_hw1753 => k0_hw1753

def k0_chk1754 (v2515 : IVec S16 32) : Prop :=
  (∀ a x, ((![v2515] : Fin 1 → IVec S16 32) a x).toNat < S32000.size a)
theorem k0_idx1754_inb : ∀ (v2515 : IVec S16 32) (k0_hw1754 : k0_chk1754 v2515), ∀ a x, ((![v2515] : Fin 1 → IVec S16 32) a x).toNat < S32000.size a := fun v2515 k0_hw1754 => k0_hw1754

def k0_chk1755 (v2517 : IVec S16 32) : Prop :=
  (∀ a x, ((![v2517] : Fin 1 → IVec S16 32) a x).toNat < S32000.size a)
theorem k0_idx1755_inb : ∀ (v2517 : IVec S16 32) (k0_hw1755 : k0_chk1755 v2517), ∀ a x, ((![v2517] : Fin 1 → IVec S16 32) a x).toNat < S32000.size a := fun v2517 k0_hw1755 => k0_hw1755

def k0_chk1756 (v2519 : IVec S16 32) : Prop :=
  (∀ a x, ((![v2519] : Fin 1 → IVec S16 32) a x).toNat < S32000.size a)
theorem k0_idx1756_inb : ∀ (v2519 : IVec S16 32) (k0_hw1756 : k0_chk1756 v2519), ∀ a x, ((![v2519] : Fin 1 → IVec S16 32) a x).toNat < S32000.size a := fun v2519 k0_hw1756 => k0_hw1756

def k0_chk1757 (v664 : IVec S16 32) (v2570 : IVec S16 32) : Prop :=
  (∀ a x, ((![v2570, v664] : Fin 2 → IVec S16 32) a x).toNat < S64x512.size a)
theorem k0_idx1757_inb : ∀ (v664 : IVec S16 32) (v2570 : IVec S16 32) (k0_hw1757 : k0_chk1757 v664 v2570), ∀ a x, ((![v2570, v664] : Fin 2 → IVec S16 32) a x).toNat < S64x512.size a := fun v664 v2570 k0_hw1757 => k0_hw1757

def k0_chk1758 (v664 : IVec S16 32) (v2572 : IVec S16 32) : Prop :=
  (∀ a x, ((![v2572, v664] : Fin 2 → IVec S16 32) a x).toNat < S64x512.size a)
theorem k0_idx1758_inb : ∀ (v664 : IVec S16 32) (v2572 : IVec S16 32) (k0_hw1758 : k0_chk1758 v664 v2572), ∀ a x, ((![v2572, v664] : Fin 2 → IVec S16 32) a x).toNat < S64x512.size a := fun v664 v2572 k0_hw1758 => k0_hw1758

def k0_chk1759 (v2579 : IVec S16 32) : Prop :=
  (∀ a x, ((![v2579] : Fin 1 → IVec S16 32) a x).toNat < S32000.size a)
theorem k0_idx1759_inb : ∀ (v2579 : IVec S16 32) (k0_hw1759 : k0_chk1759 v2579), ∀ a x, ((![v2579] : Fin 1 → IVec S16 32) a x).toNat < S32000.size a := fun v2579 k0_hw1759 => k0_hw1759

def k0_chk1760 (v2581 : IVec S16 32) : Prop :=
  (∀ a x, ((![v2581] : Fin 1 → IVec S16 32) a x).toNat < S32000.size a)
theorem k0_idx1760_inb : ∀ (v2581 : IVec S16 32) (k0_hw1760 : k0_chk1760 v2581), ∀ a x, ((![v2581] : Fin 1 → IVec S16 32) a x).toNat < S32000.size a := fun v2581 k0_hw1760 => k0_hw1760

def k0_chk1761 (v2583 : IVec S16 32) : Prop :=
  (∀ a x, ((![v2583] : Fin 1 → IVec S16 32) a x).toNat < S32000.size a)
theorem k0_idx1761_inb : ∀ (v2583 : IVec S16 32) (k0_hw1761 : k0_chk1761 v2583), ∀ a x, ((![v2583] : Fin 1 → IVec S16 32) a x).toNat < S32000.size a := fun v2583 k0_hw1761 => k0_hw1761

def k0_chk1762 (v2585 : IVec S16 32) : Prop :=
  (∀ a x, ((![v2585] : Fin 1 → IVec S16 32) a x).toNat < S32000.size a)
theorem k0_idx1762_inb : ∀ (v2585 : IVec S16 32) (k0_hw1762 : k0_chk1762 v2585), ∀ a x, ((![v2585] : Fin 1 → IVec S16 32) a x).toNat < S32000.size a := fun v2585 k0_hw1762 => k0_hw1762

def k0_chk1763 (v2587 : IVec S16 32) : Prop :=
  (∀ a x, ((![v2587] : Fin 1 → IVec S16 32) a x).toNat < S32000.size a)
theorem k0_idx1763_inb : ∀ (v2587 : IVec S16 32) (k0_hw1763 : k0_chk1763 v2587), ∀ a x, ((![v2587] : Fin 1 → IVec S16 32) a x).toNat < S32000.size a := fun v2587 k0_hw1763 => k0_hw1763

def k0_chk1764 (v2589 : IVec S16 32) : Prop :=
  (∀ a x, ((![v2589] : Fin 1 → IVec S16 32) a x).toNat < S32000.size a)
theorem k0_idx1764_inb : ∀ (v2589 : IVec S16 32) (k0_hw1764 : k0_chk1764 v2589), ∀ a x, ((![v2589] : Fin 1 → IVec S16 32) a x).toNat < S32000.size a := fun v2589 k0_hw1764 => k0_hw1764

def k0_chk1765 (v664 : IVec S16 32) (v2640 : IVec S16 32) : Prop :=
  (∀ a x, ((![v2640, v664] : Fin 2 → IVec S16 32) a x).toNat < S64x512.size a)
theorem k0_idx1765_inb : ∀ (v664 : IVec S16 32) (v2640 : IVec S16 32) (k0_hw1765 : k0_chk1765 v664 v2640), ∀ a x, ((![v2640, v664] : Fin 2 → IVec S16 32) a x).toNat < S64x512.size a := fun v664 v2640 k0_hw1765 => k0_hw1765

def k0_chk1766 (v664 : IVec S16 32) (v2642 : IVec S16 32) : Prop :=
  (∀ a x, ((![v2642, v664] : Fin 2 → IVec S16 32) a x).toNat < S64x512.size a)
theorem k0_idx1766_inb : ∀ (v664 : IVec S16 32) (v2642 : IVec S16 32) (k0_hw1766 : k0_chk1766 v664 v2642), ∀ a x, ((![v2642, v664] : Fin 2 → IVec S16 32) a x).toNat < S64x512.size a := fun v664 v2642 k0_hw1766 => k0_hw1766

def k0_chk1767 (v2649 : IVec S16 32) : Prop :=
  (∀ a x, ((![v2649] : Fin 1 → IVec S16 32) a x).toNat < S32000.size a)
theorem k0_idx1767_inb : ∀ (v2649 : IVec S16 32) (k0_hw1767 : k0_chk1767 v2649), ∀ a x, ((![v2649] : Fin 1 → IVec S16 32) a x).toNat < S32000.size a := fun v2649 k0_hw1767 => k0_hw1767

def k0_chk1768 (v2651 : IVec S16 32) : Prop :=
  (∀ a x, ((![v2651] : Fin 1 → IVec S16 32) a x).toNat < S32000.size a)
theorem k0_idx1768_inb : ∀ (v2651 : IVec S16 32) (k0_hw1768 : k0_chk1768 v2651), ∀ a x, ((![v2651] : Fin 1 → IVec S16 32) a x).toNat < S32000.size a := fun v2651 k0_hw1768 => k0_hw1768

def k0_chk1769 (v2653 : IVec S16 32) : Prop :=
  (∀ a x, ((![v2653] : Fin 1 → IVec S16 32) a x).toNat < S32000.size a)
theorem k0_idx1769_inb : ∀ (v2653 : IVec S16 32) (k0_hw1769 : k0_chk1769 v2653), ∀ a x, ((![v2653] : Fin 1 → IVec S16 32) a x).toNat < S32000.size a := fun v2653 k0_hw1769 => k0_hw1769

def k0_chk1770 (v2655 : IVec S16 32) : Prop :=
  (∀ a x, ((![v2655] : Fin 1 → IVec S16 32) a x).toNat < S32000.size a)
theorem k0_idx1770_inb : ∀ (v2655 : IVec S16 32) (k0_hw1770 : k0_chk1770 v2655), ∀ a x, ((![v2655] : Fin 1 → IVec S16 32) a x).toNat < S32000.size a := fun v2655 k0_hw1770 => k0_hw1770

def k0_chk1771 (v2657 : IVec S16 32) : Prop :=
  (∀ a x, ((![v2657] : Fin 1 → IVec S16 32) a x).toNat < S32000.size a)
theorem k0_idx1771_inb : ∀ (v2657 : IVec S16 32) (k0_hw1771 : k0_chk1771 v2657), ∀ a x, ((![v2657] : Fin 1 → IVec S16 32) a x).toNat < S32000.size a := fun v2657 k0_hw1771 => k0_hw1771

def k0_chk1772 (v2659 : IVec S16 32) : Prop :=
  (∀ a x, ((![v2659] : Fin 1 → IVec S16 32) a x).toNat < S32000.size a)
theorem k0_idx1772_inb : ∀ (v2659 : IVec S16 32) (k0_hw1772 : k0_chk1772 v2659), ∀ a x, ((![v2659] : Fin 1 → IVec S16 32) a x).toNat < S32000.size a := fun v2659 k0_hw1772 => k0_hw1772

def k0_chk1773 (v664 : IVec S16 32) (v2710 : IVec S16 32) : Prop :=
  (∀ a x, ((![v2710, v664] : Fin 2 → IVec S16 32) a x).toNat < S64x512.size a)
theorem k0_idx1773_inb : ∀ (v664 : IVec S16 32) (v2710 : IVec S16 32) (k0_hw1773 : k0_chk1773 v664 v2710), ∀ a x, ((![v2710, v664] : Fin 2 → IVec S16 32) a x).toNat < S64x512.size a := fun v664 v2710 k0_hw1773 => k0_hw1773

def k0_chk1774 (v664 : IVec S16 32) (v2712 : IVec S16 32) : Prop :=
  (∀ a x, ((![v2712, v664] : Fin 2 → IVec S16 32) a x).toNat < S64x512.size a)
theorem k0_idx1774_inb : ∀ (v664 : IVec S16 32) (v2712 : IVec S16 32) (k0_hw1774 : k0_chk1774 v664 v2712), ∀ a x, ((![v2712, v664] : Fin 2 → IVec S16 32) a x).toNat < S64x512.size a := fun v664 v2712 k0_hw1774 => k0_hw1774

def k0_chk1775 (v2719 : IVec S16 32) : Prop :=
  (∀ a x, ((![v2719] : Fin 1 → IVec S16 32) a x).toNat < S32000.size a)
theorem k0_idx1775_inb : ∀ (v2719 : IVec S16 32) (k0_hw1775 : k0_chk1775 v2719), ∀ a x, ((![v2719] : Fin 1 → IVec S16 32) a x).toNat < S32000.size a := fun v2719 k0_hw1775 => k0_hw1775

def k0_chk1776 (v2721 : IVec S16 32) : Prop :=
  (∀ a x, ((![v2721] : Fin 1 → IVec S16 32) a x).toNat < S32000.size a)
theorem k0_idx1776_inb : ∀ (v2721 : IVec S16 32) (k0_hw1776 : k0_chk1776 v2721), ∀ a x, ((![v2721] : Fin 1 → IVec S16 32) a x).toNat < S32000.size a := fun v2721 k0_hw1776 => k0_hw1776

def k0_chk1777 (v2723 : IVec S16 32) : Prop :=
  (∀ a x, ((![v2723] : Fin 1 → IVec S16 32) a x).toNat < S32000.size a)
theorem k0_idx1777_inb : ∀ (v2723 : IVec S16 32) (k0_hw1777 : k0_chk1777 v2723), ∀ a x, ((![v2723] : Fin 1 → IVec S16 32) a x).toNat < S32000.size a := fun v2723 k0_hw1777 => k0_hw1777

def k0_chk1778 (v2725 : IVec S16 32) : Prop :=
  (∀ a x, ((![v2725] : Fin 1 → IVec S16 32) a x).toNat < S32000.size a)
theorem k0_idx1778_inb : ∀ (v2725 : IVec S16 32) (k0_hw1778 : k0_chk1778 v2725), ∀ a x, ((![v2725] : Fin 1 → IVec S16 32) a x).toNat < S32000.size a := fun v2725 k0_hw1778 => k0_hw1778

def k0_chk1779 (v2727 : IVec S16 32) : Prop :=
  (∀ a x, ((![v2727] : Fin 1 → IVec S16 32) a x).toNat < S32000.size a)
theorem k0_idx1779_inb : ∀ (v2727 : IVec S16 32) (k0_hw1779 : k0_chk1779 v2727), ∀ a x, ((![v2727] : Fin 1 → IVec S16 32) a x).toNat < S32000.size a := fun v2727 k0_hw1779 => k0_hw1779

def k0_chk1780 (v2729 : IVec S16 32) : Prop :=
  (∀ a x, ((![v2729] : Fin 1 → IVec S16 32) a x).toNat < S32000.size a)
theorem k0_idx1780_inb : ∀ (v2729 : IVec S16 32) (k0_hw1780 : k0_chk1780 v2729), ∀ a x, ((![v2729] : Fin 1 → IVec S16 32) a x).toNat < S32000.size a := fun v2729 k0_hw1780 => k0_hw1780

def k0_chk1781 (v664 : IVec S16 32) (v2780 : IVec S16 32) : Prop :=
  (∀ a x, ((![v2780, v664] : Fin 2 → IVec S16 32) a x).toNat < S64x512.size a)
theorem k0_idx1781_inb : ∀ (v664 : IVec S16 32) (v2780 : IVec S16 32) (k0_hw1781 : k0_chk1781 v664 v2780), ∀ a x, ((![v2780, v664] : Fin 2 → IVec S16 32) a x).toNat < S64x512.size a := fun v664 v2780 k0_hw1781 => k0_hw1781

def k0_chk1782 (v664 : IVec S16 32) (v2782 : IVec S16 32) : Prop :=
  (∀ a x, ((![v2782, v664] : Fin 2 → IVec S16 32) a x).toNat < S64x512.size a)
theorem k0_idx1782_inb : ∀ (v664 : IVec S16 32) (v2782 : IVec S16 32) (k0_hw1782 : k0_chk1782 v664 v2782), ∀ a x, ((![v2782, v664] : Fin 2 → IVec S16 32) a x).toNat < S64x512.size a := fun v664 v2782 k0_hw1782 => k0_hw1782

def k0_chk1783 (v2789 : IVec S16 32) : Prop :=
  (∀ a x, ((![v2789] : Fin 1 → IVec S16 32) a x).toNat < S32000.size a)
theorem k0_idx1783_inb : ∀ (v2789 : IVec S16 32) (k0_hw1783 : k0_chk1783 v2789), ∀ a x, ((![v2789] : Fin 1 → IVec S16 32) a x).toNat < S32000.size a := fun v2789 k0_hw1783 => k0_hw1783

def k0_chk1784 (v2791 : IVec S16 32) : Prop :=
  (∀ a x, ((![v2791] : Fin 1 → IVec S16 32) a x).toNat < S32000.size a)
theorem k0_idx1784_inb : ∀ (v2791 : IVec S16 32) (k0_hw1784 : k0_chk1784 v2791), ∀ a x, ((![v2791] : Fin 1 → IVec S16 32) a x).toNat < S32000.size a := fun v2791 k0_hw1784 => k0_hw1784

def k0_chk1785 (v2793 : IVec S16 32) : Prop :=
  (∀ a x, ((![v2793] : Fin 1 → IVec S16 32) a x).toNat < S32000.size a)
theorem k0_idx1785_inb : ∀ (v2793 : IVec S16 32) (k0_hw1785 : k0_chk1785 v2793), ∀ a x, ((![v2793] : Fin 1 → IVec S16 32) a x).toNat < S32000.size a := fun v2793 k0_hw1785 => k0_hw1785

def k0_chk1786 (v2795 : IVec S16 32) : Prop :=
  (∀ a x, ((![v2795] : Fin 1 → IVec S16 32) a x).toNat < S32000.size a)
theorem k0_idx1786_inb : ∀ (v2795 : IVec S16 32) (k0_hw1786 : k0_chk1786 v2795), ∀ a x, ((![v2795] : Fin 1 → IVec S16 32) a x).toNat < S32000.size a := fun v2795 k0_hw1786 => k0_hw1786

def k0_chk1787 (v2797 : IVec S16 32) : Prop :=
  (∀ a x, ((![v2797] : Fin 1 → IVec S16 32) a x).toNat < S32000.size a)
theorem k0_idx1787_inb : ∀ (v2797 : IVec S16 32) (k0_hw1787 : k0_chk1787 v2797), ∀ a x, ((![v2797] : Fin 1 → IVec S16 32) a x).toNat < S32000.size a := fun v2797 k0_hw1787 => k0_hw1787

def k0_chk1788 (v2799 : IVec S16 32) : Prop :=
  (∀ a x, ((![v2799] : Fin 1 → IVec S16 32) a x).toNat < S32000.size a)
theorem k0_idx1788_inb : ∀ (v2799 : IVec S16 32) (k0_hw1788 : k0_chk1788 v2799), ∀ a x, ((![v2799] : Fin 1 → IVec S16 32) a x).toNat < S32000.size a := fun v2799 k0_hw1788 => k0_hw1788

def k0_chk1789 (v664 : IVec S16 32) (v2850 : IVec S16 32) : Prop :=
  (∀ a x, ((![v2850, v664] : Fin 2 → IVec S16 32) a x).toNat < S64x512.size a)
theorem k0_idx1789_inb : ∀ (v664 : IVec S16 32) (v2850 : IVec S16 32) (k0_hw1789 : k0_chk1789 v664 v2850), ∀ a x, ((![v2850, v664] : Fin 2 → IVec S16 32) a x).toNat < S64x512.size a := fun v664 v2850 k0_hw1789 => k0_hw1789

def k0_chk1790 (v664 : IVec S16 32) (v2852 : IVec S16 32) : Prop :=
  (∀ a x, ((![v2852, v664] : Fin 2 → IVec S16 32) a x).toNat < S64x512.size a)
theorem k0_idx1790_inb : ∀ (v664 : IVec S16 32) (v2852 : IVec S16 32) (k0_hw1790 : k0_chk1790 v664 v2852), ∀ a x, ((![v2852, v664] : Fin 2 → IVec S16 32) a x).toNat < S64x512.size a := fun v664 v2852 k0_hw1790 => k0_hw1790

def k0_chk1791 (v664 : IVec S16 32) (v2902 : IVec S16 32) : Prop :=
  (∀ a x, ((![v2902, v664] : Fin 2 → IVec S16 32) a x).toNat < S64x512.size a)
theorem k0_idx1791_inb : ∀ (v664 : IVec S16 32) (v2902 : IVec S16 32) (k0_hw1791 : k0_chk1791 v664 v2902), ∀ a x, ((![v2902, v664] : Fin 2 → IVec S16 32) a x).toNat < S64x512.size a := fun v664 v2902 k0_hw1791 => k0_hw1791

def k0_chk1792 (v664 : IVec S16 32) (v2904 : IVec S16 32) : Prop :=
  (∀ a x, ((![v2904, v664] : Fin 2 → IVec S16 32) a x).toNat < S64x512.size a)
theorem k0_idx1792_inb : ∀ (v664 : IVec S16 32) (v2904 : IVec S16 32) (k0_hw1792 : k0_chk1792 v664 v2904), ∀ a x, ((![v2904, v664] : Fin 2 → IVec S16 32) a x).toNat < S64x512.size a := fun v664 v2904 k0_hw1792 => k0_hw1792
@[reducible] def k0_t8_loop : Scf.Loop 32 :=
  let c0_i32_324 : BitVec 32 := 0#32
  let c32_i32_325 : BitVec 32 := 32#32
  let v583 : BitVec 32 := Scalar.addi c0_i32_324 c32_i32_325
  let c1_i32_326 : BitVec 32 := 1#32
  ⟨c0_i32_324, v583, c1_i32_326⟩
def k0_off45 (k0_t8 : Fin k0_t8_loop.trips) : Fin 2 → Nat :=
  let c0_i32_350 : BitVec 32 := 0#32
  let v627 : Index := Scalar.indexCast c0_i32_350
  let c0_i32_324 : BitVec 32 := 0#32
  let c1_i32_326 : BitVec 32 := 1#32
  let arg14 : BitVec 32 := Scf.iv c0_i32_324 c1_i32_326 k0_t8
  let c16_i32 : BitVec 32 := 16#32
  let v626 : BitVec 32 := Scalar.muli arg14 c16_i32
  let v628 : Index := Scalar.indexCast v626
  ![0, v628.toNat]
def k0_off46 (k0_t8 : Fin k0_t8_loop.trips) : Fin 2 → Nat :=
  let c1_i32_353 : BitVec 32 := 1#32
  let v633 : Index := Scalar.indexCast c1_i32_353
  let c0_i32_324 : BitVec 32 := 0#32
  let c1_i32_326 : BitVec 32 := 1#32
  let arg14 : BitVec 32 := Scf.iv c0_i32_324 c1_i32_326 k0_t8
  let c16_i32_352 : BitVec 32 := 16#32
  let v632 : BitVec 32 := Scalar.muli arg14 c16_i32_352
  let v634 : Index := Scalar.indexCast v632
  ![1, v634.toNat]
def k0_off47 (k0_t8 : Fin k0_t8_loop.trips) : Fin 2 → Nat :=
  let c2_i32_356 : BitVec 32 := 2#32
  let v639 : Index := Scalar.indexCast c2_i32_356
  let c0_i32_324 : BitVec 32 := 0#32
  let c1_i32_326 : BitVec 32 := 1#32
  let arg14 : BitVec 32 := Scf.iv c0_i32_324 c1_i32_326 k0_t8
  let c16_i32_355 : BitVec 32 := 16#32
  let v638 : BitVec 32 := Scalar.muli arg14 c16_i32_355
  let v640 : Index := Scalar.indexCast v638
  ![2, v640.toNat]
def k0_off48 (k0_t8 : Fin k0_t8_loop.trips) : Fin 2 → Nat :=
  let c3_i32_359 : BitVec 32 := 3#32
  let v645 : Index := Scalar.indexCast c3_i32_359
  let c0_i32_324 : BitVec 32 := 0#32
  let c1_i32_326 : BitVec 32 := 1#32
  let arg14 : BitVec 32 := Scf.iv c0_i32_324 c1_i32_326 k0_t8
  let c16_i32_358 : BitVec 32 := 16#32
  let v644 : BitVec 32 := Scalar.muli arg14 c16_i32_358
  let v646 : Index := Scalar.indexCast v644
  ![3, v646.toNat]
def k0_off49 (k0_t8 : Fin k0_t8_loop.trips) : Fin 2 → Nat :=
  let c4_i32_362 : BitVec 32 := 4#32
  let v651 : Index := Scalar.indexCast c4_i32_362
  let c0_i32_324 : BitVec 32 := 0#32
  let c1_i32_326 : BitVec 32 := 1#32
  let arg14 : BitVec 32 := Scf.iv c0_i32_324 c1_i32_326 k0_t8
  let c16_i32_361 : BitVec 32 := 16#32
  let v650 : BitVec 32 := Scalar.muli arg14 c16_i32_361
  let v652 : Index := Scalar.indexCast v650
  ![4, v652.toNat]
def k0_off50 (k0_t8 : Fin k0_t8_loop.trips) : Fin 2 → Nat :=
  let c5_i32_365 : BitVec 32 := 5#32
  let v657 : Index := Scalar.indexCast c5_i32_365
  let c0_i32_324 : BitVec 32 := 0#32
  let c1_i32_326 : BitVec 32 := 1#32
  let arg14 : BitVec 32 := Scf.iv c0_i32_324 c1_i32_326 k0_t8
  let c16_i32_364 : BitVec 32 := 16#32
  let v656 : BitVec 32 := Scalar.muli arg14 c16_i32_364
  let v658 : Index := Scalar.indexCast v656
  ![5, v658.toNat]

def k0_chk1793 (v671 : IVec S16 32) : Prop :=
  (∀ a x, ((![v671] : Fin 1 → IVec S16 32) a x).toNat < S32000.size a)
theorem k0_idx1793_inb : ∀ (v671 : IVec S16 32) (k0_hw1793 : k0_chk1793 v671), ∀ a x, ((![v671] : Fin 1 → IVec S16 32) a x).toNat < S32000.size a := fun v671 k0_hw1793 => k0_hw1793

def k0_chk1794 (v673 : IVec S16 32) : Prop :=
  (∀ a x, ((![v673] : Fin 1 → IVec S16 32) a x).toNat < S32000.size a)
theorem k0_idx1794_inb : ∀ (v673 : IVec S16 32) (k0_hw1794 : k0_chk1794 v673), ∀ a x, ((![v673] : Fin 1 → IVec S16 32) a x).toNat < S32000.size a := fun v673 k0_hw1794 => k0_hw1794

def k0_chk1795 (v675 : IVec S16 32) : Prop :=
  (∀ a x, ((![v675] : Fin 1 → IVec S16 32) a x).toNat < S32000.size a)
theorem k0_idx1795_inb : ∀ (v675 : IVec S16 32) (k0_hw1795 : k0_chk1795 v675), ∀ a x, ((![v675] : Fin 1 → IVec S16 32) a x).toNat < S32000.size a := fun v675 k0_hw1795 => k0_hw1795

def k0_chk1796 (v677 : IVec S16 32) : Prop :=
  (∀ a x, ((![v677] : Fin 1 → IVec S16 32) a x).toNat < S32000.size a)
theorem k0_idx1796_inb : ∀ (v677 : IVec S16 32) (k0_hw1796 : k0_chk1796 v677), ∀ a x, ((![v677] : Fin 1 → IVec S16 32) a x).toNat < S32000.size a := fun v677 k0_hw1796 => k0_hw1796

def k0_chk1797 (v679 : IVec S16 32) : Prop :=
  (∀ a x, ((![v679] : Fin 1 → IVec S16 32) a x).toNat < S32000.size a)
theorem k0_idx1797_inb : ∀ (v679 : IVec S16 32) (k0_hw1797 : k0_chk1797 v679), ∀ a x, ((![v679] : Fin 1 → IVec S16 32) a x).toNat < S32000.size a := fun v679 k0_hw1797 => k0_hw1797

def k0_chk1798 (v681 : IVec S16 32) : Prop :=
  (∀ a x, ((![v681] : Fin 1 → IVec S16 32) a x).toNat < S32000.size a)
theorem k0_idx1798_inb : ∀ (v681 : IVec S16 32) (k0_hw1798 : k0_chk1798 v681), ∀ a x, ((![v681] : Fin 1 → IVec S16 32) a x).toNat < S32000.size a := fun v681 k0_hw1798 => k0_hw1798

def k0_chk1799 (v689 : IVec S16 32) : Prop :=
  (∀ a x, ((![v689] : Fin 1 → IVec S16 32) a x).toNat < S32000.size a)
theorem k0_idx1799_inb : ∀ (v689 : IVec S16 32) (k0_hw1799 : k0_chk1799 v689), ∀ a x, ((![v689] : Fin 1 → IVec S16 32) a x).toNat < S32000.size a := fun v689 k0_hw1799 => k0_hw1799

def k0_chk1800 (v691 : IVec S16 32) : Prop :=
  (∀ a x, ((![v691] : Fin 1 → IVec S16 32) a x).toNat < S32000.size a)
theorem k0_idx1800_inb : ∀ (v691 : IVec S16 32) (k0_hw1800 : k0_chk1800 v691), ∀ a x, ((![v691] : Fin 1 → IVec S16 32) a x).toNat < S32000.size a := fun v691 k0_hw1800 => k0_hw1800

def k0_chk1801 (v693 : IVec S16 32) : Prop :=
  (∀ a x, ((![v693] : Fin 1 → IVec S16 32) a x).toNat < S32000.size a)
theorem k0_idx1801_inb : ∀ (v693 : IVec S16 32) (k0_hw1801 : k0_chk1801 v693), ∀ a x, ((![v693] : Fin 1 → IVec S16 32) a x).toNat < S32000.size a := fun v693 k0_hw1801 => k0_hw1801

def k0_chk1802 (v695 : IVec S16 32) : Prop :=
  (∀ a x, ((![v695] : Fin 1 → IVec S16 32) a x).toNat < S32000.size a)
theorem k0_idx1802_inb : ∀ (v695 : IVec S16 32) (k0_hw1802 : k0_chk1802 v695), ∀ a x, ((![v695] : Fin 1 → IVec S16 32) a x).toNat < S32000.size a := fun v695 k0_hw1802 => k0_hw1802

def k0_chk1803 (v697 : IVec S16 32) : Prop :=
  (∀ a x, ((![v697] : Fin 1 → IVec S16 32) a x).toNat < S32000.size a)
theorem k0_idx1803_inb : ∀ (v697 : IVec S16 32) (k0_hw1803 : k0_chk1803 v697), ∀ a x, ((![v697] : Fin 1 → IVec S16 32) a x).toNat < S32000.size a := fun v697 k0_hw1803 => k0_hw1803

def k0_chk1804 (v699 : IVec S16 32) : Prop :=
  (∀ a x, ((![v699] : Fin 1 → IVec S16 32) a x).toNat < S32000.size a)
theorem k0_idx1804_inb : ∀ (v699 : IVec S16 32) (k0_hw1804 : k0_chk1804 v699), ∀ a x, ((![v699] : Fin 1 → IVec S16 32) a x).toNat < S32000.size a := fun v699 k0_hw1804 => k0_hw1804

def k0_chk1805 (v664 : IVec S16 32) (v750 : IVec S16 32) : Prop :=
  (∀ a x, ((![v750, v664] : Fin 2 → IVec S16 32) a x).toNat < S64x512.size a)
theorem k0_idx1805_inb : ∀ (v664 : IVec S16 32) (v750 : IVec S16 32) (k0_hw1805 : k0_chk1805 v664 v750), ∀ a x, ((![v750, v664] : Fin 2 → IVec S16 32) a x).toNat < S64x512.size a := fun v664 v750 k0_hw1805 => k0_hw1805

def k0_chk1806 (v664 : IVec S16 32) (v752 : IVec S16 32) : Prop :=
  (∀ a x, ((![v752, v664] : Fin 2 → IVec S16 32) a x).toNat < S64x512.size a)
theorem k0_idx1806_inb : ∀ (v664 : IVec S16 32) (v752 : IVec S16 32) (k0_hw1806 : k0_chk1806 v664 v752), ∀ a x, ((![v752, v664] : Fin 2 → IVec S16 32) a x).toNat < S64x512.size a := fun v664 v752 k0_hw1806 => k0_hw1806

def k0_chk1807 (v759 : IVec S16 32) : Prop :=
  (∀ a x, ((![v759] : Fin 1 → IVec S16 32) a x).toNat < S32000.size a)
theorem k0_idx1807_inb : ∀ (v759 : IVec S16 32) (k0_hw1807 : k0_chk1807 v759), ∀ a x, ((![v759] : Fin 1 → IVec S16 32) a x).toNat < S32000.size a := fun v759 k0_hw1807 => k0_hw1807

def k0_chk1808 (v761 : IVec S16 32) : Prop :=
  (∀ a x, ((![v761] : Fin 1 → IVec S16 32) a x).toNat < S32000.size a)
theorem k0_idx1808_inb : ∀ (v761 : IVec S16 32) (k0_hw1808 : k0_chk1808 v761), ∀ a x, ((![v761] : Fin 1 → IVec S16 32) a x).toNat < S32000.size a := fun v761 k0_hw1808 => k0_hw1808

def k0_chk1809 (v763 : IVec S16 32) : Prop :=
  (∀ a x, ((![v763] : Fin 1 → IVec S16 32) a x).toNat < S32000.size a)
theorem k0_idx1809_inb : ∀ (v763 : IVec S16 32) (k0_hw1809 : k0_chk1809 v763), ∀ a x, ((![v763] : Fin 1 → IVec S16 32) a x).toNat < S32000.size a := fun v763 k0_hw1809 => k0_hw1809

variable {F : FTy → Type} [FloatOps F]

def k0_chk1810 (v765 : IVec S16 32) : Prop :=
  (∀ a x, ((![v765] : Fin 1 → IVec S16 32) a x).toNat < S32000.size a)
theorem k0_idx1810_inb : ∀ (v765 : IVec S16 32) (k0_hw1810 : k0_chk1810 v765), ∀ a x, ((![v765] : Fin 1 → IVec S16 32) a x).toNat < S32000.size a := fun v765 k0_hw1810 => k0_hw1810

def k0_chk1811 (v767 : IVec S16 32) : Prop :=
  (∀ a x, ((![v767] : Fin 1 → IVec S16 32) a x).toNat < S32000.size a)
theorem k0_idx1811_inb : ∀ (v767 : IVec S16 32) (k0_hw1811 : k0_chk1811 v767), ∀ a x, ((![v767] : Fin 1 → IVec S16 32) a x).toNat < S32000.size a := fun v767 k0_hw1811 => k0_hw1811

def k0_chk1812 (v769 : IVec S16 32) : Prop :=
  (∀ a x, ((![v769] : Fin 1 → IVec S16 32) a x).toNat < S32000.size a)
theorem k0_idx1812_inb : ∀ (v769 : IVec S16 32) (k0_hw1812 : k0_chk1812 v769), ∀ a x, ((![v769] : Fin 1 → IVec S16 32) a x).toNat < S32000.size a := fun v769 k0_hw1812 => k0_hw1812

def k0_chk1813 (v664 : IVec S16 32) (v820 : IVec S16 32) : Prop :=
  (∀ a x, ((![v820, v664] : Fin 2 → IVec S16 32) a x).toNat < S64x512.size a)
theorem k0_idx1813_inb : ∀ (v664 : IVec S16 32) (v820 : IVec S16 32) (k0_hw1813 : k0_chk1813 v664 v820), ∀ a x, ((![v820, v664] : Fin 2 → IVec S16 32) a x).toNat < S64x512.size a := fun v664 v820 k0_hw1813 => k0_hw1813

def k0_chk1814 (v664 : IVec S16 32) (v822 : IVec S16 32) : Prop :=
  (∀ a x, ((![v822, v664] : Fin 2 → IVec S16 32) a x).toNat < S64x512.size a)
theorem k0_idx1814_inb : ∀ (v664 : IVec S16 32) (v822 : IVec S16 32) (k0_hw1814 : k0_chk1814 v664 v822), ∀ a x, ((![v822, v664] : Fin 2 → IVec S16 32) a x).toNat < S64x512.size a := fun v664 v822 k0_hw1814 => k0_hw1814

def k0_chk1815 (v829 : IVec S16 32) : Prop :=
  (∀ a x, ((![v829] : Fin 1 → IVec S16 32) a x).toNat < S32000.size a)
theorem k0_idx1815_inb : ∀ (v829 : IVec S16 32) (k0_hw1815 : k0_chk1815 v829), ∀ a x, ((![v829] : Fin 1 → IVec S16 32) a x).toNat < S32000.size a := fun v829 k0_hw1815 => k0_hw1815

def k0_chk1816 (v831 : IVec S16 32) : Prop :=
  (∀ a x, ((![v831] : Fin 1 → IVec S16 32) a x).toNat < S32000.size a)
theorem k0_idx1816_inb : ∀ (v831 : IVec S16 32) (k0_hw1816 : k0_chk1816 v831), ∀ a x, ((![v831] : Fin 1 → IVec S16 32) a x).toNat < S32000.size a := fun v831 k0_hw1816 => k0_hw1816

def k0_chk1817 (v833 : IVec S16 32) : Prop :=
  (∀ a x, ((![v833] : Fin 1 → IVec S16 32) a x).toNat < S32000.size a)
theorem k0_idx1817_inb : ∀ (v833 : IVec S16 32) (k0_hw1817 : k0_chk1817 v833), ∀ a x, ((![v833] : Fin 1 → IVec S16 32) a x).toNat < S32000.size a := fun v833 k0_hw1817 => k0_hw1817

def k0_chk1818 (v835 : IVec S16 32) : Prop :=
  (∀ a x, ((![v835] : Fin 1 → IVec S16 32) a x).toNat < S32000.size a)
theorem k0_idx1818_inb : ∀ (v835 : IVec S16 32) (k0_hw1818 : k0_chk1818 v835), ∀ a x, ((![v835] : Fin 1 → IVec S16 32) a x).toNat < S32000.size a := fun v835 k0_hw1818 => k0_hw1818

def k0_chk1819 (v837 : IVec S16 32) : Prop :=
  (∀ a x, ((![v837] : Fin 1 → IVec S16 32) a x).toNat < S32000.size a)
theorem k0_idx1819_inb : ∀ (v837 : IVec S16 32) (k0_hw1819 : k0_chk1819 v837), ∀ a x, ((![v837] : Fin 1 → IVec S16 32) a x).toNat < S32000.size a := fun v837 k0_hw1819 => k0_hw1819

def k0_chk1820 (v839 : IVec S16 32) : Prop :=
  (∀ a x, ((![v839] : Fin 1 → IVec S16 32) a x).toNat < S32000.size a)
theorem k0_idx1820_inb : ∀ (v839 : IVec S16 32) (k0_hw1820 : k0_chk1820 v839), ∀ a x, ((![v839] : Fin 1 → IVec S16 32) a x).toNat < S32000.size a := fun v839 k0_hw1820 => k0_hw1820

def k0_chk1821 (v664 : IVec S16 32) (v890 : IVec S16 32) : Prop :=
  (∀ a x, ((![v890, v664] : Fin 2 → IVec S16 32) a x).toNat < S64x512.size a)
theorem k0_idx1821_inb : ∀ (v664 : IVec S16 32) (v890 : IVec S16 32) (k0_hw1821 : k0_chk1821 v664 v890), ∀ a x, ((![v890, v664] : Fin 2 → IVec S16 32) a x).toNat < S64x512.size a := fun v664 v890 k0_hw1821 => k0_hw1821

def k0_chk1822 (v664 : IVec S16 32) (v892 : IVec S16 32) : Prop :=
  (∀ a x, ((![v892, v664] : Fin 2 → IVec S16 32) a x).toNat < S64x512.size a)
theorem k0_idx1822_inb : ∀ (v664 : IVec S16 32) (v892 : IVec S16 32) (k0_hw1822 : k0_chk1822 v664 v892), ∀ a x, ((![v892, v664] : Fin 2 → IVec S16 32) a x).toNat < S64x512.size a := fun v664 v892 k0_hw1822 => k0_hw1822

def k0_chk1823 (v899 : IVec S16 32) : Prop :=
  (∀ a x, ((![v899] : Fin 1 → IVec S16 32) a x).toNat < S32000.size a)
theorem k0_idx1823_inb : ∀ (v899 : IVec S16 32) (k0_hw1823 : k0_chk1823 v899), ∀ a x, ((![v899] : Fin 1 → IVec S16 32) a x).toNat < S32000.size a := fun v899 k0_hw1823 => k0_hw1823

def k0_chk1824 (v901 : IVec S16 32) : Prop :=
  (∀ a x, ((![v901] : Fin 1 → IVec S16 32) a x).toNat < S32000.size a)
theorem k0_idx1824_inb : ∀ (v901 : IVec S16 32) (k0_hw1824 : k0_chk1824 v901), ∀ a x, ((![v901] : Fin 1 → IVec S16 32) a x).toNat < S32000.size a := fun v901 k0_hw1824 => k0_hw1824

def k0_chk1825 (v903 : IVec S16 32) : Prop :=
  (∀ a x, ((![v903] : Fin 1 → IVec S16 32) a x).toNat < S32000.size a)
theorem k0_idx1825_inb : ∀ (v903 : IVec S16 32) (k0_hw1825 : k0_chk1825 v903), ∀ a x, ((![v903] : Fin 1 → IVec S16 32) a x).toNat < S32000.size a := fun v903 k0_hw1825 => k0_hw1825

def k0_chk1826 (v905 : IVec S16 32) : Prop :=
  (∀ a x, ((![v905] : Fin 1 → IVec S16 32) a x).toNat < S32000.size a)
theorem k0_idx1826_inb : ∀ (v905 : IVec S16 32) (k0_hw1826 : k0_chk1826 v905), ∀ a x, ((![v905] : Fin 1 → IVec S16 32) a x).toNat < S32000.size a := fun v905 k0_hw1826 => k0_hw1826

def k0_chk1827 (v907 : IVec S16 32) : Prop :=
  (∀ a x, ((![v907] : Fin 1 → IVec S16 32) a x).toNat < S32000.size a)
theorem k0_idx1827_inb : ∀ (v907 : IVec S16 32) (k0_hw1827 : k0_chk1827 v907), ∀ a x, ((![v907] : Fin 1 → IVec S16 32) a x).toNat < S32000.size a := fun v907 k0_hw1827 => k0_hw1827

def k0_chk1828 (v909 : IVec S16 32) : Prop :=
  (∀ a x, ((![v909] : Fin 1 → IVec S16 32) a x).toNat < S32000.size a)
theorem k0_idx1828_inb : ∀ (v909 : IVec S16 32) (k0_hw1828 : k0_chk1828 v909), ∀ a x, ((![v909] : Fin 1 → IVec S16 32) a x).toNat < S32000.size a := fun v909 k0_hw1828 => k0_hw1828

def k0_chk1829 (v664 : IVec S16 32) (v960 : IVec S16 32) : Prop :=
  (∀ a x, ((![v960, v664] : Fin 2 → IVec S16 32) a x).toNat < S64x512.size a)
theorem k0_idx1829_inb : ∀ (v664 : IVec S16 32) (v960 : IVec S16 32) (k0_hw1829 : k0_chk1829 v664 v960), ∀ a x, ((![v960, v664] : Fin 2 → IVec S16 32) a x).toNat < S64x512.size a := fun v664 v960 k0_hw1829 => k0_hw1829

def k0_chk1830 (v664 : IVec S16 32) (v962 : IVec S16 32) : Prop :=
  (∀ a x, ((![v962, v664] : Fin 2 → IVec S16 32) a x).toNat < S64x512.size a)
theorem k0_idx1830_inb : ∀ (v664 : IVec S16 32) (v962 : IVec S16 32) (k0_hw1830 : k0_chk1830 v664 v962), ∀ a x, ((![v962, v664] : Fin 2 → IVec S16 32) a x).toNat < S64x512.size a := fun v664 v962 k0_hw1830 => k0_hw1830

def k0_chk1831 (v969 : IVec S16 32) : Prop :=
  (∀ a x, ((![v969] : Fin 1 → IVec S16 32) a x).toNat < S32000.size a)
theorem k0_idx1831_inb : ∀ (v969 : IVec S16 32) (k0_hw1831 : k0_chk1831 v969), ∀ a x, ((![v969] : Fin 1 → IVec S16 32) a x).toNat < S32000.size a := fun v969 k0_hw1831 => k0_hw1831

def k0_chk1832 (v971 : IVec S16 32) : Prop :=
  (∀ a x, ((![v971] : Fin 1 → IVec S16 32) a x).toNat < S32000.size a)
theorem k0_idx1832_inb : ∀ (v971 : IVec S16 32) (k0_hw1832 : k0_chk1832 v971), ∀ a x, ((![v971] : Fin 1 → IVec S16 32) a x).toNat < S32000.size a := fun v971 k0_hw1832 => k0_hw1832

def k0_chk1833 (v973 : IVec S16 32) : Prop :=
  (∀ a x, ((![v973] : Fin 1 → IVec S16 32) a x).toNat < S32000.size a)
theorem k0_idx1833_inb : ∀ (v973 : IVec S16 32) (k0_hw1833 : k0_chk1833 v973), ∀ a x, ((![v973] : Fin 1 → IVec S16 32) a x).toNat < S32000.size a := fun v973 k0_hw1833 => k0_hw1833

def k0_chk1834 (v975 : IVec S16 32) : Prop :=
  (∀ a x, ((![v975] : Fin 1 → IVec S16 32) a x).toNat < S32000.size a)
theorem k0_idx1834_inb : ∀ (v975 : IVec S16 32) (k0_hw1834 : k0_chk1834 v975), ∀ a x, ((![v975] : Fin 1 → IVec S16 32) a x).toNat < S32000.size a := fun v975 k0_hw1834 => k0_hw1834

def k0_chk1835 (v977 : IVec S16 32) : Prop :=
  (∀ a x, ((![v977] : Fin 1 → IVec S16 32) a x).toNat < S32000.size a)
theorem k0_idx1835_inb : ∀ (v977 : IVec S16 32) (k0_hw1835 : k0_chk1835 v977), ∀ a x, ((![v977] : Fin 1 → IVec S16 32) a x).toNat < S32000.size a := fun v977 k0_hw1835 => k0_hw1835

def k0_chk1836 (v979 : IVec S16 32) : Prop :=
  (∀ a x, ((![v979] : Fin 1 → IVec S16 32) a x).toNat < S32000.size a)
theorem k0_idx1836_inb : ∀ (v979 : IVec S16 32) (k0_hw1836 : k0_chk1836 v979), ∀ a x, ((![v979] : Fin 1 → IVec S16 32) a x).toNat < S32000.size a := fun v979 k0_hw1836 => k0_hw1836

def k0_chk1837 (v664 : IVec S16 32) (v1030 : IVec S16 32) : Prop :=
  (∀ a x, ((![v1030, v664] : Fin 2 → IVec S16 32) a x).toNat < S64x512.size a)
theorem k0_idx1837_inb : ∀ (v664 : IVec S16 32) (v1030 : IVec S16 32) (k0_hw1837 : k0_chk1837 v664 v1030), ∀ a x, ((![v1030, v664] : Fin 2 → IVec S16 32) a x).toNat < S64x512.size a := fun v664 v1030 k0_hw1837 => k0_hw1837

def k0_chk1838 (v664 : IVec S16 32) (v1032 : IVec S16 32) : Prop :=
  (∀ a x, ((![v1032, v664] : Fin 2 → IVec S16 32) a x).toNat < S64x512.size a)
theorem k0_idx1838_inb : ∀ (v664 : IVec S16 32) (v1032 : IVec S16 32) (k0_hw1838 : k0_chk1838 v664 v1032), ∀ a x, ((![v1032, v664] : Fin 2 → IVec S16 32) a x).toNat < S64x512.size a := fun v664 v1032 k0_hw1838 => k0_hw1838

def k0_chk1839 (v1039 : IVec S16 32) : Prop :=
  (∀ a x, ((![v1039] : Fin 1 → IVec S16 32) a x).toNat < S32000.size a)
theorem k0_idx1839_inb : ∀ (v1039 : IVec S16 32) (k0_hw1839 : k0_chk1839 v1039), ∀ a x, ((![v1039] : Fin 1 → IVec S16 32) a x).toNat < S32000.size a := fun v1039 k0_hw1839 => k0_hw1839

def k0_chk1840 (v1041 : IVec S16 32) : Prop :=
  (∀ a x, ((![v1041] : Fin 1 → IVec S16 32) a x).toNat < S32000.size a)
theorem k0_idx1840_inb : ∀ (v1041 : IVec S16 32) (k0_hw1840 : k0_chk1840 v1041), ∀ a x, ((![v1041] : Fin 1 → IVec S16 32) a x).toNat < S32000.size a := fun v1041 k0_hw1840 => k0_hw1840

def k0_chk1841 (v1043 : IVec S16 32) : Prop :=
  (∀ a x, ((![v1043] : Fin 1 → IVec S16 32) a x).toNat < S32000.size a)
theorem k0_idx1841_inb : ∀ (v1043 : IVec S16 32) (k0_hw1841 : k0_chk1841 v1043), ∀ a x, ((![v1043] : Fin 1 → IVec S16 32) a x).toNat < S32000.size a := fun v1043 k0_hw1841 => k0_hw1841

def k0_chk1842 (v1045 : IVec S16 32) : Prop :=
  (∀ a x, ((![v1045] : Fin 1 → IVec S16 32) a x).toNat < S32000.size a)
theorem k0_idx1842_inb : ∀ (v1045 : IVec S16 32) (k0_hw1842 : k0_chk1842 v1045), ∀ a x, ((![v1045] : Fin 1 → IVec S16 32) a x).toNat < S32000.size a := fun v1045 k0_hw1842 => k0_hw1842

def k0_chk1843 (v1047 : IVec S16 32) : Prop :=
  (∀ a x, ((![v1047] : Fin 1 → IVec S16 32) a x).toNat < S32000.size a)
theorem k0_idx1843_inb : ∀ (v1047 : IVec S16 32) (k0_hw1843 : k0_chk1843 v1047), ∀ a x, ((![v1047] : Fin 1 → IVec S16 32) a x).toNat < S32000.size a := fun v1047 k0_hw1843 => k0_hw1843

def k0_chk1844 (v1049 : IVec S16 32) : Prop :=
  (∀ a x, ((![v1049] : Fin 1 → IVec S16 32) a x).toNat < S32000.size a)
theorem k0_idx1844_inb : ∀ (v1049 : IVec S16 32) (k0_hw1844 : k0_chk1844 v1049), ∀ a x, ((![v1049] : Fin 1 → IVec S16 32) a x).toNat < S32000.size a := fun v1049 k0_hw1844 => k0_hw1844

def k0_chk1845 (v664 : IVec S16 32) (v1100 : IVec S16 32) : Prop :=
  (∀ a x, ((![v1100, v664] : Fin 2 → IVec S16 32) a x).toNat < S64x512.size a)
theorem k0_idx1845_inb : ∀ (v664 : IVec S16 32) (v1100 : IVec S16 32) (k0_hw1845 : k0_chk1845 v664 v1100), ∀ a x, ((![v1100, v664] : Fin 2 → IVec S16 32) a x).toNat < S64x512.size a := fun v664 v1100 k0_hw1845 => k0_hw1845

def k0_chk1846 (v664 : IVec S16 32) (v1102 : IVec S16 32) : Prop :=
  (∀ a x, ((![v1102, v664] : Fin 2 → IVec S16 32) a x).toNat < S64x512.size a)
theorem k0_idx1846_inb : ∀ (v664 : IVec S16 32) (v1102 : IVec S16 32) (k0_hw1846 : k0_chk1846 v664 v1102), ∀ a x, ((![v1102, v664] : Fin 2 → IVec S16 32) a x).toNat < S64x512.size a := fun v664 v1102 k0_hw1846 => k0_hw1846

def k0_chk1847 (v1109 : IVec S16 32) : Prop :=
  (∀ a x, ((![v1109] : Fin 1 → IVec S16 32) a x).toNat < S32000.size a)
theorem k0_idx1847_inb : ∀ (v1109 : IVec S16 32) (k0_hw1847 : k0_chk1847 v1109), ∀ a x, ((![v1109] : Fin 1 → IVec S16 32) a x).toNat < S32000.size a := fun v1109 k0_hw1847 => k0_hw1847

def k0_chk1848 (v1111 : IVec S16 32) : Prop :=
  (∀ a x, ((![v1111] : Fin 1 → IVec S16 32) a x).toNat < S32000.size a)
theorem k0_idx1848_inb : ∀ (v1111 : IVec S16 32) (k0_hw1848 : k0_chk1848 v1111), ∀ a x, ((![v1111] : Fin 1 → IVec S16 32) a x).toNat < S32000.size a := fun v1111 k0_hw1848 => k0_hw1848

def k0_chk1849 (v1113 : IVec S16 32) : Prop :=
  (∀ a x, ((![v1113] : Fin 1 → IVec S16 32) a x).toNat < S32000.size a)
theorem k0_idx1849_inb : ∀ (v1113 : IVec S16 32) (k0_hw1849 : k0_chk1849 v1113), ∀ a x, ((![v1113] : Fin 1 → IVec S16 32) a x).toNat < S32000.size a := fun v1113 k0_hw1849 => k0_hw1849

def k0_chk1850 (v1115 : IVec S16 32) : Prop :=
  (∀ a x, ((![v1115] : Fin 1 → IVec S16 32) a x).toNat < S32000.size a)
theorem k0_idx1850_inb : ∀ (v1115 : IVec S16 32) (k0_hw1850 : k0_chk1850 v1115), ∀ a x, ((![v1115] : Fin 1 → IVec S16 32) a x).toNat < S32000.size a := fun v1115 k0_hw1850 => k0_hw1850

def k0_chk1851 (v1117 : IVec S16 32) : Prop :=
  (∀ a x, ((![v1117] : Fin 1 → IVec S16 32) a x).toNat < S32000.size a)
theorem k0_idx1851_inb : ∀ (v1117 : IVec S16 32) (k0_hw1851 : k0_chk1851 v1117), ∀ a x, ((![v1117] : Fin 1 → IVec S16 32) a x).toNat < S32000.size a := fun v1117 k0_hw1851 => k0_hw1851

def k0_chk1852 (v1119 : IVec S16 32) : Prop :=
  (∀ a x, ((![v1119] : Fin 1 → IVec S16 32) a x).toNat < S32000.size a)
theorem k0_idx1852_inb : ∀ (v1119 : IVec S16 32) (k0_hw1852 : k0_chk1852 v1119), ∀ a x, ((![v1119] : Fin 1 → IVec S16 32) a x).toNat < S32000.size a := fun v1119 k0_hw1852 => k0_hw1852

def k0_chk1853 (v664 : IVec S16 32) (v1170 : IVec S16 32) : Prop :=
  (∀ a x, ((![v1170, v664] : Fin 2 → IVec S16 32) a x).toNat < S64x512.size a)
theorem k0_idx1853_inb : ∀ (v664 : IVec S16 32) (v1170 : IVec S16 32) (k0_hw1853 : k0_chk1853 v664 v1170), ∀ a x, ((![v1170, v664] : Fin 2 → IVec S16 32) a x).toNat < S64x512.size a := fun v664 v1170 k0_hw1853 => k0_hw1853

def k0_chk1854 (v664 : IVec S16 32) (v1172 : IVec S16 32) : Prop :=
  (∀ a x, ((![v1172, v664] : Fin 2 → IVec S16 32) a x).toNat < S64x512.size a)
theorem k0_idx1854_inb : ∀ (v664 : IVec S16 32) (v1172 : IVec S16 32) (k0_hw1854 : k0_chk1854 v664 v1172), ∀ a x, ((![v1172, v664] : Fin 2 → IVec S16 32) a x).toNat < S64x512.size a := fun v664 v1172 k0_hw1854 => k0_hw1854

def k0_chk1855 (v1179 : IVec S16 32) : Prop :=
  (∀ a x, ((![v1179] : Fin 1 → IVec S16 32) a x).toNat < S32000.size a)
theorem k0_idx1855_inb : ∀ (v1179 : IVec S16 32) (k0_hw1855 : k0_chk1855 v1179), ∀ a x, ((![v1179] : Fin 1 → IVec S16 32) a x).toNat < S32000.size a := fun v1179 k0_hw1855 => k0_hw1855

def k0_chk1856 (v1181 : IVec S16 32) : Prop :=
  (∀ a x, ((![v1181] : Fin 1 → IVec S16 32) a x).toNat < S32000.size a)
theorem k0_idx1856_inb : ∀ (v1181 : IVec S16 32) (k0_hw1856 : k0_chk1856 v1181), ∀ a x, ((![v1181] : Fin 1 → IVec S16 32) a x).toNat < S32000.size a := fun v1181 k0_hw1856 => k0_hw1856

def k0_chk1857 (v1183 : IVec S16 32) : Prop :=
  (∀ a x, ((![v1183] : Fin 1 → IVec S16 32) a x).toNat < S32000.size a)
theorem k0_idx1857_inb : ∀ (v1183 : IVec S16 32) (k0_hw1857 : k0_chk1857 v1183), ∀ a x, ((![v1183] : Fin 1 → IVec S16 32) a x).toNat < S32000.size a := fun v1183 k0_hw1857 => k0_hw1857

def k0_chk1858 (v1185 : IVec S16 32) : Prop :=
  (∀ a x, ((![v1185] : Fin 1 → IVec S16 32) a x).toNat < S32000.size a)
theorem k0_idx1858_inb : ∀ (v1185 : IVec S16 32) (k0_hw1858 : k0_chk1858 v1185), ∀ a x, ((![v1185] : Fin 1 → IVec S16 32) a x).toNat < S32000.size a := fun v1185 k0_hw1858 => k0_hw1858

def k0_chk1859 (v1187 : IVec S16 32) : Prop :=
  (∀ a x, ((![v1187] : Fin 1 → IVec S16 32) a x).toNat < S32000.size a)
theorem k0_idx1859_inb : ∀ (v1187 : IVec S16 32) (k0_hw1859 : k0_chk1859 v1187), ∀ a x, ((![v1187] : Fin 1 → IVec S16 32) a x).toNat < S32000.size a := fun v1187 k0_hw1859 => k0_hw1859

def k0_chk1860 (v1189 : IVec S16 32) : Prop :=
  (∀ a x, ((![v1189] : Fin 1 → IVec S16 32) a x).toNat < S32000.size a)
theorem k0_idx1860_inb : ∀ (v1189 : IVec S16 32) (k0_hw1860 : k0_chk1860 v1189), ∀ a x, ((![v1189] : Fin 1 → IVec S16 32) a x).toNat < S32000.size a := fun v1189 k0_hw1860 => k0_hw1860

def k0_chk1861 (v664 : IVec S16 32) (v1240 : IVec S16 32) : Prop :=
  (∀ a x, ((![v1240, v664] : Fin 2 → IVec S16 32) a x).toNat < S64x512.size a)
theorem k0_idx1861_inb : ∀ (v664 : IVec S16 32) (v1240 : IVec S16 32) (k0_hw1861 : k0_chk1861 v664 v1240), ∀ a x, ((![v1240, v664] : Fin 2 → IVec S16 32) a x).toNat < S64x512.size a := fun v664 v1240 k0_hw1861 => k0_hw1861

def k0_chk1862 (v664 : IVec S16 32) (v1242 : IVec S16 32) : Prop :=
  (∀ a x, ((![v1242, v664] : Fin 2 → IVec S16 32) a x).toNat < S64x512.size a)
theorem k0_idx1862_inb : ∀ (v664 : IVec S16 32) (v1242 : IVec S16 32) (k0_hw1862 : k0_chk1862 v664 v1242), ∀ a x, ((![v1242, v664] : Fin 2 → IVec S16 32) a x).toNat < S64x512.size a := fun v664 v1242 k0_hw1862 => k0_hw1862

def k0_chk1863 (v1249 : IVec S16 32) : Prop :=
  (∀ a x, ((![v1249] : Fin 1 → IVec S16 32) a x).toNat < S32000.size a)
theorem k0_idx1863_inb : ∀ (v1249 : IVec S16 32) (k0_hw1863 : k0_chk1863 v1249), ∀ a x, ((![v1249] : Fin 1 → IVec S16 32) a x).toNat < S32000.size a := fun v1249 k0_hw1863 => k0_hw1863

def k0_chk1864 (v1251 : IVec S16 32) : Prop :=
  (∀ a x, ((![v1251] : Fin 1 → IVec S16 32) a x).toNat < S32000.size a)
theorem k0_idx1864_inb : ∀ (v1251 : IVec S16 32) (k0_hw1864 : k0_chk1864 v1251), ∀ a x, ((![v1251] : Fin 1 → IVec S16 32) a x).toNat < S32000.size a := fun v1251 k0_hw1864 => k0_hw1864

def k0_chk1865 (v1253 : IVec S16 32) : Prop :=
  (∀ a x, ((![v1253] : Fin 1 → IVec S16 32) a x).toNat < S32000.size a)
theorem k0_idx1865_inb : ∀ (v1253 : IVec S16 32) (k0_hw1865 : k0_chk1865 v1253), ∀ a x, ((![v1253] : Fin 1 → IVec S16 32) a x).toNat < S32000.size a := fun v1253 k0_hw1865 => k0_hw1865

def k0_chk1866 (v1255 : IVec S16 32) : Prop :=
  (∀ a x, ((![v1255] : Fin 1 → IVec S16 32) a x).toNat < S32000.size a)
theorem k0_idx1866_inb : ∀ (v1255 : IVec S16 32) (k0_hw1866 : k0_chk1866 v1255), ∀ a x, ((![v1255] : Fin 1 → IVec S16 32) a x).toNat < S32000.size a := fun v1255 k0_hw1866 => k0_hw1866

def k0_chk1867 (v1257 : IVec S16 32) : Prop :=
  (∀ a x, ((![v1257] : Fin 1 → IVec S16 32) a x).toNat < S32000.size a)
theorem k0_idx1867_inb : ∀ (v1257 : IVec S16 32) (k0_hw1867 : k0_chk1867 v1257), ∀ a x, ((![v1257] : Fin 1 → IVec S16 32) a x).toNat < S32000.size a := fun v1257 k0_hw1867 => k0_hw1867

def k0_chk1868 (v1259 : IVec S16 32) : Prop :=
  (∀ a x, ((![v1259] : Fin 1 → IVec S16 32) a x).toNat < S32000.size a)
theorem k0_idx1868_inb : ∀ (v1259 : IVec S16 32) (k0_hw1868 : k0_chk1868 v1259), ∀ a x, ((![v1259] : Fin 1 → IVec S16 32) a x).toNat < S32000.size a := fun v1259 k0_hw1868 => k0_hw1868

def k0_chk1869 (v664 : IVec S16 32) (v1310 : IVec S16 32) : Prop :=
  (∀ a x, ((![v1310, v664] : Fin 2 → IVec S16 32) a x).toNat < S64x512.size a)
theorem k0_idx1869_inb : ∀ (v664 : IVec S16 32) (v1310 : IVec S16 32) (k0_hw1869 : k0_chk1869 v664 v1310), ∀ a x, ((![v1310, v664] : Fin 2 → IVec S16 32) a x).toNat < S64x512.size a := fun v664 v1310 k0_hw1869 => k0_hw1869

def k0_chk1870 (v664 : IVec S16 32) (v1312 : IVec S16 32) : Prop :=
  (∀ a x, ((![v1312, v664] : Fin 2 → IVec S16 32) a x).toNat < S64x512.size a)
theorem k0_idx1870_inb : ∀ (v664 : IVec S16 32) (v1312 : IVec S16 32) (k0_hw1870 : k0_chk1870 v664 v1312), ∀ a x, ((![v1312, v664] : Fin 2 → IVec S16 32) a x).toNat < S64x512.size a := fun v664 v1312 k0_hw1870 => k0_hw1870

def k0_chk1871 (v1319 : IVec S16 32) : Prop :=
  (∀ a x, ((![v1319] : Fin 1 → IVec S16 32) a x).toNat < S32000.size a)
theorem k0_idx1871_inb : ∀ (v1319 : IVec S16 32) (k0_hw1871 : k0_chk1871 v1319), ∀ a x, ((![v1319] : Fin 1 → IVec S16 32) a x).toNat < S32000.size a := fun v1319 k0_hw1871 => k0_hw1871

def k0_chk1872 (v1321 : IVec S16 32) : Prop :=
  (∀ a x, ((![v1321] : Fin 1 → IVec S16 32) a x).toNat < S32000.size a)
theorem k0_idx1872_inb : ∀ (v1321 : IVec S16 32) (k0_hw1872 : k0_chk1872 v1321), ∀ a x, ((![v1321] : Fin 1 → IVec S16 32) a x).toNat < S32000.size a := fun v1321 k0_hw1872 => k0_hw1872

def k0_chk1873 (v1323 : IVec S16 32) : Prop :=
  (∀ a x, ((![v1323] : Fin 1 → IVec S16 32) a x).toNat < S32000.size a)
theorem k0_idx1873_inb : ∀ (v1323 : IVec S16 32) (k0_hw1873 : k0_chk1873 v1323), ∀ a x, ((![v1323] : Fin 1 → IVec S16 32) a x).toNat < S32000.size a := fun v1323 k0_hw1873 => k0_hw1873

def k0_chk1874 (v1325 : IVec S16 32) : Prop :=
  (∀ a x, ((![v1325] : Fin 1 → IVec S16 32) a x).toNat < S32000.size a)
theorem k0_idx1874_inb : ∀ (v1325 : IVec S16 32) (k0_hw1874 : k0_chk1874 v1325), ∀ a x, ((![v1325] : Fin 1 → IVec S16 32) a x).toNat < S32000.size a := fun v1325 k0_hw1874 => k0_hw1874

def k0_chk1875 (v1327 : IVec S16 32) : Prop :=
  (∀ a x, ((![v1327] : Fin 1 → IVec S16 32) a x).toNat < S32000.size a)
theorem k0_idx1875_inb : ∀ (v1327 : IVec S16 32) (k0_hw1875 : k0_chk1875 v1327), ∀ a x, ((![v1327] : Fin 1 → IVec S16 32) a x).toNat < S32000.size a := fun v1327 k0_hw1875 => k0_hw1875

def k0_chk1876 (v1329 : IVec S16 32) : Prop :=
  (∀ a x, ((![v1329] : Fin 1 → IVec S16 32) a x).toNat < S32000.size a)
theorem k0_idx1876_inb : ∀ (v1329 : IVec S16 32) (k0_hw1876 : k0_chk1876 v1329), ∀ a x, ((![v1329] : Fin 1 → IVec S16 32) a x).toNat < S32000.size a := fun v1329 k0_hw1876 => k0_hw1876

def k0_chk1877 (v664 : IVec S16 32) (v1380 : IVec S16 32) : Prop :=
  (∀ a x, ((![v1380, v664] : Fin 2 → IVec S16 32) a x).toNat < S64x512.size a)
theorem k0_idx1877_inb : ∀ (v664 : IVec S16 32) (v1380 : IVec S16 32) (k0_hw1877 : k0_chk1877 v664 v1380), ∀ a x, ((![v1380, v664] : Fin 2 → IVec S16 32) a x).toNat < S64x512.size a := fun v664 v1380 k0_hw1877 => k0_hw1877

def k0_chk1878 (v664 : IVec S16 32) (v1382 : IVec S16 32) : Prop :=
  (∀ a x, ((![v1382, v664] : Fin 2 → IVec S16 32) a x).toNat < S64x512.size a)
theorem k0_idx1878_inb : ∀ (v664 : IVec S16 32) (v1382 : IVec S16 32) (k0_hw1878 : k0_chk1878 v664 v1382), ∀ a x, ((![v1382, v664] : Fin 2 → IVec S16 32) a x).toNat < S64x512.size a := fun v664 v1382 k0_hw1878 => k0_hw1878

def k0_chk1879 (v1389 : IVec S16 32) : Prop :=
  (∀ a x, ((![v1389] : Fin 1 → IVec S16 32) a x).toNat < S32000.size a)
theorem k0_idx1879_inb : ∀ (v1389 : IVec S16 32) (k0_hw1879 : k0_chk1879 v1389), ∀ a x, ((![v1389] : Fin 1 → IVec S16 32) a x).toNat < S32000.size a := fun v1389 k0_hw1879 => k0_hw1879

def k0_chk1880 (v1391 : IVec S16 32) : Prop :=
  (∀ a x, ((![v1391] : Fin 1 → IVec S16 32) a x).toNat < S32000.size a)
theorem k0_idx1880_inb : ∀ (v1391 : IVec S16 32) (k0_hw1880 : k0_chk1880 v1391), ∀ a x, ((![v1391] : Fin 1 → IVec S16 32) a x).toNat < S32000.size a := fun v1391 k0_hw1880 => k0_hw1880

def k0_chk1881 (v1393 : IVec S16 32) : Prop :=
  (∀ a x, ((![v1393] : Fin 1 → IVec S16 32) a x).toNat < S32000.size a)
theorem k0_idx1881_inb : ∀ (v1393 : IVec S16 32) (k0_hw1881 : k0_chk1881 v1393), ∀ a x, ((![v1393] : Fin 1 → IVec S16 32) a x).toNat < S32000.size a := fun v1393 k0_hw1881 => k0_hw1881

def k0_chk1882 (v1395 : IVec S16 32) : Prop :=
  (∀ a x, ((![v1395] : Fin 1 → IVec S16 32) a x).toNat < S32000.size a)
theorem k0_idx1882_inb : ∀ (v1395 : IVec S16 32) (k0_hw1882 : k0_chk1882 v1395), ∀ a x, ((![v1395] : Fin 1 → IVec S16 32) a x).toNat < S32000.size a := fun v1395 k0_hw1882 => k0_hw1882

def k0_chk1883 (v1397 : IVec S16 32) : Prop :=
  (∀ a x, ((![v1397] : Fin 1 → IVec S16 32) a x).toNat < S32000.size a)
theorem k0_idx1883_inb : ∀ (v1397 : IVec S16 32) (k0_hw1883 : k0_chk1883 v1397), ∀ a x, ((![v1397] : Fin 1 → IVec S16 32) a x).toNat < S32000.size a := fun v1397 k0_hw1883 => k0_hw1883

def k0_chk1884 (v1399 : IVec S16 32) : Prop :=
  (∀ a x, ((![v1399] : Fin 1 → IVec S16 32) a x).toNat < S32000.size a)
theorem k0_idx1884_inb : ∀ (v1399 : IVec S16 32) (k0_hw1884 : k0_chk1884 v1399), ∀ a x, ((![v1399] : Fin 1 → IVec S16 32) a x).toNat < S32000.size a := fun v1399 k0_hw1884 => k0_hw1884

def k0_chk1885 (v664 : IVec S16 32) (v1450 : IVec S16 32) : Prop :=
  (∀ a x, ((![v1450, v664] : Fin 2 → IVec S16 32) a x).toNat < S64x512.size a)
theorem k0_idx1885_inb : ∀ (v664 : IVec S16 32) (v1450 : IVec S16 32) (k0_hw1885 : k0_chk1885 v664 v1450), ∀ a x, ((![v1450, v664] : Fin 2 → IVec S16 32) a x).toNat < S64x512.size a := fun v664 v1450 k0_hw1885 => k0_hw1885

def k0_chk1886 (v664 : IVec S16 32) (v1452 : IVec S16 32) : Prop :=
  (∀ a x, ((![v1452, v664] : Fin 2 → IVec S16 32) a x).toNat < S64x512.size a)
theorem k0_idx1886_inb : ∀ (v664 : IVec S16 32) (v1452 : IVec S16 32) (k0_hw1886 : k0_chk1886 v664 v1452), ∀ a x, ((![v1452, v664] : Fin 2 → IVec S16 32) a x).toNat < S64x512.size a := fun v664 v1452 k0_hw1886 => k0_hw1886

def k0_chk1887 (v1459 : IVec S16 32) : Prop :=
  (∀ a x, ((![v1459] : Fin 1 → IVec S16 32) a x).toNat < S32000.size a)
theorem k0_idx1887_inb : ∀ (v1459 : IVec S16 32) (k0_hw1887 : k0_chk1887 v1459), ∀ a x, ((![v1459] : Fin 1 → IVec S16 32) a x).toNat < S32000.size a := fun v1459 k0_hw1887 => k0_hw1887

def k0_chk1888 (v1461 : IVec S16 32) : Prop :=
  (∀ a x, ((![v1461] : Fin 1 → IVec S16 32) a x).toNat < S32000.size a)
theorem k0_idx1888_inb : ∀ (v1461 : IVec S16 32) (k0_hw1888 : k0_chk1888 v1461), ∀ a x, ((![v1461] : Fin 1 → IVec S16 32) a x).toNat < S32000.size a := fun v1461 k0_hw1888 => k0_hw1888

def k0_chk1889 (v1463 : IVec S16 32) : Prop :=
  (∀ a x, ((![v1463] : Fin 1 → IVec S16 32) a x).toNat < S32000.size a)
theorem k0_idx1889_inb : ∀ (v1463 : IVec S16 32) (k0_hw1889 : k0_chk1889 v1463), ∀ a x, ((![v1463] : Fin 1 → IVec S16 32) a x).toNat < S32000.size a := fun v1463 k0_hw1889 => k0_hw1889

def k0_chk1890 (v1465 : IVec S16 32) : Prop :=
  (∀ a x, ((![v1465] : Fin 1 → IVec S16 32) a x).toNat < S32000.size a)
theorem k0_idx1890_inb : ∀ (v1465 : IVec S16 32) (k0_hw1890 : k0_chk1890 v1465), ∀ a x, ((![v1465] : Fin 1 → IVec S16 32) a x).toNat < S32000.size a := fun v1465 k0_hw1890 => k0_hw1890

def k0_chk1891 (v1467 : IVec S16 32) : Prop :=
  (∀ a x, ((![v1467] : Fin 1 → IVec S16 32) a x).toNat < S32000.size a)
theorem k0_idx1891_inb : ∀ (v1467 : IVec S16 32) (k0_hw1891 : k0_chk1891 v1467), ∀ a x, ((![v1467] : Fin 1 → IVec S16 32) a x).toNat < S32000.size a := fun v1467 k0_hw1891 => k0_hw1891

def k0_chk1892 (v1469 : IVec S16 32) : Prop :=
  (∀ a x, ((![v1469] : Fin 1 → IVec S16 32) a x).toNat < S32000.size a)
theorem k0_idx1892_inb : ∀ (v1469 : IVec S16 32) (k0_hw1892 : k0_chk1892 v1469), ∀ a x, ((![v1469] : Fin 1 → IVec S16 32) a x).toNat < S32000.size a := fun v1469 k0_hw1892 => k0_hw1892

def k0_chk1893 (v664 : IVec S16 32) (v1520 : IVec S16 32) : Prop :=
  (∀ a x, ((![v1520, v664] : Fin 2 → IVec S16 32) a x).toNat < S64x512.size a)
theorem k0_idx1893_inb : ∀ (v664 : IVec S16 32) (v1520 : IVec S16 32) (k0_hw1893 : k0_chk1893 v664 v1520), ∀ a x, ((![v1520, v664] : Fin 2 → IVec S16 32) a x).toNat < S64x512.size a := fun v664 v1520 k0_hw1893 => k0_hw1893

def k0_chk1894 (v664 : IVec S16 32) (v1522 : IVec S16 32) : Prop :=
  (∀ a x, ((![v1522, v664] : Fin 2 → IVec S16 32) a x).toNat < S64x512.size a)
theorem k0_idx1894_inb : ∀ (v664 : IVec S16 32) (v1522 : IVec S16 32) (k0_hw1894 : k0_chk1894 v664 v1522), ∀ a x, ((![v1522, v664] : Fin 2 → IVec S16 32) a x).toNat < S64x512.size a := fun v664 v1522 k0_hw1894 => k0_hw1894

def k0_chk1895 (v1529 : IVec S16 32) : Prop :=
  (∀ a x, ((![v1529] : Fin 1 → IVec S16 32) a x).toNat < S32000.size a)
theorem k0_idx1895_inb : ∀ (v1529 : IVec S16 32) (k0_hw1895 : k0_chk1895 v1529), ∀ a x, ((![v1529] : Fin 1 → IVec S16 32) a x).toNat < S32000.size a := fun v1529 k0_hw1895 => k0_hw1895

def k0_chk1896 (v1531 : IVec S16 32) : Prop :=
  (∀ a x, ((![v1531] : Fin 1 → IVec S16 32) a x).toNat < S32000.size a)
theorem k0_idx1896_inb : ∀ (v1531 : IVec S16 32) (k0_hw1896 : k0_chk1896 v1531), ∀ a x, ((![v1531] : Fin 1 → IVec S16 32) a x).toNat < S32000.size a := fun v1531 k0_hw1896 => k0_hw1896

def k0_chk1897 (v1533 : IVec S16 32) : Prop :=
  (∀ a x, ((![v1533] : Fin 1 → IVec S16 32) a x).toNat < S32000.size a)
theorem k0_idx1897_inb : ∀ (v1533 : IVec S16 32) (k0_hw1897 : k0_chk1897 v1533), ∀ a x, ((![v1533] : Fin 1 → IVec S16 32) a x).toNat < S32000.size a := fun v1533 k0_hw1897 => k0_hw1897

def k0_chk1898 (v1535 : IVec S16 32) : Prop :=
  (∀ a x, ((![v1535] : Fin 1 → IVec S16 32) a x).toNat < S32000.size a)
theorem k0_idx1898_inb : ∀ (v1535 : IVec S16 32) (k0_hw1898 : k0_chk1898 v1535), ∀ a x, ((![v1535] : Fin 1 → IVec S16 32) a x).toNat < S32000.size a := fun v1535 k0_hw1898 => k0_hw1898

def k0_chk1899 (v1537 : IVec S16 32) : Prop :=
  (∀ a x, ((![v1537] : Fin 1 → IVec S16 32) a x).toNat < S32000.size a)
theorem k0_idx1899_inb : ∀ (v1537 : IVec S16 32) (k0_hw1899 : k0_chk1899 v1537), ∀ a x, ((![v1537] : Fin 1 → IVec S16 32) a x).toNat < S32000.size a := fun v1537 k0_hw1899 => k0_hw1899

def k0_chk1900 (v1539 : IVec S16 32) : Prop :=
  (∀ a x, ((![v1539] : Fin 1 → IVec S16 32) a x).toNat < S32000.size a)
theorem k0_idx1900_inb : ∀ (v1539 : IVec S16 32) (k0_hw1900 : k0_chk1900 v1539), ∀ a x, ((![v1539] : Fin 1 → IVec S16 32) a x).toNat < S32000.size a := fun v1539 k0_hw1900 => k0_hw1900

def k0_chk1901 (v664 : IVec S16 32) (v1590 : IVec S16 32) : Prop :=
  (∀ a x, ((![v1590, v664] : Fin 2 → IVec S16 32) a x).toNat < S64x512.size a)
theorem k0_idx1901_inb : ∀ (v664 : IVec S16 32) (v1590 : IVec S16 32) (k0_hw1901 : k0_chk1901 v664 v1590), ∀ a x, ((![v1590, v664] : Fin 2 → IVec S16 32) a x).toNat < S64x512.size a := fun v664 v1590 k0_hw1901 => k0_hw1901

def k0_chk1902 (v664 : IVec S16 32) (v1592 : IVec S16 32) : Prop :=
  (∀ a x, ((![v1592, v664] : Fin 2 → IVec S16 32) a x).toNat < S64x512.size a)
theorem k0_idx1902_inb : ∀ (v664 : IVec S16 32) (v1592 : IVec S16 32) (k0_hw1902 : k0_chk1902 v664 v1592), ∀ a x, ((![v1592, v664] : Fin 2 → IVec S16 32) a x).toNat < S64x512.size a := fun v664 v1592 k0_hw1902 => k0_hw1902

def k0_chk1903 (v1599 : IVec S16 32) : Prop :=
  (∀ a x, ((![v1599] : Fin 1 → IVec S16 32) a x).toNat < S32000.size a)
theorem k0_idx1903_inb : ∀ (v1599 : IVec S16 32) (k0_hw1903 : k0_chk1903 v1599), ∀ a x, ((![v1599] : Fin 1 → IVec S16 32) a x).toNat < S32000.size a := fun v1599 k0_hw1903 => k0_hw1903

def k0_chk1904 (v1601 : IVec S16 32) : Prop :=
  (∀ a x, ((![v1601] : Fin 1 → IVec S16 32) a x).toNat < S32000.size a)
theorem k0_idx1904_inb : ∀ (v1601 : IVec S16 32) (k0_hw1904 : k0_chk1904 v1601), ∀ a x, ((![v1601] : Fin 1 → IVec S16 32) a x).toNat < S32000.size a := fun v1601 k0_hw1904 => k0_hw1904

def k0_chk1905 (v1603 : IVec S16 32) : Prop :=
  (∀ a x, ((![v1603] : Fin 1 → IVec S16 32) a x).toNat < S32000.size a)
theorem k0_idx1905_inb : ∀ (v1603 : IVec S16 32) (k0_hw1905 : k0_chk1905 v1603), ∀ a x, ((![v1603] : Fin 1 → IVec S16 32) a x).toNat < S32000.size a := fun v1603 k0_hw1905 => k0_hw1905

def k0_chk1906 (v1605 : IVec S16 32) : Prop :=
  (∀ a x, ((![v1605] : Fin 1 → IVec S16 32) a x).toNat < S32000.size a)
theorem k0_idx1906_inb : ∀ (v1605 : IVec S16 32) (k0_hw1906 : k0_chk1906 v1605), ∀ a x, ((![v1605] : Fin 1 → IVec S16 32) a x).toNat < S32000.size a := fun v1605 k0_hw1906 => k0_hw1906

def k0_chk1907 (v1607 : IVec S16 32) : Prop :=
  (∀ a x, ((![v1607] : Fin 1 → IVec S16 32) a x).toNat < S32000.size a)
theorem k0_idx1907_inb : ∀ (v1607 : IVec S16 32) (k0_hw1907 : k0_chk1907 v1607), ∀ a x, ((![v1607] : Fin 1 → IVec S16 32) a x).toNat < S32000.size a := fun v1607 k0_hw1907 => k0_hw1907

def k0_chk1908 (v1609 : IVec S16 32) : Prop :=
  (∀ a x, ((![v1609] : Fin 1 → IVec S16 32) a x).toNat < S32000.size a)
theorem k0_idx1908_inb : ∀ (v1609 : IVec S16 32) (k0_hw1908 : k0_chk1908 v1609), ∀ a x, ((![v1609] : Fin 1 → IVec S16 32) a x).toNat < S32000.size a := fun v1609 k0_hw1908 => k0_hw1908

def k0_chk1909 (v664 : IVec S16 32) (v1660 : IVec S16 32) : Prop :=
  (∀ a x, ((![v1660, v664] : Fin 2 → IVec S16 32) a x).toNat < S64x512.size a)
theorem k0_idx1909_inb : ∀ (v664 : IVec S16 32) (v1660 : IVec S16 32) (k0_hw1909 : k0_chk1909 v664 v1660), ∀ a x, ((![v1660, v664] : Fin 2 → IVec S16 32) a x).toNat < S64x512.size a := fun v664 v1660 k0_hw1909 => k0_hw1909

def k0_chk1910 (v664 : IVec S16 32) (v1662 : IVec S16 32) : Prop :=
  (∀ a x, ((![v1662, v664] : Fin 2 → IVec S16 32) a x).toNat < S64x512.size a)
theorem k0_idx1910_inb : ∀ (v664 : IVec S16 32) (v1662 : IVec S16 32) (k0_hw1910 : k0_chk1910 v664 v1662), ∀ a x, ((![v1662, v664] : Fin 2 → IVec S16 32) a x).toNat < S64x512.size a := fun v664 v1662 k0_hw1910 => k0_hw1910

def k0_chk1911 (v1669 : IVec S16 32) : Prop :=
  (∀ a x, ((![v1669] : Fin 1 → IVec S16 32) a x).toNat < S32000.size a)
theorem k0_idx1911_inb : ∀ (v1669 : IVec S16 32) (k0_hw1911 : k0_chk1911 v1669), ∀ a x, ((![v1669] : Fin 1 → IVec S16 32) a x).toNat < S32000.size a := fun v1669 k0_hw1911 => k0_hw1911

def k0_chk1912 (v1671 : IVec S16 32) : Prop :=
  (∀ a x, ((![v1671] : Fin 1 → IVec S16 32) a x).toNat < S32000.size a)
theorem k0_idx1912_inb : ∀ (v1671 : IVec S16 32) (k0_hw1912 : k0_chk1912 v1671), ∀ a x, ((![v1671] : Fin 1 → IVec S16 32) a x).toNat < S32000.size a := fun v1671 k0_hw1912 => k0_hw1912

def k0_chk1913 (v1673 : IVec S16 32) : Prop :=
  (∀ a x, ((![v1673] : Fin 1 → IVec S16 32) a x).toNat < S32000.size a)
theorem k0_idx1913_inb : ∀ (v1673 : IVec S16 32) (k0_hw1913 : k0_chk1913 v1673), ∀ a x, ((![v1673] : Fin 1 → IVec S16 32) a x).toNat < S32000.size a := fun v1673 k0_hw1913 => k0_hw1913

def k0_chk1914 (v1675 : IVec S16 32) : Prop :=
  (∀ a x, ((![v1675] : Fin 1 → IVec S16 32) a x).toNat < S32000.size a)
theorem k0_idx1914_inb : ∀ (v1675 : IVec S16 32) (k0_hw1914 : k0_chk1914 v1675), ∀ a x, ((![v1675] : Fin 1 → IVec S16 32) a x).toNat < S32000.size a := fun v1675 k0_hw1914 => k0_hw1914

def k0_chk1915 (v1677 : IVec S16 32) : Prop :=
  (∀ a x, ((![v1677] : Fin 1 → IVec S16 32) a x).toNat < S32000.size a)
theorem k0_idx1915_inb : ∀ (v1677 : IVec S16 32) (k0_hw1915 : k0_chk1915 v1677), ∀ a x, ((![v1677] : Fin 1 → IVec S16 32) a x).toNat < S32000.size a := fun v1677 k0_hw1915 => k0_hw1915

def k0_chk1916 (v1679 : IVec S16 32) : Prop :=
  (∀ a x, ((![v1679] : Fin 1 → IVec S16 32) a x).toNat < S32000.size a)
theorem k0_idx1916_inb : ∀ (v1679 : IVec S16 32) (k0_hw1916 : k0_chk1916 v1679), ∀ a x, ((![v1679] : Fin 1 → IVec S16 32) a x).toNat < S32000.size a := fun v1679 k0_hw1916 => k0_hw1916

def k0_chk1917 (v664 : IVec S16 32) (v1730 : IVec S16 32) : Prop :=
  (∀ a x, ((![v1730, v664] : Fin 2 → IVec S16 32) a x).toNat < S64x512.size a)
theorem k0_idx1917_inb : ∀ (v664 : IVec S16 32) (v1730 : IVec S16 32) (k0_hw1917 : k0_chk1917 v664 v1730), ∀ a x, ((![v1730, v664] : Fin 2 → IVec S16 32) a x).toNat < S64x512.size a := fun v664 v1730 k0_hw1917 => k0_hw1917

def k0_chk1918 (v664 : IVec S16 32) (v1732 : IVec S16 32) : Prop :=
  (∀ a x, ((![v1732, v664] : Fin 2 → IVec S16 32) a x).toNat < S64x512.size a)
theorem k0_idx1918_inb : ∀ (v664 : IVec S16 32) (v1732 : IVec S16 32) (k0_hw1918 : k0_chk1918 v664 v1732), ∀ a x, ((![v1732, v664] : Fin 2 → IVec S16 32) a x).toNat < S64x512.size a := fun v664 v1732 k0_hw1918 => k0_hw1918

def k0_chk1919 (v1739 : IVec S16 32) : Prop :=
  (∀ a x, ((![v1739] : Fin 1 → IVec S16 32) a x).toNat < S32000.size a)
theorem k0_idx1919_inb : ∀ (v1739 : IVec S16 32) (k0_hw1919 : k0_chk1919 v1739), ∀ a x, ((![v1739] : Fin 1 → IVec S16 32) a x).toNat < S32000.size a := fun v1739 k0_hw1919 => k0_hw1919

def k0_chk1920 (v1741 : IVec S16 32) : Prop :=
  (∀ a x, ((![v1741] : Fin 1 → IVec S16 32) a x).toNat < S32000.size a)
theorem k0_idx1920_inb : ∀ (v1741 : IVec S16 32) (k0_hw1920 : k0_chk1920 v1741), ∀ a x, ((![v1741] : Fin 1 → IVec S16 32) a x).toNat < S32000.size a := fun v1741 k0_hw1920 => k0_hw1920

def k0_chk1921 (v1743 : IVec S16 32) : Prop :=
  (∀ a x, ((![v1743] : Fin 1 → IVec S16 32) a x).toNat < S32000.size a)
theorem k0_idx1921_inb : ∀ (v1743 : IVec S16 32) (k0_hw1921 : k0_chk1921 v1743), ∀ a x, ((![v1743] : Fin 1 → IVec S16 32) a x).toNat < S32000.size a := fun v1743 k0_hw1921 => k0_hw1921

def k0_chk1922 (v1745 : IVec S16 32) : Prop :=
  (∀ a x, ((![v1745] : Fin 1 → IVec S16 32) a x).toNat < S32000.size a)
theorem k0_idx1922_inb : ∀ (v1745 : IVec S16 32) (k0_hw1922 : k0_chk1922 v1745), ∀ a x, ((![v1745] : Fin 1 → IVec S16 32) a x).toNat < S32000.size a := fun v1745 k0_hw1922 => k0_hw1922

def k0_chk1923 (v1747 : IVec S16 32) : Prop :=
  (∀ a x, ((![v1747] : Fin 1 → IVec S16 32) a x).toNat < S32000.size a)
theorem k0_idx1923_inb : ∀ (v1747 : IVec S16 32) (k0_hw1923 : k0_chk1923 v1747), ∀ a x, ((![v1747] : Fin 1 → IVec S16 32) a x).toNat < S32000.size a := fun v1747 k0_hw1923 => k0_hw1923

def k0_chk1924 (v1749 : IVec S16 32) : Prop :=
  (∀ a x, ((![v1749] : Fin 1 → IVec S16 32) a x).toNat < S32000.size a)
theorem k0_idx1924_inb : ∀ (v1749 : IVec S16 32) (k0_hw1924 : k0_chk1924 v1749), ∀ a x, ((![v1749] : Fin 1 → IVec S16 32) a x).toNat < S32000.size a := fun v1749 k0_hw1924 => k0_hw1924

def k0_chk1925 (v664 : IVec S16 32) (v1800 : IVec S16 32) : Prop :=
  (∀ a x, ((![v1800, v664] : Fin 2 → IVec S16 32) a x).toNat < S64x512.size a)
theorem k0_idx1925_inb : ∀ (v664 : IVec S16 32) (v1800 : IVec S16 32) (k0_hw1925 : k0_chk1925 v664 v1800), ∀ a x, ((![v1800, v664] : Fin 2 → IVec S16 32) a x).toNat < S64x512.size a := fun v664 v1800 k0_hw1925 => k0_hw1925

def k0_chk1926 (v664 : IVec S16 32) (v1802 : IVec S16 32) : Prop :=
  (∀ a x, ((![v1802, v664] : Fin 2 → IVec S16 32) a x).toNat < S64x512.size a)
theorem k0_idx1926_inb : ∀ (v664 : IVec S16 32) (v1802 : IVec S16 32) (k0_hw1926 : k0_chk1926 v664 v1802), ∀ a x, ((![v1802, v664] : Fin 2 → IVec S16 32) a x).toNat < S64x512.size a := fun v664 v1802 k0_hw1926 => k0_hw1926

def k0_chk1927 (v1809 : IVec S16 32) : Prop :=
  (∀ a x, ((![v1809] : Fin 1 → IVec S16 32) a x).toNat < S32000.size a)
theorem k0_idx1927_inb : ∀ (v1809 : IVec S16 32) (k0_hw1927 : k0_chk1927 v1809), ∀ a x, ((![v1809] : Fin 1 → IVec S16 32) a x).toNat < S32000.size a := fun v1809 k0_hw1927 => k0_hw1927

def k0_chk1928 (v1811 : IVec S16 32) : Prop :=
  (∀ a x, ((![v1811] : Fin 1 → IVec S16 32) a x).toNat < S32000.size a)
theorem k0_idx1928_inb : ∀ (v1811 : IVec S16 32) (k0_hw1928 : k0_chk1928 v1811), ∀ a x, ((![v1811] : Fin 1 → IVec S16 32) a x).toNat < S32000.size a := fun v1811 k0_hw1928 => k0_hw1928

def k0_chk1929 (v1813 : IVec S16 32) : Prop :=
  (∀ a x, ((![v1813] : Fin 1 → IVec S16 32) a x).toNat < S32000.size a)
theorem k0_idx1929_inb : ∀ (v1813 : IVec S16 32) (k0_hw1929 : k0_chk1929 v1813), ∀ a x, ((![v1813] : Fin 1 → IVec S16 32) a x).toNat < S32000.size a := fun v1813 k0_hw1929 => k0_hw1929

def k0_chk1930 (v1815 : IVec S16 32) : Prop :=
  (∀ a x, ((![v1815] : Fin 1 → IVec S16 32) a x).toNat < S32000.size a)
theorem k0_idx1930_inb : ∀ (v1815 : IVec S16 32) (k0_hw1930 : k0_chk1930 v1815), ∀ a x, ((![v1815] : Fin 1 → IVec S16 32) a x).toNat < S32000.size a := fun v1815 k0_hw1930 => k0_hw1930

def k0_chk1931 (v1817 : IVec S16 32) : Prop :=
  (∀ a x, ((![v1817] : Fin 1 → IVec S16 32) a x).toNat < S32000.size a)
theorem k0_idx1931_inb : ∀ (v1817 : IVec S16 32) (k0_hw1931 : k0_chk1931 v1817), ∀ a x, ((![v1817] : Fin 1 → IVec S16 32) a x).toNat < S32000.size a := fun v1817 k0_hw1931 => k0_hw1931

def k0_chk1932 (v1819 : IVec S16 32) : Prop :=
  (∀ a x, ((![v1819] : Fin 1 → IVec S16 32) a x).toNat < S32000.size a)
theorem k0_idx1932_inb : ∀ (v1819 : IVec S16 32) (k0_hw1932 : k0_chk1932 v1819), ∀ a x, ((![v1819] : Fin 1 → IVec S16 32) a x).toNat < S32000.size a := fun v1819 k0_hw1932 => k0_hw1932

def k0_chk1933 (v664 : IVec S16 32) (v1870 : IVec S16 32) : Prop :=
  (∀ a x, ((![v1870, v664] : Fin 2 → IVec S16 32) a x).toNat < S64x512.size a)
theorem k0_idx1933_inb : ∀ (v664 : IVec S16 32) (v1870 : IVec S16 32) (k0_hw1933 : k0_chk1933 v664 v1870), ∀ a x, ((![v1870, v664] : Fin 2 → IVec S16 32) a x).toNat < S64x512.size a := fun v664 v1870 k0_hw1933 => k0_hw1933

def k0_chk1934 (v664 : IVec S16 32) (v1872 : IVec S16 32) : Prop :=
  (∀ a x, ((![v1872, v664] : Fin 2 → IVec S16 32) a x).toNat < S64x512.size a)
theorem k0_idx1934_inb : ∀ (v664 : IVec S16 32) (v1872 : IVec S16 32) (k0_hw1934 : k0_chk1934 v664 v1872), ∀ a x, ((![v1872, v664] : Fin 2 → IVec S16 32) a x).toNat < S64x512.size a := fun v664 v1872 k0_hw1934 => k0_hw1934

def k0_chk1935 (v1879 : IVec S16 32) : Prop :=
  (∀ a x, ((![v1879] : Fin 1 → IVec S16 32) a x).toNat < S32000.size a)
theorem k0_idx1935_inb : ∀ (v1879 : IVec S16 32) (k0_hw1935 : k0_chk1935 v1879), ∀ a x, ((![v1879] : Fin 1 → IVec S16 32) a x).toNat < S32000.size a := fun v1879 k0_hw1935 => k0_hw1935

def k0_chk1936 (v1881 : IVec S16 32) : Prop :=
  (∀ a x, ((![v1881] : Fin 1 → IVec S16 32) a x).toNat < S32000.size a)
theorem k0_idx1936_inb : ∀ (v1881 : IVec S16 32) (k0_hw1936 : k0_chk1936 v1881), ∀ a x, ((![v1881] : Fin 1 → IVec S16 32) a x).toNat < S32000.size a := fun v1881 k0_hw1936 => k0_hw1936

def k0_chk1937 (v1883 : IVec S16 32) : Prop :=
  (∀ a x, ((![v1883] : Fin 1 → IVec S16 32) a x).toNat < S32000.size a)
theorem k0_idx1937_inb : ∀ (v1883 : IVec S16 32) (k0_hw1937 : k0_chk1937 v1883), ∀ a x, ((![v1883] : Fin 1 → IVec S16 32) a x).toNat < S32000.size a := fun v1883 k0_hw1937 => k0_hw1937

def k0_chk1938 (v1885 : IVec S16 32) : Prop :=
  (∀ a x, ((![v1885] : Fin 1 → IVec S16 32) a x).toNat < S32000.size a)
theorem k0_idx1938_inb : ∀ (v1885 : IVec S16 32) (k0_hw1938 : k0_chk1938 v1885), ∀ a x, ((![v1885] : Fin 1 → IVec S16 32) a x).toNat < S32000.size a := fun v1885 k0_hw1938 => k0_hw1938

def k0_chk1939 (v1887 : IVec S16 32) : Prop :=
  (∀ a x, ((![v1887] : Fin 1 → IVec S16 32) a x).toNat < S32000.size a)
theorem k0_idx1939_inb : ∀ (v1887 : IVec S16 32) (k0_hw1939 : k0_chk1939 v1887), ∀ a x, ((![v1887] : Fin 1 → IVec S16 32) a x).toNat < S32000.size a := fun v1887 k0_hw1939 => k0_hw1939

def k0_chk1940 (v1889 : IVec S16 32) : Prop :=
  (∀ a x, ((![v1889] : Fin 1 → IVec S16 32) a x).toNat < S32000.size a)
theorem k0_idx1940_inb : ∀ (v1889 : IVec S16 32) (k0_hw1940 : k0_chk1940 v1889), ∀ a x, ((![v1889] : Fin 1 → IVec S16 32) a x).toNat < S32000.size a := fun v1889 k0_hw1940 => k0_hw1940

def k0_chk1941 (v664 : IVec S16 32) (v1940 : IVec S16 32) : Prop :=
  (∀ a x, ((![v1940, v664] : Fin 2 → IVec S16 32) a x).toNat < S64x512.size a)
theorem k0_idx1941_inb : ∀ (v664 : IVec S16 32) (v1940 : IVec S16 32) (k0_hw1941 : k0_chk1941 v664 v1940), ∀ a x, ((![v1940, v664] : Fin 2 → IVec S16 32) a x).toNat < S64x512.size a := fun v664 v1940 k0_hw1941 => k0_hw1941

def k0_chk1942 (v664 : IVec S16 32) (v1942 : IVec S16 32) : Prop :=
  (∀ a x, ((![v1942, v664] : Fin 2 → IVec S16 32) a x).toNat < S64x512.size a)
theorem k0_idx1942_inb : ∀ (v664 : IVec S16 32) (v1942 : IVec S16 32) (k0_hw1942 : k0_chk1942 v664 v1942), ∀ a x, ((![v1942, v664] : Fin 2 → IVec S16 32) a x).toNat < S64x512.size a := fun v664 v1942 k0_hw1942 => k0_hw1942

def k0_chk1943 (v1949 : IVec S16 32) : Prop :=
  (∀ a x, ((![v1949] : Fin 1 → IVec S16 32) a x).toNat < S32000.size a)
theorem k0_idx1943_inb : ∀ (v1949 : IVec S16 32) (k0_hw1943 : k0_chk1943 v1949), ∀ a x, ((![v1949] : Fin 1 → IVec S16 32) a x).toNat < S32000.size a := fun v1949 k0_hw1943 => k0_hw1943

def k0_chk1944 (v1951 : IVec S16 32) : Prop :=
  (∀ a x, ((![v1951] : Fin 1 → IVec S16 32) a x).toNat < S32000.size a)
theorem k0_idx1944_inb : ∀ (v1951 : IVec S16 32) (k0_hw1944 : k0_chk1944 v1951), ∀ a x, ((![v1951] : Fin 1 → IVec S16 32) a x).toNat < S32000.size a := fun v1951 k0_hw1944 => k0_hw1944

def k0_chk1945 (v1953 : IVec S16 32) : Prop :=
  (∀ a x, ((![v1953] : Fin 1 → IVec S16 32) a x).toNat < S32000.size a)
theorem k0_idx1945_inb : ∀ (v1953 : IVec S16 32) (k0_hw1945 : k0_chk1945 v1953), ∀ a x, ((![v1953] : Fin 1 → IVec S16 32) a x).toNat < S32000.size a := fun v1953 k0_hw1945 => k0_hw1945

def k0_chk1946 (v1955 : IVec S16 32) : Prop :=
  (∀ a x, ((![v1955] : Fin 1 → IVec S16 32) a x).toNat < S32000.size a)
theorem k0_idx1946_inb : ∀ (v1955 : IVec S16 32) (k0_hw1946 : k0_chk1946 v1955), ∀ a x, ((![v1955] : Fin 1 → IVec S16 32) a x).toNat < S32000.size a := fun v1955 k0_hw1946 => k0_hw1946

def k0_chk1947 (v1957 : IVec S16 32) : Prop :=
  (∀ a x, ((![v1957] : Fin 1 → IVec S16 32) a x).toNat < S32000.size a)
theorem k0_idx1947_inb : ∀ (v1957 : IVec S16 32) (k0_hw1947 : k0_chk1947 v1957), ∀ a x, ((![v1957] : Fin 1 → IVec S16 32) a x).toNat < S32000.size a := fun v1957 k0_hw1947 => k0_hw1947

def k0_chk1948 (v1959 : IVec S16 32) : Prop :=
  (∀ a x, ((![v1959] : Fin 1 → IVec S16 32) a x).toNat < S32000.size a)
theorem k0_idx1948_inb : ∀ (v1959 : IVec S16 32) (k0_hw1948 : k0_chk1948 v1959), ∀ a x, ((![v1959] : Fin 1 → IVec S16 32) a x).toNat < S32000.size a := fun v1959 k0_hw1948 => k0_hw1948

def k0_chk1949 (v664 : IVec S16 32) (v2010 : IVec S16 32) : Prop :=
  (∀ a x, ((![v2010, v664] : Fin 2 → IVec S16 32) a x).toNat < S64x512.size a)
theorem k0_idx1949_inb : ∀ (v664 : IVec S16 32) (v2010 : IVec S16 32) (k0_hw1949 : k0_chk1949 v664 v2010), ∀ a x, ((![v2010, v664] : Fin 2 → IVec S16 32) a x).toNat < S64x512.size a := fun v664 v2010 k0_hw1949 => k0_hw1949

def k0_chk1950 (v664 : IVec S16 32) (v2012 : IVec S16 32) : Prop :=
  (∀ a x, ((![v2012, v664] : Fin 2 → IVec S16 32) a x).toNat < S64x512.size a)
theorem k0_idx1950_inb : ∀ (v664 : IVec S16 32) (v2012 : IVec S16 32) (k0_hw1950 : k0_chk1950 v664 v2012), ∀ a x, ((![v2012, v664] : Fin 2 → IVec S16 32) a x).toNat < S64x512.size a := fun v664 v2012 k0_hw1950 => k0_hw1950

def k0_chk1951 (v2019 : IVec S16 32) : Prop :=
  (∀ a x, ((![v2019] : Fin 1 → IVec S16 32) a x).toNat < S32000.size a)
theorem k0_idx1951_inb : ∀ (v2019 : IVec S16 32) (k0_hw1951 : k0_chk1951 v2019), ∀ a x, ((![v2019] : Fin 1 → IVec S16 32) a x).toNat < S32000.size a := fun v2019 k0_hw1951 => k0_hw1951

def k0_chk1952 (v2021 : IVec S16 32) : Prop :=
  (∀ a x, ((![v2021] : Fin 1 → IVec S16 32) a x).toNat < S32000.size a)
theorem k0_idx1952_inb : ∀ (v2021 : IVec S16 32) (k0_hw1952 : k0_chk1952 v2021), ∀ a x, ((![v2021] : Fin 1 → IVec S16 32) a x).toNat < S32000.size a := fun v2021 k0_hw1952 => k0_hw1952

def k0_chk1953 (v2023 : IVec S16 32) : Prop :=
  (∀ a x, ((![v2023] : Fin 1 → IVec S16 32) a x).toNat < S32000.size a)
theorem k0_idx1953_inb : ∀ (v2023 : IVec S16 32) (k0_hw1953 : k0_chk1953 v2023), ∀ a x, ((![v2023] : Fin 1 → IVec S16 32) a x).toNat < S32000.size a := fun v2023 k0_hw1953 => k0_hw1953

def k0_chk1954 (v2025 : IVec S16 32) : Prop :=
  (∀ a x, ((![v2025] : Fin 1 → IVec S16 32) a x).toNat < S32000.size a)
theorem k0_idx1954_inb : ∀ (v2025 : IVec S16 32) (k0_hw1954 : k0_chk1954 v2025), ∀ a x, ((![v2025] : Fin 1 → IVec S16 32) a x).toNat < S32000.size a := fun v2025 k0_hw1954 => k0_hw1954

def k0_chk1955 (v2027 : IVec S16 32) : Prop :=
  (∀ a x, ((![v2027] : Fin 1 → IVec S16 32) a x).toNat < S32000.size a)
theorem k0_idx1955_inb : ∀ (v2027 : IVec S16 32) (k0_hw1955 : k0_chk1955 v2027), ∀ a x, ((![v2027] : Fin 1 → IVec S16 32) a x).toNat < S32000.size a := fun v2027 k0_hw1955 => k0_hw1955

def k0_chk1956 (v2029 : IVec S16 32) : Prop :=
  (∀ a x, ((![v2029] : Fin 1 → IVec S16 32) a x).toNat < S32000.size a)
theorem k0_idx1956_inb : ∀ (v2029 : IVec S16 32) (k0_hw1956 : k0_chk1956 v2029), ∀ a x, ((![v2029] : Fin 1 → IVec S16 32) a x).toNat < S32000.size a := fun v2029 k0_hw1956 => k0_hw1956

def k0_chk1957 (v664 : IVec S16 32) (v2080 : IVec S16 32) : Prop :=
  (∀ a x, ((![v2080, v664] : Fin 2 → IVec S16 32) a x).toNat < S64x512.size a)
theorem k0_idx1957_inb : ∀ (v664 : IVec S16 32) (v2080 : IVec S16 32) (k0_hw1957 : k0_chk1957 v664 v2080), ∀ a x, ((![v2080, v664] : Fin 2 → IVec S16 32) a x).toNat < S64x512.size a := fun v664 v2080 k0_hw1957 => k0_hw1957

def k0_chk1958 (v664 : IVec S16 32) (v2082 : IVec S16 32) : Prop :=
  (∀ a x, ((![v2082, v664] : Fin 2 → IVec S16 32) a x).toNat < S64x512.size a)
theorem k0_idx1958_inb : ∀ (v664 : IVec S16 32) (v2082 : IVec S16 32) (k0_hw1958 : k0_chk1958 v664 v2082), ∀ a x, ((![v2082, v664] : Fin 2 → IVec S16 32) a x).toNat < S64x512.size a := fun v664 v2082 k0_hw1958 => k0_hw1958

def k0_chk1959 (v2089 : IVec S16 32) : Prop :=
  (∀ a x, ((![v2089] : Fin 1 → IVec S16 32) a x).toNat < S32000.size a)
theorem k0_idx1959_inb : ∀ (v2089 : IVec S16 32) (k0_hw1959 : k0_chk1959 v2089), ∀ a x, ((![v2089] : Fin 1 → IVec S16 32) a x).toNat < S32000.size a := fun v2089 k0_hw1959 => k0_hw1959

def k0_chk1960 (v2091 : IVec S16 32) : Prop :=
  (∀ a x, ((![v2091] : Fin 1 → IVec S16 32) a x).toNat < S32000.size a)
theorem k0_idx1960_inb : ∀ (v2091 : IVec S16 32) (k0_hw1960 : k0_chk1960 v2091), ∀ a x, ((![v2091] : Fin 1 → IVec S16 32) a x).toNat < S32000.size a := fun v2091 k0_hw1960 => k0_hw1960

def k0_chk1961 (v2093 : IVec S16 32) : Prop :=
  (∀ a x, ((![v2093] : Fin 1 → IVec S16 32) a x).toNat < S32000.size a)
theorem k0_idx1961_inb : ∀ (v2093 : IVec S16 32) (k0_hw1961 : k0_chk1961 v2093), ∀ a x, ((![v2093] : Fin 1 → IVec S16 32) a x).toNat < S32000.size a := fun v2093 k0_hw1961 => k0_hw1961

def k0_chk1962 (v2095 : IVec S16 32) : Prop :=
  (∀ a x, ((![v2095] : Fin 1 → IVec S16 32) a x).toNat < S32000.size a)
theorem k0_idx1962_inb : ∀ (v2095 : IVec S16 32) (k0_hw1962 : k0_chk1962 v2095), ∀ a x, ((![v2095] : Fin 1 → IVec S16 32) a x).toNat < S32000.size a := fun v2095 k0_hw1962 => k0_hw1962

def k0_chk1963 (v2097 : IVec S16 32) : Prop :=
  (∀ a x, ((![v2097] : Fin 1 → IVec S16 32) a x).toNat < S32000.size a)
theorem k0_idx1963_inb : ∀ (v2097 : IVec S16 32) (k0_hw1963 : k0_chk1963 v2097), ∀ a x, ((![v2097] : Fin 1 → IVec S16 32) a x).toNat < S32000.size a := fun v2097 k0_hw1963 => k0_hw1963

def k0_chk1964 (v2099 : IVec S16 32) : Prop :=
  (∀ a x, ((![v2099] : Fin 1 → IVec S16 32) a x).toNat < S32000.size a)
theorem k0_idx1964_inb : ∀ (v2099 : IVec S16 32) (k0_hw1964 : k0_chk1964 v2099), ∀ a x, ((![v2099] : Fin 1 → IVec S16 32) a x).toNat < S32000.size a := fun v2099 k0_hw1964 => k0_hw1964

def k0_chk1965 (v664 : IVec S16 32) (v2150 : IVec S16 32) : Prop :=
  (∀ a x, ((![v2150, v664] : Fin 2 → IVec S16 32) a x).toNat < S64x512.size a)
theorem k0_idx1965_inb : ∀ (v664 : IVec S16 32) (v2150 : IVec S16 32) (k0_hw1965 : k0_chk1965 v664 v2150), ∀ a x, ((![v2150, v664] : Fin 2 → IVec S16 32) a x).toNat < S64x512.size a := fun v664 v2150 k0_hw1965 => k0_hw1965

def k0_chk1966 (v664 : IVec S16 32) (v2152 : IVec S16 32) : Prop :=
  (∀ a x, ((![v2152, v664] : Fin 2 → IVec S16 32) a x).toNat < S64x512.size a)
theorem k0_idx1966_inb : ∀ (v664 : IVec S16 32) (v2152 : IVec S16 32) (k0_hw1966 : k0_chk1966 v664 v2152), ∀ a x, ((![v2152, v664] : Fin 2 → IVec S16 32) a x).toNat < S64x512.size a := fun v664 v2152 k0_hw1966 => k0_hw1966

def k0_chk1967 (v2159 : IVec S16 32) : Prop :=
  (∀ a x, ((![v2159] : Fin 1 → IVec S16 32) a x).toNat < S32000.size a)
theorem k0_idx1967_inb : ∀ (v2159 : IVec S16 32) (k0_hw1967 : k0_chk1967 v2159), ∀ a x, ((![v2159] : Fin 1 → IVec S16 32) a x).toNat < S32000.size a := fun v2159 k0_hw1967 => k0_hw1967

def k0_chk1968 (v2161 : IVec S16 32) : Prop :=
  (∀ a x, ((![v2161] : Fin 1 → IVec S16 32) a x).toNat < S32000.size a)
theorem k0_idx1968_inb : ∀ (v2161 : IVec S16 32) (k0_hw1968 : k0_chk1968 v2161), ∀ a x, ((![v2161] : Fin 1 → IVec S16 32) a x).toNat < S32000.size a := fun v2161 k0_hw1968 => k0_hw1968

def k0_chk1969 (v2163 : IVec S16 32) : Prop :=
  (∀ a x, ((![v2163] : Fin 1 → IVec S16 32) a x).toNat < S32000.size a)
theorem k0_idx1969_inb : ∀ (v2163 : IVec S16 32) (k0_hw1969 : k0_chk1969 v2163), ∀ a x, ((![v2163] : Fin 1 → IVec S16 32) a x).toNat < S32000.size a := fun v2163 k0_hw1969 => k0_hw1969

def k0_chk1970 (v2165 : IVec S16 32) : Prop :=
  (∀ a x, ((![v2165] : Fin 1 → IVec S16 32) a x).toNat < S32000.size a)
theorem k0_idx1970_inb : ∀ (v2165 : IVec S16 32) (k0_hw1970 : k0_chk1970 v2165), ∀ a x, ((![v2165] : Fin 1 → IVec S16 32) a x).toNat < S32000.size a := fun v2165 k0_hw1970 => k0_hw1970

def k0_chk1971 (v2167 : IVec S16 32) : Prop :=
  (∀ a x, ((![v2167] : Fin 1 → IVec S16 32) a x).toNat < S32000.size a)
theorem k0_idx1971_inb : ∀ (v2167 : IVec S16 32) (k0_hw1971 : k0_chk1971 v2167), ∀ a x, ((![v2167] : Fin 1 → IVec S16 32) a x).toNat < S32000.size a := fun v2167 k0_hw1971 => k0_hw1971

def k0_chk1972 (v2169 : IVec S16 32) : Prop :=
  (∀ a x, ((![v2169] : Fin 1 → IVec S16 32) a x).toNat < S32000.size a)
theorem k0_idx1972_inb : ∀ (v2169 : IVec S16 32) (k0_hw1972 : k0_chk1972 v2169), ∀ a x, ((![v2169] : Fin 1 → IVec S16 32) a x).toNat < S32000.size a := fun v2169 k0_hw1972 => k0_hw1972

def k0_chk1973 (v664 : IVec S16 32) (v2220 : IVec S16 32) : Prop :=
  (∀ a x, ((![v2220, v664] : Fin 2 → IVec S16 32) a x).toNat < S64x512.size a)
theorem k0_idx1973_inb : ∀ (v664 : IVec S16 32) (v2220 : IVec S16 32) (k0_hw1973 : k0_chk1973 v664 v2220), ∀ a x, ((![v2220, v664] : Fin 2 → IVec S16 32) a x).toNat < S64x512.size a := fun v664 v2220 k0_hw1973 => k0_hw1973

def k0_chk1974 (v664 : IVec S16 32) (v2222 : IVec S16 32) : Prop :=
  (∀ a x, ((![v2222, v664] : Fin 2 → IVec S16 32) a x).toNat < S64x512.size a)
theorem k0_idx1974_inb : ∀ (v664 : IVec S16 32) (v2222 : IVec S16 32) (k0_hw1974 : k0_chk1974 v664 v2222), ∀ a x, ((![v2222, v664] : Fin 2 → IVec S16 32) a x).toNat < S64x512.size a := fun v664 v2222 k0_hw1974 => k0_hw1974

def k0_chk1975 (v2229 : IVec S16 32) : Prop :=
  (∀ a x, ((![v2229] : Fin 1 → IVec S16 32) a x).toNat < S32000.size a)
theorem k0_idx1975_inb : ∀ (v2229 : IVec S16 32) (k0_hw1975 : k0_chk1975 v2229), ∀ a x, ((![v2229] : Fin 1 → IVec S16 32) a x).toNat < S32000.size a := fun v2229 k0_hw1975 => k0_hw1975

def k0_chk1976 (v2231 : IVec S16 32) : Prop :=
  (∀ a x, ((![v2231] : Fin 1 → IVec S16 32) a x).toNat < S32000.size a)
theorem k0_idx1976_inb : ∀ (v2231 : IVec S16 32) (k0_hw1976 : k0_chk1976 v2231), ∀ a x, ((![v2231] : Fin 1 → IVec S16 32) a x).toNat < S32000.size a := fun v2231 k0_hw1976 => k0_hw1976

def k0_chk1977 (v2233 : IVec S16 32) : Prop :=
  (∀ a x, ((![v2233] : Fin 1 → IVec S16 32) a x).toNat < S32000.size a)
theorem k0_idx1977_inb : ∀ (v2233 : IVec S16 32) (k0_hw1977 : k0_chk1977 v2233), ∀ a x, ((![v2233] : Fin 1 → IVec S16 32) a x).toNat < S32000.size a := fun v2233 k0_hw1977 => k0_hw1977

def k0_chk1978 (v2235 : IVec S16 32) : Prop :=
  (∀ a x, ((![v2235] : Fin 1 → IVec S16 32) a x).toNat < S32000.size a)
theorem k0_idx1978_inb : ∀ (v2235 : IVec S16 32) (k0_hw1978 : k0_chk1978 v2235), ∀ a x, ((![v2235] : Fin 1 → IVec S16 32) a x).toNat < S32000.size a := fun v2235 k0_hw1978 => k0_hw1978

def k0_chk1979 (v2237 : IVec S16 32) : Prop :=
  (∀ a x, ((![v2237] : Fin 1 → IVec S16 32) a x).toNat < S32000.size a)
theorem k0_idx1979_inb : ∀ (v2237 : IVec S16 32) (k0_hw1979 : k0_chk1979 v2237), ∀ a x, ((![v2237] : Fin 1 → IVec S16 32) a x).toNat < S32000.size a := fun v2237 k0_hw1979 => k0_hw1979

def k0_chk1980 (v2239 : IVec S16 32) : Prop :=
  (∀ a x, ((![v2239] : Fin 1 → IVec S16 32) a x).toNat < S32000.size a)
theorem k0_idx1980_inb : ∀ (v2239 : IVec S16 32) (k0_hw1980 : k0_chk1980 v2239), ∀ a x, ((![v2239] : Fin 1 → IVec S16 32) a x).toNat < S32000.size a := fun v2239 k0_hw1980 => k0_hw1980

def k0_chk1981 (v664 : IVec S16 32) (v2290 : IVec S16 32) : Prop :=
  (∀ a x, ((![v2290, v664] : Fin 2 → IVec S16 32) a x).toNat < S64x512.size a)
theorem k0_idx1981_inb : ∀ (v664 : IVec S16 32) (v2290 : IVec S16 32) (k0_hw1981 : k0_chk1981 v664 v2290), ∀ a x, ((![v2290, v664] : Fin 2 → IVec S16 32) a x).toNat < S64x512.size a := fun v664 v2290 k0_hw1981 => k0_hw1981

def k0_chk1982 (v664 : IVec S16 32) (v2292 : IVec S16 32) : Prop :=
  (∀ a x, ((![v2292, v664] : Fin 2 → IVec S16 32) a x).toNat < S64x512.size a)
theorem k0_idx1982_inb : ∀ (v664 : IVec S16 32) (v2292 : IVec S16 32) (k0_hw1982 : k0_chk1982 v664 v2292), ∀ a x, ((![v2292, v664] : Fin 2 → IVec S16 32) a x).toNat < S64x512.size a := fun v664 v2292 k0_hw1982 => k0_hw1982

def k0_chk1983 (v2299 : IVec S16 32) : Prop :=
  (∀ a x, ((![v2299] : Fin 1 → IVec S16 32) a x).toNat < S32000.size a)
theorem k0_idx1983_inb : ∀ (v2299 : IVec S16 32) (k0_hw1983 : k0_chk1983 v2299), ∀ a x, ((![v2299] : Fin 1 → IVec S16 32) a x).toNat < S32000.size a := fun v2299 k0_hw1983 => k0_hw1983

def k0_chk1984 (v2301 : IVec S16 32) : Prop :=
  (∀ a x, ((![v2301] : Fin 1 → IVec S16 32) a x).toNat < S32000.size a)
theorem k0_idx1984_inb : ∀ (v2301 : IVec S16 32) (k0_hw1984 : k0_chk1984 v2301), ∀ a x, ((![v2301] : Fin 1 → IVec S16 32) a x).toNat < S32000.size a := fun v2301 k0_hw1984 => k0_hw1984

def k0_chk1985 (v2303 : IVec S16 32) : Prop :=
  (∀ a x, ((![v2303] : Fin 1 → IVec S16 32) a x).toNat < S32000.size a)
theorem k0_idx1985_inb : ∀ (v2303 : IVec S16 32) (k0_hw1985 : k0_chk1985 v2303), ∀ a x, ((![v2303] : Fin 1 → IVec S16 32) a x).toNat < S32000.size a := fun v2303 k0_hw1985 => k0_hw1985

def k0_chk1986 (v2305 : IVec S16 32) : Prop :=
  (∀ a x, ((![v2305] : Fin 1 → IVec S16 32) a x).toNat < S32000.size a)
theorem k0_idx1986_inb : ∀ (v2305 : IVec S16 32) (k0_hw1986 : k0_chk1986 v2305), ∀ a x, ((![v2305] : Fin 1 → IVec S16 32) a x).toNat < S32000.size a := fun v2305 k0_hw1986 => k0_hw1986

def k0_chk1987 (v2307 : IVec S16 32) : Prop :=
  (∀ a x, ((![v2307] : Fin 1 → IVec S16 32) a x).toNat < S32000.size a)
theorem k0_idx1987_inb : ∀ (v2307 : IVec S16 32) (k0_hw1987 : k0_chk1987 v2307), ∀ a x, ((![v2307] : Fin 1 → IVec S16 32) a x).toNat < S32000.size a := fun v2307 k0_hw1987 => k0_hw1987

def k0_chk1988 (v2309 : IVec S16 32) : Prop :=
  (∀ a x, ((![v2309] : Fin 1 → IVec S16 32) a x).toNat < S32000.size a)
theorem k0_idx1988_inb : ∀ (v2309 : IVec S16 32) (k0_hw1988 : k0_chk1988 v2309), ∀ a x, ((![v2309] : Fin 1 → IVec S16 32) a x).toNat < S32000.size a := fun v2309 k0_hw1988 => k0_hw1988

def k0_chk1989 (v664 : IVec S16 32) (v2360 : IVec S16 32) : Prop :=
  (∀ a x, ((![v2360, v664] : Fin 2 → IVec S16 32) a x).toNat < S64x512.size a)
theorem k0_idx1989_inb : ∀ (v664 : IVec S16 32) (v2360 : IVec S16 32) (k0_hw1989 : k0_chk1989 v664 v2360), ∀ a x, ((![v2360, v664] : Fin 2 → IVec S16 32) a x).toNat < S64x512.size a := fun v664 v2360 k0_hw1989 => k0_hw1989

def k0_chk1990 (v664 : IVec S16 32) (v2362 : IVec S16 32) : Prop :=
  (∀ a x, ((![v2362, v664] : Fin 2 → IVec S16 32) a x).toNat < S64x512.size a)
theorem k0_idx1990_inb : ∀ (v664 : IVec S16 32) (v2362 : IVec S16 32) (k0_hw1990 : k0_chk1990 v664 v2362), ∀ a x, ((![v2362, v664] : Fin 2 → IVec S16 32) a x).toNat < S64x512.size a := fun v664 v2362 k0_hw1990 => k0_hw1990

def k0_chk1991 (v2369 : IVec S16 32) : Prop :=
  (∀ a x, ((![v2369] : Fin 1 → IVec S16 32) a x).toNat < S32000.size a)
theorem k0_idx1991_inb : ∀ (v2369 : IVec S16 32) (k0_hw1991 : k0_chk1991 v2369), ∀ a x, ((![v2369] : Fin 1 → IVec S16 32) a x).toNat < S32000.size a := fun v2369 k0_hw1991 => k0_hw1991

def k0_chk1992 (v2371 : IVec S16 32) : Prop :=
  (∀ a x, ((![v2371] : Fin 1 → IVec S16 32) a x).toNat < S32000.size a)
theorem k0_idx1992_inb : ∀ (v2371 : IVec S16 32) (k0_hw1992 : k0_chk1992 v2371), ∀ a x, ((![v2371] : Fin 1 → IVec S16 32) a x).toNat < S32000.size a := fun v2371 k0_hw1992 => k0_hw1992

def k0_chk1993 (v2373 : IVec S16 32) : Prop :=
  (∀ a x, ((![v2373] : Fin 1 → IVec S16 32) a x).toNat < S32000.size a)
theorem k0_idx1993_inb : ∀ (v2373 : IVec S16 32) (k0_hw1993 : k0_chk1993 v2373), ∀ a x, ((![v2373] : Fin 1 → IVec S16 32) a x).toNat < S32000.size a := fun v2373 k0_hw1993 => k0_hw1993

def k0_chk1994 (v2375 : IVec S16 32) : Prop :=
  (∀ a x, ((![v2375] : Fin 1 → IVec S16 32) a x).toNat < S32000.size a)
theorem k0_idx1994_inb : ∀ (v2375 : IVec S16 32) (k0_hw1994 : k0_chk1994 v2375), ∀ a x, ((![v2375] : Fin 1 → IVec S16 32) a x).toNat < S32000.size a := fun v2375 k0_hw1994 => k0_hw1994

def k0_chk1995 (v2377 : IVec S16 32) : Prop :=
  (∀ a x, ((![v2377] : Fin 1 → IVec S16 32) a x).toNat < S32000.size a)
theorem k0_idx1995_inb : ∀ (v2377 : IVec S16 32) (k0_hw1995 : k0_chk1995 v2377), ∀ a x, ((![v2377] : Fin 1 → IVec S16 32) a x).toNat < S32000.size a := fun v2377 k0_hw1995 => k0_hw1995

def k0_chk1996 (v2379 : IVec S16 32) : Prop :=
  (∀ a x, ((![v2379] : Fin 1 → IVec S16 32) a x).toNat < S32000.size a)
theorem k0_idx1996_inb : ∀ (v2379 : IVec S16 32) (k0_hw1996 : k0_chk1996 v2379), ∀ a x, ((![v2379] : Fin 1 → IVec S16 32) a x).toNat < S32000.size a := fun v2379 k0_hw1996 => k0_hw1996

def k0_chk1997 (v664 : IVec S16 32) (v2430 : IVec S16 32) : Prop :=
  (∀ a x, ((![v2430, v664] : Fin 2 → IVec S16 32) a x).toNat < S64x512.size a)
theorem k0_idx1997_inb : ∀ (v664 : IVec S16 32) (v2430 : IVec S16 32) (k0_hw1997 : k0_chk1997 v664 v2430), ∀ a x, ((![v2430, v664] : Fin 2 → IVec S16 32) a x).toNat < S64x512.size a := fun v664 v2430 k0_hw1997 => k0_hw1997

def k0_chk1998 (v664 : IVec S16 32) (v2432 : IVec S16 32) : Prop :=
  (∀ a x, ((![v2432, v664] : Fin 2 → IVec S16 32) a x).toNat < S64x512.size a)
theorem k0_idx1998_inb : ∀ (v664 : IVec S16 32) (v2432 : IVec S16 32) (k0_hw1998 : k0_chk1998 v664 v2432), ∀ a x, ((![v2432, v664] : Fin 2 → IVec S16 32) a x).toNat < S64x512.size a := fun v664 v2432 k0_hw1998 => k0_hw1998

def k0_chk1999 (v2439 : IVec S16 32) : Prop :=
  (∀ a x, ((![v2439] : Fin 1 → IVec S16 32) a x).toNat < S32000.size a)
theorem k0_idx1999_inb : ∀ (v2439 : IVec S16 32) (k0_hw1999 : k0_chk1999 v2439), ∀ a x, ((![v2439] : Fin 1 → IVec S16 32) a x).toNat < S32000.size a := fun v2439 k0_hw1999 => k0_hw1999

def k0_chk2000 (v2441 : IVec S16 32) : Prop :=
  (∀ a x, ((![v2441] : Fin 1 → IVec S16 32) a x).toNat < S32000.size a)
theorem k0_idx2000_inb : ∀ (v2441 : IVec S16 32) (k0_hw2000 : k0_chk2000 v2441), ∀ a x, ((![v2441] : Fin 1 → IVec S16 32) a x).toNat < S32000.size a := fun v2441 k0_hw2000 => k0_hw2000

def k0_chk2001 (v2443 : IVec S16 32) : Prop :=
  (∀ a x, ((![v2443] : Fin 1 → IVec S16 32) a x).toNat < S32000.size a)
theorem k0_idx2001_inb : ∀ (v2443 : IVec S16 32) (k0_hw2001 : k0_chk2001 v2443), ∀ a x, ((![v2443] : Fin 1 → IVec S16 32) a x).toNat < S32000.size a := fun v2443 k0_hw2001 => k0_hw2001

def k0_chk2002 (v2445 : IVec S16 32) : Prop :=
  (∀ a x, ((![v2445] : Fin 1 → IVec S16 32) a x).toNat < S32000.size a)
theorem k0_idx2002_inb : ∀ (v2445 : IVec S16 32) (k0_hw2002 : k0_chk2002 v2445), ∀ a x, ((![v2445] : Fin 1 → IVec S16 32) a x).toNat < S32000.size a := fun v2445 k0_hw2002 => k0_hw2002

def k0_chk2003 (v2447 : IVec S16 32) : Prop :=
  (∀ a x, ((![v2447] : Fin 1 → IVec S16 32) a x).toNat < S32000.size a)
theorem k0_idx2003_inb : ∀ (v2447 : IVec S16 32) (k0_hw2003 : k0_chk2003 v2447), ∀ a x, ((![v2447] : Fin 1 → IVec S16 32) a x).toNat < S32000.size a := fun v2447 k0_hw2003 => k0_hw2003

def k0_chk2004 (v2449 : IVec S16 32) : Prop :=
  (∀ a x, ((![v2449] : Fin 1 → IVec S16 32) a x).toNat < S32000.size a)
theorem k0_idx2004_inb : ∀ (v2449 : IVec S16 32) (k0_hw2004 : k0_chk2004 v2449), ∀ a x, ((![v2449] : Fin 1 → IVec S16 32) a x).toNat < S32000.size a := fun v2449 k0_hw2004 => k0_hw2004

def k0_chk2005 (v664 : IVec S16 32) (v2500 : IVec S16 32) : Prop :=
  (∀ a x, ((![v2500, v664] : Fin 2 → IVec S16 32) a x).toNat < S64x512.size a)
theorem k0_idx2005_inb : ∀ (v664 : IVec S16 32) (v2500 : IVec S16 32) (k0_hw2005 : k0_chk2005 v664 v2500), ∀ a x, ((![v2500, v664] : Fin 2 → IVec S16 32) a x).toNat < S64x512.size a := fun v664 v2500 k0_hw2005 => k0_hw2005

def k0_chk2006 (v664 : IVec S16 32) (v2502 : IVec S16 32) : Prop :=
  (∀ a x, ((![v2502, v664] : Fin 2 → IVec S16 32) a x).toNat < S64x512.size a)
theorem k0_idx2006_inb : ∀ (v664 : IVec S16 32) (v2502 : IVec S16 32) (k0_hw2006 : k0_chk2006 v664 v2502), ∀ a x, ((![v2502, v664] : Fin 2 → IVec S16 32) a x).toNat < S64x512.size a := fun v664 v2502 k0_hw2006 => k0_hw2006

def k0_chk2007 (v2509 : IVec S16 32) : Prop :=
  (∀ a x, ((![v2509] : Fin 1 → IVec S16 32) a x).toNat < S32000.size a)
theorem k0_idx2007_inb : ∀ (v2509 : IVec S16 32) (k0_hw2007 : k0_chk2007 v2509), ∀ a x, ((![v2509] : Fin 1 → IVec S16 32) a x).toNat < S32000.size a := fun v2509 k0_hw2007 => k0_hw2007

def k0_chk2008 (v2511 : IVec S16 32) : Prop :=
  (∀ a x, ((![v2511] : Fin 1 → IVec S16 32) a x).toNat < S32000.size a)
theorem k0_idx2008_inb : ∀ (v2511 : IVec S16 32) (k0_hw2008 : k0_chk2008 v2511), ∀ a x, ((![v2511] : Fin 1 → IVec S16 32) a x).toNat < S32000.size a := fun v2511 k0_hw2008 => k0_hw2008

def k0_chk2009 (v2513 : IVec S16 32) : Prop :=
  (∀ a x, ((![v2513] : Fin 1 → IVec S16 32) a x).toNat < S32000.size a)
theorem k0_idx2009_inb : ∀ (v2513 : IVec S16 32) (k0_hw2009 : k0_chk2009 v2513), ∀ a x, ((![v2513] : Fin 1 → IVec S16 32) a x).toNat < S32000.size a := fun v2513 k0_hw2009 => k0_hw2009

def k0_chk2010 (v2515 : IVec S16 32) : Prop :=
  (∀ a x, ((![v2515] : Fin 1 → IVec S16 32) a x).toNat < S32000.size a)
theorem k0_idx2010_inb : ∀ (v2515 : IVec S16 32) (k0_hw2010 : k0_chk2010 v2515), ∀ a x, ((![v2515] : Fin 1 → IVec S16 32) a x).toNat < S32000.size a := fun v2515 k0_hw2010 => k0_hw2010

def k0_chk2011 (v2517 : IVec S16 32) : Prop :=
  (∀ a x, ((![v2517] : Fin 1 → IVec S16 32) a x).toNat < S32000.size a)
theorem k0_idx2011_inb : ∀ (v2517 : IVec S16 32) (k0_hw2011 : k0_chk2011 v2517), ∀ a x, ((![v2517] : Fin 1 → IVec S16 32) a x).toNat < S32000.size a := fun v2517 k0_hw2011 => k0_hw2011

def k0_chk2012 (v2519 : IVec S16 32) : Prop :=
  (∀ a x, ((![v2519] : Fin 1 → IVec S16 32) a x).toNat < S32000.size a)
theorem k0_idx2012_inb : ∀ (v2519 : IVec S16 32) (k0_hw2012 : k0_chk2012 v2519), ∀ a x, ((![v2519] : Fin 1 → IVec S16 32) a x).toNat < S32000.size a := fun v2519 k0_hw2012 => k0_hw2012

def k0_chk2013 (v664 : IVec S16 32) (v2570 : IVec S16 32) : Prop :=
  (∀ a x, ((![v2570, v664] : Fin 2 → IVec S16 32) a x).toNat < S64x512.size a)
theorem k0_idx2013_inb : ∀ (v664 : IVec S16 32) (v2570 : IVec S16 32) (k0_hw2013 : k0_chk2013 v664 v2570), ∀ a x, ((![v2570, v664] : Fin 2 → IVec S16 32) a x).toNat < S64x512.size a := fun v664 v2570 k0_hw2013 => k0_hw2013

def k0_chk2014 (v664 : IVec S16 32) (v2572 : IVec S16 32) : Prop :=
  (∀ a x, ((![v2572, v664] : Fin 2 → IVec S16 32) a x).toNat < S64x512.size a)
theorem k0_idx2014_inb : ∀ (v664 : IVec S16 32) (v2572 : IVec S16 32) (k0_hw2014 : k0_chk2014 v664 v2572), ∀ a x, ((![v2572, v664] : Fin 2 → IVec S16 32) a x).toNat < S64x512.size a := fun v664 v2572 k0_hw2014 => k0_hw2014

def k0_chk2015 (v2579 : IVec S16 32) : Prop :=
  (∀ a x, ((![v2579] : Fin 1 → IVec S16 32) a x).toNat < S32000.size a)
theorem k0_idx2015_inb : ∀ (v2579 : IVec S16 32) (k0_hw2015 : k0_chk2015 v2579), ∀ a x, ((![v2579] : Fin 1 → IVec S16 32) a x).toNat < S32000.size a := fun v2579 k0_hw2015 => k0_hw2015

def k0_chk2016 (v2581 : IVec S16 32) : Prop :=
  (∀ a x, ((![v2581] : Fin 1 → IVec S16 32) a x).toNat < S32000.size a)
theorem k0_idx2016_inb : ∀ (v2581 : IVec S16 32) (k0_hw2016 : k0_chk2016 v2581), ∀ a x, ((![v2581] : Fin 1 → IVec S16 32) a x).toNat < S32000.size a := fun v2581 k0_hw2016 => k0_hw2016

def k0_chk2017 (v2583 : IVec S16 32) : Prop :=
  (∀ a x, ((![v2583] : Fin 1 → IVec S16 32) a x).toNat < S32000.size a)
theorem k0_idx2017_inb : ∀ (v2583 : IVec S16 32) (k0_hw2017 : k0_chk2017 v2583), ∀ a x, ((![v2583] : Fin 1 → IVec S16 32) a x).toNat < S32000.size a := fun v2583 k0_hw2017 => k0_hw2017

def k0_chk2018 (v2585 : IVec S16 32) : Prop :=
  (∀ a x, ((![v2585] : Fin 1 → IVec S16 32) a x).toNat < S32000.size a)
theorem k0_idx2018_inb : ∀ (v2585 : IVec S16 32) (k0_hw2018 : k0_chk2018 v2585), ∀ a x, ((![v2585] : Fin 1 → IVec S16 32) a x).toNat < S32000.size a := fun v2585 k0_hw2018 => k0_hw2018

def k0_chk2019 (v2587 : IVec S16 32) : Prop :=
  (∀ a x, ((![v2587] : Fin 1 → IVec S16 32) a x).toNat < S32000.size a)
theorem k0_idx2019_inb : ∀ (v2587 : IVec S16 32) (k0_hw2019 : k0_chk2019 v2587), ∀ a x, ((![v2587] : Fin 1 → IVec S16 32) a x).toNat < S32000.size a := fun v2587 k0_hw2019 => k0_hw2019

def k0_chk2020 (v2589 : IVec S16 32) : Prop :=
  (∀ a x, ((![v2589] : Fin 1 → IVec S16 32) a x).toNat < S32000.size a)
theorem k0_idx2020_inb : ∀ (v2589 : IVec S16 32) (k0_hw2020 : k0_chk2020 v2589), ∀ a x, ((![v2589] : Fin 1 → IVec S16 32) a x).toNat < S32000.size a := fun v2589 k0_hw2020 => k0_hw2020

def k0_chk2021 (v664 : IVec S16 32) (v2640 : IVec S16 32) : Prop :=
  (∀ a x, ((![v2640, v664] : Fin 2 → IVec S16 32) a x).toNat < S64x512.size a)
theorem k0_idx2021_inb : ∀ (v664 : IVec S16 32) (v2640 : IVec S16 32) (k0_hw2021 : k0_chk2021 v664 v2640), ∀ a x, ((![v2640, v664] : Fin 2 → IVec S16 32) a x).toNat < S64x512.size a := fun v664 v2640 k0_hw2021 => k0_hw2021

def k0_chk2022 (v664 : IVec S16 32) (v2642 : IVec S16 32) : Prop :=
  (∀ a x, ((![v2642, v664] : Fin 2 → IVec S16 32) a x).toNat < S64x512.size a)
theorem k0_idx2022_inb : ∀ (v664 : IVec S16 32) (v2642 : IVec S16 32) (k0_hw2022 : k0_chk2022 v664 v2642), ∀ a x, ((![v2642, v664] : Fin 2 → IVec S16 32) a x).toNat < S64x512.size a := fun v664 v2642 k0_hw2022 => k0_hw2022

def k0_chk2023 (v2649 : IVec S16 32) : Prop :=
  (∀ a x, ((![v2649] : Fin 1 → IVec S16 32) a x).toNat < S32000.size a)
theorem k0_idx2023_inb : ∀ (v2649 : IVec S16 32) (k0_hw2023 : k0_chk2023 v2649), ∀ a x, ((![v2649] : Fin 1 → IVec S16 32) a x).toNat < S32000.size a := fun v2649 k0_hw2023 => k0_hw2023

def k0_chk2024 (v2651 : IVec S16 32) : Prop :=
  (∀ a x, ((![v2651] : Fin 1 → IVec S16 32) a x).toNat < S32000.size a)
theorem k0_idx2024_inb : ∀ (v2651 : IVec S16 32) (k0_hw2024 : k0_chk2024 v2651), ∀ a x, ((![v2651] : Fin 1 → IVec S16 32) a x).toNat < S32000.size a := fun v2651 k0_hw2024 => k0_hw2024

def k0_chk2025 (v2653 : IVec S16 32) : Prop :=
  (∀ a x, ((![v2653] : Fin 1 → IVec S16 32) a x).toNat < S32000.size a)
theorem k0_idx2025_inb : ∀ (v2653 : IVec S16 32) (k0_hw2025 : k0_chk2025 v2653), ∀ a x, ((![v2653] : Fin 1 → IVec S16 32) a x).toNat < S32000.size a := fun v2653 k0_hw2025 => k0_hw2025

def k0_chk2026 (v2655 : IVec S16 32) : Prop :=
  (∀ a x, ((![v2655] : Fin 1 → IVec S16 32) a x).toNat < S32000.size a)
theorem k0_idx2026_inb : ∀ (v2655 : IVec S16 32) (k0_hw2026 : k0_chk2026 v2655), ∀ a x, ((![v2655] : Fin 1 → IVec S16 32) a x).toNat < S32000.size a := fun v2655 k0_hw2026 => k0_hw2026

def k0_chk2027 (v2657 : IVec S16 32) : Prop :=
  (∀ a x, ((![v2657] : Fin 1 → IVec S16 32) a x).toNat < S32000.size a)
theorem k0_idx2027_inb : ∀ (v2657 : IVec S16 32) (k0_hw2027 : k0_chk2027 v2657), ∀ a x, ((![v2657] : Fin 1 → IVec S16 32) a x).toNat < S32000.size a := fun v2657 k0_hw2027 => k0_hw2027

def k0_chk2028 (v2659 : IVec S16 32) : Prop :=
  (∀ a x, ((![v2659] : Fin 1 → IVec S16 32) a x).toNat < S32000.size a)
theorem k0_idx2028_inb : ∀ (v2659 : IVec S16 32) (k0_hw2028 : k0_chk2028 v2659), ∀ a x, ((![v2659] : Fin 1 → IVec S16 32) a x).toNat < S32000.size a := fun v2659 k0_hw2028 => k0_hw2028

def k0_chk2029 (v664 : IVec S16 32) (v2710 : IVec S16 32) : Prop :=
  (∀ a x, ((![v2710, v664] : Fin 2 → IVec S16 32) a x).toNat < S64x512.size a)
theorem k0_idx2029_inb : ∀ (v664 : IVec S16 32) (v2710 : IVec S16 32) (k0_hw2029 : k0_chk2029 v664 v2710), ∀ a x, ((![v2710, v664] : Fin 2 → IVec S16 32) a x).toNat < S64x512.size a := fun v664 v2710 k0_hw2029 => k0_hw2029

def k0_chk2030 (v664 : IVec S16 32) (v2712 : IVec S16 32) : Prop :=
  (∀ a x, ((![v2712, v664] : Fin 2 → IVec S16 32) a x).toNat < S64x512.size a)
theorem k0_idx2030_inb : ∀ (v664 : IVec S16 32) (v2712 : IVec S16 32) (k0_hw2030 : k0_chk2030 v664 v2712), ∀ a x, ((![v2712, v664] : Fin 2 → IVec S16 32) a x).toNat < S64x512.size a := fun v664 v2712 k0_hw2030 => k0_hw2030

def k0_chk2031 (v2719 : IVec S16 32) : Prop :=
  (∀ a x, ((![v2719] : Fin 1 → IVec S16 32) a x).toNat < S32000.size a)
theorem k0_idx2031_inb : ∀ (v2719 : IVec S16 32) (k0_hw2031 : k0_chk2031 v2719), ∀ a x, ((![v2719] : Fin 1 → IVec S16 32) a x).toNat < S32000.size a := fun v2719 k0_hw2031 => k0_hw2031

def k0_chk2032 (v2721 : IVec S16 32) : Prop :=
  (∀ a x, ((![v2721] : Fin 1 → IVec S16 32) a x).toNat < S32000.size a)
theorem k0_idx2032_inb : ∀ (v2721 : IVec S16 32) (k0_hw2032 : k0_chk2032 v2721), ∀ a x, ((![v2721] : Fin 1 → IVec S16 32) a x).toNat < S32000.size a := fun v2721 k0_hw2032 => k0_hw2032

def k0_chk2033 (v2723 : IVec S16 32) : Prop :=
  (∀ a x, ((![v2723] : Fin 1 → IVec S16 32) a x).toNat < S32000.size a)
theorem k0_idx2033_inb : ∀ (v2723 : IVec S16 32) (k0_hw2033 : k0_chk2033 v2723), ∀ a x, ((![v2723] : Fin 1 → IVec S16 32) a x).toNat < S32000.size a := fun v2723 k0_hw2033 => k0_hw2033

def k0_chk2034 (v2725 : IVec S16 32) : Prop :=
  (∀ a x, ((![v2725] : Fin 1 → IVec S16 32) a x).toNat < S32000.size a)
theorem k0_idx2034_inb : ∀ (v2725 : IVec S16 32) (k0_hw2034 : k0_chk2034 v2725), ∀ a x, ((![v2725] : Fin 1 → IVec S16 32) a x).toNat < S32000.size a := fun v2725 k0_hw2034 => k0_hw2034

def k0_chk2035 (v2727 : IVec S16 32) : Prop :=
  (∀ a x, ((![v2727] : Fin 1 → IVec S16 32) a x).toNat < S32000.size a)
theorem k0_idx2035_inb : ∀ (v2727 : IVec S16 32) (k0_hw2035 : k0_chk2035 v2727), ∀ a x, ((![v2727] : Fin 1 → IVec S16 32) a x).toNat < S32000.size a := fun v2727 k0_hw2035 => k0_hw2035

def k0_chk2036 (v2729 : IVec S16 32) : Prop :=
  (∀ a x, ((![v2729] : Fin 1 → IVec S16 32) a x).toNat < S32000.size a)
theorem k0_idx2036_inb : ∀ (v2729 : IVec S16 32) (k0_hw2036 : k0_chk2036 v2729), ∀ a x, ((![v2729] : Fin 1 → IVec S16 32) a x).toNat < S32000.size a := fun v2729 k0_hw2036 => k0_hw2036

def k0_chk2037 (v664 : IVec S16 32) (v2780 : IVec S16 32) : Prop :=
  (∀ a x, ((![v2780, v664] : Fin 2 → IVec S16 32) a x).toNat < S64x512.size a)
theorem k0_idx2037_inb : ∀ (v664 : IVec S16 32) (v2780 : IVec S16 32) (k0_hw2037 : k0_chk2037 v664 v2780), ∀ a x, ((![v2780, v664] : Fin 2 → IVec S16 32) a x).toNat < S64x512.size a := fun v664 v2780 k0_hw2037 => k0_hw2037

def k0_chk2038 (v664 : IVec S16 32) (v2782 : IVec S16 32) : Prop :=
  (∀ a x, ((![v2782, v664] : Fin 2 → IVec S16 32) a x).toNat < S64x512.size a)
theorem k0_idx2038_inb : ∀ (v664 : IVec S16 32) (v2782 : IVec S16 32) (k0_hw2038 : k0_chk2038 v664 v2782), ∀ a x, ((![v2782, v664] : Fin 2 → IVec S16 32) a x).toNat < S64x512.size a := fun v664 v2782 k0_hw2038 => k0_hw2038

def k0_chk2039 (v2789 : IVec S16 32) : Prop :=
  (∀ a x, ((![v2789] : Fin 1 → IVec S16 32) a x).toNat < S32000.size a)
theorem k0_idx2039_inb : ∀ (v2789 : IVec S16 32) (k0_hw2039 : k0_chk2039 v2789), ∀ a x, ((![v2789] : Fin 1 → IVec S16 32) a x).toNat < S32000.size a := fun v2789 k0_hw2039 => k0_hw2039

def k0_chk2040 (v2791 : IVec S16 32) : Prop :=
  (∀ a x, ((![v2791] : Fin 1 → IVec S16 32) a x).toNat < S32000.size a)
theorem k0_idx2040_inb : ∀ (v2791 : IVec S16 32) (k0_hw2040 : k0_chk2040 v2791), ∀ a x, ((![v2791] : Fin 1 → IVec S16 32) a x).toNat < S32000.size a := fun v2791 k0_hw2040 => k0_hw2040

def k0_chk2041 (v2793 : IVec S16 32) : Prop :=
  (∀ a x, ((![v2793] : Fin 1 → IVec S16 32) a x).toNat < S32000.size a)
theorem k0_idx2041_inb : ∀ (v2793 : IVec S16 32) (k0_hw2041 : k0_chk2041 v2793), ∀ a x, ((![v2793] : Fin 1 → IVec S16 32) a x).toNat < S32000.size a := fun v2793 k0_hw2041 => k0_hw2041

def k0_chk2042 (v2795 : IVec S16 32) : Prop :=
  (∀ a x, ((![v2795] : Fin 1 → IVec S16 32) a x).toNat < S32000.size a)
theorem k0_idx2042_inb : ∀ (v2795 : IVec S16 32) (k0_hw2042 : k0_chk2042 v2795), ∀ a x, ((![v2795] : Fin 1 → IVec S16 32) a x).toNat < S32000.size a := fun v2795 k0_hw2042 => k0_hw2042

def k0_chk2043 (v2797 : IVec S16 32) : Prop :=
  (∀ a x, ((![v2797] : Fin 1 → IVec S16 32) a x).toNat < S32000.size a)
theorem k0_idx2043_inb : ∀ (v2797 : IVec S16 32) (k0_hw2043 : k0_chk2043 v2797), ∀ a x, ((![v2797] : Fin 1 → IVec S16 32) a x).toNat < S32000.size a := fun v2797 k0_hw2043 => k0_hw2043

def k0_chk2044 (v2799 : IVec S16 32) : Prop :=
  (∀ a x, ((![v2799] : Fin 1 → IVec S16 32) a x).toNat < S32000.size a)
theorem k0_idx2044_inb : ∀ (v2799 : IVec S16 32) (k0_hw2044 : k0_chk2044 v2799), ∀ a x, ((![v2799] : Fin 1 → IVec S16 32) a x).toNat < S32000.size a := fun v2799 k0_hw2044 => k0_hw2044

def k0_chk2045 (v664 : IVec S16 32) (v2850 : IVec S16 32) : Prop :=
  (∀ a x, ((![v2850, v664] : Fin 2 → IVec S16 32) a x).toNat < S64x512.size a)
theorem k0_idx2045_inb : ∀ (v664 : IVec S16 32) (v2850 : IVec S16 32) (k0_hw2045 : k0_chk2045 v664 v2850), ∀ a x, ((![v2850, v664] : Fin 2 → IVec S16 32) a x).toNat < S64x512.size a := fun v664 v2850 k0_hw2045 => k0_hw2045

def k0_chk2046 (v664 : IVec S16 32) (v2852 : IVec S16 32) : Prop :=
  (∀ a x, ((![v2852, v664] : Fin 2 → IVec S16 32) a x).toNat < S64x512.size a)
theorem k0_idx2046_inb : ∀ (v664 : IVec S16 32) (v2852 : IVec S16 32) (k0_hw2046 : k0_chk2046 v664 v2852), ∀ a x, ((![v2852, v664] : Fin 2 → IVec S16 32) a x).toNat < S64x512.size a := fun v664 v2852 k0_hw2046 => k0_hw2046

def k0_chk2047 (v664 : IVec S16 32) (v2902 : IVec S16 32) : Prop :=
  (∀ a x, ((![v2902, v664] : Fin 2 → IVec S16 32) a x).toNat < S64x512.size a)
theorem k0_idx2047_inb : ∀ (v664 : IVec S16 32) (v2902 : IVec S16 32) (k0_hw2047 : k0_chk2047 v664 v2902), ∀ a x, ((![v2902, v664] : Fin 2 → IVec S16 32) a x).toNat < S64x512.size a := fun v664 v2902 k0_hw2047 => k0_hw2047

def k0_chk2048 (v664 : IVec S16 32) (v2904 : IVec S16 32) : Prop :=
  (∀ a x, ((![v2904, v664] : Fin 2 → IVec S16 32) a x).toNat < S64x512.size a)
theorem k0_idx2048_inb : ∀ (v664 : IVec S16 32) (v2904 : IVec S16 32) (k0_hw2048 : k0_chk2048 v664 v2904), ∀ a x, ((![v2904, v664] : Fin 2 → IVec S16 32) a x).toNat < S64x512.size a := fun v664 v2904 k0_hw2048 => k0_hw2048
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x8x6x32x32 : Shape := ⟨5, ![16, 8, 6, 32, 32]⟩
abbrev S32000 : Shape := ⟨1, ![32000]⟩
abbrev S32000x2 : Shape := ⟨2, ![32000, 2]⟩
abbrev S1000x64 : Shape := ⟨2, ![1000, 64]⟩
abbrev S_ : Shape := ⟨0, ![]⟩
abbrev S16x8x6x32x32x1 : Shape := ⟨6, ![16, 8, 6, 32, 32, 1]⟩
abbrev S1 : Shape := ⟨1, ![1]⟩
abbrev S1x1x1x1x1x1 : Shape := ⟨6, ![1, 1, 1, 1, 1, 1]⟩
abbrev S16x8x6x32x32x64 : Shape := ⟨6, ![16, 8, 6, 32, 32, 64]⟩
abbrev S16x8x32x32x64 : Shape := ⟨5, ![16, 8, 32, 32, 64]⟩
abbrev S16x8x64x32x32 : Shape := ⟨5, ![16, 8, 64, 32, 32]⟩
abbrev S128x64x1024 : Shape := ⟨3, ![128, 64, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16x8x6x32x32, .i32⟩
  | .hbm, ⟨1, _⟩ => ⟨S32000, .i32⟩
  | .hbm, ⟨2, _⟩ => ⟨S32000x2, .bf16⟩
  | .hbm, ⟨3, _⟩ => ⟨S1000x64, .bf16⟩
  | .hbm, ⟨4, _⟩ => ⟨S1000x64, .f32⟩
  | .hbm, ⟨5, _⟩ => ⟨S_, .i32⟩
  | .hbm, ⟨6, _⟩ => ⟨S16x8x6x32x32, .i32⟩
  | .hbm, ⟨7, _⟩ => ⟨S16x8x6x32x32, .i1⟩
  | .hbm, ⟨8, _⟩ => ⟨S_, .i32⟩
  | .hbm, ⟨9, _⟩ => ⟨S16x8x6x32x32, .i32⟩
  | .hbm, ⟨10, _⟩ => ⟨S16x8x6x32x32, .i32⟩
  | .hbm, ⟨11, _⟩ => ⟨S16x8x6x32x32, .i32⟩
  | .hbm, ⟨12, _⟩ => ⟨S16x8x6x32x32x1, .i32⟩
  | .hbm, ⟨13, _⟩ => ⟨S1, .i32⟩
  | .hbm, ⟨14, _⟩ => ⟨S_, .i32⟩
  | .hbm, ⟨15, _⟩ => ⟨S16x8x6x32x32x1, .i32⟩
  | .hbm, ⟨16, _⟩ => ⟨S16x8x6x32x32x1, .i1⟩
  | .hbm, ⟨17, _⟩ => ⟨S1x1x1x1x1x1, .i32⟩
  | .hbm, ⟨18, _⟩ => ⟨S16x8x6x32x32x1, .i32⟩
  | .hbm, ⟨19, _⟩ => ⟨S16x8x6x32x32x1, .i1⟩
  | .hbm, ⟨20, _⟩ => ⟨S16x8x6x32x32x1, .i1⟩
  | .hbm, ⟨21, _⟩ => ⟨S_, .i1⟩
  | .hbm, ⟨22, _⟩ => ⟨S16x8x6x32x32, .i1⟩
  | .hbm, ⟨23, _⟩ => ⟨S16x8x6x32x32x64, .f32⟩
  | .hbm, ⟨24, _⟩ => ⟨S16x8x6x32x32x64, .i1⟩
  | .hbm, ⟨25, _⟩ => ⟨S_, .f32⟩
  | .hbm, ⟨26, _⟩ => ⟨S16x8x6x32x32x64, .f32⟩
  | .hbm, ⟨27, _⟩ => ⟨S16x8x6x32x32x64, .f32⟩
  | .hbm, ⟨28, _⟩ => ⟨S_, .i32⟩
  | .hbm, ⟨29, _⟩ => ⟨S16x8x6x32x32, .i32⟩
  | .hbm, ⟨30, _⟩ => ⟨S16x8x6x32x32, .i1⟩
  | .hbm, ⟨31, _⟩ => ⟨S16x8x6x32x32x1, .i1⟩
  | .hbm, ⟨32, _⟩ => ⟨S16x8x6x32x32x1, .f32⟩
  | .hbm, ⟨33, _⟩ => ⟨S16x8x6x32x32x64, .f32⟩
  | .hbm, ⟨34, _⟩ => ⟨S16x8x6x32x32x64, .f32⟩
  | .hbm, ⟨35, _⟩ => ⟨S_, .f32⟩
  | .hbm, ⟨36, _⟩ => ⟨S16x8x32x32x64, .f32⟩
  | .hbm, ⟨37, _⟩ => ⟨S16x8x64x32x32, .f32⟩
  | .hbm, ⟨38, _⟩ => ⟨S128x64x1024, .f32⟩
  | _, _ => ⟨S16x8x6x32x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩

abbrev nD : Nat := 1
abbrev τ : Topo := Topo.v7x

variable {F : FTy → Type} [FloatOps F]
-- ==== Proof.Ref.lean ====
/-
  The reference's result at an index: the sum of the six rows the point's indices name.
-/
module

public import proofs.«01_k».proof.Proof.Gen.ReferenceIdeal.Run
public import Idealize.ShloMosaic.Lib.Pointwise
public import Idealize.ShloMosaic.Lib.BitcastConvert
public import Idealize.ShloMosaic.Lib.ReduceAll
public import Idealize.ShloMosaic.Lib.IdealHost

@[expose] public section

noncomputable section

namespace Cert.Proof.Ref

open Cert.ReferenceIdeal Cert.ReferenceIdeal.Gen
open Idealize.ShloMosaic

/-- The rows the indices name. -/
def rowIdx (A : IVec S16x8x6x32x32 32) : IVec S16x8x6x32x32x1 32 :=
  broadcastInDim S16x8x6x32x32x1 ![0, 1, 2, 3, 4] bcast_S16x8x6x32x32_S16x8x6x32x32x1_0_1_2_3_4 (select (cmpi .slt A (broadcastInDim S16x8x6x32x32 ![] bcast_S_S16x8x6x32x32 (constantI S_ 32 0#32))) (addi A (broadcastInDim S16x8x6x32x32 ![] bcast_S_S16x8x6x32x32 (constantI S_ 32 1000#32))) A)

/-- Whether a row is one of the table's. -/
def inRange (A : IVec S16x8x6x32x32 32) : IVec S16x8x6x32x32 1 :=
  Host.reduce IntOp.andi (andi (cmpi .sge (rowIdx A) (broadcastInDim S16x8x6x32x32x1 ![] bcast_S_S16x8x6x32x32x1 (constantI S_ 32 0#32))) (cmpi .sle (rowIdx A) (broadcastInDim S16x8x6x32x32x1 ![0, 1, 2, 3, 4, 5] bcast_S1x1x1x1x1x1_S16x8x6x32x32x1_0_1_2_3_4_5 (broadcastInDim S1x1x1x1x1x1 ![5] bcast_S1_S1x1x1x1x1x1_5 (constantI S1 32 999#32))))) (constantI S_ 1 1#1) reducesTo_S16x8x6x32x32x1_S16x8x6x32x32_d5 h_S_

/-- The table, of its words. -/
def table (T : IVec S32000 32) : FVec Ideal S1000x64 .f32 :=
  extf .f32 (shapeCast S1000x64 (bitcastToFloat (F := Ideal) .bf16 (Host.bitcastConvertNarrow S32000x2 16 T splits_S32000_w32_S32000x2_w16)) shapeCasts_S32000x2_S1000x64) bitsLt_bf16_f32

/-- One where an index is not zero, zero where it is. -/
def weight (A : IVec S16x8x6x32x32 32) : FVec Ideal S16x8x6x32x32x64 .f32 :=
  broadcastInDim S16x8x6x32x32x64 ![0, 1, 2, 3, 4, 5] bcast_S16x8x6x32x32x1_S16x8x6x32x32x64_0_1_2_3_4_5 (uitofp .f32 (broadcastInDim S16x8x6x32x32x1 ![0, 1, 2, 3, 4] bcast_S16x8x6x32x32_S16x8x6x32x32x1_0_1_2_3_4 (cmpi .ne A (broadcastInDim S16x8x6x32x32 ![] bcast_S_S16x8x6x32x32 (constantI S_ 32 0#32)))))

/-- The rows, before they are summed. -/
def terms (A : IVec S16x8x6x32x32 32) (T : IVec S32000 32) : FVec Ideal S16x8x6x32x32x64 .f32 :=
  mulf (select (broadcastInDim S16x8x6x32x32x64 ![0, 1, 2, 3, 4] bcast_S16x8x6x32x32_S16x8x6x32x32x64_0_1_2_3_4 (inRange A)) (Host.gather gather_S1000x64_S16x8x6x32x32x1_S16x8x6x32x32x64_5_0_n_n_0_5_164 (table T) (rowIdx A)) (broadcastInDim S16x8x6x32x32x64 ![] bcast_S_S16x8x6x32x32x64 (constant S_ .f32 0x7FC00000#32))) (weight A)

/-- What the reference computes from the indices `A` and the table's words `T`. -/
def refOut (A : IVec S16x8x6x32x32 32) (T : IVec S32000 32) : FVec Ideal S128x64x1024 .f32 :=
  shapeCast S128x64x1024 (transpose S16x8x64x32x32 [0, 1, 4, 2, 3] (Host.reduceAdd (terms A T) (constant S_ .f32 0x00000000#32) reducesTo_S16x8x6x32x32x64_S16x8x32x32x64_d2 h_S_) transposes_S16x8x32x32x64_S16x8x64x32x32_0_1_4_2_3) shapeCasts_S16x8x64x32x32_S128x64x1024

set_option maxRecDepth 16384

/-- Word `n` of the table, zero past its end. -/
def word (T : IVec S32000 32) (n : ℕ) : BitVec 32 := if h : n < 32000 then T (Shape.ofLane (d := ![32000]) ⟨n, h⟩) else 0#32

/-- Number `r` of row `n` of the table: half `r % 2` of word `r / 2` of the row. -/
def entry (T : IVec S32000 32) (n r : ℕ) : EReal := Ideal.ofBits .bf16 ((word T (n * 32 + r / 2)).extractLsb' (r % 2 * 16) 16)

theorem word_of (T : IVec S32000 32) (i : S32000.Idx) : T i = word T (i 0).val := by
  unfold word
  rw [dif_pos (show (i 0).val < 32000 from (i 0).isLt)]
  congr 1; funext a; fin_cases a; rfl

/-- An index in range is not below zero. -/
theorem slt_zero {x : BitVec 32} (h : x.toNat < 1000) : x.slt 0#32 = false := by
  rw [BitVec.slt_eq_decide, decide_eq_false_iff_not, BitVec.toInt_eq_toNat_of_lt (by omega)]
  simp

theorem rowIdx_at (A : IVec S16x8x6x32x32 32) (hA : ∀ i, (A i).toNat < 1000) (a : Fin 16) (b : Fin 8) (k : Fin 6) (p q : Fin 32) (z : Fin 1) :
    rowIdx A (ix6 a b k p q z) = A (ix5 a b k p q) := by
  have h := slt_zero (hA (ix5 a b k p q))
  pointwise [rowIdx]
  simp [Scalar.select, IntOp.cmpi, h]

theorem inRange_at (A : IVec S16x8x6x32x32 32) (hA : ∀ i, (A i).toNat < 1000) (j : S16x8x6x32x32.Idx) : inRange A j = 1#1 := by
  refine Host.reduce_andi_one _ _ _ _ _ rfl fun i => ?_
  idx_vars i
  have h := hA (ix5 i0 i1 i2 i3 i4)
  pointwise [rowIdx_at A hA]
  have h0 : (0#32).sle (A (ix5 i0 i1 i2 i3 i4)) = true := by
    rw [BitVec.sle_eq_decide, decide_eq_true_eq, BitVec.toInt_eq_toNat_of_lt (x := A (ix5 i0 i1 i2 i3 i4)) (by omega)]; simp
  have h1 : (A (ix5 i0 i1 i2 i3 i4)).sle 999#32 = true := by
    rw [BitVec.sle_eq_decide, decide_eq_true_eq, BitVec.toInt_eq_toNat_of_lt (by omega)]
    have e : (999#32).toInt = 999 := by decide
    rw [e]; omega
  simp [IntOp.cmpi, h0, h1, IntOp.andi]

theorem weight_at (A : IVec S16x8x6x32x32 32) (a : Fin 16) (b : Fin 8) (k : Fin 6) (p q : Fin 32) (e : Fin 64) :
    weight A (ix6 a b k p q e) = if A (ix5 a b k p q) = 0#32 then (0 : EReal) else 1 := by
  pointwise [weight]
  show (((IntOp.cmpi .ne (A (ix5 a b k p q)) 0#32).toNat : ℝ) : EReal) = _
  by_cases h : A (ix5 a b k p q) = 0#32
  · rw [if_pos h, h]; simp [IntOp.cmpi]
  · rw [if_neg h]; simp [IntOp.cmpi, h]

theorem table_at (T : IVec S32000 32) (r : Fin 1000) (e : Fin 64) : table T (ix2 r e) = entry T r.val e.val := by
  pointwise [table]
  rw [word_of T]
  rfl

theorem gather_at (x : FVec Ideal S1000x64 .f32) (i : IVec S16x8x6x32x32x1 32) (a : Fin 16) (b : Fin 8) (k : Fin 6) (p q : Fin 32) (e : Fin 64) :
    Host.gather gather_S1000x64_S16x8x6x32x32x1_S16x8x6x32x32x64_5_0_n_n_0_5_164 x i (ix6 a b k p q e)
      = x (ix2 ⟨min (i (ix6 a b k p q 0)).toInt.toNat 999, by omega⟩ e) := by
  unfold Host.gather
  congr 1
  funext c
  refine Fin.ext ?_
  show GatherDims.start _ _ i c + GatherDims.batchCoord _ _ c + GatherDims.offCoord _ _ c = _
  rw [GatherDims.batchCoord_eq_zero _ _ _ List.not_mem_nil]
  have h01 : c = (0 : Fin 2) ∨ c = (1 : Fin 2) := by
    match c with
    | ⟨0, _⟩ => exact .inl rfl
    | ⟨1, _⟩ => exact .inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ GatherDims.startIndexMap gather_S1000x64_S16x8x6x32x32x1_S16x8x6x32x32x64_5_0_n_n_0_5_164 from List.mem_singleton.mpr rfl)]
    have hsi : GatherDims.siIdx gather_S1000x64_S16x8x6x32x32x1_S16x8x6x32x32x64_5_0_n_n_0_5_164 (ix6 a b k p q e)
        ⟨List.idxOf (0 : Fin 2) (GatherDims.startIndexMap gather_S1000x64_S16x8x6x32x32x1_S16x8x6x32x32x64_5_0_n_n_0_5_164),
          List.idxOf_lt_length_iff.2 (List.mem_singleton.mpr rfl)⟩ = ix6 a b k p q 0 := by
      funext b; refine Fin.ext ?_
      match b with
      | ⟨0, _⟩ => rfl
      | ⟨1, _⟩ => rfl
      | ⟨2, _⟩ => rfl
      | ⟨3, _⟩ => rfl
      | ⟨4, _⟩ => rfl
      | ⟨5, _⟩ => rfl
    erw [hsi]
    rfl
  · unfold GatherDims.start
    rw [dif_neg (show ¬ (1 : Fin 2) ∈ GatherDims.startIndexMap gather_S1000x64_S16x8x6x32x32x1_S16x8x6x32x32x64_5_0_n_n_0_5_164 by decide)]
    unfold GatherDims.offCoord
    rw [dif_pos (show (1 : Fin 2) ∈ GatherDims.sKept gather_S1000x64_S16x8x6x32x32x1_S16x8x6x32x32x64_5_0_n_n_0_5_164 by decide)]
    simp only [Nat.zero_add]
    rfl

theorem toInt_toNat {x : BitVec 32} (h : x.toNat < 1000) : x.toInt.toNat = x.toNat := by
  rw [BitVec.toInt_eq_toNat_of_lt (by omega), Int.toNat_natCast]

/-- Row zero's numbers are zero. -/
theorem entry_zero (T : IVec S32000 32) (hT : ∀ n, n < 32 → word T n = 0#32) (r : ℕ) (hr : r < 64) : entry T 0 r = 0 := by
  unfold entry
  rw [hT _ (by omega), BitVec.extractLsb'_zero]
  simp [Ideal.ofBits, Ideal.ieee]

/-- What the reference gathers, at an index. -/
theorem gathered_at (A : IVec S16x8x6x32x32 32) (T : IVec S32000 32) (hA : ∀ i, (A i).toNat < 1000)
    (a : Fin 16) (b : Fin 8) (k : Fin 6) (p q : Fin 32) (e : Fin 64) :
    Host.gather gather_S1000x64_S16x8x6x32x32x1_S16x8x6x32x32x64_5_0_n_n_0_5_164 (table T) (rowIdx A) (ix6 a b k p q e)
      = entry T (A (ix5 a b k p q)).toNat e.val := by
  have h := hA (ix5 a b k p q)
  rw [gather_at, table_at]
  refine congrArg (fun n => entry T n e.val) ?_
  show min (rowIdx A (ix6 a b k p q 0)).toInt.toNat 999 = _
  rw [rowIdx_at A hA, toInt_toNat h]
  omega

theorem mask_at (m : IVec S16x8x6x32x32 1) (a : Fin 16) (b : Fin 8) (k : Fin 6) (p q : Fin 32) (e : Fin 64) :
    broadcastInDim S16x8x6x32x32x64 ![0, 1, 2, 3, 4] bcast_S16x8x6x32x32_S16x8x6x32x32x64_0_1_2_3_4 m (ix6 a b k p q e)
      = m (ix5 a b k p q) := by pointwise

theorem product (u v w : Ideal .f32) : FloatOps.mulf (Scalar.select 1#1 u v) w = (u : EReal) * (w : EReal) := rfl

/-- A row's number before the sum, as a choice and a product. -/
theorem terms_eq (A : IVec S16x8x6x32x32 32) (T : IVec S32000 32) (a : Fin 16) (b : Fin 8) (k : Fin 6) (p q : Fin 32) (e : Fin 64)
    (hm : inRange A (ix5 a b k p q) = 1#1) :
    terms A T (ix6 a b k p q e)
      = (Host.gather gather_S1000x64_S16x8x6x32x32x1_S16x8x6x32x32x64_5_0_n_n_0_5_164 (table T) (rowIdx A) (ix6 a b k p q e) : EReal)
        * weight A (ix6 a b k p q e) := by
  have h : terms A T (ix6 a b k p q e) = FloatOps.mulf
      (Scalar.select (broadcastInDim S16x8x6x32x32x64 ![0, 1, 2, 3, 4] bcast_S16x8x6x32x32_S16x8x6x32x32x64_0_1_2_3_4 (inRange A) (ix6 a b k p q e))
        (Host.gather gather_S1000x64_S16x8x6x32x32x1_S16x8x6x32x32x64_5_0_n_n_0_5_164 (table T) (rowIdx A) (ix6 a b k p q e))
        (broadcastInDim S16x8x6x32x32x64 ![] bcast_S_S16x8x6x32x32x64 (constant (F := Ideal) S_ .f32 0x7FC00000#32) (ix6 a b k p q e)))
      (weight A (ix6 a b k p q e)) := rfl
  rw [h, mask_at, hm]
  exact product _ _ _

/-- A row's number before the sum is the table's: row zero is zero already. -/
theorem terms_at (A : IVec S16x8x6x32x32 32) (T : IVec S32000 32) (hA : ∀ i, (A i).toNat < 1000) (hT : ∀ n, n < 32 → word T n = 0#32)
    (a : Fin 16) (b : Fin 8) (k : Fin 6) (p q : Fin 32) (e : Fin 64) :
    terms A T (ix6 a b k p q e) = entry T (A (ix5 a b k p q)).toNat e.val := by
  rw [terms_eq A T a b k p q e (inRange_at A hA _), gathered_at A T hA, weight_at]
  by_cases h0 : A (ix5 a b k p q) = 0#32
  · rw [if_pos h0, h0]
    exact (mul_zero _).trans (entry_zero T hT _ e.isLt).symm
  · rw [if_neg h0]
    exact mul_one _

theorem refOut_at (A : IVec S16x8x6x32x32 32) (T : IVec S32000 32) (hA : ∀ i, (A i).toNat < 1000) (hT : ∀ n, n < 32 → word T n = 0#32)
    (j : S128x64x1024.Idx) :
    refOut A T j = ∑ k : Fin 6, entry T (A (ix5 ⟨(j 0).val / 8, by have : (j 0).val < 128 := (j 0).isLt; omega⟩ ⟨(j 0).val % 8, by omega⟩ k
      ⟨(j 2).val / 32, by have : (j 2).val < 1024 := (j 2).isLt; omega⟩ ⟨(j 2).val % 32, by omega⟩)).toNat (j 1).val := by
  pointwise [refOut]
  rw [Ideal.hostReduceAdd_single _ (by decide), zero_add]
  refine Finset.sum_congr rfl fun k _ => ?_
  refine Eq.trans ?_ (terms_at A T hA hT _ _ k _ _ (j 1))
  congr 1
  funext c
  fin_cases c <;> rfl

end Cert.Proof.Ref

end
-- ==== Proof.Trip.lean ====
/-
  One trip of a tile's loop as one program over any three buffers, and the printed trips as it.
-/
module

public import proofs.«01_k».proof.Proof.Gen.KernelIdeal
public import Idealize.ShloMosaic.Lib.SparseCore.Ops
public import Idealize.ShloMosaic.Lib.Tactic

@[expose] public section

noncomputable section

namespace Cert.Proof.Emb

open Cert.KernelIdeal Cert.KernelIdeal.Gen
open Idealize.ShloMosaic Idealize.SL.Sem

variable {F : FTy → Type} [FloatOps F]

/-- Six things, one for each index of a point. -/
structure Six (α : Type) where
  a0 : α
  a1 : α
  a2 : α
  a3 : α
  a4 : α
  a5 : α

section
variable {c : Fin τ.nSC} {s : Fin τ.nSub}

/-- The gather of one vector of words of the table. -/
def gather (tab : Memref sig .scVector .vmem S32000 .i32) (v : IVec S16 32) :
    Prog (TpuEff nD τ sig (Elt F) Λ₀ (.scVector c s)) (Vec F S16 .i32) := do
  have hw : k0_chk1 v := (← Prog.lift (TpuEff.assume (k0_chk1 v) (k0_chk1.dec v))).down
  SparseCore.vectorLoadIdx tab ![v] (k0_idx1_inb v hw) (View.loads_vmem h_S32000)

/-- The scatter of one vector of sums. -/
def scatter (out : Memref sig .scVector .vmem S64x512 .f32) (p r : IVec S16 32) (x : FVec F S16 .f32) :
    Prog (TpuEff nD τ sig (Elt F) Λ₀ (.scVector c s)) PUnit := do
  have hw : k0_chk13 p r := (← Prog.lift (TpuEff.assume (k0_chk13 p r) (k0_chk13.dec p r))).down
  SparseCore.vectorStoreIdx out ![r, p] x (fun _ => 1#1) false (k0_idx13_inb p r hw) (View.stores_vmem_bits_univ h_S64x512 rfl)

/-- The word of a row each lane reads in the group `(j, h)`. -/
abbrev wordOf (io : IVec S16 32) (g : BitVec 32 × BitVec 32) : IVec S16 32 :=
  addi (andi (addi io (broadcast S16 g.1)) (broadcast S16 15#32)) (broadcast S16 g.2)

/-- The six gathers of a group. -/
def gathers (tab : Memref sig .scVector .vmem S32000 .i32) (rows : Six (IVec S16 32)) (ep : IVec S16 32) :
    Prog (TpuEff nD τ sig (Elt F) Λ₀ (.scVector c s)) (Six (Vec F S16 .i32)) := do
  let w0 ← gather tab (addi rows.a0 ep)
  let w1 ← gather tab (addi rows.a1 ep)
  let w2 ← gather tab (addi rows.a2 ep)
  let w3 ← gather tab (addi rows.a3 ep)
  let w4 ← gather tab (addi rows.a4 ep)
  let w5 ← gather tab (addi rows.a5 ep)
  pure ⟨w0, w1, w2, w3, w4, w5⟩

/-- The low half of each word, as a number. -/
abbrev lowHalf (w : IVec S16 32) : FVec F S16 .bf16 := bitcastToFloat .bf16 (trunci 16 w natLt_16_32)

/-- The high half of each word, as a number. -/
abbrev highHalf (w : IVec S16 32) : FVec F S16 .bf16 := lowHalf (shrui w (broadcast S16 16#32))

/-- The sum of six vectors of halves, widened. -/
abbrev sum6 (b0 b1 b2 b3 b4 b5 : FVec F S16 .bf16) : FVec F S16 .f32 :=
  extf .f32 (addf (addf (addf b0 b1) (addf b2 b3)) (addf b4 b5)) bitsLt_bf16_f32

/-- The two scatters of a group. -/
def scatters (out : Memref sig .scVector .vmem S64x512 .f32) (p ep : IVec S16 32) (w : Six (IVec S16 32)) :
    Prog (TpuEff nD τ sig (Elt F) Λ₀ (.scVector c s)) PUnit := do
  scatter out p (muli (broadcast S16 2#32) ep)
    (sum6 (lowHalf w.a0) (lowHalf w.a1) (lowHalf w.a2) (lowHalf w.a3) (lowHalf w.a4) (lowHalf w.a5))
  scatter out p (addi (muli (broadcast S16 2#32) ep) (broadcast S16 1#32))
    (sum6 (highHalf w.a0) (highHalf w.a1) (highHalf w.a2) (highHalf w.a3) (highHalf w.a4) (highHalf w.a5))

/-- The groups of a trip, each group's gathers before the scatters of the group before it. -/
def groups (tab : Memref sig .scVector .vmem S32000 .i32) (out : Memref sig .scVector .vmem S64x512 .f32)
    (p io : IVec S16 32) (rows : Six (IVec S16 32)) :
    IVec S16 32 → Six (Vec F S16 .i32) → List (BitVec 32 × BitVec 32) →
    Prog (TpuEff nD τ sig (Elt F) Λ₀ (.scVector c s)) PUnit
  | ep, w, [] => scatters out p ep w
  | ep, w, g :: gs => do
    let w' ← gathers tab rows (wordOf io g)
    scatters out p ep w
    groups tab out p io rows (wordOf io g) w' gs

/-- The groups after the first. -/
def laterGroups : List (BitVec 32 × BitVec 32) :=
  [(1#32, 0#32), (2#32, 0#32), (3#32, 0#32), (4#32, 0#32), (5#32, 0#32), (6#32, 0#32), (7#32, 0#32),
   (8#32, 0#32), (9#32, 0#32), (10#32, 0#32), (11#32, 0#32), (12#32, 0#32), (13#32, 0#32), (14#32, 0#32), (15#32, 0#32),
   (0#32, 16#32), (1#32, 16#32), (2#32, 16#32), (3#32, 16#32), (4#32, 16#32), (5#32, 16#32), (6#32, 16#32), (7#32, 16#32),
   (8#32, 16#32), (9#32, 16#32), (10#32, 16#32), (11#32, 16#32), (12#32, 16#32), (13#32, 16#32), (14#32, 16#32), (15#32, 16#32)]

/-- A load of sixteen indices, as the first words of the rows they name. -/
def rowsAt (idx : Memref sig .scVector .vmem S6x512 .i32) (o : Fin 2 → Nat) (ho : ∀ a, o a + S1x16.size a ≤ S6x512.size a) :
    Prog (TpuEff nD τ sig (Elt F) Λ₀ (.scVector c s)) (IVec S16 32) := do
  let v : Vec F S1x16 .i32 ← Prog.lift (.load idx (Rect.unit (s := S6x512) o S1x16.size ho).toLoadRect (View.loadsAt_vmem h_S1x16))
  pure (muli (shapeCast S16 v shapeCasts_S1x16_S16) (broadcast S16 32#32))

/-- One trip: sixteen points, from the sixteen offsets of their indices and the number of the trip. -/
def trip (tab : Memref sig .scVector .vmem S32000 .i32) (idx : Memref sig .scVector .vmem S6x512 .i32)
    (out : Memref sig .scVector .vmem S64x512 .f32) (io : IVec S16 32) (iv : BitVec 32)
    (o0 o1 o2 o3 o4 o5 : Fin 2 → Nat) (h0 : ∀ a, o0 a + S1x16.size a ≤ S6x512.size a) (h1 : ∀ a, o1 a + S1x16.size a ≤ S6x512.size a)
    (h2 : ∀ a, o2 a + S1x16.size a ≤ S6x512.size a) (h3 : ∀ a, o3 a + S1x16.size a ≤ S6x512.size a)
    (h4 : ∀ a, o4 a + S1x16.size a ≤ S6x512.size a) (h5 : ∀ a, o5 a + S1x16.size a ≤ S6x512.size a) :
    Prog (TpuEff nD τ sig (Elt F) Λ₀ (.scVector c s)) PUnit := do
  let r0 ← rowsAt idx o0 h0
  let r1 ← rowsAt idx o1 h1
  let r2 ← rowsAt idx o2 h2
  let r3 ← rowsAt idx o3 h3
  let r4 ← rowsAt idx o4 h4
  let r5 ← rowsAt idx o5 h5
  let w ← gathers tab ⟨r0, r1, r2, r3, r4, r5⟩ (wordOf io (0#32, 0#32))
  groups tab out (addi (broadcast S16 (Scalar.muli iv 16#32)) io) io ⟨r0, r1, r2, r3, r4, r5⟩ (wordOf io (0#32, 0#32)) w laterGroups
end

end Cert.Proof.Emb

end
-- ==== Proof.Task.lean ====
/-
  A tile's task as one program: eight items, the copies of the next item's indices and of the last
  items' sums under way beside each item's loop.
-/
module

public import proofs.«01_k».proof.Proof.Trip

@[expose] public section

noncomputable section

namespace Cert.Proof.Emb

open Cert.KernelIdeal Cert.KernelIdeal.Gen
open Idealize.ShloMosaic Idealize.SL.Sem

variable {F : FTy → Type} [FloatOps F]

section
variable {c : Fin τ.nSC} {s : Fin τ.nSub}

/-- An item's loop: thirty-two trips. -/
def item (tab : Memref sig .scVector .vmem S32000 .i32) (idx : Memref sig .scVector .vmem S6x512 .i32)
    (out : Memref sig .scVector .vmem S64x512 .f32) : Prog (TpuEff nD τ sig (Elt F) Λ₀ (.scVector c s)) PUnit :=
  Scf.Loop.for k0_t1_loop k0_t1_ok ⟨⟩ fun t _ =>
    trip tab idx out (iota .scVector S16 32 [0] iota_S16_d0_w32_scVector) (Scf.iv 0#32 1#32 t)
      (k0_off2 t) (k0_off3 t) (k0_off4 t) (k0_off5 t) (k0_off6 t) (k0_off7 t)
      (k0_off2_inb t) (k0_off3_inb t) (k0_off4_inb t) (k0_off5_inb t) (k0_off6_inb t) (k0_off7_inb t)

/-- The indices of item `k` of the tile at `i`, in the array of all indices. -/
abbrev inW (x : Memref sig .scVector .hbm S128x6x1024 .i32) (i : grid0.Coords) (k : Fin 8) : Memref sig .scVector .hbm S6x512 .i32 :=
  (x.slice (Rect.unit (s := S128x6x1024) (k0_off1 i (BitVec.ofNat 32 k.val)) S1x6x512.size (k0_off1_inb i k)) (fun _ => rfl)).squeeze S6x512 squeezes_S1x6x512_S6x512

/-- The sums of item `k` of the tile at `i`, in the array of all sums. -/
abbrev outW (o : Memref sig .scVector .hbm S128x64x1024 .f32) (i : grid0.Coords) (k : Fin 8) : Memref sig .scVector .hbm S64x512 .f32 :=
  (o.slice (Rect.unit (s := S128x64x1024) (k0_off8 i (BitVec.ofNat 32 k.val)) S1x64x512.size (k0_off8_inb i k)) (fun _ => rfl)).squeeze S64x512 squeezes_S1x64x512_S64x512

abbrev startIn (x : Memref sig .scVector .hbm S128x6x1024 .i32) (i : grid0.Coords) (k : Fin 8) (idx : Memref sig .scVector .vmem S6x512 .i32)
    (hidx : idx.IsWhole) (sem : DmaSems sig S_) : Prog (TpuEff nD τ sig (Elt F) Λ₀ (.scVector c s)) PUnit :=
  Prog.lift (.enqueueDma (inW x i k) (.here idx) (.dma sem.sem) ((View.wordExact_bits rfl).reshape _ _) hidx.wordExact ⟨Or.inl rfl, trivial⟩)

abbrev waitIn (x : Memref sig .scVector .hbm S128x6x1024 .i32) (i : grid0.Coords) (k : Fin 8) (idx : Memref sig .scVector .vmem S6x512 .i32)
    (hidx : idx.IsWhole) (sem : DmaSems sig S_) : Prog (TpuEff nD τ sig (Elt F) Λ₀ (.scVector c s)) PUnit :=
  Prog.lift (.waitDma2 sem.sem (inW x i k) idx ((View.wordExact_bits rfl).reshape _ _) hidx.wordExact)

abbrev startOut (o : Memref sig .scVector .hbm S128x64x1024 .f32) (i : grid0.Coords) (k : Fin 8) (out : Memref sig .scVector .vmem S64x512 .f32)
    (hout : out.IsWhole) (sem : DmaSems sig S_) : Prog (TpuEff nD τ sig (Elt F) Λ₀ (.scVector c s)) PUnit :=
  Prog.lift (.enqueueDma out (.here (outW o i k)) (.dma sem.sem) hout.wordExact ((View.wordExact_bits rfl).reshape _ _) ⟨Or.inl rfl, trivial⟩)

abbrev waitOut (o : Memref sig .scVector .hbm S128x64x1024 .f32) (i : grid0.Coords) (k : Fin 8) (out : Memref sig .scVector .vmem S64x512 .f32)
    (hout : out.IsWhole) (sem : DmaSems sig S_) : Prog (TpuEff nD τ sig (Elt F) Λ₀ (.scVector c s)) PUnit :=
  Prog.lift (.waitDma2 sem.sem out (outW o i k) hout.wordExact ((View.wordExact_bits rfl).reshape _ _))
end

/-- The task of the tile at `i`. -/
def task (i : grid0.Coords) (arg2 : Memref sig .scVector .hbm S128x6x1024 .i32)
    (arg3 : Memref sig .scVector .hbm S32000 .i32) (harg3 : arg3.IsWhole) (arg4 : Memref sig .scVector .hbm S128x64x1024 .f32)
    (arg5 : Memref sig .scVector .vmem S32000 .i32) (harg5 : arg5.IsWhole) (arg6 : Memref sig .scVector .vmem S6x512 .i32) (harg6 : arg6.IsWhole)
    (arg7 : Memref sig .scVector .vmem S6x512 .i32) (harg7 : arg7.IsWhole) (arg8 : Memref sig .scVector .vmem S64x512 .f32) (harg8 : arg8.IsWhole)
    (arg9 : Memref sig .scVector .vmem S64x512 .f32) (harg9 : arg9.IsWhole)
    (arg10 arg11 arg12 arg13 r0 : DmaSems sig S_) :
    Prog (TpuEff nD τ sig (Elt F) Λ₀ (.scVector ((i 0).castLE hcore0) ((i 1).castLE hsub0))) PUnit := do
  Prog.lift (.enqueueDma arg3 (.here arg5) (.dma r0.sem) harg3.wordExact harg5.wordExact ⟨Or.inl rfl, trivial⟩)
  Prog.lift (.waitDma2 r0.sem arg3 arg5 harg3.wordExact harg5.wordExact)
  startIn arg2 i 0 arg6 harg6 arg10
  startIn arg2 i 1 arg7 harg7 arg11
  waitIn arg2 i 0 arg6 harg6 arg10
  item arg5 arg6 arg8
  startOut arg4 i 0 arg8 harg8 arg12
  startIn arg2 i 2 arg6 harg6 arg10
  waitIn arg2 i 1 arg7 harg7 arg11
  item arg5 arg7 arg9
  startOut arg4 i 1 arg9 harg9 arg13
  startIn arg2 i 3 arg7 harg7 arg11
  waitIn arg2 i 2 arg6 harg6 arg10
  waitOut arg4 i 0 arg8 harg8 arg12
  item arg5 arg6 arg8
  startOut arg4 i 2 arg8 harg8 arg12
  startIn arg2 i 4 arg6 harg6 arg10
  waitIn arg2 i 3 arg7 harg7 arg11
  waitOut arg4 i 1 arg9 harg9 arg13
  item arg5 arg7 arg9
  startOut arg4 i 3 arg9 harg9 arg13
  startIn arg2 i 5 arg7 harg7 arg11
  waitIn arg2 i 4 arg6 harg6 arg10
  waitOut arg4 i 2 arg8 harg8 arg12
  item arg5 arg6 arg8
  startOut arg4 i 4 arg8 harg8 arg12
  startIn arg2 i 6 arg6 harg6 arg10
  waitIn arg2 i 5 arg7 harg7 arg11
  waitOut arg4 i 3 arg9 harg9 arg13
  item arg5 arg7 arg9
  startOut arg4 i 5 arg9 harg9 arg13
  startIn arg2 i 7 arg7 harg7 arg11
  waitIn arg2 i 6 arg6 harg6 arg10
  waitOut arg4 i 4 arg8 harg8 arg12
  item arg5 arg6 arg8
  startOut arg4 i 6 arg8 harg8 arg12
  waitIn arg2 i 7 arg7 harg7 arg11
  waitOut arg4 i 5 arg9 harg9 arg13
  item arg5 arg7 arg9
  startOut arg4 i 7 arg9 harg9 arg13
  waitOut arg4 i 6 arg8 harg8 arg12
  waitOut arg4 i 7 arg9 harg9 arg13

/-- The printed task is that program. -/
theorem cc0_k_eq (i : grid0.Coords) (arg2 : Memref sig .scVector .hbm S128x6x1024 .i32) (harg2 : arg2.IsWhole)
    (arg3 : Memref sig .scVector .hbm S32000 .i32) (harg3 : arg3.IsWhole) (arg4 : Memref sig .scVector .hbm S128x64x1024 .f32) (harg4 : arg4.IsWhole)
    (arg5 : Memref sig .scVector .vmem S32000 .i32) (harg5 : arg5.IsWhole) (arg6 : Memref sig .scVector .vmem S6x512 .i32) (harg6 : arg6.IsWhole)
    (arg7 : Memref sig .scVector .vmem S6x512 .i32) (harg7 : arg7.IsWhole) (arg8 : Memref sig .scVector .vmem S64x512 .f32) (harg8 : arg8.IsWhole)
    (arg9 : Memref sig .scVector .vmem S64x512 .f32) (harg9 : arg9.IsWhole)
    (arg10 arg11 arg12 arg13 r0 : DmaSems sig S_) :
    cc0_k (F := F) i arg2 harg2 arg3 harg3 arg4 harg4 arg5 harg5 arg6 harg6 arg7 harg7 arg8 harg8 arg9 harg9 arg10 arg11 arg12 arg13 r0
      = task i arg2 arg3 harg3 arg4 arg5 harg5 arg6 harg6 arg7 harg7 arg8 harg8 arg9 harg9 arg10 arg11 arg12 arg13 r0 := by
  unfold cc0_k task item
  simp only [k0_part401, k0_part402, k0_part403, k0_part404, k0_part405, k0_part406, k0_part407, k0_part408, k0_part409, k0_part410, k0_part411, k0_part412, k0_part413, k0_part414, k0_part415, k0_part416, k0_part417, bind_assoc, pure_bind]
  sl_kernel_rfl

end Cert.Proof.Emb

end
-- ==== Proof.Common.lean ====
/-
  The launch's set-up: the program as the launch theorem sees it and the ghost state of the proof.
-/
module

public import proofs.«01_k».proof.Proof.Gen.KernelIdeal
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds beside the transfers' counters. -/
abbrev UH : Type := URounds (GSem nD τ sig) ℕ
abbrev UU : Type := UH × Counters

abbrev EH : Emb UH (MT nD τ sig (HIx 1) (Elt F) ℕ UU ℕ) := embL

end Cert.Proof.Emb

end
-- ==== Proof.Value.lean ====
/-
  The sums of an item as a function of the table's words and of the item's indices, and what a scatter
  of lanes that hold those sums leaves.
-/
module

public import proofs.«01_k».proof.Proof.Trip

@[expose] public section

noncomputable section

namespace Cert.Proof.Emb

open Cert.KernelIdeal Cert.KernelIdeal.Gen
open Idealize.ShloMosaic Idealize.SL.Sem

variable {F : FTy → Type} [FloatOps F]

/-- Lane `n` of a vector of sixteen. -/
abbrev lane (n : Fin 16) : S16.Idx := Shape.ofLane (d := ![16]) n

/-- Word `n` of the table, zero past its end. -/
def wordAt (T : Vec F S32000 .i32) (n : ℕ) : BitVec 32 := if h : n < 32000 then T (Shape.ofLane (d := ![32000]) ⟨n, h⟩) else 0#32

/-- Index `k` of point `n`, zero past the last point. -/
def indexAt (X : Vec F S6x512 .i32) (k : Fin 6) (n : ℕ) : BitVec 32 := if h : n < 512 then X (Shape.pair (d := ![6, 512]) k ⟨n, h⟩) else 0#32

/-- The half of a word that goes to row `r`: the low one to the even rows, the high one to the odd. -/
def pick (r : ℕ) (w : BitVec 32) : BitVec 32 :=
  if r % 2 = 0 then w else shrui (fun _ : S16.Idx => w) (broadcast S16 16#32) (lane 0)

/-- The low half of a word, as a number. -/
def lowOf (w : BitVec 32) : F .bf16 := lowHalf (fun _ => w) (lane 0)

/-- The sum of six numbers in the order the kernel adds them, widened. -/
def sumOf (b0 b1 b2 b3 b4 b5 : F .bf16) : F .f32 :=
  sum6 (fun _ => b0) (fun _ => b1) (fun _ => b2) (fun _ => b3) (fun _ => b4) (fun _ => b5) (lane 0)

/-- The sum of row `r` of point `p`. -/
def sumAt (T : Vec F S32000 .i32) (x : Fin 6 → BitVec 32) (r : ℕ) : F .f32 :=
  sumOf (lowOf (pick r (wordAt T ((x 0).toNat * 32 + r / 2)))) (lowOf (pick r (wordAt T ((x 1).toNat * 32 + r / 2))))
    (lowOf (pick r (wordAt T ((x 2).toNat * 32 + r / 2)))) (lowOf (pick r (wordAt T ((x 3).toNat * 32 + r / 2))))
    (lowOf (pick r (wordAt T ((x 4).toNat * 32 + r / 2)))) (lowOf (pick r (wordAt T ((x 5).toNat * 32 + r / 2))))

/-- The sums of an item. -/
def outVal (T : Vec F S32000 .i32) (X : Vec F S6x512 .i32) : Vec F S64x512 .f32 :=
  fun y => sumAt T (fun k => indexAt X k (y 1).val) (y 0).val

omit [FloatOps F] in
theorem wordAt_of (T : Vec F S32000 .i32) (i : S32000.Idx) : T i = wordAt T (i 0).val := by
  unfold wordAt
  rw [dif_pos (show (i 0).val < 32000 from (i 0).isLt)]
  congr 1; funext a; fin_cases a; rfl

omit [FloatOps F] in
theorem indexAt_of (X : Vec F S6x512 .i32) (i : S6x512.Idx) : X i = indexAt X (i 0) (i 1).val := by
  unfold indexAt
  rw [dif_pos (show (i 1).val < 512 from (i 1).isLt)]
  congr 1; funext a; fin_cases a <;> rfl

theorem lowHalf_lane (w : IVec S16 32) (x : S16.Idx) : (lowHalf w x : F .bf16) = lowOf (w x) := rfl

theorem highHalf_lane (w : IVec S16 32) (x : S16.Idx) {r : ℕ} (hr : r % 2 = 1) : (highHalf w x : F .bf16) = lowOf (pick r (w x)) := by
  unfold pick; rw [if_neg (by omega)]; rfl

theorem sum6_lane (b0 b1 b2 b3 b4 b5 : FVec F S16 .bf16) (x : S16.Idx) :
    sum6 b0 b1 b2 b3 b4 b5 x = sumOf (b0 x) (b1 x) (b2 x) (b3 x) (b4 x) (b5 x) := rfl

/-- A fold of steps, each of which keeps agreement with `V` and brings it at the place of its key. -/
theorem foldl_agrees {ι α β : Type} (V : ι → α) (step : (ι → α) → β → ι → α) (at_ : β → ι)
    (hs : ∀ g k y, (g y = V y ∨ y = at_ k) → step g k y = V y) (l : List β) :
    ∀ (O : ι → α) (y : ι), (O y = V y ∨ ∃ k ∈ l, y = at_ k) → l.foldl step O y = V y := by
  induction l with
  | nil =>
    rintro O y (hy | ⟨k, hk, _⟩)
    · exact hy
    · simp at hk
  | cons k l ih =>
    intro O y hy
    rw [List.foldl_cons]
    refine ih _ y ?_
    rcases hy with hy | ⟨k', hk', hy⟩
    · exact .inl (hs O k y (.inl hy))
    · rcases List.mem_cons.mp hk' with rfl | hk'
      · exact .inl (hs O k' y (.inr hy))
      · exact .inr ⟨k', hk', hy⟩

/-- A scatter whose lanes hold what `V` has where they go keeps what agrees with `V` and brings the places it names. -/
theorem storeIdx_agrees {s : Shape} {e : EltTy} {d : Fin 1 → ℕ} (O V : Vec F s e) (idxs : Fin s.rank → IVec ⟨1, d⟩ 32)
    (v : Vec F ⟨1, d⟩ e) (h : ∀ a x, (idxs a x).toNat < s.size a) (hv : ∀ x, v x = V (idxAt idxs h x))
    (y : s.Idx) (hy : O y = V y ∨ ∃ x, y = idxAt idxs h x) :
    storeIdx O idxs v (fun _ => 1#1) false h y = V y := by
  unfold storeIdx
  refine foldl_agrees V _ (fun k => idxAt idxs h (Shape.ofLane k)) ?_ _ O y ?_
  · intro g k y hy
    rw [if_pos (by rfl)]
    simp only [Bool.false_eq_true, if_false]
    show (if (∀ a, (y a).val = (idxAt idxs h (Shape.ofLane k) a).val) then v (Shape.ofLane k) else g y) = V y
    split
    · rename_i he
      have : y = idxAt idxs h (Shape.ofLane k) := funext fun a => Fin.ext (he a)
      rw [this]; exact hv _
    · rename_i he
      rcases hy with hy | hy
      · exact hy
      · subst hy; exact absurd (fun a => rfl) he
  · rcases hy with hy | ⟨x, hy⟩
    · exact .inl hy
    · refine .inr ⟨x 0, List.mem_finRange _, ?_⟩
      rw [hy]; congr 1; funext a; fin_cases a; rfl

end Cert.Proof.Emb

end
-- ==== Proof.TripWp.lean ====
/-
  What one trip does: from any contents of the output buffer, the sixteen points of the trip come to
  hold their sums, and a place that held its sum keeps it.
-/
module

public import proofs.«01_k».proof.Proof.Common
public import proofs.«01_k».proof.Proof.Value

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Ops
variable (d : Dev nD) (c : Fin τ.nSC) (s : Fin τ.nSub) {α : Type}

/-- A program of a tile, run to a postcondition. -/
abbrev runs (p : Prog (TpuEff nD τ sig (Elt F) Λ₀ (.scVector c s)) α) (Q : α → sProp 𝕄) : sProp 𝕄 :=
  wp frame (wpE (defs₀ (F := F)) 𝒱₀ (V d c s) none) Set.univ p Q

theorem read_access {sp : Space} {sh : Shape} {e : EltTy} (m : Memref sig .scVector sp sh e) (f : m.view.ty.Contents (Elt F)) :
    (m.access (.whole sh)).read (Elt F) f = m.view.read (Elt F) f := by
  funext x
  show m.view.read (Elt F) f ((Rect.whole sh).emb x) = _
  rw [Rect.emb_whole_apply]

theorem set_access {sp : Space} {sh : Shape} {e : EltTy} (m : Memref sig .scVector sp sh e) (hm : m.IsWhole) :
    (m.access (.whole sh)).set = Finset.univ := by
  obtain ⟨b, rfl, rfl, rfl, h⟩ := hm; cases h; exact Memref.set_access_whole b

theorem read_write_access {sp : Space} {sh : Shape} {e : EltTy} (m : Memref sig .scVector sp sh e) (f : m.view.ty.Contents (Elt F))
    (w : Vec F sh e) : m.view.read (Elt F) ((m.access (.whole sh)).write (Elt F) f w Finset.univ) = w := by
  rw [← read_access]; exact View.read_write_univ (v := m.access (.whole sh)) f w

theorem runs_gather {Q : α → sProp 𝕄} {tab : Memref sig .scVector .vmem S32000 .i32} {v : IVec S16 32} (hv : k0_chk1 v) {q : PosShare TreeShare}
    {f : Buf (Elt F) (tab.view.loc (V d c s))} {k : Vec F S16 .i32 → Prog (TpuEff nD τ sig (Elt F) Λ₀ (.scVector c s)) α} :
    (tab.view.loc (V d c s) ↦{q} f : sProp 𝕄)
      ⊢ iprop(((tab.view.loc (V d c s) ↦{q} f) -∗ runs d c s (k (fun x => wordAt (tab.view.read (Elt F) f) (v x).toNat)) Q)
        -∗ runs d c s (gather tab v >>= k) Q) := by
  iintro H Hk
  have e : (gather (F := F) (c := c) (s := s) tab v >>= k)
      = .op (.assume (k0_chk1 v) (k0_chk1.dec v)) fun hw => SparseCore.vectorLoadIdx tab ![v] (k0_idx1_inb v hw.down) (View.loads_vmem h_S32000) >>= k := rfl
  rw [e]; unfold runs
  rw [wp_assume_of _ _ _ _ hv]
  iapply (SparseCore.wp_vectorLoadIdx 𝒱₀ (V d c s) none Set.univ (base := tab) (S := Finset.univ) (q := q) (f := f) (Finset.subset_univ _)) $$ H
  iintro H
  have e2 : (loadIdx ((tab.access (.whole S32000)).read (Elt F) f) ![v] (k0_idx1_inb v hv) : Vec F S16 .i32)
      = fun x => wordAt (tab.view.read (Elt F) f) (v x).toNat := by
    rw [read_access]; funext x
    exact wordAt_of _ _
  rw [e2]
  iapply Hk; iexact H

theorem runs_scatter {Q : α → sProp 𝕄} {out : Memref sig .scVector .vmem S64x512 .f32} (hout : out.IsWhole) {p r : IVec S16 32} (h : k0_chk13 p r)
    {x : FVec F S16 .f32} {f : Buf (Elt F) (out.view.loc (V d c s))} {k : PUnit → Prog (TpuEff nD τ sig (Elt F) Λ₀ (.scVector c s)) α} :
    (out.view.loc (V d c s) ↦{fullShare} f : sProp 𝕄)
      ⊢ iprop((∀ g : Buf (Elt F) (out.view.loc (V d c s)),
            ⌜out.view.read (Elt F) g = storeIdx (out.view.read (Elt F) f) ![r, p] x (fun _ => 1#1) false (k0_idx13_inb p r h)⌝
            -∗ (out.view.loc (V d c s) ↦{fullShare} g) -∗ runs d c s (k ⟨⟩) Q)
        -∗ runs d c s (scatter out p r x >>= k) Q) := by
  iintro H Hk
  have e : (scatter (F := F) (c := c) (s := s) out p r x >>= k)
      = .op (.assume (k0_chk13 p r) (k0_chk13.dec p r)) fun hw =>
          SparseCore.vectorStoreIdx out ![r, p] x (fun _ => 1#1) false (k0_idx13_inb p r hw.down) (View.stores_vmem_bits_univ h_S64x512 rfl) >>= k := rfl
  rw [e]; unfold runs
  rw [wp_assume_of _ _ _ _ h]
  have hset : (out.access (.whole S64x512)).set = Finset.univ := set_access out hout
  ihave H' := (Entails.of_eq (show (out.view.loc (V d c s) ↦{fullShare} f : sProp 𝕄)
    = ((out.access (.whole S64x512)).loc (V d c s) ↦[(out.access (.whole S64x512)).set]{fullShare} f) by rw [hset])) $$ H
  iapply (SparseCore.wp_vectorStoreIdx 𝒱₀ (V d c s) none Set.univ (base := out) (f := f)) $$ H'
  iintro H'
  ihave H := (Entails.of_eq (show ((out.access (.whole S64x512)).loc (V d c s) ↦[(out.access (.whole S64x512)).set]{fullShare}
      ((out.access (.whole S64x512)).write (Elt F) f (storeIdx ((out.access (.whole S64x512)).read (Elt F) f) ![r, p] x (fun _ => 1#1) false (k0_idx13_inb p r h)) Finset.univ) : sProp 𝕄)
    = (out.view.loc (V d c s) ↦{fullShare}
      ((out.access (.whole S64x512)).write (Elt F) f (storeIdx ((out.access (.whole S64x512)).read (Elt F) f) ![r, p] x (fun _ => 1#1) false (k0_idx13_inb p r h)) Finset.univ)) by rw [hset])) $$ H'
  iapply Hk $$ [] [H]
  · ipureintro
    exact (read_write_access out f (storeIdx ((out.access (.whole S64x512)).read (Elt F) f) ![r, p] x (fun _ => 1#1) false (k0_idx13_inb p r h))).trans
      (by rw [read_access])
  · iexact H

end Ops

/-! ## The lanes of a group -/

/-- The six things, by number. -/
abbrev Six.get {α : Type} (w : Six α) : Fin 6 → α := ![w.a0, w.a1, w.a2, w.a3, w.a4, w.a5]

/-- The rows hold the first words of the table's rows that the points' indices name, each index below 1000. -/
def Ready (X : Vec F S6x512 .i32) (p : IVec S16 32) (rows : Six (IVec S16 32)) : Prop :=
  ∀ (k : Fin 6) (x : S16.Idx), (rows.get k x).toNat = (indexAt X k (p x).toNat).toNat * 32 ∧ (indexAt X k (p x).toNat).toNat < 1000

/-- The words a group gathered. -/
def Words (T : Vec F S32000 .i32) (rows : Six (IVec S16 32)) (ep : IVec S16 32) (w : Six (IVec S16 32)) : Prop :=
  ∀ (k : Fin 6) (x : S16.Idx), w.get k x = wordAt T ((addi (rows.get k) ep) x).toNat

/-- A group's words lie within a row. -/
def Below (ep : IVec S16 32) : Prop := ∀ x, (ep x).toNat < 32

section Lanes
variable {T : Vec F S32000 .i32} {X : Vec F S6x512 .i32} {p ep : IVec S16 32} {rows w : Six (IVec S16 32)}

omit [FloatOps F] in
theorem word_toNat (hr : Ready X p rows) (he : Below ep) (k : Fin 6) (x : S16.Idx) :
    ((addi (rows.get k) ep) x).toNat = (indexAt X k (p x).toNat).toNat * 32 + (ep x).toNat := by
  have h1 := hr k x
  have h2 := he x
  show (rows.get k x + ep x).toNat = _
  rw [BitVec.toNat_add, h1.1]
  omega

omit [FloatOps F] in
theorem gather_ok (hr : Ready X p rows) (he : Below ep) (k : Fin 6) : k0_chk1 (addi (rows.get k) ep) := by
  intro a x
  fin_cases a
  show ((addi (rows.get k) ep) x).toNat < 32000
  rw [word_toNat hr he]
  have := (hr k x).2; have := he x; omega

omit [FloatOps F] in
theorem even_toNat (he : Below ep) (x : S16.Idx) : ((muli (broadcast S16 2#32) ep) x).toNat = 2 * (ep x).toNat := by
  show (2#32 * ep x).toNat = _
  rw [BitVec.toNat_mul]; have := he x; simp only [BitVec.toNat_ofNat]; omega

omit [FloatOps F] in
theorem odd_toNat (he : Below ep) (x : S16.Idx) :
    ((addi (muli (broadcast S16 2#32) ep) (broadcast S16 1#32)) x).toNat = 2 * (ep x).toNat + 1 := by
  show ((muli (broadcast S16 2#32) ep) x + 1#32).toNat = _
  rw [BitVec.toNat_add, even_toNat he]; have := he x; simp only [BitVec.toNat_ofNat]; omega

omit [FloatOps F] in
theorem scatter_ok {r : IVec S16 32} (hr : ∀ x, (r x).toNat < 64) (hp : ∀ x, (p x).toNat < 512) : k0_chk13 p r := by
  intro a x
  fin_cases a
  · exact hr x
  · exact hp x

/-- A lane's six words give the sum of the place it goes to, at the even row -/
theorem low_lane (hr : Ready X p rows) (he : Below ep) (hw : Words T rows ep w) (h : k0_chk13 p (muli (broadcast S16 2#32) ep)) (x : S16.Idx) :
    sum6 (lowHalf w.a0) (lowHalf w.a1) (lowHalf w.a2) (lowHalf w.a3) (lowHalf w.a4) (lowHalf w.a5) x
      = outVal T X (idxAt ![muli (broadcast S16 2#32) ep, p] (k0_idx13_inb p _ h) x) := by
  have hk : ∀ k : Fin 6, w.get k x = pick ((muli (broadcast S16 2#32) ep) x).toNat
      (wordAt T ((indexAt X k (p x).toNat).toNat * 32 + ((muli (broadcast S16 2#32) ep) x).toNat / 2)) := by
    intro k
    rw [hw k x, word_toNat hr he, even_toNat he]; unfold pick
    rw [if_pos (by omega), Nat.mul_div_cancel_left _ (by omega)]
  rw [sum6_lane]
  simp only [lowHalf_lane]
  show _ = sumAt T (fun k => indexAt X k (p x).toNat) ((muli (broadcast S16 2#32) ep) x).toNat
  unfold sumAt
  rw [← hk 0, ← hk 1, ← hk 2, ← hk 3, ← hk 4, ← hk 5]; rfl

/-- and at the odd one. -/
theorem high_lane (hr : Ready X p rows) (he : Below ep) (hw : Words T rows ep w)
    (h : k0_chk13 p (addi (muli (broadcast S16 2#32) ep) (broadcast S16 1#32))) (x : S16.Idx) :
    sum6 (highHalf w.a0) (highHalf w.a1) (highHalf w.a2) (highHalf w.a3) (highHalf w.a4) (highHalf w.a5) x
      = outVal T X (idxAt ![addi (muli (broadcast S16 2#32) ep) (broadcast S16 1#32), p] (k0_idx13_inb p _ h) x) := by
  have ho := odd_toNat he x
  have hk : ∀ k : Fin 6, wordAt T ((indexAt X k (p x).toNat).toNat * 32 + ((addi (muli (broadcast S16 2#32) ep) (broadcast S16 1#32)) x).toNat / 2) = w.get k x := by
    intro k
    rw [hw k x, word_toNat hr he, ho, show (2 * (ep x).toNat + 1) / 2 = (ep x).toNat by omega]
  rw [sum6_lane]
  simp only [highHalf_lane (F := F) _ _ (show ((addi (muli (broadcast S16 2#32) ep) (broadcast S16 1#32)) x).toNat % 2 = 1 by omega)]
  show _ = sumAt T (fun k => indexAt X k (p x).toNat) ((addi (muli (broadcast S16 2#32) ep) (broadcast S16 1#32)) x).toNat
  unfold sumAt
  simp only [hk]; rfl

end Lanes

/-! ## The groups of a trip -/

/-- A place that a group's two scatters name. -/
def Hits (p ep : IVec S16 32) (y : S64x512.Idx) : Prop := ∃ x : S16.Idx, (y 0).val / 2 = (ep x).toNat ∧ (y 1).val = (p x).toNat

section Group
variable (d : Dev nD) (c : Fin τ.nSC) (s : Fin τ.nSub)
variable {X : Vec F S6x512 .i32} {p : IVec S16 32} {rows : Six (IVec S16 32)}
variable {tab : Memref sig .scVector .vmem S32000 .i32} {out : Memref sig .scVector .vmem S64x512 .f32} (hout : out.IsWhole)
variable {q : PosShare TreeShare} {ft : Buf (Elt F) (tab.view.loc (V d c s))}

theorem runs_gathers {α : Type} {Q : α → sProp 𝕄} {ep : IVec S16 32} (hr : Ready X p rows) (he : Below ep)
    {k : Six (IVec S16 32) → Prog (TpuEff nD τ sig (Elt F) Λ₀ (.scVector c s)) α} :
    (tab.view.loc (V d c s) ↦{q} ft : sProp 𝕄)
      ⊢ iprop((∀ w, ⌜Words (tab.view.read (Elt F) ft) rows ep w⌝ -∗ (tab.view.loc (V d c s) ↦{q} ft) -∗ runs d c s (k w) Q)
        -∗ runs d c s (gathers tab rows ep >>= k) Q) := by
  iintro H Hk
  unfold gathers
  simp only [bind_assoc, pure_bind]
  iapply (runs_gather d c s (gather_ok hr he 0)) $$ H; iintro H
  iapply (runs_gather d c s (gather_ok hr he 1)) $$ H; iintro H
  iapply (runs_gather d c s (gather_ok hr he 2)) $$ H; iintro H
  iapply (runs_gather d c s (gather_ok hr he 3)) $$ H; iintro H
  iapply (runs_gather d c s (gather_ok hr he 4)) $$ H; iintro H
  iapply (runs_gather d c s (gather_ok hr he 5)) $$ H; iintro H
  iapply Hk $$ [] H
  ipureintro
  intro k x
  fin_cases k <;> rfl

include hout in
theorem runs_scatters {α : Type} {Q : α → sProp 𝕄} {T : Vec F S32000 .i32} {ep : IVec S16 32} {w : Six (IVec S16 32)} (hr : Ready X p rows)
    (hp : ∀ x, (p x).toNat < 512) (he : Below ep) (hw : Words T rows ep w)
    {f : Buf (Elt F) (out.view.loc (V d c s))} {k : PUnit → Prog (TpuEff nD τ sig (Elt F) Λ₀ (.scVector c s)) α} :
    (out.view.loc (V d c s) ↦{fullShare} f : sProp 𝕄)
      ⊢ iprop((∀ g : Buf (Elt F) (out.view.loc (V d c s)),
            ⌜∀ y, (out.view.read (Elt F) f y = outVal T X y ∨ Hits p ep y) → out.view.read (Elt F) g y = outVal T X y⌝
            -∗ (out.view.loc (V d c s) ↦{fullShare} g) -∗ runs d c s (k ⟨⟩) Q)
        -∗ runs d c s (scatters out p ep w >>= k) Q) := by
  have h1 : k0_chk13 p (muli (broadcast S16 2#32) ep) := scatter_ok (fun x => by rw [even_toNat he]; have := he x; omega) hp
  have h2 : k0_chk13 p (addi (muli (broadcast S16 2#32) ep) (broadcast S16 1#32)) :=
    scatter_ok (fun x => by rw [odd_toNat he]; have := he x; omega) hp
  iintro H Hk
  unfold scatters
  simp only [bind_assoc]
  iapply (runs_scatter d c s hout h1) $$ H; iintro %g1 %hg1 H
  iapply (runs_scatter d c s hout h2) $$ H; iintro %g2 %hg2 H
  iapply Hk $$ [] H
  ipureintro
  intro y hy
  rw [hg2]
  refine storeIdx_agrees _ _ _ _ _ (high_lane hr he hw h2) y ?_
  rw [hg1]
  rcases hy with hy | ⟨x, hx0, hx1⟩
  · exact .inl (storeIdx_agrees _ _ _ _ _ (low_lane hr he hw h1) y (.inl hy))
  · rcases Nat.mod_two_eq_zero_or_one (y 0).val with hm | hm
    · refine .inl (storeIdx_agrees _ _ _ _ _ (low_lane hr he hw h1) y (.inr ⟨x, ?_⟩))
      funext a; apply Fin.ext; fin_cases a
      · show (y 0).val = ((muli (broadcast S16 2#32) ep) x).toNat
        rw [even_toNat he]; omega
      · exact hx1
    · refine .inr ⟨x, ?_⟩
      funext a; apply Fin.ext; fin_cases a
      · show (y 0).val = ((addi (muli (broadcast S16 2#32) ep) (broadcast S16 1#32)) x).toNat
        rw [odd_toNat he]; omega
      · exact hx1

include hout in
theorem runs_groups {α : Type} {Q : α → sProp 𝕄} {io : IVec S16 32} (hr : Ready X p rows) (hp : ∀ x, (p x).toNat < 512)
    {k : PUnit → Prog (TpuEff nD τ sig (Elt F) Λ₀ (.scVector c s)) α} :
    ∀ (gs : List (BitVec 32 × BitVec 32)) (ep : IVec S16 32) (w : Six (IVec S16 32)) (f : Buf (Elt F) (out.view.loc (V d c s))),
      Below ep → Words (tab.view.read (Elt F) ft) rows ep w → (∀ g ∈ gs, Below (wordOf io g)) →
      iprop((tab.view.loc (V d c s) ↦{q} ft) ∗ (out.view.loc (V d c s) ↦{fullShare} f) : sProp 𝕄)
      ⊢ iprop((∀ f' : Buf (Elt F) (out.view.loc (V d c s)),
            ⌜∀ y, (out.view.read (Elt F) f y = outVal (tab.view.read (Elt F) ft) X y ∨ Hits p ep y ∨ ∃ g ∈ gs, Hits p (wordOf io g) y) →
              out.view.read (Elt F) f' y = outVal (tab.view.read (Elt F) ft) X y⌝
            -∗ (tab.view.loc (V d c s) ↦{q} ft) -∗ (out.view.loc (V d c s) ↦{fullShare} f') -∗ runs d c s (k ⟨⟩) Q)
        -∗ runs d c s (groups tab out p io rows ep w gs >>= k) Q) := by
  intro gs
  induction gs with
  | nil =>
    intro ep w f he hw _
    iintro ⟨Ht, Ho⟩ Hk
    unfold groups
    iapply (runs_scatters d c s hout hr hp he hw) $$ Ho; iintro %g %hg Ho
    iapply Hk $$ [] Ht Ho
    ipureintro
    rintro y (hy | hy | ⟨g, hg', _⟩)
    · exact hg y (.inl hy)
    · exact hg y (.inr hy)
    · simp at hg'
  | cons g gs ih =>
    intro ep w f he hw hgs
    have he' : Below (wordOf io g) := hgs g (List.mem_cons_self ..)
    iintro ⟨Ht, Ho⟩ Hk
    unfold groups
    simp only [bind_assoc]
    iapply (runs_gathers d c s hr he') $$ Ht; iintro %w' %hw' Ht
    iapply (runs_scatters d c s hout hr hp he hw) $$ Ho; iintro %f1 %hf1 Ho
    iapply (ih (wordOf io g) w' f1 he' hw' fun g hg => hgs g (List.mem_cons_of_mem _ hg)) $$ [Ht Ho]
    · isplitl [Ht] <;> iassumption
    iintro %f2 %hf2 Ht Ho
    iapply Hk $$ [] Ht Ho
    ipureintro
    rintro y (hy | hy | ⟨g', hg', hy⟩)
    · exact hf2 y (.inl (hf1 y (.inl hy)))
    · exact hf2 y (.inl (hf1 y (.inr hy)))
    · rcases List.mem_cons.mp hg' with rfl | hg'
      · exact hf2 y (.inr (.inl hy))
      · exact hf2 y (.inr (.inr ⟨g', hg', hy⟩))

end Group

end Cert.Proof.Emb

end
-- ==== Proof.Item.lean ====
/-
  What an item's loop does: from the table and the item's indices the output buffer comes to hold the
  sums of the item's points.
-/
module

public import proofs.«01_k».proof.Proof.Task
public import proofs.«01_k».proof.Proof.TripWp
public import Idealize.ShloMosaic.Lib.Pipeline.Value

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The words of a row that the lanes read -/

/-- The lanes' numbers. -/
abbrev lanes : IVec S16 32 := iota .scVector S16 32 [0] iota_S16_d0_w32_scVector

theorem lanes_apply (x : S16.Idx) : lanes x = BitVec.ofNat 32 (x 0).val := iota_single_apply _ _ _ _ _ x

theorem wordOf_lanes (g : BitVec 32 × BitVec 32) (x : S16.Idx) :
    wordOf lanes g x = ((BitVec.ofNat 32 (x 0).val + g.1) &&& 15#32) + g.2 := by
  show ((lanes x + g.1) &&& 15#32) + g.2 = _
  rw [lanes_apply]

theorem words_below_nat : ∀ g ∈ (0#32, 0#32) :: laterGroups, ∀ l : Fin 16, (((BitVec.ofNat 32 l.val + g.1) &&& 15#32) + g.2).toNat < 32 := by
  decide +kernel

theorem words_all_nat : ∀ (l : Fin 16) (r : Fin 32), ∃ g ∈ (0#32, 0#32) :: laterGroups,
    r.val = (((BitVec.ofNat 32 l.val + g.1) &&& 15#32) + g.2).toNat := by
  decide +kernel

theorem words_below (g : BitVec 32 × BitVec 32) (hg : g ∈ (0#32, 0#32) :: laterGroups) : Below (wordOf lanes g) := fun x => by
  rw [wordOf_lanes]; exact words_below_nat g hg (x 0)

/-- Every row of every lane is some group's. -/
theorem words_all (x : S16.Idx) (r : ℕ) (hr : r < 32) : ∃ g ∈ (0#32, 0#32) :: laterGroups, r = (wordOf lanes g x).toNat := by
  obtain ⟨g, hg, h⟩ := words_all_nat (x 0) ⟨r, hr⟩
  exact ⟨g, hg, by rw [wordOf_lanes]; exact h⟩

/-! ## A trip -/

section
variable (d : Dev nD) (c : Fin τ.nSC) (s : Fin τ.nSub)
variable {tab : Memref sig .scVector .vmem S32000 .i32} {idx : Memref sig .scVector .vmem S6x512 .i32}
variable {out : Memref sig .scVector .vmem S64x512 .f32} (hout : out.IsWhole)
variable {q q' : PosShare TreeShare} {ft : Buf (Elt F) (tab.view.loc (V d c s))} {fi : Buf (Elt F) (idx.view.loc (V d c s))}

theorem runs_rowsAt {α : Type} {Q : α → sProp 𝕄} {o : Fin 2 → ℕ} {h : ∀ a, o a + S1x16.size a ≤ S6x512.size a} {a : Fin 6} {n : ℕ}
    (ho : o = ![a.val, 16 * n]) {p : IVec S16 32} (hp : ∀ x, (p x).toNat = 16 * n + (x 0).val) (hX : ∀ y, (idx.view.read (Elt F) fi y).toNat < 1000)
    {k : IVec S16 32 → Prog (TpuEff nD τ sig (Elt F) Λ₀ (.scVector c s)) α} :
    (idx.view.loc (V d c s) ↦{q} fi : sProp 𝕄)
      ⊢ iprop((∀ v, ⌜∀ x, (v x).toNat = (indexAt (idx.view.read (Elt F) fi) a (p x).toNat).toNat * 32
              ∧ (indexAt (idx.view.read (Elt F) fi) a (p x).toNat).toNat < 1000⌝
            -∗ (idx.view.loc (V d c s) ↦{q} fi) -∗ runs d c s (k v) Q)
        -∗ runs d c s (rowsAt idx o h >>= k) Q) := by
  subst ho
  iintro H Hk
  have e : (rowsAt (F := F) (c := c) (s := s) idx ![a.val, 16 * n] h >>= k)
      = .op (.load idx (Rect.unit (s := S6x512) ![a.val, 16 * n] S1x16.size h).toLoadRect (View.loadsAt_vmem h_S1x16))
          fun v => k (muli (shapeCast S16 v shapeCasts_S1x16_S16) (broadcast S16 32#32)) := rfl
  rw [e]; unfold runs
  iapply (wp_load 𝒱₀ (V d c s) none Set.univ (m := idx) (S := Finset.univ) (q := q) (f := fi) (Finset.subset_univ _)) $$ H
  iintro H
  iapply Hk $$ [] H
  ipureintro
  intro x
  have hv : (shapeCast S16 (idx.view.readAt (Elt F) (Rect.unit (s := S6x512) ![a.val, 16 * n] S1x16.size h).toLoadRect fi) shapeCasts_S1x16_S16) x
      = indexAt (idx.view.read (Elt F) fi) a (p x).toNat := by
    refine (shapeCast_dropUnit_apply (![16]) _ shapeCasts_S1x16_S16 x).trans ?_
    rw [View.readAt_apply]
    refine (indexAt_of (idx.view.read (Elt F) fi) _).trans ?_
    congr 1
    · rw [hp]; show 16 * n + 1 * (x 0).val = _; omega
  have hlt : (indexAt (idx.view.read (Elt F) fi) a (p x).toNat).toNat < 1000 := by
    unfold indexAt; split
    · exact hX _
    · decide
  refine ⟨?_, hlt⟩
  show ((shapeCast S16 (idx.view.readAt (Elt F) (Rect.unit (s := S6x512) ![a.val, 16 * n] S1x16.size h).toLoadRect fi) shapeCasts_S1x16_S16) x * 32#32).toNat = _
  rw [hv, BitVec.toNat_mul]; simp only [BitVec.toNat_ofNat]; omega

include hout in
/-- A trip: its sixteen points come to hold their sums, and what held its sum keeps it. -/
theorem runs_trip {Q : PUnit → sProp 𝕄} (t : Fin k0_t1_loop.trips) (hX : ∀ y, (idx.view.read (Elt F) fi y).toNat < 1000)
    {f : Buf (Elt F) (out.view.loc (V d c s))} :
    iprop((tab.view.loc (V d c s) ↦{q} ft) ∗ (idx.view.loc (V d c s) ↦{q'} fi) ∗ (out.view.loc (V d c s) ↦{fullShare} f) : sProp 𝕄)
      ⊢ iprop((∀ f' : Buf (Elt F) (out.view.loc (V d c s)),
            ⌜∀ y : S64x512.Idx, (out.view.read (Elt F) f y = outVal (tab.view.read (Elt F) ft) (idx.view.read (Elt F) fi) y ∨ (y 1).val / 16 = t.val) →
              out.view.read (Elt F) f' y = outVal (tab.view.read (Elt F) ft) (idx.view.read (Elt F) fi) y⌝
            -∗ (tab.view.loc (V d c s) ↦{q} ft) -∗ (idx.view.loc (V d c s) ↦{q'} fi) -∗ (out.view.loc (V d c s) ↦{fullShare} f') -∗ Q ⟨⟩)
        -∗ runs d c s (trip tab idx out lanes (Scf.iv 0#32 1#32 t)
            (k0_off2 t) (k0_off3 t) (k0_off4 t) (k0_off5 t) (k0_off6 t) (k0_off7 t)
            (k0_off2_inb t) (k0_off3_inb t) (k0_off4_inb t) (k0_off5_inb t) (k0_off6_inb t) (k0_off7_inb t)) Q) := by
  have ht : t.val < 32 := t.isLt
  have hp : ∀ x, ((addi (broadcast S16 (Scalar.muli (Scf.iv 0#32 1#32 t) 16#32)) lanes : IVec S16 32) x).toNat = 16 * t.val + (x 0).val := by
    intro x
    show ((0#32 + BitVec.ofNat 32 t.val * 1#32) * 16#32 + lanes x).toNat = _
    have hx : (x 0).val < 16 := (x 0).isLt
    rw [lanes_apply]
    simp only [BitVec.toNat_add, BitVec.toNat_mul, BitVec.toNat_ofNat]; omega
  iintro ⟨Ht, Hi, Ho⟩ Hk
  unfold trip
  iapply (runs_rowsAt d c s (a := 0) (k0_off2_eq t) hp hX) $$ Hi; iintro %r0 %h0 Hi
  iapply (runs_rowsAt d c s (a := 1) (k0_off3_eq t) hp hX) $$ Hi; iintro %r1 %h1 Hi
  iapply (runs_rowsAt d c s (a := 2) (k0_off4_eq t) hp hX) $$ Hi; iintro %r2 %h2 Hi
  iapply (runs_rowsAt d c s (a := 3) (k0_off5_eq t) hp hX) $$ Hi; iintro %r3 %h3 Hi
  iapply (runs_rowsAt d c s (a := 4) (k0_off6_eq t) hp hX) $$ Hi; iintro %r4 %h4 Hi
  iapply (runs_rowsAt d c s (a := 5) (k0_off7_eq t) hp hX) $$ Hi; iintro %r5 %h5 Hi
  have hr : Ready (idx.view.read (Elt F) fi) (addi (broadcast S16 (Scalar.muli (Scf.iv 0#32 1#32 t) 16#32)) lanes) ⟨r0, r1, r2, r3, r4, r5⟩ := by
    intro k x
    fin_cases k
    exacts [h0 x, h1 x, h2 x, h3 x, h4 x, h5 x]
  have hp' : ∀ x, ((addi (broadcast S16 (Scalar.muli (Scf.iv 0#32 1#32 t) 16#32)) lanes : IVec S16 32) x).toNat < 512 := fun x => by
    rw [hp]; have hx : (x 0).val < 16 := (x 0).isLt; omega
  have hg0 := words_below (0#32, 0#32) (List.mem_cons_self ..)
  iapply (runs_gathers d c s hr hg0) $$ Ht; iintro %w %hw Ht
  rw [← bind_pure (groups _ _ _ _ _ _ _ _)]
  iapply (runs_groups d c s hout hr hp' laterGroups _ w f hg0 hw fun g hg => words_below g (List.mem_cons_of_mem _ hg)) $$ [Ht Ho]
  · isplitl [Ht] <;> iassumption
  iintro %f' %hf' Ht Ho
  unfold runs
  rw [wp_pure]
  imodintro
  iapply Hk $$ [] Ht Hi Ho
  ipureintro
  rintro y (hy | hy)
  · exact hf' y (.inl hy)
  · have hy0 : (y 0).val < 64 := (y 0).isLt
    have hy1 : (y 1).val < 512 := (y 1).isLt
    obtain ⟨g, hg, he⟩ := words_all (lane ⟨(y 1).val % 16, by omega⟩) ((y 0).val / 2) (by omega)
    have hh : Hits (addi (broadcast S16 (Scalar.muli (Scf.iv 0#32 1#32 t) 16#32)) lanes) (wordOf lanes g) y :=
      ⟨_, he, by rw [hp]; show _ = 16 * t.val + (y 1).val % 16; omega⟩
    rcases List.mem_cons.mp hg with rfl | hg
    · exact hf' y (.inr (.inl hh))
    · exact hf' y (.inr (.inr ⟨g, hg, hh⟩))

include hout in
/-- An item's loop: the output buffer comes to hold the sums. -/
theorem runs_item {α : Type} {Q : α → sProp 𝕄} (hX : ∀ y, (idx.view.read (Elt F) fi y).toNat < 1000)
    {f : Buf (Elt F) (out.view.loc (V d c s))} {k : PUnit → Prog (TpuEff nD τ sig (Elt F) Λ₀ (.scVector c s)) α} :
    iprop((tab.view.loc (V d c s) ↦{q} ft) ∗ (idx.view.loc (V d c s) ↦{q'} fi) ∗ (out.view.loc (V d c s) ↦{fullShare} f) : sProp 𝕄)
      ⊢ iprop((∀ f' : Buf (Elt F) (out.view.loc (V d c s)),
            ⌜out.view.read (Elt F) f' = outVal (tab.view.read (Elt F) ft) (idx.view.read (Elt F) fi)⌝
            -∗ (tab.view.loc (V d c s) ↦{q} ft) -∗ (idx.view.loc (V d c s) ↦{q'} fi) -∗ (out.view.loc (V d c s) ↦{fullShare} f')
            -∗ runs d c s (k ⟨⟩) Q)
        -∗ runs d c s (item tab idx out >>= k) Q) := by
  iintro ⟨Ht, Hi, Ho⟩ Hk
  unfold item runs
  iapply (Scf.wp_for_bind frame (wpE (defs₀ (F := F)) 𝒱₀ (V d c s) none) Set.univ k0_t1_loop.lb k0_t1_loop.ub k0_t1_loop.st k0_t1_ok ⟨⟩ _
      (fun n _ => iprop((tab.view.loc (V d c s) ↦{q} ft) ∗ (idx.view.loc (V d c s) ↦{q'} fi)
        ∗ ∃ g : Buf (Elt F) (out.view.loc (V d c s)),
          ⌜∀ y : S64x512.Idx, (y 1).val < 16 * n → out.view.read (Elt F) g y = outVal (tab.view.read (Elt F) ft) (idx.view.read (Elt F) fi) y⌝
          ∗ (out.view.loc (V d c s) ↦{fullShare} g))) ?_) $$ [Ht Hi Ho]
  · intro t acc
    iintro ⟨Ht, Hi, %g, %hg, Ho⟩
    iapply (runs_trip d c s hout t hX) $$ [Ht Hi Ho]
    · isplitl [Ht]; · iassumption
      isplitl [Hi] <;> iassumption
    iintro %g' %hg' Ht Hi Ho
    isplitl [Ht]; · iassumption
    isplitl [Hi]; · iassumption
    iexists g'
    isplitr
    · ipureintro
      intro y hy
      refine hg' y ?_
      by_cases h : (y 1).val < 16 * t.val
      · exact .inl (hg y h)
      · exact .inr (by omega)
    · iassumption
  · isplitl [Ht]; · iassumption
    isplitl [Hi]; · iassumption
    iexists f
    isplitr
    · ipureintro; intro y hy; omega
    · iassumption
  iintro %acc ⟨Ht, Hi, %g, %hg, Ho⟩
  iapply Hk $$ [] Ht Hi Ho
  ipureintro
  funext y
  refine hg y ?_
  have hy1 : (y 1).val < 512 := (y 1).isLt
  show (y 1).val < 16 * 32
  omega
end

end Cert.Proof.Emb

end
-- ==== Proof.Tile.lean ====
/-
  A tile's task: from the table and its eight windows of indices it leaves the sums in its eight windows
  of the result.
-/
module

public import proofs.«01_k».proof.Proof.Item

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The tile at `i` of device `d`. -/
abbrev thr (d : Dev nD) (i : grid0.Coords) : Thread nD τ := V d ((i 0).castLE hcore0) ((i 1).castLE hsub0)

/-- What a program leaves that fills `out` with the sums of the indices `idx` by the table `tab`. -/
def Sums (d : Dev nD) (c : Fin τ.nSC) (s : Fin τ.nSub)
    (it : Memref sig .scVector .vmem S32000 .i32 → Memref sig .scVector .vmem S6x512 .i32 → Memref sig .scVector .vmem S64x512 .f32
      → Prog (TpuEff nD τ sig (Elt F) Λ₀ (.scVector c s)) PUnit) : Prop :=
  ∀ ⦃tab : Memref sig .scVector .vmem S32000 .i32⦄ ⦃idx : Memref sig .scVector .vmem S6x512 .i32⦄
    ⦃out : Memref sig .scVector .vmem S64x512 .f32⦄ (_ : out.IsWhole) ⦃q q' : PosShare TreeShare⦄
    ⦃ft : Buf (Elt F) (tab.view.loc (V d c s))⦄ ⦃fi : Buf (Elt F) (idx.view.loc (V d c s))⦄ ⦃f : Buf (Elt F) (out.view.loc (V d c s))⦄
    (T : Vec F S32000 .i32) (X : Vec F S6x512 .i32) (_ : tab.view.read (Elt F) ft = T) (_ : idx.view.read (Elt F) fi = X)
    (_ : ∀ y, (X y).toNat < 1000) ⦃Q : PUnit → sProp 𝕄⦄ ⦃k : PUnit → Prog (TpuEff nD τ sig (Elt F) Λ₀ (.scVector c s)) PUnit⦄,
    iprop((tab.view.loc (V d c s) ↦{q} ft) : sProp 𝕄)
      ⊢ iprop((idx.view.loc (V d c s) ↦{q'} fi) -∗ (out.view.loc (V d c s) ↦{fullShare} f) -∗ (∀ f' : Buf (Elt F) (out.view.loc (V d c s)),
            ⌜out.view.read (Elt F) f' = outVal T X⌝
            -∗ (tab.view.loc (V d c s) ↦{q} ft) -∗ (idx.view.loc (V d c s) ↦{q'} fi) -∗ (out.view.loc (V d c s) ↦{fullShare} f')
            -∗ wp frame (wpE (defs₀ (F := F)) 𝒱₀ (V d c s) none) Set.univ (k ⟨⟩) Q)
        -∗ wp frame (wpE (defs₀ (F := F)) 𝒱₀ (V d c s) none) Set.univ (it tab idx out >>= k) Q)

theorem sums_item (d : Dev nD) (c : Fin τ.nSC) (s : Fin τ.nSub) : Sums d c s (item (F := F)) := by
  intro tab idx out hout q q' ft fi f T X hT hI hX Q k
  subst hT hI
  iintro Ht Hi Ho
  iapply (runs_item d c s hout hX) $$ [Ht Hi Ho]
  isplitl [Ht]; · iassumption
  isplitl [Hi] <;> iassumption

section
variable (d : Dev nD) (i : grid0.Coords)
  (arg2 : Memref sig .scVector .hbm S128x6x1024 .i32)
  (arg3 : Memref sig .scVector .hbm S32000 .i32) (harg3 : arg3.IsWhole) (arg4 : Memref sig .scVector .hbm S128x64x1024 .f32)
  (arg5 : Memref sig .scVector .vmem S32000 .i32) (harg5 : arg5.IsWhole) (arg6 : Memref sig .scVector .vmem S6x512 .i32) (harg6 : arg6.IsWhole)
  (arg7 : Memref sig .scVector .vmem S6x512 .i32) (harg7 : arg7.IsWhole) (arg8 : Memref sig .scVector .vmem S64x512 .f32) (harg8 : arg8.IsWhole)
  (arg9 : Memref sig .scVector .vmem S64x512 .f32) (harg9 : arg9.IsWhole)
  (arg10 arg11 arg12 arg13 r0 : DmaSems sig S_)
  {q : PosShare TreeShare} {ft : Buf (Elt F) (arg3.view.loc (thr d i))} {fx : Buf (Elt F) (arg2.view.loc (thr d i))} {fo : Buf (Elt F) (arg4.view.loc (thr d i))}
  {f5 : Buf (Elt F) (arg5.view.loc (thr d i))}  {f6 : Buf (Elt F) (arg6.view.loc (thr d i))}  {f7 : Buf (Elt F) (arg7.view.loc (thr d i))}
  {f8 : Buf (Elt F) (arg8.view.loc (thr d i))}  {f9 : Buf (Elt F) (arg9.view.loc (thr d i))}

/-- A window of indices, held. -/
abbrev inP (fx : Buf (Elt F) (arg2.view.loc (thr d i))) (k : Fin 8) : sProp 𝕄 := (inW arg2 i k).view.loc (thr d i) ↦[(inW arg2 i k).view.set]{fullShare} fx
/-- A window of the result, held. -/
abbrev outP (fo : Buf (Elt F) (arg4.view.loc (thr d i))) (k : Fin 8) : sProp 𝕄 := (outW arg4 i k).view.loc (thr d i) ↦[(outW arg4 i k).view.set]{fullShare} fo

/-- A window written over with what `g` reads there is the window of `g`. -/
theorem outP_write {p : Vec F S64x512 .f32} {fo g : Buf (Elt F) (arg4.view.loc (thr d i))} (k : Fin 8)
    (h : (outW arg4 i k).view.read (Elt F) g = p) :
    outP d i arg4 ((outW arg4 i k).view.writes (Elt F) fo [⟨Rect.whole S64x512, p⟩]) k = outP d i arg4 g k := by
  subst h
  refine pointsTo_congr fun y hy => ?_
  obtain ⟨j, -, rfl⟩ := Finset.mem_map.mp hy
  have e : (outW arg4 i k).view.emb j = ((outW arg4 i k).view.slice (Rect.whole S64x512)).emb j := by
    show _ = (outW arg4 i k).view.emb ((Rect.whole S64x512).emb j)
    refine congrArg _ (funext fun a => Fin.ext ?_)
    show (j a).val = 0 + 1 * (j a).val
    omega
  rw [View.writes_singleton, e, View.write_emb_of_mem _ _ (Finset.mem_univ j), View.read_apply, ← e, cast_cast, cast_eq]

theorem runs_task {O : CellTallies nD τ sig (HIx 1)} {W : Waits sig (HIx 1)} {g : Buf (Elt F) (arg4.view.loc (thr d i))}
    (hX : ∀ k y, ((inW arg2 i k).view.read (Elt F) fx y).toNat < 1000)
    (hg : ∀ k, (outW arg4 i k).view.read (Elt F) g = outVal (arg3.view.read (Elt F) ft) ((inW arg2 i k).view.read (Elt F) fx)) :
    iprop(Transfers.MayWaits (thr d i) (none : HIx 1) O ∗ (arg3.view.loc (thr d i) ↦{q} ft)
      ∗ (arg5.view.loc (thr d i) ↦{fullShare} f5) ∗ (arg6.view.loc (thr d i) ↦{fullShare} f6) ∗ (arg7.view.loc (thr d i) ↦{fullShare} f7)
      ∗ (arg8.view.loc (thr d i) ↦{fullShare} f8) ∗ (arg9.view.loc (thr d i) ↦{fullShare} f9)
      ∗ semVal (thr d i, SemLoc.dma arg10.sem) 0 ∗ semVal (thr d i, SemLoc.dma arg11.sem) 0
      ∗ semVal (thr d i, SemLoc.dma arg12.sem) 0 ∗ semVal (thr d i, SemLoc.dma arg13.sem) 0 ∗ semVal (thr d i, SemLoc.dma r0.sem) 0
      ∗ owes (thr d i) O W
      ∗ (inP d i arg2 fx 0 ∗ inP d i arg2 fx 1 ∗ inP d i arg2 fx 2 ∗ inP d i arg2 fx 3 ∗ inP d i arg2 fx 4 ∗ inP d i arg2 fx 5 ∗ inP d i arg2 fx 6 ∗ inP d i arg2 fx 7)
      ∗ (outP d i arg4 fo 0 ∗ outP d i arg4 fo 1 ∗ outP d i arg4 fo 2 ∗ outP d i arg4 fo 3 ∗ outP d i arg4 fo 4 ∗ outP d i arg4 fo 5 ∗ outP d i arg4 fo 6 ∗ outP d i arg4 fo 7))
    ⊢ wp frame (wpE (defs₀ (F := F)) 𝒱₀ (thr d i) none) Set.univ
        (task (F := F) i arg2 arg3 harg3 arg4 arg5 harg5 arg6 harg6 arg7 harg7 arg8 harg8 arg9 harg9 arg10 arg11 arg12 arg13 r0)
        fun _ => (iprop((arg3.view.loc (thr d i) ↦{q} ft)
      ∗ (∃ f, arg5.view.loc (thr d i) ↦{fullShare} f) ∗ (∃ f, arg6.view.loc (thr d i) ↦{fullShare} f) ∗ (∃ f, arg7.view.loc (thr d i) ↦{fullShare} f)
      ∗ (∃ f, arg8.view.loc (thr d i) ↦{fullShare} f) ∗ (∃ f, arg9.view.loc (thr d i) ↦{fullShare} f)
      ∗ semVal (thr d i, SemLoc.dma arg10.sem) 0 ∗ semVal (thr d i, SemLoc.dma arg11.sem) 0
      ∗ semVal (thr d i, SemLoc.dma arg12.sem) 0 ∗ semVal (thr d i, SemLoc.dma arg13.sem) 0 ∗ semVal (thr d i, SemLoc.dma r0.sem) 0
      ∗ (∃ W', ⌜∀ p ∈ W', p ∈ W ∨ p.2 = none⌝ ∗ owes (thr d i) O W')
      ∗ (inP d i arg2 fx 0 ∗ inP d i arg2 fx 1 ∗ inP d i arg2 fx 2 ∗ inP d i arg2 fx 3 ∗ inP d i arg2 fx 4 ∗ inP d i arg2 fx 5 ∗ inP d i arg2 fx 6 ∗ inP d i arg2 fx 7)
      ∗ (outP d i arg4 g 0 ∗ outP d i arg4 g 1 ∗ outP d i arg4 g 2 ∗ outP d i arg4 g 3 ∗ outP d i arg4 g 4 ∗ outP d i arg4 g 5 ∗ outP d i arg4 g 6 ∗ outP d i arg4 g 7)) : sProp 𝕄) := by
  have spec := sums_item (F := F) d ((i 0).castLE hcore0) ((i 1).castLE hsub0)
  unfold task
  generalize item (F := F) (c := (i 0).castLE hcore0) (s := (i 1).castLE hsub0) = it at spec ⊢
  simp only [Prog.lift, Prog.bind_op, Prog.bind_ret, Prog.pure_eq_ret]
  iintro ⟨#Hmw, Ht, H5, H6, H7, H8, H9, Hs10, Hs11, Hs12, Hs13, Hr0, HO, ⟨Hi0, Hi1, Hi2, Hi3, Hi4, Hi5, Hi6, Hi7⟩, ⟨Ho0, Ho1, Ho2, Ho3, Ho4, Ho5, Ho6, Ho7⟩⟩
  sl_exec
  iapply (spec (tab := arg5) (idx := arg6) harg8 (arg3.view.read (Elt F) ft) ((inW arg2 i 0).view.read (Elt F) fx) ?hT ?hI (hX 0)) $$ H5 H6 H8
  case hT => exact View.read_write_univ _ _
  case hI => exact View.read_write_univ _ _
  iintro %g0 %hg0 H5 H6 H8
  dsimp only
  sl_exec
  iapply (spec (tab := arg5) (idx := arg7) harg9 (arg3.view.read (Elt F) ft) ((inW arg2 i 1).view.read (Elt F) fx) ?hT ?hI (hX 1)) $$ H5 H7 H9
  case hT => exact View.read_write_univ _ _
  case hI => exact View.read_write_univ _ _
  iintro %g1 %hg1 H5 H7 H9
  dsimp only
  sl_exec
  iapply (spec (tab := arg5) (idx := arg6) harg8 (arg3.view.read (Elt F) ft) ((inW arg2 i 2).view.read (Elt F) fx) ?hT ?hI (hX 2)) $$ H5 H6 H8
  case hT => exact View.read_write_univ _ _
  case hI => exact View.read_write_univ _ _
  iintro %g2 %hg2 H5 H6 H8
  dsimp only
  sl_exec
  iapply (spec (tab := arg5) (idx := arg7) harg9 (arg3.view.read (Elt F) ft) ((inW arg2 i 3).view.read (Elt F) fx) ?hT ?hI (hX 3)) $$ H5 H7 H9
  case hT => exact View.read_write_univ _ _
  case hI => exact View.read_write_univ _ _
  iintro %g3 %hg3 H5 H7 H9
  dsimp only
  sl_exec
  iapply (spec (tab := arg5) (idx := arg6) harg8 (arg3.view.read (Elt F) ft) ((inW arg2 i 4).view.read (Elt F) fx) ?hT ?hI (hX 4)) $$ H5 H6 H8
  case hT => exact View.read_write_univ _ _
  case hI => exact View.read_write_univ _ _
  iintro %g4 %hg4 H5 H6 H8
  dsimp only
  sl_exec
  iapply (spec (tab := arg5) (idx := arg7) harg9 (arg3.view.read (Elt F) ft) ((inW arg2 i 5).view.read (Elt F) fx) ?hT ?hI (hX 5)) $$ H5 H7 H9
  case hT => exact View.read_write_univ _ _
  case hI => exact View.read_write_univ _ _
  iintro %g5 %hg5 H5 H7 H9
  dsimp only
  sl_exec
  iapply (spec (tab := arg5) (idx := arg6) harg8 (arg3.view.read (Elt F) ft) ((inW arg2 i 6).view.read (Elt F) fx) ?hT ?hI (hX 6)) $$ H5 H6 H8
  case hT => exact View.read_write_univ _ _
  case hI => exact View.read_write_univ _ _
  iintro %g6 %hg6 H5 H6 H8
  dsimp only
  sl_exec
  iapply (spec (tab := arg5) (idx := arg7) harg9 (arg3.view.read (Elt F) ft) ((inW arg2 i 7).view.read (Elt F) fx) ?hT ?hI (hX 7)) $$ H5 H7 H9
  case hT => exact View.read_write_univ _ _
  case hI => exact View.read_write_univ _ _
  iintro %g7 %hg7 H5 H7 H9
  dsimp only
  sl_exec
  sl_step
  isplitl [Ht]; · iexact Ht
  isplitl [H5]; · iexists _; iexact H5
  isplitl [H6]; · iexists _; iexact H6
  isplitl [H7]; · iexists _; iexact H7
  isplitl [H8]; · iexists _; iexact H8
  isplitl [H9]; · iexists _; iexact H9
  isplitl [Hs10]; · iexact Hs10
  isplitl [Hs11]; · iexact Hs11
  isplitl [Hs12]; · iexact Hs12
  isplitl [Hs13]; · iexact Hs13
  isplitl [Hr0]; · iexact Hr0
  isplitl [HO]
  · iexists _; isplitr
    rotate_left
    · iexact HO
    · ipureintro; intro p hp
      simp only [Finset.mem_insert] at hp
      repeat' (rcases hp with rfl | hp; · exact .inr rfl)
      exact .inl hp
  isplitl [Hi0 Hi1 Hi2 Hi3 Hi4 Hi5 Hi6 Hi7]
  · isplitl [Hi0]; · iexact Hi0
    isplitl [Hi1]; · iexact Hi1
    isplitl [Hi2]; · iexact Hi2
    isplitl [Hi3]; · iexact Hi3
    isplitl [Hi4]; · iexact Hi4
    isplitl [Hi5]; · iexact Hi5
    isplitl [Hi6]; · iexact Hi6
    iexact Hi7
  isplitl [Ho0]; · iapply (Entails.of_eq (outP_write d i arg4 (p := arg8.view.read (Elt F) g0) (fo := fo) 0 ((hg 0).trans hg0.symm))); iexact Ho0
  isplitl [Ho1]; · iapply (Entails.of_eq (outP_write d i arg4 (p := arg9.view.read (Elt F) g1) (fo := fo) 1 ((hg 1).trans hg1.symm))); iexact Ho1
  isplitl [Ho2]; · iapply (Entails.of_eq (outP_write d i arg4 (p := arg8.view.read (Elt F) g2) (fo := fo) 2 ((hg 2).trans hg2.symm))); iexact Ho2
  isplitl [Ho3]; · iapply (Entails.of_eq (outP_write d i arg4 (p := arg9.view.read (Elt F) g3) (fo := fo) 3 ((hg 3).trans hg3.symm))); iexact Ho3
  isplitl [Ho4]; · iapply (Entails.of_eq (outP_write d i arg4 (p := arg8.view.read (Elt F) g4) (fo := fo) 4 ((hg 4).trans hg4.symm))); iexact Ho4
  isplitl [Ho5]; · iapply (Entails.of_eq (outP_write d i arg4 (p := arg9.view.read (Elt F) g5) (fo := fo) 5 ((hg 5).trans hg5.symm))); iexact Ho5
  isplitl [Ho6]; · iapply (Entails.of_eq (outP_write d i arg4 (p := arg8.view.read (Elt F) g6) (fo := fo) 6 ((hg 6).trans hg6.symm))); iexact Ho6
  iapply (Entails.of_eq (outP_write d i arg4 (p := arg9.view.read (Elt F) g7) (fo := fo) 7 ((hg 7).trans hg7.symm))); iexact Ho7
end

end Cert.Proof.Emb

end
-- ==== Proof.Window.lean ====
/-
  The windows of the tiles: item `k` of the tile at `i` is half an outer row, and the windows of all the
  tiles are the whole array, each part of it once.
-/
module

public import proofs.«01_k».proof.Proof.Task
public import proofs.«01_k».proof.Proof.Value
public import Idealize.ShloMosaic.Lib.ValueIdxCore
public import Idealize.ShloMosaic.Lib.Pipeline.Value

@[expose] public section

noncomputable section

namespace Cert.Proof.Emb

open Cert.KernelIdeal Cert.KernelIdeal.Gen
open Idealize.ShloMosaic Idealize.ShloMosaic.ValueIdx Idealize.SL.Sem

variable {F : FTy → Type} [FloatOps F]

/-- The grid point of core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem eq_coordsV (i : grid0.Coords) : i = coordsV (i 0) (i 1) := by
  funext a; match a with | 0 => rfl | 1 => rfl

/-- The number of an item among all the tiles' items: eight to a tile. -/
def itemNo (i : grid0.Coords) (k : Fin 8) : ℕ := (2 * (i 1).val + (i 0).val) * 8 + k.val

theorem itemNo_lt (i : grid0.Coords) (k : Fin 8) : itemNo i k < 256 := by
  have h0 : (i 0).val < 2 := (i 0).isLt
  have h1 : (i 1).val < 16 := (i 1).isLt
  unfold itemNo; omega

theorem k0_off1_val : ∀ (i : grid0.Coords) (k : Fin 8),
    k0_off1 i (BitVec.ofNat 32 k.val) = ![itemNo i k / 2, 0, itemNo i k % 2 * 512] := by
  have h : ∀ (c : Fin 2) (s : Fin 16) (k : Fin 8), ∀ a, k0_off1 (coordsV c s) (BitVec.ofNat 32 k.val) a
      = (![((2 * s.val + c.val) * 8 + k.val) / 2, 0, ((2 * s.val + c.val) * 8 + k.val) % 2 * 512] : Fin 3 → ℕ) a := by
    decide +kernel
  intro i k
  rw [eq_coordsV i]
  funext a; exact h (i 0) (i 1) k a

theorem k0_off8_val : ∀ (i : grid0.Coords) (k : Fin 8),
    k0_off8 i (BitVec.ofNat 32 k.val) = ![itemNo i k / 2, 0, itemNo i k % 2 * 512] := by
  have h : ∀ (c : Fin 2) (s : Fin 16) (k : Fin 8), ∀ a, k0_off8 (coordsV c s) (BitVec.ofNat 32 k.val) a
      = (![((2 * s.val + c.val) * 8 + k.val) / 2, 0, ((2 * s.val + c.val) * 8 + k.val) % 2 * 512] : Fin 3 → ℕ) a := by
    decide +kernel
  intro i k
  rw [eq_coordsV i]
  funext a; exact h (i 0) (i 1) k a

abbrev xW : Memref sig .scVector .hbm S128x6x1024 .i32 := Memref.whole main_v0_scv
abbrev tW : Memref sig .scVector .hbm S32000 .i32 := Memref.whole main_arg1_scv
abbrev oW : Memref sig .scVector .hbm S128x64x1024 .f32 := Memref.whole main_v1_scv

theorem inW_emb (i : grid0.Coords) (k : Fin 8) (y : S6x512.Idx) :
    (inW xW i k).view.emb y = (ix3 ⟨itemNo i k / 2, by have := itemNo_lt i k; omega⟩ (y 0)
      ⟨itemNo i k % 2 * 512 + (y 1).val, by have : (y 1).val < 512 := (y 1).isLt; omega⟩ : S128x6x1024.Idx) := by
  have e : (inW xW i k).view.emb y
      = (Rect.unit (s := S128x6x1024) (k0_off1 i (BitVec.ofNat 32 k.val)) S1x6x512.size (k0_off1_inb i k)).emb
          (Shape.reshapeEquiv (s := S1x6x512) (s' := S6x512) rfl y) := rfl
  have e' : Shape.reshapeEquiv (s := S1x6x512) (s' := S6x512) rfl y = (Fin.cons ⟨0, Nat.one_pos⟩ y : S1x6x512.Idx) :=
    Shape.reshapeEquiv_cons_one (d := ![6, 512]) rfl y
  rw [e, e']
  funext a; apply Fin.ext
  refine (congrArg₂ (· + ·) (congrFun (k0_off1_val i k) a) (Nat.one_mul _)).trans ?_
  fin_cases a
  · rfl
  · show 0 + (y 0).val = (y 0).val; omega
  · rfl

theorem outW_emb (i : grid0.Coords) (k : Fin 8) (y : S64x512.Idx) :
    (outW oW i k).view.emb y = (ix3 ⟨itemNo i k / 2, by have := itemNo_lt i k; omega⟩ (y 0)
      ⟨itemNo i k % 2 * 512 + (y 1).val, by have : (y 1).val < 512 := (y 1).isLt; omega⟩ : S128x64x1024.Idx) := by
  have e : (outW oW i k).view.emb y
      = (Rect.unit (s := S128x64x1024) (k0_off8 i (BitVec.ofNat 32 k.val)) S1x64x512.size (k0_off8_inb i k)).emb
          (Shape.reshapeEquiv (s := S1x64x512) (s' := S64x512) rfl y) := rfl
  have e' : Shape.reshapeEquiv (s := S1x64x512) (s' := S64x512) rfl y = (Fin.cons ⟨0, Nat.one_pos⟩ y : S1x64x512.Idx) :=
    Shape.reshapeEquiv_cons_one (d := ![64, 512]) rfl y
  rw [e, e']
  funext a; apply Fin.ext
  refine (congrArg₂ (· + ·) (congrFun (k0_off8_val i k) a) (Nat.one_mul _)).trans ?_
  fin_cases a
  · rfl
  · show 0 + (y 0).val = (y 0).val; omega
  · rfl

/-- The tiles' items. -/
abbrev Item : Type := Fin 2 × Fin 16 × Fin 8

abbrev inSet (t : Item) : Finset S128x6x1024.Idx := (inW xW (coordsV t.1 t.2.1) t.2.2).view.set
abbrev outSet (t : Item) : Finset S128x64x1024.Idx := (outW oW (coordsV t.1 t.2.1) t.2.2).view.set

abbrev numOf (t : Item) : ℕ := (2 * t.2.1.val + t.1.val) * 8 + t.2.2.val

theorem mem_inSet (t : Item) (y : S128x6x1024.Idx) : y ∈ inSet t ↔ (y 0).val = numOf t / 2 ∧ (y 2).val / 512 = numOf t % 2 := by
  have h1 : (y 1).val < 6 := (y 1).isLt
  have h2 : (y 2).val < 1024 := (y 2).isLt
  constructor
  · intro h
    obtain ⟨j, -, rfl⟩ := Finset.mem_map.mp h
    rw [inW_emb]
    have h5 : (j 1).val < 512 := (j 1).isLt
    refine ⟨rfl, ?_⟩
    show (numOf t % 2 * 512 + (j 1).val) / 512 = _
    omega
  · rintro ⟨e0, e2⟩
    refine Finset.mem_map.mpr ⟨ix2 (y 1) ⟨(y 2).val % 512, Nat.mod_lt _ (by omega)⟩, Finset.mem_univ _, ?_⟩
    rw [inW_emb, eq_ix3 y]
    funext a; apply Fin.ext
    fin_cases a
    · exact e0.symm
    · rfl
    · show numOf t % 2 * 512 + (y 2).val % 512 = (y 2).val
      omega

theorem mem_outSet (t : Item) (y : S128x64x1024.Idx) : y ∈ outSet t ↔ (y 0).val = numOf t / 2 ∧ (y 2).val / 512 = numOf t % 2 := by
  have h1 : (y 1).val < 64 := (y 1).isLt
  have h2 : (y 2).val < 1024 := (y 2).isLt
  constructor
  · intro h
    obtain ⟨j, -, rfl⟩ := Finset.mem_map.mp h
    rw [outW_emb]
    have h5 : (j 1).val < 512 := (j 1).isLt
    refine ⟨rfl, ?_⟩
    show (numOf t % 2 * 512 + (j 1).val) / 512 = _
    omega
  · rintro ⟨e0, e2⟩
    refine Finset.mem_map.mpr ⟨ix2 (y 1) ⟨(y 2).val % 512, Nat.mod_lt _ (by omega)⟩, Finset.mem_univ _, ?_⟩
    rw [outW_emb, eq_ix3 y]
    funext a; apply Fin.ext
    fin_cases a
    · exact e0.symm
    · rfl
    · show numOf t % 2 * 512 + (y 2).val % 512 = (y 2).val
      omega

theorem item_eq {t t' : Item} (h0 : numOf t / 2 = numOf t' / 2) (h1 : numOf t % 2 = numOf t' % 2) : t = t' := by
  obtain ⟨c, s, k⟩ := t
  obtain ⟨c', s', k'⟩ := t'
  simp only [numOf] at h0 h1
  have := c.isLt; have := c'.isLt; have := k.isLt; have := k'.isLt
  refine Prod.ext (Fin.ext ?_) (Prod.ext (Fin.ext ?_) (Fin.ext ?_)) <;> dsimp only <;> omega

theorem item_of {p : ℕ} (hp : p < 256) : ∃ t : Item, numOf t = p :=
  ⟨⟨⟨p / 8 % 2, by omega⟩, ⟨p / 16, by omega⟩, ⟨p % 8, by omega⟩⟩, by simp only [numOf]; omega⟩

theorem in_disjoint : ∀ t ∈ (Finset.univ : Finset Item), ∀ t' ∈ (Finset.univ : Finset Item), t ≠ t' → Disjoint (inSet t) (inSet t') := by
  intro t _ t' _ hne
  refine Finset.disjoint_left.mpr fun y h h' => hne ?_
  obtain ⟨a, b⟩ := (mem_inSet t y).mp h
  obtain ⟨a', b'⟩ := (mem_inSet t' y).mp h'
  exact item_eq (a.symm.trans a') (b.symm.trans b')

theorem out_disjoint : ∀ t ∈ (Finset.univ : Finset Item), ∀ t' ∈ (Finset.univ : Finset Item), t ≠ t' → Disjoint (outSet t) (outSet t') := by
  intro t _ t' _ hne
  refine Finset.disjoint_left.mpr fun y h h' => hne ?_
  obtain ⟨a, b⟩ := (mem_outSet t y).mp h
  obtain ⟨a', b'⟩ := (mem_outSet t' y).mp h'
  exact item_eq (a.symm.trans a') (b.symm.trans b')

theorem in_cover : (Finset.univ : Finset Item).biUnion inSet = Finset.univ := by
  refine Finset.eq_univ_of_forall fun y => ?_
  have h0 : (y 0).val < 128 := (y 0).isLt
  have h2 : (y 2).val < 1024 := (y 2).isLt
  obtain ⟨t, ht⟩ := item_of (p := (y 0).val * 2 + (y 2).val / 512) (by omega)
  exact Finset.mem_biUnion.mpr ⟨t, Finset.mem_univ _, (mem_inSet t y).mpr ⟨by omega, by omega⟩⟩

theorem out_cover : (Finset.univ : Finset Item).biUnion outSet = Finset.univ := by
  refine Finset.eq_univ_of_forall fun y => ?_
  have h0 : (y 0).val < 128 := (y 0).isLt
  have h2 : (y 2).val < 1024 := (y 2).isLt
  obtain ⟨t, ht⟩ := item_of (p := (y 0).val * 2 + (y 2).val / 512) (by omega)
  exact Finset.mem_biUnion.mpr ⟨t, Finset.mem_univ _, (mem_outSet t y).mpr ⟨by omega, by omega⟩⟩

/-- The whole result: the sums of every point by the table. -/
def res (T : Vec F S32000 .i32) (X : Vec F S128x6x1024 .i32) : Vec F S128x64x1024 .f32 :=
  fun y => sumAt T (fun k => X (ix3 (y 0) k (y 2))) (y 1).val

/-- Its window is what the item's loop leaves from the window of the indices. -/
theorem res_window (T : Vec F S32000 .i32) (X : Vec F S128x6x1024 .i32) (i : grid0.Coords) (k : Fin 8) :
    (outW oW i k).view.read (Elt F) (res T X) = outVal T ((inW xW i k).view.read (Elt F) X) := by
  funext y
  show res T X ((outW oW i k).view.emb y) = _
  rw [outW_emb]
  unfold res outVal
  refine congrArg (fun x => sumAt T x (y 0).val) (funext fun j => ?_)
  have h5 : (y 1).val < 512 := (y 1).isLt
  unfold indexAt
  rw [dif_pos h5]
  show _ = X ((inW xW i k).view.emb (Shape.pair (d := ![6, 512]) j ⟨(y 1).val, h5⟩))
  rw [inW_emb]
  rfl

end Cert.Proof.Emb

end
-- ==== Proof.Launch.lean ====
/-
  What the launch's threads hand each other: every tile is given a share of the table and its windows of
  the indices and of the result, and gives them back with the sums in the result's windows.
-/
module

public import proofs.«01_k».proof.Proof.Tile
public import proofs.«01_k».proof.Proof.Window
public import Idealize.ShloMosaic.Lib.Transfers
public import Idealize.ShloMosaic.Lib.SparseCore.Quiescent

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo

variable {F : FTy → Type} [FloatOps F]

local notation "𝕄" => MT nD τ sig (HIx 1) (Elt F) ℕ UU ℕ

abbrev aLoc (d : Dev nD) : Loc nD τ sig := (SparseCore.T d).loc main_arg0
abbrev tLoc (d : Dev nD) : Loc nD τ sig := (SparseCore.T d).loc main_arg1
abbrev xLoc (d : Dev nD) : Loc nD τ sig := (SparseCore.T d).loc main_v0
abbrev oLoc (d : Dev nD) : Loc nD τ sig := (SparseCore.T d).loc main_v1

/-- A tile's share of the table. -/
def share (c : Fin 2) (s : Fin 16) : PosShare TreeShare := Transfers.dealOf (Transfers.dealOf fullShare Finset.univ c) Finset.univ s

/-- What the tile at core `c` and subcore `s` holds: its share of the table `T`, its windows of the indices `X` and its windows
    of the result, which read `R`. -/
def tileP (d : Dev nD) (T : Buf (Elt F) (tLoc d)) (X : Buf (Elt F) (xLoc d)) (R : Buf (Elt F) (oLoc d)) (c : Fin 2) (s : Fin 16) : sProp 𝕄 :=
  iprop((tLoc d ↦{share c s} T) ∗ (bigSep Finset.univ fun k : Fin 8 => xLoc d ↦[inSet (c, s, k)]{fullShare} X)
    ∗ bigSep Finset.univ fun k : Fin 8 => oLoc d ↦[outSet (c, s, k)]{fullShare} R)

instance tileP_storable (d : Dev nD) (T : Buf (Elt F) (tLoc d)) (X : Buf (Elt F) (xLoc d)) (R : Buf (Elt F) (oLoc d)) (c : Fin 2) (s : Fin 16) :
    BI.Storable (upEmb : UEmb _ 𝕄) (tileP d T X R c s) := by
  unfold tileP; infer_instance

/-- The whole arrays are the tiles' parts. -/
theorem tiles_eq (d : Dev nD) (T : Buf (Elt F) (tLoc d)) (X : Buf (Elt F) (xLoc d)) (R : Buf (Elt F) (oLoc d)) :
    (bigSep Finset.univ fun c : Fin 2 => bigSep Finset.univ fun s : Fin 16 => tileP d T X R c s)
      = (iprop((tLoc d ↦{fullShare} T) ∗ (xLoc d ↦{fullShare} X) ∗ (oLoc d ↦{fullShare} R)) : sProp 𝕄) := by
  have hT : (tLoc d ↦{fullShare} T : sProp 𝕄) = bigSep Finset.univ fun c : Fin 2 => bigSep Finset.univ fun s : Fin 16 => tLoc d ↦{share c s} T := by
    rw [Transfers.pointsTo_deal (Finset.univ : Finset (Fin 2)) ⟨0, Finset.mem_univ _⟩]
    exact bigSep_congr fun c _ => Transfers.pointsTo_deal (Finset.univ : Finset (Fin 16)) ⟨0, Finset.mem_univ _⟩ _
  have hx : (xLoc d ↦{fullShare} X : sProp 𝕄) = bigSep Finset.univ fun c : Fin 2 => bigSep Finset.univ fun s : Fin 16 =>
      bigSep Finset.univ fun k : Fin 8 => xLoc d ↦[inSet (c, s, k)]{fullShare} X := by
    have h := pointsTo_biUnion (Ix := HIx 1) (Name := ℕ) (U := UU) (Lvl := ℕ) (ℓ := xLoc d) (q := fullShare) (f := X) (Finset.univ : Finset Item) inSet in_disjoint
    rw [in_cover] at h
    rw [show (xLoc d ↦{fullShare} X : sProp 𝕄) = xLoc d ↦[Finset.univ]{fullShare} X from rfl]
    refine h.trans ?_
    rw [bigSep_univ_prod]
    exact bigSep_congr fun c _ => bigSep_univ_prod _
  have ho : (oLoc d ↦{fullShare} R : sProp 𝕄) = bigSep Finset.univ fun c : Fin 2 => bigSep Finset.univ fun s : Fin 16 =>
      bigSep Finset.univ fun k : Fin 8 => oLoc d ↦[outSet (c, s, k)]{fullShare} R := by
    have h := pointsTo_biUnion (Ix := HIx 1) (Name := ℕ) (U := UU) (Lvl := ℕ) (ℓ := oLoc d) (q := fullShare) (f := R) (Finset.univ : Finset Item) outSet out_disjoint
    rw [out_cover] at h
    rw [show (oLoc d ↦{fullShare} R : sProp 𝕄) = oLoc d ↦[Finset.univ]{fullShare} R from rfl]
    refine h.trans ?_
    rw [bigSep_univ_prod]
    exact bigSep_congr fun c _ => bigSep_univ_prod _
  rw [hT, hx, ho, ← bigSep_sep', ← bigSep_sep']
  refine bigSep_congr fun c _ => ?_
  rw [← bigSep_sep', ← bigSep_sep']
  rfl

variable (m : (ℓ : Loc nD τ sig) → Buf (Elt F) ℓ) (ρ : Dev nD → PrngReg)

/-- The indices, laid out a row of the result to a row. -/
def xv (d : Dev nD) : Buf (Elt F) (xLoc d) :=
  shapeCast (s := S16x8x6x32x32) S128x6x1024 (m (aLoc d)) shapeCasts_S16x8x6x32x32_S128x6x1024

/-- What the result comes to hold. -/
def rv (d : Dev nD) : Buf (Elt F) (oLoc d) := res (F := F) (m (tLoc d)) (xv m d)

/-- Every index names a row of the table. -/
def PreOK : Prop := ∀ d : Dev nD, ∀ y, (xv m d y : BitVec 32).toNat < 1000

def P : (K (F := F)).Pay (nD := nD) (Val := Elt F) (Name := ℕ) (U := UU) where
  st := fun q d c => match q with | 0 => bigSep Finset.univ fun s : Fin 16 => tileP d (m (tLoc d)) (xv m d) (m (oLoc d)) c s
  dn := fun q d c => match q with | 0 => bigSep Finset.univ fun s : Fin 16 => tileP d (m (tLoc d)) (xv m d) (rv m d) c s
  go := fun q d c i => match q with | 0 => tileP d (m (tLoc d)) (xv m d) (m (oLoc d)) c i
  td := fun q d c i => match q with | 0 => tileP d (m (tLoc d)) (xv m d) (rv m d) c i
  x := fun _ _ => iprop(emp)

instance P_storable : (P (F := F) m).IsStorable where
  st q d c := match q with
    | 0 => (inferInstance : BI.Storable (upEmb : UEmb _ 𝕄) (bigSep Finset.univ fun s : Fin 16 => tileP d (m (tLoc d)) (xv m d) (m (oLoc d)) c s))
  dn q d c := match q with
    | 0 => (inferInstance : BI.Storable (upEmb : UEmb _ 𝕄) (bigSep Finset.univ fun s : Fin 16 => tileP d (m (tLoc d)) (xv m d) (rv m d) c s))
  go q d c i := match q with
    | 0 => (inferInstance : BI.Storable (upEmb : UEmb _ 𝕄) (tileP d (m (tLoc d)) (xv m d) (m (oLoc d)) c i))
  td q d c i := match q with
    | 0 => (inferInstance : BI.Storable (upEmb : UEmb _ 𝕄) (tileP d (m (tLoc d)) (xv m d) (rv m d) c i))

theorem vecSplit : (K (F := F)).VecSplit' (P m) 0 := by
  intro d c
  show (bigSep Finset.univ fun s : Fin 16 => tileP d (m (tLoc d)) (xv m d) (m (oLoc d)) c s) ⊢ |={Set.univ}=> iprop(
      (bigSep Finset.univ fun s : Fin 16 => tileP d (m (tLoc d)) (xv m d) (m (oLoc d)) c s)
      ∗ ((bigSep Finset.univ fun s : Fin 16 => tileP d (m (tLoc d)) (xv m d) (rv m d) c s)
          -∗ (bigSep Finset.univ fun s : Fin 16 => tileP d (m (tLoc d)) (xv m d) (rv m d) c s)))
  iintro H; imodintro
  isplitl [H]; · iexact H
  iintro H; iexact H

/-! ## A tile's own buffers and semaphores -/

section
variable (d : Dev nD) (i : grid0.Coords)

/-- The semaphores a tile uses. -/
abbrev tileSems : Finset (GSem nD τ sig) :=
  {(thr d i, .dma cc0_scratch5.sem), (thr d i, .dma cc0_scratch6.sem), (thr d i, .dma cc0_scratch7.sem), (thr d i, .dma cc0_scratch8.sem), (thr d i, .dma cc0_scoped0.sem)}

theorem ownSems0_V :
    (ownSems0 (thr d i) : sProp 𝕄)
      = iprop((semVal (thr d i, .dma cc0_scratch5.sem) 0 ∗ semVal (thr d i, .dma cc0_scratch6.sem) 0 ∗ semVal (thr d i, .dma cc0_scratch7.sem) 0
          ∗ semVal (thr d i, .dma cc0_scratch8.sem) 0 ∗ semVal (thr d i, .dma cc0_scoped0.sem) 0)
          ∗ bigSep (ownCells (thr d i) \ tileSems d i) fun g => semVal g 0) := by
  unfold SparseCore.Cfg.ownSems0
  rw [SparseCore.bigSep_sdiff_split' (t := tileSems d i) (s := ownCells (thr d i)) ?h]
  case h =>
    intro g hg
    simp only [tileSems, Finset.mem_insert, Finset.mem_singleton] at hg
    rcases hg with rfl | rfl | rfl | rfl | rfl <;> refine mem_ownCells.mpr ⟨rfl, ?_⟩
    · show (SemLoc.dma cc0_scratch5.sem : SemLoc sig).isScoped .scVector = true; decide
    · show (SemLoc.dma cc0_scratch6.sem : SemLoc sig).isScoped .scVector = true; decide
    · show (SemLoc.dma cc0_scratch7.sem : SemLoc sig).isScoped .scVector = true; decide
    · show (SemLoc.dma cc0_scratch8.sem : SemLoc sig).isScoped .scVector = true; decide
    · show (SemLoc.dma cc0_scoped0.sem : SemLoc sig).isScoped .scVector = true; decide
  refine congrArg (fun p : sProp 𝕄 => iprop(p ∗ bigSep (ownCells (thr d i) \ tileSems d i) fun g => semVal g 0)) ?_
  have ne {a b : DmaSem sig} (h : a ≠ b) : ((thr d i, SemLoc.dma a) : GSem nD τ sig) ≠ (thr d i, SemLoc.dma b) := fun e => h (by injection (Prod.mk.inj e).2)
  rw [SparseCore.bigSep_insert' ?h1, SparseCore.bigSep_insert' ?h2, SparseCore.bigSep_insert' ?h3, SparseCore.bigSep_insert' ?h4, bigSep_singleton]
  all_goals
    simp only [Finset.mem_insert, Finset.mem_singleton, not_or]
    repeat' constructor
    all_goals exact ne (by decide)

/-- The buffers a tile uses. -/
abbrev tileRefs : Finset (DevRef τ sig) :=
  {(thr d i).2.devRef cc0_scratch0, (thr d i).2.devRef cc0_scratch1, (thr d i).2.devRef cc0_scratch2, (thr d i).2.devRef cc0_scratch3, (thr d i).2.devRef cc0_scratch4}

theorem ownBufs_V :
    (ownBufs (thr d i) : sProp 𝕄)
      = iprop(((∃ f, (thr d i).loc cc0_scratch0 ↦{fullShare} f) ∗ (∃ f, (thr d i).loc cc0_scratch1 ↦{fullShare} f) ∗ (∃ f, (thr d i).loc cc0_scratch2 ↦{fullShare} f)
          ∗ (∃ f, (thr d i).loc cc0_scratch3 ↦{fullShare} f) ∗ (∃ f, (thr d i).loc cc0_scratch4 ↦{fullShare} f))
          ∗ bigSep (ownRefs (τ := τ) (sig := sig) (thr d i).2 \ tileRefs d i) fun b => iprop(∃ f, ((d, b) : Loc nD τ sig) ↦{fullShare} f)) := by
  unfold SparseCore.Cfg.ownBufs
  rw [SparseCore.bigSep_sdiff_split' (t := tileRefs d i) (s := ownRefs (τ := τ) (sig := sig) (thr d i).2) ?h]
  case h =>
    intro b hb
    simp only [tileRefs, Finset.mem_insert, Finset.mem_singleton] at hb
    rcases hb with rfl | rfl | rfl | rfl | rfl <;> exact SparseCore.Cfg.mem_ownRefs_of_owner rfl
  refine congrArg (fun p : sProp 𝕄 => iprop(p ∗ bigSep (ownRefs (τ := τ) (sig := sig) (thr d i).2 \ tileRefs d i) fun b => iprop(∃ f, ((d, b) : Loc nD τ sig) ↦{fullShare} f))) ?_
  have ne {a b : Ref sig .scVector} (h : a ≠ b) : (thr d i).2.devRef a ≠ (thr d i).2.devRef b := fun e => h (Proc.devRef_injective _ e)
  rw [SparseCore.bigSep_insert' ?h1, SparseCore.bigSep_insert' ?h2, SparseCore.bigSep_insert' ?h3, SparseCore.bigSep_insert' ?h4, bigSep_singleton]
  all_goals
    simp only [Finset.mem_insert, Finset.mem_singleton, not_or]
    repeat' constructor
    all_goals exact ne (by decide)

end

/-! ## The task -/

section
variable (d : Dev nD) (c : Fin 2) (s : Fin 16)

theorem eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A tile's part, its windows named one by one. -/
theorem tileP_eq (T : Buf (Elt F) (tLoc d)) (X : Buf (Elt F) (xLoc d)) (R : Buf (Elt F) (oLoc d)) :
    (tileP d T X R c s : sProp 𝕄)
      = iprop((tW.view.loc (thr d (coordsV c s)) ↦{share c s} T)
        ∗ (inP d (coordsV c s) xW X 0 ∗ inP d (coordsV c s) xW X 1 ∗ inP d (coordsV c s) xW X 2 ∗ inP d (coordsV c s) xW X 3
          ∗ inP d (coordsV c s) xW X 4 ∗ inP d (coordsV c s) xW X 5 ∗ inP d (coordsV c s) xW X 6 ∗ inP d (coordsV c s) xW X 7)
        ∗ (outP d (coordsV c s) oW R 0 ∗ outP d (coordsV c s) oW R 1 ∗ outP d (coordsV c s) oW R 2 ∗ outP d (coordsV c s) oW R 3
          ∗ outP d (coordsV c s) oW R 4 ∗ outP d (coordsV c s) oW R 5 ∗ outP d (coordsV c s) oW R 6 ∗ outP d (coordsV c s) oW R 7)) := by
  unfold tileP
  rw [eight, eight]

end

end Cert.Proof.Emb

end
-- ==== Proof.Agree.lean ====
/-
  The kernel's sums are the reference's.
-/
module

public import proofs.«01_k».proof.Proof.Ref
public import proofs.«01_k».proof.Proof.Launch

@[expose] public section

noncomputable section

namespace Cert.Proof.Agree

open Cert.ReferenceIdeal Cert.ReferenceIdeal.Gen
open Idealize.ShloMosaic
open Cert.Proof.Ref

set_option maxRecDepth 16384

/-- The indices as the kernel lays them out. -/
theorem laid_at (A : IVec S16x8x6x32x32 32) (h : S16x8x6x32x32.ShapeCasts Cert.KernelIdeal.S128x6x1024) (y : Cert.KernelIdeal.S128x6x1024.Idx) :
    shapeCast Cert.KernelIdeal.S128x6x1024 A h y
      = A (ix5 ⟨(y 0).val / 8, by have : (y 0).val < 128 := (y 0).isLt; omega⟩ ⟨(y 0).val % 8, by omega⟩ (y 1)
          ⟨(y 2).val / 32, by have : (y 2).val < 1024 := (y 2).isLt; omega⟩ ⟨(y 2).val % 32, by omega⟩) := by
  pointwise

theorem half_even (w : BitVec 32) : w.extractLsb' 0 16 = w.setWidth 16 := by
  ext i hi; simp

theorem lowOf_pick (w : BitVec 32) (r : ℕ) :
    (Emb.lowOf (F := Ideal) (Emb.pick r w) : EReal) = Ideal.ofBits .bf16 (w.extractLsb' (r % 2 * 16) 16) := by
  show Ideal.ofBits .bf16 ((Emb.pick r w).setWidth 16) = _
  congr 1
  unfold Emb.pick
  rcases Nat.mod_two_eq_zero_or_one r with h | h <;> rw [h]
  · simp [half_even]
  · rw [if_neg (by decide)]
    show (w.ushiftRight (16#32).toNat).setWidth 16 = _
    ext i hi
    simp [BitVec.getElem_extractLsb']

theorem sumOf_eq (b0 b1 b2 b3 b4 b5 : EReal) :
    (Emb.sumOf (F := Ideal) b0 b1 b2 b3 b4 b5 : EReal) = b0 + b1 + (b2 + b3) + (b4 + b5) := rfl

theorem sumAt_eq (T : IVec S32000 32) (x : Fin 6 → BitVec 32) (r : ℕ) :
    (Emb.sumAt (F := Ideal) T x r : EReal) = ∑ k : Fin 6, entry T (x k).toNat r := by
  unfold Emb.sumAt
  rw [sumOf_eq, Fin.sum_univ_six]
  simp only [lowOf_pick]
  simp only [add_assoc]
  rfl

/-- The kernel's result is the reference's. -/
theorem agree (A : IVec S16x8x6x32x32 32) (T : IVec S32000 32) (hA : ∀ i, (A i).toNat < 1000) (hT : ∀ n, n < 32 → word T n = 0#32)
    (h : S16x8x6x32x32.ShapeCasts Cert.KernelIdeal.S128x6x1024) :
    (Emb.res (F := Ideal) T (shapeCast Cert.KernelIdeal.S128x6x1024 A h) : S128x64x1024.Idx → EReal) = refOut A T := by
  funext y
  rw [refOut_at A T hA hT]
  unfold Emb.res
  refine (sumAt_eq T _ _).trans (Finset.sum_congr rfl fun k _ => ?_)
  rw [laid_at]

end Cert.Proof.Agree

end
-- ==== Proof.Whole.lean ====
/-
  The program's run: the indices laid out row by row, the launch of the tiles, and what the result then holds.
-/
module

public import proofs.«01_k».proof.Proof.Launch

@[expose] public section

noncomputable section

namespace Cert.Proof.Emb

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo

variable {F : FTy → Type} [FloatOps F]

local notation "𝕄" => MT nD τ sig (HIx 1) (Elt F) ℕ UU ℕ

variable (m : (ℓ : Loc nD τ sig) → Buf (Elt F) ℓ) (ρ : Dev nD → PrngReg)

/-- The task of the tile at core `c` and subcore `s`. -/
theorem tile_body (hF : (K (F := F)).Facts) (hpre : PreOK m) (d : Dev nD) (c : Fin 2) (s : Fin 16)
    (O : CellTallies nD τ sig (HIx 1)) (W : Waits sig (HIx 1)) (hO : ∀ g, O g none = 0) :
    iprop(levAts (K (F := F)).L (K (F := F)).lev ∗ emp ∗ tileP d (m (tLoc d)) (xv m d) (m (oLoc d)) c s
        ∗ scopedBufs (thr d (coordsV c s)) ∗ scopedSems0 (thr d (coordsV c s)) ∗ owes (thr d (coordsV c s)) O W)
      ⊢ wp frame (wpE (defs₀ (F := F)) 𝒱₀ (thr d (coordsV c s)) none) Set.univ
          (cc0_k (coordsV c s) xW (Memref.isWhole_whole _) tW (Memref.isWhole_whole _) oW (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scoped0)
          fun _ => (iprop(tileP d (m (tLoc d)) (xv m d) (rv m d) c s ∗ scopedBufs (thr d (coordsV c s)) ∗ scopedSems0 (thr d (coordsV c s))
            ∗ ∃ W', ⌜∀ p ∈ W', p ∈ W ∨ p.2 = none⌝ ∗ owes (thr d (coordsV c s)) O W') : sProp 𝕄) := by
  rw [cc0_k_eq, (K (F := F)).scopedBufs_V hF d _ _, SparseCore.Cfg.scopedSems0_V (Val := Elt F) d _ _]
  rw [show (ownSems0 (V d (Fin.castLE hcore0 (coordsV c s 0)) (Fin.castLE hsub0 (coordsV c s 1))) : sProp 𝕄) = ownSems0 (thr d (coordsV c s)) from rfl,
    show (ownBufs (V d (Fin.castLE hcore0 (coordsV c s 0)) (Fin.castLE hsub0 (coordsV c s 1))) : sProp 𝕄) = ownBufs (thr d (coordsV c s)) from rfl,
    ownSems0_V, ownBufs_V, tileP_eq, tileP_eq]
  iintro ⟨#Hlv, -, ⟨Ht, Hi, Ho⟩, ⟨⟨⟨%f5, H5⟩, ⟨%f6, H6⟩, ⟨%f7, H7⟩, ⟨%f8, H8⟩, ⟨%f9, H9⟩⟩, Hbufs⟩, ⟨⟨Hs10, Hs11, Hs12, Hs13, Hr0⟩, Hsems⟩, HO⟩
  ihave Hmw := ((K (F := F)).mayWaits_none (thr := thr d (coordsV c s)) hO) $$ Hlv
  have run := runs_task (F := F) d (coordsV c s) xW tW (Memref.isWhole_whole _) oW (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scoped0
    (q := share c s) (ft := m (tLoc d)) (fx := xv m d) (fo := m (oLoc d)) (f5 := f5) (f6 := f6) (f7 := f7) (f8 := f8) (f9 := f9) (O := O) (W := W) (g := rv m d)
    (fun k y => hpre d _) (fun k => res_window (F := F) (m (tLoc d)) (xv m d) (coordsV c s) k)
  ihave H := run $$ [Hmw Ht H5 H6 H7 H8 H9 Hs10 Hs11 Hs12 Hs13 Hr0 HO Hi Ho]
  · isplitl [Hmw]; · iexact Hmw
    isplitl [Ht]; · iexact Ht
    isplitl [H5]; · iexact H5
    isplitl [H6]; · iexact H6
    isplitl [H7]; · iexact H7
    isplitl [H8]; · iexact H8
    isplitl [H9]; · iexact H9
    isplitl [Hs10]; · iexact Hs10
    isplitl [Hs11]; · iexact Hs11
    isplitl [Hs12]; · iexact Hs12
    isplitl [Hs13]; · iexact Hs13
    isplitl [Hr0]; · iexact Hr0
    isplitl [HO]; · iexact HO
    isplitl [Hi]; · iexact Hi
    iexact Ho
  iapply (wp_wand _ _ _) $$ H
  iintro %_ ⟨Ht, H5, H6, H7, H8, H9, Hs10, Hs11, Hs12, Hs13, Hr0, HO, Hi, Ho⟩
  isplitl [Ht Hi Ho]
  · isplitl [Ht]; · iexact Ht
    isplitl [Hi]; · iexact Hi
    iexact Ho
  isplitl [H5 H6 H7 H8 H9 Hbufs]
  · isplitr [Hbufs]
    · isplitl [H5]; · iexact H5
      isplitl [H6]; · iexact H6
      isplitl [H7]; · iexact H7
      isplitl [H8]; · iexact H8
      iexact H9
    iexact Hbufs
  isplitr [HO]
  · isplitr [Hsems]
    · isplitl [Hs10]; · iexact Hs10
      isplitl [Hs11]; · iexact Hs11
      isplitl [Hs12]; · iexact Hs12
      isplitl [Hs13]; · iexact Hs13
      iexact Hr0
    iexact Hsems
  iexact HO

theorem defs₀_vector (c : Fin τ.nSC) (s : Fin τ.nSub) :
    defs₀ (F := F) (.scVector c s) 0 ()
      = SparseCore.onTile hcore0 hsub0 (fun c s => cc0_k (coordsV c s) xW (Memref.isWhole_whole _) tW (Memref.isWhole_whole _) oW (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hF hpre d ⟨_, hc.1⟩ ⟨_, hc.2⟩ O W hO).trans (wp_mono frame _ _ fun _ => obl_post)

/-! ## The ghost state at the launch -/

def u₀ : UU := (initOf (K (F := F)).hsCells (K (F := F)).hsToks, 1)

theorem nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [nothing]; iempintro
  unfold P; dsimp only
  rw [show (bigSep Finset.univ fun _ : Thread nD τ => bigSep Finset.univ fun _ : Fin 1 => (iprop(emp) : sProp 𝕄)) = iprop(emp) from by
    rw [bigSep_congr fun _ _ => nothing _, nothing]]
  iempintro

/-! ## The program on the TensorCore -/

abbrev a' : DevRef τ sig := Proc.devRef .tc (main_arg0 : Ref sig .tc)
abbrev t' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev layOut : HloOp τ sig (Elt F) := StableHlo.reshape main_arg0 main_v0 (rfl : (.i32 : EltTy) = .i32) shapeCasts_S16x8x6x32x32_S128x6x1024

abbrev S4 : Finset (DevRef τ sig) := {a', t', x', o'}

theorem held_S4 (d : Dev nD) (W : Valuation τ sig (Elt F)) :
    (held (T d) S4 W : sProp 𝕄) = iprop((aLoc d ↦{fullShare} W a') ∗ (tLoc d ↦{fullShare} W t') ∗ (xLoc d ↦{fullShare} W x') ∗ (oLoc d ↦{fullShare} W o')) := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ (xLoc d ↦{fullShare} W main_v0) ∗ (oLoc d ↦{fullShare} W main_v1)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The contents at the launch. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

/-- The arrays once the indices are laid out. -/
theorem held_laid (d : Dev nD) :
    (held (T d) S4 ((layOut (F := F)).result (V0 m d)) : sProp 𝕄)
      = iprop((aLoc d ↦{fullShare} m (aLoc d)) ∗ (tLoc d ↦{fullShare} m (tLoc d)) ∗ (xLoc d ↦{fullShare} xv m d) ∗ (oLoc d ↦{fullShare} m (oLoc d))) := by
  rw [held_S4, (layOut (F := F)).result_of_not_mem (V0 m d) (b := a') (show a' ∉ ({x'} : Finset (DevRef τ sig)) by decide),
    (layOut (F := F)).result_of_not_mem (V0 m d) (b := t') (show t' ∉ ({x'} : Finset (DevRef τ sig)) by decide),
    (layOut (F := F)).result_of_not_mem (V0 m d) (b := o') (show o' ∉ ({x'} : Finset (DevRef τ sig)) by decide),
    show (layOut (F := F)).result (V0 m d) x' = xv m d from reshape_result _ _ _ _ _ _ _]
  rfl

theorem st0_eq (d : Dev nD) : (bigSep Finset.univ fun c : Fin ((K (F := F)).nCore 0) => (P m).st 0 d c)
    = iprop((tLoc d ↦{fullShare} m (tLoc d)) ∗ (xLoc d ↦{fullShare} xv m d) ∗ (oLoc d ↦{fullShare} m (oLoc d))) :=
  tiles_eq d _ _ _
theorem dn0_eq (d : Dev nD) : (bigSep Finset.univ fun c : Fin ((K (F := F)).nCore 0) => (P m).dn 0 d c)
    = iprop((tLoc d ↦{fullShare} m (tLoc d)) ∗ (xLoc d ↦{fullShare} xv m d) ∗ (oLoc d ↦{fullShare} rv m d)) :=
  tiles_eq d _ _ _

theorem hLay : (layOut (F := F)).bufs ⊆ S4 := show ({a', x'} : Finset (DevRef τ sig)) ⊆ S4 by decide

/-- What the program leaves: its arguments as they were, and the result. -/
abbrev FIN (d : Dev nD) : sProp 𝕄 := iprop((aLoc d ↦{fullShare} m (aLoc d)) ∗ (tLoc d ↦{fullShare} m (tLoc d)) ∗ (oLoc d ↦{fullShare} rv m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := layOut) (S := S4) hLay (V := V0 m d)) $$ [Hb Hheld]
  · isplitl [Hb]; · iexact Hb
    iexact Hheld
  iintro ⟨Hb, Hheld⟩
  ihave Hh := (Entails.of_eq (held_laid (F := F) m d)) $$ Hheld
  icases Hh with ⟨Ha, Ht, Hx, Ho⟩
  rw [wp_ret]; imodintro
  iapply ((K (F := F)).wp_run (D (F := F)) 𝒱 (EH := EH) (P := P m) κ d 0) $$ [Hst Ha Ht Hx Ho Hb Hts]
  isplitr; · iexact Hctx
  isplitl [Hst]; · iexact Hst
  isplitl [Ht Hx Ho]
  · rw [st0_eq]
    isplitl [Ht]; · iexact Ht
    isplitl [Hx]; · iexact Hx
    iexact Ho
  iintro ⟨Hst, Hdn⟩
  ihave Hdn' := (Entails.of_eq (dn0_eq m d)) $$ Hdn
  icases Hdn' with ⟨Ht, -, Ho⟩
  imodintro
  isplitl [Hst]; · iexact Hst
  isplitr [Hb Hts]
  · isplitl [Ha]; · iexact Ha
    isplitl [Ht]; · iexact Ht
    iexact Ho
  isplitl [Hb] <;> iassumption

def fq (d : Dev nD) (s' : Phys nD τ sig (Elt F)) : Prop :=
  s'.mem.mem (aLoc d) = m (aLoc d) ∧ s'.mem.mem (tLoc d) = m (tLoc d) ∧ s'.mem.mem (oLoc d) = rv m d

theorem hfin (d : Dev nD) (s' : Phys nD τ sig (Elt F)) : iprop(FIN m d ∗ SI s') ⊢ (⌜fq m d s'⌝ : sProp 𝕄) := by
  iintro ⟨⟨Ha, Ht, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := rv m d)) $$ [HSI Ho]
  · isplitl [HSI] <;> iassumption
  icases H with %h3
  ipureintro; exact ⟨funext fun i => h1 i (Finset.mem_univ i), funext fun i => h2 i (Finset.mem_univ i), funext fun i => h3 i (Finset.mem_univ i)⟩

/-- How the program ends: its arguments as they were, the result the sums, every semaphore zero. -/
def Ends : PUnit × MemSt nD τ sig (Elt F) → Prop := fun r =>
  (∀ c : Dev nD, r.2.mem (aLoc c) = m (aLoc c) ∧ r.2.mem (tLoc c) = m (tLoc c) ∧ r.2.mem (oLoc c) = rv m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m) (fun _ h hz => ⟨h, hz⟩)

end Cert.Proof.Emb

end
-- ==== Proof.Range.lean ====
/-
  What the precondition says of the arguments: the indices name rows of the table, and row zero is zero.
-/
module

public import proofs.«01_k».proof.Proof.Gen.Pre_inputs_ok
public import Idealize.ShloMosaic.Lib.ReduceAll
public import Idealize.ShloMosaic.Lib.Pointwise

@[expose] public section

noncomputable section

namespace Cert.Proof.Range

open Cert.Pre_inputs_ok Cert.Pre_inputs_ok.Gen
open Idealize.ShloMosaic

variable {F : FTy → Type} [FloatOps F]

/-- Two bits whose meet is one are each one. -/
theorem both {a b : BitVec 1} (h : IntOp.andi a b = 1#1) : a = 1#1 ∧ b = 1#1 := by
  revert a b; decide

/-- A word that is, as a signed number, not below zero and below a thousand is one as a natural number. -/
theorem in_range {x : BitVec 32} (h : IntOp.andi (IntOp.cmpi .sge x 0#32) (IntOp.cmpi .slt x 1000#32) = 1#1) : x.toNat < 1000 := by
  obtain ⟨h0, h1⟩ := both h
  have l : (0#32).sle x = true := by
    cases e : (0#32).sle x
    · simp [IntOp.cmpi, e] at h0
    · rfl
  have u : x.slt 1000#32 = true := by
    cases e : x.slt 1000#32
    · simp [IntOp.cmpi, e] at h1
    · rfl
  have z : (0#32).toInt = 0 := by decide
  have t : (1000#32).toInt = 1000 := by decide
  have l' : 0 ≤ x.toInt := by have := BitVec.sle_iff_toInt_le.mp l; omega
  have u' : x.toInt < 1000 := by have := BitVec.slt_iff_toInt_lt.mp u; omega
  have := x.isLt
  unfold BitVec.toInt at l' u'
  split at u' <;> omega

/-- A word that compares equal to zero is zero. -/
theorem is_zero {x : BitVec 32} (h : IntOp.cmpi .eq x 0#32 = 1#1) : x = 0#32 := by
  by_contra n
  have e : (x == 0#32) = false := by simpa using n
  simp [IntOp.cmpi, e] at h

/-- Every index names a row of the table. -/
theorem indices {A : IVec S16x8x6x32x32 32} {T : IVec S32000 32} (h : fn (F := F) A T = fun _ => 1#1) (i : S16x8x6x32x32.Idx) :
    (A i).toNat < 1000 := by
  have e := (both (congrFun h (Shape.Idx.first (s := S_) h_S_))).1
  exact in_range (Host.reduce_andi_all _ _ _ _ _ e i)

/-- The words of row zero are zero. -/
theorem row_zero {A : IVec S16x8x6x32x32 32} {T : IVec S32000 32} (h : fn (F := F) A T = fun _ => 1#1) (i : S32.Idx) :
    extractStridedSlice S32 ![0] T slices_S32000_S32_0 i = 0#32 := by
  have e := (both (congrFun h (Shape.Idx.first (s := S_) h_S_))).2
  exact is_zero (Host.reduce_andi_all _ _ _ _ _ e i)

end Cert.Proof.Range

end
-- ==== Proof.Frames.lean ====
/-
  The programs' frames, and the kernel's result as the reference's.
-/
module

public import proofs.«01_k».proof.Proof.Agree
public import proofs.«01_k».proof.Proof.Whole
public import proofs.«01_k».proof.Proof.Range
public import proofs.«01_k».proof.Defs
public import proofs.«01_k».proof.Proof.Gen.Kernel
public import Idealize.ShloMosaic.Lib.Quiescent

@[expose] public section

noncomputable section

namespace Cert.Proof.Frames

open Idealize.ShloMosaic Idealize.SL.Sem
open Cert.KernelIdeal (nD τ sig)

variable {F : FTy → Type} [FloatOps F]

/-- The precondition, of a memory. -/
def Given (m : (ℓ : Loc nD τ sig) → Buf (Elt F) ℓ) : Prop :=
  ∀ c : Dev nD, Cert.Pre_inputs_ok.fn (F := F) (m (Emb.aLoc c)) (m (Emb.tLoc c)) = fun _ => 1#1

theorem ok (m : (ℓ : Loc nD τ sig) → Buf (Elt F) ℓ) (h : Given m) : Emb.PreOK m := by
  intro d y
  exact Range.indices (h d) _

theorem zeros (m : (ℓ : Loc nD τ sig) → Buf (Elt F) ℓ) (h : Given m) (d : Dev nD) (n : ℕ) (hn : n < 32) :
    Ref.word (m (Emb.tLoc d)) n = 0#32 := by
  have e := Range.row_zero (h d) (Shape.ofLane (d := ![32]) ⟨n, hn⟩)
  unfold extractStridedSlice at e
  unfold Ref.word
  rw [dif_pos (by omega)]
  refine Eq.trans (congrArg (m (Emb.tLoc d)) ?_) e
  funext a
  fin_cases a
  refine Fin.ext ?_
  simp
  rfl

theorem frame_kernelIdeal : Cert.quiescent_KernelIdeal := fun m g h =>
  (θ_run _ _ _).mono (fun _ e => ⟨fun c => ⟨(e.1 c).1, (e.1 c).2.1⟩, e.2⟩) (Emb.run_main (F := Ideal) m g (ok m h))

theorem frame_kernel : Cert.quiescent_Kernel := fun m g h =>
  (θ_run (Cert.KernelIdeal.defs (F := Bits)) (Cert.KernelIdeal.threads (F := Bits)) ⟨m, fun _ => 0, g⟩).mono
    (fun _ e => ⟨fun c => ⟨(e.1 c).1, (e.1 c).2.1⟩, e.2⟩) (Emb.run_main (F := Bits) m g (ok m h))

theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun r e => ⟨fun c => ⟨(e c).2.1, (e c).2.2⟩, sem_eq_zero_of_no_sems (by rfl) r.2⟩) (Cert.ReferenceIdeal.Value.run m g)

theorem frame_reference : Cert.quiescent_ReferenceIdeal := fun m g _ => run_reference m g

theorem frame_reference' : Cert.quiescent_ReferenceIdeal_pre_inputs_ok := fun m g _ => run_reference m g

theorem algebraic : Cert.algebraic_KernelIdeal_ReferenceIdeal := by
  intro m g m' g' h hm
  refine ⟨fun c => Emb.rv (F := Ideal) m c, ?_, ?_⟩
  · exact (θ_run _ _ _).mono (fun _ e c => ⟨(e.1 c).2.2, (e.1 c).1, (e.1 c).2.1⟩) (Emb.run_main (F := Ideal) m g (ok m h))
  · refine (θ_run _ _ _).mono (fun r e c => ⟨(e c).1.trans ?_, (e c).2.1, (e c).2.2⟩) (Cert.ReferenceIdeal.Value.run m' g')
    rw [(hm c).1, (hm c).2]
    exact (Agree.agree (m (Emb.aLoc c)) (m (Emb.tLoc c)) (Range.indices (h c)) (zeros m h c) _).symm

end Cert.Proof.Frames

end
-- ==== Proof.lean ====
module

public import proofs.«01_k».proof.Proof.Gen.ReferenceIdeal.Run
public import proofs.«01_k».proof.Proof.Gen.Pre_inputs_ok
public import proofs.«01_k».proof.Proof.Frames
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_inputs_ok.Gen.facts,
    Frames.frame_kernel, Frames.frame_kernelIdeal, Frames.frame_reference, Frames.frame_reference', trivial, Frames.algebraic⟩

end Cert.Proof

end
